-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))).2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))).2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Kernel16Ideal_finite16 [hPre_finite16 : Cert.Pre_finite16.Facts] (m : (ℓ : Loc Cert.Kernel16Ideal.nD Cert.Kernel16Ideal.τ Cert.Kernel16Ideal.sig) → Buf (Elt Ideal) ℓ) : Prop :=
  ∀ c : Dev Cert.Kernel16Ideal.nD,
    (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).2.1 = (fun _ => 1#1)
    ∧ (Cert.Pre_finite16.fn (F := Ideal) (m ((c.tc : Thread Cert.Kernel16Ideal.nD Cert.Kernel16Ideal.τ).loc Cert.Kernel16Ideal.main_arg0)) (m ((c.tc : Thread Cert.Kernel16Ideal.nD Cert.Kernel16Ideal.τ).loc Cert.Kernel16Ideal.main_arg1)) (m ((c.tc : Thread Cert.Kernel16Ideal.nD Cert.Kernel16Ideal.τ).loc Cert.Kernel16Ideal.main_arg2)) (m ((c.tc : Thread Cert.Kernel16Ideal.nD Cert.Kernel16Ideal.τ).loc Cert.Kernel16Ideal.main_arg3))).2.2 = (fun _ => 1#1)

def Pre_Reference16Ideal (m : (ℓ : Loc Cert.Reference16Ideal.nD Cert.Reference16Ideal.τ Cert.Reference16Ideal.sig) → Buf (Elt Ideal) ℓ) : Prop :=
  True

def Pre_Reference16Ideal_finite16 [hPre_finite16 : Cert.Pre_finite16.Facts] (m : (ℓ : Loc Cert.Reference16Ideal.nD Cert.Reference16Ideal.τ Cert.Reference16Ideal.sig) → Buf (Elt Ideal) ℓ) : Prop :=
  ∀ c : Dev Cert.Reference16Ideal.nD,
    (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).2.1 = (fun _ => 1#1)
    ∧ (Cert.Pre_finite16.fn (F := Ideal) (m ((c.tc : Thread Cert.Reference16Ideal.nD Cert.Reference16Ideal.τ).loc Cert.Reference16Ideal.main_arg0)) (m ((c.tc : Thread Cert.Reference16Ideal.nD Cert.Reference16Ideal.τ).loc Cert.Reference16Ideal.main_arg1)) (m ((c.tc : Thread Cert.Reference16Ideal.nD Cert.Reference16Ideal.τ).loc Cert.Reference16Ideal.main_arg2)) (m ((c.tc : Thread Cert.Reference16Ideal.nD Cert.Reference16Ideal.τ).loc Cert.Reference16Ideal.main_arg3))).2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Kernel30Ideal_finite30 [hPre_finite30 : Cert.Pre_finite30.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))).1 = (fun _ => 1#1)
    ∧ (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))).2.1 = (fun _ => 1#1)
    ∧ (Cert.Pre_finite30.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2))).2.2 = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_finite30 [hPre_finite30 : Cert.Pre_finite30.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))).1 = (fun _ => 1#1)
    ∧ (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))).2.1 = (fun _ => 1#1)
    ∧ (Cert.Pre_finite30.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2))).2.2 = (fun _ => 1#1)

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Kernel16Ideal_pre_finite16 [hKernel16Ideal : Cert.Kernel16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal_finite16 m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Reference16Ideal_pre_finite16 [hReference16Ideal : Cert.Reference16Ideal.Facts] [hPre_finite16 : Cert.Pre_finite16.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal_finite16 m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6)
      ∧ r.2.mem ((c.tc : Thread Cert.Kernel20.nD Cert.Kernel20.τ).loc Cert.Kernel20.main_arg7) = m ((c.tc : Thread Cert.Kernel20.nD Cert.Kernel20.τ).loc Cert.Kernel20.main_arg7))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
      ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6)
      ∧ r.2.mem ((c.tc : Thread Cert.Reference20Ideal.nD Cert.Reference20Ideal.τ).loc Cert.Reference20Ideal.main_arg7) = m ((c.tc : Thread Cert.Reference20Ideal.nD Cert.Reference20Ideal.τ).loc Cert.Reference20Ideal.main_arg7))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5)
      ∧ r.2.mem ((c.tc : Thread Cert.Kernel22.nD Cert.Kernel22.τ).loc Cert.Kernel22.main_arg6) = m ((c.tc : Thread Cert.Kernel22.nD Cert.Kernel22.τ).loc Cert.Kernel22.main_arg6)
      ∧ r.2.mem ((c.tc : Thread Cert.Kernel22.nD Cert.Kernel22.τ).loc Cert.Kernel22.main_arg7) = m ((c.tc : Thread Cert.Kernel22.nD Cert.Kernel22.τ).loc Cert.Kernel22.main_arg7))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
      ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
      ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5)
      ∧ r.2.mem ((c.tc : Thread Cert.Reference22Ideal.nD Cert.Reference22Ideal.τ).loc Cert.Reference22Ideal.main_arg6) = m ((c.tc : Thread Cert.Reference22Ideal.nD Cert.Reference22Ideal.τ).loc Cert.Reference22Ideal.main_arg6)
      ∧ r.2.mem ((c.tc : Thread Cert.Reference22Ideal.nD Cert.Reference22Ideal.τ).loc Cert.Reference22Ideal.main_arg7) = m ((c.tc : Thread Cert.Reference22Ideal.nD Cert.Reference22Ideal.τ).loc Cert.Reference22Ideal.main_arg7))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5)
      ∧ r.2.mem ((c.tc : Thread Cert.Kernel23.nD Cert.Kernel23.τ).loc Cert.Kernel23.main_arg6) = m ((c.tc : Thread Cert.Kernel23.nD Cert.Kernel23.τ).loc Cert.Kernel23.main_arg6)
      ∧ r.2.mem ((c.tc : Thread Cert.Kernel23.nD Cert.Kernel23.τ).loc Cert.Kernel23.main_arg7) = m ((c.tc : Thread Cert.Kernel23.nD Cert.Kernel23.τ).loc Cert.Kernel23.main_arg7))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
      ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
      ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5)
      ∧ r.2.mem ((c.tc : Thread Cert.Reference23Ideal.nD Cert.Reference23Ideal.τ).loc Cert.Reference23Ideal.main_arg6) = m ((c.tc : Thread Cert.Reference23Ideal.nD Cert.Reference23Ideal.τ).loc Cert.Reference23Ideal.main_arg6)
      ∧ r.2.mem ((c.tc : Thread Cert.Reference23Ideal.nD Cert.Reference23Ideal.τ).loc Cert.Reference23Ideal.main_arg7) = m ((c.tc : Thread Cert.Reference23Ideal.nD Cert.Reference23Ideal.τ).loc Cert.Reference23Ideal.main_arg7))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6)
      ∧ r.2.mem ((c.tc : Thread Cert.Kernel24.nD Cert.Kernel24.τ).loc Cert.Kernel24.main_arg7) = m ((c.tc : Thread Cert.Kernel24.nD Cert.Kernel24.τ).loc Cert.Kernel24.main_arg7))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
      ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6)
      ∧ r.2.mem ((c.tc : Thread Cert.Reference24Ideal.nD Cert.Reference24Ideal.τ).loc Cert.Reference24Ideal.main_arg7) = m ((c.tc : Thread Cert.Reference24Ideal.nD Cert.Reference24Ideal.τ).loc Cert.Reference24Ideal.main_arg7))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6)
      ∧ r.2.mem ((c.tc : Thread Cert.Kernel25.nD Cert.Kernel25.τ).loc Cert.Kernel25.main_arg7) = m ((c.tc : Thread Cert.Kernel25.nD Cert.Kernel25.τ).loc Cert.Kernel25.main_arg7))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
      ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6)
      ∧ r.2.mem ((c.tc : Thread Cert.Reference25Ideal.nD Cert.Reference25Ideal.τ).loc Cert.Reference25Ideal.main_arg7) = m ((c.tc : Thread Cert.Reference25Ideal.nD Cert.Reference25Ideal.τ).loc Cert.Reference25Ideal.main_arg7))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6)
      ∧ r.2.mem ((c.tc : Thread Cert.Kernel26.nD Cert.Kernel26.τ).loc Cert.Kernel26.main_arg7) = m ((c.tc : Thread Cert.Kernel26.nD Cert.Kernel26.τ).loc Cert.Kernel26.main_arg7))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
      ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6)
      ∧ r.2.mem ((c.tc : Thread Cert.Reference26Ideal.nD Cert.Reference26Ideal.τ).loc Cert.Reference26Ideal.main_arg7) = m ((c.tc : Thread Cert.Reference26Ideal.nD Cert.Reference26Ideal.τ).loc Cert.Reference26Ideal.main_arg7))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6)
      ∧ r.2.mem ((c.tc : Thread Cert.Kernel27.nD Cert.Kernel27.τ).loc Cert.Kernel27.main_arg7) = m ((c.tc : Thread Cert.Kernel27.nD Cert.Kernel27.τ).loc Cert.Kernel27.main_arg7))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
      ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6)
      ∧ r.2.mem ((c.tc : Thread Cert.Reference27Ideal.nD Cert.Reference27Ideal.τ).loc Cert.Reference27Ideal.main_arg7) = m ((c.tc : Thread Cert.Reference27Ideal.nD Cert.Reference27Ideal.τ).loc Cert.Reference27Ideal.main_arg7))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6)
      ∧ r.2.mem ((c.tc : Thread Cert.Kernel28.nD Cert.Kernel28.τ).loc Cert.Kernel28.main_arg7) = m ((c.tc : Thread Cert.Kernel28.nD Cert.Kernel28.τ).loc Cert.Kernel28.main_arg7))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
      ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6)
      ∧ r.2.mem ((c.tc : Thread Cert.Reference28Ideal.nD Cert.Reference28Ideal.τ).loc Cert.Reference28Ideal.main_arg7) = m ((c.tc : Thread Cert.Reference28Ideal.nD Cert.Reference28Ideal.τ).loc Cert.Reference28Ideal.main_arg7))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6)
      ∧ r.2.mem ((c.tc : Thread Cert.Kernel29.nD Cert.Kernel29.τ).loc Cert.Kernel29.main_arg7) = m ((c.tc : Thread Cert.Kernel29.nD Cert.Kernel29.τ).loc Cert.Kernel29.main_arg7))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
      ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6)
      ∧ r.2.mem ((c.tc : Thread Cert.Reference29Ideal.nD Cert.Reference29Ideal.τ).loc Cert.Reference29Ideal.main_arg7) = m ((c.tc : Thread Cert.Reference29Ideal.nD Cert.Reference29Ideal.τ).loc Cert.Reference29Ideal.main_arg7))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Kernel30Ideal_pre_finite30 [hKernel30Ideal : Cert.Kernel30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal_finite30 m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Reference30Ideal_pre_finite30 [hReference30Ideal : Cert.Reference30Ideal.Facts] [hPre_finite30 : Cert.Pre_finite30.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_finite30 m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85_0)) (v1 : (c : Dev Cert.KernelIdeal.nD) → Buf (Elt Ideal) ((c.tc : Thread Cert.KernelIdeal.nD Cert.KernelIdeal.τ).loc Cert.KernelIdeal.main_v85_1)) (v2 : (c : Dev Cert.KernelIdeal.nD) → Buf (Elt Ideal) ((c.tc : Thread Cert.KernelIdeal.nD Cert.KernelIdeal.τ).loc Cert.KernelIdeal.main_v85_2)) (v3 : (c : Dev Cert.KernelIdeal.nD) → Buf (Elt Ideal) ((c.tc : Thread Cert.KernelIdeal.nD Cert.KernelIdeal.τ).loc Cert.KernelIdeal.main_v85_3)) (v4 : (c : Dev Cert.KernelIdeal.nD) → Buf (Elt Ideal) ((c.tc : Thread Cert.KernelIdeal.nD Cert.KernelIdeal.τ).loc Cert.KernelIdeal.main_v85_4)) (v5 : (c : Dev Cert.KernelIdeal.nD) → Buf (Elt Ideal) ((c.tc : Thread Cert.KernelIdeal.nD Cert.KernelIdeal.τ).loc Cert.KernelIdeal.main_v85_5)) (v6 : (c : Dev Cert.KernelIdeal.nD) → Buf (Elt Ideal) ((c.tc : Thread Cert.KernelIdeal.nD Cert.KernelIdeal.τ).loc Cert.KernelIdeal.main_v85_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85_0) = v0 c
          ∧ r.2.mem ((c.tc : Thread Cert.KernelIdeal.nD Cert.KernelIdeal.τ).loc Cert.KernelIdeal.main_v85_1) = v1 c
          ∧ r.2.mem ((c.tc : Thread Cert.KernelIdeal.nD Cert.KernelIdeal.τ).loc Cert.KernelIdeal.main_v85_2) = v2 c
          ∧ r.2.mem ((c.tc : Thread Cert.KernelIdeal.nD Cert.KernelIdeal.τ).loc Cert.KernelIdeal.main_v85_3) = v3 c
          ∧ r.2.mem ((c.tc : Thread Cert.KernelIdeal.nD Cert.KernelIdeal.τ).loc Cert.KernelIdeal.main_v85_4) = v4 c
          ∧ r.2.mem ((c.tc : Thread Cert.KernelIdeal.nD Cert.KernelIdeal.τ).loc Cert.KernelIdeal.main_v85_5) = v5 c
          ∧ r.2.mem ((c.tc : Thread Cert.KernelIdeal.nD Cert.KernelIdeal.τ).loc Cert.KernelIdeal.main_v85_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v338) = v0 c
          ∧ r.2.mem ((c.tc : Thread Cert.ReferenceIdeal.nD Cert.ReferenceIdeal.τ).loc Cert.ReferenceIdeal.main_v340) = v1 c
          ∧ r.2.mem ((c.tc : Thread Cert.ReferenceIdeal.nD Cert.ReferenceIdeal.τ).loc Cert.ReferenceIdeal.main_v324) = v2 c
          ∧ r.2.mem ((c.tc : Thread Cert.ReferenceIdeal.nD Cert.ReferenceIdeal.τ).loc Cert.ReferenceIdeal.main_v299) = v3 c
          ∧ r.2.mem ((c.tc : Thread Cert.ReferenceIdeal.nD Cert.ReferenceIdeal.τ).loc Cert.ReferenceIdeal.main_v341) = v4 c
          ∧ r.2.mem ((c.tc : Thread Cert.ReferenceIdeal.nD Cert.ReferenceIdeal.τ).loc Cert.ReferenceIdeal.main_v342) = v5 c
          ∧ r.2.mem ((c.tc : Thread Cert.ReferenceIdeal.nD Cert.ReferenceIdeal.τ).loc Cert.ReferenceIdeal.main_v343) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v9) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v10) = v0 c
          ∧ r.2.mem ((c.tc : Thread Cert.Reference11Ideal.nD Cert.Reference11Ideal.τ).loc Cert.Reference11Ideal.main_v12) = v1 c
          ∧ r.2.mem ((c.tc : Thread Cert.Reference11Ideal.nD Cert.Reference11Ideal.τ).loc Cert.Reference11Ideal.main_v17) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v20) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v2_0)) (v1 : (c : Dev Cert.Kernel15Ideal.nD) → Buf (Elt Ideal) ((c.tc : Thread Cert.Kernel15Ideal.nD Cert.Kernel15Ideal.τ).loc Cert.Kernel15Ideal.main_v2_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2_0) = v0 c
          ∧ r.2.mem ((c.tc : Thread Cert.Kernel15Ideal.nD Cert.Kernel15Ideal.τ).loc Cert.Kernel15Ideal.main_v2_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_v18) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal_pre_finite16 [hKernel16Ideal : Cert.Kernel16Ideal.Facts] [hReference16Ideal : Cert.Reference16Ideal.Facts] [hPre_finite16 : Cert.Pre_finite16.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal_finite16 m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v36) = v0 c
          ∧ r.2.mem ((c.tc : Thread Cert.Reference16Ideal.nD Cert.Reference16Ideal.τ).loc Cert.Reference16Ideal.main_v37) = v1 c
          ∧ r.2.mem ((c.tc : Thread Cert.Reference16Ideal.nD Cert.Reference16Ideal.τ).loc Cert.Reference16Ideal.main_v38) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  IdealRules.named_const.Statement Cert.Kernel18Ideal.κ "unbias1" .f32 0x3FC48605#32 ((8388608 / 5463681 : ℝ) : EReal)
  ∧ IdealRules.named_const.Statement Cert.Kernel18Ideal.κ "unbias2" .f32 0x42C8E6D3#32 ((268435456 / 2672307 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v6_0)) (v1 : (c : Dev Cert.Kernel18Ideal.nD) → Buf (Elt Ideal) ((c.tc : Thread Cert.Kernel18Ideal.nD Cert.Kernel18Ideal.τ).loc Cert.Kernel18Ideal.main_v6_1)) (v2 : (c : Dev Cert.Kernel18Ideal.nD) → Buf (Elt Ideal) ((c.tc : Thread Cert.Kernel18Ideal.nD Cert.Kernel18Ideal.τ).loc Cert.Kernel18Ideal.main_v6_2)) (v3 : (c : Dev Cert.Kernel18Ideal.nD) → Buf (Elt Ideal) ((c.tc : Thread Cert.Kernel18Ideal.nD Cert.Kernel18Ideal.τ).loc Cert.Kernel18Ideal.main_v6_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v6_0) = v0 c
          ∧ r.2.mem ((c.tc : Thread Cert.Kernel18Ideal.nD Cert.Kernel18Ideal.τ).loc Cert.Kernel18Ideal.main_v6_1) = v1 c
          ∧ r.2.mem ((c.tc : Thread Cert.Kernel18Ideal.nD Cert.Kernel18Ideal.τ).loc Cert.Kernel18Ideal.main_v6_2) = v2 c
          ∧ r.2.mem ((c.tc : Thread Cert.Kernel18Ideal.nD Cert.Kernel18Ideal.τ).loc Cert.Kernel18Ideal.main_v6_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v0) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v5) = v2 c
          ∧ r.2.mem ((c.tc : Thread Cert.Reference18Ideal.nD Cert.Reference18Ideal.τ).loc Cert.Reference18Ideal.main_v11) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  IdealRules.named_const.Statement Cert.Kernel19Ideal.κ "unbias1" .f32 0x3FC48605#32 ((8388608 / 5463681 : ℝ) : EReal)
  ∧ IdealRules.named_const.Statement Cert.Kernel19Ideal.κ "unbias2" .f32 0x42C8E6D3#32 ((268435456 / 2672307 : ℝ) : EReal)

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v6_0)) (v1 : (c : Dev Cert.Kernel19Ideal.nD) → Buf (Elt Ideal) ((c.tc : Thread Cert.Kernel19Ideal.nD Cert.Kernel19Ideal.τ).loc Cert.Kernel19Ideal.main_v6_1)) (v2 : (c : Dev Cert.Kernel19Ideal.nD) → Buf (Elt Ideal) ((c.tc : Thread Cert.Kernel19Ideal.nD Cert.Kernel19Ideal.τ).loc Cert.Kernel19Ideal.main_v6_2)) (v3 : (c : Dev Cert.Kernel19Ideal.nD) → Buf (Elt Ideal) ((c.tc : Thread Cert.Kernel19Ideal.nD Cert.Kernel19Ideal.τ).loc Cert.Kernel19Ideal.main_v6_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v6_0) = v0 c
          ∧ r.2.mem ((c.tc : Thread Cert.Kernel19Ideal.nD Cert.Kernel19Ideal.τ).loc Cert.Kernel19Ideal.main_v6_1) = v1 c
          ∧ r.2.mem ((c.tc : Thread Cert.Kernel19Ideal.nD Cert.Kernel19Ideal.τ).loc Cert.Kernel19Ideal.main_v6_2) = v2 c
          ∧ r.2.mem ((c.tc : Thread Cert.Kernel19Ideal.nD Cert.Kernel19Ideal.τ).loc Cert.Kernel19Ideal.main_v6_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v0) = v0 c
          ∧ r.2.mem ((c.tc : Thread Cert.Reference19Ideal.nD Cert.Reference19Ideal.τ).loc Cert.Reference19Ideal.main_v24) = v1 c
          ∧ r.2.mem ((c.tc : Thread Cert.Reference19Ideal.nD Cert.Reference19Ideal.τ).loc Cert.Reference19Ideal.main_v5) = v2 c
          ∧ r.2.mem ((c.tc : Thread Cert.Reference19Ideal.nD Cert.Reference19Ideal.τ).loc Cert.Reference19Ideal.main_v11) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  IdealRules.named_const.Statement Cert.Kernel20Ideal.κ "unbias1" .f32 0x3FC48605#32 ((8388608 / 5463681 : ℝ) : EReal)
  ∧ IdealRules.named_const.Statement Cert.Kernel20Ideal.κ "unbias2" .f32 0x42C8E6D3#32 ((268435456 / 2672307 : ℝ) : EReal)

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)
      ∧ m' ((c.tc : Thread Cert.Reference20Ideal.nD Cert.Reference20Ideal.τ).loc Cert.Reference20Ideal.main_arg7) = m ((c.tc : Thread Cert.Kernel20Ideal.nD Cert.Kernel20Ideal.τ).loc Cert.Kernel20Ideal.main_arg7)) →
    ∃ (v0 : (c : Dev Cert.Kernel20Ideal.nD) → Buf (Elt Ideal) ((c.tc : Thread Cert.Kernel20Ideal.nD Cert.Kernel20Ideal.τ).loc Cert.Kernel20Ideal.main_v7_0)) (v1 : (c : Dev Cert.Kernel20Ideal.nD) → Buf (Elt Ideal) ((c.tc : Thread Cert.Kernel20Ideal.nD Cert.Kernel20Ideal.τ).loc Cert.Kernel20Ideal.main_v7_1)) (v2 : (c : Dev Cert.Kernel20Ideal.nD) → Buf (Elt Ideal) ((c.tc : Thread Cert.Kernel20Ideal.nD Cert.Kernel20Ideal.τ).loc Cert.Kernel20Ideal.main_v7_2)) (v3 : (c : Dev Cert.Kernel20Ideal.nD) → Buf (Elt Ideal) ((c.tc : Thread Cert.Kernel20Ideal.nD Cert.Kernel20Ideal.τ).loc Cert.Kernel20Ideal.main_v7_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v7_0) = v0 c
          ∧ r.2.mem ((c.tc : Thread Cert.Kernel20Ideal.nD Cert.Kernel20Ideal.τ).loc Cert.Kernel20Ideal.main_v7_1) = v1 c
          ∧ r.2.mem ((c.tc : Thread Cert.Kernel20Ideal.nD Cert.Kernel20Ideal.τ).loc Cert.Kernel20Ideal.main_v7_2) = v2 c
          ∧ r.2.mem ((c.tc : Thread Cert.Kernel20Ideal.nD Cert.Kernel20Ideal.τ).loc Cert.Kernel20Ideal.main_v7_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6)
          ∧ r.2.mem ((c.tc : Thread Cert.Kernel20Ideal.nD Cert.Kernel20Ideal.τ).loc Cert.Kernel20Ideal.main_arg7) = m ((c.tc : Thread Cert.Kernel20Ideal.nD Cert.Kernel20Ideal.τ).loc Cert.Kernel20Ideal.main_arg7))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v34) = v0 c
          ∧ r.2.mem ((c.tc : Thread Cert.Reference20Ideal.nD Cert.Reference20Ideal.τ).loc Cert.Reference20Ideal.main_v37) = v1 c
          ∧ r.2.mem ((c.tc : Thread Cert.Reference20Ideal.nD Cert.Reference20Ideal.τ).loc Cert.Reference20Ideal.main_v40) = v2 c
          ∧ r.2.mem ((c.tc : Thread Cert.Reference20Ideal.nD Cert.Reference20Ideal.τ).loc Cert.Reference20Ideal.main_v43) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6)
          ∧ r.2.mem ((c.tc : Thread Cert.Reference20Ideal.nD Cert.Reference20Ideal.τ).loc Cert.Reference20Ideal.main_arg7) = m' ((c.tc : Thread Cert.Reference20Ideal.nD Cert.Reference20Ideal.τ).loc Cert.Reference20Ideal.main_arg7))

def preserves_Kernel21_Kernel21Ideal : Prop :=
  IdealRules.named_const.Statement Cert.Kernel21Ideal.κ "unbias1" .f32 0x3FC48605#32 ((8388608 / 5463681 : ℝ) : EReal)
  ∧ IdealRules.named_const.Statement Cert.Kernel21Ideal.κ "unbias2" .f32 0x42C8E6D3#32 ((268435456 / 2672307 : ℝ) : EReal)

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v7_0)) (v1 : (c : Dev Cert.Kernel21Ideal.nD) → Buf (Elt Ideal) ((c.tc : Thread Cert.Kernel21Ideal.nD Cert.Kernel21Ideal.τ).loc Cert.Kernel21Ideal.main_v7_1)) (v2 : (c : Dev Cert.Kernel21Ideal.nD) → Buf (Elt Ideal) ((c.tc : Thread Cert.Kernel21Ideal.nD Cert.Kernel21Ideal.τ).loc Cert.Kernel21Ideal.main_v7_2)) (v3 : (c : Dev Cert.Kernel21Ideal.nD) → Buf (Elt Ideal) ((c.tc : Thread Cert.Kernel21Ideal.nD Cert.Kernel21Ideal.τ).loc Cert.Kernel21Ideal.main_v7_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v7_0) = v0 c
          ∧ r.2.mem ((c.tc : Thread Cert.Kernel21Ideal.nD Cert.Kernel21Ideal.τ).loc Cert.Kernel21Ideal.main_v7_1) = v1 c
          ∧ r.2.mem ((c.tc : Thread Cert.Kernel21Ideal.nD Cert.Kernel21Ideal.τ).loc Cert.Kernel21Ideal.main_v7_2) = v2 c
          ∧ r.2.mem ((c.tc : Thread Cert.Kernel21Ideal.nD Cert.Kernel21Ideal.τ).loc Cert.Kernel21Ideal.main_v7_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v34) = v0 c
          ∧ r.2.mem ((c.tc : Thread Cert.Reference21Ideal.nD Cert.Reference21Ideal.τ).loc Cert.Reference21Ideal.main_v37) = v1 c
          ∧ r.2.mem ((c.tc : Thread Cert.Reference21Ideal.nD Cert.Reference21Ideal.τ).loc Cert.Reference21Ideal.main_v40) = v2 c
          ∧ r.2.mem ((c.tc : Thread Cert.Reference21Ideal.nD Cert.Reference21Ideal.τ).loc Cert.Reference21Ideal.main_v43) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def preserves_Kernel22_Kernel22Ideal : Prop :=
  IdealRules.named_const.Statement Cert.Kernel22Ideal.κ "unbias1" .f32 0x3FC48605#32 ((8388608 / 5463681 : ℝ) : EReal)
  ∧ IdealRules.named_const.Statement Cert.Kernel22Ideal.κ "unbias2" .f32 0x42C8E6D3#32 ((268435456 / 2672307 : ℝ) : EReal)

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)
      ∧ m' ((c.tc : Thread Cert.Reference22Ideal.nD Cert.Reference22Ideal.τ).loc Cert.Reference22Ideal.main_arg6) = m ((c.tc : Thread Cert.Kernel22Ideal.nD Cert.Kernel22Ideal.τ).loc Cert.Kernel22Ideal.main_arg6)
      ∧ m' ((c.tc : Thread Cert.Reference22Ideal.nD Cert.Reference22Ideal.τ).loc Cert.Reference22Ideal.main_arg7) = m ((c.tc : Thread Cert.Kernel22Ideal.nD Cert.Kernel22Ideal.τ).loc Cert.Kernel22Ideal.main_arg7)) →
    ∃ (v0 : (c : Dev Cert.Kernel22Ideal.nD) → Buf (Elt Ideal) ((c.tc : Thread Cert.Kernel22Ideal.nD Cert.Kernel22Ideal.τ).loc Cert.Kernel22Ideal.main_v7_0)) (v1 : (c : Dev Cert.Kernel22Ideal.nD) → Buf (Elt Ideal) ((c.tc : Thread Cert.Kernel22Ideal.nD Cert.Kernel22Ideal.τ).loc Cert.Kernel22Ideal.main_v7_1)) (v2 : (c : Dev Cert.Kernel22Ideal.nD) → Buf (Elt Ideal) ((c.tc : Thread Cert.Kernel22Ideal.nD Cert.Kernel22Ideal.τ).loc Cert.Kernel22Ideal.main_v7_2)) (v3 : (c : Dev Cert.Kernel22Ideal.nD) → Buf (Elt Ideal) ((c.tc : Thread Cert.Kernel22Ideal.nD Cert.Kernel22Ideal.τ).loc Cert.Kernel22Ideal.main_v7_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v7_0) = v0 c
          ∧ r.2.mem ((c.tc : Thread Cert.Kernel22Ideal.nD Cert.Kernel22Ideal.τ).loc Cert.Kernel22Ideal.main_v7_1) = v1 c
          ∧ r.2.mem ((c.tc : Thread Cert.Kernel22Ideal.nD Cert.Kernel22Ideal.τ).loc Cert.Kernel22Ideal.main_v7_2) = v2 c
          ∧ r.2.mem ((c.tc : Thread Cert.Kernel22Ideal.nD Cert.Kernel22Ideal.τ).loc Cert.Kernel22Ideal.main_v7_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5)
          ∧ r.2.mem ((c.tc : Thread Cert.Kernel22Ideal.nD Cert.Kernel22Ideal.τ).loc Cert.Kernel22Ideal.main_arg6) = m ((c.tc : Thread Cert.Kernel22Ideal.nD Cert.Kernel22Ideal.τ).loc Cert.Kernel22Ideal.main_arg6)
          ∧ r.2.mem ((c.tc : Thread Cert.Kernel22Ideal.nD Cert.Kernel22Ideal.τ).loc Cert.Kernel22Ideal.main_arg7) = m ((c.tc : Thread Cert.Kernel22Ideal.nD Cert.Kernel22Ideal.τ).loc Cert.Kernel22Ideal.main_arg7))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_v37) = v1 c
          ∧ r.2.mem ((c.tc : Thread Cert.Reference22Ideal.nD Cert.Reference22Ideal.τ).loc Cert.Reference22Ideal.main_v40) = v2 c
          ∧ r.2.mem ((c.tc : Thread Cert.Reference22Ideal.nD Cert.Reference22Ideal.τ).loc Cert.Reference22Ideal.main_v43) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5)
          ∧ r.2.mem ((c.tc : Thread Cert.Reference22Ideal.nD Cert.Reference22Ideal.τ).loc Cert.Reference22Ideal.main_arg6) = m' ((c.tc : Thread Cert.Reference22Ideal.nD Cert.Reference22Ideal.τ).loc Cert.Reference22Ideal.main_arg6)
          ∧ r.2.mem ((c.tc : Thread Cert.Reference22Ideal.nD Cert.Reference22Ideal.τ).loc Cert.Reference22Ideal.main_arg7) = m' ((c.tc : Thread Cert.Reference22Ideal.nD Cert.Reference22Ideal.τ).loc Cert.Reference22Ideal.main_arg7))

def preserves_Kernel23_Kernel23Ideal : Prop :=
  IdealRules.named_const.Statement Cert.Kernel23Ideal.κ "unbias1" .f32 0x3FC48605#32 ((8388608 / 5463681 : ℝ) : EReal)
  ∧ IdealRules.named_const.Statement Cert.Kernel23Ideal.κ "unbias2" .f32 0x42C8E6D3#32 ((268435456 / 2672307 : ℝ) : EReal)

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)
      ∧ m' ((c.tc : Thread Cert.Reference23Ideal.nD Cert.Reference23Ideal.τ).loc Cert.Reference23Ideal.main_arg6) = m ((c.tc : Thread Cert.Kernel23Ideal.nD Cert.Kernel23Ideal.τ).loc Cert.Kernel23Ideal.main_arg6)
      ∧ m' ((c.tc : Thread Cert.Reference23Ideal.nD Cert.Reference23Ideal.τ).loc Cert.Reference23Ideal.main_arg7) = m ((c.tc : Thread Cert.Kernel23Ideal.nD Cert.Kernel23Ideal.τ).loc Cert.Kernel23Ideal.main_arg7)) →
    ∃ (v0 : (c : Dev Cert.Kernel23Ideal.nD) → Buf (Elt Ideal) ((c.tc : Thread Cert.Kernel23Ideal.nD Cert.Kernel23Ideal.τ).loc Cert.Kernel23Ideal.main_v7_0)) (v1 : (c : Dev Cert.Kernel23Ideal.nD) → Buf (Elt Ideal) ((c.tc : Thread Cert.Kernel23Ideal.nD Cert.Kernel23Ideal.τ).loc Cert.Kernel23Ideal.main_v7_1)) (v2 : (c : Dev Cert.Kernel23Ideal.nD) → Buf (Elt Ideal) ((c.tc : Thread Cert.Kernel23Ideal.nD Cert.Kernel23Ideal.τ).loc Cert.Kernel23Ideal.main_v7_2)) (v3 : (c : Dev Cert.Kernel23Ideal.nD) → Buf (Elt Ideal) ((c.tc : Thread Cert.Kernel23Ideal.nD Cert.Kernel23Ideal.τ).loc Cert.Kernel23Ideal.main_v7_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v7_0) = v0 c
          ∧ r.2.mem ((c.tc : Thread Cert.Kernel23Ideal.nD Cert.Kernel23Ideal.τ).loc Cert.Kernel23Ideal.main_v7_1) = v1 c
          ∧ r.2.mem ((c.tc : Thread Cert.Kernel23Ideal.nD Cert.Kernel23Ideal.τ).loc Cert.Kernel23Ideal.main_v7_2) = v2 c
          ∧ r.2.mem ((c.tc : Thread Cert.Kernel23Ideal.nD Cert.Kernel23Ideal.τ).loc Cert.Kernel23Ideal.main_v7_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5)
          ∧ r.2.mem ((c.tc : Thread Cert.Kernel23Ideal.nD Cert.Kernel23Ideal.τ).loc Cert.Kernel23Ideal.main_arg6) = m ((c.tc : Thread Cert.Kernel23Ideal.nD Cert.Kernel23Ideal.τ).loc Cert.Kernel23Ideal.main_arg6)
          ∧ r.2.mem ((c.tc : Thread Cert.Kernel23Ideal.nD Cert.Kernel23Ideal.τ).loc Cert.Kernel23Ideal.main_arg7) = m ((c.tc : Thread Cert.Kernel23Ideal.nD Cert.Kernel23Ideal.τ).loc Cert.Kernel23Ideal.main_arg7))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v34) = v0 c
          ∧ r.2.mem ((c.tc : Thread Cert.Reference23Ideal.nD Cert.Reference23Ideal.τ).loc Cert.Reference23Ideal.main_v37) = v1 c
          ∧ r.2.mem ((c.tc : Thread Cert.Reference23Ideal.nD Cert.Reference23Ideal.τ).loc Cert.Reference23Ideal.main_v40) = v2 c
          ∧ r.2.mem ((c.tc : Thread Cert.Reference23Ideal.nD Cert.Reference23Ideal.τ).loc Cert.Reference23Ideal.main_v43) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5)
          ∧ r.2.mem ((c.tc : Thread Cert.Reference23Ideal.nD Cert.Reference23Ideal.τ).loc Cert.Reference23Ideal.main_arg6) = m' ((c.tc : Thread Cert.Reference23Ideal.nD Cert.Reference23Ideal.τ).loc Cert.Reference23Ideal.main_arg6)
          ∧ r.2.mem ((c.tc : Thread Cert.Reference23Ideal.nD Cert.Reference23Ideal.τ).loc Cert.Reference23Ideal.main_arg7) = m' ((c.tc : Thread Cert.Reference23Ideal.nD Cert.Reference23Ideal.τ).loc Cert.Reference23Ideal.main_arg7))

def preserves_Kernel24_Kernel24Ideal : Prop :=
  IdealRules.named_const.Statement Cert.Kernel24Ideal.κ "unbias1" .f32 0x3FC48605#32 ((8388608 / 5463681 : ℝ) : EReal)
  ∧ IdealRules.named_const.Statement Cert.Kernel24Ideal.κ "unbias2" .f32 0x42C8E6D3#32 ((268435456 / 2672307 : ℝ) : EReal)

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)
      ∧ m' ((c.tc : Thread Cert.Reference24Ideal.nD Cert.Reference24Ideal.τ).loc Cert.Reference24Ideal.main_arg7) = m ((c.tc : Thread Cert.Kernel24Ideal.nD Cert.Kernel24Ideal.τ).loc Cert.Kernel24Ideal.main_arg7)) →
    ∃ (v0 : (c : Dev Cert.Kernel24Ideal.nD) → Buf (Elt Ideal) ((c.tc : Thread Cert.Kernel24Ideal.nD Cert.Kernel24Ideal.τ).loc Cert.Kernel24Ideal.main_v7_0)) (v1 : (c : Dev Cert.Kernel24Ideal.nD) → Buf (Elt Ideal) ((c.tc : Thread Cert.Kernel24Ideal.nD Cert.Kernel24Ideal.τ).loc Cert.Kernel24Ideal.main_v7_1)) (v2 : (c : Dev Cert.Kernel24Ideal.nD) → Buf (Elt Ideal) ((c.tc : Thread Cert.Kernel24Ideal.nD Cert.Kernel24Ideal.τ).loc Cert.Kernel24Ideal.main_v7_2)) (v3 : (c : Dev Cert.Kernel24Ideal.nD) → Buf (Elt Ideal) ((c.tc : Thread Cert.Kernel24Ideal.nD Cert.Kernel24Ideal.τ).loc Cert.Kernel24Ideal.main_v7_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v7_0) = v0 c
          ∧ r.2.mem ((c.tc : Thread Cert.Kernel24Ideal.nD Cert.Kernel24Ideal.τ).loc Cert.Kernel24Ideal.main_v7_1) = v1 c
          ∧ r.2.mem ((c.tc : Thread Cert.Kernel24Ideal.nD Cert.Kernel24Ideal.τ).loc Cert.Kernel24Ideal.main_v7_2) = v2 c
          ∧ r.2.mem ((c.tc : Thread Cert.Kernel24Ideal.nD Cert.Kernel24Ideal.τ).loc Cert.Kernel24Ideal.main_v7_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6)
          ∧ r.2.mem ((c.tc : Thread Cert.Kernel24Ideal.nD Cert.Kernel24Ideal.τ).loc Cert.Kernel24Ideal.main_arg7) = m ((c.tc : Thread Cert.Kernel24Ideal.nD Cert.Kernel24Ideal.τ).loc Cert.Kernel24Ideal.main_arg7))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v34) = v0 c
          ∧ r.2.mem ((c.tc : Thread Cert.Reference24Ideal.nD Cert.Reference24Ideal.τ).loc Cert.Reference24Ideal.main_v37) = v1 c
          ∧ r.2.mem ((c.tc : Thread Cert.Reference24Ideal.nD Cert.Reference24Ideal.τ).loc Cert.Reference24Ideal.main_v40) = v2 c
          ∧ r.2.mem ((c.tc : Thread Cert.Reference24Ideal.nD Cert.Reference24Ideal.τ).loc Cert.Reference24Ideal.main_v43) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6)
          ∧ r.2.mem ((c.tc : Thread Cert.Reference24Ideal.nD Cert.Reference24Ideal.τ).loc Cert.Reference24Ideal.main_arg7) = m' ((c.tc : Thread Cert.Reference24Ideal.nD Cert.Reference24Ideal.τ).loc Cert.Reference24Ideal.main_arg7))

def preserves_Kernel25_Kernel25Ideal : Prop :=
  IdealRules.named_const.Statement Cert.Kernel25Ideal.κ "unbias1" .f32 0x3FC48605#32 ((8388608 / 5463681 : ℝ) : EReal)
  ∧ IdealRules.named_const.Statement Cert.Kernel25Ideal.κ "unbias2" .f32 0x42C8E6D3#32 ((268435456 / 2672307 : ℝ) : EReal)

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)
      ∧ m' ((c.tc : Thread Cert.Reference25Ideal.nD Cert.Reference25Ideal.τ).loc Cert.Reference25Ideal.main_arg7) = m ((c.tc : Thread Cert.Kernel25Ideal.nD Cert.Kernel25Ideal.τ).loc Cert.Kernel25Ideal.main_arg7)) →
    ∃ (v0 : (c : Dev Cert.Kernel25Ideal.nD) → Buf (Elt Ideal) ((c.tc : Thread Cert.Kernel25Ideal.nD Cert.Kernel25Ideal.τ).loc Cert.Kernel25Ideal.main_v7_0)) (v1 : (c : Dev Cert.Kernel25Ideal.nD) → Buf (Elt Ideal) ((c.tc : Thread Cert.Kernel25Ideal.nD Cert.Kernel25Ideal.τ).loc Cert.Kernel25Ideal.main_v7_1)) (v2 : (c : Dev Cert.Kernel25Ideal.nD) → Buf (Elt Ideal) ((c.tc : Thread Cert.Kernel25Ideal.nD Cert.Kernel25Ideal.τ).loc Cert.Kernel25Ideal.main_v7_2)) (v3 : (c : Dev Cert.Kernel25Ideal.nD) → Buf (Elt Ideal) ((c.tc : Thread Cert.Kernel25Ideal.nD Cert.Kernel25Ideal.τ).loc Cert.Kernel25Ideal.main_v7_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v7_0) = v0 c
          ∧ r.2.mem ((c.tc : Thread Cert.Kernel25Ideal.nD Cert.Kernel25Ideal.τ).loc Cert.Kernel25Ideal.main_v7_1) = v1 c
          ∧ r.2.mem ((c.tc : Thread Cert.Kernel25Ideal.nD Cert.Kernel25Ideal.τ).loc Cert.Kernel25Ideal.main_v7_2) = v2 c
          ∧ r.2.mem ((c.tc : Thread Cert.Kernel25Ideal.nD Cert.Kernel25Ideal.τ).loc Cert.Kernel25Ideal.main_v7_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6)
          ∧ r.2.mem ((c.tc : Thread Cert.Kernel25Ideal.nD Cert.Kernel25Ideal.τ).loc Cert.Kernel25Ideal.main_arg7) = m ((c.tc : Thread Cert.Kernel25Ideal.nD Cert.Kernel25Ideal.τ).loc Cert.Kernel25Ideal.main_arg7))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v34) = v0 c
          ∧ r.2.mem ((c.tc : Thread Cert.Reference25Ideal.nD Cert.Reference25Ideal.τ).loc Cert.Reference25Ideal.main_v37) = v1 c
          ∧ r.2.mem ((c.tc : Thread Cert.Reference25Ideal.nD Cert.Reference25Ideal.τ).loc Cert.Reference25Ideal.main_v40) = v2 c
          ∧ r.2.mem ((c.tc : Thread Cert.Reference25Ideal.nD Cert.Reference25Ideal.τ).loc Cert.Reference25Ideal.main_v43) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6)
          ∧ r.2.mem ((c.tc : Thread Cert.Reference25Ideal.nD Cert.Reference25Ideal.τ).loc Cert.Reference25Ideal.main_arg7) = m' ((c.tc : Thread Cert.Reference25Ideal.nD Cert.Reference25Ideal.τ).loc Cert.Reference25Ideal.main_arg7))

def preserves_Kernel26_Kernel26Ideal : Prop :=
  IdealRules.named_const.Statement Cert.Kernel26Ideal.κ "unbias1" .f32 0x3FC48605#32 ((8388608 / 5463681 : ℝ) : EReal)
  ∧ IdealRules.named_const.Statement Cert.Kernel26Ideal.κ "unbias2" .f32 0x42C8E6D3#32 ((268435456 / 2672307 : ℝ) : EReal)

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)
      ∧ m' ((c.tc : Thread Cert.Reference26Ideal.nD Cert.Reference26Ideal.τ).loc Cert.Reference26Ideal.main_arg7) = m ((c.tc : Thread Cert.Kernel26Ideal.nD Cert.Kernel26Ideal.τ).loc Cert.Kernel26Ideal.main_arg7)) →
    ∃ (v0 : (c : Dev Cert.Kernel26Ideal.nD) → Buf (Elt Ideal) ((c.tc : Thread Cert.Kernel26Ideal.nD Cert.Kernel26Ideal.τ).loc Cert.Kernel26Ideal.main_v7_0)) (v1 : (c : Dev Cert.Kernel26Ideal.nD) → Buf (Elt Ideal) ((c.tc : Thread Cert.Kernel26Ideal.nD Cert.Kernel26Ideal.τ).loc Cert.Kernel26Ideal.main_v7_1)) (v2 : (c : Dev Cert.Kernel26Ideal.nD) → Buf (Elt Ideal) ((c.tc : Thread Cert.Kernel26Ideal.nD Cert.Kernel26Ideal.τ).loc Cert.Kernel26Ideal.main_v7_2)) (v3 : (c : Dev Cert.Kernel26Ideal.nD) → Buf (Elt Ideal) ((c.tc : Thread Cert.Kernel26Ideal.nD Cert.Kernel26Ideal.τ).loc Cert.Kernel26Ideal.main_v7_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v7_0) = v0 c
          ∧ r.2.mem ((c.tc : Thread Cert.Kernel26Ideal.nD Cert.Kernel26Ideal.τ).loc Cert.Kernel26Ideal.main_v7_1) = v1 c
          ∧ r.2.mem ((c.tc : Thread Cert.Kernel26Ideal.nD Cert.Kernel26Ideal.τ).loc Cert.Kernel26Ideal.main_v7_2) = v2 c
          ∧ r.2.mem ((c.tc : Thread Cert.Kernel26Ideal.nD Cert.Kernel26Ideal.τ).loc Cert.Kernel26Ideal.main_v7_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6)
          ∧ r.2.mem ((c.tc : Thread Cert.Kernel26Ideal.nD Cert.Kernel26Ideal.τ).loc Cert.Kernel26Ideal.main_arg7) = m ((c.tc : Thread Cert.Kernel26Ideal.nD Cert.Kernel26Ideal.τ).loc Cert.Kernel26Ideal.main_arg7))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v38) = v0 c
          ∧ r.2.mem ((c.tc : Thread Cert.Reference26Ideal.nD Cert.Reference26Ideal.τ).loc Cert.Reference26Ideal.main_v45) = v1 c
          ∧ r.2.mem ((c.tc : Thread Cert.Reference26Ideal.nD Cert.Reference26Ideal.τ).loc Cert.Reference26Ideal.main_v52) = v2 c
          ∧ r.2.mem ((c.tc : Thread Cert.Reference26Ideal.nD Cert.Reference26Ideal.τ).loc Cert.Reference26Ideal.main_v59) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6)
          ∧ r.2.mem ((c.tc : Thread Cert.Reference26Ideal.nD Cert.Reference26Ideal.τ).loc Cert.Reference26Ideal.main_arg7) = m' ((c.tc : Thread Cert.Reference26Ideal.nD Cert.Reference26Ideal.τ).loc Cert.Reference26Ideal.main_arg7))

def preserves_Kernel27_Kernel27Ideal : Prop :=
  IdealRules.named_const.Statement Cert.Kernel27Ideal.κ "unbias1" .f32 0x3FC48605#32 ((8388608 / 5463681 : ℝ) : EReal)
  ∧ IdealRules.named_const.Statement Cert.Kernel27Ideal.κ "unbias2" .f32 0x42C8E6D3#32 ((268435456 / 2672307 : ℝ) : EReal)

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)
      ∧ m' ((c.tc : Thread Cert.Reference27Ideal.nD Cert.Reference27Ideal.τ).loc Cert.Reference27Ideal.main_arg7) = m ((c.tc : Thread Cert.Kernel27Ideal.nD Cert.Kernel27Ideal.τ).loc Cert.Kernel27Ideal.main_arg7)) →
    ∃ (v0 : (c : Dev Cert.Kernel27Ideal.nD) → Buf (Elt Ideal) ((c.tc : Thread Cert.Kernel27Ideal.nD Cert.Kernel27Ideal.τ).loc Cert.Kernel27Ideal.main_v7_0)) (v1 : (c : Dev Cert.Kernel27Ideal.nD) → Buf (Elt Ideal) ((c.tc : Thread Cert.Kernel27Ideal.nD Cert.Kernel27Ideal.τ).loc Cert.Kernel27Ideal.main_v7_1)) (v2 : (c : Dev Cert.Kernel27Ideal.nD) → Buf (Elt Ideal) ((c.tc : Thread Cert.Kernel27Ideal.nD Cert.Kernel27Ideal.τ).loc Cert.Kernel27Ideal.main_v7_2)) (v3 : (c : Dev Cert.Kernel27Ideal.nD) → Buf (Elt Ideal) ((c.tc : Thread Cert.Kernel27Ideal.nD Cert.Kernel27Ideal.τ).loc Cert.Kernel27Ideal.main_v7_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v7_0) = v0 c
          ∧ r.2.mem ((c.tc : Thread Cert.Kernel27Ideal.nD Cert.Kernel27Ideal.τ).loc Cert.Kernel27Ideal.main_v7_1) = v1 c
          ∧ r.2.mem ((c.tc : Thread Cert.Kernel27Ideal.nD Cert.Kernel27Ideal.τ).loc Cert.Kernel27Ideal.main_v7_2) = v2 c
          ∧ r.2.mem ((c.tc : Thread Cert.Kernel27Ideal.nD Cert.Kernel27Ideal.τ).loc Cert.Kernel27Ideal.main_v7_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6)
          ∧ r.2.mem ((c.tc : Thread Cert.Kernel27Ideal.nD Cert.Kernel27Ideal.τ).loc Cert.Kernel27Ideal.main_arg7) = m ((c.tc : Thread Cert.Kernel27Ideal.nD Cert.Kernel27Ideal.τ).loc Cert.Kernel27Ideal.main_arg7))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v38) = v0 c
          ∧ r.2.mem ((c.tc : Thread Cert.Reference27Ideal.nD Cert.Reference27Ideal.τ).loc Cert.Reference27Ideal.main_v45) = v1 c
          ∧ r.2.mem ((c.tc : Thread Cert.Reference27Ideal.nD Cert.Reference27Ideal.τ).loc Cert.Reference27Ideal.main_v52) = v2 c
          ∧ r.2.mem ((c.tc : Thread Cert.Reference27Ideal.nD Cert.Reference27Ideal.τ).loc Cert.Reference27Ideal.main_v59) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6)
          ∧ r.2.mem ((c.tc : Thread Cert.Reference27Ideal.nD Cert.Reference27Ideal.τ).loc Cert.Reference27Ideal.main_arg7) = m' ((c.tc : Thread Cert.Reference27Ideal.nD Cert.Reference27Ideal.τ).loc Cert.Reference27Ideal.main_arg7))

def preserves_Kernel28_Kernel28Ideal : Prop :=
  IdealRules.named_const.Statement Cert.Kernel28Ideal.κ "unbias1" .f32 0x3FC48605#32 ((8388608 / 5463681 : ℝ) : EReal)
  ∧ IdealRules.named_const.Statement Cert.Kernel28Ideal.κ "unbias2" .f32 0x42C8E6D3#32 ((268435456 / 2672307 : ℝ) : EReal)

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)
      ∧ m' ((c.tc : Thread Cert.Reference28Ideal.nD Cert.Reference28Ideal.τ).loc Cert.Reference28Ideal.main_arg7) = m ((c.tc : Thread Cert.Kernel28Ideal.nD Cert.Kernel28Ideal.τ).loc Cert.Kernel28Ideal.main_arg7)) →
    ∃ (v0 : (c : Dev Cert.Kernel28Ideal.nD) → Buf (Elt Ideal) ((c.tc : Thread Cert.Kernel28Ideal.nD Cert.Kernel28Ideal.τ).loc Cert.Kernel28Ideal.main_v7_0)) (v1 : (c : Dev Cert.Kernel28Ideal.nD) → Buf (Elt Ideal) ((c.tc : Thread Cert.Kernel28Ideal.nD Cert.Kernel28Ideal.τ).loc Cert.Kernel28Ideal.main_v7_1)) (v2 : (c : Dev Cert.Kernel28Ideal.nD) → Buf (Elt Ideal) ((c.tc : Thread Cert.Kernel28Ideal.nD Cert.Kernel28Ideal.τ).loc Cert.Kernel28Ideal.main_v7_2)) (v3 : (c : Dev Cert.Kernel28Ideal.nD) → Buf (Elt Ideal) ((c.tc : Thread Cert.Kernel28Ideal.nD Cert.Kernel28Ideal.τ).loc Cert.Kernel28Ideal.main_v7_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v7_0) = v0 c
          ∧ r.2.mem ((c.tc : Thread Cert.Kernel28Ideal.nD Cert.Kernel28Ideal.τ).loc Cert.Kernel28Ideal.main_v7_1) = v1 c
          ∧ r.2.mem ((c.tc : Thread Cert.Kernel28Ideal.nD Cert.Kernel28Ideal.τ).loc Cert.Kernel28Ideal.main_v7_2) = v2 c
          ∧ r.2.mem ((c.tc : Thread Cert.Kernel28Ideal.nD Cert.Kernel28Ideal.τ).loc Cert.Kernel28Ideal.main_v7_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6)
          ∧ r.2.mem ((c.tc : Thread Cert.Kernel28Ideal.nD Cert.Kernel28Ideal.τ).loc Cert.Kernel28Ideal.main_arg7) = m ((c.tc : Thread Cert.Kernel28Ideal.nD Cert.Kernel28Ideal.τ).loc Cert.Kernel28Ideal.main_arg7))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v38) = v0 c
          ∧ r.2.mem ((c.tc : Thread Cert.Reference28Ideal.nD Cert.Reference28Ideal.τ).loc Cert.Reference28Ideal.main_v45) = v1 c
          ∧ r.2.mem ((c.tc : Thread Cert.Reference28Ideal.nD Cert.Reference28Ideal.τ).loc Cert.Reference28Ideal.main_v52) = v2 c
          ∧ r.2.mem ((c.tc : Thread Cert.Reference28Ideal.nD Cert.Reference28Ideal.τ).loc Cert.Reference28Ideal.main_v59) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6)
          ∧ r.2.mem ((c.tc : Thread Cert.Reference28Ideal.nD Cert.Reference28Ideal.τ).loc Cert.Reference28Ideal.main_arg7) = m' ((c.tc : Thread Cert.Reference28Ideal.nD Cert.Reference28Ideal.τ).loc Cert.Reference28Ideal.main_arg7))

def preserves_Kernel29_Kernel29Ideal : Prop :=
  IdealRules.named_const.Statement Cert.Kernel29Ideal.κ "unbias1" .f32 0x3FC48605#32 ((8388608 / 5463681 : ℝ) : EReal)
  ∧ IdealRules.named_const.Statement Cert.Kernel29Ideal.κ "unbias2" .f32 0x42C8E6D3#32 ((268435456 / 2672307 : ℝ) : EReal)

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)
      ∧ m' ((c.tc : Thread Cert.Reference29Ideal.nD Cert.Reference29Ideal.τ).loc Cert.Reference29Ideal.main_arg7) = m ((c.tc : Thread Cert.Kernel29Ideal.nD Cert.Kernel29Ideal.τ).loc Cert.Kernel29Ideal.main_arg7)) →
    ∃ (v0 : (c : Dev Cert.Kernel29Ideal.nD) → Buf (Elt Ideal) ((c.tc : Thread Cert.Kernel29Ideal.nD Cert.Kernel29Ideal.τ).loc Cert.Kernel29Ideal.main_v7_0)) (v1 : (c : Dev Cert.Kernel29Ideal.nD) → Buf (Elt Ideal) ((c.tc : Thread Cert.Kernel29Ideal.nD Cert.Kernel29Ideal.τ).loc Cert.Kernel29Ideal.main_v7_1)) (v2 : (c : Dev Cert.Kernel29Ideal.nD) → Buf (Elt Ideal) ((c.tc : Thread Cert.Kernel29Ideal.nD Cert.Kernel29Ideal.τ).loc Cert.Kernel29Ideal.main_v7_2)) (v3 : (c : Dev Cert.Kernel29Ideal.nD) → Buf (Elt Ideal) ((c.tc : Thread Cert.Kernel29Ideal.nD Cert.Kernel29Ideal.τ).loc Cert.Kernel29Ideal.main_v7_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v7_0) = v0 c
          ∧ r.2.mem ((c.tc : Thread Cert.Kernel29Ideal.nD Cert.Kernel29Ideal.τ).loc Cert.Kernel29Ideal.main_v7_1) = v1 c
          ∧ r.2.mem ((c.tc : Thread Cert.Kernel29Ideal.nD Cert.Kernel29Ideal.τ).loc Cert.Kernel29Ideal.main_v7_2) = v2 c
          ∧ r.2.mem ((c.tc : Thread Cert.Kernel29Ideal.nD Cert.Kernel29Ideal.τ).loc Cert.Kernel29Ideal.main_v7_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6)
          ∧ r.2.mem ((c.tc : Thread Cert.Kernel29Ideal.nD Cert.Kernel29Ideal.τ).loc Cert.Kernel29Ideal.main_arg7) = m ((c.tc : Thread Cert.Kernel29Ideal.nD Cert.Kernel29Ideal.τ).loc Cert.Kernel29Ideal.main_arg7))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v38) = v0 c
          ∧ r.2.mem ((c.tc : Thread Cert.Reference29Ideal.nD Cert.Reference29Ideal.τ).loc Cert.Reference29Ideal.main_v45) = v1 c
          ∧ r.2.mem ((c.tc : Thread Cert.Reference29Ideal.nD Cert.Reference29Ideal.τ).loc Cert.Reference29Ideal.main_v52) = v2 c
          ∧ r.2.mem ((c.tc : Thread Cert.Reference29Ideal.nD Cert.Reference29Ideal.τ).loc Cert.Reference29Ideal.main_v59) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6)
          ∧ r.2.mem ((c.tc : Thread Cert.Reference29Ideal.nD Cert.Reference29Ideal.τ).loc Cert.Reference29Ideal.main_arg7) = m' ((c.tc : Thread Cert.Reference29Ideal.nD Cert.Reference29Ideal.τ).loc Cert.Reference29Ideal.main_arg7))

def preserves_Kernel30_Kernel30Ideal : Prop :=
  True

def algebraic_Kernel30Ideal_Reference30Ideal_pre_finite30 [hKernel30Ideal : Cert.Kernel30Ideal.Facts] [hReference30Ideal : Cert.Reference30Ideal.Facts] [hPre_finite30 : Cert.Pre_finite30.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal_finite30 m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)) →
    ∃ (v0 : (c : Dev Cert.Kernel30Ideal.nD) → Buf (Elt Ideal) ((c.tc : Thread Cert.Kernel30Ideal.nD Cert.Kernel30Ideal.τ).loc Cert.Kernel30Ideal.main_v1_0)) (v1 : (c : Dev Cert.Kernel30Ideal.nD) → Buf (Elt Ideal) ((c.tc : Thread Cert.Kernel30Ideal.nD Cert.Kernel30Ideal.τ).loc Cert.Kernel30Ideal.main_v1_1)) (v2 : (c : Dev Cert.Kernel30Ideal.nD) → Buf (Elt Ideal) ((c.tc : Thread Cert.Kernel30Ideal.nD Cert.Kernel30Ideal.τ).loc Cert.Kernel30Ideal.main_v1_2)) (v3 : (c : Dev Cert.Kernel30Ideal.nD) → Buf (Elt Ideal) ((c.tc : Thread Cert.Kernel30Ideal.nD Cert.Kernel30Ideal.τ).loc Cert.Kernel30Ideal.main_v1_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v1_0) = v0 c
          ∧ r.2.mem ((c.tc : Thread Cert.Kernel30Ideal.nD Cert.Kernel30Ideal.τ).loc Cert.Kernel30Ideal.main_v1_1) = v1 c
          ∧ r.2.mem ((c.tc : Thread Cert.Kernel30Ideal.nD Cert.Kernel30Ideal.τ).loc Cert.Kernel30Ideal.main_v1_2) = v2 c
          ∧ r.2.mem ((c.tc : Thread Cert.Kernel30Ideal.nD Cert.Kernel30Ideal.τ).loc Cert.Kernel30Ideal.main_v1_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v51) = v0 c
          ∧ r.2.mem ((c.tc : Thread Cert.Reference30Ideal.nD Cert.Reference30Ideal.τ).loc Cert.Reference30Ideal.main_v50) = v1 c
          ∧ r.2.mem ((c.tc : Thread Cert.Reference30Ideal.nD Cert.Reference30Ideal.τ).loc Cert.Reference30Ideal.main_v52) = v2 c
          ∧ r.2.mem ((c.tc : Thread Cert.Reference30Ideal.nD Cert.Reference30Ideal.τ).loc Cert.Reference30Ideal.main_v53) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v1)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v13) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)) →
    ∃ (v0 : (c : Dev Cert.Kernel32Ideal.nD) → Buf (Elt Ideal) ((c.tc : Thread Cert.Kernel32Ideal.nD Cert.Kernel32Ideal.τ).loc Cert.Kernel32Ideal.main_v3_0)) (v1 : (c : Dev Cert.Kernel32Ideal.nD) → Buf (Elt Ideal) ((c.tc : Thread Cert.Kernel32Ideal.nD Cert.Kernel32Ideal.τ).loc Cert.Kernel32Ideal.main_v3_1)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v3_0) = v0 c
          ∧ r.2.mem ((c.tc : Thread Cert.Kernel32Ideal.nD Cert.Kernel32Ideal.τ).loc Cert.Kernel32Ideal.main_v3_1) = v1 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v134) = v0 c
          ∧ r.2.mem ((c.tc : Thread Cert.Reference32Ideal.nD Cert.Reference32Ideal.τ).loc Cert.Reference32Ideal.main_v208) = v1 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_finite : Cert.Pre_finite.Facts) (hPre_finite4 : Cert.Pre_finite4.Facts) (hPre_finite16 : Cert.Pre_finite16.Facts) (hPre_finite30 : Cert.Pre_finite30.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Kernel16Ideal_pre_finite16 (hKernel16Ideal := hKernel16Ideal) (hPre_finite16 := hPre_finite16)
    ∧ quiescent_Reference16Ideal (hReference16Ideal := hReference16Ideal)
    ∧ quiescent_Reference16Ideal_pre_finite16 (hReference16Ideal := hReference16Ideal) (hPre_finite16 := hPre_finite16)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Kernel30Ideal_pre_finite30 (hKernel30Ideal := hKernel30Ideal) (hPre_finite30 := hPre_finite30)
    ∧ quiescent_Reference30Ideal (hReference30Ideal := hReference30Ideal)
    ∧ quiescent_Reference30Ideal_pre_finite30 (hReference30Ideal := hReference30Ideal) (hPre_finite30 := hPre_finite30)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal_pre_finite16 (hKernel16Ideal := hKernel16Ideal) (hReference16Ideal := hReference16Ideal) (hPre_finite16 := hPre_finite16)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal_pre_finite30 (hKernel30Ideal := hKernel30Ideal) (hReference30Ideal := hReference30Ideal) (hPre_finite30 := hPre_finite30)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_finite.lean ====
abbrev S4096x5120 : Shape := ⟨2, ![4096, 5120]⟩
abbrev S4096x2048 : Shape := ⟨2, ![4096, 2048]⟩
abbrev S3x1024 : Shape := ⟨2, ![3, 1024]⟩
abbrev S31x1024 : Shape := ⟨2, ![31, 1024]⟩
abbrev S1024 : Shape := ⟨1, ![1024]⟩
abbrev S_ : Shape := ⟨0, ![]⟩

class Facts : Prop where
  bcast_S_S4096x5120 : S_.BroadcastsInDim S4096x5120 (![] : Fin 0 → Fin S4096x5120.rank)
  bcast_S_S4096x2048 : S_.BroadcastsInDim S4096x2048 (![] : Fin 0 → Fin S4096x2048.rank)
  bcast_S_S31x1024 : S_.BroadcastsInDim S31x1024 (![] : Fin 0 → Fin S31x1024.rank)
  bcast_S_S1024 : S_.BroadcastsInDim S1024 (![] : Fin 0 → Fin S1024.rank)

variable [Facts]

def fn {F : FTy → Type} [FloatOps F] (main_arg0 : FVec F S4096x5120 .f32) (main_arg1 : FVec F S4096x2048 .f32) (main_arg2 : FVec F S3x1024 .f32) (main_arg3 : FVec F S31x1024 .f32) (main_arg4 : FVec F S1024 .f32) (main_arg5 : FVec F S1024 .f32) (main_arg6 : FVec F S1024 .f32) : IVec S4096x5120 1 × IVec S4096x2048 1 × IVec S31x1024 1 × IVec S1024 1 × IVec S1024 1 × IVec S1024 1 :=
  let main_v0 : FVec F S4096x5120 .f32 := Host.absf main_arg0
  let main_cst : FVec F S_ .f32 := constant S_ .f32 0x7F800000#32
  let main_v1 : FVec F S4096x5120 .f32 := broadcastInDim S4096x5120 ![] bcast_S_S4096x5120 main_cst
  let main_v2 : IVec S4096x5120 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S31x1024 .f32 := Host.absf main_arg3
  let main_cst_1 : FVec F S_ .f32 := constant S_ .f32 0x7F800000#32
  let main_v7 : FVec F S31x1024 .f32 := broadcastInDim S31x1024 ![] bcast_S_S31x1024 main_cst_1
  let main_v8 : IVec S31x1024 1 := cmpf .olt main_v6 main_v7
  let main_v9 : FVec F S1024 .f32 := Host.absf main_arg4
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1024 .f32 := Host.absf main_arg5
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024 .f32 := Host.absf main_arg6
  let main_cst_4 : FVec F S_ .f32 := constant S_ .f32 0x7F800000#32
  let main_v16 : FVec F S1024 .f32 := broadcastInDim S1024 ![] bcast_S_S1024 main_cst_4
  let main_v17 : IVec S1024 1 := cmpf .olt main_v15 main_v16
  (main_v2, main_v5, main_v8, main_v11, main_v14, main_v17)
-- ==== Pre_finite16.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .f32) (main_arg3 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite30.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Pre_finite4.lean ====
abbrev S4096x2048 : Shape := ⟨2, ![4096, 2048]⟩
abbrev S8x704x2048 : Shape := ⟨3, ![8, 704, 2048]⟩
abbrev S8x4096x704 : Shape := ⟨3, ![8, 4096, 704]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S8x704x2048 : S_.BroadcastsInDim S8x704x2048 (![] : Fin 0 → Fin S8x704x2048.rank)
  bcast_S_S8x4096x704 : S_.BroadcastsInDim S8x4096x704 (![] : Fin 0 → Fin S8x4096x704.rank)

variable [Facts]

def fn {F : FTy → Type} [FloatOps F] (main_arg0 : FVec F S4096x2048 .bf16) (main_arg1 : FVec F S8x704x2048 .bf16) (main_arg2 : FVec F S8x4096x704 .f32) (main_arg3 : FVec F S8x4096x704 .f32) : IVec S4096x2048 1 × IVec S8x704x2048 1 × IVec S8x4096x704 1 :=
  let main_v0 : FVec F S4096x2048 .f32 := (extf .f32 · bitsLt_bf16_f32) main_arg0
  let main_v1 : FVec F S8x704x2048 .f32 := (extf .f32 · bitsLt_bf16_f32) main_arg1
  let main_v2 : FVec F S4096x2048 .f32 := Host.absf main_v0
  let main_cst : FVec F S_ .f32 := constant S_ .f32 0x7F800000#32
  let main_v3 : FVec F S4096x2048 .f32 := broadcastInDim S4096x2048 ![] bcast_S_S4096x2048 main_cst
  let main_v4 : IVec S4096x2048 1 := cmpf .olt main_v2 main_v3
  let main_v5 : FVec F S8x704x2048 .f32 := Host.absf main_v1
  let main_cst_0 : FVec F S_ .f32 := constant S_ .f32 0x7F800000#32
  let main_v6 : FVec F S8x704x2048 .f32 := broadcastInDim S8x704x2048 ![] bcast_S_S8x704x2048 main_cst_0
  let main_v7 : IVec S8x704x2048 1 := cmpf .olt main_v5 main_v6
  let main_v8 : FVec F S8x4096x704 .f32 := Host.absf main_arg3
  let main_cst_1 : FVec F S_ .f32 := constant S_ .f32 0x7F800000#32
  let main_v9 : FVec F S8x4096x704 .f32 := broadcastInDim S8x4096x704 ![] bcast_S_S8x4096x704 main_cst_1
  let main_v10 : IVec S8x4096x704 1 := cmpf .olt main_v8 main_v9
  (main_v4, main_v7, main_v10)
-- ==== Kernel.lean ====
abbrev S4096x5120 : Shape := ⟨2, ![4096, 5120]⟩
abbrev S4096x2048 : Shape := ⟨2, ![4096, 2048]⟩
abbrev S3x1024 : Shape := ⟨2, ![3, 1024]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S30x1024 : Shape := ⟨2, ![30, 1024]⟩
abbrev S4126x1024 : Shape := ⟨2, ![4126, 1024]⟩
abbrev S31x1x1024 : Shape := ⟨3, ![31, 1, 1024]⟩
abbrev S1x4096x1024 : Shape := ⟨3, ![1, 4096, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S1x1024 : Shape := ⟨2, ![1, 1024]⟩
abbrev S1x5120 : Shape := ⟨2, ![1, 5120]⟩
abbrev S128x5120 : Shape := ⟨2, ![128, 5120]⟩
abbrev S32x5120 : Shape := ⟨2, ![32, 5120]⟩
abbrev S128x2048 : Shape := ⟨2, ![128, 2048]⟩
abbrev S32x2048 : Shape := ⟨2, ![32, 2048]⟩
abbrev S128x1024 : Shape := ⟨2, ![128, 1024]⟩
abbrev S32x1024 : Shape := ⟨2, ![32, 1024]⟩
abbrev S160x1024 : Shape := ⟨2, ![160, 1024]⟩
abbrev S160 : Shape := ⟨1, ![160]⟩
abbrev S160x1 : Shape := ⟨2, ![160, 1]⟩

abbrev nBuf : Space → Nat
  | .hbm => 103
  | .vmem => 26
  | .smem => 0
  | _ => 0

abbrev bufTy : (tb : Table) → Fin (tcTables nBuf tb) → BufTy
  | .hbm, ⟨0, _⟩ => ⟨S4096x5120, .f32⟩
  | .hbm, ⟨1, _⟩ => ⟨S4096x2048, .f32⟩
  | .hbm, ⟨2, _⟩ => ⟨S3x1024, .f32⟩
  | .hbm, ⟨3, _⟩ => ⟨S31x1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S30x1024, .f32⟩
  | .hbm, ⟨20, _⟩ => ⟨S4126x1024, .f32⟩
  | .hbm, ⟨21, _⟩ => ⟨S31x1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S1x4096x1024, .f32⟩
  | .hbm, ⟨54, _⟩ => ⟨S1x4096x1024, .f32⟩
  | .hbm, ⟨55, _⟩ => ⟨S1x4096x1024, .f32⟩
  | .hbm, ⟨56, _⟩ => ⟨S1x4096x1024, .f32⟩
  | .hbm, ⟨57, _⟩ => ⟨S1x4096x1024, .f32⟩
  | .hbm, ⟨58, _⟩ => ⟨S1x4096x1024, .f32⟩
  | .hbm, ⟨59, _⟩ => ⟨S1x4096x1024, .f32⟩
  | .hbm, ⟨60, _⟩ => ⟨S1x4096x1024, .f32⟩
  | .hbm, ⟨61, _⟩ => ⟨S1x4096x1024, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1x4096x1024, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1024, .f32⟩
  | .hbm, ⟨71, _⟩ => ⟨S1x4096x1024, .f32⟩
  | .hbm, ⟨72, _⟩ => ⟨S1x4096x1024, .f32⟩
  | .hbm, ⟨73, _⟩ => ⟨S1x4096x1024, .f32⟩
  | .hbm, ⟨74, _⟩ => ⟨S1x4096x1024, .f32⟩
  | .hbm, ⟨75, _⟩ => ⟨S1x4096x1024, .f32⟩
  | .hbm, ⟨76, _⟩ => ⟨S1x4096x1024, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S1x4096x1024, .f32⟩
  | .hbm, ⟨83, _⟩ => ⟨S1x4096x1024, .f32⟩
  | .hbm, ⟨84, _⟩ => ⟨S16x4096x1024, .f32⟩
  | .hbm, ⟨85, _⟩ => ⟨S15x4096x1024, .f32⟩
  | .hbm, ⟨86, _⟩ => ⟨S31x4096x1024, .f32⟩
  | .hbm, ⟨87, _⟩ => ⟨S31x4096x1024, .f32⟩
  | .hbm, ⟨88, _⟩ => ⟨S31x4096x1024, .f32⟩
  | .hbm, ⟨89, _⟩ => ⟨S_, .f32⟩
  | .hbm, ⟨90, _⟩ => ⟨S4096x1024, .f32⟩
  | .hbm, ⟨91, _⟩ => ⟨S1x1024, .f32⟩
  | .hbm, ⟨92, _⟩ => ⟨S4096x1024, .f32⟩
  | .hbm, ⟨93, _⟩ => ⟨S4096x1024, .f32⟩
  | .hbm, ⟨94, _⟩ => ⟨S1x1024, .f32⟩
  | .hbm, ⟨95, _⟩ => ⟨S1x1024, .f32⟩
  | .hbm, ⟨96, _⟩ => ⟨S4096x5120, .bf16⟩
  | .hbm, ⟨97, _⟩ => ⟨S1x5120, .f32⟩
  | .hbm, ⟨98, _⟩ => ⟨S3x1024, .f32⟩
  | .hbm, ⟨99, _⟩ => ⟨S31x1024, .f32⟩
  | .hbm, ⟨100, _⟩ => ⟨S1x1024, .f32⟩
  | .hbm, ⟨101, _⟩ => ⟨S1x1024, .f32⟩
  | .hbm, ⟨102, _⟩ => ⟨S1x1024, .f32⟩
  | .local _ .vmem, ⟨0, _⟩ => ⟨S128x5120, .f32⟩
  | .local _ .vmem, ⟨1, _⟩ => ⟨S128x5120, .f32⟩
  | .local _ .vmem, ⟨2, _⟩ => ⟨S32x5120, .f32⟩
  | .local _ .vmem, ⟨3, _⟩ => ⟨S32x5120, .f32⟩
  | .local _ .vmem, ⟨4, _⟩ => ⟨S32x5120, .f32⟩
  | .local _ .vmem, ⟨5, _⟩ => ⟨S32x5120, .f32⟩
  | .local _ .vmem, ⟨6, _⟩ => ⟨S128x2048, .f32⟩
  | .local _ .vmem, ⟨7, _⟩ => ⟨S128x2048, .f32⟩
  | .local _ .vmem, ⟨8, _⟩ => ⟨S32x2048, .f32⟩
  | .local _ .vmem, ⟨9, _⟩ => ⟨S32x2048, .f32⟩
  | .local _ .vmem, ⟨10, _⟩ => ⟨S128x1024, .f32⟩
  | .local _ .vmem, ⟨11, _⟩ => ⟨S128x1024, .f32⟩
  | .local _ .vmem, ⟨12, _⟩ => ⟨S32x1024, .f32⟩
  | .local _ .vmem, ⟨13, _⟩ => ⟨S32x1024, .f32⟩
  | .local _ .vmem, ⟨14, _⟩ => ⟨S3x1024, .f32⟩
  | .local _ .vmem, ⟨15, _⟩ => ⟨S31x1024, .f32⟩
  | .local _ .vmem, ⟨16, _⟩ => ⟨S1x1024, .f32⟩
  | .local _ .vmem, ⟨17, _⟩ => ⟨S1x1024, .f32⟩
  | .local _ .vmem, ⟨18, _⟩ => ⟨S128x5120, .bf16⟩
  | .local _ .vmem, ⟨19, _⟩ => ⟨S128x5120, .bf16⟩
  | .local _ .vmem, ⟨20, _⟩ => ⟨S1x5120, .f32⟩
  | .local _ .vmem, ⟨21, _⟩ => ⟨S3x1024, .f32⟩
  | .local _ .vmem, ⟨22, _⟩ => ⟨S31x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_cst_2 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85_0 : Ref sig .tc := ⟨.hbm, 96, rfl⟩
abbrev main_v85_1 : Ref sig .tc := ⟨.hbm, 97, rfl⟩
abbrev main_v85_2 : Ref sig .tc := ⟨.hbm, 98, rfl⟩
abbrev main_v85_3 : Ref sig .tc := ⟨.hbm, 99, rfl⟩
abbrev main_v85_4 : Ref sig .tc := ⟨.hbm, 100, rfl⟩
abbrev main_v85_5 : Ref sig .tc := ⟨.hbm, 101, rfl⟩
abbrev main_v85_6 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg17_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem16_0 : DmaSem sig := 24
abbrev cc0_sem17_0 : DmaSem sig := 25

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c127_i32 : BitVec 32 := 127#32
  let v2 : BitVec 32 := Scalar.minsi v1 c127_i32
  let c0_i32 : BitVec 32 := 0#32
  let c0_i32_0 : BitVec 32 := 0#32
  ![v2.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x5120 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S31x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x5120 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x5120 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S3x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S31x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]
-- ==== ReferenceIdeal.lean ====
abbrev S4096x5120 : Shape := ⟨2, ![4096, 5120]⟩
abbrev S4096x2048 : Shape := ⟨2, ![4096, 2048]⟩
abbrev S3x1024 : Shape := ⟨2, ![3, 1024]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S3x1x1024 : Shape := ⟨3, ![3, 1, 1024]⟩
abbrev S1x4096x1024 : Shape := ⟨3, ![1, 4096, 1024]⟩
abbrev S3x4096x1024 : Shape := ⟨3, ![3, 4096, 1024]⟩
abbrev S30x1024 : Shape := ⟨2, ![30, 1024]⟩
abbrev S4126x1024 : Shape := ⟨2, ![4126, 1024]⟩
abbrev S31x1x1024 : Shape := ⟨3, ![31, 1, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S1x1024 : Shape := ⟨2, ![1, 1024]⟩
abbrev S4096 : Shape := ⟨1, ![4096]⟩
abbrev S4096x1 : Shape := ⟨2, ![4096, 1]⟩
abbrev S5120 : Shape := ⟨1, ![5120]⟩
abbrev S1x5120 : Shape := ⟨2, ![1, 5120]⟩

abbrev nBuf : Space → Nat
  | .hbm => 437
  | .vmem => 0
  | .smem => 0
  | _ => 0

abbrev hbmTy0_0 (i : Nat) : BufTy := match i % 128 with
  | 0 => ⟨S4096x5120, .f32⟩
  | 1 => ⟨S4096x2048, .f32⟩
  | 2 => ⟨S3x1024, .f32⟩
  | 3 => ⟨S31x1024, .f32⟩
  | 4 => ⟨S1024, .f32⟩
  | 5 => ⟨S1024, .f32⟩
  | 6 => ⟨S1024, .f32⟩
  | 7 => ⟨S4096x1024, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S_, .f32⟩
  | 14 => ⟨S2x1024, .f32⟩
  | 15 => ⟨S4098x1024, .f32⟩
  | 16 => ⟨S_, .f32⟩
  | 17 => ⟨S2x1024, .f32⟩
  | 18 => ⟨S3x1x1024, .f32⟩
  | 19 => ⟨S4096x1024, .f32⟩
  | 20 => ⟨S4096x1024, .f32⟩
  | 21 => ⟨S4096x1024, .f32⟩
  | 22 => ⟨S1x4096x1024, .f32⟩
  | 23 => ⟨S1x4096x1024, .f32⟩
  | 24 => ⟨S1x4096x1024, .f32⟩
  | 25 => ⟨S3x4096x1024, .f32⟩
  | 26 => ⟨S3x4096x1024, .f32⟩
  | 27 => ⟨S3x4096x1024, .f32⟩
  | 28 => ⟨S_, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S30x1024, .f32⟩
  | 46 => ⟨S4126x1024, .f32⟩
  | 47 => ⟨S_, .f32⟩
  | 48 => ⟨S30x1024, .f32⟩
  | 49 => ⟨S31x1x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x1024, .f32⟩
  | 109 => ⟨S1x4096x1024, .f32⟩
  | 110 => ⟨S1x4096x1024, .f32⟩
  | 111 => ⟨S1x4096x1024, .f32⟩
  | 112 => ⟨S16x4096x1024, .f32⟩
  | 113 => ⟨S15x4096x1024, .f32⟩
  | 114 => ⟨S31x4096x1024, .f32⟩
  | 115 => ⟨S31x4096x1024, .f32⟩
  | 116 => ⟨S31x4096x1024, .f32⟩
  | 117 => ⟨S_, .f32⟩
  | 118 => ⟨S4096x1024, .f32⟩
  | 119 => ⟨S1x1024, .f32⟩
  | 120 => ⟨S4096x1024, .f32⟩
  | 121 => ⟨S4096x1024, .f32⟩
  | 122 => ⟨S_, .f32⟩
  | 123 => ⟨S4096, .f32⟩
  | 124 => ⟨S4096x1, .f32⟩
  | 125 => ⟨S_, .f32⟩
  | 126 => ⟨S4096x1, .f32⟩
  | 127 => ⟨S4096x1, .f32⟩
  | _ => ⟨S4096x5120, .f32⟩

abbrev hbmTy0_1 (i : Nat) : BufTy := match i % 128 with
  | 0 => ⟨S4096x1024, .f32⟩
  | 1 => ⟨S4096x1024, .f32⟩
  | 2 => ⟨S4096x1024, .f32⟩
  | 3 => ⟨S_, .f32⟩
  | 4 => ⟨S4096, .f32⟩
  | 5 => ⟨S4096x1, .f32⟩
  | 6 => ⟨S_, .f32⟩
  | 7 => ⟨S4096x1, .f32⟩
  | 8 => ⟨S4096x1, .f32⟩
  | 9 => ⟨S_, .f32⟩
  | 10 => ⟨S4096x1, .f32⟩
  | 11 => ⟨S4096x1, .f32⟩
  | 12 => ⟨S4096x1, .f32⟩
  | 13 => ⟨S4096x1, .f32⟩
  | 14 => ⟨S_, .f32⟩
  | 15 => ⟨S4096x1, .f32⟩
  | 16 => ⟨S4096x1, .f32⟩
  | 17 => ⟨S4096x1024, .f32⟩
  | 18 => ⟨S4096x1024, .f32⟩
  | 19 => ⟨S1x1024, .f32⟩
  | 20 => ⟨S4096x1024, .f32⟩
  | 21 => ⟨S4096x1024, .f32⟩
  | 22 => ⟨S1x1024, .f32⟩
  | 23 => ⟨S4096x1024, .f32⟩
  | 24 => ⟨S4096x1024, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S_, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x2048, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S_, .f32⟩
  | 46 => ⟨S1024, .f32⟩
  | 47 => ⟨S1x1024, .f32⟩
  | 48 => ⟨S_, .f32⟩
  | 49 => ⟨S1024, .f32⟩
  | 50 => ⟨S4096x1024, .f32⟩
  | 51 => ⟨S_, .f32⟩
  | 52 => ⟨S1024, .f32⟩
  | 53 => ⟨S1x1024, .f32⟩
  | 54 => ⟨S4096x1024, .f32⟩
  | 55 => ⟨S4096x1024, .f32⟩
  | 56 => ⟨S_, .f32⟩
  | 57 => ⟨S1024, .f32⟩
  | 58 => ⟨S4096x1024, .f32⟩
  | 59 => ⟨S_, .f32⟩
  | 60 => ⟨S4096, .f32⟩
  | 61 => ⟨S4096x1, .f32⟩
  | 62 => ⟨S4096x1024, .f32⟩
  | 63 => ⟨S4096x1024, .f32⟩
  | 64 => ⟨S4096x1, .f32⟩
  | 65 => ⟨S_, .f32⟩
  | 66 => ⟨S4096x1, .f32⟩
  | 67 => ⟨S4096x1, .f32⟩
  | 68 => ⟨S_, .f32⟩
  | 69 => ⟨S4096, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S_, .f32⟩
  | 77 => ⟨S4096, .f32⟩
  | 78 => ⟨S4096x1, .f32⟩
  | 79 => ⟨S_, .f32⟩
  | 80 => ⟨S4096x1, .f32⟩
  | 81 => ⟨S4096x1, .f32⟩
  | 82 => ⟨S_, .f32⟩
  | 83 => ⟨S4096, .f32⟩
  | 84 => ⟨S4096x1024, .f32⟩
  | 85 => ⟨S4096x1024, .f32⟩
  | 86 => ⟨S_, .f32⟩
  | 87 => ⟨S1024, .f32⟩
  | 88 => ⟨S1x1024, .f32⟩
  | 89 => ⟨S_, .f32⟩
  | 90 => ⟨S1024, .f32⟩
  | 91 => ⟨S31x4096x1024, .f32⟩
  | 92 => ⟨S31x4096x1024, .f32⟩
  | 93 => ⟨S31x4096x1024, .f32⟩
  | 94 => ⟨S31x4096x1024, .f32⟩
  | 95 => ⟨S_, .f32⟩
  | 96 => ⟨S31x1024, .f32⟩
  | 97 => ⟨S31x1x1024, .f32⟩
  | 98 => ⟨S1x4096x1024, .f32⟩
  | 99 => ⟨S4096x1024, .f32⟩
  | 100 => ⟨S1x4096x1024, .f32⟩
  | 101 => ⟨S4096x1024, .f32⟩
  | 102 => ⟨S1x4096x1024, .f32⟩
  | 103 => ⟨S4096x1024, .f32⟩
  | 104 => ⟨S1x4096x1024, .f32⟩
  | 105 => ⟨S4096x1024, .f32⟩
  | 106 => ⟨S1x4096x1024, .f32⟩
  | 107 => ⟨S4096x1024, .f32⟩
  | 108 => ⟨S1x4096x1024, .f32⟩
  | 109 => ⟨S4096x1024, .f32⟩
  | 110 => ⟨S1x4096x1024, .f32⟩
  | 111 => ⟨S4096x1024, .f32⟩
  | 112 => ⟨S1x4096x1024, .f32⟩
  | 113 => ⟨S4096x1024, .f32⟩
  | 114 => ⟨S1x4096x1024, .f32⟩
  | 115 => ⟨S4096x1024, .f32⟩
  | 116 => ⟨S1x4096x1024, .f32⟩
  | 117 => ⟨S4096x1024, .f32⟩
  | 118 => ⟨S1x4096x1024, .f32⟩
  | 119 => ⟨S4096x1024, .f32⟩
  | 120 => ⟨S1x4096x1024, .f32⟩
  | 121 => ⟨S4096x1024, .f32⟩
  | 122 => ⟨S1x4096x1024, .f32⟩
  | 123 => ⟨S4096x1024, .f32⟩
  | 124 => ⟨S1x4096x1024, .f32⟩
  | 125 => ⟨S4096x1024, .f32⟩
  | 126 => ⟨S1x4096x1024, .f32⟩
  | 127 => ⟨S4096x1024, .f32⟩
  | _ => ⟨S4096x5120, .f32⟩

abbrev hbmTy0_2 (i : Nat) : BufTy := match i % 128 with
  | 0 => ⟨S1x4096x1024, .f32⟩
  | 1 => ⟨S4096x1024, .f32⟩
  | 2 => ⟨S1x4096x1024, .f32⟩
  | 3 => ⟨S4096x1024, .f32⟩
  | 4 => ⟨S1x4096x1024, .f32⟩
  | 5 => ⟨S4096x1024, .f32⟩
  | 6 => ⟨S1x4096x1024, .f32⟩
  | 7 => ⟨S4096x1024, .f32⟩
  | 8 => ⟨S1x4096x1024, .f32⟩
  | 9 => ⟨S4096x1024, .f32⟩
  | 10 => ⟨S1x4096x1024, .f32⟩
  | 11 => ⟨S4096x1024, .f32⟩
  | 12 => ⟨S1x4096x1024, .f32⟩
  | 13 => ⟨S4096x1024, .f32⟩
  | 14 => ⟨S1x4096x1024, .f32⟩
  | 15 => ⟨S4096x1024, .f32⟩
  | 16 => ⟨S1x4096x1024, .f32⟩
  | 17 => ⟨S4096x1024, .f32⟩
  | 18 => ⟨S1x4096x1024, .f32⟩
  | 19 => ⟨S4096x1024, .f32⟩
  | 20 => ⟨S1x4096x1024, .f32⟩
  | 21 => ⟨S4096x1024, .f32⟩
  | 22 => ⟨S1x4096x1024, .f32⟩
  | 23 => ⟨S4096x1024, .f32⟩
  | 24 => ⟨S1x4096x1024, .f32⟩
  | 25 => ⟨S4096x1024, .f32⟩
  | 26 => ⟨S1x4096x1024, .f32⟩
  | 27 => ⟨S4096x1024, .f32⟩
  | 28 => ⟨S1x4096x1024, .f32⟩
  | 29 => ⟨S4096x1024, .f32⟩
  | 30 => ⟨S1x4096x1024, .f32⟩
  | 31 => ⟨S4096x1024, .f32⟩
  | 32 => ⟨S_, .f32⟩
  | 33 => ⟨S4126x1024, .f32⟩
  | 34 => ⟨S_, .f32⟩
  | 35 => ⟨S4126x1024, .f32⟩
  | 36 => ⟨S4126x1024, .f32⟩
  | 37 => ⟨S_, .f32⟩
  | 38 => ⟨S4126x1024, .f32⟩
  | 39 => ⟨S4126x1024, .f32⟩
  | 40 => ⟨S_, .f32⟩
  | 41 => ⟨S4126x1024, .f32⟩
  | 42 => ⟨S4126x1024, .f32⟩
  | 43 => ⟨S_, .f32⟩
  | 44 => ⟨S4126x1024, .f32⟩
  | 45 => ⟨S4126x1024, .f32⟩
  | 46 => ⟨S_, .f32⟩
  | 47 => ⟨S4126x1024, .f32⟩
  | 48 => ⟨S4126x1024, .f32⟩
  | 49 => ⟨S_, .f32⟩
  | 50 => ⟨S4126x1024, .f32⟩
  | 51 => ⟨S4126x1024, .f32⟩
  | 52 => ⟨S_, .f32⟩
  | 53 => ⟨S4126x1024, .f32⟩
  | 54 => ⟨S4126x1024, .f32⟩
  | 55 => ⟨S_, .f32⟩
  | 56 => ⟨S4126x1024, .f32⟩
  | 57 => ⟨S4126x1024, .f32⟩
  | 58 => ⟨S_, .f32⟩
  | 59 => ⟨S4126x1024, .f32⟩
  | 60 => ⟨S4126x1024, .f32⟩
  | 61 => ⟨S_, .f32⟩
  | 62 => ⟨S4126x1024, .f32⟩
  | 63 => ⟨S4126x1024, .f32⟩
  | 64 => ⟨S_, .f32⟩
  | 65 => ⟨S4126x1024, .f32⟩
  | 66 => ⟨S4126x1024, .f32⟩
  | 67 => ⟨S_, .f32⟩
  | 68 => ⟨S4126x1024, .f32⟩
  | 69 => ⟨S4126x1024, .f32⟩
  | 70 => ⟨S_, .f32⟩
  | 71 => ⟨S4126x1024, .f32⟩
  | 72 => ⟨S4126x1024, .f32⟩
  | 73 => ⟨S_, .f32⟩
  | 74 => ⟨S4126x1024, .f32⟩
  | 75 => ⟨S4126x1024, .f32⟩
  | 76 => ⟨S_, .f32⟩
  | 77 => ⟨S4126x1024, .f32⟩
  | 78 => ⟨S4126x1024, .f32⟩
  | 79 => ⟨S_, .f32⟩
  | 80 => ⟨S4126x1024, .f32⟩
  | 81 => ⟨S4126x1024, .f32⟩
  | 82 => ⟨S_, .f32⟩
  | 83 => ⟨S4126x1024, .f32⟩
  | 84 => ⟨S4126x1024, .f32⟩
  | 85 => ⟨S_, .f32⟩
  | 86 => ⟨S4126x1024, .f32⟩
  | 87 => ⟨S4126x1024, .f32⟩
  | 88 => ⟨S_, .f32⟩
  | 89 => ⟨S4126x1024, .f32⟩
  | 90 => ⟨S4126x1024, .f32⟩
  | 91 => ⟨S_, .f32⟩
  | 92 => ⟨S4126x1024, .f32⟩
  | 93 => ⟨S4126x1024, .f32⟩
  | 94 => ⟨S_, .f32⟩
  | 95 => ⟨S4126x1024, .f32⟩
  | 96 => ⟨S4126x1024, .f32⟩
  | 97 => ⟨S_, .f32⟩
  | 98 => ⟨S4126x1024, .f32⟩
  | 99 => ⟨S4126x1024, .f32⟩
  | 100 => ⟨S_, .f32⟩
  | 101 => ⟨S4126x1024, .f32⟩
  | 102 => ⟨S4126x1024, .f32⟩
  | 103 => ⟨S_, .f32⟩
  | 104 => ⟨S4126x1024, .f32⟩
  | 105 => ⟨S4126x1024, .f32⟩
  | 106 => ⟨S_, .f32⟩
  | 107 => ⟨S4126x1024, .f32⟩
  | 108 => ⟨S4126x1024, .f32⟩
  | 109 => ⟨S_, .f32⟩
  | 110 => ⟨S4126x1024, .f32⟩
  | 111 => ⟨S4126x1024, .f32⟩
  | 112 => ⟨S_, .f32⟩
  | 113 => ⟨S4126x1024, .f32⟩
  | 114 => ⟨S4126x1024, .f32⟩
  | 115 => ⟨S_, .f32⟩
  | 116 => ⟨S4126x1024, .f32⟩
  | 117 => ⟨S4126x1024, .f32⟩
  | 118 => ⟨S_, .f32⟩
  | 119 => ⟨S4126x1024, .f32⟩
  | 120 => ⟨S4126x1024, .f32⟩
  | 121 => ⟨S_, .f32⟩
  | 122 => ⟨S4126x1024, .f32⟩
  | 123 => ⟨S4126x1024, .f32⟩
  | 124 => ⟨S_, .f32⟩
  | 125 => ⟨S31x1024, .f32⟩
  | 126 => ⟨S30x1024, .f32⟩
  | 127 => ⟨S4096x1024, .f32⟩
  | _ => ⟨S4096x5120, .f32⟩

abbrev hbmTy0_3 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S3x4096x1024, .f32⟩
  | 6 => ⟨S3x4096x1024, .f32⟩
  | 7 => ⟨S3x4096x1024, .f32⟩
  | 8 => ⟨S3x4096x1024, .f32⟩
  | 9 => ⟨S_, .f32⟩
  | 10 => ⟨S3x1024, .f32⟩
  | 11 => ⟨S3x1x1024, .f32⟩
  | 12 => ⟨S1x4096x1024, .f32⟩
  | 13 => ⟨S4096x1024, .f32⟩
  | 14 => ⟨S1x4096x1024, .f32⟩
  | 15 => ⟨S4096x1024, .f32⟩
  | 16 => ⟨S1x4096x1024, .f32⟩
  | 17 => ⟨S4096x1024, .f32⟩
  | 18 => ⟨S_, .f32⟩
  | 19 => ⟨S4098x1024, .f32⟩
  | 20 => ⟨S_, .f32⟩
  | 21 => ⟨S4098x1024, .f32⟩
  | 22 => ⟨S4098x1024, .f32⟩
  | 23 => ⟨S_, .f32⟩
  | 24 => ⟨S4098x1024, .f32⟩
  | 25 => ⟨S4098x1024, .f32⟩
  | 26 => ⟨S_, .f32⟩
  | 27 => ⟨S3x1024, .f32⟩
  | 28 => ⟨S2x1024, .f32⟩
  | 29 => ⟨S4096x1024, .f32⟩
  | 30 => ⟨S4096x1024, .f32⟩
  | 31 => ⟨S4096x1024, .f32⟩
  | 32 => ⟨S_, .f32⟩
  | 33 => ⟨S4096x5120, .f32⟩
  | 34 => ⟨S_, .f32⟩
  | 35 => ⟨S4096x5120, .f32⟩
  | 36 => ⟨S4096x5120, .f32⟩
  | 37 => ⟨S_, .f32⟩
  | 38 => ⟨S4096x5120, .f32⟩
  | 39 => ⟨S4096x5120, .f32⟩
  | 40 => ⟨S_, .f32⟩
  | 41 => ⟨S4096x5120, .f32⟩
  | 42 => ⟨S4096x5120, .f32⟩
  | 43 => ⟨S_, .f32⟩
  | 44 => ⟨S4096x5120, .f32⟩
  | 45 => ⟨S4096x5120, .f32⟩
  | 46 => ⟨S4096x5120, .bf16⟩
  | 47 => ⟨S_, .f32⟩
  | 48 => ⟨S5120, .f32⟩
  | 49 => ⟨S1x5120, .f32⟩
  | 50 => ⟨S1x1024, .f32⟩
  | 51 => ⟨S1x1024, .f32⟩
  | 52 => ⟨S1x1024, .f32⟩
  | _ => ⟨S4096x5120, .f32⟩

abbrev hbmTy (i : Nat) : BufTy := match i / 128 with
  | 0 => hbmTy0_0 i
  | 1 => hbmTy0_1 i
  | 2 => hbmTy0_2 i
  | 3 => hbmTy0_3 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_cst_7 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_cst_8 : Ref sig .tc := ⟨.hbm, 122, rfl⟩
abbrev main_v106 : Ref sig .tc := ⟨.hbm, 123, rfl⟩
abbrev main_v107 : Ref sig .tc := ⟨.hbm, 124, rfl⟩
abbrev main_cst_9 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_cst_10 : Ref sig .tc := ⟨.hbm, 131, rfl⟩
abbrev main_v113 : Ref sig .tc := ⟨.hbm, 132, rfl⟩
abbrev main_v114 : Ref sig .tc := ⟨.hbm, 133, rfl⟩
abbrev main_cst_11 : Ref sig .tc := ⟨.hbm, 134, rfl⟩
abbrev main_v115 : Ref sig .tc := ⟨.hbm, 135, rfl⟩
abbrev main_v116 : Ref sig .tc := ⟨.hbm, 136, rfl⟩
abbrev main_cst_12 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_cst_13 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_call0_v0 : Ref sig .tc := ⟨.hbm, 153, rfl⟩
abbrev main_call0_v1 : Ref sig .tc := ⟨.hbm, 154, rfl⟩
abbrev main_call0_cst : Ref sig .tc := ⟨.hbm, 155, rfl⟩
abbrev main_call0_v2 : Ref sig .tc := ⟨.hbm, 156, rfl⟩
abbrev main_call0_v3 : Ref sig .tc := ⟨.hbm, 157, rfl⟩
abbrev main_call0_cst_0 : Ref sig .tc := ⟨.hbm, 158, rfl⟩
abbrev main_call0_v4 : Ref sig .tc := ⟨.hbm, 159, rfl⟩
abbrev main_v131_2 : Ref sig .tc := ⟨.hbm, 160, rfl⟩
abbrev main_call0_cst_1 : Ref sig .tc := ⟨.hbm, 161, rfl⟩
abbrev main_call0_v6 : Ref sig .tc := ⟨.hbm, 162, rfl⟩
abbrev main_call0_v7 : Ref sig .tc := ⟨.hbm, 163, rfl⟩
abbrev main_v131_1 : Ref sig .tc := ⟨.hbm, 164, rfl⟩
abbrev main_v131_0 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_call1_v0 : Ref sig .tc := ⟨.hbm, 169, rfl⟩
abbrev main_call1_v1 : Ref sig .tc := ⟨.hbm, 170, rfl⟩
abbrev main_call1_v2 : Ref sig .tc := ⟨.hbm, 171, rfl⟩
abbrev main_v135 : Ref sig .tc := ⟨.hbm, 172, rfl⟩
abbrev main_cst_14 : Ref sig .tc := ⟨.hbm, 173, rfl⟩
abbrev main_v136 : Ref sig .tc := ⟨.hbm, 174, rfl⟩
abbrev main_v137 : Ref sig .tc := ⟨.hbm, 175, rfl⟩
abbrev main_cst_15 : Ref sig .tc := ⟨.hbm, 176, rfl⟩
abbrev main_v138 : Ref sig .tc := ⟨.hbm, 177, rfl⟩
abbrev main_v139 : Ref sig .tc := ⟨.hbm, 178, rfl⟩
abbrev main_cst_16 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_cst_17 : Ref sig .tc := ⟨.hbm, 184, rfl⟩
abbrev main_v144 : Ref sig .tc := ⟨.hbm, 185, rfl⟩
abbrev main_v145 : Ref sig .tc := ⟨.hbm, 186, rfl⟩
abbrev main_cst_18 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_cst_19 : Ref sig .tc := ⟨.hbm, 193, rfl⟩
abbrev main_v151 : Ref sig .tc := ⟨.hbm, 194, rfl⟩
abbrev main_v152 : Ref sig .tc := ⟨.hbm, 195, rfl⟩
abbrev main_cst_20 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_cst_21 : Ref sig .tc := ⟨.hbm, 204, rfl⟩
abbrev main_v160 : Ref sig .tc := ⟨.hbm, 205, rfl⟩
abbrev main_v161 : Ref sig .tc := ⟨.hbm, 206, rfl⟩
abbrev main_cst_22 : Ref sig .tc := ⟨.hbm, 207, rfl⟩
abbrev main_v162 : Ref sig .tc := ⟨.hbm, 208, rfl⟩
abbrev main_v163 : Ref sig .tc := ⟨.hbm, 209, rfl⟩
abbrev main_cst_23 : Ref sig .tc := ⟨.hbm, 210, rfl⟩
abbrev main_v164 : Ref sig .tc := ⟨.hbm, 211, rfl⟩
abbrev main_v165 : Ref sig .tc := ⟨.hbm, 212, rfl⟩
abbrev main_v166 : Ref sig .tc := ⟨.hbm, 213, rfl⟩
abbrev main_cst_24 : Ref sig .tc := ⟨.hbm, 214, rfl⟩
abbrev main_v167 : Ref sig .tc := ⟨.hbm, 215, rfl⟩
abbrev main_v168 : Ref sig .tc := ⟨.hbm, 216, rfl⟩
abbrev main_cst_25 : Ref sig .tc := ⟨.hbm, 217, rfl⟩
abbrev main_v169 : Ref sig .tc := ⟨.hbm, 218, rfl⟩
abbrev main_v170 : Ref sig .tc := ⟨.hbm, 219, rfl⟩
abbrev main_v171 : Ref sig .tc := ⟨.hbm, 220, rfl⟩
abbrev main_v172 : Ref sig .tc := ⟨.hbm, 221, rfl⟩
abbrev main_v173 : Ref sig .tc := ⟨.hbm, 222, rfl⟩
abbrev main_cst_26 : Ref sig .tc := ⟨.hbm, 223, rfl⟩
abbrev main_v174 : Ref sig .tc := ⟨.hbm, 224, rfl⟩
abbrev main_v175 : Ref sig .tc := ⟨.hbm, 225, rfl⟩
abbrev main_v176 : Ref sig .tc := ⟨.hbm, 226, rfl⟩
abbrev main_v177 : Ref sig .tc := ⟨.hbm, 227, rfl⟩
abbrev main_v178 : Ref sig .tc := ⟨.hbm, 228, rfl⟩
abbrev main_v179 : Ref sig .tc := ⟨.hbm, 229, rfl⟩
abbrev main_v180 : Ref sig .tc := ⟨.hbm, 230, rfl⟩
abbrev main_v181 : Ref sig .tc := ⟨.hbm, 231, rfl⟩
abbrev main_v182 : Ref sig .tc := ⟨.hbm, 232, rfl⟩
abbrev main_v183 : Ref sig .tc := ⟨.hbm, 233, rfl⟩
abbrev main_v184 : Ref sig .tc := ⟨.hbm, 234, rfl⟩
abbrev main_v185 : Ref sig .tc := ⟨.hbm, 235, rfl⟩
abbrev main_v186 : Ref sig .tc := ⟨.hbm, 236, rfl⟩
abbrev main_v187 : Ref sig .tc := ⟨.hbm, 237, rfl⟩
abbrev main_v188 : Ref sig .tc := ⟨.hbm, 238, rfl⟩
abbrev main_v189 : Ref sig .tc := ⟨.hbm, 239, rfl⟩
abbrev main_v190 : Ref sig .tc := ⟨.hbm, 240, rfl⟩
abbrev main_v191 : Ref sig .tc := ⟨.hbm, 241, rfl⟩
abbrev main_v192 : Ref sig .tc := ⟨.hbm, 242, rfl⟩
abbrev main_v193 : Ref sig .tc := ⟨.hbm, 243, rfl⟩
abbrev main_v194 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_v199 : Ref sig .tc := ⟨.hbm, 249, rfl⟩
abbrev main_v200 : Ref sig .tc := ⟨.hbm, 250, rfl⟩
abbrev main_v201 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_v211 : Ref sig .tc := ⟨.hbm, 261, rfl⟩
abbrev main_v212 : Ref sig .tc := ⟨.hbm, 262, rfl⟩
abbrev main_v213 : Ref sig .tc := ⟨.hbm, 263, rfl⟩
abbrev main_v214 : Ref sig .tc := ⟨.hbm, 264, rfl⟩
abbrev main_v215 : Ref sig .tc := ⟨.hbm, 265, rfl⟩
abbrev main_v216 : Ref sig .tc := ⟨.hbm, 266, rfl⟩
abbrev main_v217 : Ref sig .tc := ⟨.hbm, 267, rfl⟩
abbrev main_v218 : Ref sig .tc := ⟨.hbm, 268, rfl⟩
abbrev main_v219 : Ref sig .tc := ⟨.hbm, 269, rfl⟩
abbrev main_v220 : Ref sig .tc := ⟨.hbm, 270, rfl⟩
abbrev main_v221 : Ref sig .tc := ⟨.hbm, 271, rfl⟩
abbrev main_v222 : Ref sig .tc := ⟨.hbm, 272, rfl⟩
abbrev main_v223 : Ref sig .tc := ⟨.hbm, 273, rfl⟩
abbrev main_v224 : Ref sig .tc := ⟨.hbm, 274, rfl⟩
abbrev main_v225 : Ref sig .tc := ⟨.hbm, 275, rfl⟩
abbrev main_v226 : Ref sig .tc := ⟨.hbm, 276, rfl⟩
abbrev main_v227 : Ref sig .tc := ⟨.hbm, 277, rfl⟩
abbrev main_v228 : Ref sig .tc := ⟨.hbm, 278, rfl⟩
abbrev main_v229 : Ref sig .tc := ⟨.hbm, 279, rfl⟩
abbrev main_v230 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_cst_27 : Ref sig .tc := ⟨.hbm, 288, rfl⟩
abbrev main_v238 : Ref sig .tc := ⟨.hbm, 289, rfl⟩
abbrev main_cst_28 : Ref sig .tc := ⟨.hbm, 290, rfl⟩
abbrev main_v239 : Ref sig .tc := ⟨.hbm, 291, rfl⟩
abbrev main_v240 : Ref sig .tc := ⟨.hbm, 292, rfl⟩
abbrev main_cst_29 : Ref sig .tc := ⟨.hbm, 293, rfl⟩
abbrev main_v241 : Ref sig .tc := ⟨.hbm, 294, rfl⟩
abbrev main_v242 : Ref sig .tc := ⟨.hbm, 295, rfl⟩
abbrev main_cst_30 : Ref sig .tc := ⟨.hbm, 296, rfl⟩
abbrev main_v243 : Ref sig .tc := ⟨.hbm, 297, rfl⟩
abbrev main_v244 : Ref sig .tc := ⟨.hbm, 298, rfl⟩
abbrev main_cst_31 : Ref sig .tc := ⟨.hbm, 299, rfl⟩
abbrev main_v245 : Ref sig .tc := ⟨.hbm, 300, rfl⟩
abbrev main_v246 : Ref sig .tc := ⟨.hbm, 301, rfl⟩
abbrev main_cst_32 : Ref sig .tc := ⟨.hbm, 302, rfl⟩
abbrev main_v247 : Ref sig .tc := ⟨.hbm, 303, rfl⟩
abbrev main_v248 : Ref sig .tc := ⟨.hbm, 304, rfl⟩
abbrev main_cst_33 : Ref sig .tc := ⟨.hbm, 305, rfl⟩
abbrev main_v249 : Ref sig .tc := ⟨.hbm, 306, rfl⟩
abbrev main_v250 : Ref sig .tc := ⟨.hbm, 307, rfl⟩
abbrev main_cst_34 : Ref sig .tc := ⟨.hbm, 308, rfl⟩
abbrev main_v251 : Ref sig .tc := ⟨.hbm, 309, rfl⟩
abbrev main_v252 : Ref sig .tc := ⟨.hbm, 310, rfl⟩
abbrev main_cst_35 : Ref sig .tc := ⟨.hbm, 311, rfl⟩
abbrev main_v253 : Ref sig .tc := ⟨.hbm, 312, rfl⟩
abbrev main_v254 : Ref sig .tc := ⟨.hbm, 313, rfl⟩
abbrev main_cst_36 : Ref sig .tc := ⟨.hbm, 314, rfl⟩
abbrev main_v255 : Ref sig .tc := ⟨.hbm, 315, rfl⟩
abbrev main_v256 : Ref sig .tc := ⟨.hbm, 316, rfl⟩
abbrev main_cst_37 : Ref sig .tc := ⟨.hbm, 317, rfl⟩
abbrev main_v257 : Ref sig .tc := ⟨.hbm, 318, rfl⟩
abbrev main_v258 : Ref sig .tc := ⟨.hbm, 319, rfl⟩
abbrev main_cst_38 : Ref sig .tc := ⟨.hbm, 320, rfl⟩
abbrev main_v259 : Ref sig .tc := ⟨.hbm, 321, rfl⟩
abbrev main_v260 : Ref sig .tc := ⟨.hbm, 322, rfl⟩
abbrev main_cst_39 : Ref sig .tc := ⟨.hbm, 323, rfl⟩
abbrev main_v261 : Ref sig .tc := ⟨.hbm, 324, rfl⟩
abbrev main_v262 : Ref sig .tc := ⟨.hbm, 325, rfl⟩
abbrev main_cst_40 : Ref sig .tc := ⟨.hbm, 326, rfl⟩
abbrev main_v263 : Ref sig .tc := ⟨.hbm, 327, rfl⟩
abbrev main_v264 : Ref sig .tc := ⟨.hbm, 328, rfl⟩
abbrev main_cst_41 : Ref sig .tc := ⟨.hbm, 329, rfl⟩
abbrev main_v265 : Ref sig .tc := ⟨.hbm, 330, rfl⟩
abbrev main_v266 : Ref sig .tc := ⟨.hbm, 331, rfl⟩
abbrev main_cst_42 : Ref sig .tc := ⟨.hbm, 332, rfl⟩
abbrev main_v267 : Ref sig .tc := ⟨.hbm, 333, rfl⟩
abbrev main_v268 : Ref sig .tc := ⟨.hbm, 334, rfl⟩
abbrev main_cst_43 : Ref sig .tc := ⟨.hbm, 335, rfl⟩
abbrev main_v269 : Ref sig .tc := ⟨.hbm, 336, rfl⟩
abbrev main_v270 : Ref sig .tc := ⟨.hbm, 337, rfl⟩
abbrev main_cst_44 : Ref sig .tc := ⟨.hbm, 338, rfl⟩
abbrev main_v271 : Ref sig .tc := ⟨.hbm, 339, rfl⟩
abbrev main_v272 : Ref sig .tc := ⟨.hbm, 340, rfl⟩
abbrev main_cst_45 : Ref sig .tc := ⟨.hbm, 341, rfl⟩
abbrev main_v273 : Ref sig .tc := ⟨.hbm, 342, rfl⟩
abbrev main_v274 : Ref sig .tc := ⟨.hbm, 343, rfl⟩
abbrev main_cst_46 : Ref sig .tc := ⟨.hbm, 344, rfl⟩
abbrev main_v275 : Ref sig .tc := ⟨.hbm, 345, rfl⟩
abbrev main_v276 : Ref sig .tc := ⟨.hbm, 346, rfl⟩
abbrev main_cst_47 : Ref sig .tc := ⟨.hbm, 347, rfl⟩
abbrev main_v277 : Ref sig .tc := ⟨.hbm, 348, rfl⟩
abbrev main_v278 : Ref sig .tc := ⟨.hbm, 349, rfl⟩
abbrev main_cst_48 : Ref sig .tc := ⟨.hbm, 350, rfl⟩
abbrev main_v279 : Ref sig .tc := ⟨.hbm, 351, rfl⟩
abbrev main_v280 : Ref sig .tc := ⟨.hbm, 352, rfl⟩
abbrev main_cst_49 : Ref sig .tc := ⟨.hbm, 353, rfl⟩
abbrev main_v281 : Ref sig .tc := ⟨.hbm, 354, rfl⟩
abbrev main_v282 : Ref sig .tc := ⟨.hbm, 355, rfl⟩
abbrev main_cst_50 : Ref sig .tc := ⟨.hbm, 356, rfl⟩
abbrev main_v283 : Ref sig .tc := ⟨.hbm, 357, rfl⟩
abbrev main_v284 : Ref sig .tc := ⟨.hbm, 358, rfl⟩
abbrev main_cst_51 : Ref sig .tc := ⟨.hbm, 359, rfl⟩
abbrev main_v285 : Ref sig .tc := ⟨.hbm, 360, rfl⟩
abbrev main_v286 : Ref sig .tc := ⟨.hbm, 361, rfl⟩
abbrev main_cst_52 : Ref sig .tc := ⟨.hbm, 362, rfl⟩
abbrev main_v287 : Ref sig .tc := ⟨.hbm, 363, rfl⟩
abbrev main_v288 : Ref sig .tc := ⟨.hbm, 364, rfl⟩
abbrev main_cst_53 : Ref sig .tc := ⟨.hbm, 365, rfl⟩
abbrev main_v289 : Ref sig .tc := ⟨.hbm, 366, rfl⟩
abbrev main_v290 : Ref sig .tc := ⟨.hbm, 367, rfl⟩
abbrev main_cst_54 : Ref sig .tc := ⟨.hbm, 368, rfl⟩
abbrev main_v291 : Ref sig .tc := ⟨.hbm, 369, rfl⟩
abbrev main_v292 : Ref sig .tc := ⟨.hbm, 370, rfl⟩
abbrev main_cst_55 : Ref sig .tc := ⟨.hbm, 371, rfl⟩
abbrev main_v293 : Ref sig .tc := ⟨.hbm, 372, rfl⟩
abbrev main_v294 : Ref sig .tc := ⟨.hbm, 373, rfl⟩
abbrev main_cst_56 : Ref sig .tc := ⟨.hbm, 374, rfl⟩
abbrev main_v295 : Ref sig .tc := ⟨.hbm, 375, rfl⟩
abbrev main_v296 : Ref sig .tc := ⟨.hbm, 376, rfl⟩
abbrev main_cst_57 : Ref sig .tc := ⟨.hbm, 377, rfl⟩
abbrev main_v297 : Ref sig .tc := ⟨.hbm, 378, rfl⟩
abbrev main_v298 : Ref sig .tc := ⟨.hbm, 379, rfl⟩
abbrev main_cst_58 : Ref sig .tc := ⟨.hbm, 380, rfl⟩
abbrev main_v299 : Ref sig .tc := ⟨.hbm, 381, rfl⟩
abbrev main_v300 : Ref sig .tc := ⟨.hbm, 382, rfl⟩
abbrev main_v301 : Ref sig .tc := ⟨.hbm, 383, rfl⟩
abbrev main_v302 : Ref sig .tc := ⟨.hbm, 384, rfl⟩
abbrev main_v303 : Ref sig .tc := ⟨.hbm, 385, rfl⟩
abbrev main_v304 : Ref sig .tc := ⟨.hbm, 386, rfl⟩
abbrev main_v305 : Ref sig .tc := ⟨.hbm, 387, rfl⟩
abbrev main_v306 : Ref sig .tc := ⟨.hbm, 388, rfl⟩
abbrev main_v307 : Ref sig .tc := ⟨.hbm, 389, rfl⟩
abbrev main_v308 : Ref sig .tc := ⟨.hbm, 390, rfl⟩
abbrev main_v309 : Ref sig .tc := ⟨.hbm, 391, rfl⟩
abbrev main_v310 : Ref sig .tc := ⟨.hbm, 392, rfl⟩
abbrev main_cst_59 : Ref sig .tc := ⟨.hbm, 393, rfl⟩
abbrev main_v311 : Ref sig .tc := ⟨.hbm, 394, rfl⟩
abbrev main_v312 : Ref sig .tc := ⟨.hbm, 395, rfl⟩
abbrev main_v313 : Ref sig .tc := ⟨.hbm, 396, rfl⟩
abbrev main_v314 : Ref sig .tc := ⟨.hbm, 397, rfl⟩
abbrev main_v315 : Ref sig .tc := ⟨.hbm, 398, rfl⟩
abbrev main_v316 : Ref sig .tc := ⟨.hbm, 399, rfl⟩
abbrev main_v317 : Ref sig .tc := ⟨.hbm, 400, rfl⟩
abbrev main_v318 : Ref sig .tc := ⟨.hbm, 401, rfl⟩
abbrev main_cst_60 : Ref sig .tc := ⟨.hbm, 402, rfl⟩
abbrev main_v319 : Ref sig .tc := ⟨.hbm, 403, rfl⟩
abbrev main_cst_61 : Ref sig .tc := ⟨.hbm, 404, rfl⟩
abbrev main_v320 : Ref sig .tc := ⟨.hbm, 405, rfl⟩
abbrev main_v321 : Ref sig .tc := ⟨.hbm, 406, rfl⟩
abbrev main_cst_62 : Ref sig .tc := ⟨.hbm, 407, rfl⟩
abbrev main_v322 : Ref sig .tc := ⟨.hbm, 408, rfl⟩
abbrev main_v323 : Ref sig .tc := ⟨.hbm, 409, rfl⟩
abbrev main_cst_63 : Ref sig .tc := ⟨.hbm, 410, rfl⟩
abbrev main_v324 : Ref sig .tc := ⟨.hbm, 411, rfl⟩
abbrev main_v325 : Ref sig .tc := ⟨.hbm, 412, rfl⟩
abbrev main_v326 : Ref sig .tc := ⟨.hbm, 413, rfl⟩
abbrev main_v327 : Ref sig .tc := ⟨.hbm, 414, rfl⟩
abbrev main_v328 : Ref sig .tc := ⟨.hbm, 415, rfl⟩
abbrev main_cst_64 : Ref sig .tc := ⟨.hbm, 416, rfl⟩
abbrev main_v329 : Ref sig .tc := ⟨.hbm, 417, rfl⟩
abbrev main_cst_65 : Ref sig .tc := ⟨.hbm, 418, rfl⟩
abbrev main_v330 : Ref sig .tc := ⟨.hbm, 419, rfl⟩
abbrev main_v331 : Ref sig .tc := ⟨.hbm, 420, rfl⟩
abbrev main_cst_66 : Ref sig .tc := ⟨.hbm, 421, rfl⟩
abbrev main_v332 : Ref sig .tc := ⟨.hbm, 422, rfl⟩
abbrev main_v333 : Ref sig .tc := ⟨.hbm, 423, rfl⟩
abbrev main_cst_67 : Ref sig .tc := ⟨.hbm, 424, rfl⟩
abbrev main_v334 : Ref sig .tc := ⟨.hbm, 425, rfl⟩
abbrev main_v335 : Ref sig .tc := ⟨.hbm, 426, rfl⟩
abbrev main_cst_68 : Ref sig .tc := ⟨.hbm, 427, rfl⟩
abbrev main_v336 : Ref sig .tc := ⟨.hbm, 428, rfl⟩
abbrev main_v337 : Ref sig .tc := ⟨.hbm, 429, rfl⟩
abbrev main_v338 : Ref sig .tc := ⟨.hbm, 430, rfl⟩
abbrev main_cst_69 : Ref sig .tc := ⟨.hbm, 431, rfl⟩
abbrev main_v339 : Ref sig .tc := ⟨.hbm, 432, rfl⟩
abbrev main_v340 : Ref sig .tc := ⟨.hbm, 433, rfl⟩
abbrev main_v341 : Ref sig .tc := ⟨.hbm, 434, rfl⟩
abbrev main_v342 : Ref sig .tc := ⟨.hbm, 435, rfl⟩
abbrev main_v343 : Ref sig .tc := ⟨.hbm, 436, rfl⟩

abbrev nD : Nat := 1
abbrev τ : Topo := Topo.v7x

variable {F : FTy → Type} [FloatOps F]
-- ==== Kernel2.lean ====
abbrev S8x4096x704 : Shape := ⟨3, ![8, 4096, 704]⟩
abbrev S4096x2048 : Shape := ⟨2, ![4096, 2048]⟩
abbrev S8x704x2048 : Shape := ⟨3, ![8, 704, 2048]⟩
abbrev S1x2048x704 : Shape := ⟨3, ![1, 2048, 704]⟩
abbrev S2048x2048 : Shape := ⟨2, ![2048, 2048]⟩
abbrev S1x704x2048 : Shape := ⟨3, ![1, 704, 2048]⟩
abbrev S704x2048 : Shape := ⟨2, ![704, 2048]⟩
abbrev S2048x704 : Shape := ⟨2, ![2048, 704]⟩

abbrev nBuf : Space → Nat
  | .hbm => 3
  | .vmem => 7
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S2048x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S704x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v10 : BitVec 1 := Scalar.cmpi .eq arg1 c1_i32
  let v11 : BitVec 32 := Scalar.extui v10
  let c0_i32_7 : BitVec 32 := 0#32
  let v12 : BitVec 1 := Scalar.cmpi .ne v11 c0_i32_7
  v12

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8x4096x704 : Shape := ⟨3, ![8, 4096, 704]⟩
abbrev S4096x2048 : Shape := ⟨2, ![4096, 2048]⟩
abbrev S4096x8x704 : Shape := ⟨3, ![4096, 8, 704]⟩
abbrev S4096x5632 : Shape := ⟨2, ![4096, 5632]⟩
abbrev S_ : Shape := ⟨0, ![]⟩
abbrev S5632x2048 : Shape := ⟨2, ![5632, 2048]⟩
abbrev S2048x5632 : Shape := ⟨2, ![2048, 5632]⟩
abbrev S8x704x2048 : Shape := ⟨3, ![8, 704, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S4096x2048, .bf16⟩
  | .hbm, ⟨2, _⟩ => ⟨S4096x8x704, .bf16⟩
  | .hbm, ⟨3, _⟩ => ⟨S4096x5632, .bf16⟩
  | .hbm, ⟨4, _⟩ => ⟨S4096x5632, .f32⟩
  | .hbm, ⟨5, _⟩ => ⟨S4096x2048, .f32⟩
  | .hbm, ⟨6, _⟩ => ⟨S_, .f32⟩
  | .hbm, ⟨7, _⟩ => ⟨S5632x2048, .f32⟩
  | .hbm, ⟨8, _⟩ => ⟨S4096x2048, .f32⟩
  | .hbm, ⟨9, _⟩ => ⟨S2048x5632, .f32⟩
  | .hbm, ⟨10, _⟩ => ⟨S5632x2048, .f32⟩
  | .hbm, ⟨11, _⟩ => ⟨S8x704x2048, .f32⟩
  | .hbm, ⟨12, _⟩ => ⟨S8x704x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel3.lean ====
abbrev S8x4096x704 : Shape := ⟨3, ![8, 4096, 704]⟩
abbrev S8x2048x704 : Shape := ⟨3, ![8, 2048, 704]⟩
abbrev S4096x2048 : Shape := ⟨2, ![4096, 2048]⟩
abbrev S1x1024x704 : Shape := ⟨3, ![1, 1024, 704]⟩
abbrev S1x2048x704 : Shape := ⟨3, ![1, 2048, 704]⟩
abbrev S1024x2048 : Shape := ⟨2, ![1024, 2048]⟩
abbrev S1024x704 : Shape := ⟨2, ![1024, 704]⟩
abbrev S2048x704 : Shape := ⟨2, ![2048, 704]⟩

abbrev nBuf : Space → Nat
  | .hbm => 5
  | .vmem => 10
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x2048x704, .bf16⟩
  | .hbm, ⟨3, _⟩ => ⟨S8x2048x704, .bf16⟩
  | .hbm, ⟨4, _⟩ => ⟨S4096x2048, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x2048x704, .bf16⟩
  | .local _ .vmem, ⟨7, _⟩ => ⟨S1x2048x704, .bf16⟩
  | .local _ .vmem, ⟨8, _⟩ => ⟨S1024x2048, .f32⟩
  | .local _ .vmem, ⟨9, _⟩ => ⟨S1024x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v11 : BitVec 1 := Scalar.cmpi .eq arg1 c0_i32
  let v12 : BitVec 32 := Scalar.extui v11
  let c0_i32_12 : BitVec 32 := 0#32
  let v13 : BitVec 1 := Scalar.cmpi .ne v12 c0_i32_12
  v13

def k0_cond2 (i : grid0.Coords) : BitVec 1 :=
  let arg1 : BitVec 32 := BitVec.ofNat 32 (i 1).val
  let c0_i32_13 : BitVec 32 := 0#32
  let v14 : BitVec 1 := Scalar.cmpi .sgt arg1 c0_i32_13
  let v15 : BitVec 32 := Scalar.extui v14
  let c0_i32_14 : BitVec 32 := 0#32
  let v16 : BitVec 1 := Scalar.cmpi .ne v15 c0_i32_14
  v16

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S8x4096x704 : Shape := ⟨3, ![8, 4096, 704]⟩
abbrev S8x2048x704 : Shape := ⟨3, ![8, 2048, 704]⟩
abbrev S2048x8x704 : Shape := ⟨3, ![2048, 8, 704]⟩
abbrev S2048x5632 : Shape := ⟨2, ![2048, 5632]⟩
abbrev S_ : Shape := ⟨0, ![]⟩
abbrev S4096x2048 : Shape := ⟨2, ![4096, 2048]⟩
abbrev S4096x5632 : Shape := ⟨2, ![4096, 5632]⟩
abbrev S4096x8x704 : Shape := ⟨3, ![4096, 8, 704]⟩

abbrev nBuf : Space → Nat
  | .hbm => 23
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x4096x704, .bf16⟩
  | .hbm, ⟨2, _⟩ => ⟨S8x2048x704, .bf16⟩
  | .hbm, ⟨3, _⟩ => ⟨S8x2048x704, .bf16⟩
  | .hbm, ⟨4, _⟩ => ⟨S2048x8x704, .bf16⟩
  | .hbm, ⟨5, _⟩ => ⟨S2048x5632, .bf16⟩
  | .hbm, ⟨6, _⟩ => ⟨S2048x5632, .f32⟩
  | .hbm, ⟨7, _⟩ => ⟨S2048x8x704, .bf16⟩
  | .hbm, ⟨8, _⟩ => ⟨S2048x5632, .bf16⟩
  | .hbm, ⟨9, _⟩ => ⟨S2048x5632, .f32⟩
  | .hbm, ⟨10, _⟩ => ⟨S_, .f32⟩
  | .hbm, ⟨11, _⟩ => ⟨S4096x2048, .f32⟩
  | .hbm, ⟨12, _⟩ => ⟨S4096x5632, .f32⟩
  | .hbm, ⟨13, _⟩ => ⟨S4096x5632, .f32⟩
  | .hbm, ⟨14, _⟩ => ⟨S4096x8x704, .bf16⟩
  | .hbm, ⟨15, _⟩ => ⟨S4096x5632, .bf16⟩
  | .hbm, ⟨16, _⟩ => ⟨S4096x5632, .f32⟩
  | .hbm, ⟨17, _⟩ => ⟨S4096x8x704, .bf16⟩
  | .hbm, ⟨18, _⟩ => ⟨S4096x5632, .bf16⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel4.lean ====
abbrev S4096x2048 : Shape := ⟨2, ![4096, 2048]⟩
abbrev S8x704x2048 : Shape := ⟨3, ![8, 704, 2048]⟩
abbrev S8x4096x704 : Shape := ⟨3, ![8, 4096, 704]⟩
abbrev S1024x2048 : Shape := ⟨2, ![1024, 2048]⟩
abbrev S1x704x2048 : Shape := ⟨3, ![1, 704, 2048]⟩
abbrev S1x1024x704 : Shape := ⟨3, ![1, 1024, 704]⟩
abbrev S704x2048 : Shape := ⟨2, ![704, 2048]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .f32⟩
  | .hbm, ⟨3, _⟩ => ⟨S8x4096x704, .f32⟩
  | .hbm, ⟨4, _⟩ => ⟨S8x4096x704, .bf16⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x704x2048, .bf16⟩
  | .local _ .vmem, ⟨3, _⟩ => ⟨S1x704x2048, .bf16⟩
  | .local _ .vmem, ⟨4, _⟩ => ⟨S1x1024x704, .f32⟩
  | .local _ .vmem, ⟨5, _⟩ => ⟨S1x1024x704, .f32⟩
  | .local _ .vmem, ⟨6, _⟩ => ⟨S1x1024x704, .f32⟩
  | .local _ .vmem, ⟨7, _⟩ => ⟨S1x1024x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4096x2048 : Shape := ⟨2, ![4096, 2048]⟩
abbrev S8x704x2048 : Shape := ⟨3, ![8, 704, 2048]⟩
abbrev S8x4096x704 : Shape := ⟨3, ![8, 4096, 704]⟩
abbrev S5632x2048 : Shape := ⟨2, ![5632, 2048]⟩
abbrev S4096x8x704 : Shape := ⟨3, ![4096, 8, 704]⟩
abbrev S4096x5632 : Shape := ⟨2, ![4096, 5632]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x704x2048, .bf16⟩
  | .hbm, ⟨2, _⟩ => ⟨S8x4096x704, .f32⟩
  | .hbm, ⟨3, _⟩ => ⟨S8x4096x704, .f32⟩
  | .hbm, ⟨4, _⟩ => ⟨S5632x2048, .bf16⟩
  | .hbm, ⟨5, _⟩ => ⟨S5632x2048, .f32⟩
  | .hbm, ⟨6, _⟩ => ⟨S4096x8x704, .f32⟩
  | .hbm, ⟨7, _⟩ => ⟨S4096x5632, .f32⟩
  | .hbm, ⟨8, _⟩ => ⟨S4096x8x704, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S_, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .f32⟩
  | .hbm, ⟨23, _⟩ => ⟨S4096x5632, .f32⟩
  | .hbm, ⟨24, _⟩ => ⟨S4096x2048, .f32⟩
  | .hbm, ⟨25, _⟩ => ⟨S4096x2048, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .f32⟩
  | .hbm, ⟨32, _⟩ => ⟨S4096x5632, .f32⟩
  | .hbm, ⟨33, _⟩ => ⟨S4096x8x704, .f32⟩
  | .hbm, ⟨34, _⟩ => ⟨S8x4096x704, .f32⟩
  | .hbm, ⟨35, _⟩ => ⟨S8x4096x704, .bf16⟩
  | .hbm, ⟨36, _⟩ => ⟨S4096x8x704, .f32⟩
  | .hbm, ⟨37, _⟩ => ⟨S8x4096x704, .f32⟩
  | .hbm, ⟨38, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v6_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v6_1 : Ref sig .tc := ⟨.hbm, 21, rfl⟩
abbrev main_v6_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩

abbrev nD : Nat := 1
abbrev τ : Topo := Topo.v7x

variable {F : FTy → Type} [FloatOps F]
-- ==== Kernel5.lean ====
abbrev S4096x2048 : Shape := ⟨2, ![4096, 2048]⟩
abbrev S4096x6144 : Shape := ⟨2, ![4096, 6144]⟩
abbrev S8x2048x768 : Shape := ⟨3, ![8, 2048, 768]⟩
abbrev S2048x2048 : Shape := ⟨2, ![2048, 2048]⟩
abbrev S2048x768 : Shape := ⟨2, ![2048, 768]⟩
abbrev S1x2048x768 : Shape := ⟨3, ![1, 2048, 768]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S8x2048x768, .bf16⟩
  | .local _ .vmem, ⟨0, _⟩ => ⟨S2048x2048, .bf16⟩
  | .local _ .vmem, ⟨1, _⟩ => ⟨S2048x2048, .bf16⟩
  | .local _ .vmem, ⟨2, _⟩ => ⟨S2048x768, .bf16⟩
  | .local _ .vmem, ⟨3, _⟩ => ⟨S2048x768, .bf16⟩
  | .local _ .vmem, ⟨4, _⟩ => ⟨S1x2048x768, .bf16⟩
  | .local _ .vmem, ⟨5, _⟩ => ⟨S1x2048x768, .bf16⟩
  | .local _ .vmem, ⟨6, _⟩ => ⟨S2048x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x2048 : Shape := ⟨2, ![4096, 2048]⟩
abbrev S4096x6144 : Shape := ⟨2, ![4096, 6144]⟩
abbrev S_ : Shape := ⟨0, ![]⟩
abbrev S2048x6144 : Shape := ⟨2, ![2048, 6144]⟩
abbrev S6144x2048 : Shape := ⟨2, ![6144, 2048]⟩
abbrev S2048x8x768 : Shape := ⟨3, ![2048, 8, 768]⟩
abbrev S8x2048x768 : Shape := ⟨3, ![8, 2048, 768]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x6144, .bf16⟩
  | .hbm, ⟨2, _⟩ => ⟨S4096x2048, .f32⟩
  | .hbm, ⟨3, _⟩ => ⟨S4096x6144, .f32⟩
  | .hbm, ⟨4, _⟩ => ⟨S_, .f32⟩
  | .hbm, ⟨5, _⟩ => ⟨S2048x6144, .f32⟩
  | .hbm, ⟨6, _⟩ => ⟨S4096x6144, .f32⟩
  | .hbm, ⟨7, _⟩ => ⟨S6144x2048, .f32⟩
  | .hbm, ⟨8, _⟩ => ⟨S2048x6144, .f32⟩
  | .hbm, ⟨9, _⟩ => ⟨S2048x8x768, .f32⟩
  | .hbm, ⟨10, _⟩ => ⟨S8x2048x768, .f32⟩
  | .hbm, ⟨11, _⟩ => ⟨S8x2048x768, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel6.lean ====
abbrev S4096x2048 : Shape := ⟨2, ![4096, 2048]⟩
abbrev S4096x5120 : Shape := ⟨2, ![4096, 5120]⟩
abbrev S8x2048x640 : Shape := ⟨3, ![8, 2048, 640]⟩
abbrev S2048x2048 : Shape := ⟨2, ![2048, 2048]⟩
abbrev S2048x640 : Shape := ⟨2, ![2048, 640]⟩
abbrev S1x2048x640 : Shape := ⟨3, ![1, 2048, 640]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S8x2048x640, .bf16⟩
  | .local _ .vmem, ⟨0, _⟩ => ⟨S2048x2048, .bf16⟩
  | .local _ .vmem, ⟨1, _⟩ => ⟨S2048x2048, .bf16⟩
  | .local _ .vmem, ⟨2, _⟩ => ⟨S2048x640, .bf16⟩
  | .local _ .vmem, ⟨3, _⟩ => ⟨S2048x640, .bf16⟩
  | .local _ .vmem, ⟨4, _⟩ => ⟨S1x2048x640, .bf16⟩
  | .local _ .vmem, ⟨5, _⟩ => ⟨S1x2048x640, .bf16⟩
  | .local _ .vmem, ⟨6, _⟩ => ⟨S2048x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x2048 : Shape := ⟨2, ![4096, 2048]⟩
abbrev S4096x5120 : Shape := ⟨2, ![4096, 5120]⟩
abbrev S_ : Shape := ⟨0, ![]⟩
abbrev S2048x5120 : Shape := ⟨2, ![2048, 5120]⟩
abbrev S5120x2048 : Shape := ⟨2, ![5120, 2048]⟩
abbrev S2048x8x640 : Shape := ⟨3, ![2048, 8, 640]⟩
abbrev S8x2048x640 : Shape := ⟨3, ![8, 2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5120, .bf16⟩
  | .hbm, ⟨2, _⟩ => ⟨S4096x2048, .f32⟩
  | .hbm, ⟨3, _⟩ => ⟨S4096x5120, .f32⟩
  | .hbm, ⟨4, _⟩ => ⟨S_, .f32⟩
  | .hbm, ⟨5, _⟩ => ⟨S2048x5120, .f32⟩
  | .hbm, ⟨6, _⟩ => ⟨S4096x5120, .f32⟩
  | .hbm, ⟨7, _⟩ => ⟨S5120x2048, .f32⟩
  | .hbm, ⟨8, _⟩ => ⟨S2048x5120, .f32⟩
  | .hbm, ⟨9, _⟩ => ⟨S2048x8x640, .f32⟩
  | .hbm, ⟨10, _⟩ => ⟨S8x2048x640, .f32⟩
  | .hbm, ⟨11, _⟩ => ⟨S8x2048x640, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel7.lean ====
abbrev S4096x2048 : Shape := ⟨2, ![4096, 2048]⟩
abbrev S8x256x2048 : Shape := ⟨3, ![8, 256, 2048]⟩
abbrev S2048x256 : Shape := ⟨2, ![2048, 256]⟩
abbrev S2048x2048 : Shape := ⟨2, ![2048, 2048]⟩
abbrev S1x256x2048 : Shape := ⟨3, ![1, 256, 2048]⟩
abbrev S256x2048 : Shape := ⟨2, ![256, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S8x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S2048x2048, .bf16⟩
  | .local _ .vmem, ⟨4, _⟩ => ⟨S1x256x2048, .bf16⟩
  | .local _ .vmem, ⟨5, _⟩ => ⟨S1x256x2048, .bf16⟩
  | .local _ .vmem, ⟨6, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v9 : BitVec 1 := Scalar.cmpi .eq arg1 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x2048 : Shape := ⟨2, ![4096, 2048]⟩
abbrev S_ : Shape := ⟨0, ![]⟩
abbrev S2048x2048 : Shape := ⟨2, ![2048, 2048]⟩
abbrev S8x256x2048 : Shape := ⟨3, ![8, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S8x256x2048, .f32⟩
  | .hbm, ⟨10, _⟩ => ⟨S8x256x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S4096x6144 : Shape := ⟨2, ![4096, 6144]⟩
abbrev S8x2048x768 : Shape := ⟨3, ![8, 2048, 768]⟩
abbrev S4096x2048 : Shape := ⟨2, ![4096, 2048]⟩
abbrev S1024x768 : Shape := ⟨2, ![1024, 768]⟩
abbrev S1x2048x768 : Shape := ⟨3, ![1, 2048, 768]⟩
abbrev S1024x2048 : Shape := ⟨2, ![1024, 2048]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S8x2048x768, .bf16⟩
  | .hbm, ⟨2, _⟩ => ⟨S4096x2048, .f32⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .f32⟩
  | .local _ .vmem, ⟨5, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Kernel8Ideal.lean ====
abbrev S4096x6144 : Shape := ⟨2, ![4096, 6144]⟩
abbrev S8x2048x768 : Shape := ⟨3, ![8, 2048, 768]⟩
abbrev S4096x2048 : Shape := ⟨2, ![4096, 2048]⟩
abbrev S1024x768 : Shape := ⟨2, ![1024, 768]⟩
abbrev S1x2048x768 : Shape := ⟨3, ![1, 2048, 768]⟩
abbrev S1024x2048 : Shape := ⟨2, ![1024, 2048]⟩
abbrev S2048x768 : Shape := ⟨2, ![2048, 768]⟩

abbrev nBuf : Space → Nat
  | .hbm => 3
  | .vmem => 6
  | .smem => 0
  | _ => 0

abbrev bufTy : (tb : Table) → Fin (tcTables nBuf tb) → BufTy
  | .hbm, ⟨0, _⟩ => ⟨S4096x6144, .bf16⟩
  | .hbm, ⟨1, _⟩ => ⟨S8x2048x768, .bf16⟩
  | .hbm, ⟨2, _⟩ => ⟨S4096x2048, .f32⟩
  | .local _ .vmem, ⟨0, _⟩ => ⟨S1024x768, .bf16⟩
  | .local _ .vmem, ⟨1, _⟩ => ⟨S1024x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S1024x2048, .f32⟩
  | .local _ .vmem, ⟨5, _⟩ => ⟨S1024x2048, .f32⟩
  | _, _ => ⟨S4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference8Ideal.lean ====
abbrev S4096x6144 : Shape := ⟨2, ![4096, 6144]⟩
abbrev S8x2048x768 : Shape := ⟨3, ![8, 2048, 768]⟩
abbrev S2048x8x768 : Shape := ⟨3, ![2048, 8, 768]⟩
abbrev S2048x6144 : Shape := ⟨2, ![2048, 6144]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x6144, .bf16⟩
  | .hbm, ⟨1, _⟩ => ⟨S8x2048x768, .bf16⟩
  | .hbm, ⟨2, _⟩ => ⟨S4096x6144, .f32⟩
  | .hbm, ⟨3, _⟩ => ⟨S2048x8x768, .bf16⟩
  | .hbm, ⟨4, _⟩ => ⟨S2048x6144, .bf16⟩
  | .hbm, ⟨5, _⟩ => ⟨S2048x6144, .f32⟩
  | .hbm, ⟨6, _⟩ => ⟨S_, .f32⟩
  | .hbm, ⟨7, _⟩ => ⟨S4096x2048, .f32⟩
  | .hbm, ⟨8, _⟩ => ⟨S4096x6144, .f32⟩
  | .hbm, ⟨9, _⟩ => ⟨S4096x2048, .f32⟩
  | _, _ => ⟨S4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x5120 : Shape := ⟨2, ![4096, 5120]⟩
abbrev S8x2048x640 : Shape := ⟨3, ![8, 2048, 640]⟩
abbrev S4096x2048 : Shape := ⟨2, ![4096, 2048]⟩
abbrev S1024x640 : Shape := ⟨2, ![1024, 640]⟩
abbrev S1x2048x640 : Shape := ⟨3, ![1, 2048, 640]⟩
abbrev S1024x2048 : Shape := ⟨2, ![1024, 2048]⟩
abbrev S2048x640 : Shape := ⟨2, ![2048, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x5120, .bf16⟩
  | .hbm, ⟨1, _⟩ => ⟨S8x2048x640, .bf16⟩
  | .hbm, ⟨2, _⟩ => ⟨S4096x2048, .f32⟩
  | .local _ .vmem, ⟨0, _⟩ => ⟨S1024x640, .bf16⟩
  | .local _ .vmem, ⟨1, _⟩ => ⟨S1024x640, .bf16⟩
  | .local _ .vmem, ⟨2, _⟩ => ⟨S1x2048x640, .bf16⟩
  | .local _ .vmem, ⟨3, _⟩ => ⟨S1x2048x640, .bf16⟩
  | .local _ .vmem, ⟨4, _⟩ => ⟨S1024x2048, .f32⟩
  | .local _ .vmem, ⟨5, _⟩ => ⟨S1024x2048, .f32⟩
  | _, _ => ⟨S4096x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32_5 : BitVec 32 := 0#32
  let v7 : BitVec 1 := Scalar.cmpi .sgt arg1 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference9Ideal.lean ====
abbrev S4096x5120 : Shape := ⟨2, ![4096, 5120]⟩
abbrev S8x2048x640 : Shape := ⟨3, ![8, 2048, 640]⟩
abbrev S2048x8x640 : Shape := ⟨3, ![2048, 8, 640]⟩
abbrev S2048x5120 : Shape := ⟨2, ![2048, 5120]⟩
abbrev S_ : Shape := ⟨0, ![]⟩
abbrev S4096x2048 : Shape := ⟨2, ![4096, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x5120, .bf16⟩
  | .hbm, ⟨1, _⟩ => ⟨S8x2048x640, .bf16⟩
  | .hbm, ⟨2, _⟩ => ⟨S4096x5120, .f32⟩
  | .hbm, ⟨3, _⟩ => ⟨S2048x8x640, .bf16⟩
  | .hbm, ⟨4, _⟩ => ⟨S2048x5120, .bf16⟩
  | .hbm, ⟨5, _⟩ => ⟨S2048x5120, .f32⟩
  | .hbm, ⟨6, _⟩ => ⟨S_, .f32⟩
  | .hbm, ⟨7, _⟩ => ⟨S4096x2048, .f32⟩
  | .hbm, ⟨8, _⟩ => ⟨S4096x5120, .f32⟩
  | .hbm, ⟨9, _⟩ => ⟨S4096x2048, .f32⟩
  | _, _ => ⟨S4096x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S8x256x2048 : Shape := ⟨3, ![8, 256, 2048]⟩
abbrev S1024x2048 : Shape := ⟨2, ![1024, 2048]⟩
abbrev S1x256x2048 : Shape := ⟨3, ![1, 256, 2048]⟩
abbrev S1024x256 : Shape := ⟨2, ![1024, 256]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x256x2048, .bf16⟩
  | .local _ .vmem, ⟨3, _⟩ => ⟨S1x256x2048, .bf16⟩
  | .local _ .vmem, ⟨4, _⟩ => ⟨S1024x256, .f32⟩
  | .local _ .vmem, ⟨5, _⟩ => ⟨S1024x256, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x2048 : Shape := ⟨2, ![4096, 2048]⟩
abbrev S8x256x2048 : Shape := ⟨3, ![8, 256, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S2048x2048, .bf16⟩
  | .hbm, ⟨4, _⟩ => ⟨S2048x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x2048 : Shape := ⟨2, ![4096, 2048]⟩
abbrev S8x2048x704 : Shape := ⟨3, ![8, 2048, 704]⟩
abbrev S8x4096x704 : Shape := ⟨3, ![8, 4096, 704]⟩
abbrev S1024x2048 : Shape := ⟨2, ![1024, 2048]⟩
abbrev S1x2048x704 : Shape := ⟨3, ![1, 2048, 704]⟩
abbrev S1x1024x704 : Shape := ⟨3, ![1, 1024, 704]⟩
abbrev S2048x704 : Shape := ⟨2, ![2048, 704]⟩
abbrev S1024x704 : Shape := ⟨2, ![1024, 704]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S8x4096x704, .f32⟩
  | .hbm, ⟨4, _⟩ => ⟨S8x4096x704, .f32⟩
  | .hbm, ⟨5, _⟩ => ⟨S8x4096x704, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x704, .bf16⟩
  | .local _ .vmem, ⟨3, _⟩ => ⟨S1x2048x704, .bf16⟩
  | .local _ .vmem, ⟨4, _⟩ => ⟨S1x2048x704, .bf16⟩
  | .local _ .vmem, ⟨5, _⟩ => ⟨S1x2048x704, .bf16⟩
  | .local _ .vmem, ⟨6, _⟩ => ⟨S1x1024x704, .f32⟩
  | .local _ .vmem, ⟨7, _⟩ => ⟨S1x1024x704, .f32⟩
  | .local _ .vmem, ⟨8, _⟩ => ⟨S1x1024x704, .f32⟩
  | .local _ .vmem, ⟨9, _⟩ => ⟨S1x1024x704, .f32⟩
  | .local _ .vmem, ⟨10, _⟩ => ⟨S1x1024x704, .bf16⟩
  | .local _ .vmem, ⟨11, _⟩ => ⟨S1x1024x704, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference11Ideal.lean ====
abbrev S4096x2048 : Shape := ⟨2, ![4096, 2048]⟩
abbrev S8x2048x704 : Shape := ⟨3, ![8, 2048, 704]⟩
abbrev S2048x8x704 : Shape := ⟨3, ![2048, 8, 704]⟩
abbrev S2048x5632 : Shape := ⟨2, ![2048, 5632]⟩
abbrev S4096x5632 : Shape := ⟨2, ![4096, 5632]⟩
abbrev S4096x8x704 : Shape := ⟨3, ![4096, 8, 704]⟩
abbrev S8x4096x704 : Shape := ⟨3, ![8, 4096, 704]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x704, .bf16⟩
  | .hbm, ⟨2, _⟩ => ⟨S8x2048x704, .bf16⟩
  | .hbm, ⟨3, _⟩ => ⟨S4096x2048, .f32⟩
  | .hbm, ⟨4, _⟩ => ⟨S2048x8x704, .bf16⟩
  | .hbm, ⟨5, _⟩ => ⟨S2048x5632, .bf16⟩
  | .hbm, ⟨6, _⟩ => ⟨S2048x5632, .f32⟩
  | .hbm, ⟨7, _⟩ => ⟨S4096x5632, .f32⟩
  | .hbm, ⟨8, _⟩ => ⟨S2048x8x704, .bf16⟩
  | .hbm, ⟨9, _⟩ => ⟨S2048x5632, .bf16⟩
  | .hbm, ⟨10, _⟩ => ⟨S2048x5632, .f32⟩
  | .hbm, ⟨11, _⟩ => ⟨S4096x5632, .f32⟩
  | .hbm, ⟨12, _⟩ => ⟨S4096x8x704, .f32⟩
  | .hbm, ⟨13, _⟩ => ⟨S8x4096x704, .f32⟩
  | .hbm, ⟨14, _⟩ => ⟨S4096x8x704, .f32⟩
  | .hbm, ⟨15, _⟩ => ⟨S8x4096x704, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x8x704, .f32⟩
  | .hbm, ⟨27, _⟩ => ⟨S8x4096x704, .f32⟩
  | .hbm, ⟨28, _⟩ => ⟨S8x4096x704, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Kernel12.lean ====
abbrev S8x4096x704 : Shape := ⟨3, ![8, 4096, 704]⟩
abbrev S8x704x2048 : Shape := ⟨3, ![8, 704, 2048]⟩
abbrev S4096x2048 : Shape := ⟨2, ![4096, 2048]⟩
abbrev S2048 : Shape := ⟨1, ![2048]⟩
abbrev S1x2048 : Shape := ⟨2, ![1, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩
abbrev S512 : Shape := ⟨1, ![512]⟩
abbrev S512x1 : Shape := ⟨2, ![512, 1]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S4096x2048, .f32⟩
  | .hbm, ⟨6, _⟩ => ⟨S4096x2048, .bf16⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def k0_cond3 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference12Ideal.lean ====
abbrev S8x4096x704 : Shape := ⟨3, ![8, 4096, 704]⟩
abbrev S8x704x2048 : Shape := ⟨3, ![8, 704, 2048]⟩
abbrev S4096x2048 : Shape := ⟨2, ![4096, 2048]⟩
abbrev S2048 : Shape := ⟨1, ![2048]⟩
abbrev S4096x8x704 : Shape := ⟨3, ![4096, 8, 704]⟩
abbrev S4096x5632 : Shape := ⟨2, ![4096, 5632]⟩
abbrev S5632x2048 : Shape := ⟨2, ![5632, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 28
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S2048, .f32⟩
  | .hbm, ⟨4, _⟩ => ⟨S4096x8x704, .bf16⟩
  | .hbm, ⟨5, _⟩ => ⟨S4096x5632, .bf16⟩
  | .hbm, ⟨6, _⟩ => ⟨S4096x5632, .f32⟩
  | .hbm, ⟨7, _⟩ => ⟨S5632x2048, .bf16⟩
  | .hbm, ⟨8, _⟩ => ⟨S5632x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x2048, .bf16⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel13.lean ====
abbrev S4096x2048 : Shape := ⟨2, ![4096, 2048]⟩
abbrev S8x2048x768 : Shape := ⟨3, ![8, 2048, 768]⟩
abbrev S6144 : Shape := ⟨1, ![6144]⟩
abbrev S1x6144 : Shape := ⟨2, ![1, 6144]⟩
abbrev S4096x6144 : Shape := ⟨2, ![4096, 6144]⟩
abbrev S1024x2048 : Shape := ⟨2, ![1024, 2048]⟩
abbrev S1x2048x768 : Shape := ⟨3, ![1, 2048, 768]⟩
abbrev S1x768 : Shape := ⟨2, ![1, 768]⟩
abbrev S1024x768 : Shape := ⟨2, ![1024, 768]⟩
abbrev S2048x768 : Shape := ⟨2, ![2048, 768]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S6144, .f32⟩
  | .hbm, ⟨3, _⟩ => ⟨S1x6144, .f32⟩
  | .hbm, ⟨4, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x768, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel13Ideal.lean ====
abbrev S4096x2048 : Shape := ⟨2, ![4096, 2048]⟩
abbrev S8x2048x768 : Shape := ⟨3, ![8, 2048, 768]⟩
abbrev S6144 : Shape := ⟨1, ![6144]⟩
abbrev S1x6144 : Shape := ⟨2, ![1, 6144]⟩
abbrev S4096x6144 : Shape := ⟨2, ![4096, 6144]⟩
abbrev S1024x2048 : Shape := ⟨2, ![1024, 2048]⟩
abbrev S1x2048x768 : Shape := ⟨3, ![1, 2048, 768]⟩
abbrev S1x768 : Shape := ⟨2, ![1, 768]⟩
abbrev S1024x768 : Shape := ⟨2, ![1024, 768]⟩
abbrev S2048x768 : Shape := ⟨2, ![2048, 768]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S6144, .f32⟩
  | .hbm, ⟨3, _⟩ => ⟨S1x6144, .f32⟩
  | .hbm, ⟨4, _⟩ => ⟨S4096x6144, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x768, .bf16⟩
  | .local _ .vmem, ⟨3, _⟩ => ⟨S1x2048x768, .bf16⟩
  | .local _ .vmem, ⟨4, _⟩ => ⟨S1x768, .f32⟩
  | .local _ .vmem, ⟨5, _⟩ => ⟨S1x768, .f32⟩
  | .local _ .vmem, ⟨6, _⟩ => ⟨S1024x768, .f32⟩
  | .local _ .vmem, ⟨7, _⟩ => ⟨S1024x768, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference13Ideal.lean ====
abbrev S4096x2048 : Shape := ⟨2, ![4096, 2048]⟩
abbrev S8x2048x768 : Shape := ⟨3, ![8, 2048, 768]⟩
abbrev S6144 : Shape := ⟨1, ![6144]⟩
abbrev S2048x8x768 : Shape := ⟨3, ![2048, 8, 768]⟩
abbrev S2048x6144 : Shape := ⟨2, ![2048, 6144]⟩
abbrev S4096x6144 : Shape := ⟨2, ![4096, 6144]⟩
abbrev S1x6144 : Shape := ⟨2, ![1, 6144]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x768, .bf16⟩
  | .hbm, ⟨2, _⟩ => ⟨S6144, .f32⟩
  | .hbm, ⟨3, _⟩ => ⟨S4096x2048, .f32⟩
  | .hbm, ⟨4, _⟩ => ⟨S2048x8x768, .bf16⟩
  | .hbm, ⟨5, _⟩ => ⟨S2048x6144, .bf16⟩
  | .hbm, ⟨6, _⟩ => ⟨S2048x6144, .f32⟩
  | .hbm, ⟨7, _⟩ => ⟨S4096x6144, .f32⟩
  | .hbm, ⟨8, _⟩ => ⟨S1x6144, .f32⟩
  | .hbm, ⟨9, _⟩ => ⟨S4096x6144, .f32⟩
  | .hbm, ⟨10, _⟩ => ⟨S4096x6144, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel14.lean ====
abbrev S4096x2048 : Shape := ⟨2, ![4096, 2048]⟩
abbrev S8x2048x640 : Shape := ⟨3, ![8, 2048, 640]⟩
abbrev S5120 : Shape := ⟨1, ![5120]⟩
abbrev S1x5120 : Shape := ⟨2, ![1, 5120]⟩
abbrev S4096x5120 : Shape := ⟨2, ![4096, 5120]⟩
abbrev S1024x2048 : Shape := ⟨2, ![1024, 2048]⟩
abbrev S1x2048x640 : Shape := ⟨3, ![1, 2048, 640]⟩
abbrev S1x640 : Shape := ⟨2, ![1, 640]⟩
abbrev S1024x640 : Shape := ⟨2, ![1024, 640]⟩
abbrev S2048x640 : Shape := ⟨2, ![2048, 640]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x640, .bf16⟩
  | .hbm, ⟨2, _⟩ => ⟨S5120, .f32⟩
  | .hbm, ⟨3, _⟩ => ⟨S1x5120, .f32⟩
  | .hbm, ⟨4, _⟩ => ⟨S4096x5120, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x640, .bf16⟩
  | .local _ .vmem, ⟨3, _⟩ => ⟨S1x2048x640, .bf16⟩
  | .local _ .vmem, ⟨4, _⟩ => ⟨S1x640, .f32⟩
  | .local _ .vmem, ⟨5, _⟩ => ⟨S1x640, .f32⟩
  | .local _ .vmem, ⟨6, _⟩ => ⟨S1024x640, .f32⟩
  | .local _ .vmem, ⟨7, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S4096x2048 : Shape := ⟨2, ![4096, 2048]⟩
abbrev S8x2048x640 : Shape := ⟨3, ![8, 2048, 640]⟩
abbrev S5120 : Shape := ⟨1, ![5120]⟩
abbrev S2048x8x640 : Shape := ⟨3, ![2048, 8, 640]⟩
abbrev S2048x5120 : Shape := ⟨2, ![2048, 5120]⟩
abbrev S4096x5120 : Shape := ⟨2, ![4096, 5120]⟩
abbrev S1x5120 : Shape := ⟨2, ![1, 5120]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x640, .bf16⟩
  | .hbm, ⟨2, _⟩ => ⟨S5120, .f32⟩
  | .hbm, ⟨3, _⟩ => ⟨S4096x2048, .f32⟩
  | .hbm, ⟨4, _⟩ => ⟨S2048x8x640, .bf16⟩
  | .hbm, ⟨5, _⟩ => ⟨S2048x5120, .bf16⟩
  | .hbm, ⟨6, _⟩ => ⟨S2048x5120, .f32⟩
  | .hbm, ⟨7, _⟩ => ⟨S4096x5120, .f32⟩
  | .hbm, ⟨8, _⟩ => ⟨S1x5120, .f32⟩
  | .hbm, ⟨9, _⟩ => ⟨S4096x5120, .f32⟩
  | .hbm, ⟨10, _⟩ => ⟨S4096x5120, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4096x2048 : Shape := ⟨2, ![4096, 2048]⟩
abbrev S8x256x2048 : Shape := ⟨3, ![8, 256, 2048]⟩
abbrev S2048 : Shape := ⟨1, ![2048]⟩
abbrev S1x2048 : Shape := ⟨2, ![1, 2048]⟩
abbrev S2048x2048 : Shape := ⟨2, ![2048, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S2048, .f32⟩
  | .hbm, ⟨4, _⟩ => ⟨S1x2048, .f32⟩
  | .hbm, ⟨5, _⟩ => ⟨S2048x2048, .bf16⟩
  | .hbm, ⟨6, _⟩ => ⟨S4096x2048, .f32⟩
  | .hbm, ⟨7, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference15Ideal.lean ====
abbrev S4096x2048 : Shape := ⟨2, ![4096, 2048]⟩
abbrev S8x256x2048 : Shape := ⟨3, ![8, 256, 2048]⟩
abbrev S2048 : Shape := ⟨1, ![2048]⟩
abbrev S2048x2048 : Shape := ⟨2, ![2048, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x256x2048, .bf16⟩
  | .hbm, ⟨2, _⟩ => ⟨S4096x2048, .f32⟩
  | .hbm, ⟨3, _⟩ => ⟨S2048, .f32⟩
  | .hbm, ⟨4, _⟩ => ⟨S4096x2048, .f32⟩
  | .hbm, ⟨5, _⟩ => ⟨S2048x2048, .bf16⟩
  | .hbm, ⟨6, _⟩ => ⟨S2048x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Kernel16.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference16Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel17.lean ====
abbrev S8x4096x704 : Shape := ⟨3, ![8, 4096, 704]⟩
abbrev S8x704x2048 : Shape := ⟨3, ![8, 704, 2048]⟩
abbrev S4096x2048 : Shape := ⟨2, ![4096, 2048]⟩
abbrev S1x512x704 : Shape := ⟨3, ![1, 512, 704]⟩
abbrev S1x704x2048 : Shape := ⟨3, ![1, 704, 2048]⟩
abbrev S512x2048 : Shape := ⟨2, ![512, 2048]⟩
abbrev S512x704 : Shape := ⟨2, ![512, 704]⟩
abbrev S704x2048 : Shape := ⟨2, ![704, 2048]⟩

abbrev nBuf : Space → Nat
  | .hbm => 4
  | .vmem => 8
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S4096x2048, .f32⟩
  | .local _ .vmem, ⟨0, _⟩ => ⟨S1x512x704, .bf16⟩
  | .local _ .vmem, ⟨1, _⟩ => ⟨S1x512x704, .bf16⟩
  | .local _ .vmem, ⟨2, _⟩ => ⟨S1x704x2048, .bf16⟩
  | .local _ .vmem, ⟨3, _⟩ => ⟨S1x704x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | _, _ => ⟨S8x4096x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_5 : BitVec 32 := 0#32
  let v7 : BitVec 1 := Scalar.cmpi .ne v6 c0_i32_5
  v7

def k0_cond2 (i : grid0.Coords) : BitVec 1 :=
  let arg1 : BitVec 32 := BitVec.ofNat 32 (i 1).val
  let c0_i32_6 : BitVec 32 := 0#32
  let v8 : BitVec 1 := Scalar.cmpi .sgt arg1 c0_i32_6
  let v9 : BitVec 32 := Scalar.extui v8
  let c0_i32_7 : BitVec 32 := 0#32
  let v10 : BitVec 1 := Scalar.cmpi .ne v9 c0_i32_7
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x512x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x704x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference17Ideal.lean ====
abbrev S8x4096x704 : Shape := ⟨3, ![8, 4096, 704]⟩
abbrev S8x704x2048 : Shape := ⟨3, ![8, 704, 2048]⟩
abbrev S4096x2048 : Shape := ⟨2, ![4096, 2048]⟩
abbrev S4096x8x704 : Shape := ⟨3, ![4096, 8, 704]⟩
abbrev S4096x5632 : Shape := ⟨2, ![4096, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x704, .bf16⟩
  | .hbm, ⟨1, _⟩ => ⟨S8x704x2048, .bf16⟩
  | .hbm, ⟨2, _⟩ => ⟨S4096x2048, .f32⟩
  | .hbm, ⟨3, _⟩ => ⟨S4096x8x704, .bf16⟩
  | .hbm, ⟨4, _⟩ => ⟨S4096x5632, .bf16⟩
  | .hbm, ⟨5, _⟩ => ⟨S4096x5632, .f32⟩
  | .hbm, ⟨6, _⟩ => ⟨S5632x2048, .bf16⟩
  | .hbm, ⟨7, _⟩ => ⟨S5632x2048, .f32⟩
  | .hbm, ⟨8, _⟩ => ⟨S4096x2048, .f32⟩
  | .hbm, ⟨9, _⟩ => ⟨S4096x2048, .f32⟩
  | _, _ => ⟨S8x4096x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S560x1024 : Shape := ⟨2, ![560, 1024]⟩
abbrev S8x560x1024 : Shape := ⟨3, ![8, 560, 1024]⟩
abbrev S1x560x1024 : Shape := ⟨3, ![1, 560, 1024]⟩
abbrev S8x128 : Shape := ⟨2, ![8, 128]⟩
abbrev S112x1024 : Shape := ⟨2, ![112, 1024]⟩
abbrev S8x112x1024 : Shape := ⟨3, ![8, 112, 1024]⟩
abbrev S1x112x1024 : Shape := ⟨3, ![1, 112, 1024]⟩

abbrev nBuf : Space → Nat
  | .hbm => 15
  | .vmem => 17
  | .smem => 0
  | _ => 0

abbrev bufTy : (tb : Table) → Fin (tcTables nBuf tb) → BufTy
  | .hbm, ⟨0, _⟩ => ⟨S560x1024, .f32⟩
  | .hbm, ⟨1, _⟩ => ⟨S560x1024, .f32⟩
  | .hbm, ⟨2, _⟩ => ⟨S560x1024, .f32⟩
  | .hbm, ⟨3, _⟩ => ⟨S8x560x1024, .f32⟩
  | .hbm, ⟨4, _⟩ => ⟨S1x560x1024, .f32⟩
  | .hbm, ⟨5, _⟩ => ⟨S1x560x1024, .f32⟩
  | .hbm, ⟨6, _⟩ => ⟨S1x560x1024, .f32⟩
  | .hbm, ⟨7, _⟩ => ⟨S560x1024, .f32⟩
  | .hbm, ⟨8, _⟩ => ⟨S560x1024, .f32⟩
  | .hbm, ⟨9, _⟩ => ⟨S560x1024, .f32⟩
  | .hbm, ⟨10, _⟩ => ⟨S560x1024, .f32⟩
  | .hbm, ⟨11, _⟩ => ⟨S560x1024, .f32⟩
  | .hbm, ⟨12, _⟩ => ⟨S560x1024, .f32⟩
  | .hbm, ⟨13, _⟩ => ⟨S560x1024, .f32⟩
  | .hbm, ⟨14, _⟩ => ⟨S8x128, .f32⟩
  | .local _ .vmem, ⟨0, _⟩ => ⟨S112x1024, .f32⟩
  | .local _ .vmem, ⟨1, _⟩ => ⟨S112x1024, .f32⟩
  | .local _ .vmem, ⟨2, _⟩ => ⟨S112x1024, .f32⟩
  | .local _ .vmem, ⟨3, _⟩ => ⟨S112x1024, .f32⟩
  | .local _ .vmem, ⟨4, _⟩ => ⟨S112x1024, .f32⟩
  | .local _ .vmem, ⟨5, _⟩ => ⟨S112x1024, .f32⟩
  | .local _ .vmem, ⟨6, _⟩ => ⟨S8x112x1024, .f32⟩
  | .local _ .vmem, ⟨7, _⟩ => ⟨S8x112x1024, .f32⟩
  | .local _ .vmem, ⟨8, _⟩ => ⟨S112x1024, .f32⟩
  | .local _ .vmem, ⟨9, _⟩ => ⟨S112x1024, .f32⟩
  | .local _ .vmem, ⟨10, _⟩ => ⟨S112x1024, .f32⟩
  | .local _ .vmem, ⟨11, _⟩ => ⟨S112x1024, .f32⟩
  | .local _ .vmem, ⟨12, _⟩ => ⟨S112x1024, .f32⟩
  | .local _ .vmem, ⟨13, _⟩ => ⟨S112x1024, .f32⟩
  | .local _ .vmem, ⟨14, _⟩ => ⟨S112x1024, .f32⟩
  | .local _ .vmem, ⟨15, _⟩ => ⟨S112x1024, .f32⟩
  | .local _ .vmem, ⟨16, _⟩ => ⟨S8x128, .f32⟩
  | _, _ => ⟨S560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel18Ideal.lean ====
abbrev S560x1024 : Shape := ⟨2, ![560, 1024]⟩
abbrev S8x560x1024 : Shape := ⟨3, ![8, 560, 1024]⟩
abbrev S1x560x1024 : Shape := ⟨3, ![1, 560, 1024]⟩
abbrev S8x128 : Shape := ⟨2, ![8, 128]⟩
abbrev S112x1024 : Shape := ⟨2, ![112, 1024]⟩
abbrev S8x112x1024 : Shape := ⟨3, ![8, 112, 1024]⟩
abbrev S1x112x1024 : Shape := ⟨3, ![1, 112, 1024]⟩

abbrev nBuf : Space → Nat
  | .hbm => 15
  | .vmem => 17
  | .smem => 0
  | _ => 0

abbrev bufTy : (tb : Table) → Fin (tcTables nBuf tb) → BufTy
  | .hbm, ⟨0, _⟩ => ⟨S560x1024, .f32⟩
  | .hbm, ⟨1, _⟩ => ⟨S560x1024, .f32⟩
  | .hbm, ⟨2, _⟩ => ⟨S560x1024, .f32⟩
  | .hbm, ⟨3, _⟩ => ⟨S8x560x1024, .f32⟩
  | .hbm, ⟨4, _⟩ => ⟨S1x560x1024, .f32⟩
  | .hbm, ⟨5, _⟩ => ⟨S1x560x1024, .f32⟩
  | .hbm, ⟨6, _⟩ => ⟨S1x560x1024, .f32⟩
  | .hbm, ⟨7, _⟩ => ⟨S560x1024, .f32⟩
  | .hbm, ⟨8, _⟩ => ⟨S560x1024, .f32⟩
  | .hbm, ⟨9, _⟩ => ⟨S560x1024, .f32⟩
  | .hbm, ⟨10, _⟩ => ⟨S560x1024, .f32⟩
  | .hbm, ⟨11, _⟩ => ⟨S560x1024, .f32⟩
  | .hbm, ⟨12, _⟩ => ⟨S560x1024, .f32⟩
  | .hbm, ⟨13, _⟩ => ⟨S560x1024, .f32⟩
  | .hbm, ⟨14, _⟩ => ⟨S8x128, .f32⟩
  | .local _ .vmem, ⟨0, _⟩ => ⟨S112x1024, .f32⟩
  | .local _ .vmem, ⟨1, _⟩ => ⟨S112x1024, .f32⟩
  | .local _ .vmem, ⟨2, _⟩ => ⟨S112x1024, .f32⟩
  | .local _ .vmem, ⟨3, _⟩ => ⟨S112x1024, .f32⟩
  | .local _ .vmem, ⟨4, _⟩ => ⟨S112x1024, .f32⟩
  | .local _ .vmem, ⟨5, _⟩ => ⟨S112x1024, .f32⟩
  | .local _ .vmem, ⟨6, _⟩ => ⟨S8x112x1024, .f32⟩
  | .local _ .vmem, ⟨7, _⟩ => ⟨S8x112x1024, .f32⟩
  | .local _ .vmem, ⟨8, _⟩ => ⟨S112x1024, .f32⟩
  | .local _ .vmem, ⟨9, _⟩ => ⟨S112x1024, .f32⟩
  | .local _ .vmem, ⟨10, _⟩ => ⟨S112x1024, .f32⟩
  | .local _ .vmem, ⟨11, _⟩ => ⟨S112x1024, .f32⟩
  | .local _ .vmem, ⟨12, _⟩ => ⟨S112x1024, .f32⟩
  | .local _ .vmem, ⟨13, _⟩ => ⟨S112x1024, .f32⟩
  | .local _ .vmem, ⟨14, _⟩ => ⟨S112x1024, .f32⟩
  | .local _ .vmem, ⟨15, _⟩ => ⟨S112x1024, .f32⟩
  | .local _ .vmem, ⟨16, _⟩ => ⟨S8x128, .f32⟩
  | _, _ => ⟨S560x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S112x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S112x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S112x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x112x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S112x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S112x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S112x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S112x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S560x1024 : Shape := ⟨2, ![560, 1024]⟩
abbrev S8x560x1024 : Shape := ⟨3, ![8, 560, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S560x1024, .f32⟩
  | .hbm, ⟨1, _⟩ => ⟨S560x1024, .f32⟩
  | .hbm, ⟨2, _⟩ => ⟨S560x1024, .f32⟩
  | .hbm, ⟨3, _⟩ => ⟨S8x560x1024, .f32⟩
  | .hbm, ⟨4, _⟩ => ⟨S_, .f32⟩
  | .hbm, ⟨5, _⟩ => ⟨S560x1024, .f32⟩
  | .hbm, ⟨6, _⟩ => ⟨S_, .f32⟩
  | .hbm, ⟨7, _⟩ => ⟨S560x1024, .f32⟩
  | .hbm, ⟨8, _⟩ => ⟨S560x1024, .f32⟩
  | .hbm, ⟨9, _⟩ => ⟨S_, .f32⟩
  | .hbm, ⟨10, _⟩ => ⟨S560x1024, .f32⟩
  | .hbm, ⟨11, _⟩ => ⟨S560x1024, .f32⟩
  | .hbm, ⟨12, _⟩ => ⟨S560x1024, .f32⟩
  | .hbm, ⟨13, _⟩ => ⟨S_, .f32⟩
  | .hbm, ⟨14, _⟩ => ⟨S560x1024, .f32⟩
  | .hbm, ⟨15, _⟩ => ⟨S560x1024, .f32⟩
  | .hbm, ⟨16, _⟩ => ⟨S560x1024, .f32⟩
  | .hbm, ⟨17, _⟩ => ⟨S_, .f32⟩
  | .hbm, ⟨18, _⟩ => ⟨S560x1024, .f32⟩
  | .hbm, ⟨19, _⟩ => ⟨S560x1024, .f32⟩
  | .hbm, ⟨20, _⟩ => ⟨S560x1024, .f32⟩
  | .hbm, ⟨21, _⟩ => ⟨S_, .f32⟩
  | .hbm, ⟨22, _⟩ => ⟨S560x1024, .f32⟩
  | .hbm, ⟨23, _⟩ => ⟨S560x1024, .f32⟩
  | .hbm, ⟨24, _⟩ => ⟨S_, .f32⟩
  | .hbm, ⟨25, _⟩ => ⟨S560x1024, .f32⟩
  | .hbm, ⟨26, _⟩ => ⟨S560x1024, .f32⟩
  | .hbm, ⟨27, _⟩ => ⟨S560x1024, .f32⟩
  | .hbm, ⟨28, _⟩ => ⟨S_, .f32⟩
  | .hbm, ⟨29, _⟩ => ⟨S560x1024, .f32⟩
  | .hbm, ⟨30, _⟩ => ⟨S560x1024, .f32⟩
  | .hbm, ⟨31, _⟩ => ⟨S560x1024, .f32⟩
  | .hbm, ⟨32, _⟩ => ⟨S_, .f32⟩
  | .hbm, ⟨33, _⟩ => ⟨S560x1024, .f32⟩
  | .hbm, ⟨34, _⟩ => ⟨S560x1024, .f32⟩
  | .hbm, ⟨35, _⟩ => ⟨S560x1024, .f32⟩
  | .hbm, ⟨36, _⟩ => ⟨S_, .f32⟩
  | .hbm, ⟨37, _⟩ => ⟨S560x1024, .f32⟩
  | .hbm, ⟨38, _⟩ => ⟨S560x1024, .f32⟩
  | _, _ => ⟨S560x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel19.lean ====
abbrev S16x1024 : Shape := ⟨2, ![16, 1024]⟩
abbrev S4x16x1024 : Shape := ⟨3, ![4, 16, 1024]⟩
abbrev S1x16x1024 : Shape := ⟨3, ![1, 16, 1024]⟩
abbrev S8x128 : Shape := ⟨2, ![8, 128]⟩

abbrev nBuf : Space → Nat
  | .hbm => 15
  | .vmem => 9
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S4x16x1024, .f32⟩
  | .hbm, ⟨4, _⟩ => ⟨S1x16x1024, .f32⟩
  | .hbm, ⟨5, _⟩ => ⟨S1x16x1024, .f32⟩
  | .hbm, ⟨6, _⟩ => ⟨S1x16x1024, .f32⟩
  | .hbm, ⟨7, _⟩ => ⟨S16x1024, .f32⟩
  | .hbm, ⟨8, _⟩ => ⟨S16x1024, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .f32⟩
  | .hbm, ⟨14, _⟩ => ⟨S8x128, .f32⟩
  | .local _ .vmem, ⟨0, _⟩ => ⟨S16x1024, .f32⟩
  | .local _ .vmem, ⟨1, _⟩ => ⟨S16x1024, .f32⟩
  | .local _ .vmem, ⟨2, _⟩ => ⟨S16x1024, .f32⟩
  | .local _ .vmem, ⟨3, _⟩ => ⟨S4x16x1024, .f32⟩
  | .local _ .vmem, ⟨4, _⟩ => ⟨S16x1024, .f32⟩
  | .local _ .vmem, ⟨5, _⟩ => ⟨S16x1024, .f32⟩
  | .local _ .vmem, ⟨6, _⟩ => ⟨S16x1024, .f32⟩
  | .local _ .vmem, ⟨7, _⟩ => ⟨S16x1024, .f32⟩
  | .local _ .vmem, ⟨8, _⟩ => ⟨S8x128, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev main_v6_3 : Ref sig .tc := ⟨.hbm, 13, rfl⟩
abbrev main_v6_4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_6 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_7 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S16x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel19Ideal.lean ====
variable {F : FTy → Type} [FloatOps F] [Named F]
def κ : String → Option EReal := fun
  | "unbias1" => some ((8388608 / 5463681 : ℝ) : EReal)
  | "unbias2" => some ((268435456 / 2672307 : ℝ) : EReal)
  | _ => none
-- ==== Reference19Ideal.lean ====
abbrev S16x1024 : Shape := ⟨2, ![16, 1024]⟩
abbrev S4x16x1024 : Shape := ⟨3, ![4, 16, 1024]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x1024, .f32⟩
  | .hbm, ⟨2, _⟩ => ⟨S16x1024, .f32⟩
  | .hbm, ⟨3, _⟩ => ⟨S4x16x1024, .f32⟩
  | .hbm, ⟨4, _⟩ => ⟨S_, .f32⟩
  | .hbm, ⟨5, _⟩ => ⟨S16x1024, .f32⟩
  | .hbm, ⟨6, _⟩ => ⟨S_, .f32⟩
  | .hbm, ⟨7, _⟩ => ⟨S16x1024, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S_, .f32⟩
  | .hbm, ⟨14, _⟩ => ⟨S16x1024, .f32⟩
  | .hbm, ⟨15, _⟩ => ⟨S16x1024, .f32⟩
  | .hbm, ⟨16, _⟩ => ⟨S16x1024, .f32⟩
  | .hbm, ⟨17, _⟩ => ⟨S_, .f32⟩
  | .hbm, ⟨18, _⟩ => ⟨S16x1024, .f32⟩
  | .hbm, ⟨19, _⟩ => ⟨S16x1024, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | .hbm, ⟨27, _⟩ => ⟨S16x1024, .f32⟩
  | .hbm, ⟨28, _⟩ => ⟨S_, .f32⟩
  | .hbm, ⟨29, _⟩ => ⟨S16x1024, .f32⟩
  | .hbm, ⟨30, _⟩ => ⟨S16x1024, .f32⟩
  | .hbm, ⟨31, _⟩ => ⟨S16x1024, .f32⟩
  | .hbm, ⟨32, _⟩ => ⟨S_, .f32⟩
  | .hbm, ⟨33, _⟩ => ⟨S16x1024, .f32⟩
  | .hbm, ⟨34, _⟩ => ⟨S16x1024, .f32⟩
  | .hbm, ⟨35, _⟩ => ⟨S16x1024, .f32⟩
  | .hbm, ⟨36, _⟩ => ⟨S_, .f32⟩
  | .hbm, ⟨37, _⟩ => ⟨S16x1024, .f32⟩
  | .hbm, ⟨38, _⟩ => ⟨S16x1024, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel20.lean ====
abbrev S2x2048x768 : Shape := ⟨3, ![2, 2048, 768]⟩
abbrev S4x2048x768 : Shape := ⟨3, ![4, 2048, 768]⟩
abbrev S4096x768 : Shape := ⟨2, ![4096, 768]⟩
abbrev S8x128 : Shape := ⟨2, ![8, 128]⟩
abbrev S256x768 : Shape := ⟨2, ![256, 768]⟩
abbrev S4x256x768 : Shape := ⟨3, ![4, 256, 768]⟩
abbrev S1x256x768 : Shape := ⟨3, ![1, 256, 768]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S8x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S4x256x768, .bf16⟩
  | .local _ .vmem, ⟨7, _⟩ => ⟨S4x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S8x128, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel20Ideal.lean ====
abbrev S2x2048x768 : Shape := ⟨3, ![2, 2048, 768]⟩
abbrev S4x2048x768 : Shape := ⟨3, ![4, 2048, 768]⟩
abbrev S4096x768 : Shape := ⟨2, ![4096, 768]⟩
abbrev S8x128 : Shape := ⟨2, ![8, 128]⟩
abbrev S256x768 : Shape := ⟨2, ![256, 768]⟩
abbrev S4x256x768 : Shape := ⟨3, ![4, 256, 768]⟩
abbrev S1x256x768 : Shape := ⟨3, ![1, 256, 768]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S8x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S4x256x768, .bf16⟩
  | .local _ .vmem, ⟨7, _⟩ => ⟨S4x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S8x128, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference20Ideal.lean ====
abbrev S2x2048x768 : Shape := ⟨3, ![2, 2048, 768]⟩
abbrev S4x2048x768 : Shape := ⟨3, ![4, 2048, 768]⟩
abbrev S1x2048x768 : Shape := ⟨3, ![1, 2048, 768]⟩
abbrev S2048x768 : Shape := ⟨2, ![2048, 768]⟩
abbrev S_ : Shape := ⟨0, ![]⟩
abbrev S4096x768 : Shape := ⟨2, ![4096, 768]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S1x2048x768, .f32⟩
  | .hbm, ⟨9, _⟩ => ⟨S2048x768, .f32⟩
  | .hbm, ⟨10, _⟩ => ⟨S1x2048x768, .f32⟩
  | .hbm, ⟨11, _⟩ => ⟨S2048x768, .f32⟩
  | .hbm, ⟨12, _⟩ => ⟨S1x2048x768, .f32⟩
  | .hbm, ⟨13, _⟩ => ⟨S2048x768, .f32⟩
  | .hbm, ⟨14, _⟩ => ⟨S4x2048x768, .f32⟩
  | .hbm, ⟨15, _⟩ => ⟨S_, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S2048x768, .f32⟩
  | .hbm, ⟨39, _⟩ => ⟨S_, .f32⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S_, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S_, .f32⟩
  | .hbm, ⟨48, _⟩ => ⟨S2048x768, .f32⟩
  | .hbm, ⟨49, _⟩ => ⟨S2048x768, .f32⟩
  | .hbm, ⟨50, _⟩ => ⟨S1x2048x768, .f32⟩
  | .hbm, ⟨51, _⟩ => ⟨S2048x768, .f32⟩
  | .hbm, ⟨52, _⟩ => ⟨S4096x768, .f32⟩
  | .hbm, ⟨53, _⟩ => ⟨S1x2048x768, .f32⟩
  | .hbm, ⟨54, _⟩ => ⟨S2048x768, .f32⟩
  | .hbm, ⟨55, _⟩ => ⟨S4096x768, .f32⟩
  | .hbm, ⟨56, _⟩ => ⟨S1x2048x768, .f32⟩
  | .hbm, ⟨57, _⟩ => ⟨S2048x768, .f32⟩
  | .hbm, ⟨58, _⟩ => ⟨S4096x768, .f32⟩
  | .hbm, ⟨59, _⟩ => ⟨S1x2048x768, .f32⟩
  | .hbm, ⟨60, _⟩ => ⟨S2048x768, .f32⟩
  | .hbm, ⟨61, _⟩ => ⟨S4096x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel21.lean ====
abbrev S2x2048x768 : Shape := ⟨3, ![2, 2048, 768]⟩
abbrev S4x2048x768 : Shape := ⟨3, ![4, 2048, 768]⟩
abbrev S4096x768 : Shape := ⟨2, ![4096, 768]⟩
abbrev S8x128 : Shape := ⟨2, ![8, 128]⟩
abbrev S256x768 : Shape := ⟨2, ![256, 768]⟩
abbrev S4x256x768 : Shape := ⟨3, ![4, 256, 768]⟩
abbrev S1x256x768 : Shape := ⟨3, ![1, 256, 768]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S8x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S4x256x768, .bf16⟩
  | .local _ .vmem, ⟨7, _⟩ => ⟨S4x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S8x128, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel21Ideal.lean ====
abbrev S2x2048x768 : Shape := ⟨3, ![2, 2048, 768]⟩
abbrev S4x2048x768 : Shape := ⟨3, ![4, 2048, 768]⟩
abbrev S4096x768 : Shape := ⟨2, ![4096, 768]⟩
abbrev S8x128 : Shape := ⟨2, ![8, 128]⟩
abbrev S256x768 : Shape := ⟨2, ![256, 768]⟩
abbrev S4x256x768 : Shape := ⟨3, ![4, 256, 768]⟩
abbrev S1x256x768 : Shape := ⟨3, ![1, 256, 768]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S4096x768, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S4096x768, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S8x128, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S4x256x768, .bf16⟩
  | .local _ .vmem, ⟨7, _⟩ => ⟨S4x256x768, .bf16⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | .local _ .vmem, ⟨16, _⟩ => ⟨S8x128, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference21Ideal.lean ====
abbrev S2x2048x768 : Shape := ⟨3, ![2, 2048, 768]⟩
abbrev S4x2048x768 : Shape := ⟨3, ![4, 2048, 768]⟩
abbrev S1x2048x768 : Shape := ⟨3, ![1, 2048, 768]⟩
abbrev S2048x768 : Shape := ⟨2, ![2048, 768]⟩
abbrev S_ : Shape := ⟨0, ![]⟩
abbrev S4096x768 : Shape := ⟨2, ![4096, 768]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S2x2048x768, .f32⟩
  | .hbm, ⟨2, _⟩ => ⟨S2x2048x768, .f32⟩
  | .hbm, ⟨3, _⟩ => ⟨S4x2048x768, .bf16⟩
  | .hbm, ⟨4, _⟩ => ⟨S2x2048x768, .f32⟩
  | .hbm, ⟨5, _⟩ => ⟨S2x2048x768, .f32⟩
  | .hbm, ⟨6, _⟩ => ⟨S2x2048x768, .f32⟩
  | .hbm, ⟨7, _⟩ => ⟨S2x2048x768, .f32⟩
  | .hbm, ⟨8, _⟩ => ⟨S1x2048x768, .f32⟩
  | .hbm, ⟨9, _⟩ => ⟨S2048x768, .f32⟩
  | .hbm, ⟨10, _⟩ => ⟨S1x2048x768, .f32⟩
  | .hbm, ⟨11, _⟩ => ⟨S2048x768, .f32⟩
  | .hbm, ⟨12, _⟩ => ⟨S1x2048x768, .f32⟩
  | .hbm, ⟨13, _⟩ => ⟨S2048x768, .f32⟩
  | .hbm, ⟨14, _⟩ => ⟨S4x2048x768, .f32⟩
  | .hbm, ⟨15, _⟩ => ⟨S_, .f32⟩
  | .hbm, ⟨16, _⟩ => ⟨S2048x768, .f32⟩
  | .hbm, ⟨17, _⟩ => ⟨S_, .f32⟩
  | .hbm, ⟨18, _⟩ => ⟨S2048x768, .f32⟩
  | .hbm, ⟨19, _⟩ => ⟨S2048x768, .f32⟩
  | .hbm, ⟨20, _⟩ => ⟨S_, .f32⟩
  | .hbm, ⟨21, _⟩ => ⟨S2048x768, .f32⟩
  | .hbm, ⟨22, _⟩ => ⟨S2048x768, .f32⟩
  | .hbm, ⟨23, _⟩ => ⟨S2048x768, .f32⟩
  | .hbm, ⟨24, _⟩ => ⟨S_, .f32⟩
  | .hbm, ⟨25, _⟩ => ⟨S2048x768, .f32⟩
  | .hbm, ⟨26, _⟩ => ⟨S2048x768, .f32⟩
  | .hbm, ⟨27, _⟩ => ⟨S2048x768, .f32⟩
  | .hbm, ⟨28, _⟩ => ⟨S_, .f32⟩
  | .hbm, ⟨29, _⟩ => ⟨S2048x768, .f32⟩
  | .hbm, ⟨30, _⟩ => ⟨S2048x768, .f32⟩
  | .hbm, ⟨31, _⟩ => ⟨S2048x768, .f32⟩
  | .hbm, ⟨32, _⟩ => ⟨S_, .f32⟩
  | .hbm, ⟨33, _⟩ => ⟨S2048x768, .f32⟩
  | .hbm, ⟨34, _⟩ => ⟨S2048x768, .f32⟩
  | .hbm, ⟨35, _⟩ => ⟨S_, .f32⟩
  | .hbm, ⟨36, _⟩ => ⟨S2048x768, .f32⟩
  | .hbm, ⟨37, _⟩ => ⟨S2048x768, .f32⟩
  | .hbm, ⟨38, _⟩ => ⟨S2048x768, .f32⟩
  | .hbm, ⟨39, _⟩ => ⟨S_, .f32⟩
  | .hbm, ⟨40, _⟩ => ⟨S2048x768, .f32⟩
  | .hbm, ⟨41, _⟩ => ⟨S2048x768, .f32⟩
  | .hbm, ⟨42, _⟩ => ⟨S2048x768, .f32⟩
  | .hbm, ⟨43, _⟩ => ⟨S_, .f32⟩
  | .hbm, ⟨44, _⟩ => ⟨S2048x768, .f32⟩
  | .hbm, ⟨45, _⟩ => ⟨S2048x768, .f32⟩
  | .hbm, ⟨46, _⟩ => ⟨S2048x768, .f32⟩
  | .hbm, ⟨47, _⟩ => ⟨S_, .f32⟩
  | .hbm, ⟨48, _⟩ => ⟨S2048x768, .f32⟩
  | .hbm, ⟨49, _⟩ => ⟨S2048x768, .f32⟩
  | .hbm, ⟨50, _⟩ => ⟨S1x2048x768, .f32⟩
  | .hbm, ⟨51, _⟩ => ⟨S2048x768, .f32⟩
  | .hbm, ⟨52, _⟩ => ⟨S4096x768, .f32⟩
  | .hbm, ⟨53, _⟩ => ⟨S1x2048x768, .f32⟩
  | .hbm, ⟨54, _⟩ => ⟨S2048x768, .f32⟩
  | .hbm, ⟨55, _⟩ => ⟨S4096x768, .f32⟩
  | .hbm, ⟨56, _⟩ => ⟨S1x2048x768, .f32⟩
  | .hbm, ⟨57, _⟩ => ⟨S2048x768, .f32⟩
  | .hbm, ⟨58, _⟩ => ⟨S4096x768, .f32⟩
  | .hbm, ⟨59, _⟩ => ⟨S1x2048x768, .f32⟩
  | .hbm, ⟨60, _⟩ => ⟨S2048x768, .f32⟩
  | .hbm, ⟨61, _⟩ => ⟨S4096x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel22.lean ====
abbrev S2x2048x640 : Shape := ⟨3, ![2, 2048, 640]⟩
abbrev S4x2048x640 : Shape := ⟨3, ![4, 2048, 640]⟩
abbrev S4096x640 : Shape := ⟨2, ![4096, 640]⟩
abbrev S8x128 : Shape := ⟨2, ![8, 128]⟩
abbrev S256x640 : Shape := ⟨2, ![256, 640]⟩
abbrev S4x256x640 : Shape := ⟨3, ![4, 256, 640]⟩
abbrev S1x256x640 : Shape := ⟨3, ![1, 256, 640]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S4x2048x640, .bf16⟩
  | .hbm, ⟨4, _⟩ => ⟨S2x2048x640, .f32⟩
  | .hbm, ⟨5, _⟩ => ⟨S2x2048x640, .f32⟩
  | .hbm, ⟨6, _⟩ => ⟨S2x2048x640, .f32⟩
  | .hbm, ⟨7, _⟩ => ⟨S2x2048x640, .f32⟩
  | .hbm, ⟨8, _⟩ => ⟨S4096x640, .f32⟩
  | .hbm, ⟨9, _⟩ => ⟨S4096x640, .f32⟩
  | .hbm, ⟨10, _⟩ => ⟨S4096x640, .f32⟩
  | .hbm, ⟨11, _⟩ => ⟨S4096x640, .f32⟩
  | .hbm, ⟨12, _⟩ => ⟨S4096x640, .f32⟩
  | .hbm, ⟨13, _⟩ => ⟨S4096x640, .f32⟩
  | .hbm, ⟨14, _⟩ => ⟨S4096x640, .f32⟩
  | .hbm, ⟨15, _⟩ => ⟨S4096x640, .f32⟩
  | .hbm, ⟨16, _⟩ => ⟨S4096x640, .f32⟩
  | .hbm, ⟨17, _⟩ => ⟨S4096x640, .f32⟩
  | .hbm, ⟨18, _⟩ => ⟨S4096x640, .f32⟩
  | .hbm, ⟨19, _⟩ => ⟨S8x128, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S4x256x640, .bf16⟩
  | .local _ .vmem, ⟨7, _⟩ => ⟨S4x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S8x128, .f32⟩
  | _, _ => ⟨S2x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel22Ideal.lean ====
abbrev S2x2048x640 : Shape := ⟨3, ![2, 2048, 640]⟩
abbrev S4x2048x640 : Shape := ⟨3, ![4, 2048, 640]⟩
abbrev S4096x640 : Shape := ⟨2, ![4096, 640]⟩
abbrev S8x128 : Shape := ⟨2, ![8, 128]⟩
abbrev S256x640 : Shape := ⟨2, ![256, 640]⟩
abbrev S4x256x640 : Shape := ⟨3, ![4, 256, 640]⟩
abbrev S1x256x640 : Shape := ⟨3, ![1, 256, 640]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S4x2048x640, .bf16⟩
  | .hbm, ⟨4, _⟩ => ⟨S2x2048x640, .f32⟩
  | .hbm, ⟨5, _⟩ => ⟨S2x2048x640, .f32⟩
  | .hbm, ⟨6, _⟩ => ⟨S2x2048x640, .f32⟩
  | .hbm, ⟨7, _⟩ => ⟨S2x2048x640, .f32⟩
  | .hbm, ⟨8, _⟩ => ⟨S4096x640, .f32⟩
  | .hbm, ⟨9, _⟩ => ⟨S4096x640, .f32⟩
  | .hbm, ⟨10, _⟩ => ⟨S4096x640, .f32⟩
  | .hbm, ⟨11, _⟩ => ⟨S4096x640, .f32⟩
  | .hbm, ⟨12, _⟩ => ⟨S4096x640, .f32⟩
  | .hbm, ⟨13, _⟩ => ⟨S4096x640, .f32⟩
  | .hbm, ⟨14, _⟩ => ⟨S4096x640, .f32⟩
  | .hbm, ⟨15, _⟩ => ⟨S4096x640, .f32⟩
  | .hbm, ⟨16, _⟩ => ⟨S4096x640, .f32⟩
  | .hbm, ⟨17, _⟩ => ⟨S4096x640, .f32⟩
  | .hbm, ⟨18, _⟩ => ⟨S4096x640, .f32⟩
  | .hbm, ⟨19, _⟩ => ⟨S8x128, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S4x256x640, .bf16⟩
  | .local _ .vmem, ⟨7, _⟩ => ⟨S4x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S8x128, .f32⟩
  | _, _ => ⟨S2x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference22Ideal.lean ====
abbrev S2x2048x640 : Shape := ⟨3, ![2, 2048, 640]⟩
abbrev S4x2048x640 : Shape := ⟨3, ![4, 2048, 640]⟩
abbrev S1x2048x640 : Shape := ⟨3, ![1, 2048, 640]⟩
abbrev S2048x640 : Shape := ⟨2, ![2048, 640]⟩
abbrev S_ : Shape := ⟨0, ![]⟩
abbrev S4096x640 : Shape := ⟨2, ![4096, 640]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S4x2048x640, .bf16⟩
  | .hbm, ⟨4, _⟩ => ⟨S2x2048x640, .f32⟩
  | .hbm, ⟨5, _⟩ => ⟨S2x2048x640, .f32⟩
  | .hbm, ⟨6, _⟩ => ⟨S2x2048x640, .f32⟩
  | .hbm, ⟨7, _⟩ => ⟨S2x2048x640, .f32⟩
  | .hbm, ⟨8, _⟩ => ⟨S1x2048x640, .f32⟩
  | .hbm, ⟨9, _⟩ => ⟨S2048x640, .f32⟩
  | .hbm, ⟨10, _⟩ => ⟨S1x2048x640, .f32⟩
  | .hbm, ⟨11, _⟩ => ⟨S2048x640, .f32⟩
  | .hbm, ⟨12, _⟩ => ⟨S1x2048x640, .f32⟩
  | .hbm, ⟨13, _⟩ => ⟨S2048x640, .f32⟩
  | .hbm, ⟨14, _⟩ => ⟨S4x2048x640, .f32⟩
  | .hbm, ⟨15, _⟩ => ⟨S_, .f32⟩
  | .hbm, ⟨16, _⟩ => ⟨S2048x640, .f32⟩
  | .hbm, ⟨17, _⟩ => ⟨S_, .f32⟩
  | .hbm, ⟨18, _⟩ => ⟨S2048x640, .f32⟩
  | .hbm, ⟨19, _⟩ => ⟨S2048x640, .f32⟩
  | .hbm, ⟨20, _⟩ => ⟨S_, .f32⟩
  | .hbm, ⟨21, _⟩ => ⟨S2048x640, .f32⟩
  | .hbm, ⟨22, _⟩ => ⟨S2048x640, .f32⟩
  | .hbm, ⟨23, _⟩ => ⟨S2048x640, .f32⟩
  | .hbm, ⟨24, _⟩ => ⟨S_, .f32⟩
  | .hbm, ⟨25, _⟩ => ⟨S2048x640, .f32⟩
  | .hbm, ⟨26, _⟩ => ⟨S2048x640, .f32⟩
  | .hbm, ⟨27, _⟩ => ⟨S2048x640, .f32⟩
  | .hbm, ⟨28, _⟩ => ⟨S_, .f32⟩
  | .hbm, ⟨29, _⟩ => ⟨S2048x640, .f32⟩
  | .hbm, ⟨30, _⟩ => ⟨S2048x640, .f32⟩
  | .hbm, ⟨31, _⟩ => ⟨S2048x640, .f32⟩
  | .hbm, ⟨32, _⟩ => ⟨S_, .f32⟩
  | .hbm, ⟨33, _⟩ => ⟨S2048x640, .f32⟩
  | .hbm, ⟨34, _⟩ => ⟨S2048x640, .f32⟩
  | .hbm, ⟨35, _⟩ => ⟨S_, .f32⟩
  | .hbm, ⟨36, _⟩ => ⟨S2048x640, .f32⟩
  | .hbm, ⟨37, _⟩ => ⟨S2048x640, .f32⟩
  | .hbm, ⟨38, _⟩ => ⟨S2048x640, .f32⟩
  | .hbm, ⟨39, _⟩ => ⟨S_, .f32⟩
  | .hbm, ⟨40, _⟩ => ⟨S2048x640, .f32⟩
  | .hbm, ⟨41, _⟩ => ⟨S2048x640, .f32⟩
  | .hbm, ⟨42, _⟩ => ⟨S2048x640, .f32⟩
  | .hbm, ⟨43, _⟩ => ⟨S_, .f32⟩
  | .hbm, ⟨44, _⟩ => ⟨S2048x640, .f32⟩
  | .hbm, ⟨45, _⟩ => ⟨S2048x640, .f32⟩
  | .hbm, ⟨46, _⟩ => ⟨S2048x640, .f32⟩
  | .hbm, ⟨47, _⟩ => ⟨S_, .f32⟩
  | .hbm, ⟨48, _⟩ => ⟨S2048x640, .f32⟩
  | .hbm, ⟨49, _⟩ => ⟨S2048x640, .f32⟩
  | .hbm, ⟨50, _⟩ => ⟨S1x2048x640, .f32⟩
  | .hbm, ⟨51, _⟩ => ⟨S2048x640, .f32⟩
  | .hbm, ⟨52, _⟩ => ⟨S4096x640, .f32⟩
  | .hbm, ⟨53, _⟩ => ⟨S1x2048x640, .f32⟩
  | .hbm, ⟨54, _⟩ => ⟨S2048x640, .f32⟩
  | .hbm, ⟨55, _⟩ => ⟨S4096x640, .f32⟩
  | .hbm, ⟨56, _⟩ => ⟨S1x2048x640, .f32⟩
  | .hbm, ⟨57, _⟩ => ⟨S2048x640, .f32⟩
  | .hbm, ⟨58, _⟩ => ⟨S4096x640, .f32⟩
  | .hbm, ⟨59, _⟩ => ⟨S1x2048x640, .f32⟩
  | .hbm, ⟨60, _⟩ => ⟨S2048x640, .f32⟩
  | .hbm, ⟨61, _⟩ => ⟨S4096x640, .f32⟩
  | _, _ => ⟨S2x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel23.lean ====
abbrev S2x2048x640 : Shape := ⟨3, ![2, 2048, 640]⟩
abbrev S4x2048x640 : Shape := ⟨3, ![4, 2048, 640]⟩
abbrev S4096x640 : Shape := ⟨2, ![4096, 640]⟩
abbrev S8x128 : Shape := ⟨2, ![8, 128]⟩
abbrev S256x640 : Shape := ⟨2, ![256, 640]⟩
abbrev S4x256x640 : Shape := ⟨3, ![4, 256, 640]⟩
abbrev S1x256x640 : Shape := ⟨3, ![1, 256, 640]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S4x2048x640, .bf16⟩
  | .hbm, ⟨4, _⟩ => ⟨S2x2048x640, .f32⟩
  | .hbm, ⟨5, _⟩ => ⟨S2x2048x640, .f32⟩
  | .hbm, ⟨6, _⟩ => ⟨S2x2048x640, .f32⟩
  | .hbm, ⟨7, _⟩ => ⟨S2x2048x640, .f32⟩
  | .hbm, ⟨8, _⟩ => ⟨S4096x640, .f32⟩
  | .hbm, ⟨9, _⟩ => ⟨S4096x640, .f32⟩
  | .hbm, ⟨10, _⟩ => ⟨S4096x640, .f32⟩
  | .hbm, ⟨11, _⟩ => ⟨S4096x640, .f32⟩
  | .hbm, ⟨12, _⟩ => ⟨S4096x640, .f32⟩
  | .hbm, ⟨13, _⟩ => ⟨S4096x640, .f32⟩
  | .hbm, ⟨14, _⟩ => ⟨S4096x640, .f32⟩
  | .hbm, ⟨15, _⟩ => ⟨S4096x640, .f32⟩
  | .hbm, ⟨16, _⟩ => ⟨S4096x640, .f32⟩
  | .hbm, ⟨17, _⟩ => ⟨S4096x640, .f32⟩
  | .hbm, ⟨18, _⟩ => ⟨S4096x640, .f32⟩
  | .hbm, ⟨19, _⟩ => ⟨S8x128, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S4x256x640, .bf16⟩
  | .local _ .vmem, ⟨7, _⟩ => ⟨S4x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S8x128, .f32⟩
  | _, _ => ⟨S2x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel23Ideal.lean ====
abbrev S2x2048x640 : Shape := ⟨3, ![2, 2048, 640]⟩
abbrev S4x2048x640 : Shape := ⟨3, ![4, 2048, 640]⟩
abbrev S4096x640 : Shape := ⟨2, ![4096, 640]⟩
abbrev S8x128 : Shape := ⟨2, ![8, 128]⟩
abbrev S256x640 : Shape := ⟨2, ![256, 640]⟩
abbrev S4x256x640 : Shape := ⟨3, ![4, 256, 640]⟩
abbrev S1x256x640 : Shape := ⟨3, ![1, 256, 640]⟩

abbrev nBuf : Space → Nat
  | .hbm => 20
  | .vmem => 17
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S4x2048x640, .bf16⟩
  | .hbm, ⟨4, _⟩ => ⟨S2x2048x640, .f32⟩
  | .hbm, ⟨5, _⟩ => ⟨S2x2048x640, .f32⟩
  | .hbm, ⟨6, _⟩ => ⟨S2x2048x640, .f32⟩
  | .hbm, ⟨7, _⟩ => ⟨S2x2048x640, .f32⟩
  | .hbm, ⟨8, _⟩ => ⟨S4096x640, .f32⟩
  | .hbm, ⟨9, _⟩ => ⟨S4096x640, .f32⟩
  | .hbm, ⟨10, _⟩ => ⟨S4096x640, .f32⟩
  | .hbm, ⟨11, _⟩ => ⟨S4096x640, .f32⟩
  | .hbm, ⟨12, _⟩ => ⟨S4096x640, .f32⟩
  | .hbm, ⟨13, _⟩ => ⟨S4096x640, .f32⟩
  | .hbm, ⟨14, _⟩ => ⟨S4096x640, .f32⟩
  | .hbm, ⟨15, _⟩ => ⟨S4096x640, .f32⟩
  | .hbm, ⟨16, _⟩ => ⟨S4096x640, .f32⟩
  | .hbm, ⟨17, _⟩ => ⟨S4096x640, .f32⟩
  | .hbm, ⟨18, _⟩ => ⟨S4096x640, .f32⟩
  | .hbm, ⟨19, _⟩ => ⟨S8x128, .f32⟩
  | .local _ .vmem, ⟨0, _⟩ => ⟨S256x640, .f32⟩
  | .local _ .vmem, ⟨1, _⟩ => ⟨S256x640, .f32⟩
  | .local _ .vmem, ⟨2, _⟩ => ⟨S256x640, .f32⟩
  | .local _ .vmem, ⟨3, _⟩ => ⟨S256x640, .f32⟩
  | .local _ .vmem, ⟨4, _⟩ => ⟨S256x640, .f32⟩
  | .local _ .vmem, ⟨5, _⟩ => ⟨S256x640, .f32⟩
  | .local _ .vmem, ⟨6, _⟩ => ⟨S4x256x640, .bf16⟩
  | .local _ .vmem, ⟨7, _⟩ => ⟨S4x256x640, .bf16⟩
  | .local _ .vmem, ⟨8, _⟩ => ⟨S256x640, .f32⟩
  | .local _ .vmem, ⟨9, _⟩ => ⟨S256x640, .f32⟩
  | .local _ .vmem, ⟨10, _⟩ => ⟨S256x640, .f32⟩
  | .local _ .vmem, ⟨11, _⟩ => ⟨S256x640, .f32⟩
  | .local _ .vmem, ⟨12, _⟩ => ⟨S256x640, .f32⟩
  | .local _ .vmem, ⟨13, _⟩ => ⟨S256x640, .f32⟩
  | .local _ .vmem, ⟨14, _⟩ => ⟨S256x640, .f32⟩
  | .local _ .vmem, ⟨15, _⟩ => ⟨S256x640, .f32⟩
  | .local _ .vmem, ⟨16, _⟩ => ⟨S8x128, .f32⟩
  | _, _ => ⟨S2x2048x640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x640 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x640 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x640 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x640 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x640 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference23Ideal.lean ====
abbrev S2x2048x640 : Shape := ⟨3, ![2, 2048, 640]⟩
abbrev S4x2048x640 : Shape := ⟨3, ![4, 2048, 640]⟩
abbrev S1x2048x640 : Shape := ⟨3, ![1, 2048, 640]⟩
abbrev S2048x640 : Shape := ⟨2, ![2048, 640]⟩
abbrev S_ : Shape := ⟨0, ![]⟩
abbrev S4096x640 : Shape := ⟨2, ![4096, 640]⟩

abbrev nBuf : Space → Nat
  | .hbm => 62
  | .vmem => 0
  | .smem => 0
  | _ => 0

abbrev bufTy : (tb : Table) → Fin (tcTables nBuf tb) → BufTy
  | .hbm, ⟨0, _⟩ => ⟨S2x2048x640, .f32⟩
  | .hbm, ⟨1, _⟩ => ⟨S2x2048x640, .f32⟩
  | .hbm, ⟨2, _⟩ => ⟨S2x2048x640, .f32⟩
  | .hbm, ⟨3, _⟩ => ⟨S4x2048x640, .bf16⟩
  | .hbm, ⟨4, _⟩ => ⟨S2x2048x640, .f32⟩
  | .hbm, ⟨5, _⟩ => ⟨S2x2048x640, .f32⟩
  | .hbm, ⟨6, _⟩ => ⟨S2x2048x640, .f32⟩
  | .hbm, ⟨7, _⟩ => ⟨S2x2048x640, .f32⟩
  | .hbm, ⟨8, _⟩ => ⟨S1x2048x640, .f32⟩
  | .hbm, ⟨9, _⟩ => ⟨S2048x640, .f32⟩
  | .hbm, ⟨10, _⟩ => ⟨S1x2048x640, .f32⟩
  | .hbm, ⟨11, _⟩ => ⟨S2048x640, .f32⟩
  | .hbm, ⟨12, _⟩ => ⟨S1x2048x640, .f32⟩
  | .hbm, ⟨13, _⟩ => ⟨S2048x640, .f32⟩
  | .hbm, ⟨14, _⟩ => ⟨S4x2048x640, .f32⟩
  | .hbm, ⟨15, _⟩ => ⟨S_, .f32⟩
  | .hbm, ⟨16, _⟩ => ⟨S2048x640, .f32⟩
  | .hbm, ⟨17, _⟩ => ⟨S_, .f32⟩
  | .hbm, ⟨18, _⟩ => ⟨S2048x640, .f32⟩
  | .hbm, ⟨19, _⟩ => ⟨S2048x640, .f32⟩
  | .hbm, ⟨20, _⟩ => ⟨S_, .f32⟩
  | .hbm, ⟨21, _⟩ => ⟨S2048x640, .f32⟩
  | .hbm, ⟨22, _⟩ => ⟨S2048x640, .f32⟩
  | .hbm, ⟨23, _⟩ => ⟨S2048x640, .f32⟩
  | .hbm, ⟨24, _⟩ => ⟨S_, .f32⟩
  | .hbm, ⟨25, _⟩ => ⟨S2048x640, .f32⟩
  | .hbm, ⟨26, _⟩ => ⟨S2048x640, .f32⟩
  | .hbm, ⟨27, _⟩ => ⟨S2048x640, .f32⟩
  | .hbm, ⟨28, _⟩ => ⟨S_, .f32⟩
  | .hbm, ⟨29, _⟩ => ⟨S2048x640, .f32⟩
  | .hbm, ⟨30, _⟩ => ⟨S2048x640, .f32⟩
  | .hbm, ⟨31, _⟩ => ⟨S2048x640, .f32⟩
  | .hbm, ⟨32, _⟩ => ⟨S_, .f32⟩
  | .hbm, ⟨33, _⟩ => ⟨S2048x640, .f32⟩
  | .hbm, ⟨34, _⟩ => ⟨S2048x640, .f32⟩
  | .hbm, ⟨35, _⟩ => ⟨S_, .f32⟩
  | .hbm, ⟨36, _⟩ => ⟨S2048x640, .f32⟩
  | .hbm, ⟨37, _⟩ => ⟨S2048x640, .f32⟩
  | .hbm, ⟨38, _⟩ => ⟨S2048x640, .f32⟩
  | .hbm, ⟨39, _⟩ => ⟨S_, .f32⟩
  | .hbm, ⟨40, _⟩ => ⟨S2048x640, .f32⟩
  | .hbm, ⟨41, _⟩ => ⟨S2048x640, .f32⟩
  | .hbm, ⟨42, _⟩ => ⟨S2048x640, .f32⟩
  | .hbm, ⟨43, _⟩ => ⟨S_, .f32⟩
  | .hbm, ⟨44, _⟩ => ⟨S2048x640, .f32⟩
  | .hbm, ⟨45, _⟩ => ⟨S2048x640, .f32⟩
  | .hbm, ⟨46, _⟩ => ⟨S2048x640, .f32⟩
  | .hbm, ⟨47, _⟩ => ⟨S_, .f32⟩
  | .hbm, ⟨48, _⟩ => ⟨S2048x640, .f32⟩
  | .hbm, ⟨49, _⟩ => ⟨S2048x640, .f32⟩
  | .hbm, ⟨50, _⟩ => ⟨S1x2048x640, .f32⟩
  | .hbm, ⟨51, _⟩ => ⟨S2048x640, .f32⟩
  | .hbm, ⟨52, _⟩ => ⟨S4096x640, .f32⟩
  | .hbm, ⟨53, _⟩ => ⟨S1x2048x640, .f32⟩
  | .hbm, ⟨54, _⟩ => ⟨S2048x640, .f32⟩
  | .hbm, ⟨55, _⟩ => ⟨S4096x640, .f32⟩
  | .hbm, ⟨56, _⟩ => ⟨S1x2048x640, .f32⟩
  | .hbm, ⟨57, _⟩ => ⟨S2048x640, .f32⟩
  | .hbm, ⟨58, _⟩ => ⟨S4096x640, .f32⟩
  | .hbm, ⟨59, _⟩ => ⟨S1x2048x640, .f32⟩
  | .hbm, ⟨60, _⟩ => ⟨S2048x640, .f32⟩
  | .hbm, ⟨61, _⟩ => ⟨S4096x640, .f32⟩
  | _, _ => ⟨S2x2048x640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel24.lean ====
abbrev S2x256x2048 : Shape := ⟨3, ![2, 256, 2048]⟩
abbrev S4x256x2048 : Shape := ⟨3, ![4, 256, 2048]⟩
abbrev S512x2048 : Shape := ⟨2, ![512, 2048]⟩
abbrev S8x128 : Shape := ⟨2, ![8, 128]⟩
abbrev S256x2048 : Shape := ⟨2, ![256, 2048]⟩
abbrev S1x256x2048 : Shape := ⟨3, ![1, 256, 2048]⟩

abbrev nBuf : Space → Nat
  | .hbm => 20
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S4x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel24Ideal.lean ====
abbrev S2x256x2048 : Shape := ⟨3, ![2, 256, 2048]⟩
abbrev S4x256x2048 : Shape := ⟨3, ![4, 256, 2048]⟩
abbrev S512x2048 : Shape := ⟨2, ![512, 2048]⟩
abbrev S8x128 : Shape := ⟨2, ![8, 128]⟩
abbrev S256x2048 : Shape := ⟨2, ![256, 2048]⟩
abbrev S1x256x2048 : Shape := ⟨3, ![1, 256, 2048]⟩

abbrev nBuf : Space → Nat
  | .hbm => 20
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S4x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference24Ideal.lean ====
abbrev S2x256x2048 : Shape := ⟨3, ![2, 256, 2048]⟩
abbrev S4x256x2048 : Shape := ⟨3, ![4, 256, 2048]⟩
abbrev S1x256x2048 : Shape := ⟨3, ![1, 256, 2048]⟩
abbrev S256x2048 : Shape := ⟨2, ![256, 2048]⟩
abbrev S_ : Shape := ⟨0, ![]⟩
abbrev S512x2048 : Shape := ⟨2, ![512, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S1x256x2048, .f32⟩
  | .hbm, ⟨9, _⟩ => ⟨S256x2048, .f32⟩
  | .hbm, ⟨10, _⟩ => ⟨S1x256x2048, .f32⟩
  | .hbm, ⟨11, _⟩ => ⟨S256x2048, .f32⟩
  | .hbm, ⟨12, _⟩ => ⟨S1x256x2048, .f32⟩
  | .hbm, ⟨13, _⟩ => ⟨S256x2048, .f32⟩
  | .hbm, ⟨14, _⟩ => ⟨S4x256x2048, .f32⟩
  | .hbm, ⟨15, _⟩ => ⟨S_, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S256x2048, .f32⟩
  | .hbm, ⟨52, _⟩ => ⟨S512x2048, .f32⟩
  | .hbm, ⟨53, _⟩ => ⟨S1x256x2048, .f32⟩
  | .hbm, ⟨54, _⟩ => ⟨S256x2048, .f32⟩
  | .hbm, ⟨55, _⟩ => ⟨S512x2048, .f32⟩
  | .hbm, ⟨56, _⟩ => ⟨S1x256x2048, .f32⟩
  | .hbm, ⟨57, _⟩ => ⟨S256x2048, .f32⟩
  | .hbm, ⟨58, _⟩ => ⟨S512x2048, .f32⟩
  | .hbm, ⟨59, _⟩ => ⟨S1x256x2048, .f32⟩
  | .hbm, ⟨60, _⟩ => ⟨S256x2048, .f32⟩
  | .hbm, ⟨61, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel25.lean ====
abbrev S2x256x2048 : Shape := ⟨3, ![2, 256, 2048]⟩
abbrev S4x256x2048 : Shape := ⟨3, ![4, 256, 2048]⟩
abbrev S512x2048 : Shape := ⟨2, ![512, 2048]⟩
abbrev S8x128 : Shape := ⟨2, ![8, 128]⟩
abbrev S256x2048 : Shape := ⟨2, ![256, 2048]⟩
abbrev S1x256x2048 : Shape := ⟨3, ![1, 256, 2048]⟩

abbrev nBuf : Space → Nat
  | .hbm => 20
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S4x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel25Ideal.lean ====
abbrev S2x256x2048 : Shape := ⟨3, ![2, 256, 2048]⟩
abbrev S4x256x2048 : Shape := ⟨3, ![4, 256, 2048]⟩
abbrev S512x2048 : Shape := ⟨2, ![512, 2048]⟩
abbrev S8x128 : Shape := ⟨2, ![8, 128]⟩
abbrev S256x2048 : Shape := ⟨2, ![256, 2048]⟩
abbrev S1x256x2048 : Shape := ⟨3, ![1, 256, 2048]⟩

abbrev nBuf : Space → Nat
  | .hbm => 20
  | .vmem => 9
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S4x256x2048, .bf16⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S8x128, .f32⟩
  | _, _ => ⟨S2x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![1], ![false]⟩

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c1_i32 : BitVec 32 := 1#32
  let v0 : BitVec 32 := Scalar.addi arg0 c1_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S2x256x2048 : Shape := ⟨3, ![2, 256, 2048]⟩
abbrev S4x256x2048 : Shape := ⟨3, ![4, 256, 2048]⟩
abbrev S1x256x2048 : Shape := ⟨3, ![1, 256, 2048]⟩
abbrev S256x2048 : Shape := ⟨2, ![256, 2048]⟩
abbrev S_ : Shape := ⟨0, ![]⟩
abbrev S512x2048 : Shape := ⟨2, ![512, 2048]⟩

abbrev nBuf : Space → Nat
  | .hbm => 62
  | .vmem => 0
  | .smem => 0
  | _ => 0

abbrev bufTy : (tb : Table) → Fin (tcTables nBuf tb) → BufTy
  | .hbm, ⟨0, _⟩ => ⟨S2x256x2048, .f32⟩
  | .hbm, ⟨1, _⟩ => ⟨S2x256x2048, .f32⟩
  | .hbm, ⟨2, _⟩ => ⟨S2x256x2048, .f32⟩
  | .hbm, ⟨3, _⟩ => ⟨S4x256x2048, .bf16⟩
  | .hbm, ⟨4, _⟩ => ⟨S2x256x2048, .f32⟩
  | .hbm, ⟨5, _⟩ => ⟨S2x256x2048, .f32⟩
  | .hbm, ⟨6, _⟩ => ⟨S2x256x2048, .f32⟩
  | .hbm, ⟨7, _⟩ => ⟨S2x256x2048, .f32⟩
  | .hbm, ⟨8, _⟩ => ⟨S1x256x2048, .f32⟩
  | .hbm, ⟨9, _⟩ => ⟨S256x2048, .f32⟩
  | .hbm, ⟨10, _⟩ => ⟨S1x256x2048, .f32⟩
  | .hbm, ⟨11, _⟩ => ⟨S256x2048, .f32⟩
  | .hbm, ⟨12, _⟩ => ⟨S1x256x2048, .f32⟩
  | .hbm, ⟨13, _⟩ => ⟨S256x2048, .f32⟩
  | .hbm, ⟨14, _⟩ => ⟨S4x256x2048, .f32⟩
  | .hbm, ⟨15, _⟩ => ⟨S_, .f32⟩
  | .hbm, ⟨16, _⟩ => ⟨S256x2048, .f32⟩
  | .hbm, ⟨17, _⟩ => ⟨S_, .f32⟩
  | .hbm, ⟨18, _⟩ => ⟨S256x2048, .f32⟩
  | .hbm, ⟨19, _⟩ => ⟨S256x2048, .f32⟩
  | .hbm, ⟨20, _⟩ => ⟨S_, .f32⟩
  | .hbm, ⟨21, _⟩ => ⟨S256x2048, .f32⟩
  | .hbm, ⟨22, _⟩ => ⟨S256x2048, .f32⟩
  | .hbm, ⟨23, _⟩ => ⟨S256x2048, .f32⟩
  | .hbm, ⟨24, _⟩ => ⟨S_, .f32⟩
  | .hbm, ⟨25, _⟩ => ⟨S256x2048, .f32⟩
  | .hbm, ⟨26, _⟩ => ⟨S256x2048, .f32⟩
  | .hbm, ⟨27, _⟩ => ⟨S256x2048, .f32⟩
  | .hbm, ⟨28, _⟩ => ⟨S_, .f32⟩
  | .hbm, ⟨29, _⟩ => ⟨S256x2048, .f32⟩
  | .hbm, ⟨30, _⟩ => ⟨S256x2048, .f32⟩
  | .hbm, ⟨31, _⟩ => ⟨S256x2048, .f32⟩
  | .hbm, ⟨32, _⟩ => ⟨S_, .f32⟩
  | .hbm, ⟨33, _⟩ => ⟨S256x2048, .f32⟩
  | .hbm, ⟨34, _⟩ => ⟨S256x2048, .f32⟩
  | .hbm, ⟨35, _⟩ => ⟨S_, .f32⟩
  | .hbm, ⟨36, _⟩ => ⟨S256x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256x2048, .f32⟩
  | .hbm, ⟨41, _⟩ => ⟨S256x2048, .f32⟩
  | .hbm, ⟨42, _⟩ => ⟨S256x2048, .f32⟩
  | .hbm, ⟨43, _⟩ => ⟨S_, .f32⟩
  | .hbm, ⟨44, _⟩ => ⟨S256x2048, .f32⟩
  | .hbm, ⟨45, _⟩ => ⟨S256x2048, .f32⟩
  | .hbm, ⟨46, _⟩ => ⟨S256x2048, .f32⟩
  | .hbm, ⟨47, _⟩ => ⟨S_, .f32⟩
  | .hbm, ⟨48, _⟩ => ⟨S256x2048, .f32⟩
  | .hbm, ⟨49, _⟩ => ⟨S256x2048, .f32⟩
  | .hbm, ⟨50, _⟩ => ⟨S1x256x2048, .f32⟩
  | .hbm, ⟨51, _⟩ => ⟨S256x2048, .f32⟩
  | .hbm, ⟨52, _⟩ => ⟨S512x2048, .f32⟩
  | .hbm, ⟨53, _⟩ => ⟨S1x256x2048, .f32⟩
  | .hbm, ⟨54, _⟩ => ⟨S256x2048, .f32⟩
  | .hbm, ⟨55, _⟩ => ⟨S512x2048, .f32⟩
  | .hbm, ⟨56, _⟩ => ⟨S1x256x2048, .f32⟩
  | .hbm, ⟨57, _⟩ => ⟨S256x2048, .f32⟩
  | .hbm, ⟨58, _⟩ => ⟨S512x2048, .f32⟩
  | .hbm, ⟨59, _⟩ => ⟨S1x256x2048, .f32⟩
  | .hbm, ⟨60, _⟩ => ⟨S256x2048, .f32⟩
  | .hbm, ⟨61, _⟩ => ⟨S512x2048, .f32⟩
  | _, _ => ⟨S2x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Kernel26.lean ====
abbrev S4x704x2048 : Shape := ⟨3, ![4, 704, 2048]⟩
abbrev S2816x2048 : Shape := ⟨2, ![2816, 2048]⟩
abbrev S8x128 : Shape := ⟨2, ![8, 128]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 20
  | .vmem => 17
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S8x128, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x128, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel26Ideal.lean ====
abbrev S4x704x2048 : Shape := ⟨3, ![4, 704, 2048]⟩
abbrev S2816x2048 : Shape := ⟨2, ![2816, 2048]⟩
abbrev S8x128 : Shape := ⟨2, ![8, 128]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 20
  | .vmem => 17
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S8x128, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x128, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_10 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_11 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference26Ideal.lean ====
abbrev S4x704x2048 : Shape := ⟨3, ![4, 704, 2048]⟩
abbrev S1x704x2048 : Shape := ⟨3, ![1, 704, 2048]⟩
abbrev S704x2048 : Shape := ⟨2, ![704, 2048]⟩
abbrev S_ : Shape := ⟨0, ![]⟩
abbrev S2816x2048 : Shape := ⟨2, ![2816, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S1x704x2048, .f32⟩
  | .hbm, ⟨9, _⟩ => ⟨S704x2048, .f32⟩
  | .hbm, ⟨10, _⟩ => ⟨S1x704x2048, .f32⟩
  | .hbm, ⟨11, _⟩ => ⟨S704x2048, .f32⟩
  | .hbm, ⟨12, _⟩ => ⟨S1x704x2048, .f32⟩
  | .hbm, ⟨13, _⟩ => ⟨S704x2048, .f32⟩
  | .hbm, ⟨14, _⟩ => ⟨S4x704x2048, .f32⟩
  | .hbm, ⟨15, _⟩ => ⟨S_, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S704x2048, .f32⟩
  | .hbm, ⟨52, _⟩ => ⟨S1x704x2048, .f32⟩
  | .hbm, ⟨53, _⟩ => ⟨S704x2048, .f32⟩
  | .hbm, ⟨54, _⟩ => ⟨S1x704x2048, .f32⟩
  | .hbm, ⟨55, _⟩ => ⟨S704x2048, .f32⟩
  | .hbm, ⟨56, _⟩ => ⟨S2816x2048, .f32⟩
  | .hbm, ⟨57, _⟩ => ⟨S1x704x2048, .f32⟩
  | .hbm, ⟨58, _⟩ => ⟨S704x2048, .f32⟩
  | .hbm, ⟨59, _⟩ => ⟨S1x704x2048, .f32⟩
  | .hbm, ⟨60, _⟩ => ⟨S704x2048, .f32⟩
  | .hbm, ⟨61, _⟩ => ⟨S1x704x2048, .f32⟩
  | .hbm, ⟨62, _⟩ => ⟨S704x2048, .f32⟩
  | .hbm, ⟨63, _⟩ => ⟨S2816x2048, .f32⟩
  | .hbm, ⟨64, _⟩ => ⟨S1x704x2048, .f32⟩
  | .hbm, ⟨65, _⟩ => ⟨S704x2048, .f32⟩
  | .hbm, ⟨66, _⟩ => ⟨S1x704x2048, .f32⟩
  | .hbm, ⟨67, _⟩ => ⟨S704x2048, .f32⟩
  | .hbm, ⟨68, _⟩ => ⟨S1x704x2048, .f32⟩
  | .hbm, ⟨69, _⟩ => ⟨S704x2048, .f32⟩
  | .hbm, ⟨70, _⟩ => ⟨S2816x2048, .f32⟩
  | .hbm, ⟨71, _⟩ => ⟨S1x704x2048, .f32⟩
  | .hbm, ⟨72, _⟩ => ⟨S704x2048, .f32⟩
  | .hbm, ⟨73, _⟩ => ⟨S1x704x2048, .f32⟩
  | .hbm, ⟨74, _⟩ => ⟨S704x2048, .f32⟩
  | .hbm, ⟨75, _⟩ => ⟨S1x704x2048, .f32⟩
  | .hbm, ⟨76, _⟩ => ⟨S704x2048, .f32⟩
  | .hbm, ⟨77, _⟩ => ⟨S2816x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel27.lean ====
abbrev S4x704x2048 : Shape := ⟨3, ![4, 704, 2048]⟩
abbrev S2816x2048 : Shape := ⟨2, ![2816, 2048]⟩
abbrev S8x128 : Shape := ⟨2, ![8, 128]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 20
  | .vmem => 17
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S8x128, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x128, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel27Ideal.lean ====
abbrev S4x704x2048 : Shape := ⟨3, ![4, 704, 2048]⟩
abbrev S2816x2048 : Shape := ⟨2, ![2816, 2048]⟩
abbrev S8x128 : Shape := ⟨2, ![8, 128]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 20
  | .vmem => 17
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S8x128, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x128, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference27Ideal.lean ====
abbrev S4x704x2048 : Shape := ⟨3, ![4, 704, 2048]⟩
abbrev S1x704x2048 : Shape := ⟨3, ![1, 704, 2048]⟩
abbrev S704x2048 : Shape := ⟨2, ![704, 2048]⟩
abbrev S_ : Shape := ⟨0, ![]⟩
abbrev S2816x2048 : Shape := ⟨2, ![2816, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S1x704x2048, .f32⟩
  | .hbm, ⟨9, _⟩ => ⟨S704x2048, .f32⟩
  | .hbm, ⟨10, _⟩ => ⟨S1x704x2048, .f32⟩
  | .hbm, ⟨11, _⟩ => ⟨S704x2048, .f32⟩
  | .hbm, ⟨12, _⟩ => ⟨S1x704x2048, .f32⟩
  | .hbm, ⟨13, _⟩ => ⟨S704x2048, .f32⟩
  | .hbm, ⟨14, _⟩ => ⟨S4x704x2048, .f32⟩
  | .hbm, ⟨15, _⟩ => ⟨S_, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S704x2048, .f32⟩
  | .hbm, ⟨52, _⟩ => ⟨S1x704x2048, .f32⟩
  | .hbm, ⟨53, _⟩ => ⟨S704x2048, .f32⟩
  | .hbm, ⟨54, _⟩ => ⟨S1x704x2048, .f32⟩
  | .hbm, ⟨55, _⟩ => ⟨S704x2048, .f32⟩
  | .hbm, ⟨56, _⟩ => ⟨S2816x2048, .f32⟩
  | .hbm, ⟨57, _⟩ => ⟨S1x704x2048, .f32⟩
  | .hbm, ⟨58, _⟩ => ⟨S704x2048, .f32⟩
  | .hbm, ⟨59, _⟩ => ⟨S1x704x2048, .f32⟩
  | .hbm, ⟨60, _⟩ => ⟨S704x2048, .f32⟩
  | .hbm, ⟨61, _⟩ => ⟨S1x704x2048, .f32⟩
  | .hbm, ⟨62, _⟩ => ⟨S704x2048, .f32⟩
  | .hbm, ⟨63, _⟩ => ⟨S2816x2048, .f32⟩
  | .hbm, ⟨64, _⟩ => ⟨S1x704x2048, .f32⟩
  | .hbm, ⟨65, _⟩ => ⟨S704x2048, .f32⟩
  | .hbm, ⟨66, _⟩ => ⟨S1x704x2048, .f32⟩
  | .hbm, ⟨67, _⟩ => ⟨S704x2048, .f32⟩
  | .hbm, ⟨68, _⟩ => ⟨S1x704x2048, .f32⟩
  | .hbm, ⟨69, _⟩ => ⟨S704x2048, .f32⟩
  | .hbm, ⟨70, _⟩ => ⟨S2816x2048, .f32⟩
  | .hbm, ⟨71, _⟩ => ⟨S1x704x2048, .f32⟩
  | .hbm, ⟨72, _⟩ => ⟨S704x2048, .f32⟩
  | .hbm, ⟨73, _⟩ => ⟨S1x704x2048, .f32⟩
  | .hbm, ⟨74, _⟩ => ⟨S704x2048, .f32⟩
  | .hbm, ⟨75, _⟩ => ⟨S1x704x2048, .f32⟩
  | .hbm, ⟨76, _⟩ => ⟨S704x2048, .f32⟩
  | .hbm, ⟨77, _⟩ => ⟨S2816x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel28.lean ====
abbrev S4x704x2048 : Shape := ⟨3, ![4, 704, 2048]⟩
abbrev S2816x2048 : Shape := ⟨2, ![2816, 2048]⟩
abbrev S8x128 : Shape := ⟨2, ![8, 128]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 20
  | .vmem => 17
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S8x128, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x128, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel28Ideal.lean ====
abbrev S4x704x2048 : Shape := ⟨3, ![4, 704, 2048]⟩
abbrev S2816x2048 : Shape := ⟨2, ![2816, 2048]⟩
abbrev S8x128 : Shape := ⟨2, ![8, 128]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 20
  | .vmem => 17
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S8x128, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x128, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F] [Named F]

def κ : String → Option EReal := fun
  | "unbias1" => some ((8388608 / 5463681 : ℝ) : EReal)
  | "unbias2" => some ((268435456 / 2672307 : ℝ) : EReal)
  | _ => none

abbrev grid0 : Pipeline.Grid := ⟨1, ![4], ![false]⟩

def cc0_transform_0 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference28Ideal.lean ====
abbrev S4x704x2048 : Shape := ⟨3, ![4, 704, 2048]⟩
abbrev S1x704x2048 : Shape := ⟨3, ![1, 704, 2048]⟩
abbrev S704x2048 : Shape := ⟨2, ![704, 2048]⟩
abbrev S_ : Shape := ⟨0, ![]⟩
abbrev S2816x2048 : Shape := ⟨2, ![2816, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S1x704x2048, .f32⟩
  | .hbm, ⟨9, _⟩ => ⟨S704x2048, .f32⟩
  | .hbm, ⟨10, _⟩ => ⟨S1x704x2048, .f32⟩
  | .hbm, ⟨11, _⟩ => ⟨S704x2048, .f32⟩
  | .hbm, ⟨12, _⟩ => ⟨S1x704x2048, .f32⟩
  | .hbm, ⟨13, _⟩ => ⟨S704x2048, .f32⟩
  | .hbm, ⟨14, _⟩ => ⟨S4x704x2048, .f32⟩
  | .hbm, ⟨15, _⟩ => ⟨S_, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S704x2048, .f32⟩
  | .hbm, ⟨52, _⟩ => ⟨S1x704x2048, .f32⟩
  | .hbm, ⟨53, _⟩ => ⟨S704x2048, .f32⟩
  | .hbm, ⟨54, _⟩ => ⟨S1x704x2048, .f32⟩
  | .hbm, ⟨55, _⟩ => ⟨S704x2048, .f32⟩
  | .hbm, ⟨56, _⟩ => ⟨S2816x2048, .f32⟩
  | .hbm, ⟨57, _⟩ => ⟨S1x704x2048, .f32⟩
  | .hbm, ⟨58, _⟩ => ⟨S704x2048, .f32⟩
  | .hbm, ⟨59, _⟩ => ⟨S1x704x2048, .f32⟩
  | .hbm, ⟨60, _⟩ => ⟨S704x2048, .f32⟩
  | .hbm, ⟨61, _⟩ => ⟨S1x704x2048, .f32⟩
  | .hbm, ⟨62, _⟩ => ⟨S704x2048, .f32⟩
  | .hbm, ⟨63, _⟩ => ⟨S2816x2048, .f32⟩
  | .hbm, ⟨64, _⟩ => ⟨S1x704x2048, .f32⟩
  | .hbm, ⟨65, _⟩ => ⟨S704x2048, .f32⟩
  | .hbm, ⟨66, _⟩ => ⟨S1x704x2048, .f32⟩
  | .hbm, ⟨67, _⟩ => ⟨S704x2048, .f32⟩
  | .hbm, ⟨68, _⟩ => ⟨S1x704x2048, .f32⟩
  | .hbm, ⟨69, _⟩ => ⟨S704x2048, .f32⟩
  | .hbm, ⟨70, _⟩ => ⟨S2816x2048, .f32⟩
  | .hbm, ⟨71, _⟩ => ⟨S1x704x2048, .f32⟩
  | .hbm, ⟨72, _⟩ => ⟨S704x2048, .f32⟩
  | .hbm, ⟨73, _⟩ => ⟨S1x704x2048, .f32⟩
  | .hbm, ⟨74, _⟩ => ⟨S704x2048, .f32⟩
  | .hbm, ⟨75, _⟩ => ⟨S1x704x2048, .f32⟩
  | .hbm, ⟨76, _⟩ => ⟨S704x2048, .f32⟩
  | .hbm, ⟨77, _⟩ => ⟨S2816x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel29.lean ====
abbrev S4x704x2048 : Shape := ⟨3, ![4, 704, 2048]⟩
abbrev S2816x2048 : Shape := ⟨2, ![2816, 2048]⟩
abbrev S8x128 : Shape := ⟨2, ![8, 128]⟩
abbrev S176x2048 : Shape := ⟨2, ![176, 2048]⟩
abbrev S4x176x2048 : Shape := ⟨3, ![4, 176, 2048]⟩
abbrev S1x176x2048 : Shape := ⟨3, ![1, 176, 2048]⟩

abbrev nBuf : Space → Nat
  | .hbm => 20
  | .vmem => 17
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S2816x2048, .f32⟩
  | .hbm, ⟨9, _⟩ => ⟨S2816x2048, .f32⟩
  | .hbm, ⟨10, _⟩ => ⟨S2816x2048, .f32⟩
  | .hbm, ⟨11, _⟩ => ⟨S2816x2048, .f32⟩
  | .hbm, ⟨12, _⟩ => ⟨S2816x2048, .f32⟩
  | .hbm, ⟨13, _⟩ => ⟨S2816x2048, .f32⟩
  | .hbm, ⟨14, _⟩ => ⟨S2816x2048, .f32⟩
  | .hbm, ⟨15, _⟩ => ⟨S2816x2048, .f32⟩
  | .hbm, ⟨16, _⟩ => ⟨S2816x2048, .f32⟩
  | .hbm, ⟨17, _⟩ => ⟨S2816x2048, .f32⟩
  | .hbm, ⟨18, _⟩ => ⟨S2816x2048, .f32⟩
  | .hbm, ⟨19, _⟩ => ⟨S8x128, .f32⟩
  | .local _ .vmem, ⟨0, _⟩ => ⟨S176x2048, .f32⟩
  | .local _ .vmem, ⟨1, _⟩ => ⟨S176x2048, .f32⟩
  | .local _ .vmem, ⟨2, _⟩ => ⟨S176x2048, .f32⟩
  | .local _ .vmem, ⟨3, _⟩ => ⟨S176x2048, .f32⟩
  | .local _ .vmem, ⟨4, _⟩ => ⟨S176x2048, .f32⟩
  | .local _ .vmem, ⟨5, _⟩ => ⟨S176x2048, .f32⟩
  | .local _ .vmem, ⟨6, _⟩ => ⟨S4x176x2048, .bf16⟩
  | .local _ .vmem, ⟨7, _⟩ => ⟨S4x176x2048, .bf16⟩
  | .local _ .vmem, ⟨8, _⟩ => ⟨S176x2048, .f32⟩
  | .local _ .vmem, ⟨9, _⟩ => ⟨S176x2048, .f32⟩
  | .local _ .vmem, ⟨10, _⟩ => ⟨S176x2048, .f32⟩
  | .local _ .vmem, ⟨11, _⟩ => ⟨S176x2048, .f32⟩
  | .local _ .vmem, ⟨12, _⟩ => ⟨S176x2048, .f32⟩
  | .local _ .vmem, ⟨13, _⟩ => ⟨S176x2048, .f32⟩
  | .local _ .vmem, ⟨14, _⟩ => ⟨S176x2048, .f32⟩
  | .local _ .vmem, ⟨15, _⟩ => ⟨S176x2048, .f32⟩
  | .local _ .vmem, ⟨16, _⟩ => ⟨S8x128, .f32⟩
  | _, _ => ⟨S4x704x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c12_i32 : BitVec 32 := 12#32
  let v0 : BitVec 32 := Scalar.addi arg0 c12_i32
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S176x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x176x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel29Ideal.lean ====
variable {F : FTy → Type} [FloatOps F] [Named F]
def κ : String → Option EReal := fun
  | "unbias1" => some ((8388608 / 5463681 : ℝ) : EReal)
  | "unbias2" => some ((268435456 / 2672307 : ℝ) : EReal)
  | _ => none
-- ==== Reference29Ideal.lean ====
abbrev S4x704x2048 : Shape := ⟨3, ![4, 704, 2048]⟩
abbrev S1x704x2048 : Shape := ⟨3, ![1, 704, 2048]⟩
abbrev S704x2048 : Shape := ⟨2, ![704, 2048]⟩
abbrev S_ : Shape := ⟨0, ![]⟩
abbrev S2816x2048 : Shape := ⟨2, ![2816, 2048]⟩

abbrev nBuf : Space → Nat
  | .hbm => 78
  | .vmem => 0
  | .smem => 0
  | _ => 0

abbrev bufTy : (tb : Table) → Fin (tcTables nBuf tb) → BufTy
  | .hbm, ⟨0, _⟩ => ⟨S4x704x2048, .f32⟩
  | .hbm, ⟨1, _⟩ => ⟨S4x704x2048, .f32⟩
  | .hbm, ⟨2, _⟩ => ⟨S4x704x2048, .f32⟩
  | .hbm, ⟨3, _⟩ => ⟨S4x704x2048, .bf16⟩
  | .hbm, ⟨4, _⟩ => ⟨S4x704x2048, .f32⟩
  | .hbm, ⟨5, _⟩ => ⟨S4x704x2048, .f32⟩
  | .hbm, ⟨6, _⟩ => ⟨S4x704x2048, .f32⟩
  | .hbm, ⟨7, _⟩ => ⟨S4x704x2048, .f32⟩
  | .hbm, ⟨8, _⟩ => ⟨S1x704x2048, .f32⟩
  | .hbm, ⟨9, _⟩ => ⟨S704x2048, .f32⟩
  | .hbm, ⟨10, _⟩ => ⟨S1x704x2048, .f32⟩
  | .hbm, ⟨11, _⟩ => ⟨S704x2048, .f32⟩
  | .hbm, ⟨12, _⟩ => ⟨S1x704x2048, .f32⟩
  | .hbm, ⟨13, _⟩ => ⟨S704x2048, .f32⟩
  | .hbm, ⟨14, _⟩ => ⟨S4x704x2048, .f32⟩
  | .hbm, ⟨15, _⟩ => ⟨S_, .f32⟩
  | .hbm, ⟨16, _⟩ => ⟨S704x2048, .f32⟩
  | .hbm, ⟨17, _⟩ => ⟨S_, .f32⟩
  | .hbm, ⟨18, _⟩ => ⟨S704x2048, .f32⟩
  | .hbm, ⟨19, _⟩ => ⟨S704x2048, .f32⟩
  | .hbm, ⟨20, _⟩ => ⟨S_, .f32⟩
  | .hbm, ⟨21, _⟩ => ⟨S704x2048, .f32⟩
  | .hbm, ⟨22, _⟩ => ⟨S704x2048, .f32⟩
  | .hbm, ⟨23, _⟩ => ⟨S704x2048, .f32⟩
  | .hbm, ⟨24, _⟩ => ⟨S_, .f32⟩
  | .hbm, ⟨25, _⟩ => ⟨S704x2048, .f32⟩
  | .hbm, ⟨26, _⟩ => ⟨S704x2048, .f32⟩
  | .hbm, ⟨27, _⟩ => ⟨S704x2048, .f32⟩
  | .hbm, ⟨28, _⟩ => ⟨S_, .f32⟩
  | .hbm, ⟨29, _⟩ => ⟨S704x2048, .f32⟩
  | .hbm, ⟨30, _⟩ => ⟨S704x2048, .f32⟩
  | .hbm, ⟨31, _⟩ => ⟨S704x2048, .f32⟩
  | .hbm, ⟨32, _⟩ => ⟨S_, .f32⟩
  | .hbm, ⟨33, _⟩ => ⟨S704x2048, .f32⟩
  | .hbm, ⟨34, _⟩ => ⟨S704x2048, .f32⟩
  | .hbm, ⟨35, _⟩ => ⟨S_, .f32⟩
  | .hbm, ⟨36, _⟩ => ⟨S704x2048, .f32⟩
  | .hbm, ⟨37, _⟩ => ⟨S704x2048, .f32⟩
  | .hbm, ⟨38, _⟩ => ⟨S704x2048, .f32⟩
  | .hbm, ⟨39, _⟩ => ⟨S_, .f32⟩
  | .hbm, ⟨40, _⟩ => ⟨S704x2048, .f32⟩
  | .hbm, ⟨41, _⟩ => ⟨S704x2048, .f32⟩
  | .hbm, ⟨42, _⟩ => ⟨S704x2048, .f32⟩
  | .hbm, ⟨43, _⟩ => ⟨S_, .f32⟩
  | .hbm, ⟨44, _⟩ => ⟨S704x2048, .f32⟩
  | .hbm, ⟨45, _⟩ => ⟨S704x2048, .f32⟩
  | .hbm, ⟨46, _⟩ => ⟨S704x2048, .f32⟩
  | .hbm, ⟨47, _⟩ => ⟨S_, .f32⟩
  | .hbm, ⟨48, _⟩ => ⟨S704x2048, .f32⟩
  | .hbm, ⟨49, _⟩ => ⟨S704x2048, .f32⟩
  | .hbm, ⟨50, _⟩ => ⟨S1x704x2048, .f32⟩
  | .hbm, ⟨51, _⟩ => ⟨S704x2048, .f32⟩
  | .hbm, ⟨52, _⟩ => ⟨S1x704x2048, .f32⟩
  | .hbm, ⟨53, _⟩ => ⟨S704x2048, .f32⟩
  | .hbm, ⟨54, _⟩ => ⟨S1x704x2048, .f32⟩
  | .hbm, ⟨55, _⟩ => ⟨S704x2048, .f32⟩
  | .hbm, ⟨56, _⟩ => ⟨S2816x2048, .f32⟩
  | .hbm, ⟨57, _⟩ => ⟨S1x704x2048, .f32⟩
  | .hbm, ⟨58, _⟩ => ⟨S704x2048, .f32⟩
  | .hbm, ⟨59, _⟩ => ⟨S1x704x2048, .f32⟩
  | .hbm, ⟨60, _⟩ => ⟨S704x2048, .f32⟩
  | .hbm, ⟨61, _⟩ => ⟨S1x704x2048, .f32⟩
  | .hbm, ⟨62, _⟩ => ⟨S704x2048, .f32⟩
  | .hbm, ⟨63, _⟩ => ⟨S2816x2048, .f32⟩
  | .hbm, ⟨64, _⟩ => ⟨S1x704x2048, .f32⟩
  | .hbm, ⟨65, _⟩ => ⟨S704x2048, .f32⟩
  | .hbm, ⟨66, _⟩ => ⟨S1x704x2048, .f32⟩
  | .hbm, ⟨67, _⟩ => ⟨S704x2048, .f32⟩
  | .hbm, ⟨68, _⟩ => ⟨S1x704x2048, .f32⟩
  | .hbm, ⟨69, _⟩ => ⟨S704x2048, .f32⟩
  | .hbm, ⟨70, _⟩ => ⟨S2816x2048, .f32⟩
  | .hbm, ⟨71, _⟩ => ⟨S1x704x2048, .f32⟩
  | .hbm, ⟨72, _⟩ => ⟨S704x2048, .f32⟩
  | .hbm, ⟨73, _⟩ => ⟨S1x704x2048, .f32⟩
  | .hbm, ⟨74, _⟩ => ⟨S704x2048, .f32⟩
  | .hbm, ⟨75, _⟩ => ⟨S1x704x2048, .f32⟩
  | .hbm, ⟨76, _⟩ => ⟨S704x2048, .f32⟩
  | .hbm, ⟨77, _⟩ => ⟨S2816x2048, .f32⟩
  | _, _ => ⟨S4x704x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩

abbrev nD : Nat := 1
abbrev τ : Topo := Topo.v7x

variable {F : FTy → Type} [FloatOps F]
-- ==== Kernel30.lean ====
abbrev S4096x2048 : Shape := ⟨2, ![4096, 2048]⟩
abbrev S2048 : Shape := ⟨1, ![2048]⟩
abbrev S1x2048 : Shape := ⟨2, ![1, 2048]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩

abbrev nBuf : Space → Nat
  | .hbm => 8
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S1x2048, .f32⟩
  | .hbm, ⟨4, _⟩ => ⟨S1x128, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S1x128, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference30Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S1x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S4096, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S2048, .f32⟩
  | .hbm, ⟨54, _⟩ => ⟨S4096x2048, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S4096x2048, .f32⟩
  | .hbm, ⟨59, _⟩ => ⟨S4096x2048, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S_, .f32⟩
  | .hbm, ⟨65, _⟩ => ⟨S4096, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S1x128, .f32⟩
  | .hbm, ⟨72, _⟩ => ⟨S4096x2048, .bf16⟩
  | .hbm, ⟨73, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel31.lean ====
abbrev S4096x2048 : Shape := ⟨2, ![4096, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S1x2048, .f32⟩
  | .hbm, ⟨3, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference31Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel32.lean ====
abbrev S4096x5120 : Shape := ⟨2, ![4096, 5120]⟩
abbrev S3x1024 : Shape := ⟨2, ![3, 1024]⟩
abbrev S31x1024 : Shape := ⟨2, ![31, 1024]⟩
abbrev S1024 : Shape := ⟨1, ![1024]⟩
abbrev S1x1024 : Shape := ⟨2, ![1, 1024]⟩
abbrev S4096x2048 : Shape := ⟨2, ![4096, 2048]⟩
abbrev S4096x1024 : Shape := ⟨2, ![4096, 1024]⟩
abbrev S256x5120 : Shape := ⟨2, ![256, 5120]⟩
abbrev S32x5120 : Shape := ⟨2, ![32, 5120]⟩
abbrev S256x2048 : Shape := ⟨2, ![256, 2048]⟩
abbrev S256x1024 : Shape := ⟨2, ![256, 1024]⟩
abbrev S32x1024 : Shape := ⟨2, ![32, 1024]⟩
abbrev S288x1024 : Shape := ⟨2, ![288, 1024]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S4096x5120, .f32⟩
  | .hbm, ⟨1, _⟩ => ⟨S3x1024, .f32⟩
  | .hbm, ⟨2, _⟩ => ⟨S31x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S4096x2048, .bf16⟩
  | .hbm, ⟨10, _⟩ => ⟨S4096x1024, .f32⟩
  | .local _ .vmem, ⟨0, _⟩ => ⟨S256x5120, .f32⟩
  | .local _ .vmem, ⟨1, _⟩ => ⟨S256x5120, .f32⟩
  | .local _ .vmem, ⟨2, _⟩ => ⟨S32x5120, .f32⟩
  | .local _ .vmem, ⟨3, _⟩ => ⟨S32x5120, .f32⟩
  | .local _ .vmem, ⟨4, _⟩ => ⟨S3x1024, .f32⟩
  | .local _ .vmem, ⟨5, _⟩ => ⟨S31x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S256x2048, .bf16⟩
  | .local _ .vmem, ⟨10, _⟩ => ⟨S256x2048, .bf16⟩
  | .local _ .vmem, ⟨11, _⟩ => ⟨S256x1024, .f32⟩
  | .local _ .vmem, ⟨12, _⟩ => ⟨S256x1024, .f32⟩
  | _, _ => ⟨S4096x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference32Ideal.lean ====
abbrev S4096x5120 : Shape := ⟨2, ![4096, 5120]⟩
abbrev S3x1024 : Shape := ⟨2, ![3, 1024]⟩
abbrev S31x1024 : Shape := ⟨2, ![31, 1024]⟩
abbrev S1024 : Shape := ⟨1, ![1024]⟩
abbrev S4096x1024 : Shape := ⟨2, ![4096, 1024]⟩
abbrev S_ : Shape := ⟨0, ![]⟩
abbrev S2x1024 : Shape := ⟨2, ![2, 1024]⟩
abbrev S4098x1024 : Shape := ⟨2, ![4098, 1024]⟩
abbrev S3x1x1024 : Shape := ⟨3, ![3, 1, 1024]⟩
abbrev S1x4096x1024 : Shape := ⟨3, ![1, 4096, 1024]⟩
abbrev S3x4096x1024 : Shape := ⟨3, ![3, 4096, 1024]⟩
abbrev S30x1024 : Shape := ⟨2, ![30, 1024]⟩
abbrev S4126x1024 : Shape := ⟨2, ![4126, 1024]⟩
abbrev S31x1x1024 : Shape := ⟨3, ![31, 1, 1024]⟩
abbrev S16x4096x1024 : Shape := ⟨3, ![16, 4096, 1024]⟩
abbrev S15x4096x1024 : Shape := ⟨3, ![15, 4096, 1024]⟩
abbrev S31x4096x1024 : Shape := ⟨3, ![31, 4096, 1024]⟩
abbrev S1x1024 : Shape := ⟨2, ![1, 1024]⟩
abbrev S4096 : Shape := ⟨1, ![4096]⟩
abbrev S4096x1 : Shape := ⟨2, ![4096, 1]⟩
abbrev S4096x2048 : Shape := ⟨2, ![4096, 2048]⟩

abbrev nBuf : Space → Nat
  | .hbm => 238
  | .vmem => 0
  | .smem => 0
  | _ => 0

abbrev hbmTy0_0 (i : Nat) : BufTy := match i % 128 with
  | 0 => ⟨S4096x5120, .f32⟩
  | 1 => ⟨S3x1024, .f32⟩
  | 2 => ⟨S31x1024, .f32⟩
  | 3 => ⟨S1024, .f32⟩
  | 4 => ⟨S1024, .f32⟩
  | 5 => ⟨S1024, .f32⟩
  | 6 => ⟨S4096x1024, .f32⟩
  | 7 => ⟨S4096x1024, .f32⟩
  | 8 => ⟨S4096x1024, .f32⟩
  | 9 => ⟨S4096x1024, .f32⟩
  | 10 => ⟨S_, .f32⟩
  | 11 => ⟨S4096x1024, .f32⟩
  | 12 => ⟨S4096x1024, .f32⟩
  | 13 => ⟨S_, .f32⟩
  | 14 => ⟨S4096x1024, .f32⟩
  | 15 => ⟨S4096x1024, .f32⟩
  | 16 => ⟨S4096x1024, .f32⟩
  | 17 => ⟨S4096x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S_, .f32⟩
  | 24 => ⟨S2x1024, .f32⟩
  | 25 => ⟨S4098x1024, .f32⟩
  | 26 => ⟨S3x1x1024, .f32⟩
  | 27 => ⟨S4096x1024, .f32⟩
  | 28 => ⟨S4096x1024, .f32⟩
  | 29 => ⟨S4096x1024, .f32⟩
  | 30 => ⟨S1x4096x1024, .f32⟩
  | 31 => ⟨S1x4096x1024, .f32⟩
  | 32 => ⟨S1x4096x1024, .f32⟩
  | 33 => ⟨S3x4096x1024, .f32⟩
  | 34 => ⟨S3x4096x1024, .f32⟩
  | 35 => ⟨S3x4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S_, .f32⟩
  | 42 => ⟨S4096x1024, .f32⟩
  | 43 => ⟨S4096x1024, .f32⟩
  | 44 => ⟨S_, .f32⟩
  | 45 => ⟨S4096x1024, .f32⟩
  | 46 => ⟨S4096x1024, .f32⟩
  | 47 => ⟨S4096x1024, .f32⟩
  | 48 => ⟨S_, .f32⟩
  | 49 => ⟨S30x1024, .f32⟩
  | 50 => ⟨S4126x1024, .f32⟩
  | 51 => ⟨S31x1x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S4096x1024, .f32⟩
  | 75 => ⟨S4096x1024, .f32⟩
  | 76 => ⟨S4096x1024, .f32⟩
  | 77 => ⟨S4096x1024, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S1x4096x1024, .f32⟩
  | 103 => ⟨S1x4096x1024, .f32⟩
  | 104 => ⟨S1x4096x1024, .f32⟩
  | 105 => ⟨S1x4096x1024, .f32⟩
  | 106 => ⟨S1x4096x1024, .f32⟩
  | 107 => ⟨S1x4096x1024, .f32⟩
  | 108 => ⟨S1x4096x1024, .f32⟩
  | 109 => ⟨S1x4096x1024, .f32⟩
  | 110 => ⟨S1x4096x1024, .f32⟩
  | 111 => ⟨S1x4096x1024, .f32⟩
  | 112 => ⟨S1x4096x1024, .f32⟩
  | 113 => ⟨S1x4096x1024, .f32⟩
  | 114 => ⟨S16x4096x1024, .f32⟩
  | 115 => ⟨S15x4096x1024, .f32⟩
  | 116 => ⟨S31x4096x1024, .f32⟩
  | 117 => ⟨S31x4096x1024, .f32⟩
  | 118 => ⟨S31x4096x1024, .f32⟩
  | 119 => ⟨S_, .f32⟩
  | 120 => ⟨S4096x1024, .f32⟩
  | 121 => ⟨S1x1024, .f32⟩
  | 122 => ⟨S4096x1024, .f32⟩
  | 123 => ⟨S4096x1024, .f32⟩
  | 124 => ⟨S_, .f32⟩
  | 125 => ⟨S4096, .f32⟩
  | 126 => ⟨S4096x1, .f32⟩
  | 127 => ⟨S_, .f32⟩
  | _ => ⟨S4096x5120, .f32⟩

abbrev hbmTy0_1 (i : Nat) : BufTy := match i % 128 with
  | 0 => ⟨S4096x1, .f32⟩
  | 1 => ⟨S4096x1, .f32⟩
  | 2 => ⟨S4096x1024, .f32⟩
  | 3 => ⟨S4096x1024, .f32⟩
  | 4 => ⟨S4096x1024, .f32⟩
  | 5 => ⟨S_, .f32⟩
  | 6 => ⟨S4096, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096x1, .f32⟩
  | 13 => ⟨S4096x1, .f32⟩
  | 14 => ⟨S4096x1, .f32⟩
  | 15 => ⟨S4096x1024, .f32⟩
  | 16 => ⟨S4096x1024, .f32⟩
  | 17 => ⟨S1x1024, .f32⟩
  | 18 => ⟨S4096x1024, .f32⟩
  | 19 => ⟨S4096x1024, .f32⟩
  | 20 => ⟨S1x1024, .f32⟩
  | 21 => ⟨S4096x1024, .f32⟩
  | 22 => ⟨S4096x1024, .f32⟩
  | 23 => ⟨S4096x1024, .f32⟩
  | 24 => ⟨S4096x1024, .f32⟩
  | 25 => ⟨S_, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S4096x2048, .f32⟩
  | 33 => ⟨S4096x2048, .bf16⟩
  | 34 => ⟨S_, .f32⟩
  | 35 => ⟨S30x1024, .f32⟩
  | 36 => ⟨S4126x1024, .f32⟩
  | 37 => ⟨S31x1x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .f32⟩
  | 51 => ⟨S4096x1024, .f32⟩
  | 52 => ⟨S4096x1024, .f32⟩
  | 53 => ⟨S4096x1024, .f32⟩
  | 54 => ⟨S4096x1024, .f32⟩
  | 55 => ⟨S4096x1024, .f32⟩
  | 56 => ⟨S4096x1024, .f32⟩
  | 57 => ⟨S4096x1024, .f32⟩
  | 58 => ⟨S4096x1024, .f32⟩
  | 59 => ⟨S4096x1024, .f32⟩
  | 60 => ⟨S4096x1024, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S4096x1024, .f32⟩
  | 69 => ⟨S1x4096x1024, .f32⟩
  | 70 => ⟨S1x4096x1024, .f32⟩
  | 71 => ⟨S1x4096x1024, .f32⟩
  | 72 => ⟨S1x4096x1024, .f32⟩
  | 73 => ⟨S1x4096x1024, .f32⟩
  | 74 => ⟨S1x4096x1024, .f32⟩
  | 75 => ⟨S1x4096x1024, .f32⟩
  | 76 => ⟨S1x4096x1024, .f32⟩
  | 77 => ⟨S1x4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S1x4096x1024, .f32⟩
  | 83 => ⟨S1x4096x1024, .f32⟩
  | 84 => ⟨S1x4096x1024, .f32⟩
  | 85 => ⟨S1x4096x1024, .f32⟩
  | 86 => ⟨S1x4096x1024, .f32⟩
  | 87 => ⟨S1x4096x1024, .f32⟩
  | 88 => ⟨S1x4096x1024, .f32⟩
  | 89 => ⟨S1x4096x1024, .f32⟩
  | 90 => ⟨S1x4096x1024, .f32⟩
  | 91 => ⟨S1x4096x1024, .f32⟩
  | 92 => ⟨S1x4096x1024, .f32⟩
  | 93 => ⟨S1x4096x1024, .f32⟩
  | 94 => ⟨S1x4096x1024, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S16x4096x1024, .f32⟩
  | 101 => ⟨S15x4096x1024, .f32⟩
  | 102 => ⟨S31x4096x1024, .f32⟩
  | 103 => ⟨S31x4096x1024, .f32⟩
  | 104 => ⟨S31x4096x1024, .f32⟩
  | 105 => ⟨S_, .f32⟩
  | 106 => ⟨S4096x1024, .f32⟩
  | 107 => ⟨S1x1024, .f32⟩
  | 108 => ⟨S4096x1024, .f32⟩
  | 109 => ⟨S4096x1024, .f32⟩
  | _ => ⟨S4096x5120, .f32⟩

abbrev hbmTy (i : Nat) : BufTy := match i / 128 with
  | 0 => hbmTy0_0 i
  | 1 => hbmTy0_1 i
  | _ => ⟨S4096x5120, .f32⟩

abbrev bufTy : (tb : Table) → Fin (tcTables nBuf tb) → BufTy
  | .hbm, ⟨i, _⟩ => hbmTy i
  | _, _ => ⟨S4096x5120, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_cst_6 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_cst_7 : Ref sig .tc := ⟨.hbm, 124, rfl⟩
abbrev main_v110 : Ref sig .tc := ⟨.hbm, 125, rfl⟩
abbrev main_v111 : Ref sig .tc := ⟨.hbm, 126, rfl⟩
abbrev main_cst_8 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_cst_9 : Ref sig .tc := ⟨.hbm, 133, rfl⟩
abbrev main_v117 : Ref sig .tc := ⟨.hbm, 134, rfl⟩
abbrev main_v118 : Ref sig .tc := ⟨.hbm, 135, rfl⟩
abbrev main_cst_10 : Ref sig .tc := ⟨.hbm, 136, rfl⟩
abbrev main_v119 : Ref sig .tc := ⟨.hbm, 137, rfl⟩
abbrev main_v120 : Ref sig .tc := ⟨.hbm, 138, rfl⟩
abbrev main_cst_11 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_call0_v0 : Ref sig .tc := ⟨.hbm, 151, rfl⟩
abbrev main_call0_v1 : Ref sig .tc := ⟨.hbm, 152, rfl⟩
abbrev main_call0_cst : Ref sig .tc := ⟨.hbm, 153, rfl⟩
abbrev main_call0_v2 : Ref sig .tc := ⟨.hbm, 154, rfl⟩
abbrev main_call0_v3 : Ref sig .tc := ⟨.hbm, 155, rfl⟩
abbrev main_call0_cst_0 : Ref sig .tc := ⟨.hbm, 156, rfl⟩
abbrev main_call0_v4 : Ref sig .tc := ⟨.hbm, 157, rfl⟩
abbrev main_call0_v5 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_cst_12 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_v158 : Ref sig .tc := ⟨.hbm, 186, rfl⟩
abbrev main_v159 : Ref sig .tc := ⟨.hbm, 187, rfl⟩
abbrev main_v160 : Ref sig .tc := ⟨.hbm, 188, rfl⟩
abbrev main_v161 : Ref sig .tc := ⟨.hbm, 189, rfl⟩
abbrev main_v162 : Ref sig .tc := ⟨.hbm, 190, rfl⟩
abbrev main_v163 : Ref sig .tc := ⟨.hbm, 191, rfl⟩
abbrev main_v164 : Ref sig .tc := ⟨.hbm, 192, rfl⟩
abbrev main_v165 : Ref sig .tc := ⟨.hbm, 193, rfl⟩
abbrev main_v166 : Ref sig .tc := ⟨.hbm, 194, rfl⟩
abbrev main_v167 : Ref sig .tc := ⟨.hbm, 195, rfl⟩
abbrev main_v168 : Ref sig .tc := ⟨.hbm, 196, rfl⟩
abbrev main_v169 : Ref sig .tc := ⟨.hbm, 197, rfl⟩
abbrev main_v170 : Ref sig .tc := ⟨.hbm, 198, rfl⟩
abbrev main_v171 : Ref sig .tc := ⟨.hbm, 199, rfl⟩
abbrev main_v172 : Ref sig .tc := ⟨.hbm, 200, rfl⟩
abbrev main_v173 : Ref sig .tc := ⟨.hbm, 201, rfl⟩
abbrev main_v174 : Ref sig .tc := ⟨.hbm, 202, rfl⟩
abbrev main_v175 : Ref sig .tc := ⟨.hbm, 203, rfl⟩
abbrev main_v176 : Ref sig .tc := ⟨.hbm, 204, rfl⟩
abbrev main_v177 : Ref sig .tc := ⟨.hbm, 205, rfl⟩
abbrev main_v178 : Ref sig .tc := ⟨.hbm, 206, rfl⟩
abbrev main_v179 : Ref sig .tc := ⟨.hbm, 207, rfl⟩
abbrev main_v180 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_v186 : Ref sig .tc := ⟨.hbm, 214, rfl⟩
abbrev main_v187 : Ref sig .tc := ⟨.hbm, 215, rfl⟩
abbrev main_v188 : Ref sig .tc := ⟨.hbm, 216, rfl⟩
abbrev main_v189 : Ref sig .tc := ⟨.hbm, 217, rfl⟩
abbrev main_v190 : Ref sig .tc := ⟨.hbm, 218, rfl⟩
abbrev main_v191 : Ref sig .tc := ⟨.hbm, 219, rfl⟩
abbrev main_v192 : Ref sig .tc := ⟨.hbm, 220, rfl⟩
abbrev main_v193 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_v199 : Ref sig .tc := ⟨.hbm, 227, rfl⟩
abbrev main_v200 : Ref sig .tc := ⟨.hbm, 228, rfl⟩
abbrev main_v201 : Ref sig .tc := ⟨.hbm, 229, rfl⟩
abbrev main_v202 : Ref sig .tc := ⟨.hbm, 230, rfl⟩
abbrev main_v203 : Ref sig .tc := ⟨.hbm, 231, rfl⟩
abbrev main_v204 : Ref sig .tc := ⟨.hbm, 232, rfl⟩
abbrev main_cst_13 : Ref sig .tc := ⟨.hbm, 233, rfl⟩
abbrev main_v205 : Ref sig .tc := ⟨.hbm, 234, rfl⟩
abbrev main_v206 : Ref sig .tc := ⟨.hbm, 235, rfl⟩
abbrev main_v207 : Ref sig .tc := ⟨.hbm, 236, rfl⟩
abbrev main_v208 : Ref sig .tc := ⟨.hbm, 237, rfl⟩

abbrev nD : Nat := 1
abbrev τ : Topo := Topo.v7x

variable {F : FTy → Type} [FloatOps F]
-- ==== Proof.Spec.lean ====
/- One row of the normalised branch: the gradient as the kernel writes it and as the derivative of the forward gives it. -/
module

public import Idealize.ShloMosaic.Lib.Claim
public import Idealize.ShloMosaic.Lib.Pointwise

@[expose] public section
set_option maxRecDepth 16384
noncomputable section
open Idealize.ShloMosaic
namespace Cert.Odd

/-- A row of one branch: 1024 channels. -/
abbrev Row := Fin 1024 → EReal

/-- The number of channels, as both programs spell it. -/
def width : EReal := Ideal.ofBits .f32 0x44800000#32
/-- The variance offset, as both programs spell it. -/
def eps : EReal := Ideal.ofBits .f32 0x358637BD#32
/-- Minus one half, as the derivative of the reciprocal root spells it. -/
def mhalf : EReal := Ideal.ofBits .f32 0xBF000000#32

/-- The logistic function by its quotient. -/
def sigm (x : EReal) : EReal := Ideal.div 1 (1 + Ideal.exp (-x))
/-- The mean of a row. -/
def mean (x : Row) : EReal := Ideal.div (∑ k, x k) width
/-- The centred row. -/
def xc (d : Row) : Row := fun l => d l - mean d
/-- The variance plus the offset. -/
def va (d : Row) : EReal := mean (fun k => xc d k * xc d k) + eps
/-- The reciprocal root of the variance. -/
def rs (d : Row) : EReal := Ideal.rsqrt (va d)
/-- The normalised row. -/
def xh (d : Row) : Row := fun l => xc d l * rs d
/-- The normalised row with gain and offset. -/
def ln (d g b : Row) : Row := fun l => xh d l * g l + b l
/-- The kernel's derivative of `x · logistic x`. -/
def dsilu (x : EReal) : EReal := sigm x * (1 + x * (1 - sigm x))
/-- The gradient at the normalised row with gain and offset. -/
def dln (d y g b : Row) : Row := fun l => y l * dsilu (ln d g b l)
/-- The gradient at the normalised row. -/
def dxh (d y g b : Row) : Row := fun l => dln d y g b l * g l
/-- The kernel's gradient at the row itself. -/
def dd (d y g b : Row) : Row := fun l =>
  rs d * (dxh d y g b l - mean (dxh d y g b) - xh d l * mean (fun k => dxh d y g b k * xh d k))

/-- The reference's gradient at the normalised row with gain and offset. -/
def rdln (d y g b : Row) : Row := fun l =>
  y l * sigm (ln d g b l) + ln d g b l * y l * (sigm (ln d g b l) * (1 - sigm (ln d g b l)))
/-- The reference's gradient at the normalised row. -/
def rdxh (d y g b : Row) : Row := fun l => rdln d y g b l * g l
/-- The reference's gradient at the variance, per channel. -/
def rdv (d y g b : Row) : EReal :=
  Ideal.div ((∑ k, xc d k * rdxh d y g b k) * (mhalf * Ideal.div (rs d) (va d))) width
/-- The reference's gradient at the centred row. -/
def rdc (d y g b : Row) : Row := fun l => rdxh d y g b l * rs d + xc d l * rdv d y g b + rdv d y g b * xc d l
/-- The reference's gradient at the row itself. -/
def rdd (d y g b : Row) : Row := fun l => rdc d y g b l + Ideal.div (∑ k, -rdc d y g b k) width

/-- A row of real numbers. -/
def Fin' (d : Row) : Prop := ∃ r : Fin 1024 → ℝ, d = fun l => (r l : EReal)

theorem width_eq : width = ((1024 : ℝ) : EReal) := by
  simp [width, Ideal.ofBits, Ideal.ieee, -EReal.coe_mul]; norm_num
theorem mhalf_eq : mhalf = ((-(1 / 2) : ℝ) : EReal) := by
  simp [mhalf, Ideal.ofBits, Ideal.ieee, -EReal.coe_mul, -EReal.coe_neg]; norm_num
theorem eps_eq : ∃ e : ℝ, 0 < e ∧ eps = (e : EReal) := by
  refine ⟨(2 ^ 23 + 407485 : ℕ) * (2 : ℝ) ^ (-43 : ℤ), by positivity, ?_⟩
  simp [eps, Ideal.ofBits, Ideal.ieee, -EReal.coe_mul]

theorem coe_sum (n : ℕ) (r : Fin n → ℝ) : (∑ k, (r k : EReal)) = ((∑ k, r k : ℝ) : EReal) := by
  induction n with
  | zero => simp
  | succ n ih => rw [Fin.sum_univ_succ, Fin.sum_univ_succ, ih, EReal.coe_add]

theorem sigm_coe (x : ℝ) : sigm (x : EReal) = (((1 + Real.exp (-x))⁻¹ : ℝ) : EReal) := by
  have h0 : (1 + Real.exp (-x)) ≠ 0 := by positivity
  rw [sigm, ← EReal.coe_neg, Ideal.exp_coe, ← EReal.coe_one, ← EReal.coe_add, Ideal.div_coe h0, ← EReal.coe_mul]
  simp

theorem div_width (x : ℝ) : Ideal.div (x : EReal) width = ((x / 1024 : ℝ) : EReal) := by
  rw [width_eq, Ideal.div_coe (by norm_num), ← EReal.coe_mul]; congr 1; ring

theorem mean_coe (r : Fin 1024 → ℝ) : mean (fun k => (r k : EReal)) = (((∑ k, r k) / 1024 : ℝ) : EReal) := by
  rw [mean, coe_sum, div_width]

/-! The same quantities over real numbers. -/

/-- The mean of a real row. -/
def qmean (r : Fin 1024 → ℝ) : ℝ := (∑ k, r k) / 1024
/-- The centred real row. -/
def qxc (d : Fin 1024 → ℝ) : Fin 1024 → ℝ := fun l => d l - qmean d
/-- The offset variance of a real row. -/
def qva (e : ℝ) (d : Fin 1024 → ℝ) : ℝ := qmean (fun k => qxc d k * qxc d k) + e
/-- Its reciprocal root. -/
def qrs (e : ℝ) (d : Fin 1024 → ℝ) : ℝ := (Real.sqrt (qva e d))⁻¹
/-- The logistic function. -/
def qsig (x : ℝ) : ℝ := (1 + Real.exp (-x))⁻¹
/-- The normalised real row with gain and offset. -/
def qln (e : ℝ) (d g b : Fin 1024 → ℝ) : Fin 1024 → ℝ := fun l => qxc d l * qrs e d * g l + b l
/-- The gradient there. -/
def qdln (e : ℝ) (d y g b : Fin 1024 → ℝ) : Fin 1024 → ℝ := fun l =>
  y l * (qsig (qln e d g b l) * (1 + qln e d g b l * (1 - qsig (qln e d g b l))))
/-- The gradient at the normalised row. -/
def qdxh (e : ℝ) (d y g b : Fin 1024 → ℝ) : Fin 1024 → ℝ := fun l => qdln e d y g b l * g l

/-- A real row seen in the extended reals. -/
abbrev up (r : Fin 1024 → ℝ) : Row := fun l => (r l : EReal)

theorem mean_up (r : Fin 1024 → ℝ) : mean (up r) = ((qmean r : ℝ) : EReal) := mean_coe r
theorem xc_up (d : Fin 1024 → ℝ) : xc (up d) = up (qxc d) := by
  funext l; rw [xc, mean_up, ← EReal.coe_sub]; rfl
theorem qva_pos {e : ℝ} (he : 0 < e) (d : Fin 1024 → ℝ) : 0 < qva e d := by
  have : 0 ≤ qmean (fun k => qxc d k * qxc d k) :=
    div_nonneg (Finset.sum_nonneg fun k _ => mul_self_nonneg _) (by norm_num)
  unfold qva; linarith
theorem va_up {e : ℝ} (h : eps = (e : EReal)) (d : Fin 1024 → ℝ) : va (up d) = ((qva e d : ℝ) : EReal) := by
  have : (fun k => xc (up d) k * xc (up d) k) = up (fun k => qxc d k * qxc d k) := by
    rw [xc_up]; funext k; simp only [up, ← EReal.coe_mul]
  rw [va, this, mean_up, h, ← EReal.coe_add]; rfl
theorem rs_up {e : ℝ} (he : 0 < e) (h : eps = (e : EReal)) (d : Fin 1024 → ℝ) : rs (up d) = ((qrs e d : ℝ) : EReal) := by
  have hp := qva_pos he d
  rw [rs, va_up h, Ideal.rsqrt_coe, if_neg (not_lt.mpr hp.le), if_neg hp.ne']; rfl
theorem ln_up {e : ℝ} (he : 0 < e) (h : eps = (e : EReal)) (d g b : Fin 1024 → ℝ) :
    ln (up d) (up g) (up b) = up (qln e d g b) := by
  funext l; rw [ln, xh, xc_up, rs_up he h]; simp only [up, ← EReal.coe_mul, ← EReal.coe_add]; rfl
theorem dsilu_up (x : ℝ) : dsilu (x : EReal) = ((qsig x * (1 + x * (1 - qsig x)) : ℝ) : EReal) := by
  rw [dsilu, sigm_coe, ← EReal.coe_one, ← EReal.coe_sub, ← EReal.coe_mul, ← EReal.coe_add, ← EReal.coe_mul]; rfl
theorem dln_up {e : ℝ} (he : 0 < e) (h : eps = (e : EReal)) (d y g b : Fin 1024 → ℝ) :
    dln (up d) (up y) (up g) (up b) = up (qdln e d y g b) := by
  funext l; rw [dln, ln_up he h]; simp only [up, dsilu_up, ← EReal.coe_mul]; rfl
theorem rdln_up {e : ℝ} (he : 0 < e) (h : eps = (e : EReal)) (d y g b : Fin 1024 → ℝ) :
    rdln (up d) (up y) (up g) (up b) = up (qdln e d y g b) := by
  funext l; rw [rdln, ln_up he h]
  simp only [up, sigm_coe, ← EReal.coe_one, ← EReal.coe_sub, ← EReal.coe_mul, ← EReal.coe_add]
  congr 1; unfold qdln qsig; ring
theorem dxh_up {e : ℝ} (he : 0 < e) (h : eps = (e : EReal)) (d y g b : Fin 1024 → ℝ) :
    dxh (up d) (up y) (up g) (up b) = up (qdxh e d y g b) := by
  funext l; rw [dxh, dln_up he h]; simp only [up, ← EReal.coe_mul]; rfl
theorem rdxh_up {e : ℝ} (he : 0 < e) (h : eps = (e : EReal)) (d y g b : Fin 1024 → ℝ) :
    rdxh (up d) (up y) (up g) (up b) = up (qdxh e d y g b) := by
  funext l; rw [rdxh, rdln_up he h]; simp only [up, ← EReal.coe_mul]; rfl

/-- The variance's gradient over real numbers. -/
def qdv (e : ℝ) (d x : Fin 1024 → ℝ) : ℝ := (∑ k, qxc d k * x k) * (-(1 / 2) * (qrs e d * (1 / qva e d))) / 1024

theorem rdv_up {e : ℝ} (he : 0 < e) (h : eps = (e : EReal)) (d y g b : Fin 1024 → ℝ) :
    rdv (up d) (up y) (up g) (up b) = ((qdv e d (qdxh e d y g b) : ℝ) : EReal) := by
  have hp := (qva_pos he d).ne'
  rw [rdv, xc_up, rdxh_up he h, rs_up he h, va_up h, mhalf_eq, Ideal.div_coe hp]
  simp only [up, ← EReal.coe_mul]
  rw [coe_sum, ← EReal.coe_mul, div_width]; rfl

theorem sum_qxc (d : Fin 1024 → ℝ) : ∑ k, qxc d k = 0 := by
  simp only [qxc, qmean, Finset.sum_sub_distrib, Finset.sum_const, Finset.card_univ, Fintype.card_fin, nsmul_eq_mul]
  push_cast; ring

/-- The two gradients over real numbers. -/
theorem grad_real {e : ℝ} (he : 0 < e) (d x : Fin 1024 → ℝ) (l : Fin 1024) :
    (x l * qrs e d + qxc d l * qdv e d x + qdv e d x * qxc d l)
      + (∑ k, -(x k * qrs e d + qxc d k * qdv e d x + qdv e d x * qxc d k)) / 1024
    = qrs e d * (x l - qmean x - qxc d l * qrs e d * qmean (fun k => x k * (qxc d k * qrs e d))) := by
  have hs : ∑ k, -(x k * qrs e d + qxc d k * qdv e d x + qdv e d x * qxc d k) = -((∑ k, x k) * qrs e d) := by
    rw [Finset.sum_neg_distrib, Finset.sum_add_distrib, Finset.sum_add_distrib, ← Finset.sum_mul, ← Finset.sum_mul,
      ← Finset.mul_sum, sum_qxc]; ring
  have hm : (∑ k, x k * (qxc d k * qrs e d)) = (∑ k, qxc d k * x k) * qrs e d := by
    rw [Finset.sum_mul]; exact Finset.sum_congr rfl fun k _ => by ring
  have hv : 1 / qva e d = qrs e d * qrs e d := by
    have hp := qva_pos he d
    rw [qrs, ← mul_inv, Real.mul_self_sqrt hp.le, one_div]
  rw [hs, qmean, qmean, hm, qdv, hv]; ring

/-- Over rows of real numbers the two gradients agree, at the normalised row with gain and offset … -/
theorem rdln_eq (d y g b : Row) (hd : Fin' d) (hy : Fin' y) (hg : Fin' g) (hb : Fin' b) : rdln d y g b = dln d y g b := by
  obtain ⟨d, rfl⟩ := hd; obtain ⟨y, rfl⟩ := hy; obtain ⟨g, rfl⟩ := hg; obtain ⟨b, rfl⟩ := hb
  obtain ⟨e, he, h⟩ := eps_eq
  exact (rdln_up he h d y g b).trans (dln_up he h d y g b).symm

/-- … and at the row itself. -/
theorem rdd_eq (d y g b : Row) (hd : Fin' d) (hy : Fin' y) (hg : Fin' g) (hb : Fin' b) : rdd d y g b = dd d y g b := by
  obtain ⟨d, rfl⟩ := hd; obtain ⟨y, rfl⟩ := hy; obtain ⟨g, rfl⟩ := hg; obtain ⟨b, rfl⟩ := hb
  obtain ⟨e, he, h⟩ := eps_eq
  have h1 : rdc (up d) (up y) (up g) (up b) = up fun l => qdxh e d y g b l * qrs e d
      + qxc d l * qdv e d (qdxh e d y g b) + qdv e d (qdxh e d y g b) * qxc d l := by
    funext l; rw [rdc, rdxh_up he h, rs_up he h, xc_up, rdv_up he h]
    simp only [up, ← EReal.coe_mul, ← EReal.coe_add]
  have h2 : xh (up d) = up fun l => qxc d l * qrs e d := by
    funext l; rw [xh, xc_up, rs_up he h]; simp only [up, ← EReal.coe_mul]
  have h3 : (fun k => up (qdxh e d y g b) k * (up fun l => qxc d l * qrs e d) k)
      = up fun k => qdxh e d y g b k * (qxc d k * qrs e d) := by
    funext k; simp only [up, ← EReal.coe_mul]
  funext l
  show rdd (up d) (up y) (up g) (up b) l = dd (up d) (up y) (up g) (up b) l
  rw [rdd, h1, dd, rs_up he h, dxh_up he h, h2, h3, mean_up, mean_up]
  simp only [up, ← EReal.coe_neg]
  rw [coe_sum, div_width]
  simp only [← EReal.coe_mul, ← EReal.coe_add, ← EReal.coe_sub]
  exact congrArg _ (grad_real he d (qdxh e d y g b) l)

/-- Where the incoming gradient is zero, so is the kernel's gradient at the row. -/
theorem dd_zero (d g b : Row) (l : Fin 1024) : dd d (fun _ => 0) g b l = 0 := by
  have h : dxh d (fun _ => 0) g b = fun _ => 0 := by funext k; rw [dxh, dln, zero_mul, zero_mul]
  have hm : mean (fun _ => 0) = 0 := by
    rw [mean, Finset.sum_const_zero, width_eq, Ideal.div_coe (by norm_num), zero_mul]
  rw [dd, h]; simp only [zero_mul, hm, mul_zero, sub_zero]

end Cert.Odd
end
-- ==== Proof.KRow.lean ====
/- The kernel's payloads read at an index, at variables. -/
module

public import proofs.«01_k».proof.Proof.Spec
public import proofs.«01_k».proof.Proof.Gen.KernelIdeal.Skeleton
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.Odd

/-- Row `n` of the 160 rows that extend a block by the head of the next one. -/
def cat (a : FVec Ideal S128x1024 .f32) (b : FVec Ideal S32x1024 .f32) (n : Fin 160) : Row := fun l =>
  if h : n.val < 128 then a (ix2 ⟨n.val, h⟩ l) else b (ix2 ⟨n.val - 128, by omega⟩ l)

/-- The rows' gradient at the normalised row with gain and offset, as the kernel composes it. -/
def KDLN (k : EReal) (a b : FVec Ideal S128x1024 .f32) (a' b' : FVec Ideal S32x1024 .f32) (g o : FVec Ideal S1x1024 .f32) :
    FVec Ideal S160x1024 .f32 :=
  k0_pay23 (k0_pay16 k b b') (k0_pay21 a a' g) (k0_pay22 o)

/-- The rows' gradient, as the kernel composes it. -/
def KDD (k : EReal) (a b : FVec Ideal S128x1024 .f32) (a' b' : FVec Ideal S32x1024 .f32) (g o : FVec Ideal S1x1024 .f32) :
    FVec Ideal S160x1024 .f32 :=
  k0_pay24 (k0_pay16 k b b') (k0_pay18 a a') (k0_pay19 a a') (k0_pay20 g) (k0_pay21 a a' g) (k0_pay22 o)

/-- The second block scaled by the halo's mask. -/
def scl (k : EReal) (b : FVec Ideal S32x1024 .f32) : FVec Ideal S32x1024 .f32 := fun i => b i * k

/-- The single row of a one-row array. -/
def row1 (g : FVec Ideal S1x1024 .f32) : Row := fun l => g (ix2 0 l)

theorem pay17_at (a : FVec Ideal S128x1024 .f32) (a' : FVec Ideal S32x1024 .f32) (n : Fin 160) (l : Fin 1024) :
    k0_pay17 (F := Ideal) a a' (ix2 n l) = xc (cat a a' n) l := by
  pointwise [k0_pay17]
  rfl

theorem pay18_at (a : FVec Ideal S128x1024 .f32) (a' : FVec Ideal S32x1024 .f32) (n : Fin 160) :
    k0_pay18 (F := Ideal) a a' (ix2 n 0) = rs (cat a a' n) := by
  pointwise [k0_pay18, pay17_at]
  rfl

theorem pay19_at (a : FVec Ideal S128x1024 .f32) (a' : FVec Ideal S32x1024 .f32) (n : Fin 160) (l : Fin 1024) :
    k0_pay19 (F := Ideal) a a' (ix2 n l) = xh (cat a a' n) l := by
  pointwise [k0_pay19, pay17_at, pay18_at]
  rfl

theorem pay16_at (k : EReal) (a : FVec Ideal S128x1024 .f32) (a' : FVec Ideal S32x1024 .f32) (n : Fin 160) (l : Fin 1024) :
    k0_pay16 (F := Ideal) k a a' (ix2 n l) = cat a (scl k a') n l := by
  pointwise [k0_pay16]
  rfl

theorem KDLN_at (k : EReal) (a b : FVec Ideal S128x1024 .f32) (a' b' : FVec Ideal S32x1024 .f32) (g o : FVec Ideal S1x1024 .f32)
    (n : Fin 160) (l : Fin 1024) :
    KDLN k a b a' b' g o (ix2 n l) = dln (cat a a' n) (cat b (scl k b') n) (row1 g) (row1 o) l := by
  pointwise [KDLN, k0_pay23, k0_pay21, k0_pay22, k0_pay20, pay16_at, pay19_at]
  simp only [zero_sub]
  rfl

theorem KDD_at (k : EReal) (a b : FVec Ideal S128x1024 .f32) (a' b' : FVec Ideal S32x1024 .f32) (g o : FVec Ideal S1x1024 .f32)
    (n : Fin 160) (l : Fin 1024) :
    KDD k a b a' b' g o (ix2 n l) = dd (cat a a' n) (cat b (scl k b') n) (row1 g) (row1 o) l := by
  have e : ∀ j : Fin 1024, k0_pay23 (F := Ideal) (k0_pay16 k b b') (k0_pay21 a a' g) (k0_pay22 o) (ix2 n j)
      = dln (cat a a' n) (cat b (scl k b') n) (row1 g) (row1 o) j := fun j => KDLN_at k a b a' b' g o n j
  pointwise [KDD, k0_pay24, k0_pay20, pay19_at, pay18_at, e]
  rfl

end Cert.Odd
end
-- ==== Proof.KPay.lean ====
/- The convolution payloads read at an index, at variables. -/
module

public import proofs.«01_k».proof.Proof.KRow
public import proofs.«01_k».proof.Proof.Gen.KernelIdeal.Skeleton
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.Odd

/-- Row `n` of the 160 rows that put the tail of the block before in front of a block; zero past them. -/
def ext (P : FVec Ideal S32x1024 .f32) (G : FVec Ideal S128x1024 .f32) (n : ℕ) : Row := fun l =>
  if h : n < 32 then P (ix2 ⟨n, h⟩ l) else if h' : n - 32 < 128 then G (ix2 ⟨n - 32, h'⟩ l) else 0

theorem ext_lt {P : FVec Ideal S32x1024 .f32} {G : FVec Ideal S128x1024 .f32} {n : ℕ} {l : Fin 1024} (h : n < 32) :
    ext P G n l = P (ix2 ⟨n, h⟩ l) := dif_pos h
theorem ext_ge {P : FVec Ideal S32x1024 .f32} {G : FVec Ideal S128x1024 .f32} {n : ℕ} {l : Fin 1024} (h : ¬ n < 32) (h' : n - 32 < 128) :
    ext P G n l = G (ix2 ⟨n - 32, h'⟩ l) := (dif_neg h).trans (dif_pos h')

/-- Two spellings of one row number read the same row. -/
theorem ext_read {P : FVec Ideal S32x1024 .f32} {G : FVec Ideal S128x1024 .f32} {n n' : ℕ} {l : Fin 1024} (e : n = n')
    (h2 : ¬ n < 32 → n - 32 < 128) :
    (if h : n < 32 then P (ix2 ⟨n, h⟩ l) else G (ix2 ⟨n - 32, h2 h⟩ l)) = ext P G n' l := by
  subst e
  by_cases h : n < 32
  · rw [dif_pos h, ext_lt h]
  · rw [dif_neg h, ext_ge h (h2 h)]

theorem ext_own {P : FVec Ideal S32x1024 .f32} {G : FVec Ideal S128x1024 .f32} {n : ℕ} {l : Fin 1024} (h' : n < 128) :
    G (ix2 ⟨n, h'⟩ l) = ext P G (32 + n) l := by
  rw [ext_ge (by omega) (by omega)]; congr 2; exact Fin.ext (by simp)

theorem row_read {D : FVec Ideal S160x1024 .f32} {n n' : ℕ} {h : n < 160} {h' : n' < 160} {l : Fin 1024} (e : n = n') :
    D (ix2 ⟨n, h⟩ l) = D (ix2 ⟨n', h'⟩ l) := by subst e; rfl

variable (D : FVec Ideal S160x1024 .f32) (G : FVec Ideal S128x1024 .f32) (P : FVec Ideal S32x1024 .f32)
  (a : FVec Ideal S1x1024 .f32) (l : Fin 1024)

/-- What one block adds to row `30 - s` of the long filter's gradient. -/
def tap (s : ℕ) : EReal := ∑ r : Fin 128, D (ix2 ⟨r.val, by omega⟩ l) * ext P G (32 + r.val - s) l
theorem tap30 : k0_pay47 (F := Ideal) G (k0_pay28 D) (k0_pay46 a) (ix2 0 l)
    = a (ix2 0 l) + tap D G P l 0 := by
  pointwise [k0_pay47, k0_pay28, k0_pay46]
  refine congrArg (_ + ·) (Finset.sum_congr rfl fun r _ => congrArg (_ * ·) ?_)
  exact ext_own r.isLt
theorem tap29 : k0_pay48 (F := Ideal) (k0_pay28 D) (k0_pay32 G P) a (ix2 0 l)
    = a (ix2 0 l) + tap D G P l 1 := by
  pointwise [k0_pay48, k0_pay28, k0_pay32, k0_pay31]
  refine congrArg (_ + ·) (Finset.sum_congr rfl fun r _ => congrArg (_ * ·) ?_)
  exact ext_read (by omega) _
theorem tap28 : k0_pay49 (F := Ideal) (k0_pay28 D) (k0_pay33 G P) a (ix2 0 l)
    = a (ix2 0 l) + tap D G P l 2 := by
  pointwise [k0_pay49, k0_pay28, k0_pay33, k0_pay31]
  refine congrArg (_ + ·) (Finset.sum_congr rfl fun r _ => congrArg (_ * ·) ?_)
  exact ext_read (by omega) _
theorem tap27 : k0_pay51 (F := Ideal) (k0_pay28 D) (k0_pay34 G P) a (ix2 0 l)
    = a (ix2 0 l) + tap D G P l 3 := by
  pointwise [k0_pay51, k0_pay28, k0_pay34, k0_pay31]
  refine congrArg (_ + ·) (Finset.sum_congr rfl fun r _ => congrArg (_ * ·) ?_)
  exact ext_read (by omega) _
theorem tap26 : k0_pay52 (F := Ideal) (k0_pay28 D) (k0_pay35 G P) a (ix2 0 l)
    = a (ix2 0 l) + tap D G P l 4 := by
  pointwise [k0_pay52, k0_pay28, k0_pay35, k0_pay31]
  refine congrArg (_ + ·) (Finset.sum_congr rfl fun r _ => congrArg (_ * ·) ?_)
  exact ext_read (by omega) _
theorem tap25 : k0_pay54 (F := Ideal) (k0_pay28 D) (k0_pay36 G P) a (ix2 0 l)
    = a (ix2 0 l) + tap D G P l 5 := by
  pointwise [k0_pay54, k0_pay28, k0_pay36, k0_pay31]
  refine congrArg (_ + ·) (Finset.sum_congr rfl fun r _ => congrArg (_ * ·) ?_)
  exact ext_read (by omega) _
theorem tap24 : k0_pay56 (F := Ideal) (k0_pay28 D) (k0_pay37 G P) a (ix2 0 l)
    = a (ix2 0 l) + tap D G P l 6 := by
  pointwise [k0_pay56, k0_pay28, k0_pay37, k0_pay31]
  refine congrArg (_ + ·) (Finset.sum_congr rfl fun r _ => congrArg (_ * ·) ?_)
  exact ext_read (by omega) _
theorem tap23 : k0_pay57 (F := Ideal) (k0_pay28 D) (k0_pay38 G P) a (ix2 0 l)
    = a (ix2 0 l) + tap D G P l 7 := by
  pointwise [k0_pay57, k0_pay28, k0_pay38, k0_pay31]
  refine congrArg (_ + ·) (Finset.sum_congr rfl fun r _ => congrArg (_ * ·) ?_)
  exact ext_read (by omega) _
theorem tap22 : k0_pay59 (F := Ideal) (k0_pay28 D) (k0_pay31 G P) a (ix2 0 l)
    = a (ix2 0 l) + tap D G P l 8 := by
  pointwise [k0_pay59, k0_pay28, k0_pay31, k0_pay31]
  refine congrArg (_ + ·) (Finset.sum_congr rfl fun r _ => congrArg (_ * ·) ?_)
  exact ext_read (by omega) _
theorem tap21 : k0_pay60 (F := Ideal) (k0_pay28 D) (k0_pay32 G P) a (ix2 0 l)
    = a (ix2 0 l) + tap D G P l 9 := by
  pointwise [k0_pay60, k0_pay28, k0_pay32, k0_pay31]
  refine congrArg (_ + ·) (Finset.sum_congr rfl fun r _ => congrArg (_ * ·) ?_)
  exact ext_read (by omega) _
theorem tap20 : k0_pay61 (F := Ideal) (k0_pay28 D) (k0_pay33 G P) a (ix2 0 l)
    = a (ix2 0 l) + tap D G P l 10 := by
  pointwise [k0_pay61, k0_pay28, k0_pay33, k0_pay31]
  refine congrArg (_ + ·) (Finset.sum_congr rfl fun r _ => congrArg (_ * ·) ?_)
  exact ext_read (by omega) _
theorem tap19 : k0_pay63 (F := Ideal) (k0_pay28 D) (k0_pay34 G P) a (ix2 0 l)
    = a (ix2 0 l) + tap D G P l 11 := by
  pointwise [k0_pay63, k0_pay28, k0_pay34, k0_pay31]
  refine congrArg (_ + ·) (Finset.sum_congr rfl fun r _ => congrArg (_ * ·) ?_)
  exact ext_read (by omega) _
theorem tap18 : k0_pay64 (F := Ideal) (k0_pay28 D) (k0_pay35 G P) a (ix2 0 l)
    = a (ix2 0 l) + tap D G P l 12 := by
  pointwise [k0_pay64, k0_pay28, k0_pay35, k0_pay31]
  refine congrArg (_ + ·) (Finset.sum_congr rfl fun r _ => congrArg (_ * ·) ?_)
  exact ext_read (by omega) _
theorem tap17 : k0_pay65 (F := Ideal) (k0_pay28 D) (k0_pay36 G P) a (ix2 0 l)
    = a (ix2 0 l) + tap D G P l 13 := by
  pointwise [k0_pay65, k0_pay28, k0_pay36, k0_pay31]
  refine congrArg (_ + ·) (Finset.sum_congr rfl fun r _ => congrArg (_ * ·) ?_)
  exact ext_read (by omega) _
theorem tap16 : k0_pay67 (F := Ideal) (k0_pay28 D) (k0_pay37 G P) a (ix2 0 l)
    = a (ix2 0 l) + tap D G P l 14 := by
  pointwise [k0_pay67, k0_pay28, k0_pay37, k0_pay31]
  refine congrArg (_ + ·) (Finset.sum_congr rfl fun r _ => congrArg (_ * ·) ?_)
  exact ext_read (by omega) _
theorem tap15 : k0_pay68 (F := Ideal) (k0_pay28 D) (k0_pay38 G P) a (ix2 0 l)
    = a (ix2 0 l) + tap D G P l 15 := by
  pointwise [k0_pay68, k0_pay28, k0_pay38, k0_pay31]
  refine congrArg (_ + ·) (Finset.sum_congr rfl fun r _ => congrArg (_ * ·) ?_)
  exact ext_read (by omega) _
theorem tap14 : k0_pay69 (F := Ideal) (k0_pay28 D) (k0_pay31 G P) a (ix2 0 l)
    = a (ix2 0 l) + tap D G P l 16 := by
  pointwise [k0_pay69, k0_pay28, k0_pay31, k0_pay31]
  refine congrArg (_ + ·) (Finset.sum_congr rfl fun r _ => congrArg (_ * ·) ?_)
  exact ext_read (by omega) _
theorem tap13 : k0_pay73 (F := Ideal) (k0_pay71 a) (k0_pay72 (k0_pay28 D) (k0_pay32 G P)) (ix2 0 l)
    = a (ix2 0 l) + tap D G P l 17 := by
  pointwise [k0_pay73, k0_pay72, k0_pay71, k0_pay28, k0_pay32, k0_pay31]
  refine congrArg (_ + ·) (Finset.sum_congr rfl fun r _ => congrArg (_ * ·) ?_)
  exact ext_read (by omega) _
theorem tap12 : k0_pay74 (F := Ideal) (k0_pay28 D) (k0_pay33 G P) a (ix2 0 l)
    = a (ix2 0 l) + tap D G P l 18 := by
  pointwise [k0_pay74, k0_pay28, k0_pay33, k0_pay31]
  refine congrArg (_ + ·) (Finset.sum_congr rfl fun r _ => congrArg (_ * ·) ?_)
  exact ext_read (by omega) _
theorem tap11 : k0_pay75 (F := Ideal) (k0_pay28 D) (k0_pay34 G P) a (ix2 0 l)
    = a (ix2 0 l) + tap D G P l 19 := by
  pointwise [k0_pay75, k0_pay28, k0_pay34, k0_pay31]
  refine congrArg (_ + ·) (Finset.sum_congr rfl fun r _ => congrArg (_ * ·) ?_)
  exact ext_read (by omega) _
theorem tap10 : k0_pay79 (F := Ideal) (k0_pay28 D) (k0_pay77 a) (k0_pay78 (k0_pay35 G P)) (ix2 0 l)
    = a (ix2 0 l) + tap D G P l 20 := by
  pointwise [k0_pay79, k0_pay77, k0_pay78, k0_pay28, k0_pay35, k0_pay31]
  refine congrArg (_ + ·) (Finset.sum_congr rfl fun r _ => congrArg (_ * ·) ?_)
  exact ext_read (by omega) _
theorem tap9 : k0_pay80 (F := Ideal) (k0_pay28 D) (k0_pay36 G P) a (ix2 0 l)
    = a (ix2 0 l) + tap D G P l 21 := by
  pointwise [k0_pay80, k0_pay28, k0_pay36, k0_pay31]
  refine congrArg (_ + ·) (Finset.sum_congr rfl fun r _ => congrArg (_ * ·) ?_)
  exact ext_read (by omega) _
theorem tap8 : k0_pay81 (F := Ideal) (k0_pay28 D) (k0_pay37 G P) a (ix2 0 l)
    = a (ix2 0 l) + tap D G P l 22 := by
  pointwise [k0_pay81, k0_pay28, k0_pay37, k0_pay31]
  refine congrArg (_ + ·) (Finset.sum_congr rfl fun r _ => congrArg (_ * ·) ?_)
  exact ext_read (by omega) _
theorem tap7 : k0_pay83 (F := Ideal) (k0_pay28 D) (k0_pay38 G P) a (ix2 0 l)
    = a (ix2 0 l) + tap D G P l 23 := by
  pointwise [k0_pay83, k0_pay28, k0_pay38, k0_pay31]
  refine congrArg (_ + ·) (Finset.sum_congr rfl fun r _ => congrArg (_ * ·) ?_)
  exact ext_read (by omega) _
theorem tap6 : k0_pay84 (F := Ideal) (k0_pay28 D) (k0_pay31 G P) a (ix2 0 l)
    = a (ix2 0 l) + tap D G P l 24 := by
  pointwise [k0_pay84, k0_pay28, k0_pay31, k0_pay31]
  refine congrArg (_ + ·) (Finset.sum_congr rfl fun r _ => congrArg (_ * ·) ?_)
  exact ext_read (by omega) _
theorem tap5 : k0_pay86 (F := Ideal) (k0_pay28 D) (k0_pay32 G P) a (ix2 0 l)
    = a (ix2 0 l) + tap D G P l 25 := by
  pointwise [k0_pay86, k0_pay28, k0_pay32, k0_pay31]
  refine congrArg (_ + ·) (Finset.sum_congr rfl fun r _ => congrArg (_ * ·) ?_)
  exact ext_read (by omega) _
theorem tap4 : k0_pay88 (F := Ideal) (k0_pay28 D) (k0_pay33 G P) a (ix2 0 l)
    = a (ix2 0 l) + tap D G P l 26 := by
  pointwise [k0_pay88, k0_pay28, k0_pay33, k0_pay31]
  refine congrArg (_ + ·) (Finset.sum_congr rfl fun r _ => congrArg (_ * ·) ?_)
  exact ext_read (by omega) _
theorem tap3 : k0_pay89 (F := Ideal) (k0_pay28 D) (k0_pay34 G P) a (ix2 0 l)
    = a (ix2 0 l) + tap D G P l 27 := by
  pointwise [k0_pay89, k0_pay28, k0_pay34, k0_pay31]
  refine congrArg (_ + ·) (Finset.sum_congr rfl fun r _ => congrArg (_ * ·) ?_)
  exact ext_read (by omega) _
theorem tap2 : k0_pay91 (F := Ideal) (k0_pay28 D) (k0_pay35 G P) a (ix2 0 l)
    = a (ix2 0 l) + tap D G P l 28 := by
  pointwise [k0_pay91, k0_pay28, k0_pay35, k0_pay31]
  refine congrArg (_ + ·) (Finset.sum_congr rfl fun r _ => congrArg (_ * ·) ?_)
  exact ext_read (by omega) _
theorem tap1 : k0_pay92 (F := Ideal) (k0_pay28 D) (k0_pay36 G P) a (ix2 0 l)
    = a (ix2 0 l) + tap D G P l 29 := by
  pointwise [k0_pay92, k0_pay28, k0_pay36, k0_pay31]
  refine congrArg (_ + ·) (Finset.sum_congr rfl fun r _ => congrArg (_ * ·) ?_)
  exact ext_read (by omega) _
theorem tap0 : k0_pay94 (F := Ideal) (k0_pay28 D) (k0_pay37 G P) a (ix2 0 l)
    = a (ix2 0 l) + tap D G P l 30 := by
  pointwise [k0_pay94, k0_pay28, k0_pay37, k0_pay31]
  refine congrArg (_ + ·) (Finset.sum_congr rfl fun r _ => congrArg (_ * ·) ?_)
  exact ext_read (by omega) _
variable (w30 w29 w28 w27 w26 w25 w24 w23 w22 w21 w20 w19 w18 w17 w16 w15 w14 w13 w12 w11 w10 w9 w8 w7 w6 w5 w4 w3 w2 w1 w0 : FVec Ideal S1x1024 .f32)
/-- The gradient at the gated input of the long convolution, as the kernel composes it: tap by tap over its rows' gradients. -/
def KDG : FVec Ideal S128x1024 .f32 :=
  k0_pay93 (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0

theorem KDG_fold : k0_pay93 (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0
  = KDG D w30 w29 w28 w27 w26 w25 w24 w23 w22 w21 w20 w19 w18 w17 w16 w15 w14 w13 w12 w11 w10 w9 w8 w7 w6 w5 w4 w3 w2 w1 w0 := rfl

set_option maxHeartbeats 1600000 in
theorem KDG_at (r : Fin 128) : KDG D w30 w29 w28 w27 w26 w25 w24 w23 w22 w21 w20 w19 w18 w17 w16 w15 w14 w13 w12 w11 w10 w9 w8 w7 w6 w5 w4 w3 w2 w1 w0 (ix2 r l) =
  w30 (ix2 0 l) * D (ix2 ⟨r.val + 0, by omega⟩ l) + w29 (ix2 0 l) * D (ix2 ⟨r.val + 1, by omega⟩ l) + w28 (ix2 0 l) * D (ix2 ⟨r.val + 2, by omega⟩ l) + w27 (ix2 0 l) * D (ix2 ⟨r.val + 3, by omega⟩ l) + w26 (ix2 0 l) * D (ix2 ⟨r.val + 4, by omega⟩ l) + w25 (ix2 0 l) * D (ix2 ⟨r.val + 5, by omega⟩ l) + w24 (ix2 0 l) * D (ix2 ⟨r.val + 6, by omega⟩ l) + w23 (ix2 0 l) * D (ix2 ⟨r.val + 7, by omega⟩ l) + w22 (ix2 0 l) * D (ix2 ⟨r.val + 8, by omega⟩ l) + w21 (ix2 0 l) * D (ix2 ⟨r.val + 9, by omega⟩ l) + w20 (ix2 0 l) * D (ix2 ⟨r.val + 10, by omega⟩ l) + w19 (ix2 0 l) * D (ix2 ⟨r.val + 11, by omega⟩ l) + w18 (ix2 0 l) * D (ix2 ⟨r.val + 12, by omega⟩ l) + w17 (ix2 0 l) * D (ix2 ⟨r.val + 13, by omega⟩ l) + w16 (ix2 0 l) * D (ix2 ⟨r.val + 14, by omega⟩ l) + w15 (ix2 0 l) * D (ix2 ⟨r.val + 15, by omega⟩ l) + w14 (ix2 0 l) * D (ix2 ⟨r.val + 16, by omega⟩ l) + w13 (ix2 0 l) * D (ix2 ⟨r.val + 17, by omega⟩ l) + w12 (ix2 0 l) * D (ix2 ⟨r.val + 18, by omega⟩ l) + w11 (ix2 0 l) * D (ix2 ⟨r.val + 19, by omega⟩ l) + w10 (ix2 0 l) * D (ix2 ⟨r.val + 20, by omega⟩ l) + w9 (ix2 0 l) * D (ix2 ⟨r.val + 21, by omega⟩ l) + w8 (ix2 0 l) * D (ix2 ⟨r.val + 22, by omega⟩ l) + w7 (ix2 0 l) * D (ix2 ⟨r.val + 23, by omega⟩ l) + w6 (ix2 0 l) * D (ix2 ⟨r.val + 24, by omega⟩ l) + w5 (ix2 0 l) * D (ix2 ⟨r.val + 25, by omega⟩ l) + w4 (ix2 0 l) * D (ix2 ⟨r.val + 26, by omega⟩ l) + w3 (ix2 0 l) * D (ix2 ⟨r.val + 27, by omega⟩ l) + w2 (ix2 0 l) * D (ix2 ⟨r.val + 28, by omega⟩ l) + w1 (ix2 0 l) * D (ix2 ⟨r.val + 29, by omega⟩ l) + w0 (ix2 0 l) * D (ix2 ⟨r.val + 30, by omega⟩ l) := by
  pointwise [KDG, k0_pay93, k0_pay90, k0_pay85, k0_pay82, k0_pay76, k0_pay70, k0_pay66, k0_pay62, k0_pay58, k0_pay53, k0_pay50,
    k0_pay30, k0_pay28, k0_pay55, k0_pay87, k0_pay39, k0_pay40, k0_pay41, k0_pay42, k0_pay43, k0_pay44, k0_pay45]
  repeat' (first | exact congrArg (_ * ·) (row_read (by omega)) | refine congrArg₂ (· + ·) ?_ ?_)

variable (k : EReal) (sb dyc : FVec Ideal S128x1024 .f32) (dyn nx : FVec Ideal S32x1024 .f32)

/-- The gradient at the short convolution's output, the block and the head of the next, as the kernel composes it. -/
def KDC : FVec Ideal S160x1024 .f32 := k0_pay102 k sb dyc dyn nx

theorem KDC_at (n : Fin 160) : KDC k sb dyc dyn nx (ix2 n l)
    = if h : n.val < 128 then dyc (ix2 ⟨n.val, h⟩ l) * sb (ix2 ⟨n.val, h⟩ l)
      else dyn (ix2 ⟨n.val - 128, by omega⟩ l) * nx (ix2 ⟨n.val - 128, by omega⟩ l) * k := by
  pointwise [KDC, k0_pay102]

theorem KDPP_at (r : Fin 128) : k0_pay113 (F := Ideal) (k0_pay102 k sb dyc dyn nx) (k0_pay106 k sb dyc dyn nx w2) 159#32 w1 w0 (ix2 r l)
    = w2 (ix2 0 l) * KDC k sb dyc dyn nx (ix2 ⟨r.val, by omega⟩ l) + w1 (ix2 0 l) * KDC k sb dyc dyn nx (ix2 ⟨r.val + 1, by omega⟩ l)
      + w0 (ix2 0 l) * KDC k sb dyc dyn nx (ix2 ⟨r.val + 2, by omega⟩ l) := by
  have e : ∀ i, k0_pay102 k sb dyc dyn nx i = KDC k sb dyc dyn nx i := fun _ => rfl
  pointwise [k0_pay113, k0_pay106, k0_pay103, e]
  repeat' (first | exact congrArg (_ * ·) (row_read (by omega)) | refine congrArg₂ (· + ·) ?_ ?_)

theorem KCP_at (r : Fin 128) : k0_pay112 (F := Ideal) (k0_pay104 G P) (k0_pay105 G w2) w1 w0 (ix2 r l)
    = w2 (ix2 0 l) * ext P G (32 + r.val) l + w1 (ix2 0 l) * ext P G (31 + r.val) l + w0 (ix2 0 l) * ext P G (30 + r.val) l := by
  pointwise [k0_pay112, k0_pay104, k0_pay105, k0_pay109, k0_pay108, k0_pay111]
  refine congrArg₂ (· + ·) (congrArg₂ (· + ·) (congrArg (_ * ·) ?_) (congrArg (_ * ·) ?_)) (congrArg (_ * ·) ?_)
  · exact ext_own r.isLt
  · exact ext_read (by omega) _
  · exact ext_read (by omega) _

theorem stap2 : k0_pay107 (F := Ideal) k sb G dyc dyn nx a (ix2 0 l) = a (ix2 0 l) + tap (KDC k sb dyc dyn nx) G P l 0 := by
  have e : ∀ i, k0_pay102 k sb dyc dyn nx i = KDC k sb dyc dyn nx i := fun _ => rfl
  pointwise [k0_pay107, k0_pay103, e]
  refine congrArg (_ + ·) (Finset.sum_congr rfl fun r _ => congrArg (_ * ·) ?_)
  exact ext_own r.isLt

theorem stap1 : k0_pay110 (F := Ideal) (k0_pay103 k sb dyc dyn nx) (k0_pay104 G P) a (ix2 0 l) = a (ix2 0 l) + tap (KDC k sb dyc dyn nx) G P l 1 := by
  have e : ∀ i, k0_pay102 k sb dyc dyn nx i = KDC k sb dyc dyn nx i := fun _ => rfl
  pointwise [k0_pay110, k0_pay103, k0_pay104, k0_pay109, k0_pay108, e]
  refine congrArg (_ + ·) (Finset.sum_congr rfl fun r _ => congrArg (_ * ·) ?_)
  exact ext_read (by omega) _

theorem stap0 : k0_pay114 (F := Ideal) (k0_pay103 k sb dyc dyn nx) (k0_pay104 G P) a (ix2 0 l) = a (ix2 0 l) + tap (KDC k sb dyc dyn nx) G P l 2 := by
  have e : ∀ i, k0_pay102 k sb dyc dyn nx i = KDC k sb dyc dyn nx i := fun _ => rfl
  pointwise [k0_pay114, k0_pay103, k0_pay104, k0_pay111, k0_pay108, e]
  refine congrArg (_ + ·) (Finset.sum_congr rfl fun r _ => congrArg (_ * ·) ?_)
  exact ext_read (by omega) _

variable (sg cu : FVec Ideal S128x1024 .f32)

theorem pay10_at (v : FVec Ideal S128x1024 .f32) (r : Fin 128) : k0_pay10 (F := Ideal) v (ix2 r l) = sigm (v (ix2 r l)) := by
  pointwise [k0_pay10, sigm]
  simp only [zero_sub]

theorem pay95_fold : k0_pay95 sg (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0 = mulf (KDG D w30 w29 w28 w27 w26 w25 w24 w23 w22 w21 w20 w19 w18 w17 w16 w15 w14 w13 w12 w11 w10 w9 w8 w7 w6 w5 w4 w3 w2 w1 w0) sg := rfl
theorem pay98_fold : k0_pay98 cu sg (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0 = mulf (mulf (KDG D w30 w29 w28 w27 w26 w25 w24 w23 w22 w21 w20 w19 w18 w17 w16 w15 w14 w13 w12 w11 w10 w9 w8 w7 w6 w5 w4 w3 w2 w1 w0) cu) sg := rfl

theorem pay96_at (r : Fin 128) : k0_pay96 sg (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0 (ix2 r l) = KDG D w30 w29 w28 w27 w26 w25 w24 w23 w22 w21 w20 w19 w18 w17 w16 w15 w14 w13 w12 w11 w10 w9 w8 w7 w6 w5 w4 w3 w2 w1 w0 (ix2 r l) * sg (ix2 r l) := by
  unfold k0_pay96
  rw [pay95_fold]
  pointwise

theorem pay97_at : k0_pay97 sg (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0 a (ix2 0 l) = a (ix2 0 l) + ∑ r : Fin 128, KDG D w30 w29 w28 w27 w26 w25 w24 w23 w22 w21 w20 w19 w18 w17 w16 w15 w14 w13 w12 w11 w10 w9 w8 w7 w6 w5 w4 w3 w2 w1 w0 (ix2 r l) * sg (ix2 r l) := by
  unfold k0_pay97
  rw [pay95_fold]
  pointwise

theorem pay100_at (r : Fin 128) : k0_pay100 sg (k0_pay98 cu sg (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0) (Scalar.ofBits .f32 0x3F800000#32) (ix2 r l)
    = KDG D w30 w29 w28 w27 w26 w25 w24 w23 w22 w21 w20 w19 w18 w17 w16 w15 w14 w13 w12 w11 w10 w9 w8 w7 w6 w5 w4 w3 w2 w1 w0 (ix2 r l) * cu (ix2 r l) * sg (ix2 r l) * (1 - sg (ix2 r l)) := by
  rw [pay98_fold]
  pointwise [k0_pay100, k0_pay99]

theorem pay101_at : k0_pay101 sg (k0_pay98 cu sg (k0_pay43 D) (k0_pay44 D) (k0_pay90 (k0_pay41 D) (k0_pay42 D) (k0_pay85 D (k0_pay39 D) (k0_pay82 (k0_pay43 D) (k0_pay44 D) (k0_pay45 D)
    (k0_pay76 (k0_pay40 D) (k0_pay41 D) (k0_pay42 D) (k0_pay70 D (k0_pay39 D) (k0_pay45 D) (k0_pay66 (k0_pay42 D) (k0_pay43 D) (k0_pay44 D) (k0_pay62 (k0_pay39 D) (k0_pay40 D) (k0_pay41 D)
    (k0_pay58 D (k0_pay45 D) (k0_pay53 (k0_pay42 D) (k0_pay43 D) (k0_pay50 (k0_pay30 D w30) (k0_pay39 D) (k0_pay40 D) (k0_pay41 D) w29 w28 w27) w26 w25)
    (k0_pay55 (k0_pay44 D) w24) w23 w22) w21 w20 w19) w18 w17 w16) w15 w14 w13) w12 w11 w10) w9 w8 w7) w6 w5)
    (k0_pay87 (k0_pay40 D) w4) w3 w2) w1 w0) (Scalar.ofBits .f32 0x3F800000#32) a (ix2 0 l)
    = a (ix2 0 l) + ∑ r : Fin 128, KDG D w30 w29 w28 w27 w26 w25 w24 w23 w22 w21 w20 w19 w18 w17 w16 w15 w14 w13 w12 w11 w10 w9 w8 w7 w6 w5 w4 w3 w2 w1 w0 (ix2 r l) * cu (ix2 r l) * sg (ix2 r l) * (1 - sg (ix2 r l)) := by
  rw [pay98_fold]
  pointwise [k0_pay101, k0_pay99]

variable (u v : FVec Ideal S128x1024 .f32)
theorem pay116_at (r : Fin 128) : k0_pay116 (F := Ideal) u v (ix2 r l) = u (ix2 r l) * v (ix2 r l) := by pointwise [k0_pay116, k0_pay115]
theorem pay119_at (r : Fin 128) : k0_pay119 (F := Ideal) u v (ix2 r l) = v (ix2 r l) * u (ix2 r l) := by pointwise [k0_pay119, k0_pay118]
theorem pay122_at (r : Fin 128) : k0_pay122 (F := Ideal) u v (ix2 r l) = v (ix2 r l) * u (ix2 r l) := by pointwise [k0_pay122, k0_pay121]
theorem pay117_at : k0_pay117 (F := Ideal) u v a (ix2 0 l) = a (ix2 0 l) + ∑ r : Fin 128, u (ix2 r l) * v (ix2 r l) := by pointwise [k0_pay117, k0_pay115]
theorem pay120_at : k0_pay120 (F := Ideal) u v a (ix2 0 l) = a (ix2 0 l) + ∑ r : Fin 128, v (ix2 r l) * u (ix2 r l) := by pointwise [k0_pay120, k0_pay118]
theorem pay1_at : k0_pay1 (F := Ideal) (k0_pay121 u v) a (ix2 0 l) = a (ix2 0 l) + ∑ r : Fin 128, v (ix2 r l) * u (ix2 r l) := by pointwise [k0_pay1, k0_pay121]
theorem pay29_at : k0_pay29 (F := Ideal) D a (ix2 0 l) = a (ix2 0 l) + ∑ r : Fin 128, D (ix2 ⟨r.val, by omega⟩ l) := by pointwise [k0_pay29, k0_pay28]
theorem pay27_at : k0_pay27 (F := Ideal) D (k0_pay26 a) (ix2 0 l) = a (ix2 0 l) + ∑ r : Fin 128, D (ix2 ⟨r.val, by omega⟩ l) := by pointwise [k0_pay27, k0_pay26]
theorem pay25_at (A B C E : FVec Ideal S160x1024 .f32) : k0_pay25 (F := Ideal) A B C E a (ix2 0 l)
    = a (ix2 0 l) + ∑ r : Fin 128, k0_pay23 A C E (ix2 ⟨r.val, by omega⟩ l) * B (ix2 ⟨r.val, by omega⟩ l) := by
  have e : ∀ i, k0_pay23 A C E i = k0_pay23 A C E i := fun _ => rfl
  unfold k0_pay25
  generalize k0_pay23 A C E = Q
  pointwise

end Cert.Odd
end
-- ==== Proof.KIn.lean ====
module

public import proofs.«01_k».proof.Proof.KPay
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Odd
variable (m : (ℓ : Loc nD τ sig) → Buf (Elt Ideal) ℓ)
theorem idx : ∀ t : Fin cfg0.N, win0_0.index t = ![t.val, 0] ∧ win0_1.index t = ![4 * t.val - 1, 0] ∧ win0_2.index t = ![min (4 * (t.val + 1)) 127, 0]
   ∧ win0_3.index t = ![t.val, 0] ∧ win0_4.index t = ![min (4 * (t.val + 1)) 127, 0] ∧ win0_5.index t = ![t.val, 0]
   ∧ win0_6.index t = ![min (4 * (t.val + 1)) 127, 0] ∧ win0_7.index t = ![0, 0] ∧ win0_8.index t = ![0, 0] ∧ win0_9.index t = ![0, 0] ∧ win0_10.index t = ![0, 0]
   ∧ win0_11.index t = ![t.val, 0] :=
  (by decide +kernel : ∀ t : Fin grid0.N, _)
set_option maxHeartbeats 800000
theorem in0 (c : Dev nD) (t : Fin cfg0.N) (r : Fin 128) (l : Fin 5120) (h : 128 * t.val + r.val < 4096) :
    (iblk m c 0 t : FVec Ideal S128x5120 .f32) (ix2 r l) = (m ((c : Thread nD τ).loc main_arg0) : FVec Ideal S4096x5120 .f32) (ix2 ⟨128 * t.val + r.val, h⟩ l) := by
  blk_point [iblk, idx t]
theorem in1 (c : Dev nD) (t : Fin cfg0.N) (r : Fin 32) (l : Fin 5120) (h : 32 * (4 * t.val - 1) + r.val < 4096) :
    (iblk m c 1 t : FVec Ideal S32x5120 .f32) (ix2 r l) = (m ((c : Thread nD τ).loc main_arg0) : FVec Ideal S4096x5120 .f32) (ix2 ⟨32 * (4 * t.val - 1) + r.val, h⟩ l) := by
  blk_point [iblk, idx t]
theorem in2 (c : Dev nD) (t : Fin cfg0.N) (r : Fin 32) (l : Fin 5120) (h : 32 * min (4 * (t.val + 1)) 127 + r.val < 4096) :
    (iblk m c 2 t : FVec Ideal S32x5120 .f32) (ix2 r l) = (m ((c : Thread nD τ).loc main_arg0) : FVec Ideal S4096x5120 .f32) (ix2 ⟨32 * min (4 * (t.val + 1)) 127 + r.val, h⟩ l) := by
  blk_point [iblk, idx t]
theorem in3 (c : Dev nD) (t : Fin cfg0.N) (r : Fin 128) (l : Fin 2048) (h : 128 * t.val + r.val < 4096) :
    (iblk m c 3 t : FVec Ideal S128x2048 .f32) (ix2 r l) = (m ((c : Thread nD τ).loc main_arg1) : FVec Ideal S4096x2048 .f32) (ix2 ⟨128 * t.val + r.val, h⟩ l) := by
  blk_point [iblk, idx t]
theorem in4 (c : Dev nD) (t : Fin cfg0.N) (r : Fin 32) (l : Fin 2048) (h : 32 * min (4 * (t.val + 1)) 127 + r.val < 4096) :
    (iblk m c 4 t : FVec Ideal S32x2048 .f32) (ix2 r l) = (m ((c : Thread nD τ).loc main_arg1) : FVec Ideal S4096x2048 .f32) (ix2 ⟨32 * min (4 * (t.val + 1)) 127 + r.val, h⟩ l) := by
  blk_point [iblk, idx t]
theorem in5 (c : Dev nD) (t : Fin cfg0.N) (r : Fin 128) (l : Fin 1024) (h : 128 * t.val + r.val < 4096) :
    (iblk m c 5 t : FVec Ideal S128x1024 .f32) (ix2 r l) = (V m c main_v82 : FVec Ideal S4096x1024 .f32) (ix2 ⟨128 * t.val + r.val, h⟩ l) := by
  blk_point [iblk, idx t]
theorem in6 (c : Dev nD) (t : Fin cfg0.N) (r : Fin 32) (l : Fin 1024) (h : 32 * min (4 * (t.val + 1)) 127 + r.val < 4096) :
    (iblk m c 6 t : FVec Ideal S32x1024 .f32) (ix2 r l) = (V m c main_v82 : FVec Ideal S4096x1024 .f32) (ix2 ⟨32 * min (4 * (t.val + 1)) 127 + r.val, h⟩ l) := by
  blk_point [iblk, idx t]
theorem in7 (c : Dev nD) (t : Fin cfg0.N) (r : Fin 3) (l : Fin 1024)  :
    (iblk m c 7 t : FVec Ideal S3x1024 .f32) (ix2 r l) = (m ((c : Thread nD τ).loc main_arg2) : FVec Ideal S3x1024 .f32) (ix2 r l) := by
  blk_point [iblk, idx t]
theorem in8 (c : Dev nD) (t : Fin cfg0.N) (r : Fin 31) (l : Fin 1024)  :
    (iblk m c 8 t : FVec Ideal S31x1024 .f32) (ix2 r l) = (m ((c : Thread nD τ).loc main_arg3) : FVec Ideal S31x1024 .f32) (ix2 r l) := by
  blk_point [iblk, idx t]
theorem in9 (c : Dev nD) (t : Fin cfg0.N) (r : Fin 1) (l : Fin 1024)  :
    (iblk m c 9 t : FVec Ideal S1x1024 .f32) (ix2 r l) = (V m c main_v83 : FVec Ideal S1x1024 .f32) (ix2 r l) := by
  blk_point [iblk, idx t]
theorem in10 (c : Dev nD) (t : Fin cfg0.N) (r : Fin 1) (l : Fin 1024)  :
    (iblk m c 10 t : FVec Ideal S1x1024 .f32) (ix2 r l) = (V m c main_v84 : FVec Ideal S1x1024 .f32) (ix2 r l) := by
  blk_point [iblk, idx t]
end Cert.Odd
end
-- ==== Proof.Glob.lean ====
/- The step's gradients as functions of the token, the channel and the arrays: the mathematics both programs compute. -/
module

public import proofs.«01_k».proof.Proof.Spec

@[expose] public section
set_option maxRecDepth 16384
noncomputable section
open Idealize.ShloMosaic
namespace Cert.Odd

variable (X : Fin 4096 → Fin 5120 → EReal) (Y : Fin 4096 → Fin 2048 → EReal) (D : Fin 4096 → Row)
  (w3 : Fin 3 → Row) (w31 : Fin 31 → Row) (g o : Row)

/-- Part `k` of the projection's columns. -/
def part (k : Fin 5) (t : Fin 4096) : Row := fun l => X t ⟨1024 * k.val + l.val, by omega⟩
/-- The gradient arriving at the short filter's output. -/
def yA (t : Fin 4096) : Row := fun l => Y t ⟨l.val, by omega⟩
/-- The gradient arriving at the normalised filter's output. -/
def yB (t : Fin 4096) : Row := fun l => Y t ⟨1024 + l.val, by omega⟩
/-- A sequence of rows continued by zero past the last token. -/
def past (f : Fin 4096 → Row) (t : ℕ) : Row := fun l => if h : t < 4096 then f ⟨t, h⟩ l else 0
/-- A sequence of rows delayed by `s` tokens, zero before the first. -/
def late (f : Fin 4096 → Row) (t s : ℕ) : Row := fun l => if s ≤ t then past f (t - s) l else 0
/-- The gated unit: what the long filter runs over. -/
def glu (t : Fin 4096) : Row := fun l => part X 3 t l * sigm (part X 4 t l)
/-- What the short filter runs over. -/
def pp (t : Fin 4096) : Row := fun l => part X 1 t l * part X 2 t l
/-- The gradient at the long filter's output. -/
def gd (t : Fin 4096) : Row := dd (D t) (yB Y t) g o
/-- The gradient at the short filter's output. -/
def gc (t : Fin 4096) : Row := fun l => yA Y t l * part X 0 t l
/-- The gradient at the normalised row. -/
def gln (t : Fin 4096) : Row := dln (D t) (yB Y t) g o
/-- The short filter's output. -/
def cp (t : Fin 4096) : Row := fun l => w3 2 l * late (pp X) t.val 0 l + w3 1 l * late (pp X) t.val 1 l + w3 0 l * late (pp X) t.val 2 l
/-- The gradient at the short filter's input. -/
def gp (t : Fin 4096) : Row := fun l => w3 2 l * past (gc X Y) t.val l + w3 1 l * past (gc X Y) (t.val + 1) l + w3 0 l * past (gc X Y) (t.val + 2) l
/-- The gradient at the long filter's input. -/
def gg (t : Fin 4096) : Row := fun l => ∑ s ∈ Finset.range 31, (if h : s < 31 then w31 ⟨30 - s, by omega⟩ l else 0) * past (gd Y D g o) (t.val + s) l
/-- The gradient at the projection, column by column. -/
def gx (t : Fin 4096) (k : Fin 5) : Row := fun l => match k with
  | 0 => yA Y t l * cp X w3 t l
  | 1 => gp X Y w3 t l * part X 2 t l
  | 2 => gp X Y w3 t l * part X 1 t l
  | 3 => gg Y D w31 g o t l * sigm (part X 4 t l)
  | 4 => gg Y D w31 g o t l * part X 3 t l * sigm (part X 4 t l) * (1 - sigm (part X 4 t l))

/-- One term of a filter's gradient. -/
def term (d f : Fin 4096 → Row) (s : ℕ) (t : Fin 4096) (l : Fin 1024) : EReal := d t l * late f t.val s l

theorem past_lt (f : Fin 4096 → Row) {t : ℕ} (h : t < 4096) (l : Fin 1024) : past f t l = f ⟨t, h⟩ l := dif_pos h
theorem past_ge (f : Fin 4096 → Row) {t : ℕ} (h : ¬ t < 4096) (l : Fin 1024) : past f t l = 0 := dif_neg h
theorem late_zero (f : Fin 4096 → Row) (t : Fin 4096) (l : Fin 1024) : late f t.val 0 l = f t l := by
  unfold late; rw [if_pos (Nat.zero_le _), Nat.sub_zero, past_lt f t.isLt]

end Cert.Odd
end
-- ==== Proof.KBlk.lean ====
/- The composed blocks as blocks of the global rows. -/
module

public import proofs.«01_k».proof.Proof.KPay
public import proofs.«01_k».proof.Proof.Glob
public import proofs.«01_k».proof.Proof.Gen.KernelIdeal.Skeleton
public import Idealize.ShloMosaic.Lib.Claim
public import Idealize.ShloMosaic.Lib.Pointwise
public import Idealize.ShloMosaic.Lib.Pipeline.ValueKit
public import Idealize.ShloMosaic.Lib.Pipeline.ReadBack

@[expose] public section
set_option maxRecDepth 16384
noncomputable section
open Idealize.ShloMosaic Idealize.ShloMosaic.TcCoe Idealize.SL.Sem
open Cert.KernelIdeal Cert.KernelIdeal.Gen
namespace Cert.Odd

theorem keepNext (t : Fin grid0.N) : k0_pay9 (F := Ideal) (grid0.coords t) = if t.val < 31 then 1 else 0 := by
  have e : (grid0.coords t 0).val = t.val := (by decide +kernel : ∀ t : Fin grid0.N, (grid0.coords t 0).val = t.val) t
  have h := (by decide +kernel : ∀ t : Fin grid0.N,
    (Scalar.extui (Scalar.cmpi .slt (BitVec.ofNat 32 t.val) 31#32) : BitVec 32) = if t.val < 31 then 1#32 else 0#32) t
  unfold k0_pay9
  rw [e]
  show Scalar.sitofp .f32 (Scalar.extui (Scalar.cmpi .slt (BitVec.ofNat 32 t.val) 31#32) : BitVec 32) = _
  rw [h]
  split
  · show (((1#32 : BitVec 32).toInt : ℝ) : EReal) = 1
    rw [show (1#32 : BitVec 32).toInt = 1 from rfl]; simp
  · show (((0#32 : BitVec 32).toInt : ℝ) : EReal) = 0
    rw [show (0#32 : BitVec 32).toInt = 0 from rfl]; simp

theorem keepPrev (t : Fin grid0.N) : k0_pay8 (F := Ideal) (grid0.coords t) = if 0 < t.val then 1 else 0 := by
  have e : (grid0.coords t 0).val = t.val := (by decide +kernel : ∀ t : Fin grid0.N, (grid0.coords t 0).val = t.val) t
  have h := (by decide +kernel : ∀ t : Fin grid0.N,
    (Scalar.extui (Scalar.cmpi .sgt (BitVec.ofNat 32 t.val) 0#32) : BitVec 32) = if 0 < t.val then 1#32 else 0#32) t
  unfold k0_pay8
  rw [e]
  show Scalar.sitofp .f32 (Scalar.extui (Scalar.cmpi .sgt (BitVec.ofNat 32 t.val) 0#32) : BitVec 32) = _
  rw [h]
  split
  · show (((1#32 : BitVec 32).toInt : ℝ) : EReal) = 1
    rw [show (1#32 : BitVec 32).toInt = 1 from rfl]; simp
  · show (((0#32 : BitVec 32).toInt : ℝ) : EReal) = 0
    rw [show (0#32 : BitVec 32).toInt = 0 from rfl]; simp

section
variable (X : Fin 4096 → Fin 5120 → EReal) (Y : Fin 4096 → Fin 2048 → EReal) (Dv : Fin 4096 → Row) (go oo : Row)

/-- The rows' gradients of block `t` and of the head of the next one. -/
def DDb (t : ℕ) : FVec Ideal S160x1024 .f32 := fun i => past (gd Y Dv go oo) (128 * t + (i 0).val) (i 1)

theorem KDD_blk (t : ℕ) (ht : t < 32) (k : EReal) (hk : k = if t < 31 then 1 else 0)
    (a b : FVec Ideal S128x1024 .f32) (a' b' : FVec Ideal S32x1024 .f32) (g o : FVec Ideal S1x1024 .f32)
    (ha : ∀ (r : Fin 128) (l : Fin 1024) (h : 128 * t + r.val < 4096), a (ix2 r l) = Dv ⟨128 * t + r.val, h⟩ l)
    (hb : ∀ (r : Fin 128) (l : Fin 1024) (h : 128 * t + r.val < 4096), b (ix2 r l) = yB Y ⟨128 * t + r.val, h⟩ l)
    (ha' : ∀ (r : Fin 32) (l : Fin 1024) (h : 32 * min (4 * (t + 1)) 127 + r.val < 4096), a' (ix2 r l) = Dv ⟨32 * min (4 * (t + 1)) 127 + r.val, h⟩ l)
    (hb' : ∀ (r : Fin 32) (l : Fin 1024) (h : 32 * min (4 * (t + 1)) 127 + r.val < 4096), b' (ix2 r l) = yB Y ⟨32 * min (4 * (t + 1)) 127 + r.val, h⟩ l)
    (hg : ∀ l, g (ix2 0 l) = go l) (ho : ∀ l, o (ix2 0 l) = oo l) :
    KDD k a b a' b' g o = DDb Y Dv go oo t := by
  funext i
  obtain ⟨n, l, rfl⟩ : ∃ (n : Fin 160) (l : Fin 1024), i = ix2 n l := ⟨i 0, i 1, by idx_vars i⟩
  rw [KDD_at]
  show _ = past _ (128 * t + n.val) l
  have eg : row1 g = go := funext hg
  have eo : row1 o = oo := funext ho
  rw [eg, eo]
  by_cases hn : n.val < 128
  · have hr : 128 * t + n.val < 4096 := by omega
    have e1 : cat a a' n = Dv ⟨128 * t + n.val, hr⟩ := by funext l; unfold cat; rw [dif_pos hn]; exact ha ⟨n.val, hn⟩ l hr
    have e2 : cat b (scl k b') n = yB Y ⟨128 * t + n.val, hr⟩ := by funext l; unfold cat; rw [dif_pos hn]; exact hb ⟨n.val, hn⟩ l hr
    rw [e1, e2, past_lt _ hr]; rfl
  · by_cases h31 : t < 31
    · have hr : 128 * t + n.val < 4096 := by omega
      have q : 32 * min (4 * (t + 1)) 127 + (n.val - 128) = 128 * t + n.val := by omega
      have e1 : cat a a' n = Dv ⟨128 * t + n.val, hr⟩ := by
        funext l; unfold cat; rw [dif_neg hn, ha' ⟨n.val - 128, by omega⟩ l (by simp only [q]; exact hr)]; simp only [q]
      have e2 : cat b (scl k b') n = yB Y ⟨128 * t + n.val, hr⟩ := by
        funext l; unfold cat scl; rw [dif_neg hn, hb' ⟨n.val - 128, by omega⟩ l (by simp only [q]; exact hr), hk, if_pos h31, mul_one]; simp only [q]
      rw [e1, e2, past_lt _ hr]; rfl
    · have e2 : cat b (scl k b') n = fun _ => 0 := by
        funext l; unfold cat scl; rw [dif_neg hn, hk, if_neg h31, mul_zero]
      rw [e2, dd_zero, past_ge _ (by omega)]

/-- The gradient at the short filter's output, block `t` and the head of the next one. -/
def DCb (t : ℕ) : FVec Ideal S160x1024 .f32 := fun i => past (gc X Y) (128 * t + (i 0).val) (i 1)

theorem KDC_blk (t : ℕ) (ht : t < 32) (k : EReal) (hk : k = if t < 31 then 1 else 0)
    (a b : FVec Ideal S128x1024 .f32) (a' b' : FVec Ideal S32x1024 .f32)
    (ha : ∀ (r : Fin 128) (l : Fin 1024) (h : 128 * t + r.val < 4096), a (ix2 r l) = part X 0 ⟨128 * t + r.val, h⟩ l)
    (hb : ∀ (r : Fin 128) (l : Fin 1024) (h : 128 * t + r.val < 4096), b (ix2 r l) = yA Y ⟨128 * t + r.val, h⟩ l)
    (ha' : ∀ (r : Fin 32) (l : Fin 1024) (h : 32 * min (4 * (t + 1)) 127 + r.val < 4096), a' (ix2 r l) = part X 0 ⟨32 * min (4 * (t + 1)) 127 + r.val, h⟩ l)
    (hb' : ∀ (r : Fin 32) (l : Fin 1024) (h : 32 * min (4 * (t + 1)) 127 + r.val < 4096), b' (ix2 r l) = yA Y ⟨32 * min (4 * (t + 1)) 127 + r.val, h⟩ l) :
    k0_pay102 k a b b' a' = DCb X Y t := by
  funext i
  obtain ⟨n, l, rfl⟩ : ∃ (n : Fin 160) (l : Fin 1024), i = ix2 n l := ⟨i 0, i 1, by idx_vars i⟩
  refine (KDC_at l k a b b' a' n).trans ?_
  show _ = past _ (128 * t + n.val) l
  by_cases hn : n.val < 128
  · have hr : 128 * t + n.val < 4096 := by omega
    rw [dif_pos hn, past_lt _ hr, ha ⟨n.val, hn⟩ l hr, hb ⟨n.val, hn⟩ l hr]; rfl
  · rw [dif_neg hn]
    by_cases h31 : t < 31
    · have hr : 128 * t + n.val < 4096 := by omega
      have q : 32 * min (4 * (t + 1)) 127 + (n.val - 128) = 128 * t + n.val := by omega
      rw [ha' ⟨n.val - 128, by omega⟩ l (by simp only [q]; exact hr), hb' ⟨n.val - 128, by omega⟩ l (by simp only [q]; exact hr), hk, if_pos h31,
        mul_one, past_lt _ hr]
      simp only [q]; rfl
    · rw [hk, if_neg h31, mul_zero, past_ge _ (by omega)]

/-- A block extended by the tail of the block before reads the delayed rows. -/
theorem ext_late (f : Fin 4096 → Row) (t : ℕ) (ht : t < 32) (P : FVec Ideal S32x1024 .f32) (G : FVec Ideal S128x1024 .f32)
    (hG : ∀ (r : Fin 128) (l : Fin 1024) (h : 128 * t + r.val < 4096), G (ix2 r l) = f ⟨128 * t + r.val, h⟩ l)
    (hP : ∀ (r : Fin 32) (l : Fin 1024) (h : 32 * (4 * t - 1) + r.val < 4096), P (ix2 r l) = f ⟨32 * (4 * t - 1) + r.val, h⟩ l * (if 0 < t then 1 else 0))
    (r s : ℕ) (hr : r < 128) (hs : s ≤ 32) (l : Fin 1024) : ext P G (32 + r - s) l = late f (128 * t + r) s l := by
  unfold late
  by_cases h : 32 + r - s < 32
  · rw [ext_lt h, hP ⟨32 + r - s, h⟩ l (by dsimp only; omega)]
    by_cases h0 : 0 < t
    · rw [if_pos h0, if_pos (by omega), mul_one, past_lt f (by omega)]
      congr 2; dsimp only; omega
    · rw [if_neg h0, if_neg (by omega), mul_zero]
  · rw [ext_ge h (by omega), if_pos (by omega), past_lt f (by omega), hG ⟨32 + r - s - 32, by omega⟩ l (by dsimp only; omega)]
    congr 2; dsimp only; omega

/-- The gated unit's rows of block `t`. -/
def GLb (t : ℕ) : FVec Ideal S128x1024 .f32 := fun i => past (glu X) (128 * t + (i 0).val) (i 1)
/-- The gated unit's rows before block `t`, zero before the first block. -/
def GPb (t : ℕ) : FVec Ideal S32x1024 .f32 := fun i => past (glu X) (32 * (4 * t - 1) + (i 0).val) (i 1) * (if 0 < t then 1 else 0)
/-- The short filter's input of block `t`. -/
def PLb (t : ℕ) : FVec Ideal S128x1024 .f32 := fun i => past (pp X) (128 * t + (i 0).val) (i 1)
/-- The short filter's input before block `t`, zero before the first block. -/
def PPb (t : ℕ) : FVec Ideal S32x1024 .f32 := fun i => past (pp X) (32 * (4 * t - 1) + (i 0).val) (i 1) * (if 0 < t then 1 else 0)

theorem GL_blk (t : ℕ) (ht : t < 32) (u v : FVec Ideal S128x1024 .f32)
    (hu : ∀ (r : Fin 128) (l : Fin 1024) (h : 128 * t + r.val < 4096), u (ix2 r l) = part X 3 ⟨128 * t + r.val, h⟩ l)
    (hv : ∀ (r : Fin 128) (l : Fin 1024) (h : 128 * t + r.val < 4096), v (ix2 r l) = part X 4 ⟨128 * t + r.val, h⟩ l) :
    k0_pay12 (F := Ideal) u v = GLb X t := by
  funext i
  obtain ⟨n, l, rfl⟩ : ∃ (n : Fin 128) (l : Fin 1024), i = ix2 n l := ⟨i 0, i 1, by idx_vars i⟩
  show _ = past _ (128 * t + n.val) l
  pointwise [k0_pay12, pay10_at]
  rw [past_lt _ (by omega), hu n l (by omega), hv n l (by omega)]; rfl

theorem GP_blk (t : ℕ) (ht : t < 32) (k : EReal) (hk : k = if 0 < t then 1 else 0) (u v : FVec Ideal S32x1024 .f32)
    (hu : ∀ (r : Fin 32) (l : Fin 1024) (h : 32 * (4 * t - 1) + r.val < 4096), u (ix2 r l) = part X 3 ⟨32 * (4 * t - 1) + r.val, h⟩ l)
    (hv : ∀ (r : Fin 32) (l : Fin 1024) (h : 32 * (4 * t - 1) + r.val < 4096), v (ix2 r l) = part X 4 ⟨32 * (4 * t - 1) + r.val, h⟩ l) :
    k0_pay15 (F := Ideal) k u (k0_pay14 v) = GPb X t := by
  funext i
  obtain ⟨n, l, rfl⟩ : ∃ (n : Fin 32) (l : Fin 1024), i = ix2 n l := ⟨i 0, i 1, by idx_vars i⟩
  show _ = past _ (32 * (4 * t - 1) + n.val) l * _
  pointwise [k0_pay15, k0_pay14]
  rw [past_lt _ (by omega), hu n l (by omega), hv n l (by omega), hk]
  simp only [zero_sub]; rfl

theorem PL_blk (t : ℕ) (ht : t < 32) (u v : FVec Ideal S128x1024 .f32)
    (hu : ∀ (r : Fin 128) (l : Fin 1024) (h : 128 * t + r.val < 4096), u (ix2 r l) = part X 1 ⟨128 * t + r.val, h⟩ l)
    (hv : ∀ (r : Fin 128) (l : Fin 1024) (h : 128 * t + r.val < 4096), v (ix2 r l) = part X 2 ⟨128 * t + r.val, h⟩ l) :
    k0_pay11 (F := Ideal) u v = PLb X t := by
  funext i
  obtain ⟨n, l, rfl⟩ : ∃ (n : Fin 128) (l : Fin 1024), i = ix2 n l := ⟨i 0, i 1, by idx_vars i⟩
  show _ = past _ (128 * t + n.val) l
  pointwise [k0_pay11]
  rw [past_lt _ (by omega), hu n l (by omega), hv n l (by omega)]; rfl

theorem PP_blk (t : Fin grid0.N) (u v : FVec Ideal S32x1024 .f32)
    (hu : ∀ (r : Fin 32) (l : Fin 1024) (h : 32 * (4 * t.val - 1) + r.val < 4096), u (ix2 r l) = part X 1 ⟨32 * (4 * t.val - 1) + r.val, h⟩ l)
    (hv : ∀ (r : Fin 32) (l : Fin 1024) (h : 32 * (4 * t.val - 1) + r.val < 4096), v (ix2 r l) = part X 2 ⟨32 * (4 * t.val - 1) + r.val, h⟩ l) :
    k0_pay13 (F := Ideal) (grid0.coords t) u v = PPb X t.val := by
  have ht : t.val < 32 := t.isLt
  funext i
  obtain ⟨n, l, rfl⟩ : ∃ (n : Fin 32) (l : Fin 1024), i = ix2 n l := ⟨i 0, i 1, by idx_vars i⟩
  show _ = past _ (32 * (4 * t.val - 1) + n.val) l * _
  pointwise [k0_pay13, keepPrev]
  rw [past_lt _ (by omega), hu n l (by omega), hv n l (by omega)]; rfl

/-- A block's share of a sum over the tokens. -/
def blkSum (F : Fin 4096 → EReal) (t : Fin 32) : EReal := ∑ r : Fin 128, F ⟨128 * t.val + r.val, by omega⟩

theorem blkSum_sum (F : Fin 4096 → EReal) : ∑ t : Fin 32, blkSum F t = ∑ n, F n := by
  rw [Fin.sum_univ_tiles 32 128 rfl F]
  refine Finset.sum_congr rfl fun t _ => Finset.sum_congr rfl fun r _ => congrArg F (Fin.ext ?_)
  show 128 * t.val + r.val = t.val * 128 + r.val
  omega

theorem tap_term (d f : Fin 4096 → Row) (t : Fin 32) (D : FVec Ideal S160x1024 .f32) (P : FVec Ideal S32x1024 .f32) (G : FVec Ideal S128x1024 .f32)
    (hD : ∀ (n : Fin 160) (l : Fin 1024), D (ix2 n l) = past d (128 * t.val + n.val) l)
    (hG : ∀ (r : Fin 128) (l : Fin 1024) (h : 128 * t.val + r.val < 4096), G (ix2 r l) = f ⟨128 * t.val + r.val, h⟩ l)
    (hP : ∀ (r : Fin 32) (l : Fin 1024) (h : 32 * (4 * t.val - 1) + r.val < 4096), P (ix2 r l) = f ⟨32 * (4 * t.val - 1) + r.val, h⟩ l * (if 0 < t.val then 1 else 0))
    (s : ℕ) (hs : s ≤ 32) (l : Fin 1024) : tap D G P l s = blkSum (fun n => term d f s n l) t := by
  refine Finset.sum_congr rfl fun r _ => ?_
  rw [ext_late f t.val t.isLt P G hG hP r.val s r.isLt hs l, hD, past_lt d (by dsimp only; omega)]
  rfl

theorem taps31 (t : Fin 32) (s : ℕ) (hs : s ≤ 32) (l : Fin 1024) :
    tap (DDb Y Dv go oo t.val) (GLb X t.val) (GPb X t.val) l s = blkSum (fun n => term (gd Y Dv go oo) (glu X) s n l) t :=
  tap_term _ _ t _ _ _ (fun _ _ => rfl) (fun r l h => past_lt _ h l) (fun r l h => congrArg (· * _) (past_lt _ h l)) s hs l

theorem taps3 (t : Fin 32) (s : ℕ) (hs : s ≤ 32) (l : Fin 1024) :
    tap (DCb X Y t.val) (PLb X t.val) (PPb X t.val) l s = blkSum (fun n => term (gc X Y) (pp X) s n l) t :=
  tap_term _ _ t _ _ _ (fun _ _ => rfl) (fun r l h => past_lt _ h l) (fun r l h => congrArg (· * _) (past_lt _ h l)) s hs l

/-- Tiles that cover a buffer hide whatever was stored first. -/
theorem canon_drop_fill {Val : EltTy → Type} [∀ e, Nonempty (Val e)] {S : Shape} {e : EltTy} (L : List (View.Piece Val S e)) (hL : L ≠ [])
    (size : Fin S.rank → Nat) (h : View.Piece.tiled L.dropLast size = true) (y : S.Idx) : View.canon L y = View.canon L.dropLast y := by
  have hc := View.cover_of_tiled L.dropLast size h y
  conv_lhs => rw [← List.dropLast_append_getLast hL]
  generalize L.dropLast = M at hc
  induction M with
  | nil => obtain ⟨p, hp, _⟩ := hc; exact absurd hp List.not_mem_nil
  | cons p M ih =>
    by_cases hm : y ∈ p.1.set
    · obtain ⟨x, rfl⟩ := p.1.exists_idx_of_mem hm
      rw [show p.1.idx x = p.1.emb x from rfl, List.cons_append, View.canon_cons_emb, View.canon_cons_emb]
    · rw [List.cons_append, View.canon_cons_of_not_mem _ _ hm, View.canon_cons_of_not_mem _ _ hm]
      refine ih ?_
      obtain ⟨q, hq, hyq⟩ := hc
      rcases List.mem_cons.mp hq with rfl | hq'
      · exact absurd hyq hm
      · exact ⟨q, hq', hyq⟩

/-- One row of a one-row tile: which row and which lane it is. -/
theorem piece_idx {K : ℕ} {x : S1x1024.Idx} {k : Fin K} {l : Fin 1024} {n : ℕ} (h0 : k.val = n + (x 0).val) (h1 : l.val = (x 1).val) :
    k.val = n ∧ x = ix2 0 l := by
  obtain ⟨a, b, rfl⟩ : ∃ (a : Fin 1) (b : Fin 1024), x = ix2 a b := ⟨x 0, x 1, by idx_vars x⟩
  have ha : a = 0 := Subsingleton.elim _ _
  subst ha
  exact ⟨h0, congrArg (ix2 0) (Fin.ext h1.symm)⟩
end

end Cert.Odd
end
-- ==== Proof.KWin.lean ====
/- What a grid point leaves in the long filter's gradient; the blocks the body composes, named. -/
module

public import proofs.«01_k».proof.Proof.KIn
public import proofs.«01_k».proof.Proof.KBlk
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Odd
variable (m : (ℓ : Loc nD τ sig) → Buf (Elt Ideal) ℓ)
section
variable (c : Dev nD)
/-- The projection as launched. -/
def XA : Fin 4096 → Fin 5120 → EReal := fun t k => (m ((c : Thread nD τ).loc main_arg0) : FVec Ideal S4096x5120 .f32) (ix2 t k)
/-- The arriving gradient as launched. -/
def YA : Fin 4096 → Fin 2048 → EReal := fun t k => (m ((c : Thread nD τ).loc main_arg1) : FVec Ideal S4096x2048 .f32) (ix2 t k)
/-- The long filter's output as the call finds it. -/
def DA : Fin 4096 → Row := fun t k => (V m c main_v82 : FVec Ideal S4096x1024 .f32) (ix2 t k)
/-- The gain as the call finds it. -/
def GA : Row := fun k => (V m c main_v83 : FVec Ideal S1x1024 .f32) (ix2 0 k)
/-- The offset as the call finds it. -/
def OA : Row := fun k => (V m c main_v84 : FVec Ideal S1x1024 .f32) (ix2 0 k)
/-- The short filter as launched. -/
def W3 : Fin 3 → Row := fun t k => (m ((c : Thread nD τ).loc main_arg2) : FVec Ideal S3x1024 .f32) (ix2 t k)
/-- The long filter as launched. -/
def W31 : Fin 31 → Row := fun t k => (m ((c : Thread nD τ).loc main_arg3) : FVec Ideal S31x1024 .f32) (ix2 t k)
end

theorem DD_fold (c : Dev nD) (t : Fin cfg0.N) (b : FVec Ideal S128x1024 .f32) (b' : FVec Ideal S32x1024 .f32)
    (hb : ∀ (r : Fin 128) (l : Fin 1024) (h : 128 * t.val + r.val < 4096), b (ix2 r l) = yB (YA m c) ⟨128 * t.val + r.val, h⟩ l)
    (hb' : ∀ (r : Fin 32) (l : Fin 1024) (h : 32 * min (4 * (t.val + 1)) 127 + r.val < 4096), b' (ix2 r l) = yB (YA m c) ⟨32 * min (4 * (t.val + 1)) 127 + r.val, h⟩ l) :
    k0_pay24 (F := Ideal) (k0_pay16 (k0_pay9 (grid0.coords t)) b b') (k0_pay18 (iblk m c 5 t) (iblk m c 6 t)) (k0_pay19 (iblk m c 5 t) (iblk m c 6 t))
      (k0_pay20 (iblk m c 9 t)) (k0_pay21 (iblk m c 5 t) (iblk m c 6 t) (iblk m c 9 t)) (k0_pay22 (iblk m c 10 t))
    = DDb (YA m c) (DA m c) (GA m c) (OA m c) t.val :=
  KDD_blk _ _ _ _ t.val t.isLt _ (keepNext t) _ b _ b' _ _ (fun r l h => in5 m c t r l h) hb (fun r l h => in6 m c t r l h) hb'
    (fun l => in9 m c t 0 l) (fun l => in10 m c t 0 l)

theorem GL_fold (c : Dev nD) (t : Fin cfg0.N) (u v : FVec Ideal S128x1024 .f32)
    (hu : ∀ (r : Fin 128) (l : Fin 1024) (h : 128 * t.val + r.val < 4096), u (ix2 r l) = part (XA m c) 3 ⟨128 * t.val + r.val, h⟩ l)
    (hv : ∀ (r : Fin 128) (l : Fin 1024) (h : 128 * t.val + r.val < 4096), v (ix2 r l) = part (XA m c) 4 ⟨128 * t.val + r.val, h⟩ l) :
    k0_pay12 (F := Ideal) u v = GLb (XA m c) t.val := GL_blk _ t.val t.isLt u v hu hv

theorem GP_fold (c : Dev nD) (t : Fin cfg0.N) (u v : FVec Ideal S32x1024 .f32)
    (hu : ∀ (r : Fin 32) (l : Fin 1024) (h : 32 * (4 * t.val - 1) + r.val < 4096), u (ix2 r l) = part (XA m c) 3 ⟨32 * (4 * t.val - 1) + r.val, h⟩ l)
    (hv : ∀ (r : Fin 32) (l : Fin 1024) (h : 32 * (4 * t.val - 1) + r.val < 4096), v (ix2 r l) = part (XA m c) 4 ⟨32 * (4 * t.val - 1) + r.val, h⟩ l) :
    k0_pay15 (F := Ideal) (k0_pay8 (grid0.coords t)) u (k0_pay14 v) = GPb (XA m c) t.val := GP_blk _ t.val t.isLt _ (keepPrev t) u v hu hv

theorem PL_fold (c : Dev nD) (t : Fin cfg0.N) (u v : FVec Ideal S128x1024 .f32)
    (hu : ∀ (r : Fin 128) (l : Fin 1024) (h : 128 * t.val + r.val < 4096), u (ix2 r l) = part (XA m c) 1 ⟨128 * t.val + r.val, h⟩ l)
    (hv : ∀ (r : Fin 128) (l : Fin 1024) (h : 128 * t.val + r.val < 4096), v (ix2 r l) = part (XA m c) 2 ⟨128 * t.val + r.val, h⟩ l) :
    k0_pay11 (F := Ideal) u v = PLb (XA m c) t.val := PL_blk _ t.val t.isLt u v hu hv

theorem PP_fold (c : Dev nD) (t : Fin cfg0.N) (u v : FVec Ideal S32x1024 .f32)
    (hu : ∀ (r : Fin 32) (l : Fin 1024) (h : 32 * (4 * t.val - 1) + r.val < 4096), u (ix2 r l) = part (XA m c) 1 ⟨32 * (4 * t.val - 1) + r.val, h⟩ l)
    (hv : ∀ (r : Fin 32) (l : Fin 1024) (h : 32 * (4 * t.val - 1) + r.val < 4096), v (ix2 r l) = part (XA m c) 2 ⟨32 * (4 * t.val - 1) + r.val, h⟩ l) :
    k0_pay13 (F := Ideal) (grid0.coords t) u v = PPb (XA m c) t.val := PP_blk _ t u v hu hv

/-- A grid point as one of the 32 blocks. -/
def pt (t : Fin cfg0.N) : Fin 32 := ⟨t.val, t.isLt⟩

set_option maxHeartbeats 1600000 in
theorem w14_A (c : Dev nD) (t : Fin cfg0.N) (h : t.val % 32 = 0) (k : Fin 31) (l : Fin 1024) :
   (outsAt0 m c t.val t.isLt).2.2.2.1 (ix2 k l) = 0
     + blkSum (fun n => term (gd (YA m c) (DA m c) (GA m c) (OA m c)) (glu (XA m c)) (30 - k.val) n l) (pt t) := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t, GL_fold m c t, GP_fold m c t]
  rotate_left
  all_goals try (intro r l h; pointwise; first | exact in0 m c t _ _ h | exact in1 m c t _ _ h | exact in2 m c t _ _ h | exact in3 m c t _ _ h | exact in4 m c t _ _ h)
  rw [canon_drop_fill _ (List.cons_ne_nil _ _) ![1, 1024] rfl]
  simp only [List.dropLast]
  canon_tiles x h
  case piece0 =>
    obtain ⟨hk, rfl⟩ := piece_idx (k := k) (l := l) (h0.trans (Nat.zero_add _).symm) h1
    obtain rfl : k = 0 := Fin.ext hk
    refine (tap0 _ _ _ _ _).trans (congrArg₂ (· + ·) ?_ (taps31 _ _ _ _ _ (pt t) _ (by decide) l))
    pointwise [k0_pay4]
  case piece1 =>
    obtain ⟨hk, rfl⟩ := piece_idx (k := k) (l := l) h0 h1
    obtain rfl : k = 1 := Fin.ext hk
    refine (tap1 _ _ _ _ _).trans (congrArg₂ (· + ·) ?_ (taps31 _ _ _ _ _ (pt t) _ (by decide) l))
    pointwise [k0_pay4]
  case piece2 =>
    obtain ⟨hk, rfl⟩ := piece_idx (k := k) (l := l) h0 h1
    obtain rfl : k = 2 := Fin.ext hk
    refine (tap2 _ _ _ _ _).trans (congrArg₂ (· + ·) ?_ (taps31 _ _ _ _ _ (pt t) _ (by decide) l))
    pointwise [k0_pay4]
  case piece3 =>
    obtain ⟨hk, rfl⟩ := piece_idx (k := k) (l := l) h0 h1
    obtain rfl : k = 3 := Fin.ext hk
    refine (tap3 _ _ _ _ _).trans (congrArg₂ (· + ·) ?_ (taps31 _ _ _ _ _ (pt t) _ (by decide) l))
    pointwise [k0_pay4]
  case piece4 =>
    obtain ⟨hk, rfl⟩ := piece_idx (k := k) (l := l) h0 h1
    obtain rfl : k = 4 := Fin.ext hk
    refine (tap4 _ _ _ _ _).trans (congrArg₂ (· + ·) ?_ (taps31 _ _ _ _ _ (pt t) _ (by decide) l))
    pointwise [k0_pay4]
  case piece5 =>
    obtain ⟨hk, rfl⟩ := piece_idx (k := k) (l := l) h0 h1
    obtain rfl : k = 5 := Fin.ext hk
    refine (tap5 _ _ _ _ _).trans (congrArg₂ (· + ·) ?_ (taps31 _ _ _ _ _ (pt t) _ (by decide) l))
    pointwise [k0_pay4]
  case piece6 =>
    obtain ⟨hk, rfl⟩ := piece_idx (k := k) (l := l) h0 h1
    obtain rfl : k = 6 := Fin.ext hk
    refine (tap6 _ _ _ _ _).trans (congrArg₂ (· + ·) ?_ (taps31 _ _ _ _ _ (pt t) _ (by decide) l))
    pointwise [k0_pay4]
  case piece7 =>
    obtain ⟨hk, rfl⟩ := piece_idx (k := k) (l := l) h0 h1
    obtain rfl : k = 7 := Fin.ext hk
    refine (tap7 _ _ _ _ _).trans (congrArg₂ (· + ·) ?_ (taps31 _ _ _ _ _ (pt t) _ (by decide) l))
    pointwise [k0_pay4]
  case piece8 =>
    obtain ⟨hk, rfl⟩ := piece_idx (k := k) (l := l) h0 h1
    obtain rfl : k = 8 := Fin.ext hk
    refine (tap8 _ _ _ _ _).trans (congrArg₂ (· + ·) ?_ (taps31 _ _ _ _ _ (pt t) _ (by decide) l))
    pointwise [k0_pay4]
  case piece9 =>
    obtain ⟨hk, rfl⟩ := piece_idx (k := k) (l := l) h0 h1
    obtain rfl : k = 9 := Fin.ext hk
    refine (tap9 _ _ _ _ _).trans (congrArg₂ (· + ·) ?_ (taps31 _ _ _ _ _ (pt t) _ (by decide) l))
    pointwise [k0_pay4]
  case piece10 =>
    obtain ⟨hk, rfl⟩ := piece_idx (k := k) (l := l) h0 h1
    obtain rfl : k = 10 := Fin.ext hk
    refine (tap10 _ _ _ _ _).trans (congrArg₂ (· + ·) ?_ (taps31 _ _ _ _ _ (pt t) _ (by decide) l))
    pointwise [k0_pay4]
  case piece11 =>
    obtain ⟨hk, rfl⟩ := piece_idx (k := k) (l := l) h0 h1
    obtain rfl : k = 11 := Fin.ext hk
    refine (tap11 _ _ _ _ _).trans (congrArg₂ (· + ·) ?_ (taps31 _ _ _ _ _ (pt t) _ (by decide) l))
    pointwise [k0_pay4]
  case piece12 =>
    obtain ⟨hk, rfl⟩ := piece_idx (k := k) (l := l) h0 h1
    obtain rfl : k = 12 := Fin.ext hk
    refine (tap12 _ _ _ _ _).trans (congrArg₂ (· + ·) ?_ (taps31 _ _ _ _ _ (pt t) _ (by decide) l))
    pointwise [k0_pay4]
  case piece13 =>
    obtain ⟨hk, rfl⟩ := piece_idx (k := k) (l := l) h0 h1
    obtain rfl : k = 13 := Fin.ext hk
    refine (tap13 _ _ _ _ _).trans (congrArg₂ (· + ·) ?_ (taps31 _ _ _ _ _ (pt t) _ (by decide) l))
    pointwise [k0_pay4]
  case piece14 =>
    obtain ⟨hk, rfl⟩ := piece_idx (k := k) (l := l) h0 h1
    obtain rfl : k = 14 := Fin.ext hk
    refine (tap14 _ _ _ _ _).trans (congrArg₂ (· + ·) ?_ (taps31 _ _ _ _ _ (pt t) _ (by decide) l))
    pointwise [k0_pay4]
  case piece15 =>
    obtain ⟨hk, rfl⟩ := piece_idx (k := k) (l := l) h0 h1
    obtain rfl : k = 15 := Fin.ext hk
    refine (tap15 _ _ _ _ _).trans (congrArg₂ (· + ·) ?_ (taps31 _ _ _ _ _ (pt t) _ (by decide) l))
    pointwise [k0_pay4]
  case piece16 =>
    obtain ⟨hk, rfl⟩ := piece_idx (k := k) (l := l) h0 h1
    obtain rfl : k = 16 := Fin.ext hk
    refine (tap16 _ _ _ _ _).trans (congrArg₂ (· + ·) ?_ (taps31 _ _ _ _ _ (pt t) _ (by decide) l))
    pointwise [k0_pay4]
  case piece17 =>
    obtain ⟨hk, rfl⟩ := piece_idx (k := k) (l := l) h0 h1
    obtain rfl : k = 17 := Fin.ext hk
    refine (tap17 _ _ _ _ _).trans (congrArg₂ (· + ·) ?_ (taps31 _ _ _ _ _ (pt t) _ (by decide) l))
    pointwise [k0_pay4]
  case piece18 =>
    obtain ⟨hk, rfl⟩ := piece_idx (k := k) (l := l) h0 h1
    obtain rfl : k = 18 := Fin.ext hk
    refine (tap18 _ _ _ _ _).trans (congrArg₂ (· + ·) ?_ (taps31 _ _ _ _ _ (pt t) _ (by decide) l))
    pointwise [k0_pay4]
  case piece19 =>
    obtain ⟨hk, rfl⟩ := piece_idx (k := k) (l := l) h0 h1
    obtain rfl : k = 19 := Fin.ext hk
    refine (tap19 _ _ _ _ _).trans (congrArg₂ (· + ·) ?_ (taps31 _ _ _ _ _ (pt t) _ (by decide) l))
    pointwise [k0_pay4]
  case piece20 =>
    obtain ⟨hk, rfl⟩ := piece_idx (k := k) (l := l) h0 h1
    obtain rfl : k = 20 := Fin.ext hk
    refine (tap20 _ _ _ _ _).trans (congrArg₂ (· + ·) ?_ (taps31 _ _ _ _ _ (pt t) _ (by decide) l))
    pointwise [k0_pay4]
  case piece21 =>
    obtain ⟨hk, rfl⟩ := piece_idx (k := k) (l := l) h0 h1
    obtain rfl : k = 21 := Fin.ext hk
    refine (tap21 _ _ _ _ _).trans (congrArg₂ (· + ·) ?_ (taps31 _ _ _ _ _ (pt t) _ (by decide) l))
    pointwise [k0_pay4]
  case piece22 =>
    obtain ⟨hk, rfl⟩ := piece_idx (k := k) (l := l) h0 h1
    obtain rfl : k = 22 := Fin.ext hk
    refine (tap22 _ _ _ _ _).trans (congrArg₂ (· + ·) ?_ (taps31 _ _ _ _ _ (pt t) _ (by decide) l))
    pointwise [k0_pay4]
  case piece23 =>
    obtain ⟨hk, rfl⟩ := piece_idx (k := k) (l := l) h0 h1
    obtain rfl : k = 23 := Fin.ext hk
    refine (tap23 _ _ _ _ _).trans (congrArg₂ (· + ·) ?_ (taps31 _ _ _ _ _ (pt t) _ (by decide) l))
    pointwise [k0_pay4]
  case piece24 =>
    obtain ⟨hk, rfl⟩ := piece_idx (k := k) (l := l) h0 h1
    obtain rfl : k = 24 := Fin.ext hk
    refine (tap24 _ _ _ _ _).trans (congrArg₂ (· + ·) ?_ (taps31 _ _ _ _ _ (pt t) _ (by decide) l))
    pointwise [k0_pay4]
  case piece25 =>
    obtain ⟨hk, rfl⟩ := piece_idx (k := k) (l := l) h0 h1
    obtain rfl : k = 25 := Fin.ext hk
    refine (tap25 _ _ _ _ _).trans (congrArg₂ (· + ·) ?_ (taps31 _ _ _ _ _ (pt t) _ (by decide) l))
    pointwise [k0_pay4]
  case piece26 =>
    obtain ⟨hk, rfl⟩ := piece_idx (k := k) (l := l) h0 h1
    obtain rfl : k = 26 := Fin.ext hk
    refine (tap26 _ _ _ _ _).trans (congrArg₂ (· + ·) ?_ (taps31 _ _ _ _ _ (pt t) _ (by decide) l))
    pointwise [k0_pay4]
  case piece27 =>
    obtain ⟨hk, rfl⟩ := piece_idx (k := k) (l := l) h0 h1
    obtain rfl : k = 27 := Fin.ext hk
    refine (tap27 _ _ _ _ _).trans (congrArg₂ (· + ·) ?_ (taps31 _ _ _ _ _ (pt t) _ (by decide) l))
    pointwise [k0_pay4]
  case piece28 =>
    obtain ⟨hk, rfl⟩ := piece_idx (k := k) (l := l) h0 h1
    obtain rfl : k = 28 := Fin.ext hk
    refine (tap28 _ _ _ _ _).trans (congrArg₂ (· + ·) ?_ (taps31 _ _ _ _ _ (pt t) _ (by decide) l))
    pointwise [k0_pay4]
  case piece29 =>
    obtain ⟨hk, rfl⟩ := piece_idx (k := k) (l := l) h0 h1
    obtain rfl : k = 29 := Fin.ext hk
    refine (tap29 _ _ _ _ _).trans (congrArg₂ (· + ·) ?_ (taps31 _ _ _ _ _ (pt t) _ (by decide) l))
    pointwise [k0_pay4]
  case piece30 =>
    obtain ⟨hk, rfl⟩ := piece_idx (k := k) (l := l) h0 h1
    obtain rfl : k = 30 := Fin.ext hk
    refine (tap30 _ _ _ _ _).trans (congrArg₂ (· + ·) ?_ (taps31 _ _ _ _ _ (pt t) _ (by decide) l))
    pointwise [k0_pay4]

set_option maxHeartbeats 1600000 in
theorem w14_B (c : Dev nD) (t : Fin cfg0.N) (h : ¬ t.val % 32 = 0) (k : Fin 31) (l : Fin 1024) :
   (outsAt0 m c t.val t.isLt).2.2.2.1 (ix2 k l) = (outsAt0 m c (t.val - 1) (by omega)).2.2.2.1 (ix2 k l)
     + blkSum (fun n => term (gd (YA m c) (DA m c) (GA m c) (OA m c)) (glu (XA m c)) (30 - k.val) n l) (pt t) := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t, GL_fold m c t, GP_fold m c t]
  rotate_left
  all_goals try (intro r l h; pointwise; first | exact in0 m c t _ _ h | exact in1 m c t _ _ h | exact in2 m c t _ _ h | exact in3 m c t _ _ h | exact in4 m c t _ _ h)
  canon_tiles x h
  case piece0 =>
    obtain ⟨hk, rfl⟩ := piece_idx (k := k) (l := l) (h0.trans (Nat.zero_add _).symm) h1
    obtain rfl : k = 0 := Fin.ext hk
    refine (tap0 _ _ _ _ _).trans (congrArg₂ (· + ·) ?_ (taps31 _ _ _ _ _ (pt t) _ (by decide) l))
    pointwise
  case piece1 =>
    obtain ⟨hk, rfl⟩ := piece_idx (k := k) (l := l) h0 h1
    obtain rfl : k = 1 := Fin.ext hk
    refine (tap1 _ _ _ _ _).trans (congrArg₂ (· + ·) ?_ (taps31 _ _ _ _ _ (pt t) _ (by decide) l))
    pointwise
  case piece2 =>
    obtain ⟨hk, rfl⟩ := piece_idx (k := k) (l := l) h0 h1
    obtain rfl : k = 2 := Fin.ext hk
    refine (tap2 _ _ _ _ _).trans (congrArg₂ (· + ·) ?_ (taps31 _ _ _ _ _ (pt t) _ (by decide) l))
    pointwise
  case piece3 =>
    obtain ⟨hk, rfl⟩ := piece_idx (k := k) (l := l) h0 h1
    obtain rfl : k = 3 := Fin.ext hk
    refine (tap3 _ _ _ _ _).trans (congrArg₂ (· + ·) ?_ (taps31 _ _ _ _ _ (pt t) _ (by decide) l))
    pointwise
  case piece4 =>
    obtain ⟨hk, rfl⟩ := piece_idx (k := k) (l := l) h0 h1
    obtain rfl : k = 4 := Fin.ext hk
    refine (tap4 _ _ _ _ _).trans (congrArg₂ (· + ·) ?_ (taps31 _ _ _ _ _ (pt t) _ (by decide) l))
    pointwise
  case piece5 =>
    obtain ⟨hk, rfl⟩ := piece_idx (k := k) (l := l) h0 h1
    obtain rfl : k = 5 := Fin.ext hk
    refine (tap5 _ _ _ _ _).trans (congrArg₂ (· + ·) ?_ (taps31 _ _ _ _ _ (pt t) _ (by decide) l))
    pointwise
  case piece6 =>
    obtain ⟨hk, rfl⟩ := piece_idx (k := k) (l := l) h0 h1
    obtain rfl : k = 6 := Fin.ext hk
    refine (tap6 _ _ _ _ _).trans (congrArg₂ (· + ·) ?_ (taps31 _ _ _ _ _ (pt t) _ (by decide) l))
    pointwise
  case piece7 =>
    obtain ⟨hk, rfl⟩ := piece_idx (k := k) (l := l) h0 h1
    obtain rfl : k = 7 := Fin.ext hk
    refine (tap7 _ _ _ _ _).trans (congrArg₂ (· + ·) ?_ (taps31 _ _ _ _ _ (pt t) _ (by decide) l))
    pointwise
  case piece8 =>
    obtain ⟨hk, rfl⟩ := piece_idx (k := k) (l := l) h0 h1
    obtain rfl : k = 8 := Fin.ext hk
    refine (tap8 _ _ _ _ _).trans (congrArg₂ (· + ·) ?_ (taps31 _ _ _ _ _ (pt t) _ (by decide) l))
    pointwise
  case piece9 =>
    obtain ⟨hk, rfl⟩ := piece_idx (k := k) (l := l) h0 h1
    obtain rfl : k = 9 := Fin.ext hk
    refine (tap9 _ _ _ _ _).trans (congrArg₂ (· + ·) ?_ (taps31 _ _ _ _ _ (pt t) _ (by decide) l))
    pointwise
  case piece10 =>
    obtain ⟨hk, rfl⟩ := piece_idx (k := k) (l := l) h0 h1
    obtain rfl : k = 10 := Fin.ext hk
    refine (tap10 _ _ _ _ _).trans (congrArg₂ (· + ·) ?_ (taps31 _ _ _ _ _ (pt t) _ (by decide) l))
    pointwise
  case piece11 =>
    obtain ⟨hk, rfl⟩ := piece_idx (k := k) (l := l) h0 h1
    obtain rfl : k = 11 := Fin.ext hk
    refine (tap11 _ _ _ _ _).trans (congrArg₂ (· + ·) ?_ (taps31 _ _ _ _ _ (pt t) _ (by decide) l))
    pointwise
  case piece12 =>
    obtain ⟨hk, rfl⟩ := piece_idx (k := k) (l := l) h0 h1
    obtain rfl : k = 12 := Fin.ext hk
    refine (tap12 _ _ _ _ _).trans (congrArg₂ (· + ·) ?_ (taps31 _ _ _ _ _ (pt t) _ (by decide) l))
    pointwise
  case piece13 =>
    obtain ⟨hk, rfl⟩ := piece_idx (k := k) (l := l) h0 h1
    obtain rfl : k = 13 := Fin.ext hk
    refine (tap13 _ _ _ _ _).trans (congrArg₂ (· + ·) ?_ (taps31 _ _ _ _ _ (pt t) _ (by decide) l))
    pointwise
  case piece14 =>
    obtain ⟨hk, rfl⟩ := piece_idx (k := k) (l := l) h0 h1
    obtain rfl : k = 14 := Fin.ext hk
    refine (tap14 _ _ _ _ _).trans (congrArg₂ (· + ·) ?_ (taps31 _ _ _ _ _ (pt t) _ (by decide) l))
    pointwise
  case piece15 =>
    obtain ⟨hk, rfl⟩ := piece_idx (k := k) (l := l) h0 h1
    obtain rfl : k = 15 := Fin.ext hk
    refine (tap15 _ _ _ _ _).trans (congrArg₂ (· + ·) ?_ (taps31 _ _ _ _ _ (pt t) _ (by decide) l))
    pointwise
  case piece16 =>
    obtain ⟨hk, rfl⟩ := piece_idx (k := k) (l := l) h0 h1
    obtain rfl : k = 16 := Fin.ext hk
    refine (tap16 _ _ _ _ _).trans (congrArg₂ (· + ·) ?_ (taps31 _ _ _ _ _ (pt t) _ (by decide) l))
    pointwise
  case piece17 =>
    obtain ⟨hk, rfl⟩ := piece_idx (k := k) (l := l) h0 h1
    obtain rfl : k = 17 := Fin.ext hk
    refine (tap17 _ _ _ _ _).trans (congrArg₂ (· + ·) ?_ (taps31 _ _ _ _ _ (pt t) _ (by decide) l))
    pointwise
  case piece18 =>
    obtain ⟨hk, rfl⟩ := piece_idx (k := k) (l := l) h0 h1
    obtain rfl : k = 18 := Fin.ext hk
    refine (tap18 _ _ _ _ _).trans (congrArg₂ (· + ·) ?_ (taps31 _ _ _ _ _ (pt t) _ (by decide) l))
    pointwise
  case piece19 =>
    obtain ⟨hk, rfl⟩ := piece_idx (k := k) (l := l) h0 h1
    obtain rfl : k = 19 := Fin.ext hk
    refine (tap19 _ _ _ _ _).trans (congrArg₂ (· + ·) ?_ (taps31 _ _ _ _ _ (pt t) _ (by decide) l))
    pointwise
  case piece20 =>
    obtain ⟨hk, rfl⟩ := piece_idx (k := k) (l := l) h0 h1
    obtain rfl : k = 20 := Fin.ext hk
    refine (tap20 _ _ _ _ _).trans (congrArg₂ (· + ·) ?_ (taps31 _ _ _ _ _ (pt t) _ (by decide) l))
    pointwise
  case piece21 =>
    obtain ⟨hk, rfl⟩ := piece_idx (k := k) (l := l) h0 h1
    obtain rfl : k = 21 := Fin.ext hk
    refine (tap21 _ _ _ _ _).trans (congrArg₂ (· + ·) ?_ (taps31 _ _ _ _ _ (pt t) _ (by decide) l))
    pointwise
  case piece22 =>
    obtain ⟨hk, rfl⟩ := piece_idx (k := k) (l := l) h0 h1
    obtain rfl : k = 22 := Fin.ext hk
    refine (tap22 _ _ _ _ _).trans (congrArg₂ (· + ·) ?_ (taps31 _ _ _ _ _ (pt t) _ (by decide) l))
    pointwise
  case piece23 =>
    obtain ⟨hk, rfl⟩ := piece_idx (k := k) (l := l) h0 h1
    obtain rfl : k = 23 := Fin.ext hk
    refine (tap23 _ _ _ _ _).trans (congrArg₂ (· + ·) ?_ (taps31 _ _ _ _ _ (pt t) _ (by decide) l))
    pointwise
  case piece24 =>
    obtain ⟨hk, rfl⟩ := piece_idx (k := k) (l := l) h0 h1
    obtain rfl : k = 24 := Fin.ext hk
    refine (tap24 _ _ _ _ _).trans (congrArg₂ (· + ·) ?_ (taps31 _ _ _ _ _ (pt t) _ (by decide) l))
    pointwise
  case piece25 =>
    obtain ⟨hk, rfl⟩ := piece_idx (k := k) (l := l) h0 h1
    obtain rfl : k = 25 := Fin.ext hk
    refine (tap25 _ _ _ _ _).trans (congrArg₂ (· + ·) ?_ (taps31 _ _ _ _ _ (pt t) _ (by decide) l))
    pointwise
  case piece26 =>
    obtain ⟨hk, rfl⟩ := piece_idx (k := k) (l := l) h0 h1
    obtain rfl : k = 26 := Fin.ext hk
    refine (tap26 _ _ _ _ _).trans (congrArg₂ (· + ·) ?_ (taps31 _ _ _ _ _ (pt t) _ (by decide) l))
    pointwise
  case piece27 =>
    obtain ⟨hk, rfl⟩ := piece_idx (k := k) (l := l) h0 h1
    obtain rfl : k = 27 := Fin.ext hk
    refine (tap27 _ _ _ _ _).trans (congrArg₂ (· + ·) ?_ (taps31 _ _ _ _ _ (pt t) _ (by decide) l))
    pointwise
  case piece28 =>
    obtain ⟨hk, rfl⟩ := piece_idx (k := k) (l := l) h0 h1
    obtain rfl : k = 28 := Fin.ext hk
    refine (tap28 _ _ _ _ _).trans (congrArg₂ (· + ·) ?_ (taps31 _ _ _ _ _ (pt t) _ (by decide) l))
    pointwise
  case piece29 =>
    obtain ⟨hk, rfl⟩ := piece_idx (k := k) (l := l) h0 h1
    obtain rfl : k = 29 := Fin.ext hk
    refine (tap29 _ _ _ _ _).trans (congrArg₂ (· + ·) ?_ (taps31 _ _ _ _ _ (pt t) _ (by decide) l))
    pointwise
  case piece30 =>
    obtain ⟨hk, rfl⟩ := piece_idx (k := k) (l := l) h0 h1
    obtain rfl : k = 30 := Fin.ext hk
    refine (tap30 _ _ _ _ _).trans (congrArg₂ (· + ·) ?_ (taps31 _ _ _ _ _ (pt t) _ (by decide) l))
    pointwise

end Cert.Odd
end
-- ==== Proof.KTile.lean ====
/- Each stored tile, at variables: a share of the global rows and sums. -/
module

public import proofs.«01_k».proof.Proof.KBlk
public import proofs.«01_k».proof.Proof.Gen.KernelIdeal.Skeleton
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.KernelIdeal Cert.KernelIdeal.Gen
namespace Cert.Odd

variable (X : Fin 4096 → Fin 5120 → EReal) (Y : Fin 4096 → Fin 2048 → EReal) (Dv : Fin 4096 → Row) (fs : Fin 3 → Row) (w31 : Fin 31 → Row) (go oo : Row)
  (t : Fin 32)

/-- Rows `128 t, …` of a sequence of rows, as a block. -/
def rowsb (f : Fin 4096 → Row) (t : Fin 32) : FVec Ideal S128x1024 .f32 := fun i => past f (128 * t.val + (i 0).val) (i 1)

theorem rowsb_at (f : Fin 4096 → Row) (r : Fin 128) (l : Fin 1024) : rowsb f t (ix2 r l) = f ⟨128 * t.val + r.val, by omega⟩ l :=
  past_lt f (show 128 * t.val + r.val < 4096 by omega) l

theorem rowsb_ext (f : Fin 4096 → Row) (u : FVec Ideal S128x1024 .f32) (hu : ∀ (r : Fin 128) (l : Fin 1024) (h : 128 * t.val + r.val < 4096), u (ix2 r l) = f ⟨128 * t.val + r.val, h⟩ l) : u = rowsb f t := by
  funext i
  obtain ⟨n, l, rfl⟩ : ∃ (n : Fin 128) (l : Fin 1024), i = ix2 n l := ⟨i 0, i 1, by idx_vars i⟩
  rw [rowsb_at]; exact hu n l _

theorem SG_blk (u : FVec Ideal S128x1024 .f32) (hu : ∀ (r : Fin 128) (l : Fin 1024) (h : 128 * t.val + r.val < 4096), u (ix2 r l) = part X 4 ⟨128 * t.val + r.val, h⟩ l) :
    k0_pay10 (F := Ideal) u = rowsb (fun n l => sigm (part X 4 n l)) t :=
  rowsb_ext t _ _ fun r l h => by rw [pay10_at, hu r l h]

theorem DP_blk (k : EReal) (hk : k = if t.val < 31 then 1 else 0)
    (a b : FVec Ideal S128x1024 .f32) (a' b' : FVec Ideal S32x1024 .f32) (w2 w1 w0 : FVec Ideal S1x1024 .f32)
    (ha : ∀ (r : Fin 128) (l : Fin 1024) (h : 128 * t.val + r.val < 4096), a (ix2 r l) = part X 0 ⟨128 * t.val + r.val, h⟩ l)
    (hb : ∀ (r : Fin 128) (l : Fin 1024) (h : 128 * t.val + r.val < 4096), b (ix2 r l) = yA Y ⟨128 * t.val + r.val, h⟩ l)
    (ha' : ∀ (r : Fin 32) (l : Fin 1024) (h : 32 * min (4 * (t.val + 1)) 127 + r.val < 4096), a' (ix2 r l) = part X 0 ⟨32 * min (4 * (t.val + 1)) 127 + r.val, h⟩ l)
    (hb' : ∀ (r : Fin 32) (l : Fin 1024) (h : 32 * min (4 * (t.val + 1)) 127 + r.val < 4096), b' (ix2 r l) = yA Y ⟨32 * min (4 * (t.val + 1)) 127 + r.val, h⟩ l)
    (h2 : ∀ l, w2 (ix2 0 l) = fs 2 l) (h1 : ∀ l, w1 (ix2 0 l) = fs 1 l) (h0 : ∀ l, w0 (ix2 0 l) = fs 0 l) :
    k0_pay113 (F := Ideal) (k0_pay102 k a b b' a') (k0_pay106 k a b b' a' w2) 159#32 w1 w0 = rowsb (gp X Y fs) t := by
  refine rowsb_ext t _ _ fun r l h => ?_
  rw [KDPP_at, h2, h1, h0, show KDC k a b b' a' = DCb X Y t.val from KDC_blk X Y t.val t.isLt k hk a b a' b' ha hb ha' hb']
  rfl

theorem CP_blk (w2 w1 w0 : FVec Ideal S1x1024 .f32)
    (h2 : ∀ l, w2 (ix2 0 l) = fs 2 l) (h1 : ∀ l, w1 (ix2 0 l) = fs 1 l) (h0 : ∀ l, w0 (ix2 0 l) = fs 0 l) :
    k0_pay112 (F := Ideal) (k0_pay104 (PLb X t.val) (PPb X t.val)) (k0_pay105 (PLb X t.val) w2) w1 w0 = rowsb (cp X fs) t := by
  refine rowsb_ext t _ _ fun r l h => ?_
  have e : ∀ s, s ≤ 32 → ext (PPb X t.val) (PLb X t.val) (32 + r.val - s) l = late (pp X) (128 * t.val + r.val) s l := fun s hs =>
    ext_late (pp X) t.val t.isLt _ _ (fun r l h => past_lt _ h l) (fun r l h => congrArg (· * _) (past_lt _ h l)) r.val s r.isLt hs l
  have e0 := e 0 (by decide)
  have e1 := e 1 (by decide)
  have e2 := e 2 (by decide)
  rw [KCP_at, h2, h1, h0, show 32 + r.val = 32 + r.val - 0 from rfl, show 31 + r.val = 32 + r.val - 1 by omega, show 30 + r.val = 32 + r.val - 2 by omega, e0, e1, e2]
  rfl

section
variable (w30 w29 w28 w27 w26 w25 w24 w23 w22 w21 w20 w19 w18 w17 w16 w15 w14 w13 w12 w11 w10 w9 w8 w7 w6 w5 w4 w3 w2 w1 w0 : FVec Ideal S1x1024 .f32)
variable (hw30 : ∀ l, w30 (ix2 0 l) = w31 30 l)
  (hw29 : ∀ l, w29 (ix2 0 l) = w31 29 l)
  (hw28 : ∀ l, w28 (ix2 0 l) = w31 28 l)
  (hw27 : ∀ l, w27 (ix2 0 l) = w31 27 l)
  (hw26 : ∀ l, w26 (ix2 0 l) = w31 26 l)
  (hw25 : ∀ l, w25 (ix2 0 l) = w31 25 l)
  (hw24 : ∀ l, w24 (ix2 0 l) = w31 24 l)
  (hw23 : ∀ l, w23 (ix2 0 l) = w31 23 l)
  (hw22 : ∀ l, w22 (ix2 0 l) = w31 22 l)
  (hw21 : ∀ l, w21 (ix2 0 l) = w31 21 l)
  (hw20 : ∀ l, w20 (ix2 0 l) = w31 20 l)
  (hw19 : ∀ l, w19 (ix2 0 l) = w31 19 l)
  (hw18 : ∀ l, w18 (ix2 0 l) = w31 18 l)
  (hw17 : ∀ l, w17 (ix2 0 l) = w31 17 l)
  (hw16 : ∀ l, w16 (ix2 0 l) = w31 16 l)
  (hw15 : ∀ l, w15 (ix2 0 l) = w31 15 l)
  (hw14 : ∀ l, w14 (ix2 0 l) = w31 14 l)
  (hw13 : ∀ l, w13 (ix2 0 l) = w31 13 l)
  (hw12 : ∀ l, w12 (ix2 0 l) = w31 12 l)
  (hw11 : ∀ l, w11 (ix2 0 l) = w31 11 l)
  (hw10 : ∀ l, w10 (ix2 0 l) = w31 10 l)
  (hw9 : ∀ l, w9 (ix2 0 l) = w31 9 l)
  (hw8 : ∀ l, w8 (ix2 0 l) = w31 8 l)
  (hw7 : ∀ l, w7 (ix2 0 l) = w31 7 l)
  (hw6 : ∀ l, w6 (ix2 0 l) = w31 6 l)
  (hw5 : ∀ l, w5 (ix2 0 l) = w31 5 l)
  (hw4 : ∀ l, w4 (ix2 0 l) = w31 4 l)
  (hw3 : ∀ l, w3 (ix2 0 l) = w31 3 l)
  (hw2 : ∀ l, w2 (ix2 0 l) = w31 2 l)
  (hw1 : ∀ l, w1 (ix2 0 l) = w31 1 l)
  (hw0 : ∀ l, w0 (ix2 0 l) = w31 0 l)
include hw30 hw29 hw28 hw27 hw26 hw25 hw24 hw23 hw22 hw21 hw20 hw19 hw18 hw17 hw16 hw15 hw14 hw13 hw12 hw11 hw10 hw9 hw8 hw7 hw6 hw5 hw4 hw3 hw2 hw1 hw0

set_option maxHeartbeats 1600000 in
theorem GG_blk :
    KDG (DDb Y Dv go oo t.val) w30 w29 w28 w27 w26 w25 w24 w23 w22 w21 w20 w19 w18 w17 w16 w15 w14 w13 w12 w11 w10 w9 w8 w7 w6 w5 w4 w3 w2 w1 w0 = rowsb (gg Y Dv w31 go oo) t := by
  refine rowsb_ext t _ _ fun r l h => ?_
  rw [KDG_at]
  unfold gg
  simp only [Finset.sum_range_succ, Finset.sum_range_zero, zero_add, Nat.reduceLT, ↓reduceDIte, Nat.reduceSub, Nat.add_assoc, hw0, hw1, hw2, hw3, hw4, hw5, hw6, hw7, hw8, hw9, hw10, hw11, hw12, hw13, hw14, hw15, hw16, hw17, hw18, hw19, hw20, hw21, hw22, hw23, hw24, hw25, hw26, hw27, hw28, hw29, hw30]
  rfl
theorem p96 (r : Fin 128) (l : Fin 1024) :
    k0_pay96 (rowsb (fun n l => sigm (part X 4 n l)) t) (k0_pay43 (DDb Y Dv go oo t.val)) (k0_pay44 (DDb Y Dv go oo t.val)) (k0_pay90 (k0_pay41 (DDb Y Dv go oo t.val)) (k0_pay42 (DDb Y Dv go oo t.val)) (k0_pay85 (DDb Y Dv go oo t.val) (k0_pay39 (DDb Y Dv go oo t.val)) (k0_pay82 (k0_pay43 (DDb Y Dv go oo t.val)) (k0_pay44 (DDb Y Dv go oo t.val)) (k0_pay45 (DDb Y Dv go oo t.val))
    (k0_pay76 (k0_pay40 (DDb Y Dv go oo t.val)) (k0_pay41 (DDb Y Dv go oo t.val)) (k0_pay42 (DDb Y Dv go oo t.val)) (k0_pay70 (DDb Y Dv go oo t.val) (k0_pay39 (DDb Y Dv go oo t.val)) (k0_pay45 (DDb Y Dv go oo t.val)) (k0_pay66 (k0_pay42 (DDb Y Dv go oo t.val)) (k0_pay43 (DDb Y Dv go oo t.val)) (k0_pay44 (DDb Y Dv go oo t.val)) (k0_pay62 (k0_pay39 (DDb Y Dv go oo t.val)) (k0_pay40 (DDb Y Dv go oo t.val)) (k0_pay41 (DDb Y Dv go oo t.val))
    (k0_pay58 (DDb Y Dv go oo t.val) (k0_pay45 (DDb Y Dv go oo t.val)) (k0_pay53 (k0_pay42 (DDb Y Dv go oo t.val)) (k0_pay43 (DDb Y Dv go oo t.val)) (k0_pay50 (k0_pay30 (DDb Y Dv go oo t.val) w30) (k0_pay39 (DDb Y Dv go oo t.val)) (k0_pay40 (DDb Y Dv go oo t.val)) (k0_pay41 (DDb Y Dv go oo t.val)) w29 w28 w27) w26 w25)
    (k0_pay55 (k0_pay44 (DDb Y Dv go oo t.val)) w24) w23 w22) w21 w20 w19) w18 w17 w16) w15 w14 w13) w12 w11 w10) w9 w8 w7) w6 w5)
    (k0_pay87 (k0_pay40 (DDb Y Dv go oo t.val)) w4) w3 w2) w1 w0 (ix2 r l) = gx X Y Dv fs w31 go oo ⟨128 * t.val + r.val, by omega⟩ 3 l := by
  rw [pay96_at]; rw [GG_blk Y Dv w31 go oo t w30 w29 w28 w27 w26 w25 w24 w23 w22 w21 w20 w19 w18 w17 w16 w15 w14 w13 w12 w11 w10 w9 w8 w7 w6 w5 w4 w3 w2 w1 w0 hw30 hw29 hw28 hw27 hw26 hw25 hw24 hw23 hw22 hw21 hw20 hw19 hw18 hw17 hw16 hw15 hw14 hw13 hw12 hw11 hw10 hw9 hw8 hw7 hw6 hw5 hw4 hw3 hw2 hw1 hw0]; rw [rowsb_at, rowsb_at]; rfl
theorem p97 (a : FVec Ideal S1x1024 .f32) (l : Fin 1024) :
    k0_pay97 (rowsb (fun n l => sigm (part X 4 n l)) t) (k0_pay43 (DDb Y Dv go oo t.val)) (k0_pay44 (DDb Y Dv go oo t.val)) (k0_pay90 (k0_pay41 (DDb Y Dv go oo t.val)) (k0_pay42 (DDb Y Dv go oo t.val)) (k0_pay85 (DDb Y Dv go oo t.val) (k0_pay39 (DDb Y Dv go oo t.val)) (k0_pay82 (k0_pay43 (DDb Y Dv go oo t.val)) (k0_pay44 (DDb Y Dv go oo t.val)) (k0_pay45 (DDb Y Dv go oo t.val))
    (k0_pay76 (k0_pay40 (DDb Y Dv go oo t.val)) (k0_pay41 (DDb Y Dv go oo t.val)) (k0_pay42 (DDb Y Dv go oo t.val)) (k0_pay70 (DDb Y Dv go oo t.val) (k0_pay39 (DDb Y Dv go oo t.val)) (k0_pay45 (DDb Y Dv go oo t.val)) (k0_pay66 (k0_pay42 (DDb Y Dv go oo t.val)) (k0_pay43 (DDb Y Dv go oo t.val)) (k0_pay44 (DDb Y Dv go oo t.val)) (k0_pay62 (k0_pay39 (DDb Y Dv go oo t.val)) (k0_pay40 (DDb Y Dv go oo t.val)) (k0_pay41 (DDb Y Dv go oo t.val))
    (k0_pay58 (DDb Y Dv go oo t.val) (k0_pay45 (DDb Y Dv go oo t.val)) (k0_pay53 (k0_pay42 (DDb Y Dv go oo t.val)) (k0_pay43 (DDb Y Dv go oo t.val)) (k0_pay50 (k0_pay30 (DDb Y Dv go oo t.val) w30) (k0_pay39 (DDb Y Dv go oo t.val)) (k0_pay40 (DDb Y Dv go oo t.val)) (k0_pay41 (DDb Y Dv go oo t.val)) w29 w28 w27) w26 w25)
    (k0_pay55 (k0_pay44 (DDb Y Dv go oo t.val)) w24) w23 w22) w21 w20 w19) w18 w17 w16) w15 w14 w13) w12 w11 w10) w9 w8 w7) w6 w5)
    (k0_pay87 (k0_pay40 (DDb Y Dv go oo t.val)) w4) w3 w2) w1 w0 a (ix2 0 l) = a (ix2 0 l) + blkSum (fun n => gx X Y Dv fs w31 go oo n 3 l) t := by
  rw [pay97_at]; rw [GG_blk Y Dv w31 go oo t w30 w29 w28 w27 w26 w25 w24 w23 w22 w21 w20 w19 w18 w17 w16 w15 w14 w13 w12 w11 w10 w9 w8 w7 w6 w5 w4 w3 w2 w1 w0 hw30 hw29 hw28 hw27 hw26 hw25 hw24 hw23 hw22 hw21 hw20 hw19 hw18 hw17 hw16 hw15 hw14 hw13 hw12 hw11 hw10 hw9 hw8 hw7 hw6 hw5 hw4 hw3 hw2 hw1 hw0]
  refine congrArg (_ + ·) (Finset.sum_congr rfl fun r _ => ?_)
  rw [rowsb_at, rowsb_at]; rfl
theorem p100 (r : Fin 128) (l : Fin 1024) (u : FVec Ideal S128x1024 .f32)
    (hu : ∀ (r : Fin 128) (l : Fin 1024) (h : 128 * t.val + r.val < 4096), u (ix2 r l) = part X 3 ⟨128 * t.val + r.val, h⟩ l) :
    k0_pay100 (rowsb (fun n l => sigm (part X 4 n l)) t) (k0_pay98 u (rowsb (fun n l => sigm (part X 4 n l)) t) (k0_pay43 (DDb Y Dv go oo t.val)) (k0_pay44 (DDb Y Dv go oo t.val)) (k0_pay90 (k0_pay41 (DDb Y Dv go oo t.val)) (k0_pay42 (DDb Y Dv go oo t.val)) (k0_pay85 (DDb Y Dv go oo t.val) (k0_pay39 (DDb Y Dv go oo t.val)) (k0_pay82 (k0_pay43 (DDb Y Dv go oo t.val)) (k0_pay44 (DDb Y Dv go oo t.val)) (k0_pay45 (DDb Y Dv go oo t.val))
    (k0_pay76 (k0_pay40 (DDb Y Dv go oo t.val)) (k0_pay41 (DDb Y Dv go oo t.val)) (k0_pay42 (DDb Y Dv go oo t.val)) (k0_pay70 (DDb Y Dv go oo t.val) (k0_pay39 (DDb Y Dv go oo t.val)) (k0_pay45 (DDb Y Dv go oo t.val)) (k0_pay66 (k0_pay42 (DDb Y Dv go oo t.val)) (k0_pay43 (DDb Y Dv go oo t.val)) (k0_pay44 (DDb Y Dv go oo t.val)) (k0_pay62 (k0_pay39 (DDb Y Dv go oo t.val)) (k0_pay40 (DDb Y Dv go oo t.val)) (k0_pay41 (DDb Y Dv go oo t.val))
    (k0_pay58 (DDb Y Dv go oo t.val) (k0_pay45 (DDb Y Dv go oo t.val)) (k0_pay53 (k0_pay42 (DDb Y Dv go oo t.val)) (k0_pay43 (DDb Y Dv go oo t.val)) (k0_pay50 (k0_pay30 (DDb Y Dv go oo t.val) w30) (k0_pay39 (DDb Y Dv go oo t.val)) (k0_pay40 (DDb Y Dv go oo t.val)) (k0_pay41 (DDb Y Dv go oo t.val)) w29 w28 w27) w26 w25)
    (k0_pay55 (k0_pay44 (DDb Y Dv go oo t.val)) w24) w23 w22) w21 w20 w19) w18 w17 w16) w15 w14 w13) w12 w11 w10) w9 w8 w7) w6 w5)
    (k0_pay87 (k0_pay40 (DDb Y Dv go oo t.val)) w4) w3 w2) w1 w0) (Scalar.ofBits .f32 0x3F800000#32) (ix2 r l) = gx X Y Dv fs w31 go oo ⟨128 * t.val + r.val, by omega⟩ 4 l := by
  rw [pay100_at]; rw [GG_blk Y Dv w31 go oo t w30 w29 w28 w27 w26 w25 w24 w23 w22 w21 w20 w19 w18 w17 w16 w15 w14 w13 w12 w11 w10 w9 w8 w7 w6 w5 w4 w3 w2 w1 w0 hw30 hw29 hw28 hw27 hw26 hw25 hw24 hw23 hw22 hw21 hw20 hw19 hw18 hw17 hw16 hw15 hw14 hw13 hw12 hw11 hw10 hw9 hw8 hw7 hw6 hw5 hw4 hw3 hw2 hw1 hw0]; rw [rowsb_at, rowsb_at, hu r l (by omega)]; rfl
theorem p101 (a : FVec Ideal S1x1024 .f32) (l : Fin 1024) (u : FVec Ideal S128x1024 .f32)
    (hu : ∀ (r : Fin 128) (l : Fin 1024) (h : 128 * t.val + r.val < 4096), u (ix2 r l) = part X 3 ⟨128 * t.val + r.val, h⟩ l) :
    k0_pay101 (rowsb (fun n l => sigm (part X 4 n l)) t) (k0_pay98 u (rowsb (fun n l => sigm (part X 4 n l)) t) (k0_pay43 (DDb Y Dv go oo t.val)) (k0_pay44 (DDb Y Dv go oo t.val)) (k0_pay90 (k0_pay41 (DDb Y Dv go oo t.val)) (k0_pay42 (DDb Y Dv go oo t.val)) (k0_pay85 (DDb Y Dv go oo t.val) (k0_pay39 (DDb Y Dv go oo t.val)) (k0_pay82 (k0_pay43 (DDb Y Dv go oo t.val)) (k0_pay44 (DDb Y Dv go oo t.val)) (k0_pay45 (DDb Y Dv go oo t.val))
    (k0_pay76 (k0_pay40 (DDb Y Dv go oo t.val)) (k0_pay41 (DDb Y Dv go oo t.val)) (k0_pay42 (DDb Y Dv go oo t.val)) (k0_pay70 (DDb Y Dv go oo t.val) (k0_pay39 (DDb Y Dv go oo t.val)) (k0_pay45 (DDb Y Dv go oo t.val)) (k0_pay66 (k0_pay42 (DDb Y Dv go oo t.val)) (k0_pay43 (DDb Y Dv go oo t.val)) (k0_pay44 (DDb Y Dv go oo t.val)) (k0_pay62 (k0_pay39 (DDb Y Dv go oo t.val)) (k0_pay40 (DDb Y Dv go oo t.val)) (k0_pay41 (DDb Y Dv go oo t.val))
    (k0_pay58 (DDb Y Dv go oo t.val) (k0_pay45 (DDb Y Dv go oo t.val)) (k0_pay53 (k0_pay42 (DDb Y Dv go oo t.val)) (k0_pay43 (DDb Y Dv go oo t.val)) (k0_pay50 (k0_pay30 (DDb Y Dv go oo t.val) w30) (k0_pay39 (DDb Y Dv go oo t.val)) (k0_pay40 (DDb Y Dv go oo t.val)) (k0_pay41 (DDb Y Dv go oo t.val)) w29 w28 w27) w26 w25)
    (k0_pay55 (k0_pay44 (DDb Y Dv go oo t.val)) w24) w23 w22) w21 w20 w19) w18 w17 w16) w15 w14 w13) w12 w11 w10) w9 w8 w7) w6 w5)
    (k0_pay87 (k0_pay40 (DDb Y Dv go oo t.val)) w4) w3 w2) w1 w0) (Scalar.ofBits .f32 0x3F800000#32) a (ix2 0 l) = a (ix2 0 l) + blkSum (fun n => gx X Y Dv fs w31 go oo n 4 l) t := by
  rw [pay101_at]; rw [GG_blk Y Dv w31 go oo t w30 w29 w28 w27 w26 w25 w24 w23 w22 w21 w20 w19 w18 w17 w16 w15 w14 w13 w12 w11 w10 w9 w8 w7 w6 w5 w4 w3 w2 w1 w0 hw30 hw29 hw28 hw27 hw26 hw25 hw24 hw23 hw22 hw21 hw20 hw19 hw18 hw17 hw16 hw15 hw14 hw13 hw12 hw11 hw10 hw9 hw8 hw7 hw6 hw5 hw4 hw3 hw2 hw1 hw0]
  refine congrArg (_ + ·) (Finset.sum_congr rfl fun r _ => ?_)
  rw [rowsb_at, rowsb_at, hu r l (by omega)]; rfl
end
theorem p116 (r : Fin 128) (l : Fin 1024) (u : FVec Ideal S128x1024 .f32)
    (hu : ∀ (r : Fin 128) (l : Fin 1024) (h : 128 * t.val + r.val < 4096), u (ix2 r l) = yA Y ⟨128 * t.val + r.val, h⟩ l) :
    k0_pay116 (F := Ideal) u (rowsb (cp X fs) t) (ix2 r l) = gx X Y Dv fs w31 go oo ⟨128 * t.val + r.val, by omega⟩ 0 l := by
  rw [pay116_at, rowsb_at, hu r l (by omega)]; rfl
theorem p117 (a : FVec Ideal S1x1024 .f32) (l : Fin 1024) (u : FVec Ideal S128x1024 .f32)
    (hu : ∀ (r : Fin 128) (l : Fin 1024) (h : 128 * t.val + r.val < 4096), u (ix2 r l) = yA Y ⟨128 * t.val + r.val, h⟩ l) :
    k0_pay117 (F := Ideal) u (rowsb (cp X fs) t) a (ix2 0 l) = a (ix2 0 l) + blkSum (fun n => gx X Y Dv fs w31 go oo n 0 l) t := by
  rw [pay117_at]
  refine congrArg (_ + ·) (Finset.sum_congr rfl fun r _ => ?_)
  rw [rowsb_at, hu r l (by omega)]; rfl
theorem p119 (r : Fin 128) (l : Fin 1024) (u : FVec Ideal S128x1024 .f32)
    (hu : ∀ (r : Fin 128) (l : Fin 1024) (h : 128 * t.val + r.val < 4096), u (ix2 r l) = part X 2 ⟨128 * t.val + r.val, h⟩ l) :
    k0_pay119 (F := Ideal) u (rowsb (gp X Y fs) t) (ix2 r l) = gx X Y Dv fs w31 go oo ⟨128 * t.val + r.val, by omega⟩ 1 l := by
  rw [pay119_at, rowsb_at, hu r l (by omega)]; rfl
theorem p120 (a : FVec Ideal S1x1024 .f32) (l : Fin 1024) (u : FVec Ideal S128x1024 .f32)
    (hu : ∀ (r : Fin 128) (l : Fin 1024) (h : 128 * t.val + r.val < 4096), u (ix2 r l) = part X 2 ⟨128 * t.val + r.val, h⟩ l) :
    k0_pay120 (F := Ideal) u (rowsb (gp X Y fs) t) a (ix2 0 l) = a (ix2 0 l) + blkSum (fun n => gx X Y Dv fs w31 go oo n 1 l) t := by
  rw [pay120_at]
  refine congrArg (_ + ·) (Finset.sum_congr rfl fun r _ => ?_)
  rw [rowsb_at, hu r l (by omega)]; rfl
theorem p122 (r : Fin 128) (l : Fin 1024) (u : FVec Ideal S128x1024 .f32)
    (hu : ∀ (r : Fin 128) (l : Fin 1024) (h : 128 * t.val + r.val < 4096), u (ix2 r l) = part X 1 ⟨128 * t.val + r.val, h⟩ l) :
    k0_pay122 (F := Ideal) u (rowsb (gp X Y fs) t) (ix2 r l) = gx X Y Dv fs w31 go oo ⟨128 * t.val + r.val, by omega⟩ 2 l := by
  rw [pay122_at, rowsb_at, hu r l (by omega)]; rfl
theorem p1 (a : FVec Ideal S1x1024 .f32) (l : Fin 1024) (u : FVec Ideal S128x1024 .f32)
    (hu : ∀ (r : Fin 128) (l : Fin 1024) (h : 128 * t.val + r.val < 4096), u (ix2 r l) = part X 1 ⟨128 * t.val + r.val, h⟩ l) :
    k0_pay1 (F := Ideal) (k0_pay121 u (rowsb (gp X Y fs) t)) a (ix2 0 l) = a (ix2 0 l) + blkSum (fun n => gx X Y Dv fs w31 go oo n 2 l) t := by
  rw [pay1_at]
  refine congrArg (_ + ·) (Finset.sum_congr rfl fun r _ => ?_)
  rw [rowsb_at, hu r l (by omega)]; rfl

theorem p29 (a : FVec Ideal S1x1024 .f32) (l : Fin 1024) : k0_pay29 (F := Ideal) (DDb Y Dv go oo t.val) a (ix2 0 l)
    = a (ix2 0 l) + blkSum (fun n => gd Y Dv go oo n l) t := by
  rw [pay29_at]
  refine congrArg (_ + ·) (Finset.sum_congr rfl fun r _ => ?_)
  exact past_lt _ (show 128 * t.val + r.val < 4096 by omega) l

theorem KDLN_row (k : EReal) (a b : FVec Ideal S128x1024 .f32) (a' b' : FVec Ideal S32x1024 .f32) (g o : FVec Ideal S1x1024 .f32)
    (ha : ∀ (r : Fin 128) (l : Fin 1024) (h : 128 * t.val + r.val < 4096), a (ix2 r l) = Dv ⟨128 * t.val + r.val, h⟩ l)
    (hb : ∀ (r : Fin 128) (l : Fin 1024) (h : 128 * t.val + r.val < 4096), b (ix2 r l) = yB Y ⟨128 * t.val + r.val, h⟩ l)
    (hg : ∀ l, g (ix2 0 l) = go l) (ho : ∀ l, o (ix2 0 l) = oo l) (r : Fin 128) (l : Fin 1024) (hr : r.val < 160) :
    k0_pay23 (F := Ideal) (k0_pay16 k b b') (k0_pay21 a a' g) (k0_pay22 o) (ix2 ⟨r.val, hr⟩ l) = gln Y Dv go oo ⟨128 * t.val + r.val, by omega⟩ l
    ∧ k0_pay19 (F := Ideal) a a' (ix2 ⟨r.val, hr⟩ l) = xh (Dv ⟨128 * t.val + r.val, by omega⟩) l := by
  have e1 : cat a a' ⟨r.val, hr⟩ = Dv ⟨128 * t.val + r.val, by omega⟩ := by funext l; unfold cat; rw [dif_pos r.isLt]; exact ha r l _
  have e2 : cat b (scl k b') ⟨r.val, hr⟩ = yB Y ⟨128 * t.val + r.val, by omega⟩ := by funext l; unfold cat; rw [dif_pos r.isLt]; exact hb r l _
  constructor
  · refine (KDLN_at k a b a' b' g o _ l).trans ?_
    rw [e1, e2, show row1 g = go from funext hg, show row1 o = oo from funext ho]; rfl
  · rw [pay19_at, e1]

theorem p25 (k : EReal) (a b : FVec Ideal S128x1024 .f32) (a' b' : FVec Ideal S32x1024 .f32) (g o : FVec Ideal S1x1024 .f32)
    (ha : ∀ (r : Fin 128) (l : Fin 1024) (h : 128 * t.val + r.val < 4096), a (ix2 r l) = Dv ⟨128 * t.val + r.val, h⟩ l)
    (hb : ∀ (r : Fin 128) (l : Fin 1024) (h : 128 * t.val + r.val < 4096), b (ix2 r l) = yB Y ⟨128 * t.val + r.val, h⟩ l)
    (hg : ∀ l, g (ix2 0 l) = go l) (ho : ∀ l, o (ix2 0 l) = oo l) (c : FVec Ideal S1x1024 .f32) (l : Fin 1024) :
    k0_pay25 (F := Ideal) (k0_pay16 k b b') (k0_pay19 a a') (k0_pay21 a a' g) (k0_pay22 o) c (ix2 0 l)
    = c (ix2 0 l) + blkSum (fun n => gln Y Dv go oo n l * xh (Dv n) l) t := by
  rw [pay25_at]
  refine congrArg (_ + ·) (Finset.sum_congr rfl fun r _ => ?_)
  have e := KDLN_row Y Dv go oo t k a b a' b' g o ha hb hg ho r l (by omega)
  rw [e.1, e.2]

theorem p27 (k : EReal) (a b : FVec Ideal S128x1024 .f32) (a' b' : FVec Ideal S32x1024 .f32) (g o : FVec Ideal S1x1024 .f32)
    (ha : ∀ (r : Fin 128) (l : Fin 1024) (h : 128 * t.val + r.val < 4096), a (ix2 r l) = Dv ⟨128 * t.val + r.val, h⟩ l)
    (hb : ∀ (r : Fin 128) (l : Fin 1024) (h : 128 * t.val + r.val < 4096), b (ix2 r l) = yB Y ⟨128 * t.val + r.val, h⟩ l)
    (hg : ∀ l, g (ix2 0 l) = go l) (ho : ∀ l, o (ix2 0 l) = oo l) (c : FVec Ideal S1x1024 .f32) (l : Fin 1024) :
    k0_pay27 (F := Ideal) (k0_pay23 (k0_pay16 k b b') (k0_pay21 a a' g) (k0_pay22 o)) (k0_pay26 c) (ix2 0 l)
    = c (ix2 0 l) + blkSum (fun n => gln Y Dv go oo n l) t := by
  rw [pay27_at]
  refine congrArg (_ + ·) (Finset.sum_congr rfl fun r _ => ?_)
  exact (KDLN_row Y Dv go oo t k a b a' b' g o ha hb hg ho r l (by omega)).1

/-- One column block of a tile of one row: which block and which lane it is. -/
theorem piece_col {x : S1x1024.Idx} {k : Fin 5} {l : Fin 1024} {n : ℕ} (h1 : 1024 * k.val + l.val = 1024 * n + (x 1).val) :
    k.val = n ∧ x = ix2 0 l := by
  obtain ⟨a, b, rfl⟩ : ∃ (a : Fin 1) (b : Fin 1024), x = ix2 a b := ⟨x 0, x 1, by idx_vars x⟩
  have ha : a = 0 := Subsingleton.elim _ _
  subst ha
  have h1' : 1024 * k.val + l.val = 1024 * n + b.val := h1
  exact ⟨by omega, congrArg (ix2 0) (Fin.ext (by omega))⟩

/-- One column block of a tile of 128 rows: which block and which entry it is. -/
theorem piece_blk {x : S128x1024.Idx} {k : Fin 5} {r : Fin 128} {l : Fin 1024} {n : ℕ} (h0 : r.val = (x 0).val) (h1 : 1024 * k.val + l.val = 1024 * n + (x 1).val) :
    k.val = n ∧ x = ix2 r l := by
  obtain ⟨a, b, rfl⟩ : ∃ (a : Fin 128) (b : Fin 1024), x = ix2 a b := ⟨x 0, x 1, by idx_vars x⟩
  have h0' : r.val = a.val := h0
  have h1' : 1024 * k.val + l.val = 1024 * n + b.val := h1
  exact ⟨by omega, by rw [show a = r from Fin.ext h0'.symm, show b = l from Fin.ext (by omega)]⟩

end Cert.Odd
end
-- ==== Proof.KFold.lean ====
/- The blocks the body composes, named, continued. -/
module

public import proofs.«01_k».proof.Proof.KWin
public import proofs.«01_k».proof.Proof.KTile
public import proofs.«01_k».proof.Proof.KBlk
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Odd
variable (m : (ℓ : Loc nD τ sig) → Buf (Elt Ideal) ℓ)

section
variable (c : Dev nD)
/-- The gradient at the projection, of the arrays as launched. -/
def GX (n : Fin 4096) (k : Fin 5) : Row := gx (XA m c) (YA m c) (DA m c) (W3 m c) (W31 m c) (GA m c) (OA m c) n k
end

theorem in0p (c : Dev nD) (t : Fin cfg0.N) (k : Fin 5) {r : Fin 128} {l : Fin 1024} {j : Fin 5120} (h : 128 * t.val + r.val < 4096) (hj : j.val = 1024 * k.val + l.val) :
    (iblk m c 0 t : FVec Ideal S128x5120 .f32) (ix2 r j) = part (XA m c) k ⟨128 * t.val + r.val, h⟩ l := by
  rw [in0 m c t r j h, show j = ⟨1024 * k.val + l.val, by omega⟩ from Fin.ext hj]; rfl

theorem in1p (c : Dev nD) (t : Fin cfg0.N) (k : Fin 5) {r : Fin 32} {l : Fin 1024} {j : Fin 5120} (h : 32 * (4 * t.val - 1) + r.val < 4096) (hj : j.val = 1024 * k.val + l.val) :
    (iblk m c 1 t : FVec Ideal S32x5120 .f32) (ix2 r j) = part (XA m c) k ⟨32 * (4 * t.val - 1) + r.val, h⟩ l := by
  rw [in1 m c t r j h, show j = ⟨1024 * k.val + l.val, by omega⟩ from Fin.ext hj]; rfl

theorem in2p (c : Dev nD) (t : Fin cfg0.N) (k : Fin 5) {r : Fin 32} {l : Fin 1024} {j : Fin 5120} (h : 32 * min (4 * (t.val + 1)) 127 + r.val < 4096) (hj : j.val = 1024 * k.val + l.val) :
    (iblk m c 2 t : FVec Ideal S32x5120 .f32) (ix2 r j) = part (XA m c) k ⟨32 * min (4 * (t.val + 1)) 127 + r.val, h⟩ l := by
  rw [in2 m c t r j h, show j = ⟨1024 * k.val + l.val, by omega⟩ from Fin.ext hj]; rfl

theorem DC_fold (c : Dev nD) (t : Fin cfg0.N) (a b : FVec Ideal S128x1024 .f32) (a' b' : FVec Ideal S32x1024 .f32)
    (ha : ∀ (r : Fin 128) (l : Fin 1024) (h : 128 * t.val + r.val < 4096), a (ix2 r l) = part (XA m c) 0 ⟨128 * t.val + r.val, h⟩ l)
    (hb : ∀ (r : Fin 128) (l : Fin 1024) (h : 128 * t.val + r.val < 4096), b (ix2 r l) = yA (YA m c) ⟨128 * t.val + r.val, h⟩ l)
    (ha' : ∀ (r : Fin 32) (l : Fin 1024) (h : 32 * min (4 * (t.val + 1)) 127 + r.val < 4096), a' (ix2 r l) = part (XA m c) 0 ⟨32 * min (4 * (t.val + 1)) 127 + r.val, h⟩ l)
    (hb' : ∀ (r : Fin 32) (l : Fin 1024) (h : 32 * min (4 * (t.val + 1)) 127 + r.val < 4096), b' (ix2 r l) = yA (YA m c) ⟨32 * min (4 * (t.val + 1)) 127 + r.val, h⟩ l) :
    KDC (k0_pay9 (F := Ideal) (grid0.coords t)) a b b' a' = DCb (XA m c) (YA m c) t.val :=
  KDC_blk _ _ t.val t.isLt _ (keepNext t) a b a' b' ha hb ha' hb'

theorem DP_fold (c : Dev nD) (t : Fin cfg0.N) (a b : FVec Ideal S128x1024 .f32) (a' b' : FVec Ideal S32x1024 .f32) (w2 w1 w0 : FVec Ideal S1x1024 .f32)
    (ha : ∀ (r : Fin 128) (l : Fin 1024) (h : 128 * t.val + r.val < 4096), a (ix2 r l) = part (XA m c) 0 ⟨128 * t.val + r.val, h⟩ l)
    (hb : ∀ (r : Fin 128) (l : Fin 1024) (h : 128 * t.val + r.val < 4096), b (ix2 r l) = yA (YA m c) ⟨128 * t.val + r.val, h⟩ l)
    (ha' : ∀ (r : Fin 32) (l : Fin 1024) (h : 32 * min (4 * (t.val + 1)) 127 + r.val < 4096), a' (ix2 r l) = part (XA m c) 0 ⟨32 * min (4 * (t.val + 1)) 127 + r.val, h⟩ l)
    (hb' : ∀ (r : Fin 32) (l : Fin 1024) (h : 32 * min (4 * (t.val + 1)) 127 + r.val < 4096), b' (ix2 r l) = yA (YA m c) ⟨32 * min (4 * (t.val + 1)) 127 + r.val, h⟩ l)
    (h2 : ∀ l, w2 (ix2 0 l) = W3 m c 2 l) (h1 : ∀ l, w1 (ix2 0 l) = W3 m c 1 l) (h0 : ∀ l, w0 (ix2 0 l) = W3 m c 0 l) :
    k0_pay113 (F := Ideal) (k0_pay102 (k0_pay9 (grid0.coords t)) a b b' a') (k0_pay106 (k0_pay9 (grid0.coords t)) a b b' a' w2) 159#32 w1 w0
      = rowsb (gp (XA m c) (YA m c) (W3 m c)) (pt t) :=
  DP_blk _ _ _ (pt t) _ (keepNext t) a b a' b' w2 w1 w0 ha hb ha' hb' h2 h1 h0

theorem CP_fold (c : Dev nD) (t : Fin cfg0.N) (w2 w1 w0 : FVec Ideal S1x1024 .f32)
    (h2 : ∀ l, w2 (ix2 0 l) = W3 m c 2 l) (h1 : ∀ l, w1 (ix2 0 l) = W3 m c 1 l) (h0 : ∀ l, w0 (ix2 0 l) = W3 m c 0 l) :
    k0_pay112 (F := Ideal) (k0_pay104 (PLb (XA m c) t.val) (PPb (XA m c) t.val)) (k0_pay105 (PLb (XA m c) t.val) w2) w1 w0
      = rowsb (cp (XA m c) (W3 m c)) (pt t) :=
  CP_blk _ _ (pt t) w2 w1 w0 h2 h1 h0

theorem SG_fold (c : Dev nD) (t : Fin cfg0.N) (u : FVec Ideal S128x1024 .f32)
    (hu : ∀ (r : Fin 128) (l : Fin 1024) (h : 128 * t.val + r.val < 4096), u (ix2 r l) = part (XA m c) 4 ⟨128 * t.val + r.val, h⟩ l) :
    k0_pay10 (F := Ideal) u = rowsb (fun n l => sigm (part (XA m c) 4 n l)) (pt t) := SG_blk _ (pt t) u hu

end Cert.Odd
end
-- ==== Proof.KWin2.lean ====
/- What a grid point leaves in each output window. -/
module

public import proofs.«01_k».proof.Proof.KWin
public import proofs.«01_k».proof.Proof.KFold
public import proofs.«01_k».proof.Proof.KBlk
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Odd
variable (m : (ℓ : Loc nD τ sig) → Buf (Elt Ideal) ℓ)

set_option maxHeartbeats 2000000 in
theorem w13_A (c : Dev nD) (t : Fin cfg0.N) (h : t.val % 32 = 0) (k : Fin 3) (l : Fin 1024) :
   (outsAt0 m c t.val t.isLt).2.2.1 (ix2 k l) = 0
     + blkSum (fun n => term (gc (XA m c) (YA m c)) (pp (XA m c)) (2 - k.val) n l) (pt t) := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [PL_fold m c t, PP_fold m c t]
  rotate_left
  all_goals try (intro r l h; pointwise; first | exact in0p m c t _ h (by simp) | exact in1p m c t _ h (by simp) | exact in2p m c t _ h (by simp) | exact in3 m c t _ _ h | exact in4 m c t _ _ h)
  all_goals try (intro l; pointwise; first | exact in7 m c t _ l | exact in8 m c t _ l)
  rw [canon_drop_fill _ (List.cons_ne_nil _ _) ![1, 1024] rfl]
  simp only [List.dropLast]
  canon_tiles x h
  case piece0 =>
    obtain ⟨hk, rfl⟩ := piece_idx (k := k) (l := l) (h0.trans (Nat.zero_add _).symm) h1
    obtain rfl : k = 0 := Fin.ext hk
    refine (stap0 (PLb (XA m c) t.val) (PPb (XA m c) t.val) _ l _ _ _ _ _).trans (congrArg₂ (· + ·) ?_ ((congrArg (tap · _ _ _ _) (DC_fold m c t _ _ _ _ (fun r l h => by pointwise; exact in0p m c t 0 h (by simp)) (fun r l h => by pointwise; exact in3 m c t _ _ h) (fun r l h => by pointwise; exact in2p m c t 0 h (by simp)) (fun r l h => by pointwise; exact in4 m c t _ _ h))).trans (taps3 _ _ (pt t) _ (by decide) l)))
    pointwise [k0_pay3]
  case piece1 =>
    obtain ⟨hk, rfl⟩ := piece_idx (k := k) (l := l) h0 h1
    obtain rfl : k = 1 := Fin.ext hk
    refine (stap1 (PLb (XA m c) t.val) (PPb (XA m c) t.val) _ l _ _ _ _ _).trans (congrArg₂ (· + ·) ?_ ((congrArg (tap · _ _ _ _) (DC_fold m c t _ _ _ _ (fun r l h => by pointwise; exact in0p m c t 0 h (by simp)) (fun r l h => by pointwise; exact in3 m c t _ _ h) (fun r l h => by pointwise; exact in2p m c t 0 h (by simp)) (fun r l h => by pointwise; exact in4 m c t _ _ h))).trans (taps3 _ _ (pt t) _ (by decide) l)))
    pointwise [k0_pay3]
  case piece2 =>
    obtain ⟨hk, rfl⟩ := piece_idx (k := k) (l := l) h0 h1
    obtain rfl : k = 2 := Fin.ext hk
    refine (stap2 (PLb (XA m c) t.val) (PPb (XA m c) t.val) _ l _ _ _ _ _).trans (congrArg₂ (· + ·) ?_ ((congrArg (tap · _ _ _ _) (DC_fold m c t _ _ _ _ (fun r l h => by pointwise; exact in0p m c t 0 h (by simp)) (fun r l h => by pointwise; exact in3 m c t _ _ h) (fun r l h => by pointwise; exact in2p m c t 0 h (by simp)) (fun r l h => by pointwise; exact in4 m c t _ _ h))).trans (taps3 _ _ (pt t) _ (by decide) l)))
    pointwise [k0_pay3]

set_option maxHeartbeats 2000000 in
theorem w13_B (c : Dev nD) (t : Fin cfg0.N) (h : ¬ t.val % 32 = 0) (k : Fin 3) (l : Fin 1024) :
   (outsAt0 m c t.val t.isLt).2.2.1 (ix2 k l) = (outsAt0 m c (t.val - 1) (by omega)).2.2.1 (ix2 k l)
     + blkSum (fun n => term (gc (XA m c) (YA m c)) (pp (XA m c)) (2 - k.val) n l) (pt t) := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [PL_fold m c t, PP_fold m c t]
  rotate_left
  all_goals try (intro r l h; pointwise; first | exact in0p m c t _ h (by simp) | exact in1p m c t _ h (by simp) | exact in2p m c t _ h (by simp) | exact in3 m c t _ _ h | exact in4 m c t _ _ h)
  all_goals try (intro l; pointwise; first | exact in7 m c t _ l | exact in8 m c t _ l)
  canon_tiles x h
  case piece0 =>
    obtain ⟨hk, rfl⟩ := piece_idx (k := k) (l := l) (h0.trans (Nat.zero_add _).symm) h1
    obtain rfl : k = 0 := Fin.ext hk
    refine (stap0 (PLb (XA m c) t.val) (PPb (XA m c) t.val) _ l _ _ _ _ _).trans (congrArg₂ (· + ·) ?_ ((congrArg (tap · _ _ _ _) (DC_fold m c t _ _ _ _ (fun r l h => by pointwise; exact in0p m c t 0 h (by simp)) (fun r l h => by pointwise; exact in3 m c t _ _ h) (fun r l h => by pointwise; exact in2p m c t 0 h (by simp)) (fun r l h => by pointwise; exact in4 m c t _ _ h))).trans (taps3 _ _ (pt t) _ (by decide) l)))
    pointwise
  case piece1 =>
    obtain ⟨hk, rfl⟩ := piece_idx (k := k) (l := l) h0 h1
    obtain rfl : k = 1 := Fin.ext hk
    refine (stap1 (PLb (XA m c) t.val) (PPb (XA m c) t.val) _ l _ _ _ _ _).trans (congrArg₂ (· + ·) ?_ ((congrArg (tap · _ _ _ _) (DC_fold m c t _ _ _ _ (fun r l h => by pointwise; exact in0p m c t 0 h (by simp)) (fun r l h => by pointwise; exact in3 m c t _ _ h) (fun r l h => by pointwise; exact in2p m c t 0 h (by simp)) (fun r l h => by pointwise; exact in4 m c t _ _ h))).trans (taps3 _ _ (pt t) _ (by decide) l)))
    pointwise
  case piece2 =>
    obtain ⟨hk, rfl⟩ := piece_idx (k := k) (l := l) h0 h1
    obtain rfl : k = 2 := Fin.ext hk
    refine (stap2 (PLb (XA m c) t.val) (PPb (XA m c) t.val) _ l _ _ _ _ _).trans (congrArg₂ (· + ·) ?_ ((congrArg (tap · _ _ _ _) (DC_fold m c t _ _ _ _ (fun r l h => by pointwise; exact in0p m c t 0 h (by simp)) (fun r l h => by pointwise; exact in3 m c t _ _ h) (fun r l h => by pointwise; exact in2p m c t 0 h (by simp)) (fun r l h => by pointwise; exact in4 m c t _ _ h))).trans (taps3 _ _ (pt t) _ (by decide) l)))
    pointwise

set_option maxHeartbeats 2000000 in
theorem w15_A (c : Dev nD) (t : Fin cfg0.N) (h : t.val % 32 = 0) (l : Fin 1024) :
   (outsAt0 m c t.val t.isLt).2.2.2.2.1 (ix2 0 l) = 0
     + blkSum (fun n => gd (YA m c) (DA m c) (GA m c) (OA m c) n l) (pt t) := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t]
  rotate_left
  all_goals try (intro r l h; pointwise; first | exact in0 m c t _ _ h | exact in1 m c t _ _ h | exact in2 m c t _ _ h | exact in3 m c t _ _ h | exact in4 m c t _ _ h)
  refine (p29 _ _ _ _ (pt t) _ l).trans (congrArg (· + _) ?_)
  pointwise [k0_pay5]

set_option maxHeartbeats 2000000 in
theorem w15_B (c : Dev nD) (t : Fin cfg0.N) (h : ¬ t.val % 32 = 0) (l : Fin 1024) :
   (outsAt0 m c t.val t.isLt).2.2.2.2.1 (ix2 0 l) = (outsAt0 m c (t.val - 1) (by omega)).2.2.2.2.1 (ix2 0 l)
     + blkSum (fun n => gd (YA m c) (DA m c) (GA m c) (OA m c) n l) (pt t) := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t]
  rotate_left
  all_goals try (intro r l h; pointwise; first | exact in0 m c t _ _ h | exact in1 m c t _ _ h | exact in2 m c t _ _ h | exact in3 m c t _ _ h | exact in4 m c t _ _ h)
  refine (p29 _ _ _ _ (pt t) _ l).trans (congrArg (· + _) ?_)
  rfl

set_option maxHeartbeats 2000000 in
theorem w16_A (c : Dev nD) (t : Fin cfg0.N) (h : t.val % 32 = 0) (l : Fin 1024) :
   (outsAt0 m c t.val t.isLt).2.2.2.2.2.1 (ix2 0 l) = 0
     + blkSum (fun n => gln (YA m c) (DA m c) (GA m c) (OA m c) n l * xh (DA m c n) l) (pt t) := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  refine (p25 _ (DA m c) (GA m c) (OA m c) (pt t) _ _ _ _ _ _ _ (fun r l h => in5 m c t _ _ h) (fun r l h => by pointwise; exact in3 m c t _ _ h) (fun l => in9 m c t 0 l) (fun l => in10 m c t 0 l) _ l).trans (congrArg (· + _) ?_)
  pointwise [k0_pay6]

set_option maxHeartbeats 2000000 in
theorem w16_B (c : Dev nD) (t : Fin cfg0.N) (h : ¬ t.val % 32 = 0) (l : Fin 1024) :
   (outsAt0 m c t.val t.isLt).2.2.2.2.2.1 (ix2 0 l) = (outsAt0 m c (t.val - 1) (by omega)).2.2.2.2.2.1 (ix2 0 l)
     + blkSum (fun n => gln (YA m c) (DA m c) (GA m c) (OA m c) n l * xh (DA m c n) l) (pt t) := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  refine (p25 _ (DA m c) (GA m c) (OA m c) (pt t) _ _ _ _ _ _ _ (fun r l h => in5 m c t _ _ h) (fun r l h => by pointwise; exact in3 m c t _ _ h) (fun l => in9 m c t 0 l) (fun l => in10 m c t 0 l) _ l).trans (congrArg (· + _) ?_)
  rfl

set_option maxHeartbeats 2000000 in
theorem w17_A (c : Dev nD) (t : Fin cfg0.N) (h : t.val % 32 = 0) (l : Fin 1024) :
   (outsAt0 m c t.val t.isLt).2.2.2.2.2.2 (ix2 0 l) = 0
     + blkSum (fun n => gln (YA m c) (DA m c) (GA m c) (OA m c) n l) (pt t) := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  refine (p27 _ (DA m c) (GA m c) (OA m c) (pt t) _ _ _ _ _ _ _ (fun r l h => in5 m c t _ _ h) (fun r l h => by pointwise; exact in3 m c t _ _ h) (fun l => in9 m c t 0 l) (fun l => in10 m c t 0 l) _ l).trans (congrArg (· + _) ?_)
  pointwise [k0_pay7]

set_option maxHeartbeats 2000000 in
theorem w17_B (c : Dev nD) (t : Fin cfg0.N) (h : ¬ t.val % 32 = 0) (l : Fin 1024) :
   (outsAt0 m c t.val t.isLt).2.2.2.2.2.2 (ix2 0 l) = (outsAt0 m c (t.val - 1) (by omega)).2.2.2.2.2.2 (ix2 0 l)
     + blkSum (fun n => gln (YA m c) (DA m c) (GA m c) (OA m c) n l) (pt t) := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  refine (p27 _ (DA m c) (GA m c) (OA m c) (pt t) _ _ _ _ _ _ _ (fun r l h => in5 m c t _ _ h) (fun r l h => by pointwise; exact in3 m c t _ _ h) (fun l => in9 m c t 0 l) (fun l => in10 m c t 0 l) _ l).trans (congrArg (· + _) ?_)
  rfl

end Cert.Odd
end
-- ==== Proof.KWin12.lean ====
/- What a grid point leaves in each output window. -/
module

public import proofs.«01_k».proof.Proof.KWin
public import proofs.«01_k».proof.Proof.KFold
public import proofs.«01_k».proof.Proof.KBlk
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Odd
variable (m : (ℓ : Loc nD τ sig) → Buf (Elt Ideal) ℓ)

set_option maxHeartbeats 2000000 in
theorem w12_A (c : Dev nD) (t : Fin cfg0.N) (h : t.val % 32 = 0) (k : Fin 5) (l : Fin 1024) :
   (outsAt0 m c t.val t.isLt).2.1 (ix2 0 ⟨1024 * k.val + l.val, by omega⟩) = 0
     + blkSum (fun n => GX m c n k l) (pt t) := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t, PL_fold m c t, PP_fold m c t, DP_fold m c t, CP_fold m c t, SG_fold m c t]
  rotate_left
  all_goals try (intro r l h; pointwise; first | exact in0p m c t _ h (by simp) | exact in1p m c t _ h (by simp) | exact in2p m c t _ h (by simp) | exact in3 m c t _ _ h | exact in4 m c t _ _ h)
  all_goals try (intro l; pointwise; first | exact in7 m c t _ l | exact in8 m c t _ l)
  rw [canon_drop_fill _ (List.cons_ne_nil _ _) ![1, 1024] rfl]
  simp only [List.dropLast]
  canon_tiles x h
  case piece2 =>
    obtain ⟨hk, rfl⟩ := piece_col (k := k) (l := l) (n := 0) (h1.trans (Nat.zero_add _).symm : 1024 * k.val + l.val = 0 + (x 1).val)
    obtain rfl : k = 0 := Fin.ext hk
    refine (p117 (XA m c) (YA m c) (DA m c) (W3 m c) (W31 m c) (GA m c) (OA m c) (pt t) _ l _ (fun r l h => by pointwise; exact in3 m c t _ _ h)).trans (congrArg (· + _) ?_)
    pointwise [k0_pay2]
  case piece1 =>
    obtain ⟨hk, rfl⟩ := piece_col (k := k) (l := l) (n := 1) (h1 : 1024 * k.val + l.val = 1024 + (x 1).val)
    obtain rfl : k = 1 := Fin.ext hk
    refine (p120 (XA m c) (YA m c) (DA m c) (W3 m c) (W31 m c) (GA m c) (OA m c) (pt t) _ l _ (fun r l h => by pointwise; exact in0p m c t 2 h (by simp))).trans (congrArg (· + _) ?_)
    pointwise [k0_pay2]
  case piece0 =>
    obtain ⟨hk, rfl⟩ := piece_col (k := k) (l := l) (n := 2) (h1 : 1024 * k.val + l.val = 2048 + (x 1).val)
    obtain rfl : k = 2 := Fin.ext hk
    refine (p1 (XA m c) (YA m c) (DA m c) (W3 m c) (W31 m c) (GA m c) (OA m c) (pt t) _ l _ (fun r l h => by pointwise; exact in0p m c t 1 h (by simp))).trans (congrArg (· + _) ?_)
    pointwise [k0_pay2]
  case piece4 =>
    obtain ⟨hk, rfl⟩ := piece_col (k := k) (l := l) (n := 3) (h1 : 1024 * k.val + l.val = 3072 + (x 1).val)
    obtain rfl : k = 3 := Fin.ext hk
    refine (p97 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l).trans (congrArg (· + _) ?z)
    case z => pointwise [k0_pay2]
    all_goals
      intro l
      pointwise
      exact in8 m c t _ l
  case piece3 =>
    obtain ⟨hk, rfl⟩ := piece_col (k := k) (l := l) (n := 4) (h1 : 1024 * k.val + l.val = 4096 + (x 1).val)
    obtain rfl : k = 4 := Fin.ext hk
    refine (p101 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l _ (fun r l h => by pointwise; exact in0p m c t 3 h (by simp))).trans (congrArg (· + _) ?z)
    case z => pointwise [k0_pay2]
    all_goals
      intro l
      pointwise
      exact in8 m c t _ l

set_option maxHeartbeats 2000000 in
theorem w12_B (c : Dev nD) (t : Fin cfg0.N) (h : ¬ t.val % 32 = 0) (k : Fin 5) (l : Fin 1024) :
   (outsAt0 m c t.val t.isLt).2.1 (ix2 0 ⟨1024 * k.val + l.val, by omega⟩) = (outsAt0 m c (t.val - 1) (by omega)).2.1 (ix2 0 ⟨1024 * k.val + l.val, by omega⟩)
     + blkSum (fun n => GX m c n k l) (pt t) := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t, PL_fold m c t, PP_fold m c t, DP_fold m c t, CP_fold m c t, SG_fold m c t]
  rotate_left
  all_goals try (intro r l h; pointwise; first | exact in0p m c t _ h (by simp) | exact in1p m c t _ h (by simp) | exact in2p m c t _ h (by simp) | exact in3 m c t _ _ h | exact in4 m c t _ _ h)
  all_goals try (intro l; pointwise; first | exact in7 m c t _ l | exact in8 m c t _ l)
  canon_tiles x h
  case piece2 =>
    obtain ⟨hk, rfl⟩ := piece_col (k := k) (l := l) (n := 0) (h1.trans (Nat.zero_add _).symm : 1024 * k.val + l.val = 0 + (x 1).val)
    obtain rfl : k = 0 := Fin.ext hk
    refine (p117 (XA m c) (YA m c) (DA m c) (W3 m c) (W31 m c) (GA m c) (OA m c) (pt t) _ l _ (fun r l h => by pointwise; exact in3 m c t _ _ h)).trans (congrArg (· + _) ?_)
    pointwise
  case piece1 =>
    obtain ⟨hk, rfl⟩ := piece_col (k := k) (l := l) (n := 1) (h1 : 1024 * k.val + l.val = 1024 + (x 1).val)
    obtain rfl : k = 1 := Fin.ext hk
    refine (p120 (XA m c) (YA m c) (DA m c) (W3 m c) (W31 m c) (GA m c) (OA m c) (pt t) _ l _ (fun r l h => by pointwise; exact in0p m c t 2 h (by simp))).trans (congrArg (· + _) ?_)
    pointwise
  case piece0 =>
    obtain ⟨hk, rfl⟩ := piece_col (k := k) (l := l) (n := 2) (h1 : 1024 * k.val + l.val = 2048 + (x 1).val)
    obtain rfl : k = 2 := Fin.ext hk
    refine (p1 (XA m c) (YA m c) (DA m c) (W3 m c) (W31 m c) (GA m c) (OA m c) (pt t) _ l _ (fun r l h => by pointwise; exact in0p m c t 1 h (by simp))).trans (congrArg (· + _) ?_)
    pointwise
  case piece4 =>
    obtain ⟨hk, rfl⟩ := piece_col (k := k) (l := l) (n := 3) (h1 : 1024 * k.val + l.val = 3072 + (x 1).val)
    obtain rfl : k = 3 := Fin.ext hk
    refine (p97 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l).trans (congrArg (· + _) ?z)
    case z => pointwise
    all_goals
      intro l
      pointwise
      exact in8 m c t _ l
  case piece3 =>
    obtain ⟨hk, rfl⟩ := piece_col (k := k) (l := l) (n := 4) (h1 : 1024 * k.val + l.val = 4096 + (x 1).val)
    obtain rfl : k = 4 := Fin.ext hk
    refine (p101 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ _ l _ (fun r l h => by pointwise; exact in0p m c t 3 h (by simp))).trans (congrArg (· + _) ?z)
    case z => pointwise
    all_goals
      intro l
      pointwise
      exact in8 m c t _ l

end Cert.Odd
end
-- ==== Proof.KWin11.lean ====
/- What a grid point leaves in each output window. -/
module

public import proofs.«01_k».proof.Proof.KWin
public import proofs.«01_k».proof.Proof.KFold
public import proofs.«01_k».proof.Proof.KBlk
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Odd
variable (m : (ℓ : Loc nD τ sig) → Buf (Elt Ideal) ℓ)

set_option maxHeartbeats 2000000 in
theorem w11_A (c : Dev nD) (t : Fin cfg0.N) (h : t.val % 32 = 0) (k : Fin 5) (r : Fin 128) (l : Fin 1024) :
   (outsAt0 m c t.val t.isLt).1 (ix2 r ⟨1024 * k.val + l.val, by omega⟩) = GX m c ⟨128 * (pt t).val + r.val, by omega⟩ k l := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t, PL_fold m c t, PP_fold m c t, DP_fold m c t, CP_fold m c t, SG_fold m c t]
  rotate_left
  all_goals try (intro r l h; pointwise; first | exact in0p m c t _ h (by simp) | exact in1p m c t _ h (by simp) | exact in2p m c t _ h (by simp) | exact in3 m c t _ _ h | exact in4 m c t _ _ h)
  all_goals try (intro l; pointwise; first | exact in7 m c t _ l | exact in8 m c t _ l)
  canon_tiles x h
  case piece2 =>
    obtain ⟨hk, rfl⟩ := piece_blk (k := k) (r := r) (l := l) (n := 0) h0 (h1.trans (Nat.zero_add _).symm : 1024 * k.val + l.val = 0 + (x 1).val)
    obtain rfl : k = 0 := Fin.ext hk
    exact p116 (XA m c) (YA m c) (DA m c) (W3 m c) (W31 m c) (GA m c) (OA m c) (pt t) r l _ (fun r l h => by pointwise; exact in3 m c t _ _ h)
  case piece1 =>
    obtain ⟨hk, rfl⟩ := piece_blk (k := k) (r := r) (l := l) (n := 1) h0 (h1 : 1024 * k.val + l.val = 1024 + (x 1).val)
    obtain rfl : k = 1 := Fin.ext hk
    exact p119 (XA m c) (YA m c) (DA m c) (W3 m c) (W31 m c) (GA m c) (OA m c) (pt t) r l _ (fun r l h => by pointwise; exact in0p m c t 2 h (by simp))
  case piece0 =>
    obtain ⟨hk, rfl⟩ := piece_blk (k := k) (r := r) (l := l) (n := 2) h0 (h1 : 1024 * k.val + l.val = 2048 + (x 1).val)
    obtain rfl : k = 2 := Fin.ext hk
    exact p122 (XA m c) (YA m c) (DA m c) (W3 m c) (W31 m c) (GA m c) (OA m c) (pt t) r l _ (fun r l h => by pointwise; exact in0p m c t 1 h (by simp))
  case piece4 =>
    obtain ⟨hk, rfl⟩ := piece_blk (k := k) (r := r) (l := l) (n := 3) h0 (h1 : 1024 * k.val + l.val = 3072 + (x 1).val)
    obtain rfl : k = 3 := Fin.ext hk
    refine p96 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r l
    all_goals
      intro l
      pointwise
      exact in8 m c t _ l
  case piece3 =>
    obtain ⟨hk, rfl⟩ := piece_blk (k := k) (r := r) (l := l) (n := 4) h0 (h1 : 1024 * k.val + l.val = 4096 + (x 1).val)
    obtain rfl : k = 4 := Fin.ext hk
    refine p100 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r l _ (fun r l h => by pointwise; exact in0p m c t 3 h (by simp))
    all_goals
      intro l
      pointwise
      exact in8 m c t _ l

set_option maxHeartbeats 2000000 in
theorem w11_B (c : Dev nD) (t : Fin cfg0.N) (h : ¬ t.val % 32 = 0) (k : Fin 5) (r : Fin 128) (l : Fin 1024) :
   (outsAt0 m c t.val t.isLt).1 (ix2 r ⟨1024 * k.val + l.val, by omega⟩) = GX m c ⟨128 * (pt t).val + r.val, by omega⟩ k l := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [DD_fold m c t, PL_fold m c t, PP_fold m c t, DP_fold m c t, CP_fold m c t, SG_fold m c t]
  rotate_left
  all_goals try (intro r l h; pointwise; first | exact in0p m c t _ h (by simp) | exact in1p m c t _ h (by simp) | exact in2p m c t _ h (by simp) | exact in3 m c t _ _ h | exact in4 m c t _ _ h)
  all_goals try (intro l; pointwise; first | exact in7 m c t _ l | exact in8 m c t _ l)
  canon_tiles x h
  case piece2 =>
    obtain ⟨hk, rfl⟩ := piece_blk (k := k) (r := r) (l := l) (n := 0) h0 (h1.trans (Nat.zero_add _).symm : 1024 * k.val + l.val = 0 + (x 1).val)
    obtain rfl : k = 0 := Fin.ext hk
    exact p116 (XA m c) (YA m c) (DA m c) (W3 m c) (W31 m c) (GA m c) (OA m c) (pt t) r l _ (fun r l h => by pointwise; exact in3 m c t _ _ h)
  case piece1 =>
    obtain ⟨hk, rfl⟩ := piece_blk (k := k) (r := r) (l := l) (n := 1) h0 (h1 : 1024 * k.val + l.val = 1024 + (x 1).val)
    obtain rfl : k = 1 := Fin.ext hk
    exact p119 (XA m c) (YA m c) (DA m c) (W3 m c) (W31 m c) (GA m c) (OA m c) (pt t) r l _ (fun r l h => by pointwise; exact in0p m c t 2 h (by simp))
  case piece0 =>
    obtain ⟨hk, rfl⟩ := piece_blk (k := k) (r := r) (l := l) (n := 2) h0 (h1 : 1024 * k.val + l.val = 2048 + (x 1).val)
    obtain rfl : k = 2 := Fin.ext hk
    exact p122 (XA m c) (YA m c) (DA m c) (W3 m c) (W31 m c) (GA m c) (OA m c) (pt t) r l _ (fun r l h => by pointwise; exact in0p m c t 1 h (by simp))
  case piece4 =>
    obtain ⟨hk, rfl⟩ := piece_blk (k := k) (r := r) (l := l) (n := 3) h0 (h1 : 1024 * k.val + l.val = 3072 + (x 1).val)
    obtain rfl : k = 3 := Fin.ext hk
    refine p96 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r l
    all_goals
      intro l
      pointwise
      exact in8 m c t _ l
  case piece3 =>
    obtain ⟨hk, rfl⟩ := piece_blk (k := k) (r := r) (l := l) (n := 4) h0 (h1 : 1024 * k.val + l.val = 4096 + (x 1).val)
    obtain rfl : k = 4 := Fin.ext hk
    refine p100 (XA m c) (YA m c) (DA m c) (W3 m c) (W31 m c) (GA m c) (OA m c) (pt t) _ _ _ _ _ _ _ _ _ _ _ _ _ _ _ _ _ _ _ _ _ _ _ _ _ _ _ _ _ _ _ ?_ ?_ ?_ ?_ ?_ ?_ ?_ ?_ ?_ ?_ ?_ ?_ ?_ ?_ ?_ ?_ ?_ ?_ ?_ ?_ ?_ ?_ ?_ ?_ ?_ ?_ ?_ ?_ ?_ ?_ ?_ r l _ (fun r l h => by pointwise; exact in0p m c t 3 h (by simp))
    all_goals
      intro l
      pointwise
      exact in8 m c t _ l

end Cert.Odd
end
-- ==== Proof.KFinal.lean ====
/- The seven arrays the call leaves. -/
module

public import proofs.«01_k».proof.Proof.KWin2
public import proofs.«01_k».proof.Proof.KWin12
public import proofs.«01_k».proof.Proof.KWin11
public import proofs.«01_k».proof.Proof.KBlk
public import proofs.«01_k».proof.Proof.Gen.KernelIdeal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.KernelIdeal Cert.KernelIdeal.Gen
namespace Cert.Odd
variable (m : (ℓ : Loc nD τ sig) → Buf (Elt Ideal) ℓ)
theorem acc_sum (v : (n : ℕ) → n < 32 → EReal) (f : Fin 32 → EReal) (h0 : ∀ h, v 0 h = 0 + f ⟨0, h⟩)
    (hs : ∀ n h, n ≠ 0 → v n h = v (n - 1) (by omega) + f ⟨n, h⟩) : v 31 (by decide) = ∑ t, f t := by
  have e : ∀ n (h : n < 32), v n h = ∑ i ∈ Finset.range (n + 1), if h : i < 32 then f ⟨i, h⟩ else 0 := by
    intro n
    induction n with
    | zero => intro h; rw [h0, Finset.sum_range_succ, Finset.sum_range_zero, dif_pos (by decide)]
    | succ n ih =>
      intro h
      rw [hs _ h (by omega), Finset.sum_range_succ, dif_pos h]
      exact congrArg (· + _) (ih (by omega))
  rw [e, Finset.sum_range]
  exact Finset.sum_congr rfl fun i _ => dif_pos i.isLt

/-- The first column block of a column, and its lane. -/
def ck (j : Fin 5120) : Fin 5 := ⟨j.val / 1024, by omega⟩
/-- A column's lane in its block. -/
def cl (j : Fin 5120) : Fin 1024 := ⟨j.val % 1024, by omega⟩

theorem acc_out {α : Type} (O : (n : ℕ) → n < 32 → α) (q : α → EReal) (f : Fin 32 → EReal)
    (h0 : ∀ t : Fin 32, t.val % 32 = 0 → q (O t.val t.isLt) = 0 + f t)
    (hs : ∀ t : Fin 32, ¬ t.val % 32 = 0 → q (O t.val t.isLt) = q (O (t.val - 1) (by omega)) + f t)
    (t : Fin 32) (ht : t.val % 32 = 31) : q (O t.val t.isLt) = ∑ t, f t := by
  obtain rfl : t = ⟨31, by decide⟩ := Fin.ext (show t.val = 31 by omega)
  exact acc_sum (fun n h => q (O n h)) f (fun h => h0 ⟨0, h⟩ rfl) (fun n h hn => hs ⟨n, h⟩ (by show ¬ n % 32 = 0; omega))

theorem split_col (j : Fin 5120) : j = ⟨1024 * (ck j).val + (cl j).val, by have := (ck j).isLt; have := (cl j).isLt; omega⟩ :=
  Fin.ext (show j.val = 1024 * (j.val / 1024) + j.val % 1024 by omega)

theorem idxo : ∀ t : Fin cfg0.N, win0_11.index t = ![t.val, 0] ∧ win0_12.index t = ![0, 0] ∧ win0_13.index t = ![0, 0] ∧ win0_14.index t = ![0, 0]
   ∧ win0_15.index t = ![0, 0] ∧ win0_16.index t = ![0, 0] ∧ win0_17.index t = ![0, 0] :=
  (by decide +kernel : ∀ t : Fin grid0.N, _)

section
variable (c : Dev nD)
/-- The projection's gradient. -/
def R11 : FVec Ideal S4096x5120 .bf16 := fun i => GX m c (i 0) (ck (i 1)) (cl (i 1))
/-- Its sum over the tokens. -/
def R12 : FVec Ideal S1x5120 .f32 := fun i => ∑ n, GX m c n (ck (i 1)) (cl (i 1))
/-- The short filter's gradient. -/
def R13 : FVec Ideal S3x1024 .f32 := fun i => ∑ n, term (gc (XA m c) (YA m c)) (pp (XA m c)) (2 - (i 0).val) n (i 1)
/-- The long filter's gradient. -/
def R14 : FVec Ideal S31x1024 .f32 := fun i => ∑ n, term (gd (YA m c) (DA m c) (GA m c) (OA m c)) (glu (XA m c)) (30 - (i 0).val) n (i 1)
/-- The gradient at the long filter's bias. -/
def R15 : FVec Ideal S1x1024 .f32 := fun i => ∑ n, gd (YA m c) (DA m c) (GA m c) (OA m c) n (i 1)
/-- The gradient at the gain. -/
def R16 : FVec Ideal S1x1024 .f32 := fun i => ∑ n, gln (YA m c) (DA m c) (GA m c) (OA m c) n (i 1) * xh (DA m c n) (i 1)
/-- The gradient at the offset. -/
def R17 : FVec Ideal S1x1024 .f32 := fun i => ∑ n, gln (YA m c) (DA m c) (GA m c) (OA m c) n (i 1)
end

theorem final11 (c : Dev nD) : (dats m 0 c).arrAt 11 (cfgs 0).N = R11 m c := by
  refine (dats m 0 c).arrAt_eq_of_covers 11 _ (by decide +kernel) fun t hf y => ?_
  blk_simp
  rw [after0_11]
  obtain ⟨r, j, rfl⟩ : ∃ (r : Fin 128) (j : Fin 5120), y = ix2 r j := ⟨y 0, y 1, by idx_vars y⟩
  have e : (win0_11.blk t).view.emb (ix2 r j) = (ix2 ⟨128 * (pt t).val + r.val, by omega⟩ j : S4096x5120.Idx) := by
    show _ = (ix2 ⟨128 * t.val + r.val, _⟩ j : S4096x5120.Idx)
    blk_ext [idxo t]
  rw [e, split_col j]
  refine Eq.trans ?_ (congrArg (fun j => GX m c _ (ck j) (cl j)) (split_col j))
  have hk : ck ⟨1024 * (ck j).val + (cl j).val, by have := (ck j).isLt; have := (cl j).isLt; omega⟩ = ck j := congrArg ck (split_col j).symm
  have hl : cl ⟨1024 * (ck j).val + (cl j).val, by have := (ck j).isLt; have := (cl j).isLt; omega⟩ = cl j := congrArg cl (split_col j).symm
  by_cases h : t.val % 32 = 0
  · exact w11_A m c t h (ck j) r (cl j)
  · exact w11_B m c t h (ck j) r (cl j)

theorem final12 (c : Dev nD) : (dats m 0 c).arrAt 12 (cfgs 0).N = R12 m c := by
  refine (dats m 0 c).arrAt_eq_of_covers 12 _ (by decide +kernel) fun t hf y => ?_
  have ht := (flush0_12 t).mp hf
  blk_simp
  rw [after0_12]
  obtain ⟨k, j, rfl⟩ : ∃ (k : Fin 1) (j : Fin 5120), y = ix2 k j := ⟨y 0, y 1, by idx_vars y⟩
  have e : (win0_12.blk t).view.emb (ix2 k j) = (ix2 k j : S1x5120.Idx) := by blk_ext [idxo t]
  rw [e]
  obtain rfl : k = 0 := Subsingleton.elim _ _
  obtain ⟨q, l, rfl⟩ : ∃ (q : Fin 5) (l : Fin 1024), j = ⟨1024 * q.val + l.val, by omega⟩ := ⟨ck j, cl j, split_col j⟩
  have hq : ck ⟨1024 * q.val + l.val, by omega⟩ = q := Fin.ext (show (1024 * q.val + l.val) / 1024 = q.val by omega)
  have hl : cl ⟨1024 * q.val + l.val, by omega⟩ = l := Fin.ext (show (1024 * q.val + l.val) % 1024 = l.val by omega)
  show _ = ∑ n, GX m c n (ck ⟨1024 * q.val + l.val, _⟩) (cl ⟨1024 * q.val + l.val, _⟩)
  rw [hq, hl]
  refine (acc_out (outsAt0 m c) (fun o => o.2.1 (ix2 0 ⟨1024 * q.val + l.val, by omega⟩)) (fun t => blkSum (fun n => GX m c n q l) t) (fun t h => w12_A m c t h q l) (fun t h => w12_B m c t h q l) t ht).trans ?_
  exact blkSum_sum _

theorem final13 (c : Dev nD) : (dats m 0 c).arrAt 13 (cfgs 0).N = R13 m c := by
  refine (dats m 0 c).arrAt_eq_of_covers 13 _ (by decide +kernel) fun t hf y => ?_
  have ht := (flush0_13 t).mp hf
  blk_simp
  rw [after0_13]
  obtain ⟨k, j, rfl⟩ : ∃ (k : Fin 3) (j : Fin 1024), y = ix2 k j := ⟨y 0, y 1, by idx_vars y⟩
  have e : (win0_13.blk t).view.emb (ix2 k j) = (ix2 k j : S3x1024.Idx) := by blk_ext [idxo t]
  rw [e]
  refine (acc_out (outsAt0 m c) (fun o => o.2.2.1 (ix2 k j)) (fun t => blkSum (fun n => term (gc (XA m c) (YA m c)) (pp (XA m c)) (2 - k.val) n j) t) (fun t h => w13_A m c t h k j) (fun t h => w13_B m c t h k j) t ht).trans ?_
  exact blkSum_sum _

theorem final14 (c : Dev nD) : (dats m 0 c).arrAt 14 (cfgs 0).N = R14 m c := by
  refine (dats m 0 c).arrAt_eq_of_covers 14 _ (by decide +kernel) fun t hf y => ?_
  have ht := (flush0_14 t).mp hf
  blk_simp
  rw [after0_14]
  obtain ⟨k, j, rfl⟩ : ∃ (k : Fin 31) (j : Fin 1024), y = ix2 k j := ⟨y 0, y 1, by idx_vars y⟩
  have e : (win0_14.blk t).view.emb (ix2 k j) = (ix2 k j : S31x1024.Idx) := by blk_ext [idxo t]
  rw [e]
  refine (acc_out (outsAt0 m c) (fun o => o.2.2.2.1 (ix2 k j)) (fun t => blkSum (fun n => term (gd (YA m c) (DA m c) (GA m c) (OA m c)) (glu (XA m c)) (30 - k.val) n j) t) (fun t h => w14_A m c t h k j) (fun t h => w14_B m c t h k j) t ht).trans ?_
  exact blkSum_sum _

theorem final15 (c : Dev nD) : (dats m 0 c).arrAt 15 (cfgs 0).N = R15 m c := by
  refine (dats m 0 c).arrAt_eq_of_covers 15 _ (by decide +kernel) fun t hf y => ?_
  have ht := (flush0_15 t).mp hf
  blk_simp
  rw [after0_15]
  obtain ⟨k, j, rfl⟩ : ∃ (k : Fin 1) (j : Fin 1024), y = ix2 k j := ⟨y 0, y 1, by idx_vars y⟩
  have e : (win0_15.blk t).view.emb (ix2 k j) = (ix2 k j : S1x1024.Idx) := by blk_ext [idxo t]
  rw [e]
  obtain rfl : k = 0 := Subsingleton.elim _ _
  refine (acc_out (outsAt0 m c) (fun o => o.2.2.2.2.1 (ix2 0 j)) (fun t => blkSum (fun n => gd (YA m c) (DA m c) (GA m c) (OA m c) n j) t) (fun t h => w15_A m c t h j) (fun t h => w15_B m c t h j) t ht).trans ?_
  exact blkSum_sum _

theorem final16 (c : Dev nD) : (dats m 0 c).arrAt 16 (cfgs 0).N = R16 m c := by
  refine (dats m 0 c).arrAt_eq_of_covers 16 _ (by decide +kernel) fun t hf y => ?_
  have ht := (flush0_16 t).mp hf
  blk_simp
  rw [after0_16]
  obtain ⟨k, j, rfl⟩ : ∃ (k : Fin 1) (j : Fin 1024), y = ix2 k j := ⟨y 0, y 1, by idx_vars y⟩
  have e : (win0_16.blk t).view.emb (ix2 k j) = (ix2 k j : S1x1024.Idx) := by blk_ext [idxo t]
  rw [e]
  obtain rfl : k = 0 := Subsingleton.elim _ _
  refine (acc_out (outsAt0 m c) (fun o => o.2.2.2.2.2.1 (ix2 0 j)) (fun t => blkSum (fun n => gln (YA m c) (DA m c) (GA m c) (OA m c) n j * xh (DA m c n) j) t) (fun t h => w16_A m c t h j) (fun t h => w16_B m c t h j) t ht).trans ?_
  exact blkSum_sum _

theorem final17 (c : Dev nD) : (dats m 0 c).arrAt 17 (cfgs 0).N = R17 m c := by
  refine (dats m 0 c).arrAt_eq_of_covers 17 _ (by decide +kernel) fun t hf y => ?_
  have ht := (flush0_17 t).mp hf
  blk_simp
  rw [after0_17]
  obtain ⟨k, j, rfl⟩ : ∃ (k : Fin 1) (j : Fin 1024), y = ix2 k j := ⟨y 0, y 1, by idx_vars y⟩
  have e : (win0_17.blk t).view.emb (ix2 k j) = (ix2 k j : S1x1024.Idx) := by blk_ext [idxo t]
  rw [e]
  obtain rfl : k = 0 := Subsingleton.elim _ _
  refine (acc_out (outsAt0 m c) (fun o => o.2.2.2.2.2.2 (ix2 0 j)) (fun t => blkSum (fun n => gln (YA m c) (DA m c) (GA m c) (OA m c) n j) t) (fun t h => w17_A m c t h j) (fun t h => w17_B m c t h j) t ht).trans ?_
  exact blkSum_sum _

end Cert.Odd
end
-- ==== Proof.RFwd.lean ====
/- The forward values the reference recomputes. -/
module

public import proofs.«01_k».proof.Proof.Glob
public import proofs.«01_k».proof.Proof.Gen.ReferenceIdeal.Read
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.ReferenceIdeal Cert.ReferenceIdeal.Read
namespace Cert.Odd.Ref
variable (x0 : FVec Ideal S4096x5120 .f32) (x1 : FVec Ideal S4096x2048 .f32) (x2 : FVec Ideal S3x1024 .f32) (x3 : FVec Ideal S31x1024 .f32) (x4 x5 x6 : FVec Ideal S1024 .f32)

/-- The projection's entries. -/
def XR : Fin 4096 → Fin 5120 → EReal := fun t j => x0 (ix2 t j)
/-- The arriving gradient's entries. -/
def YR : Fin 4096 → Fin 2048 → EReal := fun t j => x1 (ix2 t j)
/-- The short filter's entries. -/
def F3 : Fin 3 → Row := fun k l => x2 (ix2 k l)
/-- The long filter's entries. -/
def F31 : Fin 31 → Row := fun k l => x3 (ix2 k l)
/-- A vector's entries. -/
def VR (x : FVec Ideal S1024 .f32) : Row := fun l => x (ix1 l)

theorem v0_at (t : Fin 4096) (l : Fin 1024) : val_main_v0 (F := Ideal) x0 (ix2 t l) = part (XR x0) 0 t l := by
  pointwise [val_main_v0, part, XR]

theorem v1_at (t : Fin 4096) (l : Fin 1024) : val_main_v1 (F := Ideal) x0 (ix2 t l) = part (XR x0) 1 t l := by
  pointwise [val_main_v1, part, XR]

theorem v2_at (t : Fin 4096) (l : Fin 1024) : val_main_v2 (F := Ideal) x0 (ix2 t l) = part (XR x0) 2 t l := by
  pointwise [val_main_v2, part, XR]

theorem v3_at (t : Fin 4096) (l : Fin 1024) : val_main_v3 (F := Ideal) x0 (ix2 t l) = part (XR x0) 3 t l := by
  pointwise [val_main_v3, part, XR]

theorem v4_at (t : Fin 4096) (l : Fin 1024) : val_main_v4 (F := Ideal) x0 (ix2 t l) = part (XR x0) 4 t l := by
  pointwise [val_main_v4, part, XR]

theorem v5_at (t : Fin 4096) (l : Fin 1024) : val_main_v5 (F := Ideal) x0 (ix2 t l) = pp (XR x0) t l := by
  pointwise [val_main_v5, v1_at, v2_at, pp]

theorem v26_at (t : Fin 4096) (l : Fin 1024) : val_main_v26 (F := Ideal) x0 (ix2 t l) = sigm (part (XR x0) 4 t l) := by
  pointwise [val_main_v26, val_main_v25, val_main_cst_3, val_main_v24, val_main_v23, val_main_cst_2, val_main_v22, val_main_v21, v4_at, sigm]

theorem v29_at (t : Fin 4096) (l : Fin 1024) : val_main_v29 (F := Ideal) x0 (ix2 t l) = sigm (part (XR x0) 4 t l) * (1 - sigm (part (XR x0) 4 t l)) := by
  pointwise [val_main_v29, val_main_v28, val_main_v27, val_main_cst_4, v26_at]

theorem v30_at (t : Fin 4096) (l : Fin 1024) : val_main_v30 (F := Ideal) x0 (ix2 t l) = glu (XR x0) t l := by
  pointwise [val_main_v30, v3_at, v26_at, glu]

/-- A sequence of rows behind `K` rows of zeros, at a row, is the sequence delayed. -/
theorem row_late (f : Fin 4096 → Row) (t : Fin 4096) (l : Fin 1024) (K k n s : ℕ) (hn : n = k + t.val) (hs : s + k = K) :
    (if K ≤ n then past f (n - K) l else 0) = late f t.val s l := by
  subst hn; unfold late
  by_cases h : s ≤ t.val
  · rw [if_pos h, if_pos (by omega), show k + t.val - K = t.val - s by omega]
  · rw [if_neg h, if_neg (by omega)]

theorem v7_at (n : ℕ) (h : n < 4098) (l : Fin 1024) : val_main_v7 (F := Ideal) x0 (ix2 ⟨n, h⟩ l) = if 2 ≤ n then past (pp (XR x0)) (n - 2) l else 0 := by
  pointwise [val_main_v7, v5_at, val_main_v6, val_main_cst]
  by_cases hn : n < 2
  · simp only [dif_pos hn, if_neg (show ¬ 2 ≤ n by omega)]
  · simp only [dif_neg hn, if_pos (show 2 ≤ n by omega)]
    exact (past_lt _ (show n - 2 < 4096 by omega) l).symm

theorem v32_at (n : ℕ) (h : n < 4126) (l : Fin 1024) : val_main_v32 (F := Ideal) x0 (ix2 ⟨n, h⟩ l) = if 30 ≤ n then past (glu (XR x0)) (n - 30) l else 0 := by
  pointwise [val_main_v32, v30_at, val_main_v31, val_main_cst_5]
  by_cases hn : n < 30
  · simp only [dif_pos hn, if_neg (show ¬ 30 ≤ n by omega)]
  · simp only [dif_neg hn, if_pos (show 30 ≤ n by omega)]
    exact (past_lt _ (show n - 30 < 4096 by omega) l).symm

theorem v10_at (t : Fin 4096) (l : Fin 1024) : val_main_v10 (F := Ideal) x0 (ix2 t l) = late (pp (XR x0)) t.val 2 l := by
  pointwise [val_main_v10, v7_at]
  exact row_late _ t l 2 0 (t.val) 2 (by omega) rfl

theorem v11_at (t : Fin 4096) (l : Fin 1024) : val_main_v11 (F := Ideal) x0 (ix2 t l) = late (pp (XR x0)) t.val 1 l := by
  pointwise [val_main_v11, v7_at]
  exact row_late _ t l 2 1 (1 + t.val) 1 (by omega) rfl

theorem v12_at (t : Fin 4096) (l : Fin 1024) : val_main_v12 (F := Ideal) x0 (ix2 t l) = late (pp (XR x0)) t.val 0 l := by
  pointwise [val_main_v12, v7_at]
  exact (past_lt _ t.isLt l).trans (late_zero _ t l).symm

theorem v35_at (t : Fin 4096) (l : Fin 1024) : val_main_v35 (F := Ideal) x0 (ix2 t l) = late (glu (XR x0)) t.val 30 l := by
  pointwise [val_main_v35, v32_at]
  exact row_late _ t l 30 0 (t.val) 30 (by omega) rfl

theorem v36_at (t : Fin 4096) (l : Fin 1024) : val_main_v36 (F := Ideal) x0 (ix2 t l) = late (glu (XR x0)) t.val 29 l := by
  pointwise [val_main_v36, v32_at]
  exact row_late _ t l 30 1 (1 + t.val) 29 (by omega) rfl

theorem v37_at (t : Fin 4096) (l : Fin 1024) : val_main_v37 (F := Ideal) x0 (ix2 t l) = late (glu (XR x0)) t.val 28 l := by
  pointwise [val_main_v37, v32_at]
  exact row_late _ t l 30 2 (2 + t.val) 28 (by omega) rfl

theorem v38_at (t : Fin 4096) (l : Fin 1024) : val_main_v38 (F := Ideal) x0 (ix2 t l) = late (glu (XR x0)) t.val 27 l := by
  pointwise [val_main_v38, v32_at]
  exact row_late _ t l 30 3 (3 + t.val) 27 (by omega) rfl

theorem v39_at (t : Fin 4096) (l : Fin 1024) : val_main_v39 (F := Ideal) x0 (ix2 t l) = late (glu (XR x0)) t.val 26 l := by
  pointwise [val_main_v39, v32_at]
  exact row_late _ t l 30 4 (4 + t.val) 26 (by omega) rfl

theorem v40_at (t : Fin 4096) (l : Fin 1024) : val_main_v40 (F := Ideal) x0 (ix2 t l) = late (glu (XR x0)) t.val 25 l := by
  pointwise [val_main_v40, v32_at]
  exact row_late _ t l 30 5 (5 + t.val) 25 (by omega) rfl

theorem v41_at (t : Fin 4096) (l : Fin 1024) : val_main_v41 (F := Ideal) x0 (ix2 t l) = late (glu (XR x0)) t.val 24 l := by
  pointwise [val_main_v41, v32_at]
  exact row_late _ t l 30 6 (6 + t.val) 24 (by omega) rfl

theorem v42_at (t : Fin 4096) (l : Fin 1024) : val_main_v42 (F := Ideal) x0 (ix2 t l) = late (glu (XR x0)) t.val 23 l := by
  pointwise [val_main_v42, v32_at]
  exact row_late _ t l 30 7 (7 + t.val) 23 (by omega) rfl

theorem v43_at (t : Fin 4096) (l : Fin 1024) : val_main_v43 (F := Ideal) x0 (ix2 t l) = late (glu (XR x0)) t.val 22 l := by
  pointwise [val_main_v43, v32_at]
  exact row_late _ t l 30 8 (8 + t.val) 22 (by omega) rfl

theorem v44_at (t : Fin 4096) (l : Fin 1024) : val_main_v44 (F := Ideal) x0 (ix2 t l) = late (glu (XR x0)) t.val 21 l := by
  pointwise [val_main_v44, v32_at]
  exact row_late _ t l 30 9 (9 + t.val) 21 (by omega) rfl

theorem v45_at (t : Fin 4096) (l : Fin 1024) : val_main_v45 (F := Ideal) x0 (ix2 t l) = late (glu (XR x0)) t.val 20 l := by
  pointwise [val_main_v45, v32_at]
  exact row_late _ t l 30 10 (10 + t.val) 20 (by omega) rfl

theorem v46_at (t : Fin 4096) (l : Fin 1024) : val_main_v46 (F := Ideal) x0 (ix2 t l) = late (glu (XR x0)) t.val 19 l := by
  pointwise [val_main_v46, v32_at]
  exact row_late _ t l 30 11 (11 + t.val) 19 (by omega) rfl

theorem v47_at (t : Fin 4096) (l : Fin 1024) : val_main_v47 (F := Ideal) x0 (ix2 t l) = late (glu (XR x0)) t.val 18 l := by
  pointwise [val_main_v47, v32_at]
  exact row_late _ t l 30 12 (12 + t.val) 18 (by omega) rfl

theorem v48_at (t : Fin 4096) (l : Fin 1024) : val_main_v48 (F := Ideal) x0 (ix2 t l) = late (glu (XR x0)) t.val 17 l := by
  pointwise [val_main_v48, v32_at]
  exact row_late _ t l 30 13 (13 + t.val) 17 (by omega) rfl

theorem v49_at (t : Fin 4096) (l : Fin 1024) : val_main_v49 (F := Ideal) x0 (ix2 t l) = late (glu (XR x0)) t.val 16 l := by
  pointwise [val_main_v49, v32_at]
  exact row_late _ t l 30 14 (14 + t.val) 16 (by omega) rfl

theorem v50_at (t : Fin 4096) (l : Fin 1024) : val_main_v50 (F := Ideal) x0 (ix2 t l) = late (glu (XR x0)) t.val 15 l := by
  pointwise [val_main_v50, v32_at]
  exact row_late _ t l 30 15 (15 + t.val) 15 (by omega) rfl

theorem v51_at (t : Fin 4096) (l : Fin 1024) : val_main_v51 (F := Ideal) x0 (ix2 t l) = late (glu (XR x0)) t.val 14 l := by
  pointwise [val_main_v51, v32_at]
  exact row_late _ t l 30 16 (16 + t.val) 14 (by omega) rfl

theorem v52_at (t : Fin 4096) (l : Fin 1024) : val_main_v52 (F := Ideal) x0 (ix2 t l) = late (glu (XR x0)) t.val 13 l := by
  pointwise [val_main_v52, v32_at]
  exact row_late _ t l 30 17 (17 + t.val) 13 (by omega) rfl

theorem v53_at (t : Fin 4096) (l : Fin 1024) : val_main_v53 (F := Ideal) x0 (ix2 t l) = late (glu (XR x0)) t.val 12 l := by
  pointwise [val_main_v53, v32_at]
  exact row_late _ t l 30 18 (18 + t.val) 12 (by omega) rfl

theorem v54_at (t : Fin 4096) (l : Fin 1024) : val_main_v54 (F := Ideal) x0 (ix2 t l) = late (glu (XR x0)) t.val 11 l := by
  pointwise [val_main_v54, v32_at]
  exact row_late _ t l 30 19 (19 + t.val) 11 (by omega) rfl

theorem v55_at (t : Fin 4096) (l : Fin 1024) : val_main_v55 (F := Ideal) x0 (ix2 t l) = late (glu (XR x0)) t.val 10 l := by
  pointwise [val_main_v55, v32_at]
  exact row_late _ t l 30 20 (20 + t.val) 10 (by omega) rfl

theorem v56_at (t : Fin 4096) (l : Fin 1024) : val_main_v56 (F := Ideal) x0 (ix2 t l) = late (glu (XR x0)) t.val 9 l := by
  pointwise [val_main_v56, v32_at]
  exact row_late _ t l 30 21 (21 + t.val) 9 (by omega) rfl

theorem v57_at (t : Fin 4096) (l : Fin 1024) : val_main_v57 (F := Ideal) x0 (ix2 t l) = late (glu (XR x0)) t.val 8 l := by
  pointwise [val_main_v57, v32_at]
  exact row_late _ t l 30 22 (22 + t.val) 8 (by omega) rfl

theorem v58_at (t : Fin 4096) (l : Fin 1024) : val_main_v58 (F := Ideal) x0 (ix2 t l) = late (glu (XR x0)) t.val 7 l := by
  pointwise [val_main_v58, v32_at]
  exact row_late _ t l 30 23 (23 + t.val) 7 (by omega) rfl

theorem v59_at (t : Fin 4096) (l : Fin 1024) : val_main_v59 (F := Ideal) x0 (ix2 t l) = late (glu (XR x0)) t.val 6 l := by
  pointwise [val_main_v59, v32_at]
  exact row_late _ t l 30 24 (24 + t.val) 6 (by omega) rfl

theorem v60_at (t : Fin 4096) (l : Fin 1024) : val_main_v60 (F := Ideal) x0 (ix2 t l) = late (glu (XR x0)) t.val 5 l := by
  pointwise [val_main_v60, v32_at]
  exact row_late _ t l 30 25 (25 + t.val) 5 (by omega) rfl

theorem v61_at (t : Fin 4096) (l : Fin 1024) : val_main_v61 (F := Ideal) x0 (ix2 t l) = late (glu (XR x0)) t.val 4 l := by
  pointwise [val_main_v61, v32_at]
  exact row_late _ t l 30 26 (26 + t.val) 4 (by omega) rfl

theorem v62_at (t : Fin 4096) (l : Fin 1024) : val_main_v62 (F := Ideal) x0 (ix2 t l) = late (glu (XR x0)) t.val 3 l := by
  pointwise [val_main_v62, v32_at]
  exact row_late _ t l 30 27 (27 + t.val) 3 (by omega) rfl

theorem v63_at (t : Fin 4096) (l : Fin 1024) : val_main_v63 (F := Ideal) x0 (ix2 t l) = late (glu (XR x0)) t.val 2 l := by
  pointwise [val_main_v63, v32_at]
  exact row_late _ t l 30 28 (28 + t.val) 2 (by omega) rfl

theorem v64_at (t : Fin 4096) (l : Fin 1024) : val_main_v64 (F := Ideal) x0 (ix2 t l) = late (glu (XR x0)) t.val 1 l := by
  pointwise [val_main_v64, v32_at]
  exact row_late _ t l 30 29 (29 + t.val) 1 (by omega) rfl

theorem v65_at (t : Fin 4096) (l : Fin 1024) : val_main_v65 (F := Ideal) x0 (ix2 t l) = late (glu (XR x0)) t.val 0 l := by
  pointwise [val_main_v65, v32_at]
  exact (past_lt _ t.isLt l).trans (late_zero _ t l).symm

end Cert.Odd.Ref
end
-- ==== Proof.RStack.lean ====
/- The stacked sequences and the filters' outputs of the reference. -/
module

public import proofs.«01_k».proof.Proof.RFwd
public import proofs.«01_k».proof.Proof.Gen.ReferenceIdeal.Read
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.ReferenceIdeal Cert.ReferenceIdeal.Read
namespace Cert.Odd.Ref
variable (x0 : FVec Ideal S4096x5120 .f32) (x1 : FVec Ideal S4096x2048 .f32) (x2 : FVec Ideal S3x1024 .f32) (x3 : FVec Ideal S31x1024 .f32) (x4 x5 x6 : FVec Ideal S1024 .f32)

theorem v16_at (k : Fin 3) (t : Fin 4096) (l : Fin 1024) : val_main_v16 (F := Ideal) x0 (ix3 k t l) = late (pp (XR x0)) t.val (2 - k.val) l := by
  pointwise [val_main_v16, val_main_v13, val_main_v14, val_main_v15, v10_at, v11_at, v12_at]
  fin_vals k with hk
  all_goals simp only [hk, Nat.reduceSub, Nat.reduceLT, dite_true, dite_false, ↓reduceDIte]

theorem v97_at (k : Fin 16) (t : Fin 4096) (l : Fin 1024) : val_main_v97 (F := Ideal) x0 (ix3 k t l) = late (glu (XR x0)) t.val (30 - k.val) l := by
  pointwise [val_main_v97, val_main_v66, val_main_v67, val_main_v68, val_main_v69, val_main_v70, val_main_v71, val_main_v72, val_main_v73, val_main_v74, val_main_v75, val_main_v76, val_main_v77, val_main_v78, val_main_v79, val_main_v80, val_main_v81, v35_at, v36_at, v37_at, v38_at, v39_at, v40_at, v41_at, v42_at, v43_at, v44_at, v45_at, v46_at, v47_at, v48_at, v49_at, v50_at]
  fin_vals k with hk
  all_goals simp only [hk, Nat.reduceSub, Nat.reduceLT, dite_true, dite_false, ↓reduceDIte]

theorem v98_at (k : Fin 15) (t : Fin 4096) (l : Fin 1024) : val_main_v98 (F := Ideal) x0 (ix3 k t l) = late (glu (XR x0)) t.val (14 - k.val) l := by
  pointwise [val_main_v98, val_main_v82, val_main_v83, val_main_v84, val_main_v85, val_main_v86, val_main_v87, val_main_v88, val_main_v89, val_main_v90, val_main_v91, val_main_v92, val_main_v93, val_main_v94, val_main_v95, val_main_v96, v51_at, v52_at, v53_at, v54_at, v55_at, v56_at, v57_at, v58_at, v59_at, v60_at, v61_at, v62_at, v63_at, v64_at, v65_at]
  fin_vals k with hk
  all_goals simp only [hk, Nat.reduceSub, Nat.reduceLT, dite_true, dite_false, ↓reduceDIte]

theorem v99_at (k : Fin 31) (t : Fin 4096) (l : Fin 1024) : val_main_v99 (F := Ideal) x0 (ix3 k t l) = late (glu (XR x0)) t.val (30 - k.val) l := by
  pointwise [val_main_v99, v97_at, v98_at]
  by_cases h : k.val < 16
  · simp only [dif_pos h]
  · simp only [dif_neg h, show 14 - (k.val - 16) = 30 - k.val by omega]

theorem v19_at (t : Fin 4096) (l : Fin 1024) : val_main_v19 (F := Ideal) x0 x2 (ix2 t l) = cp (XR x0) (F3 x2) t l := by
  pointwise [val_main_v19, val_main_v18, val_main_v17, val_main_v9, v16_at, val_main_cst_1]
  rw [Fin.sum_univ_three]
  simp only [cp, F3]
  exact (by intro a b c; ac_rfl : ∀ a b c : EReal, a + b + c = c + b + a) _ _ _

/-- The long filter's output. -/
def DR : Fin 4096 → Row := fun t l => (∑ k : Fin 31, F31 x3 k l * late (glu (XR x0)) t.val (30 - k.val) l) + VR x4 l

theorem v105_at (t : Fin 4096) (l : Fin 1024) : val_main_v105 (F := Ideal) x0 x3 x4 (ix2 t l) = DR x0 x3 x4 t l := by
  pointwise [val_main_v105, val_main_v104, val_main_v103, val_main_v102, val_main_v101, val_main_v100, val_main_v34, v99_at, val_main_cst_7, DR, F31, VR]

end Cert.Odd.Ref
end
-- ==== Proof.RNorm.lean ====
/- The gradient through the normalisation and the activation, row by row, as the reference computes it. -/
module

public import proofs.«01_k».proof.Proof.RStack
public import proofs.«01_k».proof.Proof.Gen.ReferenceIdeal.Read
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.ReferenceIdeal Cert.ReferenceIdeal.Read
namespace Cert.Odd.Ref
variable (x0 : FVec Ideal S4096x5120 .f32) (x1 : FVec Ideal S4096x2048 .f32) (x2 : FVec Ideal S3x1024 .f32) (x3 : FVec Ideal S31x1024 .f32) (x4 x5 x6 : FVec Ideal S1024 .f32)
theorem v109_at (t : Fin 4096) : val_main_v109 (F := Ideal) x0 x3 x4 (ix2 t 0) = mean (DR x0 x3 x4 t) := by
  pointwise [val_main_v109, val_main_v108, val_main_cst_9, val_main_v107, val_main_v106, val_main_cst_8, v105_at, mean, width]

theorem v111_at (t : Fin 4096) (l : Fin 1024) : val_main_v111 (F := Ideal) x0 x3 x4 (ix2 t l) = xc (DR x0 x3 x4 t) l := by
  pointwise [val_main_v111, val_main_v110, v109_at, v105_at, xc]

theorem v118_at (t : Fin 4096) : val_main_v118 (F := Ideal) x0 x3 x4 (ix2 t 0) = va (DR x0 x3 x4 t) := by
  pointwise [val_main_v118, val_main_v117, val_main_cst_12, val_main_v116, val_main_v115, val_main_cst_11, val_main_v114, val_main_v113, val_main_cst_10, val_main_v112, v111_at, va, mean, width, eps]

theorem v119_at (t : Fin 4096) : val_main_v119 (F := Ideal) x0 x3 x4 (ix2 t 0) = rs (DR x0 x3 x4 t) := by
  pointwise [val_main_v119, v118_at, rs]

theorem v124_at (t : Fin 4096) (l : Fin 1024) : val_main_v124 (F := Ideal) x0 x3 x4 (ix2 t l) = xh (DR x0 x3 x4 t) l := by
  pointwise [val_main_v124, val_main_v123, v119_at, v111_at, xh]

theorem v130_at (t : Fin 4096) (l : Fin 1024) : val_main_v130 (F := Ideal) x0 x3 x4 x5 x6 (ix2 t l) = ln (DR x0 x3 x4 t) (VR x5) (VR x6) l := by
  pointwise [val_main_v130, val_main_v129, val_main_v128, val_main_v127, val_main_v126, val_main_v125, v124_at, ln, VR]

theorem v131_2_at (t : Fin 4096) (l : Fin 1024) : val_main_v131_2 (F := Ideal) x0 x3 x4 x5 x6 (ix2 t l) = sigm (ln (DR x0 x3 x4 t) (VR x5) (VR x6) l) := by
  pointwise [val_main_v131_2, val_main_call0_v0, val_main_call0_v1, val_main_call0_cst, val_main_call0_v2, val_main_call0_v3, val_main_call0_cst_0, val_main_call0_v4, v130_at, sigm]

theorem v131_1_at (t : Fin 4096) (l : Fin 1024) : val_main_v131_1 (F := Ideal) x0 x3 x4 x5 x6 (ix2 t l) = sigm (ln (DR x0 x3 x4 t) (VR x5) (VR x6) l) * (1 - sigm (ln (DR x0 x3 x4 t) (VR x5) (VR x6) l)) := by
  pointwise [val_main_v131_1, val_main_call0_v7, val_main_call0_v6, val_main_call0_cst_1, v131_2_at]

theorem v134_at (t : Fin 4096) (l : Fin 1024) : val_main_v134 (F := Ideal) x1 (ix2 t l) = yB (YR x1) t l := by
  pointwise [val_main_v134, yB, YR]

theorem v135_at (t : Fin 4096) (l : Fin 1024) : val_main_v135 (F := Ideal) x0 x1 x3 x4 x5 x6 (ix2 t l) = rdln (DR x0 x3 x4 t) (yB (YR x1) t) (VR x5) (VR x6) l := by
  pointwise [val_main_v135, val_main_call1_v0, val_main_call1_v1, val_main_call1_v2, v134_at, v130_at, v131_1_at, v131_2_at, rdln]

theorem v143_at (t : Fin 4096) (l : Fin 1024) : val_main_v143 (F := Ideal) x0 x1 x3 x4 x5 x6 (ix2 t l) = rdxh (DR x0 x3 x4 t) (yB (YR x1) t) (VR x5) (VR x6) l := by
  pointwise [val_main_v143, val_main_v142, val_main_v125, v135_at, rdxh, VR]

theorem v153_at (t : Fin 4096) : val_main_v153 (F := Ideal) x0 x1 x3 x4 x5 x6 (ix1 t) = rdv (DR x0 x3 x4 t) (yB (YR x1) t) (VR x5) (VR x6) := by
  pointwise [val_main_v153, val_main_cst_19, val_main_cst_20, val_main_v152, val_main_v151, val_main_v150, val_main_v147, val_main_v146, val_main_cst_18, val_main_v145, val_main_v122, val_main_v121, val_main_v120, val_main_cst_13, v143_at, v119_at, v118_at, v111_at, rdv, mhalf, width]
  rw [Fin.sum_univ_one, v119_at, v118_at]

theorem v158_at (t : Fin 4096) (l : Fin 1024) : val_main_v158 (F := Ideal) x0 x1 x3 x4 x5 x6 (ix2 t l) = rdc (DR x0 x3 x4 t) (yB (YR x1) t) (VR x5) (VR x6) l := by
  pointwise [val_main_v158, val_main_v157, val_main_v156, val_main_v155, val_main_v154, val_main_v149, val_main_v148, v143_at, v119_at, v153_at, v111_at, rdc]

theorem v166_at (t : Fin 4096) (l : Fin 1024) : val_main_v166 (F := Ideal) x0 x1 x3 x4 x5 x6 (ix2 t l) = rdd (DR x0 x3 x4 t) (yB (YR x1) t) (VR x5) (VR x6) l := by
  pointwise [val_main_v166, val_main_v165, val_main_v164, val_main_cst_23, val_main_v163, val_main_v162, val_main_cst_22, val_main_v161, val_main_v160, val_main_cst_21, val_main_v159, v158_at, rdd, width]
  rw [Fin.sum_univ_one]

end Cert.Odd.Ref
end
-- ==== Proof.RGrad.lean ====
/- The reference's gradients, over rows of real numbers. -/
module

public import proofs.«01_k».proof.Proof.RNorm
public import proofs.«01_k».proof.Proof.Gen.ReferenceIdeal.Read
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.ReferenceIdeal Cert.ReferenceIdeal.Read
namespace Cert.Odd.Ref
variable (x0 : FVec Ideal S4096x5120 .f32) (x1 : FVec Ideal S4096x2048 .f32) (x2 : FVec Ideal S3x1024 .f32) (x3 : FVec Ideal S31x1024 .f32) (x4 x5 x6 : FVec Ideal S1024 .f32)

/-- The rows the normalisation's gradient meets consist of real numbers. -/
def Real : Prop := (∀ t, Fin' (DR x0 x3 x4 t)) ∧ (∀ t, Fin' (yB (YR x1) t)) ∧ Fin' (VR x5) ∧ Fin' (VR x6)

theorem gln_at (H : Real x0 x1 x3 x4 x5 x6) (t : Fin 4096) (l : Fin 1024) : val_main_v135 (F := Ideal) x0 x1 x3 x4 x5 x6 (ix2 t l) = gln (YR x1) (DR x0 x3 x4) (VR x5) (VR x6) t l := by
  rw [v135_at]; exact congrFun (rdln_eq _ _ _ _ (H.1 t) (H.2.1 t) H.2.2.1 H.2.2.2) l

theorem gd_at (H : Real x0 x1 x3 x4 x5 x6) (t : Fin 4096) (l : Fin 1024) : val_main_v166 (F := Ideal) x0 x1 x3 x4 x5 x6 (ix2 t l) = gd (YR x1) (DR x0 x3 x4) (VR x5) (VR x6) t l := by
  rw [v166_at]; exact congrFun (rdd_eq _ _ _ _ (H.1 t) (H.2.1 t) H.2.2.1 H.2.2.2) l

theorem v343_at (H : Real x0 x1 x3 x4 x5 x6) (l : Fin 1024) : val_main_v343 (F := Ideal) x0 x1 x3 x4 x5 x6 (ix2 0 l) = ∑ t, gln (YR x1) (DR x0 x3 x4) (VR x5) (VR x6) t l := by
  pointwise [val_main_v343, val_main_v138, val_main_cst_15, val_main_v137, val_main_v136, val_main_cst_14, gln_at _ _ _ _ _ _ H]
  try rw [Fin.sum_univ_one]

theorem v342_at (H : Real x0 x1 x3 x4 x5 x6) (l : Fin 1024) : val_main_v342 (F := Ideal) x0 x1 x3 x4 x5 x6 (ix2 0 l) = ∑ t, gln (YR x1) (DR x0 x3 x4) (VR x5) (VR x6) t l * xh (DR x0 x3 x4 t) l := by
  pointwise [val_main_v342, val_main_v144, val_main_cst_17, val_main_v141, val_main_v140, val_main_cst_16, val_main_v139, v124_at, gln_at _ _ _ _ _ _ H]
  try rw [Fin.sum_univ_one]
  exact Finset.sum_congr rfl fun t _ => mul_comm _ _

theorem v341_at (H : Real x0 x1 x3 x4 x5 x6) (l : Fin 1024) : val_main_v341 (F := Ideal) x0 x1 x3 x4 x5 x6 (ix2 0 l) = ∑ t, gd (YR x1) (DR x0 x3 x4) (VR x5) (VR x6) t l := by
  pointwise [val_main_v341, val_main_v169, val_main_cst_25, val_main_v168, val_main_v167, val_main_cst_24, gd_at _ _ _ _ _ _ H]
  try rw [Fin.sum_univ_one]

theorem v299_at (H : Real x0 x1 x3 x4 x5 x6) (k : Fin 31) (l : Fin 1024) : val_main_v299 (F := Ideal) x0 x1 x3 x4 x5 x6 (ix2 k l) = ∑ t, term (gd (YR x1) (DR x0 x3 x4) (VR x5) (VR x6)) (glu (XR x0)) (30 - k.val) t l := by
  pointwise [val_main_v299, val_main_cst_58, val_main_v175, val_main_v174, val_main_cst_26, val_main_v173, val_main_v170, v99_at, gd_at _ _ _ _ _ _ H, term]
  try rw [Fin.sum_univ_one]

theorem v172_at (H : Real x0 x1 x3 x4 x5 x6) (k : Fin 31) (t : Fin 4096) (l : Fin 1024) : val_main_v172 (F := Ideal) x0 x1 x3 x4 x5 x6 (ix3 k t l) = F31 x3 k l * gd (YR x1) (DR x0 x3 x4) (VR x5) (VR x6) t l := by
  pointwise [val_main_v172, val_main_v171, val_main_v170, val_main_v34, gd_at _ _ _ _ _ _ H, F31]

theorem v305_at (t : Fin 4096) (l : Fin 1024) : val_main_v305 (F := Ideal) x0 x1 (ix2 t l) = gc (XR x0) (YR x1) t l := by
  pointwise [val_main_v305, val_main_v133, v0_at, gc, yA, YR]
  exact mul_comm _ _

theorem v324_at (k : Fin 3) (l : Fin 1024) : val_main_v324 (F := Ideal) x0 x1 (ix2 k l) = ∑ t, term (gc (XR x0) (YR x1)) (pp (XR x0)) (2 - k.val) t l := by
  pointwise [val_main_v324, val_main_cst_63, val_main_v312, val_main_v311, val_main_cst_59, val_main_v310, val_main_v307, v305_at, v16_at, term]
  try rw [Fin.sum_univ_one]

theorem v309_at (k : Fin 3) (t : Fin 4096) (l : Fin 1024) : val_main_v309 (F := Ideal) x0 x1 x2 (ix3 k t l) = F3 x2 k l * gc (XR x0) (YR x1) t l := by
  pointwise [val_main_v309, val_main_v308, val_main_v307, val_main_v9, v305_at, F3]

end Cert.Odd.Ref
end
-- ==== Proof.RPad.lean ====
/- The reference's gradients at the filters' inputs: the shifted products it pads and adds. -/
module

public import proofs.«01_k».proof.Proof.RGrad
public import proofs.«01_k».proof.Proof.Gen.ReferenceIdeal.Read
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.ReferenceIdeal Cert.ReferenceIdeal.Read
namespace Cert.Odd.Ref
variable (x0 : FVec Ideal S4096x5120 .f32) (x1 : FVec Ideal S4096x2048 .f32) (x2 : FVec Ideal S3x1024 .f32) (x3 : FVec Ideal S31x1024 .f32) (x4 x5 x6 : FVec Ideal S1024 .f32)

/-- A padded sequence, `s` rows ahead. -/
theorem pad_past (f : Fin 4096 → Row) (w : EReal) (t : Fin 4096) (l : Fin 1024) (s : ℕ) (P : Prop) [Decidable P] (hP : P ↔ t.val + s < 4096)
    (n : ℕ) (u : P → n < 4096) (hu : P → n = t.val + s) : (if h : P then w * f ⟨n, u h⟩ l else 0) = w * past f (t.val + s) l := by
  by_cases h : P
  · rw [dif_pos h, past_lt f (hP.1 h)]; exact congrArg (fun t => w * f t l) (Fin.ext (hu h))
  · rw [dif_neg h, past_ge f (fun h' => h (hP.2 h')), mul_zero]

theorem v238_at (H : Real x0 x1 x3 x4 x5 x6) (t : Fin 4096) (l : Fin 1024) : val_main_v238 (F := Ideal) x0 x1 x3 x4 x5 x6 (ix2 ⟨30 + t.val, by omega⟩ l) = F31 x3 30 l * past (gd (YR x1) (DR x0 x3 x4) (VR x5) (VR x6)) (t.val + 0) l := by
  pointwise [val_main_v238, val_main_cst_27, val_main_v237, val_main_v236, v172_at _ _ _ _ _ _ H]
  exact congrArg _ (past_lt _ t.isLt l).symm
theorem v239_at (H : Real x0 x1 x3 x4 x5 x6) (t : Fin 4096) (l : Fin 1024) : val_main_v239 (F := Ideal) x0 x1 x3 x4 x5 x6 (ix2 ⟨30 + t.val, by omega⟩ l) = F31 x3 29 l * past (gd (YR x1) (DR x0 x3 x4) (VR x5) (VR x6)) (t.val + 1) l := by
  pointwise [val_main_v239, val_main_cst_28, val_main_v235, val_main_v234, v172_at _ _ _ _ _ _ H]
  exact pad_past _ _ t l 1 _ (by omega) (30 + t.val - 29) _ (fun h => by omega)
theorem v241_at (H : Real x0 x1 x3 x4 x5 x6) (t : Fin 4096) (l : Fin 1024) : val_main_v241 (F := Ideal) x0 x1 x3 x4 x5 x6 (ix2 ⟨30 + t.val, by omega⟩ l) = F31 x3 28 l * past (gd (YR x1) (DR x0 x3 x4) (VR x5) (VR x6)) (t.val + 2) l := by
  pointwise [val_main_v241, val_main_cst_29, val_main_v233, val_main_v232, v172_at _ _ _ _ _ _ H]
  exact pad_past _ _ t l 2 _ (by omega) (30 + t.val - 28) _ (fun h => by omega)
theorem v243_at (H : Real x0 x1 x3 x4 x5 x6) (t : Fin 4096) (l : Fin 1024) : val_main_v243 (F := Ideal) x0 x1 x3 x4 x5 x6 (ix2 ⟨30 + t.val, by omega⟩ l) = F31 x3 27 l * past (gd (YR x1) (DR x0 x3 x4) (VR x5) (VR x6)) (t.val + 3) l := by
  pointwise [val_main_v243, val_main_cst_30, val_main_v231, val_main_v230, v172_at _ _ _ _ _ _ H]
  exact pad_past _ _ t l 3 _ (by omega) (30 + t.val - 27) _ (fun h => by omega)
theorem v245_at (H : Real x0 x1 x3 x4 x5 x6) (t : Fin 4096) (l : Fin 1024) : val_main_v245 (F := Ideal) x0 x1 x3 x4 x5 x6 (ix2 ⟨30 + t.val, by omega⟩ l) = F31 x3 26 l * past (gd (YR x1) (DR x0 x3 x4) (VR x5) (VR x6)) (t.val + 4) l := by
  pointwise [val_main_v245, val_main_cst_31, val_main_v229, val_main_v228, v172_at _ _ _ _ _ _ H]
  exact pad_past _ _ t l 4 _ (by omega) (30 + t.val - 26) _ (fun h => by omega)
theorem v247_at (H : Real x0 x1 x3 x4 x5 x6) (t : Fin 4096) (l : Fin 1024) : val_main_v247 (F := Ideal) x0 x1 x3 x4 x5 x6 (ix2 ⟨30 + t.val, by omega⟩ l) = F31 x3 25 l * past (gd (YR x1) (DR x0 x3 x4) (VR x5) (VR x6)) (t.val + 5) l := by
  pointwise [val_main_v247, val_main_cst_32, val_main_v227, val_main_v226, v172_at _ _ _ _ _ _ H]
  exact pad_past _ _ t l 5 _ (by omega) (30 + t.val - 25) _ (fun h => by omega)
theorem v249_at (H : Real x0 x1 x3 x4 x5 x6) (t : Fin 4096) (l : Fin 1024) : val_main_v249 (F := Ideal) x0 x1 x3 x4 x5 x6 (ix2 ⟨30 + t.val, by omega⟩ l) = F31 x3 24 l * past (gd (YR x1) (DR x0 x3 x4) (VR x5) (VR x6)) (t.val + 6) l := by
  pointwise [val_main_v249, val_main_cst_33, val_main_v225, val_main_v224, v172_at _ _ _ _ _ _ H]
  exact pad_past _ _ t l 6 _ (by omega) (30 + t.val - 24) _ (fun h => by omega)
theorem v251_at (H : Real x0 x1 x3 x4 x5 x6) (t : Fin 4096) (l : Fin 1024) : val_main_v251 (F := Ideal) x0 x1 x3 x4 x5 x6 (ix2 ⟨30 + t.val, by omega⟩ l) = F31 x3 23 l * past (gd (YR x1) (DR x0 x3 x4) (VR x5) (VR x6)) (t.val + 7) l := by
  pointwise [val_main_v251, val_main_cst_34, val_main_v223, val_main_v222, v172_at _ _ _ _ _ _ H]
  exact pad_past _ _ t l 7 _ (by omega) (30 + t.val - 23) _ (fun h => by omega)
theorem v253_at (H : Real x0 x1 x3 x4 x5 x6) (t : Fin 4096) (l : Fin 1024) : val_main_v253 (F := Ideal) x0 x1 x3 x4 x5 x6 (ix2 ⟨30 + t.val, by omega⟩ l) = F31 x3 22 l * past (gd (YR x1) (DR x0 x3 x4) (VR x5) (VR x6)) (t.val + 8) l := by
  pointwise [val_main_v253, val_main_cst_35, val_main_v221, val_main_v220, v172_at _ _ _ _ _ _ H]
  exact pad_past _ _ t l 8 _ (by omega) (30 + t.val - 22) _ (fun h => by omega)
theorem v255_at (H : Real x0 x1 x3 x4 x5 x6) (t : Fin 4096) (l : Fin 1024) : val_main_v255 (F := Ideal) x0 x1 x3 x4 x5 x6 (ix2 ⟨30 + t.val, by omega⟩ l) = F31 x3 21 l * past (gd (YR x1) (DR x0 x3 x4) (VR x5) (VR x6)) (t.val + 9) l := by
  pointwise [val_main_v255, val_main_cst_36, val_main_v219, val_main_v218, v172_at _ _ _ _ _ _ H]
  exact pad_past _ _ t l 9 _ (by omega) (30 + t.val - 21) _ (fun h => by omega)
theorem v257_at (H : Real x0 x1 x3 x4 x5 x6) (t : Fin 4096) (l : Fin 1024) : val_main_v257 (F := Ideal) x0 x1 x3 x4 x5 x6 (ix2 ⟨30 + t.val, by omega⟩ l) = F31 x3 20 l * past (gd (YR x1) (DR x0 x3 x4) (VR x5) (VR x6)) (t.val + 10) l := by
  pointwise [val_main_v257, val_main_cst_37, val_main_v217, val_main_v216, v172_at _ _ _ _ _ _ H]
  exact pad_past _ _ t l 10 _ (by omega) (30 + t.val - 20) _ (fun h => by omega)
theorem v259_at (H : Real x0 x1 x3 x4 x5 x6) (t : Fin 4096) (l : Fin 1024) : val_main_v259 (F := Ideal) x0 x1 x3 x4 x5 x6 (ix2 ⟨30 + t.val, by omega⟩ l) = F31 x3 19 l * past (gd (YR x1) (DR x0 x3 x4) (VR x5) (VR x6)) (t.val + 11) l := by
  pointwise [val_main_v259, val_main_cst_38, val_main_v215, val_main_v214, v172_at _ _ _ _ _ _ H]
  exact pad_past _ _ t l 11 _ (by omega) (30 + t.val - 19) _ (fun h => by omega)
theorem v261_at (H : Real x0 x1 x3 x4 x5 x6) (t : Fin 4096) (l : Fin 1024) : val_main_v261 (F := Ideal) x0 x1 x3 x4 x5 x6 (ix2 ⟨30 + t.val, by omega⟩ l) = F31 x3 18 l * past (gd (YR x1) (DR x0 x3 x4) (VR x5) (VR x6)) (t.val + 12) l := by
  pointwise [val_main_v261, val_main_cst_39, val_main_v213, val_main_v212, v172_at _ _ _ _ _ _ H]
  exact pad_past _ _ t l 12 _ (by omega) (30 + t.val - 18) _ (fun h => by omega)
theorem v263_at (H : Real x0 x1 x3 x4 x5 x6) (t : Fin 4096) (l : Fin 1024) : val_main_v263 (F := Ideal) x0 x1 x3 x4 x5 x6 (ix2 ⟨30 + t.val, by omega⟩ l) = F31 x3 17 l * past (gd (YR x1) (DR x0 x3 x4) (VR x5) (VR x6)) (t.val + 13) l := by
  pointwise [val_main_v263, val_main_cst_40, val_main_v211, val_main_v210, v172_at _ _ _ _ _ _ H]
  exact pad_past _ _ t l 13 _ (by omega) (30 + t.val - 17) _ (fun h => by omega)
theorem v265_at (H : Real x0 x1 x3 x4 x5 x6) (t : Fin 4096) (l : Fin 1024) : val_main_v265 (F := Ideal) x0 x1 x3 x4 x5 x6 (ix2 ⟨30 + t.val, by omega⟩ l) = F31 x3 16 l * past (gd (YR x1) (DR x0 x3 x4) (VR x5) (VR x6)) (t.val + 14) l := by
  pointwise [val_main_v265, val_main_cst_41, val_main_v209, val_main_v208, v172_at _ _ _ _ _ _ H]
  exact pad_past _ _ t l 14 _ (by omega) (30 + t.val - 16) _ (fun h => by omega)
theorem v267_at (H : Real x0 x1 x3 x4 x5 x6) (t : Fin 4096) (l : Fin 1024) : val_main_v267 (F := Ideal) x0 x1 x3 x4 x5 x6 (ix2 ⟨30 + t.val, by omega⟩ l) = F31 x3 15 l * past (gd (YR x1) (DR x0 x3 x4) (VR x5) (VR x6)) (t.val + 15) l := by
  pointwise [val_main_v267, val_main_cst_42, val_main_v207, val_main_v206, v172_at _ _ _ _ _ _ H]
  exact pad_past _ _ t l 15 _ (by omega) (30 + t.val - 15) _ (fun h => by omega)
theorem v269_at (H : Real x0 x1 x3 x4 x5 x6) (t : Fin 4096) (l : Fin 1024) : val_main_v269 (F := Ideal) x0 x1 x3 x4 x5 x6 (ix2 ⟨30 + t.val, by omega⟩ l) = F31 x3 14 l * past (gd (YR x1) (DR x0 x3 x4) (VR x5) (VR x6)) (t.val + 16) l := by
  pointwise [val_main_v269, val_main_cst_43, val_main_v205, val_main_v204, v172_at _ _ _ _ _ _ H]
  exact pad_past _ _ t l 16 _ (by omega) (30 + t.val - 14) _ (fun h => by omega)
theorem v271_at (H : Real x0 x1 x3 x4 x5 x6) (t : Fin 4096) (l : Fin 1024) : val_main_v271 (F := Ideal) x0 x1 x3 x4 x5 x6 (ix2 ⟨30 + t.val, by omega⟩ l) = F31 x3 13 l * past (gd (YR x1) (DR x0 x3 x4) (VR x5) (VR x6)) (t.val + 17) l := by
  pointwise [val_main_v271, val_main_cst_44, val_main_v203, val_main_v202, v172_at _ _ _ _ _ _ H]
  exact pad_past _ _ t l 17 _ (by omega) (30 + t.val - 13) _ (fun h => by omega)
theorem v273_at (H : Real x0 x1 x3 x4 x5 x6) (t : Fin 4096) (l : Fin 1024) : val_main_v273 (F := Ideal) x0 x1 x3 x4 x5 x6 (ix2 ⟨30 + t.val, by omega⟩ l) = F31 x3 12 l * past (gd (YR x1) (DR x0 x3 x4) (VR x5) (VR x6)) (t.val + 18) l := by
  pointwise [val_main_v273, val_main_cst_45, val_main_v201, val_main_v200, v172_at _ _ _ _ _ _ H]
  exact pad_past _ _ t l 18 _ (by omega) (30 + t.val - 12) _ (fun h => by omega)
theorem v275_at (H : Real x0 x1 x3 x4 x5 x6) (t : Fin 4096) (l : Fin 1024) : val_main_v275 (F := Ideal) x0 x1 x3 x4 x5 x6 (ix2 ⟨30 + t.val, by omega⟩ l) = F31 x3 11 l * past (gd (YR x1) (DR x0 x3 x4) (VR x5) (VR x6)) (t.val + 19) l := by
  pointwise [val_main_v275, val_main_cst_46, val_main_v199, val_main_v198, v172_at _ _ _ _ _ _ H]
  exact pad_past _ _ t l 19 _ (by omega) (30 + t.val - 11) _ (fun h => by omega)
theorem v277_at (H : Real x0 x1 x3 x4 x5 x6) (t : Fin 4096) (l : Fin 1024) : val_main_v277 (F := Ideal) x0 x1 x3 x4 x5 x6 (ix2 ⟨30 + t.val, by omega⟩ l) = F31 x3 10 l * past (gd (YR x1) (DR x0 x3 x4) (VR x5) (VR x6)) (t.val + 20) l := by
  pointwise [val_main_v277, val_main_cst_47, val_main_v197, val_main_v196, v172_at _ _ _ _ _ _ H]
  exact pad_past _ _ t l 20 _ (by omega) (30 + t.val - 10) _ (fun h => by omega)
theorem v279_at (H : Real x0 x1 x3 x4 x5 x6) (t : Fin 4096) (l : Fin 1024) : val_main_v279 (F := Ideal) x0 x1 x3 x4 x5 x6 (ix2 ⟨30 + t.val, by omega⟩ l) = F31 x3 9 l * past (gd (YR x1) (DR x0 x3 x4) (VR x5) (VR x6)) (t.val + 21) l := by
  pointwise [val_main_v279, val_main_cst_48, val_main_v195, val_main_v194, v172_at _ _ _ _ _ _ H]
  exact pad_past _ _ t l 21 _ (by omega) (30 + t.val - 9) _ (fun h => by omega)
theorem v281_at (H : Real x0 x1 x3 x4 x5 x6) (t : Fin 4096) (l : Fin 1024) : val_main_v281 (F := Ideal) x0 x1 x3 x4 x5 x6 (ix2 ⟨30 + t.val, by omega⟩ l) = F31 x3 8 l * past (gd (YR x1) (DR x0 x3 x4) (VR x5) (VR x6)) (t.val + 22) l := by
  pointwise [val_main_v281, val_main_cst_49, val_main_v193, val_main_v192, v172_at _ _ _ _ _ _ H]
  exact pad_past _ _ t l 22 _ (by omega) (30 + t.val - 8) _ (fun h => by omega)
theorem v283_at (H : Real x0 x1 x3 x4 x5 x6) (t : Fin 4096) (l : Fin 1024) : val_main_v283 (F := Ideal) x0 x1 x3 x4 x5 x6 (ix2 ⟨30 + t.val, by omega⟩ l) = F31 x3 7 l * past (gd (YR x1) (DR x0 x3 x4) (VR x5) (VR x6)) (t.val + 23) l := by
  pointwise [val_main_v283, val_main_cst_50, val_main_v191, val_main_v190, v172_at _ _ _ _ _ _ H]
  exact pad_past _ _ t l 23 _ (by omega) (30 + t.val - 7) _ (fun h => by omega)
theorem v285_at (H : Real x0 x1 x3 x4 x5 x6) (t : Fin 4096) (l : Fin 1024) : val_main_v285 (F := Ideal) x0 x1 x3 x4 x5 x6 (ix2 ⟨30 + t.val, by omega⟩ l) = F31 x3 6 l * past (gd (YR x1) (DR x0 x3 x4) (VR x5) (VR x6)) (t.val + 24) l := by
  pointwise [val_main_v285, val_main_cst_51, val_main_v189, val_main_v188, v172_at _ _ _ _ _ _ H]
  exact pad_past _ _ t l 24 _ (by omega) (30 + t.val - 6) _ (fun h => by omega)
theorem v287_at (H : Real x0 x1 x3 x4 x5 x6) (t : Fin 4096) (l : Fin 1024) : val_main_v287 (F := Ideal) x0 x1 x3 x4 x5 x6 (ix2 ⟨30 + t.val, by omega⟩ l) = F31 x3 5 l * past (gd (YR x1) (DR x0 x3 x4) (VR x5) (VR x6)) (t.val + 25) l := by
  pointwise [val_main_v287, val_main_cst_52, val_main_v187, val_main_v186, v172_at _ _ _ _ _ _ H]
  exact pad_past _ _ t l 25 _ (by omega) (30 + t.val - 5) _ (fun h => by omega)
theorem v289_at (H : Real x0 x1 x3 x4 x5 x6) (t : Fin 4096) (l : Fin 1024) : val_main_v289 (F := Ideal) x0 x1 x3 x4 x5 x6 (ix2 ⟨30 + t.val, by omega⟩ l) = F31 x3 4 l * past (gd (YR x1) (DR x0 x3 x4) (VR x5) (VR x6)) (t.val + 26) l := by
  pointwise [val_main_v289, val_main_cst_53, val_main_v185, val_main_v184, v172_at _ _ _ _ _ _ H]
  exact pad_past _ _ t l 26 _ (by omega) (30 + t.val - 4) _ (fun h => by omega)
theorem v291_at (H : Real x0 x1 x3 x4 x5 x6) (t : Fin 4096) (l : Fin 1024) : val_main_v291 (F := Ideal) x0 x1 x3 x4 x5 x6 (ix2 ⟨30 + t.val, by omega⟩ l) = F31 x3 3 l * past (gd (YR x1) (DR x0 x3 x4) (VR x5) (VR x6)) (t.val + 27) l := by
  pointwise [val_main_v291, val_main_cst_54, val_main_v183, val_main_v182, v172_at _ _ _ _ _ _ H]
  exact pad_past _ _ t l 27 _ (by omega) (30 + t.val - 3) _ (fun h => by omega)
theorem v293_at (H : Real x0 x1 x3 x4 x5 x6) (t : Fin 4096) (l : Fin 1024) : val_main_v293 (F := Ideal) x0 x1 x3 x4 x5 x6 (ix2 ⟨30 + t.val, by omega⟩ l) = F31 x3 2 l * past (gd (YR x1) (DR x0 x3 x4) (VR x5) (VR x6)) (t.val + 28) l := by
  pointwise [val_main_v293, val_main_cst_55, val_main_v181, val_main_v180, v172_at _ _ _ _ _ _ H]
  exact pad_past _ _ t l 28 _ (by omega) (30 + t.val - 2) _ (fun h => by omega)
theorem v295_at (H : Real x0 x1 x3 x4 x5 x6) (t : Fin 4096) (l : Fin 1024) : val_main_v295 (F := Ideal) x0 x1 x3 x4 x5 x6 (ix2 ⟨30 + t.val, by omega⟩ l) = F31 x3 1 l * past (gd (YR x1) (DR x0 x3 x4) (VR x5) (VR x6)) (t.val + 29) l := by
  pointwise [val_main_v295, val_main_cst_56, val_main_v179, val_main_v178, v172_at _ _ _ _ _ _ H]
  exact pad_past _ _ t l 29 _ (by omega) (30 + t.val - 1) _ (fun h => by omega)
theorem v297_at (H : Real x0 x1 x3 x4 x5 x6) (t : Fin 4096) (l : Fin 1024) : val_main_v297 (F := Ideal) x0 x1 x3 x4 x5 x6 (ix2 ⟨30 + t.val, by omega⟩ l) = F31 x3 0 l * past (gd (YR x1) (DR x0 x3 x4) (VR x5) (VR x6)) (t.val + 30) l := by
  pointwise [val_main_v297, val_main_cst_57, val_main_v177, val_main_v176, v172_at _ _ _ _ _ _ H]
  exact pad_past _ _ t l 30 _ (by omega) (30 + t.val) _ (fun h => by omega)
theorem v319_at (t : Fin 4096) (l : Fin 1024) : val_main_v319 (F := Ideal) x0 x1 x2 (ix2 ⟨2 + t.val, by omega⟩ l) = F3 x2 2 l * past (gc (XR x0) (YR x1)) (t.val + 0) l := by
  pointwise [val_main_v319, val_main_cst_60, val_main_v318, val_main_v317, v309_at]
  exact congrArg _ (past_lt _ t.isLt l).symm
theorem v320_at (t : Fin 4096) (l : Fin 1024) : val_main_v320 (F := Ideal) x0 x1 x2 (ix2 ⟨2 + t.val, by omega⟩ l) = F3 x2 1 l * past (gc (XR x0) (YR x1)) (t.val + 1) l := by
  pointwise [val_main_v320, val_main_cst_61, val_main_v316, val_main_v315, v309_at]
  exact pad_past _ _ t l 1 _ (by omega) (2 + t.val - 1) _ (fun h => by omega)
theorem v322_at (t : Fin 4096) (l : Fin 1024) : val_main_v322 (F := Ideal) x0 x1 x2 (ix2 ⟨2 + t.val, by omega⟩ l) = F3 x2 0 l * past (gc (XR x0) (YR x1)) (t.val + 2) l := by
  pointwise [val_main_v322, val_main_cst_62, val_main_v314, val_main_v313, v309_at]
  exact pad_past _ _ t l 2 _ (by omega) (2 + t.val) _ (fun h => by omega)
theorem v301_at (H : Real x0 x1 x3 x4 x5 x6) (t : Fin 4096) (l : Fin 1024) : val_main_v301 (F := Ideal) x0 x1 x3 x4 x5 x6 (ix2 t l) = gg (YR x1) (DR x0 x3 x4) (F31 x3) (VR x5) (VR x6) t l := by
  pointwise [val_main_v301, val_main_v240, val_main_v242, val_main_v244, val_main_v246, val_main_v248, val_main_v250, val_main_v252, val_main_v254, val_main_v256, val_main_v258, val_main_v260, val_main_v262, val_main_v264, val_main_v266, val_main_v268, val_main_v270, val_main_v272, val_main_v274, val_main_v276, val_main_v278, val_main_v280, val_main_v282, val_main_v284, val_main_v286, val_main_v288, val_main_v290, val_main_v292, val_main_v294, val_main_v296, val_main_v298, v238_at _ _ _ _ _ _ H, v239_at _ _ _ _ _ _ H, v241_at _ _ _ _ _ _ H, v243_at _ _ _ _ _ _ H, v245_at _ _ _ _ _ _ H, v247_at _ _ _ _ _ _ H, v249_at _ _ _ _ _ _ H, v251_at _ _ _ _ _ _ H, v253_at _ _ _ _ _ _ H, v255_at _ _ _ _ _ _ H, v257_at _ _ _ _ _ _ H, v259_at _ _ _ _ _ _ H, v261_at _ _ _ _ _ _ H, v263_at _ _ _ _ _ _ H, v265_at _ _ _ _ _ _ H, v267_at _ _ _ _ _ _ H, v269_at _ _ _ _ _ _ H, v271_at _ _ _ _ _ _ H, v273_at _ _ _ _ _ _ H, v275_at _ _ _ _ _ _ H, v277_at _ _ _ _ _ _ H, v279_at _ _ _ _ _ _ H, v281_at _ _ _ _ _ _ H, v283_at _ _ _ _ _ _ H, v285_at _ _ _ _ _ _ H, v287_at _ _ _ _ _ _ H, v289_at _ _ _ _ _ _ H, v291_at _ _ _ _ _ _ H, v293_at _ _ _ _ _ _ H, v295_at _ _ _ _ _ _ H, v297_at _ _ _ _ _ _ H]
  unfold gg
  simp only [Finset.sum_range_succ, Finset.sum_range_zero, zero_add, Nat.reduceLT, ↓reduceDIte, Nat.reduceSub]
  rfl

theorem v326_at (t : Fin 4096) (l : Fin 1024) : val_main_v326 (F := Ideal) x0 x1 x2 (ix2 t l) = gp (XR x0) (YR x1) (F3 x2) t l := by
  pointwise [val_main_v326, val_main_v323, val_main_v321, v319_at, v320_at, v322_at]
  rfl

end Cert.Odd.Ref
end
-- ==== Proof.RCol.lean ====
/- The reference's gradient at the projection, column by column. -/
module

public import proofs.«01_k».proof.Proof.RPad
public import proofs.«01_k».proof.Proof.Gen.ReferenceIdeal.Read
public import Idealize.ShloMosaic.Lib.Claim
public import Idealize.ShloMosaic.Lib.Pointwise

@[expose] public section
set_option maxRecDepth 16384
noncomputable section
open Idealize.ShloMosaic Idealize.ShloMosaic.TcCoe Idealize.SL.Sem
open Cert.ReferenceIdeal Cert.ReferenceIdeal.Read
namespace Cert.Odd.Ref
variable (x0 : FVec Ideal S4096x5120 .f32) (x1 : FVec Ideal S4096x2048 .f32) (x2 : FVec Ideal S3x1024 .f32) (x3 : FVec Ideal S31x1024 .f32) (x4 x5 x6 : FVec Ideal S1024 .f32)

theorem col0_at (H : Real x0 x1 x3 x4 x5 x6) (t : Fin 4096) (l : Fin 1024) : val_main_v337 (F := Ideal) x0 x1 x2 x3 x4 x5 x6 (ix2 t ⟨l.val, by omega⟩) = gx (XR x0) (YR x1) (DR x0 x3 x4) (F3 x2) (F31 x3) (VR x5) (VR x6) t 0 l := by
  pointwise [val_main_v327, val_main_v328, val_main_v329, val_main_v330, val_main_v331, val_main_v332, val_main_v333, val_main_v334, val_main_v335, val_main_v336, val_main_v337, val_main_v302, val_main_v303, val_main_v304, val_main_v306, val_main_v133, val_main_cst_64, val_main_cst_65, val_main_cst_66, val_main_cst_67, val_main_cst_68, v301_at _ _ _ _ _ _ H, v326_at, v19_at, v26_at, v29_at, v1_at, v2_at, v3_at]
  rw [dif_neg, dif_neg, dif_neg, dif_neg]
  · simp only [zero_add, add_zero, gx, yA, YR]

  all_goals first | omega | (intro h; first | exact h.1 | exact h.1.1 | skip)

theorem col1_at (H : Real x0 x1 x3 x4 x5 x6) (t : Fin 4096) (l : Fin 1024) : val_main_v337 (F := Ideal) x0 x1 x2 x3 x4 x5 x6 (ix2 t ⟨1024 + l.val, by omega⟩) = gx (XR x0) (YR x1) (DR x0 x3 x4) (F3 x2) (F31 x3) (VR x5) (VR x6) t 1 l := by
  pointwise [val_main_v327, val_main_v328, val_main_v329, val_main_v330, val_main_v331, val_main_v332, val_main_v333, val_main_v334, val_main_v335, val_main_v336, val_main_v337, val_main_v302, val_main_v303, val_main_v304, val_main_v306, val_main_v133, val_main_cst_64, val_main_cst_65, val_main_cst_66, val_main_cst_67, val_main_cst_68, v301_at _ _ _ _ _ _ H, v326_at, v19_at, v26_at, v29_at, v1_at, v2_at, v3_at]
  rw [dif_neg, dif_neg, dif_neg]
  · simp only [zero_add, add_zero, gx]

  all_goals first | omega | (intro h; first | exact h.1 | exact h.1.1 | skip)

theorem col2_at (H : Real x0 x1 x3 x4 x5 x6) (t : Fin 4096) (l : Fin 1024) : val_main_v337 (F := Ideal) x0 x1 x2 x3 x4 x5 x6 (ix2 t ⟨2048 + l.val, by omega⟩) = gx (XR x0) (YR x1) (DR x0 x3 x4) (F3 x2) (F31 x3) (VR x5) (VR x6) t 2 l := by
  pointwise [val_main_v327, val_main_v328, val_main_v329, val_main_v330, val_main_v331, val_main_v332, val_main_v333, val_main_v334, val_main_v335, val_main_v336, val_main_v337, val_main_v302, val_main_v303, val_main_v304, val_main_v306, val_main_v133, val_main_cst_64, val_main_cst_65, val_main_cst_66, val_main_cst_67, val_main_cst_68, v301_at _ _ _ _ _ _ H, v326_at, v19_at, v26_at, v29_at, v1_at, v2_at, v3_at]
  rw [dif_neg, dif_neg, dif_neg, dif_neg]
  · simp only [zero_add, add_zero, gx]
    exact mul_comm _ _
  all_goals first | omega | (intro h; first | exact h.1 | exact h.1.1 | skip)

theorem col3_at (H : Real x0 x1 x3 x4 x5 x6) (t : Fin 4096) (l : Fin 1024) : val_main_v337 (F := Ideal) x0 x1 x2 x3 x4 x5 x6 (ix2 t ⟨3072 + l.val, by omega⟩) = gx (XR x0) (YR x1) (DR x0 x3 x4) (F3 x2) (F31 x3) (VR x5) (VR x6) t 3 l := by
  pointwise [val_main_v327, val_main_v328, val_main_v329, val_main_v330, val_main_v331, val_main_v332, val_main_v333, val_main_v334, val_main_v335, val_main_v336, val_main_v337, val_main_v302, val_main_v303, val_main_v304, val_main_v306, val_main_v133, val_main_cst_64, val_main_cst_65, val_main_cst_66, val_main_cst_67, val_main_cst_68, v301_at _ _ _ _ _ _ H, v326_at, v19_at, v26_at, v29_at, v1_at, v2_at, v3_at]
  rw [dif_neg, dif_neg, dif_neg, dif_neg]
  · simp only [zero_add, add_zero, gx]

  all_goals first | omega | (intro h; first | exact h.1 | exact h.1.1 | skip)

theorem col4_at (H : Real x0 x1 x3 x4 x5 x6) (t : Fin 4096) (l : Fin 1024) : val_main_v337 (F := Ideal) x0 x1 x2 x3 x4 x5 x6 (ix2 t ⟨4096 + l.val, by omega⟩) = gx (XR x0) (YR x1) (DR x0 x3 x4) (F3 x2) (F31 x3) (VR x5) (VR x6) t 4 l := by
  pointwise [val_main_v327, val_main_v328, val_main_v329, val_main_v330, val_main_v331, val_main_v332, val_main_v333, val_main_v334, val_main_v335, val_main_v336, val_main_v337, val_main_v302, val_main_v303, val_main_v304, val_main_v306, val_main_v133, val_main_cst_64, val_main_cst_65, val_main_cst_66, val_main_cst_67, val_main_cst_68, v301_at _ _ _ _ _ _ H, v326_at, v19_at, v26_at, v29_at, v1_at, v2_at, v3_at]
  rw [dif_neg, dif_neg, dif_neg, dif_neg]
  · simp only [zero_add, add_zero, gx]
    exact (by intro a b c d; ac_rfl : ∀ a b c d : EReal, a * b * (c * d) = b * a * c * d) _ _ _ _
  all_goals first | omega | (intro h; first | exact h.1 | exact h.1.1 | skip)

theorem v337_at (H : Real x0 x1 x3 x4 x5 x6) (k : Fin 5) (t : Fin 4096) (l : Fin 1024) : val_main_v337 (F := Ideal) x0 x1 x2 x3 x4 x5 x6 (ix2 t ⟨1024 * k.val + l.val, by omega⟩) = gx (XR x0) (YR x1) (DR x0 x3 x4) (F3 x2) (F31 x3) (VR x5) (VR x6) t k l := by
  have e : ∀ (j j' : Fin 5120), j.val = j'.val → val_main_v337 (F := Ideal) x0 x1 x2 x3 x4 x5 x6 (ix2 t j) = val_main_v337 (F := Ideal) x0 x1 x2 x3 x4 x5 x6 (ix2 t j') := fun j j' h => by rw [Fin.ext h]
  fin_cases k
  · exact (e _ _ (by show 1024 * 0 + l.val = l.val; omega)).trans (col0_at x0 x1 x2 x3 x4 x5 x6 H t l)
  · exact (e _ _ (by show 1024 * 1 + l.val = 1024 + l.val; omega)).trans (col1_at x0 x1 x2 x3 x4 x5 x6 H t l)
  · exact (e _ _ (by show 1024 * 2 + l.val = 2048 + l.val; omega)).trans (col2_at x0 x1 x2 x3 x4 x5 x6 H t l)
  · exact (e _ _ (by show 1024 * 3 + l.val = 3072 + l.val; omega)).trans (col3_at x0 x1 x2 x3 x4 x5 x6 H t l)
  · exact (e _ _ (by show 1024 * 4 + l.val = 4096 + l.val; omega)).trans (col4_at x0 x1 x2 x3 x4 x5 x6 H t l)

theorem v338_at (H : Real x0 x1 x3 x4 x5 x6) (k : Fin 5) (t : Fin 4096) (l : Fin 1024) : val_main_v338 (F := Ideal) x0 x1 x2 x3 x4 x5 x6 (ix2 t ⟨1024 * k.val + l.val, by omega⟩) = gx (XR x0) (YR x1) (DR x0 x3 x4) (F3 x2) (F31 x3) (VR x5) (VR x6) t k l := by
  pointwise [val_main_v338]
  exact v337_at x0 x1 x2 x3 x4 x5 x6 H k t l

theorem v340_at (H : Real x0 x1 x3 x4 x5 x6) (k : Fin 5) (l : Fin 1024) : val_main_v340 (F := Ideal) x0 x1 x2 x3 x4 x5 x6 (ix2 0 ⟨1024 * k.val + l.val, by omega⟩) = ∑ t, gx (XR x0) (YR x1) (DR x0 x3 x4) (F3 x2) (F31 x3) (VR x5) (VR x6) t k l := by
  pointwise [val_main_v340, val_main_v339, val_main_cst_69]
  exact Finset.sum_congr rfl fun t _ => v337_at x0 x1 x2 x3 x4 x5 x6 H k t l

end Cert.Odd.Ref
end
-- ==== Proof.KEntry.lean ====
/- What the call finds in the buffers the host prepares. -/
module

public import proofs.«01_k».proof.Proof.KFinal
public import proofs.«01_k».proof.Proof.RCol
public import Idealize.ShloMosaic.Lib.StableHlo.RunRead

@[expose] public section
set_option maxRecDepth 16384
noncomputable section
open Idealize.ShloMosaic Idealize.ShloMosaic.TcCoe Idealize.SL.Sem
namespace Cert.Odd
section
open Cert.KernelIdeal Cert.KernelIdeal.Gen
open Cert.ReferenceIdeal.Read (val_main_v105 val_main_v99 val_main_v97 val_main_v98 val_main_v34 val_main_v32)
abbrev opsA : List (HloOp τ sig (Elt Ideal)) := hostOps0.take 15
abbrev opsB : List (HloOp τ sig (Elt Ideal)) := (hostOps0.drop 15).take 65
abbrev opsC : List (HloOp τ sig (Elt Ideal)) := (hostOps0.drop 15).drop 65
set_option maxHeartbeats 2000000 in
theorem lineA10 (U : Valuation τ sig (Elt Ideal)) :
    StableHlo.after opsA U (Proc.devRef .tc main_v10) = val_main_v32 (F := Ideal) (U (Proc.devRef .tc main_arg0)) := by
  after_reads_simp
  rfl
theorem lineA11 (U : Valuation τ sig (Elt Ideal)) :
    StableHlo.after opsA U (Proc.devRef .tc main_v11) = val_main_v34 (F := Ideal) (U (Proc.devRef .tc main_arg3)) := by
  after_reads_simp
  rfl
theorem lineA4 (U : Valuation τ sig (Elt Ideal)) :
    StableHlo.after opsA U (Proc.devRef .tc main_arg4) = U (Proc.devRef .tc main_arg4) := by
  after_reads_simp
theorem lineB11 (U : Valuation τ sig (Elt Ideal)) :
    StableHlo.after opsB U (Proc.devRef .tc main_v11) = U (Proc.devRef .tc main_v11) := by
  after_reads_simp
theorem lineB4 (U : Valuation τ sig (Elt Ideal)) :
    StableHlo.after opsB U (Proc.devRef .tc main_arg4) = U (Proc.devRef .tc main_arg4) := by
  after_reads_simp
set_option maxHeartbeats 2000000 in
theorem lineC82 (U : Valuation τ sig (Elt Ideal)) (x0 : FVec Ideal S4096x5120 .f32) (x3 : FVec Ideal S31x1024 .f32)
    (h76 : U (Proc.devRef .tc main_v76) = val_main_v99 (F := Ideal) x0)
    (h11 : U (Proc.devRef .tc main_v11) = val_main_v34 (F := Ideal) x3) :
    StableHlo.after opsC U (Proc.devRef .tc main_v82) = val_main_v105 (F := Ideal) x0 x3 (U (Proc.devRef .tc main_arg4)) := by
  after_reads_simp
  rw [h76, h11]
  rfl
section
open Cert.ReferenceIdeal.Read
variable (U : Valuation τ sig (Elt Ideal)) (x0 : FVec Ideal S4096x5120 .f32) (h10 : U (Proc.devRef .tc main_v10) = val_main_v32 (F := Ideal) x0)
include h10
theorem lineB43 : StableHlo.upto opsB U 62 (Proc.devRef .tc main_v43) = val_main_v66 (F := Ideal) x0 := by after_reads_simp; rw [h10]; rfl
theorem lineB44 : StableHlo.upto opsB U 62 (Proc.devRef .tc main_v44) = val_main_v67 (F := Ideal) x0 := by after_reads_simp; rw [h10]; rfl
theorem lineB45 : StableHlo.upto opsB U 62 (Proc.devRef .tc main_v45) = val_main_v68 (F := Ideal) x0 := by after_reads_simp; rw [h10]; rfl
theorem lineB46 : StableHlo.upto opsB U 62 (Proc.devRef .tc main_v46) = val_main_v69 (F := Ideal) x0 := by after_reads_simp; rw [h10]; rfl
theorem lineB47 : StableHlo.upto opsB U 62 (Proc.devRef .tc main_v47) = val_main_v70 (F := Ideal) x0 := by after_reads_simp; rw [h10]; rfl
theorem lineB48 : StableHlo.upto opsB U 62 (Proc.devRef .tc main_v48) = val_main_v71 (F := Ideal) x0 := by after_reads_simp; rw [h10]; rfl
theorem lineB49 : StableHlo.upto opsB U 62 (Proc.devRef .tc main_v49) = val_main_v72 (F := Ideal) x0 := by after_reads_simp; rw [h10]; rfl
theorem lineB50 : StableHlo.upto opsB U 62 (Proc.devRef .tc main_v50) = val_main_v73 (F := Ideal) x0 := by after_reads_simp; rw [h10]; rfl
theorem lineB51 : StableHlo.upto opsB U 62 (Proc.devRef .tc main_v51) = val_main_v74 (F := Ideal) x0 := by after_reads_simp; rw [h10]; rfl
theorem lineB52 : StableHlo.upto opsB U 62 (Proc.devRef .tc main_v52) = val_main_v75 (F := Ideal) x0 := by after_reads_simp; rw [h10]; rfl
theorem lineB53 : StableHlo.upto opsB U 62 (Proc.devRef .tc main_v53) = val_main_v76 (F := Ideal) x0 := by after_reads_simp; rw [h10]; rfl
theorem lineB54 : StableHlo.upto opsB U 62 (Proc.devRef .tc main_v54) = val_main_v77 (F := Ideal) x0 := by after_reads_simp; rw [h10]; rfl
theorem lineB55 : StableHlo.upto opsB U 62 (Proc.devRef .tc main_v55) = val_main_v78 (F := Ideal) x0 := by after_reads_simp; rw [h10]; rfl
theorem lineB56 : StableHlo.upto opsB U 62 (Proc.devRef .tc main_v56) = val_main_v79 (F := Ideal) x0 := by after_reads_simp; rw [h10]; rfl
theorem lineB57 : StableHlo.upto opsB U 62 (Proc.devRef .tc main_v57) = val_main_v80 (F := Ideal) x0 := by after_reads_simp; rw [h10]; rfl
theorem lineB58 : StableHlo.upto opsB U 62 (Proc.devRef .tc main_v58) = val_main_v81 (F := Ideal) x0 := by after_reads_simp; rw [h10]; rfl
theorem lineB59 : StableHlo.upto opsB U 63 (Proc.devRef .tc main_v59) = val_main_v82 (F := Ideal) x0 := by after_reads_simp; rw [h10]; rfl
theorem lineB60 : StableHlo.upto opsB U 63 (Proc.devRef .tc main_v60) = val_main_v83 (F := Ideal) x0 := by after_reads_simp; rw [h10]; rfl
theorem lineB61 : StableHlo.upto opsB U 63 (Proc.devRef .tc main_v61) = val_main_v84 (F := Ideal) x0 := by after_reads_simp; rw [h10]; rfl
theorem lineB62 : StableHlo.upto opsB U 63 (Proc.devRef .tc main_v62) = val_main_v85 (F := Ideal) x0 := by after_reads_simp; rw [h10]; rfl
theorem lineB63 : StableHlo.upto opsB U 63 (Proc.devRef .tc main_v63) = val_main_v86 (F := Ideal) x0 := by after_reads_simp; rw [h10]; rfl
theorem lineB64 : StableHlo.upto opsB U 63 (Proc.devRef .tc main_v64) = val_main_v87 (F := Ideal) x0 := by after_reads_simp; rw [h10]; rfl
theorem lineB65 : StableHlo.upto opsB U 63 (Proc.devRef .tc main_v65) = val_main_v88 (F := Ideal) x0 := by after_reads_simp; rw [h10]; rfl
theorem lineB66 : StableHlo.upto opsB U 63 (Proc.devRef .tc main_v66) = val_main_v89 (F := Ideal) x0 := by after_reads_simp; rw [h10]; rfl
theorem lineB67 : StableHlo.upto opsB U 63 (Proc.devRef .tc main_v67) = val_main_v90 (F := Ideal) x0 := by after_reads_simp; rw [h10]; rfl
theorem lineB68 : StableHlo.upto opsB U 63 (Proc.devRef .tc main_v68) = val_main_v91 (F := Ideal) x0 := by after_reads_simp; rw [h10]; rfl
theorem lineB69 : StableHlo.upto opsB U 63 (Proc.devRef .tc main_v69) = val_main_v92 (F := Ideal) x0 := by after_reads_simp; rw [h10]; rfl
theorem lineB70 : StableHlo.upto opsB U 63 (Proc.devRef .tc main_v70) = val_main_v93 (F := Ideal) x0 := by after_reads_simp; rw [h10]; rfl
theorem lineB71 : StableHlo.upto opsB U 63 (Proc.devRef .tc main_v71) = val_main_v94 (F := Ideal) x0 := by after_reads_simp; rw [h10]; rfl
theorem lineB72 : StableHlo.upto opsB U 63 (Proc.devRef .tc main_v72) = val_main_v95 (F := Ideal) x0 := by after_reads_simp; rw [h10]; rfl
theorem lineB73 : StableHlo.upto opsB U 63 (Proc.devRef .tc main_v73) = val_main_v96 (F := Ideal) x0 := by after_reads_simp; rw [h10]; rfl
set_option maxHeartbeats 2000000 in
theorem lineB74 :
    StableHlo.upto opsB U 64 (Proc.devRef .tc main_v74) = val_main_v97 (F := Ideal) x0 := by
  after_reads_simp
  dsimp only [Matrix.cons_val]
  rw [lineB43 U x0 h10, lineB44 U x0 h10, lineB45 U x0 h10, lineB46 U x0 h10, lineB47 U x0 h10, lineB48 U x0 h10, lineB49 U x0 h10, lineB50 U x0 h10, lineB51 U x0 h10, lineB52 U x0 h10, lineB53 U x0 h10, lineB54 U x0 h10, lineB55 U x0 h10, lineB56 U x0 h10, lineB57 U x0 h10, lineB58 U x0 h10]
  rfl
set_option maxHeartbeats 2000000 in
theorem lineB75 :
    StableHlo.upto opsB U 64 (Proc.devRef .tc main_v75) = val_main_v98 (F := Ideal) x0 := by
  after_reads_simp
  dsimp only [Matrix.cons_val]
  rw [lineB59 U x0 h10, lineB60 U x0 h10, lineB61 U x0 h10, lineB62 U x0 h10, lineB63 U x0 h10, lineB64 U x0 h10, lineB65 U x0 h10, lineB66 U x0 h10, lineB67 U x0 h10, lineB68 U x0 h10, lineB69 U x0 h10, lineB70 U x0 h10, lineB71 U x0 h10, lineB72 U x0 h10, lineB73 U x0 h10]
  rfl
set_option maxHeartbeats 2000000 in
theorem lineB76 :
    StableHlo.after opsB U (Proc.devRef .tc main_v76) = val_main_v99 (F := Ideal) x0 := by
  after_reads_simp
  rw [lineB74 U x0 h10, lineB75 U x0 h10]
  rfl
end
theorem after_split (U : Valuation τ sig (Elt Ideal)) :
    StableHlo.after hostOps0 U = StableHlo.after opsC (StableHlo.after opsB (StableHlo.after opsA U)) := by
  have h : (hostOps0 : List (HloOp τ sig (Elt Ideal))) = opsA ++ (opsB ++ opsC) := rfl
  rw [h, StableHlo.after_append, StableHlo.after_append]
variable (m : (ℓ : Loc nD τ sig) → Buf (Elt Ideal) ℓ)
theorem V82 (c : Dev nD) : (V m c main_v82 : FVec Ideal S4096x1024 .f32) = val_main_v105 (F := Ideal)
    (m ((c : Thread nD τ).loc main_arg0)) (m ((c : Thread nD τ).loc main_arg3)) (m ((c : Thread nD τ).loc main_arg4)) := by
  have h : V m c main_v82 = StableHlo.after hostOps0 (fun b => m (c, b)) (Proc.devRef .tc main_v82) := rfl
  rw [h, after_split, lineC82 _ _ _ (lineB76 _ _ (lineA10 _)) ((lineB11 _).trans (lineA11 _)), lineB4, lineA4]
theorem GA_eq (c : Dev nD) : GA m c = Ref.VR (m ((c : Thread nD τ).loc main_arg5) : FVec Ideal S1024 .f32) := by
  funext l
  have h : (V m c main_v83 : FVec Ideal S1x1024 .f32) = shapeCast S1x1024 (m ((c : Thread nD τ).loc main_arg5) : FVec Ideal S1024 .f32) shapeCasts_S1024_S1x1024 := by
    entry_read
    rfl
  unfold GA Ref.VR
  rw [h]
  pointwise []
theorem OA_eq (c : Dev nD) : OA m c = Ref.VR (m ((c : Thread nD τ).loc main_arg6) : FVec Ideal S1024 .f32) := by
  funext l
  have h : (V m c main_v84 : FVec Ideal S1x1024 .f32) = shapeCast S1x1024 (m ((c : Thread nD τ).loc main_arg6) : FVec Ideal S1024 .f32) shapeCasts_S1024_S1x1024 := by
    entry_read
    rfl
  unfold OA Ref.VR
  rw [h]
  pointwise []
theorem DA_eq (c : Dev nD) : DA m c = Ref.DR (m ((c : Thread nD τ).loc main_arg0)) (m ((c : Thread nD τ).loc main_arg3)) (m ((c : Thread nD τ).loc main_arg4)) := by
  funext t l
  unfold DA
  rw [V82]
  exact Ref.v105_at _ _ _ t l
theorem XA_eq (c : Dev nD) : XA m c = Ref.XR (m ((c : Thread nD τ).loc main_arg0)) := rfl
theorem YA_eq (c : Dev nD) : YA m c = Ref.YR (m ((c : Thread nD τ).loc main_arg1)) := rfl
theorem W3_eq (c : Dev nD) : W3 m c = Ref.F3 (m ((c : Thread nD τ).loc main_arg2)) := rfl
theorem W31_eq (c : Dev nD) : W31 m c = Ref.F31 (m ((c : Thread nD τ).loc main_arg3)) := rfl
end
end Cert.Odd
-- ==== Proof.Close.lean ====
/- The arrays of the call are those of the reference. -/
module

public import proofs.«01_k».proof.Proof.KEntry
public import proofs.«01_k».proof.Proof.RCol

@[expose] public section
set_option maxRecDepth 16384
noncomputable section
open Idealize.ShloMosaic Idealize.ShloMosaic.TcCoe Idealize.SL.Sem
open Cert.KernelIdeal Cert.KernelIdeal.Gen
open Cert.ReferenceIdeal.Read (val_main_v338 val_main_v340 val_main_v324 val_main_v299 val_main_v341 val_main_v342 val_main_v343)
namespace Cert.Odd
variable (m : (ℓ : Loc nD τ sig) → Buf (Elt Ideal) ℓ) (c : Dev nD)

theorem out11 (H : Ref.Real (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32)) : val_main_v338 (F := Ideal) (m ((c : Thread nD τ).loc main_arg0) : FVec Ideal S4096x5120 .f32) (m ((c : Thread nD τ).loc main_arg1) : FVec Ideal S4096x2048 .f32) (m ((c : Thread nD τ).loc main_arg2) : FVec Ideal S3x1024 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32) = R11 m c := by
  funext i
  idx_vars i
  revert i0 i1
  intro t j
  rw [split_col j]
  refine (Ref.v338_at _ _ _ _ _ _ _ H _ t _).trans ?_
  show _ = GX m c t (ck _) (cl _)
  rw [← split_col j]
  unfold GX
  rw [XA_eq, YA_eq, DA_eq, GA_eq, OA_eq, W3_eq, W31_eq]
  rfl
theorem out12 (H : Ref.Real (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32)) : val_main_v340 (F := Ideal) (m ((c : Thread nD τ).loc main_arg0) : FVec Ideal S4096x5120 .f32) (m ((c : Thread nD τ).loc main_arg1) : FVec Ideal S4096x2048 .f32) (m ((c : Thread nD τ).loc main_arg2) : FVec Ideal S3x1024 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32) = R12 m c := by
  funext i
  idx_vars i
  revert i0 i1
  intro z j
  obtain rfl : z = 0 := Subsingleton.elim _ _
  rw [split_col j]
  refine (Ref.v340_at _ _ _ _ _ _ _ H _ _).trans ?_
  show _ = ∑ n, GX m c n (ck _) (cl _)
  rw [← split_col j]
  unfold GX
  rw [XA_eq, YA_eq, DA_eq, GA_eq, OA_eq, W3_eq, W31_eq]
  rfl
theorem out13 : val_main_v324 (F := Ideal) (m ((c : Thread nD τ).loc main_arg0) : FVec Ideal S4096x5120 .f32) (m ((c : Thread nD τ).loc main_arg1) : FVec Ideal S4096x2048 .f32) = R13 m c := by
  funext i
  idx_vars i
  revert i0 i1
  intro k l
  refine (Ref.v324_at _ _ k l).trans ?_
  unfold R13
  rw [XA_eq, YA_eq]
  rfl
theorem out14 (H : Ref.Real (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32)) : val_main_v299 (F := Ideal) (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32) = R14 m c := by
  funext i
  idx_vars i
  revert i0 i1
  intro k l
  refine (Ref.v299_at _ _ _ _ _ _ H k l).trans ?_
  unfold R14
  rw [XA_eq, YA_eq, DA_eq, GA_eq, OA_eq]
  rfl
theorem out15 (H : Ref.Real (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32)) : val_main_v341 (F := Ideal) (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32) = R15 m c := by
  funext i
  idx_vars i
  revert i0 i1
  intro z l
  obtain rfl : z = 0 := Subsingleton.elim _ _
  refine (Ref.v341_at _ _ _ _ _ _ H l).trans ?_
  unfold R15
  rw [YA_eq, DA_eq, GA_eq, OA_eq]
  rfl
theorem out16 (H : Ref.Real (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32)) : val_main_v342 (F := Ideal) (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32) = R16 m c := by
  funext i
  idx_vars i
  revert i0 i1
  intro z l
  obtain rfl : z = 0 := Subsingleton.elim _ _
  refine (Ref.v342_at _ _ _ _ _ _ H l).trans ?_
  unfold R16
  rw [YA_eq, DA_eq, GA_eq, OA_eq]
  rfl
theorem out17 (H : Ref.Real (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32)) : val_main_v343 (F := Ideal) (m ((c : Thread nD τ).loc main_arg0) : FVec Ideal S4096x5120 .f32) (m ((c : Thread nD τ).loc main_arg1) : FVec Ideal S4096x2048 .f32) (m ((c : Thread nD τ).loc main_arg3) : FVec Ideal S31x1024 .f32) (m ((c : Thread nD τ).loc main_arg4) : FVec Ideal S1024 .f32) (m ((c : Thread nD τ).loc main_arg5) : FVec Ideal S1024 .f32) (m ((c : Thread nD τ).loc main_arg6) : FVec Ideal S1024 .f32) = R17 m c := by
  funext i
  idx_vars i
  revert i0 i1
  intro z l
  obtain rfl : z = 0 := Subsingleton.elim _ _
  refine (Ref.v343_at _ _ _ _ _ _ H l).trans ?_
  unfold R17
  rw [YA_eq, DA_eq, GA_eq, OA_eq]
  rfl
end Cert.Odd
-- ==== Proof.Reals.lean ====
/- What the precondition gives: the arrays the normalisation reads hold real numbers. -/
module

public import proofs.«01_k».proof.Proof.RGrad
public import proofs.«01_k».proof.Pre_finite
public import Idealize.ShloMosaic.Lib.Claim
public import Idealize.ShloMosaic.Lib.Pointwise

@[expose] public section
set_option maxRecDepth 16384
noncomputable section
open Idealize.ShloMosaic Idealize.ShloMosaic.TcCoe Idealize.SL.Sem
namespace Cert.Odd

/-- A number below infinity in absolute value is real. -/
theorem real_of_lt (y : EReal) (h : Ideal.cmp .olt (max y (-y) : EReal) (⊤ : EReal) = 1#1) : ∃ r : ℝ, y = (r : EReal) := by
  induction y with
  | bot => simp [Ideal.cmp] at h
  | coe r => exact ⟨r, rfl⟩
  | top => simp [Ideal.cmp] at h

theorem inf_top : (Ideal.ofBits .f32 0x7F800000#32 : EReal) = ⊤ := by
  simp [Ideal.ofBits, Ideal.ieee]

/-- A real number. -/
def Re (y : EReal) : Prop := ∃ r : ℝ, y = (r : EReal)
theorem Re.add {a b : EReal} (ha : Re a) (hb : Re b) : Re (a + b) := by
  obtain ⟨a, rfl⟩ := ha; obtain ⟨b, rfl⟩ := hb; exact ⟨a + b, (EReal.coe_add a b).symm⟩
theorem Re.mul {a b : EReal} (ha : Re a) (hb : Re b) : Re (a * b) := by
  obtain ⟨a, rfl⟩ := ha; obtain ⟨b, rfl⟩ := hb; exact ⟨a * b, (EReal.coe_mul a b).symm⟩
theorem Re.sum {n : ℕ} {f : Fin n → EReal} (h : ∀ k, Re (f k)) : Re (∑ k, f k) := by
  choose r hr using h
  exact ⟨∑ k, r k, by rw [← coe_sum]; exact Finset.sum_congr rfl fun k _ => hr k⟩
theorem Re.sigm {a : EReal} (ha : Re a) : Re (Odd.sigm a) := by
  obtain ⟨a, rfl⟩ := ha; exact ⟨_, sigm_coe a⟩
theorem Re.row {d : Row} (h : ∀ l, Re (d l)) : Fin' d := by
  choose r hr using h
  exact ⟨r, funext hr⟩
theorem Re.late {f : Fin 4096 → Row} (h : ∀ t l, Re (f t l)) (t s : ℕ) (l : Fin 1024) : Re (Odd.late f t s l) := by
  unfold Odd.late past
  split
  · split
    · exact h _ l
    · exact ⟨0, rfl⟩
  · exact ⟨0, rfl⟩

/-- Real entries of the arrays make every row the normalisation reads real. -/
theorem reals (x0 : FVec Ideal Cert.ReferenceIdeal.S4096x5120 .f32) (x1 : FVec Ideal Cert.ReferenceIdeal.S4096x2048 .f32)
    (x3 : FVec Ideal Cert.ReferenceIdeal.S31x1024 .f32) (x4 x5 x6 : FVec Ideal Cert.ReferenceIdeal.S1024 .f32)
    (h0 : ∀ i, Re (x0 i)) (h1 : ∀ i, Re (x1 i)) (h3 : ∀ i, Re (x3 i)) (h4 : ∀ i, Re (x4 i)) (h5 : ∀ i, Re (x5 i)) (h6 : ∀ i, Re (x6 i)) :
    Ref.Real x0 x1 x3 x4 x5 x6 := by
  refine ⟨fun t => Re.row fun l => ?_, fun t => Re.row fun l => h1 _, Re.row fun l => h5 _, Re.row fun l => h6 _⟩
  refine Re.add (Re.sum fun k => Re.mul (h3 _) (Re.late (fun t l => ?_) _ _ l)) (h4 _)
  exact Re.mul (h0 _) (Re.sigm (h0 _))

theorem pre_reals [hP : Cert.Pre_finite.Facts] (x0 : FVec Ideal Cert.Pre_finite.S4096x5120 .f32) (x1 : FVec Ideal Cert.Pre_finite.S4096x2048 .f32)
    (x2 : FVec Ideal Cert.Pre_finite.S3x1024 .f32) (x3 : FVec Ideal Cert.Pre_finite.S31x1024 .f32) (x4 x5 x6 : FVec Ideal Cert.Pre_finite.S1024 .f32)
    (h : (Cert.Pre_finite.fn (F := Ideal) x0 x1 x2 x3 x4 x5 x6).1 = (fun _ => 1#1)
      ∧ (Cert.Pre_finite.fn (F := Ideal) x0 x1 x2 x3 x4 x5 x6).2.1 = (fun _ => 1#1)
      ∧ (Cert.Pre_finite.fn (F := Ideal) x0 x1 x2 x3 x4 x5 x6).2.2.1 = (fun _ => 1#1)
      ∧ (Cert.Pre_finite.fn (F := Ideal) x0 x1 x2 x3 x4 x5 x6).2.2.2.1 = (fun _ => 1#1)
      ∧ (Cert.Pre_finite.fn (F := Ideal) x0 x1 x2 x3 x4 x5 x6).2.2.2.2.1 = (fun _ => 1#1)
      ∧ (Cert.Pre_finite.fn (F := Ideal) x0 x1 x2 x3 x4 x5 x6).2.2.2.2.2 = (fun _ => 1#1)) :
    Ref.Real x0 x1 x3 x4 x5 x6 := by
  have key : ∀ y : EReal, Ideal.cmp .olt (max y (-y) : EReal) (Ideal.ofBits .f32 0x7F800000#32 : EReal) = 1#1 → Re y :=
    fun y hy => real_of_lt y (by rw [inf_top] at hy; exact hy)
  obtain ⟨a0, a1, a3, a4, a5, a6⟩ := h
  exact reals x0 x1 x3 x4 x5 x6 (fun i => key _ (congrFun a0 i)) (fun i => key _ (congrFun a1 i)) (fun i => key _ (congrFun a3 i))
    (fun i => key _ (congrFun a4 i)) (fun i => key _ (congrFun a5 i)) (fun i => key _ (congrFun a6 i))
end Cert.Odd
-- ==== Proof.BNorm.lean ====
/- The root-mean-square normalisation's gradient: what the call that takes 256 tokens at a time leaves. -/
module

public import proofs.«01_k».proof.Proof.Gen.Kernel16Ideal.Value
public import proofs.«01_k».proof.Proof.Gen.Reference16Ideal.Read
public import proofs.«01_k».proof.Proof.Reals
public import proofs.«01_k».proof.Defs
public import proofs.«01_k».proof.Pre_finite16
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel16Ideal Cert.Kernel16Ideal.Gen Cert.Reference16Ideal.Read
namespace Cert.BNorm
open Cert.Odd (Re)
variable (m : (ℓ : Loc nD τ sig) → Buf (Elt Ideal) ℓ) (c : Dev nD)

/-- The normalisation's input, its gain, its output's gradient, and the gradient that goes past it. -/
abbrev X : FVec Ideal S4096x2048 .f32 := m ((c : Thread nD τ).loc main_arg0)
abbrev G : FVec Ideal S2048 .f32 := m ((c : Thread nD τ).loc main_arg1)
abbrev D : FVec Ideal S4096x2048 .f32 := m ((c : Thread nD τ).loc main_arg2)
abbrev E : FVec Ideal S4096x2048 .f32 := m ((c : Thread nD τ).loc main_arg3)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] :=
  (by decide +kernel : ∀ t : Fin grid0.N, _)

/-- The blocks a point reads. -/
abbrev b0 (t : Fin cfg0.N) : FVec Ideal S256x2048 .f32 := iblk m c 0 t
abbrev b1 (t : Fin cfg0.N) : FVec Ideal S1x2048 .f32 := iblk m c 1 t
abbrev b2 (t : Fin cfg0.N) : FVec Ideal S256x2048 .f32 := iblk m c 2 t
abbrev b3 (t : Fin cfg0.N) : FVec Ideal S256x2048 .f32 := iblk m c 3 t

section blocks
variable (t : Fin cfg0.N) (r : Fin 256) (n : Fin 4096) (h : n.val = 256 * t.val + r.val) (q : Fin 2048)
include h
theorem in0 : b0 m c t (ix2 r q) = X m c (ix2 n q) := by blk_point [b0, iblk, idx t]
theorem in2 : b2 m c t (ix2 r q) = D m c (ix2 n q) := by blk_point [b2, iblk, idx t]
theorem in3 : b3 m c t (ix2 r q) = E m c (ix2 n q) := by blk_point [b3, iblk, idx t]
omit h
theorem in1 : b1 m c t (ix2 0 q) = G m c (ix1 q) := by
  have h : (V m c main_v0 : FVec Ideal S1x2048 .f32) = shapeCast S1x2048 (G m c) shapeCasts_S2048_S1x2048 := by
    entry_read
    rfl
  have e : b1 m c t (ix2 0 q) = (V m c main_v0 : FVec Ideal S1x2048 .f32) (ix2 0 q) := by blk_point [b1, iblk, idx t]
  rw [e, h]
  pointwise []
end blocks

/-- A row of the array. -/
abbrev Row := Fin 2048 → EReal
/-- The number of channels. -/
def width : EReal := Ideal.ofBits .f32 0x45000000#32
/-- The mean of a row's squares plus the offset. -/
def va (x : Row) : EReal := Ideal.div (∑ k, x k * x k) width + Cert.Odd.eps
/-- Its reciprocal root. -/
def rs (x : Row) : EReal := Ideal.rsqrt (va x)
/-- The gradient at the row in the folded form. -/
def back (x d g : Row) : Row := fun q =>
  rs x * (d q * g q - x q * rs x * Ideal.div (∑ k, d k * g k * (x k * rs x)) width)
/-- The gradient at the mean of the squares, per channel. -/
def dva (x d g : Row) : EReal := Ideal.div ((∑ k, x k * (d k * g k)) * (Cert.Odd.mhalf * Ideal.div (rs x) (va x))) width
/-- The gradient at the row as the derivative gives it. -/
def rback (x d g : Row) : Row := fun q => d q * g q * rs x + x q * dva x d g + dva x d g * x q

theorem width_eq : width = ((2048 : ℝ) : EReal) := by
  simp [width, Ideal.ofBits, Ideal.ieee, -EReal.coe_mul]; norm_num
theorem div_width (x : ℝ) : Ideal.div (x : EReal) width = ((x / 2048 : ℝ) : EReal) := by
  rw [width_eq, Ideal.div_coe (by norm_num), ← EReal.coe_mul]; congr 1; ring

/-- Over a real row the mean of the squares plus the offset is a positive number. -/
theorem va_pos (x' : Fin 2048 → ℝ) : ∃ v : ℝ, 0 < v ∧ va (fun k => (x' k : EReal)) = (v : EReal) := by
  obtain ⟨e, he, h⟩ := Cert.Odd.eps_eq
  have : 0 ≤ (∑ k, x' k * x' k) / 2048 := div_nonneg (Finset.sum_nonneg fun k _ => mul_self_nonneg _) (by norm_num)
  refine ⟨(∑ k, x' k * x' k) / 2048 + e, by linarith, ?_⟩
  simp only [va, ← EReal.coe_mul]
  rw [Cert.Odd.coe_sum, div_width, h, ← EReal.coe_add]
/-- Over real rows the two agree. -/
theorem back_eq (x d g : Row) (hx : ∀ k, Re (x k)) (hd : ∀ k, Re (d k)) (hg : ∀ k, Re (g k)) (q : Fin 2048) : rback x d g q = back x d g q := by
  choose x' hx using hx
  choose d' hd using hd
  choose g' hg using hg
  obtain rfl : x = fun k => (x' k : EReal) := funext hx
  obtain rfl : d = fun k => (d' k : EReal) := funext hd
  obtain rfl : g = fun k => (g' k : EReal) := funext hg
  obtain ⟨v, hp, hva⟩ := va_pos x'
  have hrs : rs (fun k => (x' k : EReal)) = (((Real.sqrt v)⁻¹ : ℝ) : EReal) := by
    rw [rs, hva, Ideal.rsqrt_coe, if_neg (not_lt.mpr hp.le), if_neg hp.ne']
  have hs : 1 / v = (Real.sqrt v)⁻¹ * (Real.sqrt v)⁻¹ := by
    rw [← mul_inv, Real.mul_self_sqrt hp.le, one_div]
  simp only [rback, back, dva, hrs, hva, Cert.Odd.mhalf_eq, Ideal.div_coe hp.ne']
  simp only [← EReal.coe_mul]
  rw [Cert.Odd.coe_sum, Cert.Odd.coe_sum, ← EReal.coe_mul, div_width, div_width]
  simp only [← EReal.coe_mul, ← EReal.coe_add, ← EReal.coe_sub]
  have hm : ∑ k, d' k * g' k * (x' k * (Real.sqrt v)⁻¹) = (∑ k, x' k * (d' k * g' k)) * (Real.sqrt v)⁻¹ := by
    rw [Finset.sum_mul]; exact Finset.sum_congr rfl fun k _ => by ring
  rw [hm, hs]
  congr 1; ring

/-- The row of a token, and the gain. -/
def row (x : FVec Ideal S4096x2048 .f32) (n : Fin 4096) : Row := fun k => x (ix2 n k)
def gain (g : FVec Ideal S2048 .f32) : Row := fun k => g (ix1 k)
/-- The gradient at the input. -/
def outX (x : FVec Ideal S4096x2048 .f32) (g : FVec Ideal S2048 .f32) (d e : FVec Ideal S4096x2048 .f32) : FVec Ideal S4096x2048 .f32 :=
  fun i => e i + back (row x (i 0)) (row d (i 0)) (gain g) (i 1)
/-- The same, rounded. -/
def outB (x : FVec Ideal S4096x2048 .f32) (g : FVec Ideal S2048 .f32) (d e : FVec Ideal S4096x2048 .f32) : FVec Ideal S4096x2048 .bf16 :=
  fun i => e i + back (row x (i 0)) (row d (i 0)) (gain g) (i 1)
/-- What one token adds to the gain's gradient. -/
def one (x d : FVec Ideal S4096x2048 .f32) (n : Fin 4096) (q : Fin 2048) : EReal := d (ix2 n q) * (x (ix2 n q) * rs (row x n))
/-- The gain's gradient. -/
def outG (x d : FVec Ideal S4096x2048 .f32) : FVec Ideal S1x2048 .f32 := fun i => ∑ n : Fin 4096, one x d n (i 1)

section rows
variable (t : Fin cfg0.N) (r : Fin 256) (n : Fin 4096) (h : n.val = 256 * t.val + r.val) (q : Fin 2048)
include h
theorem row0 : (fun k => b0 m c t (ix2 r k)) = row (X m c) n := funext fun k => in0 m c t r n h k
theorem row2 : (fun k => b2 m c t (ix2 r k)) = row (D m c) n := funext fun k => in2 m c t r n h k
omit h in
theorem row1 : (fun k => b1 m c t (ix2 0 k)) = gain (G m c) := funext fun k => in1 m c t k
theorem here_eq : b3 m c t (ix2 r q) + back (fun k => b0 m c t (ix2 r k)) (fun k => b2 m c t (ix2 r k)) (fun k => b1 m c t (ix2 0 k)) q
    = outX (X m c) (G m c) (D m c) (E m c) (ix2 n q) := by
  rw [row0 m c t r n h, row2 m c t r n h, row1 m c t]
  exact congrArg (fun e => e + back (row (X m c) n) (row (D m c) n) (gain (G m c)) q) (in3 m c t r n h q)

theorem out45 : (dats m 0 c).after 4 t (ix2 r q) = outX (X m c) (G m c) (D m c) (E m c) (ix2 n q)
    ∧ (dats m 0 c).after 5 t (ix2 r q) = outX (X m c) (G m c) (D m c) (E m c) (ix2 n q) := by
  rw [after0_4, after0_5]
  constructor
  all_goals
    refine Eq.trans ?_ (here_eq m c t r n h q)
    by_cases h0 : t.val % 16 = 0
    on_goal 1 => rw [outsAt0_A m c t h0]
    on_goal 2 => rw [outsAt0_B m c t h0]
    all_goals
      frame_open
      simp (disch := decide) only [↓View.readCov_skip, ↓View.readCov_fill, View.read_writes_junk_eq_canon, View.canon_cons_unit_lit', View.ld_unit_lit',
        View.readCov_unit_lit', View.readCov_cons_unit_lit', View.readAt_eq_ld, Memref.IsWhole.read_unread]
      pointwise [k0_pay2, k0_pay1, k0_pay7, k0_pay4, k0_pay3]
      rfl
end rows

theorem bounds (t : Fin cfg0.N) (r : Fin 256) : 256 * t.val + r.val < 4096 := by
  have hN : cfg0.N = 16 := rfl
  have := t.isLt
  omega
theorem emb (t : Fin cfg0.N) (r : Fin 256) (q : Fin 2048) (hn : 256 * t.val + r.val < 4096) :
    (win0_4.blk t).view.emb (ix2 r q) = (ix2 ⟨256 * t.val + r.val, hn⟩ q : S4096x2048.Idx)
    ∧ (win0_5.blk t).view.emb (ix2 r q) = (ix2 ⟨256 * t.val + r.val, hn⟩ q : S4096x2048.Idx) :=
  ⟨by blk_ext [idx t], by blk_ext [idx t]⟩

theorem final4 : (dats m 0 c).arrAt 4 (cfgs 0).N = outX (X m c) (G m c) (D m c) (E m c) := by
  refine (dats m 0 c).arrAt_eq_of_covers 4 _ (by decide +kernel) fun t hf y => ?_
  blk_simp
  obtain ⟨r, q, rfl⟩ : ∃ (r : Fin 256) (q : Fin 2048), y = ix2 r q := ⟨y 0, y 1, by idx_vars y⟩
  rw [(emb t r q (bounds t r)).1]
  exact (out45 m c t r _ rfl q).1
theorem final5 : (dats m 0 c).arrAt 5 (cfgs 0).N = outB (X m c) (G m c) (D m c) (E m c) := by
  refine (dats m 0 c).arrAt_eq_of_covers 5 _ (by decide +kernel) fun t hf y => ?_
  blk_simp
  obtain ⟨r, q, rfl⟩ : ∃ (r : Fin 256) (q : Fin 2048), y = ix2 r q := ⟨y 0, y 1, by idx_vars y⟩
  rw [(emb t r q (bounds t r)).2]
  exact (out45 m c t r _ rfl q).2

/-- What one point adds to the gain's gradient. -/
def term (q : Fin 2048) (t : Fin cfg0.N) : EReal := ∑ r : Fin 256, one (X m c) (D m c) ⟨256 * t.val + r.val, bounds t r⟩ q
theorem term_eq (q : Fin 2048) (t : Fin cfg0.N) :
    ∑ r : Fin 256, b2 m c t (ix2 r q) * (b0 m c t (ix2 r q) * rs (fun k => b0 m c t (ix2 r k))) = term m c q t :=
  Finset.sum_congr rfl fun r _ => by
    rw [row0 m c t r ⟨256 * t.val + r.val, bounds t r⟩ rfl]
    exact congrArg₂ (fun a b => a * (b * rs (row (X m c) _))) (in2 m c t r _ rfl q) (in0 m c t r _ rfl q)

theorem acc_A (t : Fin cfg0.N) (h : t.val % 16 = 0) (q : Fin 2048) : (outsAt0 m c t.val t.isLt).2.2 (ix2 0 q) = term m c q t := by
  rw [outsAt0_A m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  refine Eq.trans ?_ (term_eq m c q t)
  pointwise [k0_pay6, k0_pay5, k0_pay4, k0_pay3]
  rfl
theorem acc_B (t : Fin cfg0.N) (h : ¬ t.val % 16 = 0) (q : Fin 2048) :
    (outsAt0 m c t.val t.isLt).2.2 (ix2 0 q) = (outsAt0 m c (t.val - 1) (Nat.lt_of_le_of_lt (Nat.sub_le _ _) t.isLt)).2.2 (ix2 0 q) + term m c q t := by
  rw [outsAt0_B m c t h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  rw [← term_eq m c q t]
  pointwise [k0_pay6, k0_pay4, k0_pay3]
  rfl

theorem final6 : (dats m 0 c).arrAt 6 (cfgs 0).N = outG (X m c) (D m c) := by
  refine (dats m 0 c).arrAt_eq_of_covers 6 _ (by decide +kernel) fun t hf y => ?_
  have ht := (flush0_6 t).mp hf
  have hN : cfg0.N = 16 := rfl
  have := t.isLt
  blk_simp
  rw [after0_6]
  obtain ⟨z, q, rfl⟩ : ∃ (z : Fin 1) (q : Fin 2048), y = ix2 z q := ⟨y 0, y 1, by idx_vars y⟩
  obtain rfl := Subsingleton.elim z 0
  have e : (win0_6.blk t).view.emb (ix2 0 q) = (ix2 0 q : S1x2048.Idx) := by
    blk_ext [idx t]
  rw [e]
  refine (Pipeline.eq_sum_fin_of_reset_step_of_flush (M := EReal) (fun n h => (outsAt0 m c n h).2.2 (ix2 0 q)) 16 0 (term m c q)
    (fun t h => (acc_A m c t h q).trans (zero_add _).symm) (fun t h => acc_B m c t h q) t ht).trans ((zero_add _).trans ?_)
  refine Eq.trans ?_ (Fin.sum_univ_tiles 16 256 rfl (fun n => one (X m c) (D m c) n q)).symm
  refine Finset.sum_congr rfl fun s _ => Finset.sum_congr rfl fun k _ => congrArg (fun n => one (X m c) (D m c) n q) (Fin.ext ?_)
  show 256 * (16 * (t.val / 16) + s.val) + k.val = s.val * 256 + k.val
  omega

section reference
variable (x : FVec Ideal S4096x2048 .f32) (g : FVec Ideal S2048 .f32) (d e : FVec Ideal S4096x2048 .f32)
theorem ref6 (n : Fin 4096) : val_main_v6 (F := Ideal) x (ix2 n 0) = va (row x n) := by
  pointwise [val_main_v6, val_main_v5, val_main_cst_1, val_main_v4, val_main_v3, val_main_cst_0, val_main_v2, val_main_v1, val_main_cst, val_main_v0]
  rfl
theorem ref7 (n : Fin 4096) : val_main_v7 (F := Ideal) x (ix2 n 0) = rs (row x n) := by
  pointwise [val_main_v7, ref6]
  rfl
theorem ref20 (n : Fin 4096) (q : Fin 2048) : val_main_v20 (F := Ideal) g d (ix2 n q) = row d n q * gain g q := by
  pointwise [val_main_v20, val_main_v19, val_main_v13]
  rfl
theorem ref29 (n : Fin 4096) : val_main_v29 (F := Ideal) x g d (ix2 n 0) = dva (row x n) (row d n) (gain g) := by
  pointwise [val_main_v29, val_main_v28, val_main_cst_6, val_main_v27, val_main_v24, val_main_v23, val_main_cst_5, val_main_v22, val_main_v10, val_main_v9, val_main_cst_2, val_main_v8, ref20, ref7, ref6]
  rfl
theorem ref35 (n : Fin 4096) (q : Fin 2048) :
    val_main_v35 (F := Ideal) x g d (ix2 n q) = rback (row x n) (row d n) (gain g) q := by
  pointwise [val_main_v35, val_main_v34, val_main_v33, val_main_v32, val_main_v31, val_main_v30, val_main_cst_7, val_main_v26, val_main_v25, ref20, ref7, ref29]
  rw [Fin.sum_univ_one, ref29]
  rfl
theorem ref36 (hx : ∀ i, Re (x i)) (hg : ∀ i, Re (g i)) (hd : ∀ i, Re (d i)) : val_main_v36 (F := Ideal) x g d e = outX x g d e := by
  funext i
  obtain ⟨n, q, rfl⟩ : ∃ (n : Fin 4096) (q : Fin 2048), i = ix2 n q := ⟨i 0, i 1, by idx_vars i⟩
  have h := (ref35 x g d n q).trans (back_eq _ _ _ (fun k => hx _) (fun k => hd _) (fun k => hg _) q)
  pointwise [val_main_v36, h]
  exact add_comm (_ : EReal) _
theorem ref37 (hx : ∀ i, Re (x i)) (hg : ∀ i, Re (g i)) (hd : ∀ i, Re (d i)) : val_main_v37 (F := Ideal) x g d e = outB x g d e := by
  funext i
  have h := congrFun (ref36 x g d e hx hg hd) i
  pointwise [val_main_v37, h]
  rfl
theorem ref38 : val_main_v38 (F := Ideal) x d = outG x d := by
  funext i
  obtain ⟨z, q, rfl⟩ : ∃ (z : Fin 1) (q : Fin 2048), i = ix2 z q := ⟨i 0, i 1, by idx_vars i⟩
  obtain rfl := Subsingleton.elim z 0
  pointwise [val_main_v38, val_main_v21, val_main_cst_4, val_main_v18, val_main_v17, val_main_cst_3, val_main_v16, val_main_v12, val_main_v11, ref7]
  rw [Fin.sum_univ_one]
  pointwise [val_main_v18, val_main_v17, val_main_cst_3, val_main_v16, val_main_v12, val_main_v11, ref7]
  exact Finset.sum_congr rfl fun n _ => mul_comm (_ : EReal) _
end reference

theorem key (y : EReal) (hy : Ideal.cmp .olt (max y (-y) : EReal) (Ideal.ofBits .f32 0x7F800000#32 : EReal) = 1#1) : Re y :=
  Cert.Odd.real_of_lt y (by rw [Cert.Odd.inf_top] at hy; exact hy)
/-- What the precondition gives: real numbers. -/
theorem pre_reals [hP : Cert.Pre_finite16.Facts] (x : FVec Ideal S4096x2048 .f32) (g : FVec Ideal S2048 .f32) (d e : FVec Ideal S4096x2048 .f32)
    (h : (Cert.Pre_finite16.fn (F := Ideal) x g d e).1 = (fun _ => 1#1) ∧ (Cert.Pre_finite16.fn (F := Ideal) x g d e).2.1 = (fun _ => 1#1)
      ∧ (Cert.Pre_finite16.fn (F := Ideal) x g d e).2.2 = (fun _ => 1#1)) : (∀ i, Re (x i)) ∧ (∀ i, Re (g i)) ∧ ∀ i, Re (d i) := by
  exact ⟨fun i => key _ (congrFun h.1 i), fun i => key _ (congrFun h.2.1 i), fun i => key _ (congrFun h.2.2 i)⟩

theorem facts_finite : Cert.Pre_finite16.Facts := by constructor <;> decide

theorem frame_reference : Cert.quiescent_Reference16Ideal (hReference16Ideal := Cert.Reference16Ideal.Gen.facts) := fun m g _ =>
  (θ_run Cert.Reference16Ideal.defs _ _).mono (fun _ h => ⟨fun c => (h c).2.2.2, sem_eq_zero_of_no_sems (by decide) _⟩)
    (Cert.Reference16Ideal.Value.run (F := Ideal) m g)

set_option maxHeartbeats 2000000 in
/-- The call and the reference leave the same arrays. -/
theorem same : Cert.algebraic_Kernel16Ideal_Reference16Ideal_pre_finite16 (hKernel16Ideal := Cert.Kernel16Ideal.Gen.facts) (hReference16Ideal := Cert.Reference16Ideal.Gen.facts)
    (hPre_finite16 := facts_finite) := by
  intro m g m' g' hpre hagree
  refine ⟨fun c => outX (X m c) (G m c) (D m c) (E m c), fun c => outB (X m c) (G m c) (D m c) (E m c), fun c => outG (X m c) (D m c),
    (θ_run Cert.Kernel16Ideal.defs _ _).mono (fun _ h c => ⟨(h c).1.trans (final4 m c), (h c).2.1.trans (final5 m c), (h c).2.2.1.trans (final6 m c), (h c).2.2.2⟩)
      (Cert.Kernel16Ideal.Value.run_blocks m g),
    (θ_run Cert.Reference16Ideal.defs _ _).mono (fun _ h c => ⟨(h c).1.trans ((val_main_v36_eq _ _ _ _).trans ?_),
      (h c).2.1.trans ((val_main_v37_eq _ _ _ _).trans ?_),
      (h c).2.2.1.trans ((val_main_v38_eq _ _).trans ((ref38 _ _).trans ?_)), (h c).2.2.2⟩)
      (Cert.Reference16Ideal.Value.run m' g')⟩
  · obtain ⟨a0, a1, a2, a3⟩ := hagree c
    obtain ⟨r0, r1, r2⟩ := @pre_reals facts_finite (X m c) (G m c) (D m c) (E m c) (hpre c)
    exact (congr (congr (congrArg₂ (val_main_v36 (F := Ideal)) a0 a1) a2) a3).trans (ref36 _ _ _ _ r0 r1 r2)
  · obtain ⟨a0, a1, a2, a3⟩ := hagree c
    obtain ⟨r0, r1, r2⟩ := @pre_reals facts_finite (X m c) (G m c) (D m c) (E m c) (hpre c)
    exact (congr (congr (congrArg₂ (val_main_v37 (F := Ideal)) a0 a1) a2) a3).trans (ref37 _ _ _ _ r0 r1 r2)
  · exact congrArg₂ outG (hagree c).1 (hagree c).2.2.1

end Cert.BNorm
end
-- ==== Proof.FNorm.lean ====
/- The first norm: what the call that takes 256 tokens at a time leaves. -/
module

public import proofs.«01_k».proof.Proof.Gen.Kernel31Ideal.Value
public import proofs.«01_k».proof.Proof.Gen.Reference31Ideal.Read
public import proofs.«01_k».proof.Proof.BNorm

@[expose] public section
set_option maxRecDepth 16384
noncomputable section
open Idealize.ShloMosaic Idealize.ShloMosaic.TcCoe Idealize.SL.Sem
open Idealize.ShloMosaic.Pipeline (Dat)
open Cert.Kernel31Ideal Cert.Kernel31Ideal.Gen Cert.Reference31Ideal.Read
namespace Cert.FNorm
open Cert.BNorm (Row row gain rs)
variable (m : (ℓ : Loc nD τ sig) → Buf (Elt Ideal) ℓ) (c : Dev nD)
/-- The input and the gain. -/
abbrev X : FVec Ideal S4096x2048 .f32 := m ((c : Thread nD τ).loc main_arg0)
abbrev G : FVec Ideal S2048 .f32 := m ((c : Thread nD τ).loc main_arg1)

theorem idx : ∀ t : Fin cfg0.N, win0_0.index t = ![t.val, 0] ∧ win0_1.index t = ![0, 0] ∧ win0_2.index t = ![t.val, 0] :=
  (by decide +kernel : ∀ t : Fin grid0.N, _)

/-- The blocks a point reads. -/
abbrev b0 (t : Fin cfg0.N) : FVec Ideal S256x2048 .f32 := iblk m c 0 t
abbrev b1 (t : Fin cfg0.N) : FVec Ideal S1x2048 .f32 := iblk m c 1 t
/-- A normalised row, and the array of them. -/
def nr (x g : Row) : Row := fun q => x q * rs x * g q
def norm (x : FVec Ideal S4096x2048 .f32) (g : FVec Ideal S2048 .f32) : FVec Ideal S4096x2048 .bf16 := fun i => nr (row x (i 0)) (gain g) (i 1)

variable (t : Fin cfg0.N) (r : Fin 256)
theorem bounds : 256 * t.val + r.val < 4096 := by
  have : t.val < 16 := t.isLt
  omega
/-- The token a row of a block holds. -/
abbrev tok : Fin 4096 := ⟨256 * t.val + r.val, bounds t r⟩
theorem row0 : (fun k => b0 m c t (ix2 r k)) = row (X m c) (tok t r) := funext fun k => by
  show _ = X m c (ix2 (tok t r) k)
  blk_point [b0, iblk, idx t]
theorem row1 : (fun k => b1 m c t (ix2 0 k)) = gain (G m c) := funext fun q => by
  have h : (V m c main_v0 : FVec Ideal S1x2048 .f32) = shapeCast S1x2048 (G m c) shapeCasts_S2048_S1x2048 := by
    entry_read
    rfl
  have e : b1 m c t (ix2 0 q) = (V m c main_v0 : FVec Ideal S1x2048 .f32) (ix2 0 q) := by blk_point [b1, iblk, idx t]
  rw [e, h]
  pointwise []
  rfl

theorem out (q : Fin 2048) : (dats m 0 c).after 2 t (ix2 r q) = norm (X m c) (G m c) (ix2 (tok t r) q) := by
  rw [after0_2]
  refine Eq.trans ?_ (congrArg₂ (fun x g => nr x g q) (row0 m c t r) (row1 m c t))
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]
  rfl

omit t r in
theorem final : (dats m 0 c).arrAt 2 (cfgs 0).N = norm (X m c) (G m c) := by
  refine (dats m 0 c).arrAt_eq_of_covers 2 _ (by decide +kernel) fun t hf y => ?_
  blk_simp
  obtain ⟨r, q, rfl⟩ : ∃ (r : Fin 256) (q : Fin 2048), y = ix2 r q := ⟨y 0, y 1, by idx_vars y⟩
  have e : (win0_2.blk t).view.emb (ix2 r q) = (ix2 (tok t r) q : S4096x2048.Idx) := by blk_ext [idx t]
  rw [e]
  exact out m c t r q

theorem ref (x : FVec Ideal S4096x2048 .f32) (g : FVec Ideal S2048 .f32) : val_main_v13 (F := Ideal) x g = norm x g := by
  funext i
  obtain ⟨n, q, rfl⟩ : ∃ (n : Fin 4096) (q : Fin 2048), i = ix2 n q := ⟨i 0, i 1, by idx_vars i⟩
  have h : val_main_v7 (F := Ideal) x (ix2 n 0) = rs (row x n) := Cert.BNorm.ref7 x n
  pointwise [val_main_v13, val_main_v12, val_main_v11, val_main_v10, val_main_v9, val_main_v8, h]
  rfl

theorem frame_reference : Cert.quiescent_Reference31Ideal (hReference31Ideal := Cert.Reference31Ideal.Gen.facts) := fun m g _ =>
  (θ_run Cert.Reference31Ideal.defs _ _).mono (fun _ h => ⟨fun c => (h c).2, sem_eq_zero_of_no_sems (by decide) _⟩)
    (Cert.Reference31Ideal.Value.run (F := Ideal) m g)

set_option maxHeartbeats 2000000 in
/-- The call and the reference leave the same array. -/
theorem same : Cert.algebraic_Kernel31Ideal_Reference31Ideal (hKernel31Ideal := Cert.Kernel31Ideal.Gen.facts) (hReference31Ideal := Cert.Reference31Ideal.Gen.facts) := by
  intro m g m' g' hpre hagree
  refine ⟨fun c => norm (X m c) (G m c),
    (θ_run Cert.Kernel31Ideal.defs _ _).mono (fun _ h c => ⟨(h c).1.trans (final m c), (h c).2⟩) (Cert.Kernel31Ideal.Value.run_blocks m g),
    (θ_run Cert.Reference31Ideal.defs _ _).mono (fun _ h c => ⟨(h c).1.trans ((val_main_v13_eq _ _).trans ((ref _ _).trans ?_)), (h c).2⟩)
      (Cert.Reference31Ideal.Value.run m' g')⟩
  exact congrArg₂ norm (hagree c).1 (hagree c).2

end Cert.FNorm
end
-- ==== Proof.Loss.lean ====
/- The final normalisation with the loss: what the call that takes 256 tokens at a time leaves. -/
module

public import proofs.«01_k».proof.Proof.Gen.Kernel30Ideal.Value
public import proofs.«01_k».proof.Proof.Gen.Reference30Ideal.Read
public import proofs.«01_k».proof.Proof.BNorm
public import proofs.«01_k».proof.Pre_finite30

@[expose] public section
set_option maxRecDepth 16384
noncomputable section
open Idealize.ShloMosaic Idealize.ShloMosaic.TcCoe Idealize.SL.Sem
open Idealize.ShloMosaic.Pipeline (Dat)
open Cert.Kernel30Ideal Cert.Kernel30Ideal.Gen Cert.Reference30Ideal.Read
namespace Cert.Loss
open Cert.Odd (Re)
open Cert.BNorm (Row row gain va rs width back one outG key)

/-- What one term of the loss weighs in the gradient, and in the loss. -/
def small : EReal := Ideal.ofBits .f32 0x3A000000#32
def half : EReal := Ideal.ofBits .f32 0x3F000000#32
/-- The normalised row less the target, its part of the gradient, and its mean square. -/
def df (x g t : Row) : Row := fun k => x k * rs x * g k - t k
def dl (x g t : Row) : Row := fun k => df x g t k * small
def mn (x g t : Row) : EReal := Ideal.div (∑ k, df x g t k * df x g t k) width

theorem small_eq : small = ((1 / 2048 : ℝ) : EReal) := by
  simp [small, Ideal.ofBits, Ideal.ieee, -EReal.coe_mul]; norm_num
theorem half_eq : half = ((1 / 2 : ℝ) : EReal) := by
  simp [half, Ideal.ofBits, Ideal.ieee, -EReal.coe_mul]; norm_num

theorem df_re (x g t : Row) (hx : ∀ k, Re (x k)) (hg : ∀ k, Re (g k)) (ht : ∀ k, Re (t k)) (k : Fin 2048) : Re (df x g t k) := by
  have hr : Re (rs x) := by
    choose x' hx using hx
    obtain rfl : x = fun k => (x' k : EReal) := funext hx
    obtain ⟨v, hp, hva⟩ := Cert.BNorm.va_pos x'
    exact ⟨_, by rw [rs, hva, Ideal.rsqrt_coe, if_neg (not_lt.mpr hp.le), if_neg hp.ne']⟩
  obtain ⟨a, ha⟩ := Re.mul (Re.mul (hx k) hr) (hg k)
  obtain ⟨b, hb⟩ := ht k
  exact ⟨a - b, by rw [df, ha, hb, EReal.coe_sub]⟩
theorem mn_re (x g t : Row) (h : ∀ k, Re (df x g t k)) : Re (mn x g t) := by
  obtain ⟨a, ha⟩ := Re.sum fun k => Re.mul (h k) (h k)
  exact ⟨_, by rw [mn, ha, Cert.BNorm.div_width]⟩
theorem half_sum {n : ℕ} (f : Fin n → EReal) (h : ∀ k, Re (f k)) : half * ∑ k, f k = ∑ k, half * f k := by
  choose r hr using h
  obtain rfl : f = fun k => (r k : EReal) := funext hr
  simp only [half_eq, ← EReal.coe_mul]
  rw [Cert.Odd.coe_sum, Cert.Odd.coe_sum, ← EReal.coe_mul, Finset.mul_sum]

section arrays
variable (x : FVec Ideal S4096x2048 .f32) (g : FVec Ideal S2048 .f32) (y : FVec Ideal S4096x2048 .f32)
/-- The gradient at the normalisation's output. -/
def del : FVec Ideal S4096x2048 .f32 := fun i => dl (row x (i 0)) (gain g) (row y (i 0)) (i 1)
/-- The gradient at the input, and the same rounded. -/
def outX : FVec Ideal S4096x2048 .f32 := fun i => back (row x (i 0)) (row (del x g y) (i 0)) (gain g) (i 1)
def outB : FVec Ideal S4096x2048 .bf16 := fun i => outX x g y i
/-- What one token adds to the loss, and the loss. -/
def tok (n : Fin 4096) : EReal := half * mn (row x n) (gain g) (row y n)
def outL : FVec Ideal S1x128 .f32 := fun _ => ∑ n : Fin 4096, tok x g y n
/-- The arrays hold real numbers. -/
def Real : Prop := (∀ i, Re (x i)) ∧ (∀ i, Re (g i)) ∧ ∀ i, Re (y i)
variable {x g y}
theorem Real.df (h : Real x g y) (n : Fin 4096) (k : Fin 2048) : Re (Loss.df (row x n) (gain g) (row y n) k) :=
  df_re _ _ _ (fun _ => h.1 _) (fun _ => h.2.1 _) (fun _ => h.2.2 _) k
theorem Real.mn (h : Real x g y) (n : Fin 4096) : Re (Loss.mn (row x n) (gain g) (row y n)) := mn_re _ _ _ (h.df n)
end arrays

section call
variable (m : (ℓ : Loc nD τ sig) → Buf (Elt Ideal) ℓ) (c : Dev nD)
/-- The input, the gain and the target. -/
abbrev X : FVec Ideal S4096x2048 .f32 := m ((c : Thread nD τ).loc main_arg0)
abbrev G : FVec Ideal S2048 .f32 := m ((c : Thread nD τ).loc main_arg1)
abbrev Y : FVec Ideal S4096x2048 .f32 := m ((c : Thread nD τ).loc main_arg2)

theorem idx : ∀ t : Fin cfg0.N, win0_0.index t = ![t.val, 0] ∧ win0_1.index t = ![0, 0] ∧ win0_2.index t = ![t.val, 0] ∧ win0_3.index t = ![0, 0]
    ∧ win0_4.index t = ![t.val, 0] ∧ win0_5.index t = ![t.val, 0] ∧ win0_6.index t = ![0, 0] :=
  (by decide +kernel : ∀ t : Fin grid0.N, _)

/-- The blocks a point reads. -/
abbrev b0 (t : Fin cfg0.N) : FVec Ideal S256x2048 .f32 := iblk m c 0 t
abbrev b1 (t : Fin cfg0.N) : FVec Ideal S1x2048 .f32 := iblk m c 1 t
abbrev b2 (t : Fin cfg0.N) : FVec Ideal S256x2048 .f32 := iblk m c 2 t

variable (t : Fin cfg0.N) (r : Fin 256)
theorem bounds : 256 * t.val + r.val < 4096 := by
  have : t.val < 16 := t.isLt
  omega
/-- The token a row of a block holds. -/
abbrev at' : Fin 4096 := ⟨256 * t.val + r.val, bounds t r⟩
theorem row0 : (fun k => b0 m c t (ix2 r k)) = row (X m c) (at' t r) := funext fun k => by
  show _ = X m c (ix2 (at' t r) k)
  blk_point [b0, iblk, idx t]
theorem row2 : (fun k => b2 m c t (ix2 r k)) = row (Y m c) (at' t r) := funext fun k => by
  show _ = Y m c (ix2 (at' t r) k)
  blk_point [b2, iblk, idx t]
theorem row1 : (fun k => b1 m c t (ix2 0 k)) = gain (G m c) := funext fun q => by
  have h : (V m c main_v0 : FVec Ideal S1x2048 .f32) = shapeCast S1x2048 (G m c) shapeCasts_S2048_S1x2048 := by
    entry_read
    rfl
  have e : b1 m c t (ix2 0 q) = (V m c main_v0 : FVec Ideal S1x2048 .f32) (ix2 0 q) := by blk_point [b1, iblk, idx t]
  rw [e, h]
  pointwise []
  rfl

/-- The three rows a point's formulas read. -/
theorem rows (f : Row → Row → Row → EReal) :
    f (fun k => b0 m c t (ix2 r k)) (fun k => b1 m c t (ix2 0 k)) (fun k => b2 m c t (ix2 r k)) = f (row (X m c) (at' t r)) (gain (G m c)) (row (Y m c) (at' t r)) := by
  rw [row0 m c t r, row1 m c t, row2 m c t r]

omit r in
theorem sums (f : Row → Row → Row → EReal) :
    ∑ r : Fin 256, f (fun k => b0 m c t (ix2 r k)) (fun k => b1 m c t (ix2 0 k)) (fun k => b2 m c t (ix2 r k))
      = ∑ r : Fin 256, f (row (X m c) (at' t r)) (gain (G m c)) (row (Y m c) (at' t r)) :=
  Finset.sum_congr rfl fun r _ => rows m c t r f

theorem out45 (q : Fin 2048) : (dats m 0 c).after 4 t (ix2 r q) = outX (X m c) (G m c) (Y m c) (ix2 (at' t r) q)
    ∧ (dats m 0 c).after 5 t (ix2 r q) = outX (X m c) (G m c) (Y m c) (ix2 (at' t r) q) := by
  rw [after0_4, after0_5]
  have e := rows m c t r fun x g y => back x (dl x g y) g q
  constructor
  all_goals
    refine Eq.trans ?_ e
    by_cases h0 : t.val % 16 = 0
    on_goal 1 => rw [outsAt0_A m c t h0]
    on_goal 2 => rw [outsAt0_B m c t h0]
    all_goals
      frame_open
      simp (disch := decide) only [↓View.readCov_skip, ↓View.readCov_fill, View.read_writes_junk_eq_canon, View.canon_cons_unit_lit', View.ld_unit_lit',
        View.readCov_unit_lit', View.readCov_cons_unit_lit', View.readAt_eq_ld, Memref.IsWhole.read_unread]
      pointwise [k0_pay3, k0_pay2, k0_pay11, k0_pay7, k0_pay6, k0_pay5, k0_pay4]
      rfl

theorem emb (q : Fin 2048) : (win0_4.blk t).view.emb (ix2 r q) = (ix2 (at' t r) q : S4096x2048.Idx)
    ∧ (win0_5.blk t).view.emb (ix2 r q) = (ix2 (at' t r) q : S4096x2048.Idx) :=
  ⟨by blk_ext [idx t], by blk_ext [idx t]⟩

omit t r in
theorem final45 : (dats m 0 c).arrAt 4 (cfgs 0).N = outX (X m c) (G m c) (Y m c) ∧ (dats m 0 c).arrAt 5 (cfgs 0).N = outB (X m c) (G m c) (Y m c) := by
  constructor
  on_goal 1 => refine (dats m 0 c).arrAt_eq_of_covers 4 _ (by decide +kernel) fun t hf y => ?_
  on_goal 2 => refine (dats m 0 c).arrAt_eq_of_covers 5 _ (by decide +kernel) fun t hf y => ?_
  all_goals
    blk_simp
    obtain ⟨r, q, rfl⟩ : ∃ (r : Fin 256) (q : Fin 2048), y = ix2 r q := ⟨y 0, y 1, by idx_vars y⟩
  · rw [(emb t r q).1]
    exact (out45 m c t r q).1
  · rw [(emb t r q).2]
    exact (out45 m c t r q).2

/-- What one point adds to the gain's gradient, and to the loss. -/
def term (q : Fin 2048) : EReal := ∑ r : Fin 256, one (X m c) (del (X m c) (G m c) (Y m c)) (at' t r) q
def part : EReal := half * ∑ r : Fin 256, mn (row (X m c) (at' t r)) (gain (G m c)) (row (Y m c) (at' t r))
/-- The two accumulated arrays as a point leaves them. -/
abbrev accG (q : Fin 2048) (n : ℕ) (h : n < cfg0.N) : EReal := (outsAt0 m c n h).2.2.2 (ix2 0 q)
abbrev accL (q : Fin 128) (n : ℕ) (h : n < cfg0.N) : EReal := (outsAt0 m c n h).1 (ix2 0 q)

theorem acc_A (h : t.val % 16 = 0) : (∀ q, accG m c q t.val t.isLt = 0 + term m c t q) ∧ ∀ q, accL m c q t.val t.isLt = 0 + part m c t := by
  have e := fun q => sums m c t fun x g y => dl x g y q * (x q * rs x)
  have e' := congrArg (half * ·) (sums m c t mn)
  constructor
  all_goals
    intro q
    rw [zero_add]
  on_goal 1 => refine Eq.trans ?_ (e q)
  on_goal 2 => refine Eq.trans ?_ e'
  all_goals
    dsimp only [accG, accL]
    rw [outsAt0_A m c t h]
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay8, k0_pay9, k0_pay10, k0_pay11, k0_pay7, k0_pay6, k0_pay5, k0_pay4]
    rfl
theorem acc_B (h : ¬ t.val % 16 = 0) :
    (∀ q, accG m c q t.val t.isLt = accG m c q (t.val - 1) (Nat.lt_of_le_of_lt (Nat.sub_le _ _) t.isLt) + term m c t q)
    ∧ ∀ q, accL m c q t.val t.isLt = accL m c q (t.val - 1) (Nat.lt_of_le_of_lt (Nat.sub_le _ _) t.isLt) + part m c t := by
  have e := fun q => sums m c t fun x g y => dl x g y q * (x q * rs x)
  have e' := congrArg (half * ·) (sums m c t mn)
  constructor
  all_goals
    intro q
  on_goal 1 => refine Eq.trans ?_ (congrArg (_ + ·) (e q))
  on_goal 2 => refine Eq.trans ?_ (congrArg (_ + ·) e')
  all_goals
    dsimp only [accG, accL]
    rw [outsAt0_B m c t h]
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay10, k0_pay11, k0_pay7, k0_pay6, k0_pay5, k0_pay4]
    rfl

theorem sum_tiles (f : Fin 4096 → EReal) (t : Fin cfg0.N) : ∑ s : Fin 16, ∑ k : Fin 256, f (at' ⟨16 * (t.val / 16) + s.val, by
      have : t.val < 16 := t.isLt
      show _ < 16
      omega⟩ k) = ∑ n, f n := by
  have : t.val < 16 := t.isLt
  refine Eq.trans ?_ (Fin.sum_univ_tiles 16 256 rfl f).symm
  refine Finset.sum_congr rfl fun s _ => Finset.sum_congr rfl fun k _ => congrArg f (Fin.ext ?_)
  show 256 * (16 * (t.val / 16) + s.val) + k.val = s.val * 256 + k.val
  omega

theorem final6 : (dats m 0 c).arrAt 6 (cfgs 0).N = outG (X m c) (del (X m c) (G m c) (Y m c)) := by
  refine (dats m 0 c).arrAt_eq_of_covers 6 _ (by decide +kernel) fun t hf y => ?_
  blk_simp
  rw [after0_6]
  obtain ⟨z, q, rfl⟩ : ∃ (z : Fin 1) (q : Fin 2048), y = ix2 z q := ⟨y 0, y 1, by idx_vars y⟩
  obtain rfl := Subsingleton.elim z 0
  have e : (win0_6.blk t).view.emb (ix2 0 q) = (ix2 0 q : S1x2048.Idx) := by blk_ext [idx t]
  rw [e]
  exact (Pipeline.eq_sum_fin_of_reset_step_of_flush (M := EReal) (accG m c q) 16 0 (fun t => term m c t q)
    (fun t h => (acc_A m c t h).1 q) (fun t h => (acc_B m c t h).1 q) t ((flush0_6 t).mp hf)).trans ((zero_add _).trans (sum_tiles (fun n => one (X m c) (del (X m c) (G m c) (Y m c)) n q) t))
theorem final3 (hr : Real (X m c) (G m c) (Y m c)) : (dats m 0 c).arrAt 3 (cfgs 0).N = outL (X m c) (G m c) (Y m c) := by
  refine (dats m 0 c).arrAt_eq_of_covers 3 _ (by decide +kernel) fun t hf y => ?_
  blk_simp
  rw [after0_3]
  obtain ⟨z, q, rfl⟩ : ∃ (z : Fin 1) (q : Fin 128), y = ix2 z q := ⟨y 0, y 1, by idx_vars y⟩
  obtain rfl := Subsingleton.elim z 0
  exact (Pipeline.eq_sum_fin_of_reset_step_of_flush (M := EReal) (accL m c q) 16 0 (part m c)
    (fun t h => (acc_A m c t h).2 q) (fun t h => (acc_B m c t h).2 q) t ((flush0_3 t).mp hf)).trans ((zero_add _).trans
      ((Finset.sum_congr rfl fun s _ => half_sum _ fun r => hr.mn _).trans (sum_tiles (tok (X m c) (G m c) (Y m c)) t)))
end call

section reference
variable (x : FVec Ideal S4096x2048 .f32) (g : FVec Ideal S2048 .f32) (y : FVec Ideal S4096x2048 .f32)
/-- The reference is the normalisation's gradient of its loss's gradient. -/
theorem ref50 : val_main_v50 (F := Ideal) x g y = Cert.Reference16Ideal.Read.val_main_v35 (F := Ideal) x g (val_main_v30 (F := Ideal) x g y) := rfl
theorem ref53 : val_main_v53 (F := Ideal) x g y = Cert.Reference16Ideal.Read.val_main_v38 (F := Ideal) x (val_main_v30 (F := Ideal) x g y) := rfl
theorem ref7 (n : Fin 4096) : val_main_v7 (F := Ideal) x (ix2 n 0) = rs (row x n) := Cert.BNorm.ref7 x n
theorem ref16 (n : Fin 4096) (q : Fin 2048) : val_main_v16 (F := Ideal) x g y (ix2 n q) = df (row x n) (gain g) (row y n) q := by
  pointwise [val_main_v16, val_main_v15, val_main_v14, val_main_v13, val_main_v12, val_main_v11, ref7]
  rfl
theorem ref30 : val_main_v30 (F := Ideal) x g y = del x g y := by
  funext i
  obtain ⟨n, q, rfl⟩ : ∃ (n : Fin 4096) (q : Fin 2048), i = ix2 n q := ⟨i 0, i 1, by idx_vars i⟩
  pointwise [val_main_v30, val_main_v29, val_main_v28, val_main_v27, val_main_cst_10, val_main_v26, val_main_v25, val_main_cst_9, val_main_cst_8,
    val_main_v19, val_main_v18, val_main_cst_3, ref16]
  have e : Ideal.div half width * Ideal.ofBits .f32 0x40000000#32 = small := by
    have h2 : Ideal.ofBits .f32 0x40000000#32 = ((2 : ℝ) : EReal) := by simp [Ideal.ofBits, Ideal.ieee, -EReal.coe_mul]; norm_num
    rw [h2, half_eq, small_eq, Cert.BNorm.div_width, ← EReal.coe_mul]
    norm_num
  exact ((mul_assoc _ _ _).symm.trans (congrArg (· * df (row x n) (gain g) (row y n) q) e)).trans (mul_comm _ _)
theorem ref51 (h : Real x g y) : val_main_v51 (F := Ideal) x g y = outL x g y := by
  funext i
  refine Eq.trans ?_ (half_sum _ fun n => h.mn n)
  pointwise [val_main_v51, val_main_v24, val_main_cst_7, val_main_v23, val_main_cst_6, val_main_v22, val_main_v21, val_main_cst_5, val_main_v20, val_main_cst_4,
    val_main_v17, ref16]
  rfl
theorem ref_x (h : Real x g y) : val_main_v50 (F := Ideal) x g y = outX x g y := by
  rw [ref50, ref30]
  funext i
  obtain ⟨n, q, rfl⟩ : ∃ (n : Fin 4096) (q : Fin 2048), i = ix2 n q := ⟨i 0, i 1, by idx_vars i⟩
  exact (Cert.BNorm.ref35 x g _ n q).trans (Cert.BNorm.back_eq _ _ _ (fun _ => h.1 _) (fun k => Re.mul (h.df n k) ⟨_, small_eq⟩) (fun _ => h.2.1 _) q)
end reference

theorem facts_finite : Cert.Pre_finite30.Facts := by constructor <;> decide

theorem frame_reference : Cert.quiescent_Reference30Ideal (hReference30Ideal := Cert.Reference30Ideal.Gen.facts) := fun m g _ =>
  (θ_run Cert.Reference30Ideal.defs _ _).mono (fun _ h => ⟨fun c => (h c).2.2.2.2, sem_eq_zero_of_no_sems (by decide) _⟩)
    (Cert.Reference30Ideal.Value.run (F := Ideal) m g)

/-- What the precondition gives: real numbers. -/
theorem pre_reals [hP : Cert.Pre_finite30.Facts] (x : FVec Ideal S4096x2048 .f32) (g : FVec Ideal S2048 .f32) (y : FVec Ideal S4096x2048 .f32)
    (h : (Cert.Pre_finite30.fn (F := Ideal) x g y).1 = (fun _ => 1#1) ∧ (Cert.Pre_finite30.fn (F := Ideal) x g y).2.1 = (fun _ => 1#1)
      ∧ (Cert.Pre_finite30.fn (F := Ideal) x g y).2.2 = (fun _ => 1#1)) : Real x g y := by
  exact ⟨fun i => key _ (congrFun h.1 i), fun i => key _ (congrFun h.2.1 i), fun i => key _ (congrFun h.2.2 i)⟩

set_option maxHeartbeats 2000000 in
/-- The call and the reference leave the same arrays. -/
theorem same : Cert.algebraic_Kernel30Ideal_Reference30Ideal_pre_finite30 (hKernel30Ideal := Cert.Kernel30Ideal.Gen.facts) (hReference30Ideal := Cert.Reference30Ideal.Gen.facts)
    (hPre_finite30 := facts_finite) := by
  intro m g m' g' hpre hagree
  have hr := fun c => @pre_reals facts_finite (X m c) (G m c) (Y m c) (hpre c)
  refine ⟨fun c => outL (X m c) (G m c) (Y m c), fun c => outX (X m c) (G m c) (Y m c), fun c => outB (X m c) (G m c) (Y m c),
    fun c => outG (X m c) (del (X m c) (G m c) (Y m c)),
    (θ_run Cert.Kernel30Ideal.defs _ _).mono (fun _ h c => ⟨(h c).1.trans (final3 m c (hr c)), (h c).2.1.trans (final45 m c).1,
      (h c).2.2.1.trans (final45 m c).2, (h c).2.2.2.1.trans (final6 m c), (h c).2.2.2.2⟩)
      (Cert.Kernel30Ideal.Value.run_blocks m g),
    (θ_run Cert.Reference30Ideal.defs _ _).mono (fun _ h c => ⟨(h c).1.trans ((val_main_v51_eq _ _ _).trans ?_), (h c).2.1.trans ((val_main_v50_eq m' c).trans ?_),
      (h c).2.2.1.trans ((val_main_v52_eq m' c).trans ?_), (h c).2.2.2.1.trans ((val_main_v53_eq _ _ _).trans ?_), (h c).2.2.2.2⟩)
      (Cert.Reference30Ideal.Value.run m' g')⟩
  all_goals
    obtain ⟨a0, a1, a2⟩ := hagree c
  · exact (congr (congrArg₂ (val_main_v51 (F := Ideal)) a0 a1) a2).trans (ref51 _ _ _ (hr c))
  · exact (congr (congrArg₂ (val_main_v50 (F := Ideal)) a0 a1) a2).trans (ref_x _ _ _ (hr c))
  · exact (congr (congrArg₂ (val_main_v50 (F := Ideal)) a0 a1) a2).trans (ref_x _ _ _ (hr c))
  · refine (congr (congrArg₂ (val_main_v53 (F := Ideal)) a0 a1) a2).trans ?_
    exact (Cert.BNorm.ref38 _ _).trans (congrArg (outG (X m c)) (ref30 _ _ _))

end Cert.Loss
end
-- ==== Proof.Adam.lean ====
/- The optimiser's step at one element, as the version writes it and as the reference does. -/
module

public import proofs.«01_k».proof.Proof.Reals
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
noncomputable section
open Idealize.ShloMosaic Idealize.ShloMosaic.TcCoe
namespace Cert.Adam

/-- The gradient: its parts, added. -/
def grad {D R C : Nat} {φ : FTy} (P : FVec Ideal ⟨3, ![D, R, C]⟩ φ) (r : Fin R) (q : Fin C) : EReal := ∑ d : Fin D, (P (ix3 d r q) : EReal)
/-- The new first moment. -/
def mom (m g : EReal) : EReal := Ideal.ofBits .f32 0x3F666666#32 * m + Ideal.ofBits .f32 0x3DCCCCCD#32 * g
/-- The new second moment. -/
def vel (v g : EReal) : EReal := Ideal.ofBits .f32 0x3F7FBE77#32 * v + Ideal.ofBits .f32 0x3A83126F#32 * (g * g)
/-- The step, from the moments with the bias taken off. -/
def stepBy (w a b : EReal) : EReal :=
  Ideal.ofBits .f32 0xBA83126F#32 * (Ideal.div a (Ideal.sqrt b + Ideal.ofBits .f32 0x322BCC77#32) + Ideal.ofBits .f32 0x3C23D70A#32 * w)
/-- The reciprocals of the bias correction's divisors. -/
abbrev unbias1 : EReal := ((8388608 / 5463681 : ℝ) : EReal)
abbrev unbias2 : EReal := ((268435456 / 2672307 : ℝ) : EReal)
/-- The step, from the new moments. -/
def step (w a b : EReal) : EReal := stepBy w (a * unbias1) (b * unbias2)

theorem div1 (x : EReal) : Ideal.div x (Ideal.ofBits .f32 0x3F26BD02#32) = x * unbias1 := by
  have h : Ideal.ofBits .f32 0x3F26BD02#32 = ((5463681 / 8388608 : ℝ) : EReal) := by
    simp [Ideal.ofBits, Ideal.ieee, -EReal.coe_mul]; norm_num
  rw [h, Ideal.div_coe (by norm_num), unbias1]
  congr 2; norm_num
theorem div2 (x : EReal) : Ideal.div x (Ideal.ofBits .f32 0x3C231ACC#32) = x * unbias2 := by
  have h : Ideal.ofBits .f32 0x3C231ACC#32 = ((2672307 / 268435456 : ℝ) : EReal) := by
    simp [Ideal.ofBits, Ideal.ieee, -EReal.coe_mul]; norm_num
  rw [h, Ideal.div_coe (by norm_num), unbias2]
  congr 2; norm_num
/-- The reference's step is the version's. -/
theorem step_eq (w a b : EReal) :
    stepBy w (Ideal.div a (Ideal.ofBits .f32 0x3F26BD02#32)) (Ideal.div b (Ideal.ofBits .f32 0x3C231ACC#32)) = step w a b := by
  rw [div1, div2, step]

section layers
variable {L R C N : Nat} (h : N = L * R)
/-- The layer that a row of the flattened array lies in, and its place there. -/
def lay (n : Fin N) : Fin L := ⟨n.val / R, Nat.div_lt_of_lt_mul (by rw [Nat.mul_comm, ← h]; exact n.isLt)⟩
def place (n : Fin N) : Fin R := ⟨n.val % R, Nat.mod_lt _ (Nat.pos_of_ne_zero fun e => by subst e; have := n.isLt; omega)⟩
theorem lay_eq (n : Fin N) (j : Fin L) (k : Fin R) (e : n.val = R * j.val + k.val) : lay h n = j ∧ place h n = k := by
  have hk := k.isLt
  refine ⟨Fin.ext ?_, Fin.ext ?_⟩
  · simp only [lay, e]; rw [Nat.mul_add_div (by omega), Nat.div_eq_of_lt hk, Nat.add_zero]
  · simp only [place, e]; rw [Nat.mul_add_mod, Nat.mod_eq_of_lt hk]
theorem lay_iff (n : Fin N) (j : Fin L) {s t : Nat} (e : R = s * t) : n.val / s / t = j.val ↔ lay h n = j := by
  rw [Nat.div_div_eq_div_mul, ← e, Fin.ext_iff, lay]

/-- The layers' rows, one after another. -/
def flat (e : FVec Ideal ⟨3, ![L, R, C]⟩ .f32) : FVec Ideal ⟨2, ![N, C]⟩ .f32 := fun i => e (ix3 (lay h (i 0)) (place h (i 0)) (i 1))
/-- The same with one layer's rows replaced. -/
def put (j : Fin L) (new : Fin R → Fin C → EReal) (e : FVec Ideal ⟨3, ![L, R, C]⟩ .f32) : FVec Ideal ⟨2, ![N, C]⟩ .f32 :=
  fun i => if lay h (i 0) = j then new (place h (i 0)) (i 1) else flat h e i
theorem put_case (j l : Fin L) (new : Fin R → Fin C → EReal) (e : FVec Ideal ⟨3, ![L, R, C]⟩ .f32) (n : Fin N) (k : Fin R) (hn : n.val = R * l.val + k.val) (q : Fin C) :
    (if j = l then new k q else e (ix3 l k q)) = put h j new e (ix2 n q) := by
  obtain ⟨a, b⟩ := lay_eq h n l k hn
  have e' : put h j new e (ix2 n q) = if lay h n = j then new (place h n) q else e (ix3 (lay h n) (place h n) q) := rfl
  rw [e', a, b]
  exact if_congr eq_comm rfl rfl
theorem flat_at (a : FVec Ideal ⟨3, ![L, R, C]⟩ .f32) (n : Fin N) (j : Fin L) (k : Fin R) (e : n.val = R * j.val + k.val) (q : Fin C) :
    flat h a (ix2 n q) = a (ix3 j k q) :=
  congrArg₂ (fun x y => a (ix3 x y q)) (lay_eq h n j k e).1 (lay_eq h n j k e).2
/-- A layer's new rows, at the place of any row. -/
def over (new : Fin R → Fin C → EReal) : FVec Ideal ⟨2, ![N, C]⟩ .f32 := fun i => new (place h (i 0)) (i 1)
theorem over_at (new : Fin R → Fin C → EReal) (n : Fin N) (j : Fin L) (k : Fin R) (e : n.val = R * j.val + k.val) (q : Fin C) :
    new k q = over h new (ix2 n q) :=
  (congrArg (fun x => new x q) (lay_eq h n j k e).2).symm
theorem put_of {s t : Nat} (j : Fin L) (new : Fin R → Fin C → EReal) (e : FVec Ideal ⟨3, ![L, R, C]⟩ .f32) (x : FVec Ideal ⟨2, ![N, C]⟩ .f32) (hR : R = s * t) (hx : x = flat h e) :
    (fun i => if (i 0).val / s / t = j.val then over h new i else x i) = put h j new e := by
  subst hx
  exact funext fun i => if_congr (lay_iff h (i 0) j hR) rfl rfl
/-- What replaces them. -/
def momL {D : Nat} {φ : FTy} (j : Fin L) (a : FVec Ideal ⟨3, ![L, R, C]⟩ .f32) (p : FVec Ideal ⟨3, ![D, R, C]⟩ φ) (r : Fin R) (q : Fin C) : EReal :=
  mom (a (ix3 j r q)) (grad p r q)
def velL {D : Nat} {φ : FTy} (j : Fin L) (a : FVec Ideal ⟨3, ![L, R, C]⟩ .f32) (p : FVec Ideal ⟨3, ![D, R, C]⟩ φ) (r : Fin R) (q : Fin C) : EReal :=
  vel (a (ix3 j r q)) (grad p r q)
def stepL {D : Nat} {φ : FTy} (j : Fin L) (w a b : FVec Ideal ⟨3, ![L, R, C]⟩ .f32) (p : FVec Ideal ⟨3, ![D, R, C]⟩ φ) (r : Fin R) (q : Fin C) : EReal :=
  step (w (ix3 j r q)) (momL j a p r q) (velL j b p r q)
/-- The step as the reference writes it. -/
def stepR {D : Nat} {φ : FTy} (j : Fin L) (w a b : FVec Ideal ⟨3, ![L, R, C]⟩ .f32) (p : FVec Ideal ⟨3, ![D, R, C]⟩ φ) (r : Fin R) (q : Fin C) : EReal :=
  stepBy (w (ix3 j r q)) (Ideal.div (momL j a p r q) (Ideal.ofBits .f32 0x3F26BD02#32)) (Ideal.div (velL j b p r q) (Ideal.ofBits .f32 0x3C231ACC#32))
theorem stepR_eq {D : Nat} {φ : FTy} (j : Fin L) (w a b : FVec Ideal ⟨3, ![L, R, C]⟩ .f32) (p : FVec Ideal ⟨3, ![D, R, C]⟩ φ) : stepR j w a b p = stepL j w a b p :=
  funext fun _ => funext fun _ => step_eq _ _ _
/-- Equal arrays give equal results. -/
theorem grad_congr {D : Nat} {φ : FTy} (j : Fin L) {e e' : FVec Ideal ⟨3, ![L, R, C]⟩ .f32} {p p' : FVec Ideal ⟨3, ![D, R, C]⟩ φ} (hp : p = p') (he : e = e') :
    put h j (fun r q => grad p r q) e = put h j (fun r q => grad p' r q) e' := by subst hp he; rfl
theorem momL_congr {D : Nat} {φ : FTy} (j : Fin L) {a a' e e' : FVec Ideal ⟨3, ![L, R, C]⟩ .f32} {p p' : FVec Ideal ⟨3, ![D, R, C]⟩ φ} (ha : a = a') (hp : p = p') (he : e = e') :
    put h j (momL j a p) e = put h j (momL j a' p') e' := by subst ha hp he; rfl
theorem velL_congr {D : Nat} {φ : FTy} (j : Fin L) {a a' e e' : FVec Ideal ⟨3, ![L, R, C]⟩ .f32} {p p' : FVec Ideal ⟨3, ![D, R, C]⟩ φ} (ha : a = a') (hp : p = p') (he : e = e') :
    put h j (velL j a p) e = put h j (velL j a' p') e' := by subst ha hp he; rfl
theorem stepL_congr {D : Nat} {φ : FTy} (j : Fin L) {w w' a a' b b' e e' : FVec Ideal ⟨3, ![L, R, C]⟩ .f32} {p p' : FVec Ideal ⟨3, ![D, R, C]⟩ φ}
    (hw : w = w') (ha : a = a') (hb : b = b') (hp : p = p') (he : e = e') :
    put h j (stepL j w a b p) e = put h j (stepL j w' a' b' p') e' := by subst hw ha hb hp he; rfl
end layers

/-- Two layers set end to end. -/
theorem put_two {R C N : Nat} (h : N = 2 * R) (j : Fin 2) (new : Fin R → Fin C → EReal) (e : FVec Ideal ⟨3, ![2, R, C]⟩ .f32) (n : Fin N) (q : Fin C) :
    (if x : n.val < R then (if j = 0 then new ⟨n.val, x⟩ q else e (ix3 0 ⟨n.val, x⟩ q))
      else if j = 1 then new ⟨n.val - R, by have := n.isLt; omega⟩ q else e (ix3 1 ⟨n.val - R, by have := n.isLt; omega⟩ q)) = put h j new e (ix2 n q) := by
  by_cases x : n.val < R
  · rw [dif_pos x]; exact put_case h j 0 new e n _ (show n.val = R * 0 + n.val by omega) q
  · rw [dif_neg x]; exact put_case h j 1 new e n _ (show n.val = R * 1 + (n.val - R) by omega) q
/-- Four layers set end to end. -/
theorem put_four {R C N : Nat} (h : N = 4 * R) (j : Fin 4) (new : Fin R → Fin C → EReal) (e : FVec Ideal ⟨3, ![4, R, C]⟩ .f32) (n : Fin N) (q : Fin C) :
    (if x : n.val < R then (if j = 0 then new ⟨n.val, x⟩ q else e (ix3 0 ⟨n.val, x⟩ q))
      else if x : n.val - R < R then (if j = 1 then new ⟨n.val - R, x⟩ q else e (ix3 1 ⟨n.val - R, x⟩ q))
      else if x : n.val - R - R < R then (if j = 2 then new ⟨n.val - R - R, x⟩ q else e (ix3 2 ⟨n.val - R - R, x⟩ q))
      else if j = 3 then new ⟨n.val - R - R - R, by have := n.isLt; omega⟩ q else e (ix3 3 ⟨n.val - R - R - R, by have := n.isLt; omega⟩ q)) = put h j new e (ix2 n q) := by
  by_cases x0 : n.val < R
  · rw [dif_pos x0]; exact put_case h j 0 new e n _ (show n.val = R * 0 + n.val by omega) q
  rw [dif_neg x0]
  by_cases x1 : n.val - R < R
  · rw [dif_pos x1]; exact put_case h j 1 new e n _ (show n.val = R * 1 + (n.val - R) by omega) q
  rw [dif_neg x1]
  by_cases x2 : n.val - R - R < R
  · rw [dif_pos x2]; exact put_case h j 2 new e n _ (show n.val = R * 2 + (n.val - R - R) by omega) q
  rw [dif_neg x2]
  exact put_case h j 3 new e n _ (show n.val = R * 3 + (n.val - R - R - R) by omega) q

end Cert.Adam
end
-- ==== Proof.AdFf3.lean ====
/- The optimiser's call for the feed-forward weights, fourth of the stacked layers. -/
module

public import proofs.«01_k».proof.Proof.Gen.Kernel29Ideal.Value
public import proofs.«01_k».proof.Proof.Gen.Reference29Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel29Ideal Cert.Kernel29Ideal.Gen
namespace Cert.AdFf3
open Cert.Adam
variable (m : (ℓ : Loc nD τ sig) → Buf (Elt Ideal) ℓ) (c : Dev nD)

/-- The weight and its moments, the gradient's parts of one layer, and the arrays that the call writes into. -/
abbrev A0 : FVec Ideal S4x704x2048 .f32 := m ((c : Thread nD τ).loc main_arg0)
abbrev A1 : FVec Ideal S4x704x2048 .f32 := m ((c : Thread nD τ).loc main_arg1)
abbrev A2 : FVec Ideal S4x704x2048 .f32 := m ((c : Thread nD τ).loc main_arg2)
abbrev A3 : FVec Ideal S4x704x2048 .bf16 := m ((c : Thread nD τ).loc main_arg3)
abbrev A4 : FVec Ideal S4x704x2048 .f32 := m ((c : Thread nD τ).loc main_arg4)
abbrev A5 : FVec Ideal S4x704x2048 .f32 := m ((c : Thread nD τ).loc main_arg5)
abbrev A6 : FVec Ideal S4x704x2048 .f32 := m ((c : Thread nD τ).loc main_arg6)
abbrev A7 : FVec Ideal S4x704x2048 .f32 := m ((c : Thread nD τ).loc main_arg7)

theorem rows : 2816 = 4 * 704 := rfl
theorem idx : ∀ t : Fin cfg0.N, win0_0.index t = ![t.val + 12, 0] ∧ win0_1.index t = ![t.val + 12, 0] ∧ win0_2.index t = ![t.val + 12, 0] ∧ win0_3.index t = ![0, t.val, 0]
    ∧ win0_4.index t = ![t.val + 12, 0] ∧ win0_5.index t = ![t.val + 12, 0] ∧ win0_6.index t = ![t.val + 12, 0] ∧ win0_7.index t = ![t.val + 12, 0] :=
  (by decide +kernel : ∀ t : Fin grid0.N, _)

/-- What replaces the layer's rows. -/
abbrev new4 : Fin 704 → Fin 2048 → EReal := fun r q => grad (A3 m c) r q
abbrev new5 : Fin 704 → Fin 2048 → EReal := stepL 3 (A0 m c) (A1 m c) (A2 m c) (A3 m c)
abbrev new6 : Fin 704 → Fin 2048 → EReal := momL 3 (A1 m c) (A3 m c)
abbrev new7 : Fin 704 → Fin 2048 → EReal := velL 3 (A2 m c) (A3 m c)

/-- The blocks a point reads. -/
abbrev b0 (t : Fin cfg0.N) : FVec Ideal S176x2048 .f32 := iblk m c 0 t
abbrev b1 (t : Fin cfg0.N) : FVec Ideal S176x2048 .f32 := iblk m c 1 t
abbrev b2 (t : Fin cfg0.N) : FVec Ideal S176x2048 .f32 := iblk m c 2 t
abbrev b3 (t : Fin cfg0.N) : FVec Ideal S4x176x2048 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S4x704x2048 .f32) : shapeCast S2816x2048 a shapeCasts_S4x704x2048_S2816x2048 = flat rows a := by
  funext i
  idx_vars i
  pointwise []
  rfl
theorem hosts : (V m c main_v4 : FVec Ideal S2816x2048 .f32) = flat rows (A0 m c)
    ∧ (V m c main_v5 : FVec Ideal S2816x2048 .f32) = flat rows (A1 m c)
    ∧ (V m c main_v6 : FVec Ideal S2816x2048 .f32) = flat rows (A2 m c)
    ∧ (V m c main_v7_0 : FVec Ideal S2816x2048 .f32) = flat rows (A4 m c)
    ∧ (V m c main_v7_1 : FVec Ideal S2816x2048 .f32) = flat rows (A5 m c)
    ∧ (V m c main_v7_2 : FVec Ideal S2816x2048 .f32) = flat rows (A6 m c)
    ∧ (V m c main_v7_3 : FVec Ideal S2816x2048 .f32) = flat rows (A7 m c) := by
  refine ⟨?_, ?_, ?_, ?_, ?_, ?_, ?_⟩
  all_goals
    refine Eq.trans ?_ (spread _)
    entry_read
    rfl

section blocks
variable (t : Fin cfg0.N) (r : Fin 176) (k : Fin 704) (h : k.val = 176 * t.val + r.val) (q : Fin 2048)
include h
theorem in0 : b0 m c t (ix2 r q) = A0 m c (ix3 3 k q) := by
  rw [← flat_at rows (A0 m c) ⟨704 * 3 + k.val, by omega⟩ 3 k rfl q, ← (hosts m c).1]
  blk_point [b0, iblk, idx t]
theorem in1 : b1 m c t (ix2 r q) = A1 m c (ix3 3 k q) := by
  rw [← flat_at rows (A1 m c) ⟨704 * 3 + k.val, by omega⟩ 3 k rfl q, ← (hosts m c).2.1]
  blk_point [b1, iblk, idx t]
theorem in2 : b2 m c t (ix2 r q) = A2 m c (ix3 3 k q) := by
  rw [← flat_at rows (A2 m c) ⟨704 * 3 + k.val, by omega⟩ 3 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S176x2048 .f32) (x3 : FVec Ideal S4x176x2048 .bf16) (r : Fin 176) (q : Fin 2048)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 176) (k : Fin 704) (h : k.val = 176 * t.val + r.val) (q : Fin 2048)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 3 (new4 m c) (A4 m c)
    ∧ (dats m 0 c).arrAt 5 (cfgs 0).N = put rows 3 (new5 m c) (A5 m c)
    ∧ (dats m 0 c).arrAt 6 (cfgs 0).N = put rows 3 (new6 m c) (A6 m c)
    ∧ (dats m 0 c).arrAt 7 (cfgs 0).N = put rows 3 (new7 m c) (A7 m c) := by
  refine ⟨
    ((dats m 0 c).arrAt_eq_of_coversWhere 4 (over rows (new4 m c)) (P := fun i : S2816x2048.Idx => (i 0).val / 176 / 4 = 3)
      (fun β => β (0 : Fin _) / 4 = 3) (by decide +kernel) (fun t hf y => ?_) (fun i => Iff.rfl)).trans (put_of rows 3 _ _ _ rfl (hosts m c).2.2.2.1),
    ((dats m 0 c).arrAt_eq_of_coversWhere 5 (over rows (new5 m c)) (P := fun i : S2816x2048.Idx => (i 0).val / 176 / 4 = 3)
      (fun β => β (0 : Fin _) / 4 = 3) (by decide +kernel) (fun t hf y => ?_) (fun i => Iff.rfl)).trans (put_of rows 3 _ _ _ rfl (hosts m c).2.2.2.2.1),
    ((dats m 0 c).arrAt_eq_of_coversWhere 6 (over rows (new6 m c)) (P := fun i : S2816x2048.Idx => (i 0).val / 176 / 4 = 3)
      (fun β => β (0 : Fin _) / 4 = 3) (by decide +kernel) (fun t hf y => ?_) (fun i => Iff.rfl)).trans (put_of rows 3 _ _ _ rfl (hosts m c).2.2.2.2.2.1),
    ((dats m 0 c).arrAt_eq_of_coversWhere 7 (over rows (new7 m c)) (P := fun i : S2816x2048.Idx => (i 0).val / 176 / 4 = 3)
      (fun β => β (0 : Fin _) / 4 = 3) (by decide +kernel) (fun t hf y => ?_) (fun i => Iff.rfl)).trans (put_of rows 3 _ _ _ rfl (hosts m c).2.2.2.2.2.2)⟩
  all_goals
    blk_simp
    obtain ⟨r, q, rfl⟩ : ∃ (r : Fin 176) (q : Fin 2048), y = ix2 r q := ⟨y 0, y 1, by idx_vars y⟩
    have hn : 176 * t.val + r.val < 704 := by have ht : t.val < 4 := t.isLt; omega
    obtain ⟨y4, y5, y6, y7⟩ := ats m c t r ⟨_, hn⟩ rfl q
    refine Eq.trans ?_ ((over_at rows _ ⟨704 * 3 + (176 * t.val + r.val), by omega⟩ 3 ⟨_, hn⟩ rfl q).trans (congrArg (over rows _) (Eq.symm (by blk_ext [idx t]))))
  exacts [y4, y5, y6, y7]

section reference
open Cert.Reference29Ideal.Read
variable (w a b : FVec Ideal S4x704x2048 .f32) (p : FVec Ideal S4x704x2048 .bf16) (e : FVec Ideal S4x704x2048 .f32)
theorem refs :
    val_main_v38 (F := Ideal) p e = put rows 3 (fun r q => grad p r q) e
    ∧ val_main_v45 (F := Ideal) w a b p e = put rows 3 (stepL 3 w a b p) e
    ∧ val_main_v52 (F := Ideal) a p e = put rows 3 (momL 3 a p) e
    ∧ val_main_v59 (F := Ideal) b p e = put rows 3 (velL 3 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8]
  exacts [(put_four rows 3 (fun r q => grad p r q) e i0 i1),
    (put_four rows 3 (stepR 3 w a b p) e i0 i1).trans (by rw [stepR_eq]),
    (put_four rows 3 (momL 3 a p) e i0 i1),
    (put_four rows 3 (velL 3 b p) e i0 i1)]
end reference

theorem frame_reference : Cert.quiescent_Reference29Ideal (hReference29Ideal := Cert.Reference29Ideal.Gen.facts) := fun m g _ =>
  (θ_run Cert.Reference29Ideal.defs _ _).mono (fun _ h => ⟨fun c => (h c).2.2.2.2, sem_eq_zero_of_no_sems (by decide) _⟩)
    (Cert.Reference29Ideal.Value.run (F := Ideal) m g)

/-- The two named values are the ones the constants stand for. -/
theorem preserves : Cert.preserves_Kernel29_Kernel29Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel29Ideal_Reference29Ideal (hKernel29Ideal := Cert.Kernel29Ideal.Gen.facts) (hReference29Ideal := Cert.Reference29Ideal.Gen.facts) := by
  intro m g m' g' hpre hagree
  refine ⟨fun c => put rows 3 (new4 m c) (A4 m c), fun c => put rows 3 (new5 m c) (A5 m c), fun c => put rows 3 (new6 m c) (A6 m c), fun c => put rows 3 (new7 m c) (A7 m c),
    (θ_run Cert.Kernel29Ideal.defs _ _).mono (fun _ h c => ?_) (Cert.Kernel29Ideal.Value.run_blocks m g),
    (θ_run Cert.Reference29Ideal.defs _ _).mono (fun _ h c => ?_) (Cert.Reference29Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference29Ideal.Read in
    exact ⟨e4.trans ((val_main_v38_eq _ _).trans ((refs 0 0 0 _ _).1.trans (grad_congr rows 3 a3 a4))),
      e5.trans ((val_main_v45_eq _ _ _ _ _).trans ((refs _ _ _ _ _).2.1.trans (stepL_congr rows 3 a0 a1 a2 a3 a5))),
      e6.trans ((val_main_v52_eq _ _ _).trans ((refs 0 _ 0 _ _).2.2.1.trans (momL_congr rows 3 a1 a3 a6))),
      e7.trans ((val_main_v59_eq _ _ _).trans ((refs 0 0 _ _ _).2.2.2.trans (velL_congr rows 3 a2 a3 a7))), e⟩

end Cert.AdFf3

end
-- ==== Proof.AdFf2.lean ====
/- The optimiser's call for the feed-forward weights, third of the stacked layers. -/
module

public import proofs.«01_k».proof.Proof.Gen.Kernel28Ideal.Value
public import proofs.«01_k».proof.Proof.Gen.Reference28Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel28Ideal Cert.Kernel28Ideal.Gen
namespace Cert.AdFf2
open Cert.Adam
variable (m : (ℓ : Loc nD τ sig) → Buf (Elt Ideal) ℓ) (c : Dev nD)

/-- The weight and its moments, the gradient's parts of one layer, and the arrays that the call writes into. -/
abbrev A0 : FVec Ideal S4x704x2048 .f32 := m ((c : Thread nD τ).loc main_arg0)
abbrev A1 : FVec Ideal S4x704x2048 .f32 := m ((c : Thread nD τ).loc main_arg1)
abbrev A2 : FVec Ideal S4x704x2048 .f32 := m ((c : Thread nD τ).loc main_arg2)
abbrev A3 : FVec Ideal S4x704x2048 .bf16 := m ((c : Thread nD τ).loc main_arg3)
abbrev A4 : FVec Ideal S4x704x2048 .f32 := m ((c : Thread nD τ).loc main_arg4)
abbrev A5 : FVec Ideal S4x704x2048 .f32 := m ((c : Thread nD τ).loc main_arg5)
abbrev A6 : FVec Ideal S4x704x2048 .f32 := m ((c : Thread nD τ).loc main_arg6)
abbrev A7 : FVec Ideal S4x704x2048 .f32 := m ((c : Thread nD τ).loc main_arg7)

theorem rows : 2816 = 4 * 704 := rfl
theorem idx : ∀ t : Fin cfg0.N, win0_0.index t = ![t.val + 8, 0] ∧ win0_1.index t = ![t.val + 8, 0] ∧ win0_2.index t = ![t.val + 8, 0] ∧ win0_3.index t = ![0, t.val, 0]
    ∧ win0_4.index t = ![t.val + 8, 0] ∧ win0_5.index t = ![t.val + 8, 0] ∧ win0_6.index t = ![t.val + 8, 0] ∧ win0_7.index t = ![t.val + 8, 0] :=
  (by decide +kernel : ∀ t : Fin grid0.N, _)

/-- What replaces the layer's rows. -/
abbrev new4 : Fin 704 → Fin 2048 → EReal := fun r q => grad (A3 m c) r q
abbrev new5 : Fin 704 → Fin 2048 → EReal := stepL 2 (A0 m c) (A1 m c) (A2 m c) (A3 m c)
abbrev new6 : Fin 704 → Fin 2048 → EReal := momL 2 (A1 m c) (A3 m c)
abbrev new7 : Fin 704 → Fin 2048 → EReal := velL 2 (A2 m c) (A3 m c)

/-- The blocks a point reads. -/
abbrev b0 (t : Fin cfg0.N) : FVec Ideal S176x2048 .f32 := iblk m c 0 t
abbrev b1 (t : Fin cfg0.N) : FVec Ideal S176x2048 .f32 := iblk m c 1 t
abbrev b2 (t : Fin cfg0.N) : FVec Ideal S176x2048 .f32 := iblk m c 2 t
abbrev b3 (t : Fin cfg0.N) : FVec Ideal S4x176x2048 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S4x704x2048 .f32) : shapeCast S2816x2048 a shapeCasts_S4x704x2048_S2816x2048 = flat rows a := by
  funext i
  idx_vars i
  pointwise []
  rfl
theorem hosts : (V m c main_v4 : FVec Ideal S2816x2048 .f32) = flat rows (A0 m c)
    ∧ (V m c main_v5 : FVec Ideal S2816x2048 .f32) = flat rows (A1 m c)
    ∧ (V m c main_v6 : FVec Ideal S2816x2048 .f32) = flat rows (A2 m c)
    ∧ (V m c main_v7_0 : FVec Ideal S2816x2048 .f32) = flat rows (A4 m c)
    ∧ (V m c main_v7_1 : FVec Ideal S2816x2048 .f32) = flat rows (A5 m c)
    ∧ (V m c main_v7_2 : FVec Ideal S2816x2048 .f32) = flat rows (A6 m c)
    ∧ (V m c main_v7_3 : FVec Ideal S2816x2048 .f32) = flat rows (A7 m c) := by
  refine ⟨?_, ?_, ?_, ?_, ?_, ?_, ?_⟩
  all_goals
    refine Eq.trans ?_ (spread _)
    entry_read
    rfl

section blocks
variable (t : Fin cfg0.N) (r : Fin 176) (k : Fin 704) (h : k.val = 176 * t.val + r.val) (q : Fin 2048)
include h
theorem in0 : b0 m c t (ix2 r q) = A0 m c (ix3 2 k q) := by
  rw [← flat_at rows (A0 m c) ⟨704 * 2 + k.val, by omega⟩ 2 k rfl q, ← (hosts m c).1]
  blk_point [b0, iblk, idx t]
theorem in1 : b1 m c t (ix2 r q) = A1 m c (ix3 2 k q) := by
  rw [← flat_at rows (A1 m c) ⟨704 * 2 + k.val, by omega⟩ 2 k rfl q, ← (hosts m c).2.1]
  blk_point [b1, iblk, idx t]
theorem in2 : b2 m c t (ix2 r q) = A2 m c (ix3 2 k q) := by
  rw [← flat_at rows (A2 m c) ⟨704 * 2 + k.val, by omega⟩ 2 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S176x2048 .f32) (x3 : FVec Ideal S4x176x2048 .bf16) (r : Fin 176) (q : Fin 2048)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 176) (k : Fin 704) (h : k.val = 176 * t.val + r.val) (q : Fin 2048)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 2 (new4 m c) (A4 m c)
    ∧ (dats m 0 c).arrAt 5 (cfgs 0).N = put rows 2 (new5 m c) (A5 m c)
    ∧ (dats m 0 c).arrAt 6 (cfgs 0).N = put rows 2 (new6 m c) (A6 m c)
    ∧ (dats m 0 c).arrAt 7 (cfgs 0).N = put rows 2 (new7 m c) (A7 m c) := by
  refine ⟨
    ((dats m 0 c).arrAt_eq_of_coversWhere 4 (over rows (new4 m c)) (P := fun i : S2816x2048.Idx => (i 0).val / 176 / 4 = 2)
      (fun β => β (0 : Fin _) / 4 = 2) (by decide +kernel) (fun t hf y => ?_) (fun i => Iff.rfl)).trans (put_of rows 2 _ _ _ rfl (hosts m c).2.2.2.1),
    ((dats m 0 c).arrAt_eq_of_coversWhere 5 (over rows (new5 m c)) (P := fun i : S2816x2048.Idx => (i 0).val / 176 / 4 = 2)
      (fun β => β (0 : Fin _) / 4 = 2) (by decide +kernel) (fun t hf y => ?_) (fun i => Iff.rfl)).trans (put_of rows 2 _ _ _ rfl (hosts m c).2.2.2.2.1),
    ((dats m 0 c).arrAt_eq_of_coversWhere 6 (over rows (new6 m c)) (P := fun i : S2816x2048.Idx => (i 0).val / 176 / 4 = 2)
      (fun β => β (0 : Fin _) / 4 = 2) (by decide +kernel) (fun t hf y => ?_) (fun i => Iff.rfl)).trans (put_of rows 2 _ _ _ rfl (hosts m c).2.2.2.2.2.1),
    ((dats m 0 c).arrAt_eq_of_coversWhere 7 (over rows (new7 m c)) (P := fun i : S2816x2048.Idx => (i 0).val / 176 / 4 = 2)
      (fun β => β (0 : Fin _) / 4 = 2) (by decide +kernel) (fun t hf y => ?_) (fun i => Iff.rfl)).trans (put_of rows 2 _ _ _ rfl (hosts m c).2.2.2.2.2.2)⟩
  all_goals
    blk_simp
    obtain ⟨r, q, rfl⟩ : ∃ (r : Fin 176) (q : Fin 2048), y = ix2 r q := ⟨y 0, y 1, by idx_vars y⟩
    have hn : 176 * t.val + r.val < 704 := by have ht : t.val < 4 := t.isLt; omega
    obtain ⟨y4, y5, y6, y7⟩ := ats m c t r ⟨_, hn⟩ rfl q
    refine Eq.trans ?_ ((over_at rows _ ⟨704 * 2 + (176 * t.val + r.val), by omega⟩ 2 ⟨_, hn⟩ rfl q).trans (congrArg (over rows _) (Eq.symm (by blk_ext [idx t]))))
  exacts [y4, y5, y6, y7]

section reference
open Cert.Reference28Ideal.Read
variable (w a b : FVec Ideal S4x704x2048 .f32) (p : FVec Ideal S4x704x2048 .bf16) (e : FVec Ideal S4x704x2048 .f32)
theorem refs :
    val_main_v38 (F := Ideal) p e = put rows 2 (fun r q => grad p r q) e
    ∧ val_main_v45 (F := Ideal) w a b p e = put rows 2 (stepL 2 w a b p) e
    ∧ val_main_v52 (F := Ideal) a p e = put rows 2 (momL 2 a p) e
    ∧ val_main_v59 (F := Ideal) b p e = put rows 2 (velL 2 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8]
  exacts [(put_four rows 2 (fun r q => grad p r q) e i0 i1),
    (put_four rows 2 (stepR 2 w a b p) e i0 i1).trans (by rw [stepR_eq]),
    (put_four rows 2 (momL 2 a p) e i0 i1),
    (put_four rows 2 (velL 2 b p) e i0 i1)]
end reference

theorem frame_reference : Cert.quiescent_Reference28Ideal (hReference28Ideal := Cert.Reference28Ideal.Gen.facts) := fun m g _ =>
  (θ_run Cert.Reference28Ideal.defs _ _).mono (fun _ h => ⟨fun c => (h c).2.2.2.2, sem_eq_zero_of_no_sems (by decide) _⟩)
    (Cert.Reference28Ideal.Value.run (F := Ideal) m g)

/-- The two named values are the ones the constants stand for. -/
theorem preserves : Cert.preserves_Kernel28_Kernel28Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel28Ideal_Reference28Ideal (hKernel28Ideal := Cert.Kernel28Ideal.Gen.facts) (hReference28Ideal := Cert.Reference28Ideal.Gen.facts) := by
  intro m g m' g' hpre hagree
  refine ⟨fun c => put rows 2 (new4 m c) (A4 m c), fun c => put rows 2 (new5 m c) (A5 m c), fun c => put rows 2 (new6 m c) (A6 m c), fun c => put rows 2 (new7 m c) (A7 m c),
    (θ_run Cert.Kernel28Ideal.defs _ _).mono (fun _ h c => ?_) (Cert.Kernel28Ideal.Value.run_blocks m g),
    (θ_run Cert.Reference28Ideal.defs _ _).mono (fun _ h c => ?_) (Cert.Reference28Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference28Ideal.Read in
    exact ⟨e4.trans ((val_main_v38_eq _ _).trans ((refs 0 0 0 _ _).1.trans (grad_congr rows 2 a3 a4))),
      e5.trans ((val_main_v45_eq _ _ _ _ _).trans ((refs _ _ _ _ _).2.1.trans (stepL_congr rows 2 a0 a1 a2 a3 a5))),
      e6.trans ((val_main_v52_eq _ _ _).trans ((refs 0 _ 0 _ _).2.2.1.trans (momL_congr rows 2 a1 a3 a6))),
      e7.trans ((val_main_v59_eq _ _ _).trans ((refs 0 0 _ _ _).2.2.2.trans (velL_congr rows 2 a2 a3 a7))), e⟩

end Cert.AdFf2

end
-- ==== Proof.AdFf1.lean ====
/- The optimiser's call for the feed-forward weights, second of the stacked layers. -/
module

public import proofs.«01_k».proof.Proof.Gen.Kernel27Ideal.Value
public import proofs.«01_k».proof.Proof.Gen.Reference27Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel27Ideal Cert.Kernel27Ideal.Gen
namespace Cert.AdFf1
open Cert.Adam
variable (m : (ℓ : Loc nD τ sig) → Buf (Elt Ideal) ℓ) (c : Dev nD)

/-- The weight and its moments, the gradient's parts of one layer, and the arrays that the call writes into. -/
abbrev A0 : FVec Ideal S4x704x2048 .f32 := m ((c : Thread nD τ).loc main_arg0)
abbrev A1 : FVec Ideal S4x704x2048 .f32 := m ((c : Thread nD τ).loc main_arg1)
abbrev A2 : FVec Ideal S4x704x2048 .f32 := m ((c : Thread nD τ).loc main_arg2)
abbrev A3 : FVec Ideal S4x704x2048 .bf16 := m ((c : Thread nD τ).loc main_arg3)
abbrev A4 : FVec Ideal S4x704x2048 .f32 := m ((c : Thread nD τ).loc main_arg4)
abbrev A5 : FVec Ideal S4x704x2048 .f32 := m ((c : Thread nD τ).loc main_arg5)
abbrev A6 : FVec Ideal S4x704x2048 .f32 := m ((c : Thread nD τ).loc main_arg6)
abbrev A7 : FVec Ideal S4x704x2048 .f32 := m ((c : Thread nD τ).loc main_arg7)

theorem rows : 2816 = 4 * 704 := rfl
theorem idx : ∀ t : Fin cfg0.N, win0_0.index t = ![t.val + 4, 0] ∧ win0_1.index t = ![t.val + 4, 0] ∧ win0_2.index t = ![t.val + 4, 0] ∧ win0_3.index t = ![0, t.val, 0]
    ∧ win0_4.index t = ![t.val + 4, 0] ∧ win0_5.index t = ![t.val + 4, 0] ∧ win0_6.index t = ![t.val + 4, 0] ∧ win0_7.index t = ![t.val + 4, 0] :=
  (by decide +kernel : ∀ t : Fin grid0.N, _)

/-- What replaces the layer's rows. -/
abbrev new4 : Fin 704 → Fin 2048 → EReal := fun r q => grad (A3 m c) r q
abbrev new5 : Fin 704 → Fin 2048 → EReal := stepL 1 (A0 m c) (A1 m c) (A2 m c) (A3 m c)
abbrev new6 : Fin 704 → Fin 2048 → EReal := momL 1 (A1 m c) (A3 m c)
abbrev new7 : Fin 704 → Fin 2048 → EReal := velL 1 (A2 m c) (A3 m c)

/-- The blocks a point reads. -/
abbrev b0 (t : Fin cfg0.N) : FVec Ideal S176x2048 .f32 := iblk m c 0 t
abbrev b1 (t : Fin cfg0.N) : FVec Ideal S176x2048 .f32 := iblk m c 1 t
abbrev b2 (t : Fin cfg0.N) : FVec Ideal S176x2048 .f32 := iblk m c 2 t
abbrev b3 (t : Fin cfg0.N) : FVec Ideal S4x176x2048 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S4x704x2048 .f32) : shapeCast S2816x2048 a shapeCasts_S4x704x2048_S2816x2048 = flat rows a := by
  funext i
  idx_vars i
  pointwise []
  rfl
theorem hosts : (V m c main_v4 : FVec Ideal S2816x2048 .f32) = flat rows (A0 m c)
    ∧ (V m c main_v5 : FVec Ideal S2816x2048 .f32) = flat rows (A1 m c)
    ∧ (V m c main_v6 : FVec Ideal S2816x2048 .f32) = flat rows (A2 m c)
    ∧ (V m c main_v7_0 : FVec Ideal S2816x2048 .f32) = flat rows (A4 m c)
    ∧ (V m c main_v7_1 : FVec Ideal S2816x2048 .f32) = flat rows (A5 m c)
    ∧ (V m c main_v7_2 : FVec Ideal S2816x2048 .f32) = flat rows (A6 m c)
    ∧ (V m c main_v7_3 : FVec Ideal S2816x2048 .f32) = flat rows (A7 m c) := by
  refine ⟨?_, ?_, ?_, ?_, ?_, ?_, ?_⟩
  all_goals
    refine Eq.trans ?_ (spread _)
    entry_read
    rfl

section blocks
variable (t : Fin cfg0.N) (r : Fin 176) (k : Fin 704) (h : k.val = 176 * t.val + r.val) (q : Fin 2048)
include h
theorem in0 : b0 m c t (ix2 r q) = A0 m c (ix3 1 k q) := by
  rw [← flat_at rows (A0 m c) ⟨704 * 1 + k.val, by omega⟩ 1 k rfl q, ← (hosts m c).1]
  blk_point [b0, iblk, idx t]
theorem in1 : b1 m c t (ix2 r q) = A1 m c (ix3 1 k q) := by
  rw [← flat_at rows (A1 m c) ⟨704 * 1 + k.val, by omega⟩ 1 k rfl q, ← (hosts m c).2.1]
  blk_point [b1, iblk, idx t]
theorem in2 : b2 m c t (ix2 r q) = A2 m c (ix3 1 k q) := by
  rw [← flat_at rows (A2 m c) ⟨704 * 1 + k.val, by omega⟩ 1 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S176x2048 .f32) (x3 : FVec Ideal S4x176x2048 .bf16) (r : Fin 176) (q : Fin 2048)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 176) (k : Fin 704) (h : k.val = 176 * t.val + r.val) (q : Fin 2048)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 1 (new4 m c) (A4 m c)
    ∧ (dats m 0 c).arrAt 5 (cfgs 0).N = put rows 1 (new5 m c) (A5 m c)
    ∧ (dats m 0 c).arrAt 6 (cfgs 0).N = put rows 1 (new6 m c) (A6 m c)
    ∧ (dats m 0 c).arrAt 7 (cfgs 0).N = put rows 1 (new7 m c) (A7 m c) := by
  refine ⟨
    ((dats m 0 c).arrAt_eq_of_coversWhere 4 (over rows (new4 m c)) (P := fun i : S2816x2048.Idx => (i 0).val / 176 / 4 = 1)
      (fun β => β (0 : Fin _) / 4 = 1) (by decide +kernel) (fun t hf y => ?_) (fun i => Iff.rfl)).trans (put_of rows 1 _ _ _ rfl (hosts m c).2.2.2.1),
    ((dats m 0 c).arrAt_eq_of_coversWhere 5 (over rows (new5 m c)) (P := fun i : S2816x2048.Idx => (i 0).val / 176 / 4 = 1)
      (fun β => β (0 : Fin _) / 4 = 1) (by decide +kernel) (fun t hf y => ?_) (fun i => Iff.rfl)).trans (put_of rows 1 _ _ _ rfl (hosts m c).2.2.2.2.1),
    ((dats m 0 c).arrAt_eq_of_coversWhere 6 (over rows (new6 m c)) (P := fun i : S2816x2048.Idx => (i 0).val / 176 / 4 = 1)
      (fun β => β (0 : Fin _) / 4 = 1) (by decide +kernel) (fun t hf y => ?_) (fun i => Iff.rfl)).trans (put_of rows 1 _ _ _ rfl (hosts m c).2.2.2.2.2.1),
    ((dats m 0 c).arrAt_eq_of_coversWhere 7 (over rows (new7 m c)) (P := fun i : S2816x2048.Idx => (i 0).val / 176 / 4 = 1)
      (fun β => β (0 : Fin _) / 4 = 1) (by decide +kernel) (fun t hf y => ?_) (fun i => Iff.rfl)).trans (put_of rows 1 _ _ _ rfl (hosts m c).2.2.2.2.2.2)⟩
  all_goals
    blk_simp
    obtain ⟨r, q, rfl⟩ : ∃ (r : Fin 176) (q : Fin 2048), y = ix2 r q := ⟨y 0, y 1, by idx_vars y⟩
    have hn : 176 * t.val + r.val < 704 := by have ht : t.val < 4 := t.isLt; omega
    obtain ⟨y4, y5, y6, y7⟩ := ats m c t r ⟨_, hn⟩ rfl q
    refine Eq.trans ?_ ((over_at rows _ ⟨704 * 1 + (176 * t.val + r.val), by omega⟩ 1 ⟨_, hn⟩ rfl q).trans (congrArg (over rows _) (Eq.symm (by blk_ext [idx t]))))
  exacts [y4, y5, y6, y7]

section reference
open Cert.Reference27Ideal.Read
variable (w a b : FVec Ideal S4x704x2048 .f32) (p : FVec Ideal S4x704x2048 .bf16) (e : FVec Ideal S4x704x2048 .f32)
theorem refs :
    val_main_v38 (F := Ideal) p e = put rows 1 (fun r q => grad p r q) e
    ∧ val_main_v45 (F := Ideal) w a b p e = put rows 1 (stepL 1 w a b p) e
    ∧ val_main_v52 (F := Ideal) a p e = put rows 1 (momL 1 a p) e
    ∧ val_main_v59 (F := Ideal) b p e = put rows 1 (velL 1 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8]
  exacts [(put_four rows 1 (fun r q => grad p r q) e i0 i1),
    (put_four rows 1 (stepR 1 w a b p) e i0 i1).trans (by rw [stepR_eq]),
    (put_four rows 1 (momL 1 a p) e i0 i1),
    (put_four rows 1 (velL 1 b p) e i0 i1)]
end reference

theorem frame_reference : Cert.quiescent_Reference27Ideal (hReference27Ideal := Cert.Reference27Ideal.Gen.facts) := fun m g _ =>
  (θ_run Cert.Reference27Ideal.defs _ _).mono (fun _ h => ⟨fun c => (h c).2.2.2.2, sem_eq_zero_of_no_sems (by decide) _⟩)
    (Cert.Reference27Ideal.Value.run (F := Ideal) m g)

/-- The two named values are the ones the constants stand for. -/
theorem preserves : Cert.preserves_Kernel27_Kernel27Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel27Ideal_Reference27Ideal (hKernel27Ideal := Cert.Kernel27Ideal.Gen.facts) (hReference27Ideal := Cert.Reference27Ideal.Gen.facts) := by
  intro m g m' g' hpre hagree
  refine ⟨fun c => put rows 1 (new4 m c) (A4 m c), fun c => put rows 1 (new5 m c) (A5 m c), fun c => put rows 1 (new6 m c) (A6 m c), fun c => put rows 1 (new7 m c) (A7 m c),
    (θ_run Cert.Kernel27Ideal.defs _ _).mono (fun _ h c => ?_) (Cert.Kernel27Ideal.Value.run_blocks m g),
    (θ_run Cert.Reference27Ideal.defs _ _).mono (fun _ h c => ?_) (Cert.Reference27Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference27Ideal.Read in
    exact ⟨e4.trans ((val_main_v38_eq _ _).trans ((refs 0 0 0 _ _).1.trans (grad_congr rows 1 a3 a4))),
      e5.trans ((val_main_v45_eq _ _ _ _ _).trans ((refs _ _ _ _ _).2.1.trans (stepL_congr rows 1 a0 a1 a2 a3 a5))),
      e6.trans ((val_main_v52_eq _ _ _).trans ((refs 0 _ 0 _ _).2.2.1.trans (momL_congr rows 1 a1 a3 a6))),
      e7.trans ((val_main_v59_eq _ _ _).trans ((refs 0 0 _ _ _).2.2.2.trans (velL_congr rows 1 a2 a3 a7))), e⟩

end Cert.AdFf1

end
-- ==== Proof.AdFf0.lean ====
/- The optimiser's call for the feed-forward weights, first of the stacked layers. -/
module

public import proofs.«01_k».proof.Proof.Gen.Kernel26Ideal.Value
public import proofs.«01_k».proof.Proof.Gen.Reference26Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel26Ideal Cert.Kernel26Ideal.Gen
namespace Cert.AdFf0
open Cert.Adam
variable (m : (ℓ : Loc nD τ sig) → Buf (Elt Ideal) ℓ) (c : Dev nD)

/-- The weight and its moments, the gradient's parts of one layer, and the arrays that the call writes into. -/
abbrev A0 : FVec Ideal S4x704x2048 .f32 := m ((c : Thread nD τ).loc main_arg0)
abbrev A1 : FVec Ideal S4x704x2048 .f32 := m ((c : Thread nD τ).loc main_arg1)
abbrev A2 : FVec Ideal S4x704x2048 .f32 := m ((c : Thread nD τ).loc main_arg2)
abbrev A3 : FVec Ideal S4x704x2048 .bf16 := m ((c : Thread nD τ).loc main_arg3)
abbrev A4 : FVec Ideal S4x704x2048 .f32 := m ((c : Thread nD τ).loc main_arg4)
abbrev A5 : FVec Ideal S4x704x2048 .f32 := m ((c : Thread nD τ).loc main_arg5)
abbrev A6 : FVec Ideal S4x704x2048 .f32 := m ((c : Thread nD τ).loc main_arg6)
abbrev A7 : FVec Ideal S4x704x2048 .f32 := m ((c : Thread nD τ).loc main_arg7)

theorem rows : 2816 = 4 * 704 := rfl
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- What replaces the layer's rows. -/
abbrev new4 : Fin 704 → Fin 2048 → EReal := fun r q => grad (A3 m c) r q
abbrev new5 : Fin 704 → Fin 2048 → EReal := stepL 0 (A0 m c) (A1 m c) (A2 m c) (A3 m c)
abbrev new6 : Fin 704 → Fin 2048 → EReal := momL 0 (A1 m c) (A3 m c)
abbrev new7 : Fin 704 → Fin 2048 → EReal := velL 0 (A2 m c) (A3 m c)

/-- The blocks a point reads. -/
abbrev b0 (t : Fin cfg0.N) : FVec Ideal S176x2048 .f32 := iblk m c 0 t
abbrev b1 (t : Fin cfg0.N) : FVec Ideal S176x2048 .f32 := iblk m c 1 t
abbrev b2 (t : Fin cfg0.N) : FVec Ideal S176x2048 .f32 := iblk m c 2 t
abbrev b3 (t : Fin cfg0.N) : FVec Ideal S4x176x2048 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S4x704x2048 .f32) : shapeCast S2816x2048 a shapeCasts_S4x704x2048_S2816x2048 = flat rows a := by
  funext i
  idx_vars i
  pointwise []
  rfl
theorem hosts : (V m c main_v4 : FVec Ideal S2816x2048 .f32) = flat rows (A0 m c)
    ∧ (V m c main_v5 : FVec Ideal S2816x2048 .f32) = flat rows (A1 m c)
    ∧ (V m c main_v6 : FVec Ideal S2816x2048 .f32) = flat rows (A2 m c)
    ∧ (V m c main_v7_0 : FVec Ideal S2816x2048 .f32) = flat rows (A4 m c)
    ∧ (V m c main_v7_1 : FVec Ideal S2816x2048 .f32) = flat rows (A5 m c)
    ∧ (V m c main_v7_2 : FVec Ideal S2816x2048 .f32) = flat rows (A6 m c)
    ∧ (V m c main_v7_3 : FVec Ideal S2816x2048 .f32) = flat rows (A7 m c) := by
  refine ⟨?_, ?_, ?_, ?_, ?_, ?_, ?_⟩
  all_goals
    refine Eq.trans ?_ (spread _)
    entry_read
    rfl

section blocks
variable (t : Fin cfg0.N) (r : Fin 176) (k : Fin 704) (h : k.val = 176 * t.val + r.val) (q : Fin 2048)
include h
theorem in0 : b0 m c t (ix2 r q) = A0 m c (ix3 0 k q) := by
  rw [← flat_at rows (A0 m c) ⟨704 * 0 + k.val, by omega⟩ 0 k rfl q, ← (hosts m c).1]
  blk_point [b0, iblk, idx t]
theorem in1 : b1 m c t (ix2 r q) = A1 m c (ix3 0 k q) := by
  rw [← flat_at rows (A1 m c) ⟨704 * 0 + k.val, by omega⟩ 0 k rfl q, ← (hosts m c).2.1]
  blk_point [b1, iblk, idx t]
theorem in2 : b2 m c t (ix2 r q) = A2 m c (ix3 0 k q) := by
  rw [← flat_at rows (A2 m c) ⟨704 * 0 + k.val, by omega⟩ 0 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S176x2048 .f32) (x3 : FVec Ideal S4x176x2048 .bf16) (r : Fin 176) (q : Fin 2048)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 176) (k : Fin 704) (h : k.val = 176 * t.val + r.val) (q : Fin 2048)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 0 (new4 m c) (A4 m c)
    ∧ (dats m 0 c).arrAt 5 (cfgs 0).N = put rows 0 (new5 m c) (A5 m c)
    ∧ (dats m 0 c).arrAt 6 (cfgs 0).N = put rows 0 (new6 m c) (A6 m c)
    ∧ (dats m 0 c).arrAt 7 (cfgs 0).N = put rows 0 (new7 m c) (A7 m c) := by
  refine ⟨
    ((dats m 0 c).arrAt_eq_of_coversWhere 4 (over rows (new4 m c)) (P := fun i : S2816x2048.Idx => (i 0).val / 176 / 4 = 0)
      (fun β => β (0 : Fin _) / 4 = 0) (by decide +kernel) (fun t hf y => ?_) (fun i => Iff.rfl)).trans (put_of rows 0 _ _ _ rfl (hosts m c).2.2.2.1),
    ((dats m 0 c).arrAt_eq_of_coversWhere 5 (over rows (new5 m c)) (P := fun i : S2816x2048.Idx => (i 0).val / 176 / 4 = 0)
      (fun β => β (0 : Fin _) / 4 = 0) (by decide +kernel) (fun t hf y => ?_) (fun i => Iff.rfl)).trans (put_of rows 0 _ _ _ rfl (hosts m c).2.2.2.2.1),
    ((dats m 0 c).arrAt_eq_of_coversWhere 6 (over rows (new6 m c)) (P := fun i : S2816x2048.Idx => (i 0).val / 176 / 4 = 0)
      (fun β => β (0 : Fin _) / 4 = 0) (by decide +kernel) (fun t hf y => ?_) (fun i => Iff.rfl)).trans (put_of rows 0 _ _ _ rfl (hosts m c).2.2.2.2.2.1),
    ((dats m 0 c).arrAt_eq_of_coversWhere 7 (over rows (new7 m c)) (P := fun i : S2816x2048.Idx => (i 0).val / 176 / 4 = 0)
      (fun β => β (0 : Fin _) / 4 = 0) (by decide +kernel) (fun t hf y => ?_) (fun i => Iff.rfl)).trans (put_of rows 0 _ _ _ rfl (hosts m c).2.2.2.2.2.2)⟩
  all_goals
    blk_simp
    obtain ⟨r, q, rfl⟩ : ∃ (r : Fin 176) (q : Fin 2048), y = ix2 r q := ⟨y 0, y 1, by idx_vars y⟩
    have hn : 176 * t.val + r.val < 704 := by have ht : t.val < 4 := t.isLt; omega
    obtain ⟨y4, y5, y6, y7⟩ := ats m c t r ⟨_, hn⟩ rfl q
    refine Eq.trans ?_ ((over_at rows _ ⟨704 * 0 + (176 * t.val + r.val), by omega⟩ 0 ⟨_, hn⟩ rfl q).trans (congrArg (over rows _) (Eq.symm (by blk_ext [idx t]))))
  exacts [y4, y5, y6, y7]

section reference
open Cert.Reference26Ideal.Read
variable (w a b : FVec Ideal S4x704x2048 .f32) (p : FVec Ideal S4x704x2048 .bf16) (e : FVec Ideal S4x704x2048 .f32)
theorem refs :
    val_main_v38 (F := Ideal) p e = put rows 0 (fun r q => grad p r q) e
    ∧ val_main_v45 (F := Ideal) w a b p e = put rows 0 (stepL 0 w a b p) e
    ∧ val_main_v52 (F := Ideal) a p e = put rows 0 (momL 0 a p) e
    ∧ val_main_v59 (F := Ideal) b p e = put rows 0 (velL 0 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_v44, val_main_v45, val_main_v46, val_main_v47, val_main_v48, val_main_v49, val_main_v50, val_main_v51, val_main_v52, val_main_v53, val_main_v54, val_main_v55, val_main_v56, val_main_v57, val_main_v58, val_main_v59, val_main_cst, val_main_cst_0, val_main_cst_1, val_main_cst_2, val_main_cst_3, val_main_cst_4, val_main_cst_5, val_main_cst_6, val_main_cst_7, val_main_cst_8]
  exacts [(put_four rows 0 (fun r q => grad p r q) e i0 i1),
    (put_four rows 0 (stepR 0 w a b p) e i0 i1).trans (by rw [stepR_eq]),
    (put_four rows 0 (momL 0 a p) e i0 i1),
    (put_four rows 0 (velL 0 b p) e i0 i1)]
end reference

theorem frame_reference : Cert.quiescent_Reference26Ideal (hReference26Ideal := Cert.Reference26Ideal.Gen.facts) := fun m g _ =>
  (θ_run Cert.Reference26Ideal.defs _ _).mono (fun _ h => ⟨fun c => (h c).2.2.2.2, sem_eq_zero_of_no_sems (by decide) _⟩)
    (Cert.Reference26Ideal.Value.run (F := Ideal) m g)

/-- The two named values are the ones the constants stand for. -/
theorem preserves : Cert.preserves_Kernel26_Kernel26Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel26Ideal_Reference26Ideal (hKernel26Ideal := Cert.Kernel26Ideal.Gen.facts) (hReference26Ideal := Cert.Reference26Ideal.Gen.facts) := by
  intro m g m' g' hpre hagree
  refine ⟨fun c => put rows 0 (new4 m c) (A4 m c), fun c => put rows 0 (new5 m c) (A5 m c), fun c => put rows 0 (new6 m c) (A6 m c), fun c => put rows 0 (new7 m c) (A7 m c),
    (θ_run Cert.Kernel26Ideal.defs _ _).mono (fun _ h c => ?_) (Cert.Kernel26Ideal.Value.run_blocks m g),
    (θ_run Cert.Reference26Ideal.defs _ _).mono (fun _ h c => ?_) (Cert.Reference26Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference26Ideal.Read in
    exact ⟨e4.trans ((val_main_v38_eq _ _).trans ((refs 0 0 0 _ _).1.trans (grad_congr rows 0 a3 a4))),
      e5.trans ((val_main_v45_eq _ _ _ _ _).trans ((refs _ _ _ _ _).2.1.trans (stepL_congr rows 0 a0 a1 a2 a3 a5))),
      e6.trans ((val_main_v52_eq _ _ _).trans ((refs 0 _ 0 _ _).2.2.1.trans (momL_congr rows 0 a1 a3 a6))),
      e7.trans ((val_main_v59_eq _ _ _).trans ((refs 0 0 _ _ _).2.2.2.trans (velL_congr rows 0 a2 a3 a7))), e⟩

end Cert.AdFf0

end
-- ==== Proof.AdOut1.lean ====
/- The optimiser's call for the mixer output weight, second of the stacked layers. -/
module

public import proofs.«01_k».proof.Proof.Gen.Kernel25Ideal.Value
public import proofs.«01_k».proof.Proof.Gen.Reference25Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel25Ideal Cert.Kernel25Ideal.Gen
namespace Cert.AdOut1
open Cert.Adam
variable (m : (ℓ : Loc nD τ sig) → Buf (Elt Ideal) ℓ) (c : Dev nD)

/-- The weight and its moments, the gradient's parts of one layer, and the arrays that the call writes into. -/
abbrev A0 : FVec Ideal S2x256x2048 .f32 := m ((c : Thread nD τ).loc main_arg0)
abbrev A1 : FVec Ideal S2x256x2048 .f32 := m ((c : Thread nD τ).loc main_arg1)
abbrev A2 : FVec Ideal S2x256x2048 .f32 := m ((c : Thread nD τ).loc main_arg2)
abbrev A3 : FVec Ideal S4x256x2048 .bf16 := m ((c : Thread nD τ).loc main_arg3)
abbrev A4 : FVec Ideal S2x256x2048 .f32 := m ((c : Thread nD τ).loc main_arg4)
abbrev A5 : FVec Ideal S2x256x2048 .f32 := m ((c : Thread nD τ).loc main_arg5)
abbrev A6 : FVec Ideal S2x256x2048 .f32 := m ((c : Thread nD τ).loc main_arg6)
abbrev A7 : FVec Ideal S2x256x2048 .f32 := m ((c : Thread nD τ).loc main_arg7)

theorem rows : 512 = 2 * 256 := rfl
theorem idx : ∀ t : Fin cfg0.N, win0_0.index t = ![t.val + 1, 0] ∧ win0_1.index t = ![t.val + 1, 0] ∧ win0_2.index t = ![t.val + 1, 0] ∧ win0_3.index t = ![0, t.val, 0]
    ∧ win0_4.index t = ![t.val + 1, 0] ∧ win0_5.index t = ![t.val + 1, 0] ∧ win0_6.index t = ![t.val + 1, 0] ∧ win0_7.index t = ![t.val + 1, 0] :=
  (by decide +kernel : ∀ t : Fin grid0.N, _)

/-- What replaces the layer's rows. -/
abbrev new4 : Fin 256 → Fin 2048 → EReal := fun r q => grad (A3 m c) r q
abbrev new5 : Fin 256 → Fin 2048 → EReal := stepL 1 (A0 m c) (A1 m c) (A2 m c) (A3 m c)
abbrev new6 : Fin 256 → Fin 2048 → EReal := momL 1 (A1 m c) (A3 m c)
abbrev new7 : Fin 256 → Fin 2048 → EReal := velL 1 (A2 m c) (A3 m c)

/-- The blocks a point reads. -/
abbrev b0 (t : Fin cfg0.N) : FVec Ideal S256x2048 .f32 := iblk m c 0 t
abbrev b1 (t : Fin cfg0.N) : FVec Ideal S256x2048 .f32 := iblk m c 1 t
abbrev b2 (t : Fin cfg0.N) : FVec Ideal S256x2048 .f32 := iblk m c 2 t
abbrev b3 (t : Fin cfg0.N) : FVec Ideal S4x256x2048 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S2x256x2048 .f32) : shapeCast S512x2048 a shapeCasts_S2x256x2048_S512x2048 = flat rows a := by
  funext i
  idx_vars i
  pointwise []
  rfl
theorem hosts : (V m c main_v4 : FVec Ideal S512x2048 .f32) = flat rows (A0 m c)
    ∧ (V m c main_v5 : FVec Ideal S512x2048 .f32) = flat rows (A1 m c)
    ∧ (V m c main_v6 : FVec Ideal S512x2048 .f32) = flat rows (A2 m c)
    ∧ (V m c main_v7_0 : FVec Ideal S512x2048 .f32) = flat rows (A4 m c)
    ∧ (V m c main_v7_1 : FVec Ideal S512x2048 .f32) = flat rows (A5 m c)
    ∧ (V m c main_v7_2 : FVec Ideal S512x2048 .f32) = flat rows (A6 m c)
    ∧ (V m c main_v7_3 : FVec Ideal S512x2048 .f32) = flat rows (A7 m c) := by
  refine ⟨?_, ?_, ?_, ?_, ?_, ?_, ?_⟩
  all_goals
    refine Eq.trans ?_ (spread _)
    entry_read
    rfl

section blocks
variable (t : Fin cfg0.N) (r : Fin 256) (k : Fin 256) (h : k.val = 256 * t.val + r.val) (q : Fin 2048)
include h
theorem in0 : b0 m c t (ix2 r q) = A0 m c (ix3 1 k q) := by
  rw [← flat_at rows (A0 m c) ⟨256 * 1 + k.val, by omega⟩ 1 k rfl q, ← (hosts m c).1]
  blk_point [b0, iblk, idx t]
theorem in1 : b1 m c t (ix2 r q) = A1 m c (ix3 1 k q) := by
  rw [← flat_at rows (A1 m c) ⟨256 * 1 + k.val, by omega⟩ 1 k rfl q, ← (hosts m c).2.1]
  blk_point [b1, iblk, idx t]
theorem in2 : b2 m c t (ix2 r q) = A2 m c (ix3 1 k q) := by
  rw [← flat_at rows (A2 m c) ⟨256 * 1 + k.val, by omega⟩ 1 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S256x2048 .f32) (x3 : FVec Ideal S4x256x2048 .bf16) (r : Fin 256) (q : Fin 2048)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 256) (k : Fin 256) (h : k.val = 256 * t.val + r.val) (q : Fin 2048)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 1 (new4 m c) (A4 m c)
    ∧ (dats m 0 c).arrAt 5 (cfgs 0).N = put rows 1 (new5 m c) (A5 m c)
    ∧ (dats m 0 c).arrAt 6 (cfgs 0).N = put rows 1 (new6 m c) (A6 m c)
    ∧ (dats m 0 c).arrAt 7 (cfgs 0).N = put rows 1 (new7 m c) (A7 m c) := by
  refine ⟨
    ((dats m 0 c).arrAt_eq_of_coversWhere 4 (over rows (new4 m c)) (P := fun i : S512x2048.Idx => (i 0).val / 256 / 1 = 1)
      (fun β => β (0 : Fin _) / 1 = 1) (by decide +kernel) (fun t hf y => ?_) (fun i => Iff.rfl)).trans (put_of rows 1 _ _ _ rfl (hosts m c).2.2.2.1),
    ((dats m 0 c).arrAt_eq_of_coversWhere 5 (over rows (new5 m c)) (P := fun i : S512x2048.Idx => (i 0).val / 256 / 1 = 1)
      (fun β => β (0 : Fin _) / 1 = 1) (by decide +kernel) (fun t hf y => ?_) (fun i => Iff.rfl)).trans (put_of rows 1 _ _ _ rfl (hosts m c).2.2.2.2.1),
    ((dats m 0 c).arrAt_eq_of_coversWhere 6 (over rows (new6 m c)) (P := fun i : S512x2048.Idx => (i 0).val / 256 / 1 = 1)
      (fun β => β (0 : Fin _) / 1 = 1) (by decide +kernel) (fun t hf y => ?_) (fun i => Iff.rfl)).trans (put_of rows 1 _ _ _ rfl (hosts m c).2.2.2.2.2.1),
    ((dats m 0 c).arrAt_eq_of_coversWhere 7 (over rows (new7 m c)) (P := fun i : S512x2048.Idx => (i 0).val / 256 / 1 = 1)
      (fun β => β (0 : Fin _) / 1 = 1) (by decide +kernel) (fun t hf y => ?_) (fun i => Iff.rfl)).trans (put_of rows 1 _ _ _ rfl (hosts m c).2.2.2.2.2.2)⟩
  all_goals
    blk_simp
    obtain ⟨r, q, rfl⟩ : ∃ (r : Fin 256) (q : Fin 2048), y = ix2 r q := ⟨y 0, y 1, by idx_vars y⟩
    have hn : 256 * t.val + r.val < 256 := by have ht : t.val < 1 := t.isLt; omega
    obtain ⟨y4, y5, y6, y7⟩ := ats m c t r ⟨_, hn⟩ rfl q
    refine Eq.trans ?_ ((over_at rows _ ⟨256 * 1 + (256 * t.val + r.val), by omega⟩ 1 ⟨_, hn⟩ rfl q).trans (congrArg (over rows _) (Eq.symm (by blk_ext [idx t]))))
  exacts [y4, y5, y6, y7]

section reference
open Cert.Reference25Ideal.Read
variable (w a b : FVec Ideal S2x256x2048 .f32) (p : FVec Ideal S4x256x2048 .bf16) (e : FVec Ideal S2x256x2048 .f32)
theorem refs :
    val_main_v34 (F := Ideal) p e = put rows 1 (fun r q => grad p r q) e
    ∧ val_main_v37 (F := Ideal) w a b p e = put rows 1 (stepL 1 w a b p) e
    ∧ val_main_v40 (F := Ideal) a p e = put rows 1 (momL 1 a p) e
    ∧ val_main_v43 (F := Ideal) b p e = put rows 1 (velL 1 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_0, val_main_cst_1, val_main_cst_2, val_main_cst_3, val_main_cst_4, val_main_cst_5, val_main_cst_6, val_main_cst_7, val_main_cst_8]
  exacts [(put_two rows 1 (fun r q => grad p r q) e i0 i1),
    (put_two rows 1 (stepR 1 w a b p) e i0 i1).trans (by rw [stepR_eq]),
    (put_two rows 1 (momL 1 a p) e i0 i1),
    (put_two rows 1 (velL 1 b p) e i0 i1)]
end reference

theorem frame_reference : Cert.quiescent_Reference25Ideal (hReference25Ideal := Cert.Reference25Ideal.Gen.facts) := fun m g _ =>
  (θ_run Cert.Reference25Ideal.defs _ _).mono (fun _ h => ⟨fun c => (h c).2.2.2.2, sem_eq_zero_of_no_sems (by decide) _⟩)
    (Cert.Reference25Ideal.Value.run (F := Ideal) m g)

/-- The two named values are the ones the constants stand for. -/
theorem preserves : Cert.preserves_Kernel25_Kernel25Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel25Ideal_Reference25Ideal (hKernel25Ideal := Cert.Kernel25Ideal.Gen.facts) (hReference25Ideal := Cert.Reference25Ideal.Gen.facts) := by
  intro m g m' g' hpre hagree
  refine ⟨fun c => put rows 1 (new4 m c) (A4 m c), fun c => put rows 1 (new5 m c) (A5 m c), fun c => put rows 1 (new6 m c) (A6 m c), fun c => put rows 1 (new7 m c) (A7 m c),
    (θ_run Cert.Kernel25Ideal.defs _ _).mono (fun _ h c => ?_) (Cert.Kernel25Ideal.Value.run_blocks m g),
    (θ_run Cert.Reference25Ideal.defs _ _).mono (fun _ h c => ?_) (Cert.Reference25Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference25Ideal.Read in
    exact ⟨e4.trans ((val_main_v34_eq _ _).trans ((refs 0 0 0 _ _).1.trans (grad_congr rows 1 a3 a4))),
      e5.trans ((val_main_v37_eq _ _ _ _ _).trans ((refs _ _ _ _ _).2.1.trans (stepL_congr rows 1 a0 a1 a2 a3 a5))),
      e6.trans ((val_main_v40_eq _ _ _).trans ((refs 0 _ 0 _ _).2.2.1.trans (momL_congr rows 1 a1 a3 a6))),
      e7.trans ((val_main_v43_eq _ _ _).trans ((refs 0 0 _ _ _).2.2.2.trans (velL_congr rows 1 a2 a3 a7))), e⟩

end Cert.AdOut1

end
-- ==== Proof.AdOut0.lean ====
/- The optimiser's call for the mixer output weight, first of the stacked layers. -/
module

public import proofs.«01_k».proof.Proof.Gen.Kernel24Ideal.Value
public import proofs.«01_k».proof.Proof.Gen.Reference24Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel24Ideal Cert.Kernel24Ideal.Gen
namespace Cert.AdOut0
open Cert.Adam
variable (m : (ℓ : Loc nD τ sig) → Buf (Elt Ideal) ℓ) (c : Dev nD)

/-- The weight and its moments, the gradient's parts of one layer, and the arrays that the call writes into. -/
abbrev A0 : FVec Ideal S2x256x2048 .f32 := m ((c : Thread nD τ).loc main_arg0)
abbrev A1 : FVec Ideal S2x256x2048 .f32 := m ((c : Thread nD τ).loc main_arg1)
abbrev A2 : FVec Ideal S2x256x2048 .f32 := m ((c : Thread nD τ).loc main_arg2)
abbrev A3 : FVec Ideal S4x256x2048 .bf16 := m ((c : Thread nD τ).loc main_arg3)
abbrev A4 : FVec Ideal S2x256x2048 .f32 := m ((c : Thread nD τ).loc main_arg4)
abbrev A5 : FVec Ideal S2x256x2048 .f32 := m ((c : Thread nD τ).loc main_arg5)
abbrev A6 : FVec Ideal S2x256x2048 .f32 := m ((c : Thread nD τ).loc main_arg6)
abbrev A7 : FVec Ideal S2x256x2048 .f32 := m ((c : Thread nD τ).loc main_arg7)

theorem rows : 512 = 2 * 256 := rfl
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- What replaces the layer's rows. -/
abbrev new4 : Fin 256 → Fin 2048 → EReal := fun r q => grad (A3 m c) r q
abbrev new5 : Fin 256 → Fin 2048 → EReal := stepL 0 (A0 m c) (A1 m c) (A2 m c) (A3 m c)
abbrev new6 : Fin 256 → Fin 2048 → EReal := momL 0 (A1 m c) (A3 m c)
abbrev new7 : Fin 256 → Fin 2048 → EReal := velL 0 (A2 m c) (A3 m c)

/-- The blocks a point reads. -/
abbrev b0 (t : Fin cfg0.N) : FVec Ideal S256x2048 .f32 := iblk m c 0 t
abbrev b1 (t : Fin cfg0.N) : FVec Ideal S256x2048 .f32 := iblk m c 1 t
abbrev b2 (t : Fin cfg0.N) : FVec Ideal S256x2048 .f32 := iblk m c 2 t
abbrev b3 (t : Fin cfg0.N) : FVec Ideal S4x256x2048 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S2x256x2048 .f32) : shapeCast S512x2048 a shapeCasts_S2x256x2048_S512x2048 = flat rows a := by
  funext i
  idx_vars i
  pointwise []
  rfl
theorem hosts : (V m c main_v4 : FVec Ideal S512x2048 .f32) = flat rows (A0 m c)
    ∧ (V m c main_v5 : FVec Ideal S512x2048 .f32) = flat rows (A1 m c)
    ∧ (V m c main_v6 : FVec Ideal S512x2048 .f32) = flat rows (A2 m c)
    ∧ (V m c main_v7_0 : FVec Ideal S512x2048 .f32) = flat rows (A4 m c)
    ∧ (V m c main_v7_1 : FVec Ideal S512x2048 .f32) = flat rows (A5 m c)
    ∧ (V m c main_v7_2 : FVec Ideal S512x2048 .f32) = flat rows (A6 m c)
    ∧ (V m c main_v7_3 : FVec Ideal S512x2048 .f32) = flat rows (A7 m c) := by
  refine ⟨?_, ?_, ?_, ?_, ?_, ?_, ?_⟩
  all_goals
    refine Eq.trans ?_ (spread _)
    entry_read
    rfl

section blocks
variable (t : Fin cfg0.N) (r : Fin 256) (k : Fin 256) (h : k.val = 256 * t.val + r.val) (q : Fin 2048)
include h
theorem in0 : b0 m c t (ix2 r q) = A0 m c (ix3 0 k q) := by
  rw [← flat_at rows (A0 m c) ⟨256 * 0 + k.val, by omega⟩ 0 k rfl q, ← (hosts m c).1]
  blk_point [b0, iblk, idx t]
theorem in1 : b1 m c t (ix2 r q) = A1 m c (ix3 0 k q) := by
  rw [← flat_at rows (A1 m c) ⟨256 * 0 + k.val, by omega⟩ 0 k rfl q, ← (hosts m c).2.1]
  blk_point [b1, iblk, idx t]
theorem in2 : b2 m c t (ix2 r q) = A2 m c (ix3 0 k q) := by
  rw [← flat_at rows (A2 m c) ⟨256 * 0 + k.val, by omega⟩ 0 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S256x2048 .f32) (x3 : FVec Ideal S4x256x2048 .bf16) (r : Fin 256) (q : Fin 2048)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 256) (k : Fin 256) (h : k.val = 256 * t.val + r.val) (q : Fin 2048)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 0 (new4 m c) (A4 m c)
    ∧ (dats m 0 c).arrAt 5 (cfgs 0).N = put rows 0 (new5 m c) (A5 m c)
    ∧ (dats m 0 c).arrAt 6 (cfgs 0).N = put rows 0 (new6 m c) (A6 m c)
    ∧ (dats m 0 c).arrAt 7 (cfgs 0).N = put rows 0 (new7 m c) (A7 m c) := by
  refine ⟨
    ((dats m 0 c).arrAt_eq_of_coversWhere 4 (over rows (new4 m c)) (P := fun i : S512x2048.Idx => (i 0).val / 256 / 1 = 0)
      (fun β => β (0 : Fin _) / 1 = 0) (by decide +kernel) (fun t hf y => ?_) (fun i => Iff.rfl)).trans (put_of rows 0 _ _ _ rfl (hosts m c).2.2.2.1),
    ((dats m 0 c).arrAt_eq_of_coversWhere 5 (over rows (new5 m c)) (P := fun i : S512x2048.Idx => (i 0).val / 256 / 1 = 0)
      (fun β => β (0 : Fin _) / 1 = 0) (by decide +kernel) (fun t hf y => ?_) (fun i => Iff.rfl)).trans (put_of rows 0 _ _ _ rfl (hosts m c).2.2.2.2.1),
    ((dats m 0 c).arrAt_eq_of_coversWhere 6 (over rows (new6 m c)) (P := fun i : S512x2048.Idx => (i 0).val / 256 / 1 = 0)
      (fun β => β (0 : Fin _) / 1 = 0) (by decide +kernel) (fun t hf y => ?_) (fun i => Iff.rfl)).trans (put_of rows 0 _ _ _ rfl (hosts m c).2.2.2.2.2.1),
    ((dats m 0 c).arrAt_eq_of_coversWhere 7 (over rows (new7 m c)) (P := fun i : S512x2048.Idx => (i 0).val / 256 / 1 = 0)
      (fun β => β (0 : Fin _) / 1 = 0) (by decide +kernel) (fun t hf y => ?_) (fun i => Iff.rfl)).trans (put_of rows 0 _ _ _ rfl (hosts m c).2.2.2.2.2.2)⟩
  all_goals
    blk_simp
    obtain ⟨r, q, rfl⟩ : ∃ (r : Fin 256) (q : Fin 2048), y = ix2 r q := ⟨y 0, y 1, by idx_vars y⟩
    have hn : 256 * t.val + r.val < 256 := by have ht : t.val < 1 := t.isLt; omega
    obtain ⟨y4, y5, y6, y7⟩ := ats m c t r ⟨_, hn⟩ rfl q
    refine Eq.trans ?_ ((over_at rows _ ⟨256 * 0 + (256 * t.val + r.val), by omega⟩ 0 ⟨_, hn⟩ rfl q).trans (congrArg (over rows _) (Eq.symm (by blk_ext [idx t]))))
  exacts [y4, y5, y6, y7]

section reference
open Cert.Reference24Ideal.Read
variable (w a b : FVec Ideal S2x256x2048 .f32) (p : FVec Ideal S4x256x2048 .bf16) (e : FVec Ideal S2x256x2048 .f32)
theorem refs :
    val_main_v34 (F := Ideal) p e = put rows 0 (fun r q => grad p r q) e
    ∧ val_main_v37 (F := Ideal) w a b p e = put rows 0 (stepL 0 w a b p) e
    ∧ val_main_v40 (F := Ideal) a p e = put rows 0 (momL 0 a p) e
    ∧ val_main_v43 (F := Ideal) b p e = put rows 0 (velL 0 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_0, val_main_cst_1, val_main_cst_2, val_main_cst_3, val_main_cst_4, val_main_cst_5, val_main_cst_6, val_main_cst_7, val_main_cst_8]
  exacts [(put_two rows 0 (fun r q => grad p r q) e i0 i1),
    (put_two rows 0 (stepR 0 w a b p) e i0 i1).trans (by rw [stepR_eq]),
    (put_two rows 0 (momL 0 a p) e i0 i1),
    (put_two rows 0 (velL 0 b p) e i0 i1)]
end reference

theorem frame_reference : Cert.quiescent_Reference24Ideal (hReference24Ideal := Cert.Reference24Ideal.Gen.facts) := fun m g _ =>
  (θ_run Cert.Reference24Ideal.defs _ _).mono (fun _ h => ⟨fun c => (h c).2.2.2.2, sem_eq_zero_of_no_sems (by decide) _⟩)
    (Cert.Reference24Ideal.Value.run (F := Ideal) m g)

/-- The two named values are the ones the constants stand for. -/
theorem preserves : Cert.preserves_Kernel24_Kernel24Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel24Ideal_Reference24Ideal (hKernel24Ideal := Cert.Kernel24Ideal.Gen.facts) (hReference24Ideal := Cert.Reference24Ideal.Gen.facts) := by
  intro m g m' g' hpre hagree
  refine ⟨fun c => put rows 0 (new4 m c) (A4 m c), fun c => put rows 0 (new5 m c) (A5 m c), fun c => put rows 0 (new6 m c) (A6 m c), fun c => put rows 0 (new7 m c) (A7 m c),
    (θ_run Cert.Kernel24Ideal.defs _ _).mono (fun _ h c => ?_) (Cert.Kernel24Ideal.Value.run_blocks m g),
    (θ_run Cert.Reference24Ideal.defs _ _).mono (fun _ h c => ?_) (Cert.Reference24Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference24Ideal.Read in
    exact ⟨e4.trans ((val_main_v34_eq _ _).trans ((refs 0 0 0 _ _).1.trans (grad_congr rows 0 a3 a4))),
      e5.trans ((val_main_v37_eq _ _ _ _ _).trans ((refs _ _ _ _ _).2.1.trans (stepL_congr rows 0 a0 a1 a2 a3 a5))),
      e6.trans ((val_main_v40_eq _ _ _).trans ((refs 0 _ 0 _ _).2.2.1.trans (momL_congr rows 0 a1 a3 a6))),
      e7.trans ((val_main_v43_eq _ _ _).trans ((refs 0 0 _ _ _).2.2.2.trans (velL_congr rows 0 a2 a3 a7))), e⟩

end Cert.AdOut0

end
-- ==== Proof.AdOd1.lean ====
/- The optimiser's call for the odd layers' mixer input weight, second of the stacked layers. -/
module

public import proofs.«01_k».proof.Proof.Gen.Kernel23Ideal.Value
public import proofs.«01_k».proof.Proof.Gen.Reference23Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel23Ideal Cert.Kernel23Ideal.Gen
namespace Cert.AdOd1
open Cert.Adam
variable (m : (ℓ : Loc nD τ sig) → Buf (Elt Ideal) ℓ) (c : Dev nD)

/-- The weight and its moments, the gradient's parts of one layer, and the arrays that the call writes into. -/
abbrev A0 : FVec Ideal S2x2048x640 .f32 := m ((c : Thread nD τ).loc main_arg0)
abbrev A1 : FVec Ideal S2x2048x640 .f32 := m ((c : Thread nD τ).loc main_arg1)
abbrev A2 : FVec Ideal S2x2048x640 .f32 := m ((c : Thread nD τ).loc main_arg2)
abbrev A3 : FVec Ideal S4x2048x640 .bf16 := m ((c : Thread nD τ).loc main_arg3)
abbrev A4 : FVec Ideal S2x2048x640 .f32 := m ((c : Thread nD τ).loc main_arg4)
abbrev A5 : FVec Ideal S2x2048x640 .f32 := m ((c : Thread nD τ).loc main_arg5)
abbrev A6 : FVec Ideal S2x2048x640 .f32 := m ((c : Thread nD τ).loc main_arg6)
abbrev A7 : FVec Ideal S2x2048x640 .f32 := m ((c : Thread nD τ).loc main_arg7)

theorem rows : 4096 = 2 * 2048 := rfl
theorem idx : ∀ t : Fin cfg0.N, win0_0.index t = ![t.val + 8, 0] ∧ win0_1.index t = ![t.val + 8, 0] ∧ win0_2.index t = ![t.val + 8, 0] ∧ win0_3.index t = ![0, t.val, 0]
    ∧ win0_4.index t = ![t.val + 8, 0] ∧ win0_5.index t = ![t.val + 8, 0] ∧ win0_6.index t = ![t.val + 8, 0] ∧ win0_7.index t = ![t.val + 8, 0] :=
  (by decide +kernel : ∀ t : Fin grid0.N, _)

/-- What replaces the layer's rows. -/
abbrev new4 : Fin 2048 → Fin 640 → EReal := fun r q => grad (A3 m c) r q
abbrev new5 : Fin 2048 → Fin 640 → EReal := stepL 1 (A0 m c) (A1 m c) (A2 m c) (A3 m c)
abbrev new6 : Fin 2048 → Fin 640 → EReal := momL 1 (A1 m c) (A3 m c)
abbrev new7 : Fin 2048 → Fin 640 → EReal := velL 1 (A2 m c) (A3 m c)

/-- The blocks a point reads. -/
abbrev b0 (t : Fin cfg0.N) : FVec Ideal S256x640 .f32 := iblk m c 0 t
abbrev b1 (t : Fin cfg0.N) : FVec Ideal S256x640 .f32 := iblk m c 1 t
abbrev b2 (t : Fin cfg0.N) : FVec Ideal S256x640 .f32 := iblk m c 2 t
abbrev b3 (t : Fin cfg0.N) : FVec Ideal S4x256x640 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S2x2048x640 .f32) : shapeCast S4096x640 a shapeCasts_S2x2048x640_S4096x640 = flat rows a := by
  funext i
  idx_vars i
  pointwise []
  rfl
theorem hosts : (V m c main_v4 : FVec Ideal S4096x640 .f32) = flat rows (A0 m c)
    ∧ (V m c main_v5 : FVec Ideal S4096x640 .f32) = flat rows (A1 m c)
    ∧ (V m c main_v6 : FVec Ideal S4096x640 .f32) = flat rows (A2 m c)
    ∧ (V m c main_v7_0 : FVec Ideal S4096x640 .f32) = flat rows (A4 m c)
    ∧ (V m c main_v7_1 : FVec Ideal S4096x640 .f32) = flat rows (A5 m c)
    ∧ (V m c main_v7_2 : FVec Ideal S4096x640 .f32) = flat rows (A6 m c)
    ∧ (V m c main_v7_3 : FVec Ideal S4096x640 .f32) = flat rows (A7 m c) := by
  refine ⟨?_, ?_, ?_, ?_, ?_, ?_, ?_⟩
  all_goals
    refine Eq.trans ?_ (spread _)
    entry_read
    rfl

section blocks
variable (t : Fin cfg0.N) (r : Fin 256) (k : Fin 2048) (h : k.val = 256 * t.val + r.val) (q : Fin 640)
include h
theorem in0 : b0 m c t (ix2 r q) = A0 m c (ix3 1 k q) := by
  rw [← flat_at rows (A0 m c) ⟨2048 * 1 + k.val, by omega⟩ 1 k rfl q, ← (hosts m c).1]
  blk_point [b0, iblk, idx t]
theorem in1 : b1 m c t (ix2 r q) = A1 m c (ix3 1 k q) := by
  rw [← flat_at rows (A1 m c) ⟨2048 * 1 + k.val, by omega⟩ 1 k rfl q, ← (hosts m c).2.1]
  blk_point [b1, iblk, idx t]
theorem in2 : b2 m c t (ix2 r q) = A2 m c (ix3 1 k q) := by
  rw [← flat_at rows (A2 m c) ⟨2048 * 1 + k.val, by omega⟩ 1 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S256x640 .f32) (x3 : FVec Ideal S4x256x640 .bf16) (r : Fin 256) (q : Fin 640)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 256) (k : Fin 2048) (h : k.val = 256 * t.val + r.val) (q : Fin 640)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 1 (new4 m c) (A4 m c)
    ∧ (dats m 0 c).arrAt 5 (cfgs 0).N = put rows 1 (new5 m c) (A5 m c)
    ∧ (dats m 0 c).arrAt 6 (cfgs 0).N = put rows 1 (new6 m c) (A6 m c)
    ∧ (dats m 0 c).arrAt 7 (cfgs 0).N = put rows 1 (new7 m c) (A7 m c) := by
  refine ⟨
    ((dats m 0 c).arrAt_eq_of_coversWhere 4 (over rows (new4 m c)) (P := fun i : S4096x640.Idx => (i 0).val / 256 / 8 = 1)
      (fun β => β (0 : Fin _) / 8 = 1) (by decide +kernel) (fun t hf y => ?_) (fun i => Iff.rfl)).trans (put_of rows 1 _ _ _ rfl (hosts m c).2.2.2.1),
    ((dats m 0 c).arrAt_eq_of_coversWhere 5 (over rows (new5 m c)) (P := fun i : S4096x640.Idx => (i 0).val / 256 / 8 = 1)
      (fun β => β (0 : Fin _) / 8 = 1) (by decide +kernel) (fun t hf y => ?_) (fun i => Iff.rfl)).trans (put_of rows 1 _ _ _ rfl (hosts m c).2.2.2.2.1),
    ((dats m 0 c).arrAt_eq_of_coversWhere 6 (over rows (new6 m c)) (P := fun i : S4096x640.Idx => (i 0).val / 256 / 8 = 1)
      (fun β => β (0 : Fin _) / 8 = 1) (by decide +kernel) (fun t hf y => ?_) (fun i => Iff.rfl)).trans (put_of rows 1 _ _ _ rfl (hosts m c).2.2.2.2.2.1),
    ((dats m 0 c).arrAt_eq_of_coversWhere 7 (over rows (new7 m c)) (P := fun i : S4096x640.Idx => (i 0).val / 256 / 8 = 1)
      (fun β => β (0 : Fin _) / 8 = 1) (by decide +kernel) (fun t hf y => ?_) (fun i => Iff.rfl)).trans (put_of rows 1 _ _ _ rfl (hosts m c).2.2.2.2.2.2)⟩
  all_goals
    blk_simp
    obtain ⟨r, q, rfl⟩ : ∃ (r : Fin 256) (q : Fin 640), y = ix2 r q := ⟨y 0, y 1, by idx_vars y⟩
    have hn : 256 * t.val + r.val < 2048 := by have ht : t.val < 8 := t.isLt; omega
    obtain ⟨y4, y5, y6, y7⟩ := ats m c t r ⟨_, hn⟩ rfl q
    refine Eq.trans ?_ ((over_at rows _ ⟨2048 * 1 + (256 * t.val + r.val), by omega⟩ 1 ⟨_, hn⟩ rfl q).trans (congrArg (over rows _) (Eq.symm (by blk_ext [idx t]))))
  exacts [y4, y5, y6, y7]

section reference
open Cert.Reference23Ideal.Read
variable (w a b : FVec Ideal S2x2048x640 .f32) (p : FVec Ideal S4x2048x640 .bf16) (e : FVec Ideal S2x2048x640 .f32)
theorem refs :
    val_main_v34 (F := Ideal) p e = put rows 1 (fun r q => grad p r q) e
    ∧ val_main_v37 (F := Ideal) w a b p e = put rows 1 (stepL 1 w a b p) e
    ∧ val_main_v40 (F := Ideal) a p e = put rows 1 (momL 1 a p) e
    ∧ val_main_v43 (F := Ideal) b p e = put rows 1 (velL 1 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_0, val_main_cst_1, val_main_cst_2, val_main_cst_3, val_main_cst_4, val_main_cst_5, val_main_cst_6, val_main_cst_7, val_main_cst_8]
  exacts [(put_two rows 1 (fun r q => grad p r q) e i0 i1),
    (put_two rows 1 (stepR 1 w a b p) e i0 i1).trans (by rw [stepR_eq]),
    (put_two rows 1 (momL 1 a p) e i0 i1),
    (put_two rows 1 (velL 1 b p) e i0 i1)]
end reference

theorem frame_reference : Cert.quiescent_Reference23Ideal (hReference23Ideal := Cert.Reference23Ideal.Gen.facts) := fun m g _ =>
  (θ_run Cert.Reference23Ideal.defs _ _).mono (fun _ h => ⟨fun c => (h c).2.2.2.2, sem_eq_zero_of_no_sems (by decide) _⟩)
    (Cert.Reference23Ideal.Value.run (F := Ideal) m g)

/-- The two named values are the ones the constants stand for. -/
theorem preserves : Cert.preserves_Kernel23_Kernel23Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel23Ideal_Reference23Ideal (hKernel23Ideal := Cert.Kernel23Ideal.Gen.facts) (hReference23Ideal := Cert.Reference23Ideal.Gen.facts) := by
  intro m g m' g' hpre hagree
  refine ⟨fun c => put rows 1 (new4 m c) (A4 m c), fun c => put rows 1 (new5 m c) (A5 m c), fun c => put rows 1 (new6 m c) (A6 m c), fun c => put rows 1 (new7 m c) (A7 m c),
    (θ_run Cert.Kernel23Ideal.defs _ _).mono (fun _ h c => ?_) (Cert.Kernel23Ideal.Value.run_blocks m g),
    (θ_run Cert.Reference23Ideal.defs _ _).mono (fun _ h c => ?_) (Cert.Reference23Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference23Ideal.Read in
    exact ⟨e4.trans ((val_main_v34_eq _ _).trans ((refs 0 0 0 _ _).1.trans (grad_congr rows 1 a3 a4))),
      e5.trans ((val_main_v37_eq _ _ _ _ _).trans ((refs _ _ _ _ _).2.1.trans (stepL_congr rows 1 a0 a1 a2 a3 a5))),
      e6.trans ((val_main_v40_eq _ _ _).trans ((refs 0 _ 0 _ _).2.2.1.trans (momL_congr rows 1 a1 a3 a6))),
      e7.trans ((val_main_v43_eq _ _ _).trans ((refs 0 0 _ _ _).2.2.2.trans (velL_congr rows 1 a2 a3 a7))), e⟩

end Cert.AdOd1

end
-- ==== Proof.AdOd0.lean ====
/- The optimiser's call for the odd layers' mixer input weight, first of the stacked layers. -/
module

public import proofs.«01_k».proof.Proof.Gen.Kernel22Ideal.Value
public import proofs.«01_k».proof.Proof.Gen.Reference22Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel22Ideal Cert.Kernel22Ideal.Gen
namespace Cert.AdOd0
open Cert.Adam
variable (m : (ℓ : Loc nD τ sig) → Buf (Elt Ideal) ℓ) (c : Dev nD)

/-- The weight and its moments, the gradient's parts of one layer, and the arrays that the call writes into. -/
abbrev A0 : FVec Ideal S2x2048x640 .f32 := m ((c : Thread nD τ).loc main_arg0)
abbrev A1 : FVec Ideal S2x2048x640 .f32 := m ((c : Thread nD τ).loc main_arg1)
abbrev A2 : FVec Ideal S2x2048x640 .f32 := m ((c : Thread nD τ).loc main_arg2)
abbrev A3 : FVec Ideal S4x2048x640 .bf16 := m ((c : Thread nD τ).loc main_arg3)
abbrev A4 : FVec Ideal S2x2048x640 .f32 := m ((c : Thread nD τ).loc main_arg4)
abbrev A5 : FVec Ideal S2x2048x640 .f32 := m ((c : Thread nD τ).loc main_arg5)
abbrev A6 : FVec Ideal S2x2048x640 .f32 := m ((c : Thread nD τ).loc main_arg6)
abbrev A7 : FVec Ideal S2x2048x640 .f32 := m ((c : Thread nD τ).loc main_arg7)

theorem rows : 4096 = 2 * 2048 := rfl
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- What replaces the layer's rows. -/
abbrev new4 : Fin 2048 → Fin 640 → EReal := fun r q => grad (A3 m c) r q
abbrev new5 : Fin 2048 → Fin 640 → EReal := stepL 0 (A0 m c) (A1 m c) (A2 m c) (A3 m c)
abbrev new6 : Fin 2048 → Fin 640 → EReal := momL 0 (A1 m c) (A3 m c)
abbrev new7 : Fin 2048 → Fin 640 → EReal := velL 0 (A2 m c) (A3 m c)

/-- The blocks a point reads. -/
abbrev b0 (t : Fin cfg0.N) : FVec Ideal S256x640 .f32 := iblk m c 0 t
abbrev b1 (t : Fin cfg0.N) : FVec Ideal S256x640 .f32 := iblk m c 1 t
abbrev b2 (t : Fin cfg0.N) : FVec Ideal S256x640 .f32 := iblk m c 2 t
abbrev b3 (t : Fin cfg0.N) : FVec Ideal S4x256x640 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S2x2048x640 .f32) : shapeCast S4096x640 a shapeCasts_S2x2048x640_S4096x640 = flat rows a := by
  funext i
  idx_vars i
  pointwise []
  rfl
theorem hosts : (V m c main_v4 : FVec Ideal S4096x640 .f32) = flat rows (A0 m c)
    ∧ (V m c main_v5 : FVec Ideal S4096x640 .f32) = flat rows (A1 m c)
    ∧ (V m c main_v6 : FVec Ideal S4096x640 .f32) = flat rows (A2 m c)
    ∧ (V m c main_v7_0 : FVec Ideal S4096x640 .f32) = flat rows (A4 m c)
    ∧ (V m c main_v7_1 : FVec Ideal S4096x640 .f32) = flat rows (A5 m c)
    ∧ (V m c main_v7_2 : FVec Ideal S4096x640 .f32) = flat rows (A6 m c)
    ∧ (V m c main_v7_3 : FVec Ideal S4096x640 .f32) = flat rows (A7 m c) := by
  refine ⟨?_, ?_, ?_, ?_, ?_, ?_, ?_⟩
  all_goals
    refine Eq.trans ?_ (spread _)
    entry_read
    rfl

section blocks
variable (t : Fin cfg0.N) (r : Fin 256) (k : Fin 2048) (h : k.val = 256 * t.val + r.val) (q : Fin 640)
include h
theorem in0 : b0 m c t (ix2 r q) = A0 m c (ix3 0 k q) := by
  rw [← flat_at rows (A0 m c) ⟨2048 * 0 + k.val, by omega⟩ 0 k rfl q, ← (hosts m c).1]
  blk_point [b0, iblk, idx t]
theorem in1 : b1 m c t (ix2 r q) = A1 m c (ix3 0 k q) := by
  rw [← flat_at rows (A1 m c) ⟨2048 * 0 + k.val, by omega⟩ 0 k rfl q, ← (hosts m c).2.1]
  blk_point [b1, iblk, idx t]
theorem in2 : b2 m c t (ix2 r q) = A2 m c (ix3 0 k q) := by
  rw [← flat_at rows (A2 m c) ⟨2048 * 0 + k.val, by omega⟩ 0 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S256x640 .f32) (x3 : FVec Ideal S4x256x640 .bf16) (r : Fin 256) (q : Fin 640)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 256) (k : Fin 2048) (h : k.val = 256 * t.val + r.val) (q : Fin 640)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 0 (new4 m c) (A4 m c)
    ∧ (dats m 0 c).arrAt 5 (cfgs 0).N = put rows 0 (new5 m c) (A5 m c)
    ∧ (dats m 0 c).arrAt 6 (cfgs 0).N = put rows 0 (new6 m c) (A6 m c)
    ∧ (dats m 0 c).arrAt 7 (cfgs 0).N = put rows 0 (new7 m c) (A7 m c) := by
  refine ⟨
    ((dats m 0 c).arrAt_eq_of_coversWhere 4 (over rows (new4 m c)) (P := fun i : S4096x640.Idx => (i 0).val / 256 / 8 = 0)
      (fun β => β (0 : Fin _) / 8 = 0) (by decide +kernel) (fun t hf y => ?_) (fun i => Iff.rfl)).trans (put_of rows 0 _ _ _ rfl (hosts m c).2.2.2.1),
    ((dats m 0 c).arrAt_eq_of_coversWhere 5 (over rows (new5 m c)) (P := fun i : S4096x640.Idx => (i 0).val / 256 / 8 = 0)
      (fun β => β (0 : Fin _) / 8 = 0) (by decide +kernel) (fun t hf y => ?_) (fun i => Iff.rfl)).trans (put_of rows 0 _ _ _ rfl (hosts m c).2.2.2.2.1),
    ((dats m 0 c).arrAt_eq_of_coversWhere 6 (over rows (new6 m c)) (P := fun i : S4096x640.Idx => (i 0).val / 256 / 8 = 0)
      (fun β => β (0 : Fin _) / 8 = 0) (by decide +kernel) (fun t hf y => ?_) (fun i => Iff.rfl)).trans (put_of rows 0 _ _ _ rfl (hosts m c).2.2.2.2.2.1),
    ((dats m 0 c).arrAt_eq_of_coversWhere 7 (over rows (new7 m c)) (P := fun i : S4096x640.Idx => (i 0).val / 256 / 8 = 0)
      (fun β => β (0 : Fin _) / 8 = 0) (by decide +kernel) (fun t hf y => ?_) (fun i => Iff.rfl)).trans (put_of rows 0 _ _ _ rfl (hosts m c).2.2.2.2.2.2)⟩
  all_goals
    blk_simp
    obtain ⟨r, q, rfl⟩ : ∃ (r : Fin 256) (q : Fin 640), y = ix2 r q := ⟨y 0, y 1, by idx_vars y⟩
    have hn : 256 * t.val + r.val < 2048 := by have ht : t.val < 8 := t.isLt; omega
    obtain ⟨y4, y5, y6, y7⟩ := ats m c t r ⟨_, hn⟩ rfl q
    refine Eq.trans ?_ ((over_at rows _ ⟨2048 * 0 + (256 * t.val + r.val), by omega⟩ 0 ⟨_, hn⟩ rfl q).trans (congrArg (over rows _) (Eq.symm (by blk_ext [idx t]))))
  exacts [y4, y5, y6, y7]

section reference
open Cert.Reference22Ideal.Read
variable (w a b : FVec Ideal S2x2048x640 .f32) (p : FVec Ideal S4x2048x640 .bf16) (e : FVec Ideal S2x2048x640 .f32)
theorem refs :
    val_main_v34 (F := Ideal) p e = put rows 0 (fun r q => grad p r q) e
    ∧ val_main_v37 (F := Ideal) w a b p e = put rows 0 (stepL 0 w a b p) e
    ∧ val_main_v40 (F := Ideal) a p e = put rows 0 (momL 0 a p) e
    ∧ val_main_v43 (F := Ideal) b p e = put rows 0 (velL 0 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_0, val_main_cst_1, val_main_cst_2, val_main_cst_3, val_main_cst_4, val_main_cst_5, val_main_cst_6, val_main_cst_7, val_main_cst_8]
  exacts [(put_two rows 0 (fun r q => grad p r q) e i0 i1),
    (put_two rows 0 (stepR 0 w a b p) e i0 i1).trans (by rw [stepR_eq]),
    (put_two rows 0 (momL 0 a p) e i0 i1),
    (put_two rows 0 (velL 0 b p) e i0 i1)]
end reference

theorem frame_reference : Cert.quiescent_Reference22Ideal (hReference22Ideal := Cert.Reference22Ideal.Gen.facts) := fun m g _ =>
  (θ_run Cert.Reference22Ideal.defs _ _).mono (fun _ h => ⟨fun c => (h c).2.2.2.2, sem_eq_zero_of_no_sems (by decide) _⟩)
    (Cert.Reference22Ideal.Value.run (F := Ideal) m g)

/-- The two named values are the ones the constants stand for. -/
theorem preserves : Cert.preserves_Kernel22_Kernel22Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel22Ideal_Reference22Ideal (hKernel22Ideal := Cert.Kernel22Ideal.Gen.facts) (hReference22Ideal := Cert.Reference22Ideal.Gen.facts) := by
  intro m g m' g' hpre hagree
  refine ⟨fun c => put rows 0 (new4 m c) (A4 m c), fun c => put rows 0 (new5 m c) (A5 m c), fun c => put rows 0 (new6 m c) (A6 m c), fun c => put rows 0 (new7 m c) (A7 m c),
    (θ_run Cert.Kernel22Ideal.defs _ _).mono (fun _ h c => ?_) (Cert.Kernel22Ideal.Value.run_blocks m g),
    (θ_run Cert.Reference22Ideal.defs _ _).mono (fun _ h c => ?_) (Cert.Reference22Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference22Ideal.Read in
    exact ⟨e4.trans ((val_main_v34_eq _ _).trans ((refs 0 0 0 _ _).1.trans (grad_congr rows 0 a3 a4))),
      e5.trans ((val_main_v37_eq _ _ _ _ _).trans ((refs _ _ _ _ _).2.1.trans (stepL_congr rows 0 a0 a1 a2 a3 a5))),
      e6.trans ((val_main_v40_eq _ _ _).trans ((refs 0 _ 0 _ _).2.2.1.trans (momL_congr rows 0 a1 a3 a6))),
      e7.trans ((val_main_v43_eq _ _ _).trans ((refs 0 0 _ _ _).2.2.2.trans (velL_congr rows 0 a2 a3 a7))), e⟩

end Cert.AdOd0

end
-- ==== Proof.AdIn1.lean ====
/- The optimiser's call for the even layers' mixer input weight, second of the stacked layers. -/
module

public import proofs.«01_k».proof.Proof.Gen.Kernel21Ideal.Value
public import proofs.«01_k».proof.Proof.Gen.Reference21Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel21Ideal Cert.Kernel21Ideal.Gen
namespace Cert.AdIn1
open Cert.Adam
variable (m : (ℓ : Loc nD τ sig) → Buf (Elt Ideal) ℓ) (c : Dev nD)

/-- The weight and its moments, the gradient's parts of one layer, and the arrays that the call writes into. -/
abbrev A0 : FVec Ideal S2x2048x768 .f32 := m ((c : Thread nD τ).loc main_arg0)
abbrev A1 : FVec Ideal S2x2048x768 .f32 := m ((c : Thread nD τ).loc main_arg1)
abbrev A2 : FVec Ideal S2x2048x768 .f32 := m ((c : Thread nD τ).loc main_arg2)
abbrev A3 : FVec Ideal S4x2048x768 .bf16 := m ((c : Thread nD τ).loc main_arg3)
abbrev A4 : FVec Ideal S2x2048x768 .f32 := m ((c : Thread nD τ).loc main_arg4)
abbrev A5 : FVec Ideal S2x2048x768 .f32 := m ((c : Thread nD τ).loc main_arg5)
abbrev A6 : FVec Ideal S2x2048x768 .f32 := m ((c : Thread nD τ).loc main_arg6)
abbrev A7 : FVec Ideal S2x2048x768 .f32 := m ((c : Thread nD τ).loc main_arg7)

theorem rows : 4096 = 2 * 2048 := rfl
theorem idx : ∀ t : Fin cfg0.N, win0_0.index t = ![t.val + 8, 0] ∧ win0_1.index t = ![t.val + 8, 0] ∧ win0_2.index t = ![t.val + 8, 0] ∧ win0_3.index t = ![0, t.val, 0]
    ∧ win0_4.index t = ![t.val + 8, 0] ∧ win0_5.index t = ![t.val + 8, 0] ∧ win0_6.index t = ![t.val + 8, 0] ∧ win0_7.index t = ![t.val + 8, 0] :=
  (by decide +kernel : ∀ t : Fin grid0.N, _)

/-- What replaces the layer's rows. -/
abbrev new4 : Fin 2048 → Fin 768 → EReal := fun r q => grad (A3 m c) r q
abbrev new5 : Fin 2048 → Fin 768 → EReal := stepL 1 (A0 m c) (A1 m c) (A2 m c) (A3 m c)
abbrev new6 : Fin 2048 → Fin 768 → EReal := momL 1 (A1 m c) (A3 m c)
abbrev new7 : Fin 2048 → Fin 768 → EReal := velL 1 (A2 m c) (A3 m c)

/-- The blocks a point reads. -/
abbrev b0 (t : Fin cfg0.N) : FVec Ideal S256x768 .f32 := iblk m c 0 t
abbrev b1 (t : Fin cfg0.N) : FVec Ideal S256x768 .f32 := iblk m c 1 t
abbrev b2 (t : Fin cfg0.N) : FVec Ideal S256x768 .f32 := iblk m c 2 t
abbrev b3 (t : Fin cfg0.N) : FVec Ideal S4x256x768 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S2x2048x768 .f32) : shapeCast S4096x768 a shapeCasts_S2x2048x768_S4096x768 = flat rows a := by
  funext i
  idx_vars i
  pointwise []
  rfl
theorem hosts : (V m c main_v4 : FVec Ideal S4096x768 .f32) = flat rows (A0 m c)
    ∧ (V m c main_v5 : FVec Ideal S4096x768 .f32) = flat rows (A1 m c)
    ∧ (V m c main_v6 : FVec Ideal S4096x768 .f32) = flat rows (A2 m c)
    ∧ (V m c main_v7_0 : FVec Ideal S4096x768 .f32) = flat rows (A4 m c)
    ∧ (V m c main_v7_1 : FVec Ideal S4096x768 .f32) = flat rows (A5 m c)
    ∧ (V m c main_v7_2 : FVec Ideal S4096x768 .f32) = flat rows (A6 m c)
    ∧ (V m c main_v7_3 : FVec Ideal S4096x768 .f32) = flat rows (A7 m c) := by
  refine ⟨?_, ?_, ?_, ?_, ?_, ?_, ?_⟩
  all_goals
    refine Eq.trans ?_ (spread _)
    entry_read
    rfl

section blocks
variable (t : Fin cfg0.N) (r : Fin 256) (k : Fin 2048) (h : k.val = 256 * t.val + r.val) (q : Fin 768)
include h
theorem in0 : b0 m c t (ix2 r q) = A0 m c (ix3 1 k q) := by
  rw [← flat_at rows (A0 m c) ⟨2048 * 1 + k.val, by omega⟩ 1 k rfl q, ← (hosts m c).1]
  blk_point [b0, iblk, idx t]
theorem in1 : b1 m c t (ix2 r q) = A1 m c (ix3 1 k q) := by
  rw [← flat_at rows (A1 m c) ⟨2048 * 1 + k.val, by omega⟩ 1 k rfl q, ← (hosts m c).2.1]
  blk_point [b1, iblk, idx t]
theorem in2 : b2 m c t (ix2 r q) = A2 m c (ix3 1 k q) := by
  rw [← flat_at rows (A2 m c) ⟨2048 * 1 + k.val, by omega⟩ 1 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S256x768 .f32) (x3 : FVec Ideal S4x256x768 .bf16) (r : Fin 256) (q : Fin 768)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 256) (k : Fin 2048) (h : k.val = 256 * t.val + r.val) (q : Fin 768)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 1 (new4 m c) (A4 m c)
    ∧ (dats m 0 c).arrAt 5 (cfgs 0).N = put rows 1 (new5 m c) (A5 m c)
    ∧ (dats m 0 c).arrAt 6 (cfgs 0).N = put rows 1 (new6 m c) (A6 m c)
    ∧ (dats m 0 c).arrAt 7 (cfgs 0).N = put rows 1 (new7 m c) (A7 m c) := by
  refine ⟨
    ((dats m 0 c).arrAt_eq_of_coversWhere 4 (over rows (new4 m c)) (P := fun i : S4096x768.Idx => (i 0).val / 256 / 8 = 1)
      (fun β => β (0 : Fin _) / 8 = 1) (by decide +kernel) (fun t hf y => ?_) (fun i => Iff.rfl)).trans (put_of rows 1 _ _ _ rfl (hosts m c).2.2.2.1),
    ((dats m 0 c).arrAt_eq_of_coversWhere 5 (over rows (new5 m c)) (P := fun i : S4096x768.Idx => (i 0).val / 256 / 8 = 1)
      (fun β => β (0 : Fin _) / 8 = 1) (by decide +kernel) (fun t hf y => ?_) (fun i => Iff.rfl)).trans (put_of rows 1 _ _ _ rfl (hosts m c).2.2.2.2.1),
    ((dats m 0 c).arrAt_eq_of_coversWhere 6 (over rows (new6 m c)) (P := fun i : S4096x768.Idx => (i 0).val / 256 / 8 = 1)
      (fun β => β (0 : Fin _) / 8 = 1) (by decide +kernel) (fun t hf y => ?_) (fun i => Iff.rfl)).trans (put_of rows 1 _ _ _ rfl (hosts m c).2.2.2.2.2.1),
    ((dats m 0 c).arrAt_eq_of_coversWhere 7 (over rows (new7 m c)) (P := fun i : S4096x768.Idx => (i 0).val / 256 / 8 = 1)
      (fun β => β (0 : Fin _) / 8 = 1) (by decide +kernel) (fun t hf y => ?_) (fun i => Iff.rfl)).trans (put_of rows 1 _ _ _ rfl (hosts m c).2.2.2.2.2.2)⟩
  all_goals
    blk_simp
    obtain ⟨r, q, rfl⟩ : ∃ (r : Fin 256) (q : Fin 768), y = ix2 r q := ⟨y 0, y 1, by idx_vars y⟩
    have hn : 256 * t.val + r.val < 2048 := by have ht : t.val < 8 := t.isLt; omega
    obtain ⟨y4, y5, y6, y7⟩ := ats m c t r ⟨_, hn⟩ rfl q
    refine Eq.trans ?_ ((over_at rows _ ⟨2048 * 1 + (256 * t.val + r.val), by omega⟩ 1 ⟨_, hn⟩ rfl q).trans (congrArg (over rows _) (Eq.symm (by blk_ext [idx t]))))
  exacts [y4, y5, y6, y7]

section reference
open Cert.Reference21Ideal.Read
variable (w a b : FVec Ideal S2x2048x768 .f32) (p : FVec Ideal S4x2048x768 .bf16) (e : FVec Ideal S2x2048x768 .f32)
theorem refs :
    val_main_v34 (F := Ideal) p e = put rows 1 (fun r q => grad p r q) e
    ∧ val_main_v37 (F := Ideal) w a b p e = put rows 1 (stepL 1 w a b p) e
    ∧ val_main_v40 (F := Ideal) a p e = put rows 1 (momL 1 a p) e
    ∧ val_main_v43 (F := Ideal) b p e = put rows 1 (velL 1 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_0, val_main_cst_1, val_main_cst_2, val_main_cst_3, val_main_cst_4, val_main_cst_5, val_main_cst_6, val_main_cst_7, val_main_cst_8]
  exacts [(put_two rows 1 (fun r q => grad p r q) e i0 i1),
    (put_two rows 1 (stepR 1 w a b p) e i0 i1).trans (by rw [stepR_eq]),
    (put_two rows 1 (momL 1 a p) e i0 i1),
    (put_two rows 1 (velL 1 b p) e i0 i1)]
end reference

theorem frame_reference : Cert.quiescent_Reference21Ideal (hReference21Ideal := Cert.Reference21Ideal.Gen.facts) := fun m g _ =>
  (θ_run Cert.Reference21Ideal.defs _ _).mono (fun _ h => ⟨fun c => (h c).2.2.2.2, sem_eq_zero_of_no_sems (by decide) _⟩)
    (Cert.Reference21Ideal.Value.run (F := Ideal) m g)

/-- The two named values are the ones the constants stand for. -/
theorem preserves : Cert.preserves_Kernel21_Kernel21Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel21Ideal_Reference21Ideal (hKernel21Ideal := Cert.Kernel21Ideal.Gen.facts) (hReference21Ideal := Cert.Reference21Ideal.Gen.facts) := by
  intro m g m' g' hpre hagree
  refine ⟨fun c => put rows 1 (new4 m c) (A4 m c), fun c => put rows 1 (new5 m c) (A5 m c), fun c => put rows 1 (new6 m c) (A6 m c), fun c => put rows 1 (new7 m c) (A7 m c),
    (θ_run Cert.Kernel21Ideal.defs _ _).mono (fun _ h c => ?_) (Cert.Kernel21Ideal.Value.run_blocks m g),
    (θ_run Cert.Reference21Ideal.defs _ _).mono (fun _ h c => ?_) (Cert.Reference21Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference21Ideal.Read in
    exact ⟨e4.trans ((val_main_v34_eq _ _).trans ((refs 0 0 0 _ _).1.trans (grad_congr rows 1 a3 a4))),
      e5.trans ((val_main_v37_eq _ _ _ _ _).trans ((refs _ _ _ _ _).2.1.trans (stepL_congr rows 1 a0 a1 a2 a3 a5))),
      e6.trans ((val_main_v40_eq _ _ _).trans ((refs 0 _ 0 _ _).2.2.1.trans (momL_congr rows 1 a1 a3 a6))),
      e7.trans ((val_main_v43_eq _ _ _).trans ((refs 0 0 _ _ _).2.2.2.trans (velL_congr rows 1 a2 a3 a7))), e⟩

end Cert.AdIn1

end
-- ==== Proof.AdIn0.lean ====
/- The optimiser's call for the even layers' mixer input weight, first of the stacked layers. -/
module

public import proofs.«01_k».proof.Proof.Gen.Kernel20Ideal.Value
public import proofs.«01_k».proof.Proof.Gen.Reference20Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel20Ideal Cert.Kernel20Ideal.Gen
namespace Cert.AdIn0
open Cert.Adam
variable (m : (ℓ : Loc nD τ sig) → Buf (Elt Ideal) ℓ) (c : Dev nD)

/-- The weight and its moments, the gradient's parts of one layer, and the arrays that the call writes into. -/
abbrev A0 : FVec Ideal S2x2048x768 .f32 := m ((c : Thread nD τ).loc main_arg0)
abbrev A1 : FVec Ideal S2x2048x768 .f32 := m ((c : Thread nD τ).loc main_arg1)
abbrev A2 : FVec Ideal S2x2048x768 .f32 := m ((c : Thread nD τ).loc main_arg2)
abbrev A3 : FVec Ideal S4x2048x768 .bf16 := m ((c : Thread nD τ).loc main_arg3)
abbrev A4 : FVec Ideal S2x2048x768 .f32 := m ((c : Thread nD τ).loc main_arg4)
abbrev A5 : FVec Ideal S2x2048x768 .f32 := m ((c : Thread nD τ).loc main_arg5)
abbrev A6 : FVec Ideal S2x2048x768 .f32 := m ((c : Thread nD τ).loc main_arg6)
abbrev A7 : FVec Ideal S2x2048x768 .f32 := m ((c : Thread nD τ).loc main_arg7)

theorem rows : 4096 = 2 * 2048 := rfl
theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- What replaces the layer's rows. -/
abbrev new4 : Fin 2048 → Fin 768 → EReal := fun r q => grad (A3 m c) r q
abbrev new5 : Fin 2048 → Fin 768 → EReal := stepL 0 (A0 m c) (A1 m c) (A2 m c) (A3 m c)
abbrev new6 : Fin 2048 → Fin 768 → EReal := momL 0 (A1 m c) (A3 m c)
abbrev new7 : Fin 2048 → Fin 768 → EReal := velL 0 (A2 m c) (A3 m c)

/-- The blocks a point reads. -/
abbrev b0 (t : Fin cfg0.N) : FVec Ideal S256x768 .f32 := iblk m c 0 t
abbrev b1 (t : Fin cfg0.N) : FVec Ideal S256x768 .f32 := iblk m c 1 t
abbrev b2 (t : Fin cfg0.N) : FVec Ideal S256x768 .f32 := iblk m c 2 t
abbrev b3 (t : Fin cfg0.N) : FVec Ideal S4x256x768 .bf16 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- What the host leaves in the buffers: the layers' rows, one after another. -/
theorem spread (a : FVec Ideal S2x2048x768 .f32) : shapeCast S4096x768 a shapeCasts_S2x2048x768_S4096x768 = flat rows a := by
  funext i
  idx_vars i
  pointwise []
  rfl
theorem hosts : (V m c main_v4 : FVec Ideal S4096x768 .f32) = flat rows (A0 m c)
    ∧ (V m c main_v5 : FVec Ideal S4096x768 .f32) = flat rows (A1 m c)
    ∧ (V m c main_v6 : FVec Ideal S4096x768 .f32) = flat rows (A2 m c)
    ∧ (V m c main_v7_0 : FVec Ideal S4096x768 .f32) = flat rows (A4 m c)
    ∧ (V m c main_v7_1 : FVec Ideal S4096x768 .f32) = flat rows (A5 m c)
    ∧ (V m c main_v7_2 : FVec Ideal S4096x768 .f32) = flat rows (A6 m c)
    ∧ (V m c main_v7_3 : FVec Ideal S4096x768 .f32) = flat rows (A7 m c) := by
  refine ⟨?_, ?_, ?_, ?_, ?_, ?_, ?_⟩
  all_goals
    refine Eq.trans ?_ (spread _)
    entry_read
    rfl

section blocks
variable (t : Fin cfg0.N) (r : Fin 256) (k : Fin 2048) (h : k.val = 256 * t.val + r.val) (q : Fin 768)
include h
theorem in0 : b0 m c t (ix2 r q) = A0 m c (ix3 0 k q) := by
  rw [← flat_at rows (A0 m c) ⟨2048 * 0 + k.val, by omega⟩ 0 k rfl q, ← (hosts m c).1]
  blk_point [b0, iblk, idx t]
theorem in1 : b1 m c t (ix2 r q) = A1 m c (ix3 0 k q) := by
  rw [← flat_at rows (A1 m c) ⟨2048 * 0 + k.val, by omega⟩ 0 k rfl q, ← (hosts m c).2.1]
  blk_point [b1, iblk, idx t]
theorem in2 : b2 m c t (ix2 r q) = A2 m c (ix3 0 k q) := by
  rw [← flat_at rows (A2 m c) ⟨2048 * 0 + k.val, by omega⟩ 0 k rfl q, ← (hosts m c).2.2.1]
  blk_point [b2, iblk, idx t]
theorem in3 (d : Fin 4) : b3 m c t (ix3 d r q) = A3 m c (ix3 d k q) := by blk_point [b3, iblk, idx t]
theorem sum_eq : grad (b3 m c t) r q = grad (A3 m c) k q := Finset.sum_congr rfl fun d _ => in3 m c t r k h q d

end blocks

section values
variable (t : Fin cfg0.N) (x0 x1 x2 : FVec Ideal S256x768 .f32) (x3 : FVec Ideal S4x256x768 .bf16) (r : Fin 256) (q : Fin 768)
theorem runs :
    out0_A_4 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = grad x3 r q
    ∧ out0_A_5 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = step (x0 (ix2 r q)) (mom (x1 (ix2 r q)) (grad x3 r q)) (vel (x2 (ix2 r q)) (grad x3 r q))
    ∧ out0_A_6 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = mom (x1 (ix2 r q)) (grad x3 r q)
    ∧ out0_A_7 (F := Ideal) c (grid0.coords t) _ (hs0_0 t) _ (hs0_1 t) _ (hs0_2 t) _ (hs0_3 t) _ (hs0_4 t) _ (hs0_5 t) _ (hs0_6 t) _ (hs0_7 t) _ (hs0_8 t) x0 x1 x2 x3 (ix2 r q) = vel (x2 (ix2 r q)) (grad x3 r q) := by
  refine ⟨?_, ?_, ?_, ?_⟩
  all_goals
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay2, k0_pay3, k0_pay4, k0_pay5]
    simp only [named1, named2, grad, Fin.sum_univ_four]
    try rfl
end values

section written
variable (t : Fin cfg0.N) (r : Fin 256) (k : Fin 2048) (h : k.val = 256 * t.val + r.val) (q : Fin 768)
include h
theorem ats :
    (dats m 0 c).after 4 t (ix2 r q) = new4 m c k q
    ∧ (dats m 0 c).after 5 t (ix2 r q) = new5 m c k q
    ∧ (dats m 0 c).after 6 t (ix2 r q) = new6 m c k q
    ∧ (dats m 0 c).after 7 t (ix2 r q) = new7 m c k q := by
  have R := runs c t (b0 m c t) (b1 m c t) (b2 m c t) (b3 m c t) r q
  refine ⟨?_, ?_, ?_, ?_⟩
  all_goals
    first | rw [after0_4] | rw [after0_5] | rw [after0_6] | rw [after0_7]
    unfold outsAt0
    dsimp only
  · refine R.1.trans ?_
    rw [sum_eq m c t r k h]
  · refine R.2.1.trans ?_
    rw [in0 m c t r k h, in1 m c t r k h, in2 m c t r k h, sum_eq m c t r k h]
    rfl
  · refine R.2.2.1.trans ?_
    rw [in1 m c t r k h, sum_eq m c t r k h]
    rfl
  · refine R.2.2.2.trans ?_
    rw [in2 m c t r k h, sum_eq m c t r k h]
    rfl
end written

theorem finals :
    (dats m 0 c).arrAt 4 (cfgs 0).N = put rows 0 (new4 m c) (A4 m c)
    ∧ (dats m 0 c).arrAt 5 (cfgs 0).N = put rows 0 (new5 m c) (A5 m c)
    ∧ (dats m 0 c).arrAt 6 (cfgs 0).N = put rows 0 (new6 m c) (A6 m c)
    ∧ (dats m 0 c).arrAt 7 (cfgs 0).N = put rows 0 (new7 m c) (A7 m c) := by
  refine ⟨
    ((dats m 0 c).arrAt_eq_of_coversWhere 4 (over rows (new4 m c)) (P := fun i : S4096x768.Idx => (i 0).val / 256 / 8 = 0)
      (fun β => β (0 : Fin _) / 8 = 0) (by decide +kernel) (fun t hf y => ?_) (fun i => Iff.rfl)).trans (put_of rows 0 _ _ _ rfl (hosts m c).2.2.2.1),
    ((dats m 0 c).arrAt_eq_of_coversWhere 5 (over rows (new5 m c)) (P := fun i : S4096x768.Idx => (i 0).val / 256 / 8 = 0)
      (fun β => β (0 : Fin _) / 8 = 0) (by decide +kernel) (fun t hf y => ?_) (fun i => Iff.rfl)).trans (put_of rows 0 _ _ _ rfl (hosts m c).2.2.2.2.1),
    ((dats m 0 c).arrAt_eq_of_coversWhere 6 (over rows (new6 m c)) (P := fun i : S4096x768.Idx => (i 0).val / 256 / 8 = 0)
      (fun β => β (0 : Fin _) / 8 = 0) (by decide +kernel) (fun t hf y => ?_) (fun i => Iff.rfl)).trans (put_of rows 0 _ _ _ rfl (hosts m c).2.2.2.2.2.1),
    ((dats m 0 c).arrAt_eq_of_coversWhere 7 (over rows (new7 m c)) (P := fun i : S4096x768.Idx => (i 0).val / 256 / 8 = 0)
      (fun β => β (0 : Fin _) / 8 = 0) (by decide +kernel) (fun t hf y => ?_) (fun i => Iff.rfl)).trans (put_of rows 0 _ _ _ rfl (hosts m c).2.2.2.2.2.2)⟩
  all_goals
    blk_simp
    obtain ⟨r, q, rfl⟩ : ∃ (r : Fin 256) (q : Fin 768), y = ix2 r q := ⟨y 0, y 1, by idx_vars y⟩
    have hn : 256 * t.val + r.val < 2048 := by have ht : t.val < 8 := t.isLt; omega
    obtain ⟨y4, y5, y6, y7⟩ := ats m c t r ⟨_, hn⟩ rfl q
    refine Eq.trans ?_ ((over_at rows _ ⟨2048 * 0 + (256 * t.val + r.val), by omega⟩ 0 ⟨_, hn⟩ rfl q).trans (congrArg (over rows _) (Eq.symm (by blk_ext [idx t]))))
  exacts [y4, y5, y6, y7]

section reference
open Cert.Reference20Ideal.Read
variable (w a b : FVec Ideal S2x2048x768 .f32) (p : FVec Ideal S4x2048x768 .bf16) (e : FVec Ideal S2x2048x768 .f32)
theorem refs :
    val_main_v34 (F := Ideal) p e = put rows 0 (fun r q => grad p r q) e
    ∧ val_main_v37 (F := Ideal) w a b p e = put rows 0 (stepL 0 w a b p) e
    ∧ val_main_v40 (F := Ideal) a p e = put rows 0 (momL 0 a p) e
    ∧ val_main_v43 (F := Ideal) b p e = put rows 0 (velL 0 b p) e := by
  refine ⟨?_, ?_, ?_, ?_⟩
  all_goals
    funext i
    idx_vars i
    pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_v37, val_main_v38, val_main_v39, val_main_v40, val_main_v41, val_main_v42, val_main_v43, val_main_cst, val_main_cst_0, val_main_cst_1, val_main_cst_2, val_main_cst_3, val_main_cst_4, val_main_cst_5, val_main_cst_6, val_main_cst_7, val_main_cst_8]
  exacts [(put_two rows 0 (fun r q => grad p r q) e i0 i1),
    (put_two rows 0 (stepR 0 w a b p) e i0 i1).trans (by rw [stepR_eq]),
    (put_two rows 0 (momL 0 a p) e i0 i1),
    (put_two rows 0 (velL 0 b p) e i0 i1)]
end reference

theorem frame_reference : Cert.quiescent_Reference20Ideal (hReference20Ideal := Cert.Reference20Ideal.Gen.facts) := fun m g _ =>
  (θ_run Cert.Reference20Ideal.defs _ _).mono (fun _ h => ⟨fun c => (h c).2.2.2.2, sem_eq_zero_of_no_sems (by decide) _⟩)
    (Cert.Reference20Ideal.Value.run (F := Ideal) m g)

/-- The two named values are the ones the constants stand for. -/
theorem preserves : Cert.preserves_Kernel20_Kernel20Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel20Ideal_Reference20Ideal (hKernel20Ideal := Cert.Kernel20Ideal.Gen.facts) (hReference20Ideal := Cert.Reference20Ideal.Gen.facts) := by
  intro m g m' g' hpre hagree
  refine ⟨fun c => put rows 0 (new4 m c) (A4 m c), fun c => put rows 0 (new5 m c) (A5 m c), fun c => put rows 0 (new6 m c) (A6 m c), fun c => put rows 0 (new7 m c) (A7 m c),
    (θ_run Cert.Kernel20Ideal.defs _ _).mono (fun _ h c => ?_) (Cert.Kernel20Ideal.Value.run_blocks m g),
    (θ_run Cert.Reference20Ideal.defs _ _).mono (fun _ h c => ?_) (Cert.Reference20Ideal.Value.run m' g')⟩
  · obtain ⟨e4, e5, e6, e7, -, e⟩ := h c
    exact ⟨e4.trans (finals m c).1, e5.trans (finals m c).2.1, e6.trans (finals m c).2.2.1, e7.trans (finals m c).2.2.2, e⟩
  · obtain ⟨e4, e5, e6, e7, e⟩ := h c
    obtain ⟨a0, a1, a2, a3, a4, a5, a6, a7⟩ := hagree c
    open Cert.Reference20Ideal.Read in
    exact ⟨e4.trans ((val_main_v34_eq _ _).trans ((refs 0 0 0 _ _).1.trans (grad_congr rows 0 a3 a4))),
      e5.trans ((val_main_v37_eq _ _ _ _ _).trans ((refs _ _ _ _ _).2.1.trans (stepL_congr rows 0 a0 a1 a2 a3 a5))),
      e6.trans ((val_main_v40_eq _ _ _).trans ((refs 0 _ 0 _ _).2.2.1.trans (momL_congr rows 0 a1 a3 a6))),
      e7.trans ((val_main_v43_eq _ _ _).trans ((refs 0 0 _ _ _).2.2.2.trans (velL_congr rows 0 a2 a3 a7))), e⟩

end Cert.AdIn0

end
-- ==== Proof.AdSh.lean ====
/- The optimiser's call on the packed small weights that are split between the devices. -/
module

public import proofs.«01_k».proof.Proof.Gen.Kernel19Ideal.Value
public import proofs.«01_k».proof.Proof.Gen.Reference19Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel19Ideal Cert.Kernel19Ideal.Gen
namespace Cert.AdSh
open Cert.Adam
variable (m : (ℓ : Loc nD τ sig) → Buf (Elt Ideal) ℓ) (c : Dev nD)

/-- The weights, their moments and the gradient's parts. -/
abbrev A0 : FVec Ideal S16x1024 .f32 := m ((c : Thread nD τ).loc main_arg0)
abbrev A1 : FVec Ideal S16x1024 .f32 := m ((c : Thread nD τ).loc main_arg1)
abbrev A2 : FVec Ideal S16x1024 .f32 := m ((c : Thread nD τ).loc main_arg2)
abbrev A3 : FVec Ideal S4x16x1024 .f32 := m ((c : Thread nD τ).loc main_arg3)

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The blocks a point reads. -/
abbrev b0 (t : Fin cfg0.N) : FVec Ideal S16x1024 .f32 := iblk m c 0 t
abbrev b1 (t : Fin cfg0.N) : FVec Ideal S16x1024 .f32 := iblk m c 1 t
abbrev b2 (t : Fin cfg0.N) : FVec Ideal S16x1024 .f32 := iblk m c 2 t
abbrev b3 (t : Fin cfg0.N) : FVec Ideal S4x16x1024 .f32 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- The gradient and the rest at the arrays' elements. -/
def outG (p : FVec Ideal S4x16x1024 .f32) : FVec Ideal S16x1024 .f32 := fun i => grad p (i 0) (i 1)
def outM (a : FVec Ideal S16x1024 .f32) (p : FVec Ideal S4x16x1024 .f32) : FVec Ideal S16x1024 .f32 := fun i => mom (a i) (outG p i)
def outV (a : FVec Ideal S16x1024 .f32) (p : FVec Ideal S4x16x1024 .f32) : FVec Ideal S16x1024 .f32 := fun i => vel (a i) (outG p i)
def outD (w a b : FVec Ideal S16x1024 .f32) (p : FVec Ideal S4x16x1024 .f32) : FVec Ideal S16x1024 .f32 := fun i => step (w i) (outM a p i) (outV b p i)

theorem host0 (i : S16x1024.Idx) : (V m c main_v3 : FVec Ideal S16x1024 .f32) i = A0 m c i := by
  idx_vars i
  entry_read
  pointwise []
theorem host1 (i : S16x1024.Idx) : (V m c main_v4 : FVec Ideal S16x1024 .f32) i = A1 m c i := by
  idx_vars i
  entry_read
  pointwise []
theorem host2 (i : S16x1024.Idx) : (V m c main_v5 : FVec Ideal S16x1024 .f32) i = A2 m c i := by
  idx_vars i
  entry_read
  pointwise []

section blocks
variable (t : Fin cfg0.N) (r : Fin 16) (n : Fin 16) (h : n.val = 16 * t.val + r.val) (q : Fin 1024)
include h
theorem in0 : b0 m c t (ix2 r q) = A0 m c (ix2 n q) := by
  rw [← host0 m c]; blk_point [b0, iblk, idx t]
theorem in1 : b1 m c t (ix2 r q) = A1 m c (ix2 n q) := by
  rw [← host1 m c]; blk_point [b1, iblk, idx t]
theorem in2 : b2 m c t (ix2 r q) = A2 m c (ix2 n q) := by
  rw [← host2 m c]; blk_point [b2, iblk, idx t]
theorem in3 (d : Fin 4) : b3 m c t (ix3 d r q) = A3 m c (ix3 d n q) := by blk_point [b3, iblk, idx t]
theorem sum_eq : grad (b3 m c t) r q = grad (A3 m c) n q := Finset.sum_congr rfl fun d _ => in3 m c t r n h q d

end blocks

section values
variable (x0 x1 x2 : FVec Ideal S16x1024 .f32) (x3 : FVec Ideal S4x16x1024 .f32) (r : Fin 16) (q : Fin 1024)
theorem at4 : out0_4 (F := Ideal) x0 x1 x2 x3 (ix2 r q) = grad x3 r q := by
  frame_out
  pointwise [k0_pay1, k0_pay2, k0_pay3, k0_pay4, k0_pay5, k0_pay6, k0_pay7]
  rw [grad, Fin.sum_univ_four]
theorem at6 : out0_6 (F := Ideal) x0 x1 x2 x3 (ix2 r q) = mom (x1 (ix2 r q)) (grad x3 r q) := by
  frame_out
  pointwise [k0_pay1, k0_pay2, k0_pay3, k0_pay4, k0_pay5, k0_pay6, k0_pay7]
  rw [grad, Fin.sum_univ_four]
  rfl
theorem at7 : out0_7 (F := Ideal) x0 x1 x2 x3 (ix2 r q) = vel (x2 (ix2 r q)) (grad x3 r q) := by
  frame_out
  pointwise [k0_pay1, k0_pay2, k0_pay3, k0_pay4, k0_pay5, k0_pay6, k0_pay7]
  rw [grad, Fin.sum_univ_four]
  rfl
theorem at5 : out0_5 (F := Ideal) x0 x1 x2 x3 (ix2 r q) = step (x0 (ix2 r q)) (mom (x1 (ix2 r q)) (grad x3 r q)) (vel (x2 (ix2 r q)) (grad x3 r q)) := by
  frame_out
  pointwise [k0_pay1, k0_pay2, k0_pay3, k0_pay4, k0_pay5, k0_pay6, k0_pay7]
  rw [named1, named2, grad, Fin.sum_univ_four]
  rfl
end values

theorem bounds (t : Fin cfg0.N) (r : Fin 16) : 16 * t.val + r.val < 16 := by
  have hN : cfg0.N = 1 := rfl
  have := t.isLt
  omega
theorem emb (t : Fin cfg0.N) (r : Fin 16) (q : Fin 1024) (hn : 16 * t.val + r.val < 16) :
    (win0_4.blk t).view.emb (ix2 r q) = (ix2 ⟨16 * t.val + r.val, hn⟩ q : S16x1024.Idx)
    ∧ (win0_5.blk t).view.emb (ix2 r q) = (ix2 ⟨16 * t.val + r.val, hn⟩ q : S16x1024.Idx)
    ∧ (win0_6.blk t).view.emb (ix2 r q) = (ix2 ⟨16 * t.val + r.val, hn⟩ q : S16x1024.Idx)
    ∧ (win0_7.blk t).view.emb (ix2 r q) = (ix2 ⟨16 * t.val + r.val, hn⟩ q : S16x1024.Idx) :=
  ⟨by blk_ext [idx t], by blk_ext [idx t], by blk_ext [idx t], by blk_ext [idx t]⟩

theorem final4 : (dats m 0 c).arrAt 4 (cfgs 0).N = outG (A3 m c) := by
  refine (dats m 0 c).arrAt_eq_of_covers 4 _ (by decide +kernel) fun t hf y => ?_
  blk_simp
  obtain ⟨r, q, rfl⟩ : ∃ (r : Fin 16) (q : Fin 1024), y = ix2 r q := ⟨y 0, y 1, by idx_vars y⟩
  have hn := bounds t r
  refine (congrFun (after0_4 m c t) (ix2 r q)).trans ((at4 (b0 m c t) (b1 m c t) (b2 m c t) (b3 m c t) r q).trans ?_)
  rw [(emb t r q hn).1]
  exact sum_eq m c t r _ rfl q

theorem final5 : (dats m 0 c).arrAt 5 (cfgs 0).N = outD (A0 m c) (A1 m c) (A2 m c) (A3 m c) := by
  refine (dats m 0 c).arrAt_eq_of_covers 5 _ (by decide +kernel) fun t hf y => ?_
  blk_simp
  obtain ⟨r, q, rfl⟩ : ∃ (r : Fin 16) (q : Fin 1024), y = ix2 r q := ⟨y 0, y 1, by idx_vars y⟩
  have hn := bounds t r
  refine (congrFun (after0_5 m c t) (ix2 r q)).trans ((at5 (b0 m c t) (b1 m c t) (b2 m c t) (b3 m c t) r q).trans ?_)
  rw [(emb t r q hn).2.1]
  rw [in0 m c t r ⟨_, hn⟩ rfl, in1 m c t r ⟨_, hn⟩ rfl, in2 m c t r ⟨_, hn⟩ rfl, sum_eq m c t r ⟨_, hn⟩ rfl]
  rfl

theorem final6 : (dats m 0 c).arrAt 6 (cfgs 0).N = outM (A1 m c) (A3 m c) := by
  refine (dats m 0 c).arrAt_eq_of_covers 6 _ (by decide +kernel) fun t hf y => ?_
  blk_simp
  obtain ⟨r, q, rfl⟩ : ∃ (r : Fin 16) (q : Fin 1024), y = ix2 r q := ⟨y 0, y 1, by idx_vars y⟩
  have hn := bounds t r
  refine (congrFun (after0_6 m c t) (ix2 r q)).trans ((at6 (b0 m c t) (b1 m c t) (b2 m c t) (b3 m c t) r q).trans ?_)
  rw [(emb t r q hn).2.2.1]
  rw [in1 m c t r ⟨_, hn⟩ rfl, sum_eq m c t r ⟨_, hn⟩ rfl]
  rfl

theorem final7 : (dats m 0 c).arrAt 7 (cfgs 0).N = outV (A2 m c) (A3 m c) := by
  refine (dats m 0 c).arrAt_eq_of_covers 7 _ (by decide +kernel) fun t hf y => ?_
  blk_simp
  obtain ⟨r, q, rfl⟩ : ∃ (r : Fin 16) (q : Fin 1024), y = ix2 r q := ⟨y 0, y 1, by idx_vars y⟩
  have hn := bounds t r
  refine (congrFun (after0_7 m c t) (ix2 r q)).trans ((at7 (b0 m c t) (b1 m c t) (b2 m c t) (b3 m c t) r q).trans ?_)
  rw [(emb t r q hn).2.2.2]
  rw [in2 m c t r ⟨_, hn⟩ rfl, sum_eq m c t r ⟨_, hn⟩ rfl]
  rfl

section reference
open Cert.Reference19Ideal.Read
variable (w a b : FVec Ideal S16x1024 .f32) (p : FVec Ideal S4x16x1024 .f32)
theorem refG : val_main_v0 (F := Ideal) p = outG p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  rfl
theorem refM : val_main_v5 (F := Ideal) a p = outM a p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  rfl
theorem refV : val_main_v11 (F := Ideal) b p = outV b p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  rfl
theorem refD : val_main_v24 (F := Ideal) w a b p = outD w a b p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  exact step_eq _ _ _
end reference

theorem frame_reference : Cert.quiescent_Reference19Ideal (hReference19Ideal := Cert.Reference19Ideal.Gen.facts) := fun m g _ =>
  (θ_run Cert.Reference19Ideal.defs _ _).mono (fun _ h => ⟨fun c => (h c).2.2.2.2, sem_eq_zero_of_no_sems (by decide) _⟩)
    (Cert.Reference19Ideal.Value.run (F := Ideal) m g)

/-- The two named values are the ones the constants stand for. -/
theorem preserves : Cert.preserves_Kernel19_Kernel19Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel19Ideal_Reference19Ideal (hKernel19Ideal := Cert.Kernel19Ideal.Gen.facts) (hReference19Ideal := Cert.Reference19Ideal.Gen.facts) := by
  intro m g m' g' hpre hagree
  refine ⟨fun c => outG (A3 m c), fun c => outD (A0 m c) (A1 m c) (A2 m c) (A3 m c), fun c => outM (A1 m c) (A3 m c), fun c => outV (A2 m c) (A3 m c),
    (θ_run Cert.Kernel19Ideal.defs _ _).mono (fun _ h c => ?_) (Cert.Kernel19Ideal.Value.run_blocks m g),
    (θ_run Cert.Reference19Ideal.defs _ _).mono (fun _ h c => ?_) (Cert.Reference19Ideal.Value.run m' g')⟩
  · obtain ⟨e4, e5, e6, e7, -, e⟩ := h c
    exact ⟨e4.trans (final4 m c), e5.trans (final5 m c), e6.trans (final6 m c), e7.trans (final7 m c), e⟩
  · obtain ⟨e4, e5, e6, e7, e⟩ := h c
    obtain ⟨a0, a1, a2, a3⟩ := hagree c
    refine ⟨e4.trans ((Cert.Reference19Ideal.Read.val_main_v0_eq _).trans ((refG _).trans ?_)),
      e5.trans ((Cert.Reference19Ideal.Read.val_main_v24_eq _ _ _ _).trans ((refD _ _ _ _).trans ?_)),
      e6.trans ((Cert.Reference19Ideal.Read.val_main_v5_eq _ _).trans ((refM _ _).trans ?_)),
      e7.trans ((Cert.Reference19Ideal.Read.val_main_v11_eq _ _).trans ((refV _ _).trans ?_)), e⟩
    · exact congrArg outG a3
    · exact (congrArg (fun x => outD x _ _ _) a0).trans ((congrArg (fun x => outD _ x _ _) a1).trans ((congrArg (fun x => outD _ _ x _) a2).trans (congrArg (outD _ _ _) a3)))
    · exact congrArg₂ outM a1 a3
    · exact congrArg₂ outV a2 a3

end Cert.AdSh

end
-- ==== Proof.AdSm.lean ====
/- The optimiser's call on the packed small weights that every device holds. -/
module

public import proofs.«01_k».proof.Proof.Gen.Kernel18Ideal.Value
public import proofs.«01_k».proof.Proof.Gen.Reference18Ideal.Read
public import proofs.«01_k».proof.Proof.Adam

@[expose] public section
set_option maxRecDepth 16384
noncomputable section
open Idealize.ShloMosaic Idealize.ShloMosaic.TcCoe Idealize.SL.Sem
open Idealize.ShloMosaic.Pipeline (Dat)
open Cert.Kernel18Ideal Cert.Kernel18Ideal.Gen
namespace Cert.AdSm
open Cert.Adam
variable (m : (ℓ : Loc nD τ sig) → Buf (Elt Ideal) ℓ) (c : Dev nD)

/-- The weights, their moments and the gradient's parts. -/
abbrev A0 : FVec Ideal S560x1024 .f32 := m ((c : Thread nD τ).loc main_arg0)
abbrev A1 : FVec Ideal S560x1024 .f32 := m ((c : Thread nD τ).loc main_arg1)
abbrev A2 : FVec Ideal S560x1024 .f32 := m ((c : Thread nD τ).loc main_arg2)
abbrev A3 : FVec Ideal S8x560x1024 .f32 := m ((c : Thread nD τ).loc main_arg3)

theorem idx : ∀ t : Fin cfg0.N, win0_0.index t = ![t.val, 0] ∧ win0_1.index t = ![t.val, 0] ∧ win0_2.index t = ![t.val, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

/-- The blocks a point reads. -/
abbrev b0 (t : Fin cfg0.N) : FVec Ideal S112x1024 .f32 := iblk m c 0 t
abbrev b1 (t : Fin cfg0.N) : FVec Ideal S112x1024 .f32 := iblk m c 1 t
abbrev b2 (t : Fin cfg0.N) : FVec Ideal S112x1024 .f32 := iblk m c 2 t
abbrev b3 (t : Fin cfg0.N) : FVec Ideal S8x112x1024 .f32 := iblk m c 3 t

theorem named1 : Named.named (F := Ideal) κ "unbias1" (φ := .f32) 0x3FC48605#32 = unbias1 := IdealRules.named_const.ideal_named_scalar _ _ _ _ rfl
theorem named2 : Named.named (F := Ideal) κ "unbias2" (φ := .f32) 0x42C8E6D3#32 = unbias2 := IdealRules.named_const.ideal_named_scalar _ _ _ _ rfl

/-- The gradient and the rest at the arrays' elements. -/
def outG (p : FVec Ideal S8x560x1024 .f32) : FVec Ideal S560x1024 .f32 := fun i => grad p (i 0) (i 1)
def outM (a : FVec Ideal S560x1024 .f32) (p : FVec Ideal S8x560x1024 .f32) : FVec Ideal S560x1024 .f32 := fun i => mom (a i) (outG p i)
def outV (a : FVec Ideal S560x1024 .f32) (p : FVec Ideal S8x560x1024 .f32) : FVec Ideal S560x1024 .f32 := fun i => vel (a i) (outG p i)
def outD (w a b : FVec Ideal S560x1024 .f32) (p : FVec Ideal S8x560x1024 .f32) : FVec Ideal S560x1024 .f32 := fun i => step (w i) (outM a p i) (outV b p i)

theorem host0 (i : S560x1024.Idx) : (V m c main_v3 : FVec Ideal S560x1024 .f32) i = A0 m c i := by
  idx_vars i
  entry_read
  pointwise []
theorem host1 (i : S560x1024.Idx) : (V m c main_v4 : FVec Ideal S560x1024 .f32) i = A1 m c i := by
  idx_vars i
  entry_read
  pointwise []
theorem host2 (i : S560x1024.Idx) : (V m c main_v5 : FVec Ideal S560x1024 .f32) i = A2 m c i := by
  idx_vars i
  entry_read
  pointwise []

section blocks
variable (t : Fin cfg0.N) (r : Fin 112) (n : Fin 560) (h : n.val = 112 * t.val + r.val) (q : Fin 1024)
include h
theorem in0 : b0 m c t (ix2 r q) = A0 m c (ix2 n q) := by
  rw [← host0 m c]; blk_point [b0, iblk, idx t]
theorem in1 : b1 m c t (ix2 r q) = A1 m c (ix2 n q) := by
  rw [← host1 m c]; blk_point [b1, iblk, idx t]
theorem in2 : b2 m c t (ix2 r q) = A2 m c (ix2 n q) := by
  rw [← host2 m c]; blk_point [b2, iblk, idx t]
theorem in3 (d : Fin 8) : b3 m c t (ix3 d r q) = A3 m c (ix3 d n q) := by blk_point [b3, iblk, idx t]
theorem sum_eq : grad (b3 m c t) r q = grad (A3 m c) n q := Finset.sum_congr rfl fun d _ => in3 m c t r n h q d

end blocks

section values
variable (x0 x1 x2 : FVec Ideal S112x1024 .f32) (x3 : FVec Ideal S8x112x1024 .f32) (r : Fin 112) (q : Fin 1024)
theorem at4 : out0_4 (F := Ideal) x0 x1 x2 x3 (ix2 r q) = grad x3 r q := by
  frame_out
  pointwise [k0_pay1, k0_pay2, k0_pay3, k0_pay4, k0_pay5, k0_pay6, k0_pay7, k0_pay8, k0_pay9, k0_pay10]
  rw [grad, Fin.sum_univ_eight]
theorem at6 : out0_6 (F := Ideal) x0 x1 x2 x3 (ix2 r q) = mom (x1 (ix2 r q)) (grad x3 r q) := by
  frame_out
  pointwise [k0_pay1, k0_pay2, k0_pay3, k0_pay4, k0_pay5, k0_pay6, k0_pay7, k0_pay8, k0_pay9, k0_pay10]
  rw [grad, Fin.sum_univ_eight]
  rfl
theorem at7 : out0_7 (F := Ideal) x0 x1 x2 x3 (ix2 r q) = vel (x2 (ix2 r q)) (grad x3 r q) := by
  frame_out
  pointwise [k0_pay1, k0_pay2, k0_pay3, k0_pay4, k0_pay5, k0_pay6, k0_pay7, k0_pay8, k0_pay9, k0_pay10]
  rw [grad, Fin.sum_univ_eight]
  rfl
theorem at5 : out0_5 (F := Ideal) x0 x1 x2 x3 (ix2 r q) = step (x0 (ix2 r q)) (mom (x1 (ix2 r q)) (grad x3 r q)) (vel (x2 (ix2 r q)) (grad x3 r q)) := by
  frame_out
  pointwise [k0_pay1, k0_pay2, k0_pay3, k0_pay4, k0_pay5, k0_pay6, k0_pay7, k0_pay8, k0_pay9, k0_pay10]
  rw [named1, named2, grad, Fin.sum_univ_eight]
  rfl
end values

theorem bounds (t : Fin cfg0.N) (r : Fin 112) : 112 * t.val + r.val < 560 := by
  have hN : cfg0.N = 5 := rfl
  have := t.isLt
  omega
theorem emb (t : Fin cfg0.N) (r : Fin 112) (q : Fin 1024) (hn : 112 * t.val + r.val < 560) :
    (win0_4.blk t).view.emb (ix2 r q) = (ix2 ⟨112 * t.val + r.val, hn⟩ q : S560x1024.Idx)
    ∧ (win0_5.blk t).view.emb (ix2 r q) = (ix2 ⟨112 * t.val + r.val, hn⟩ q : S560x1024.Idx)
    ∧ (win0_6.blk t).view.emb (ix2 r q) = (ix2 ⟨112 * t.val + r.val, hn⟩ q : S560x1024.Idx)
    ∧ (win0_7.blk t).view.emb (ix2 r q) = (ix2 ⟨112 * t.val + r.val, hn⟩ q : S560x1024.Idx) :=
  ⟨by blk_ext [idx t], by blk_ext [idx t], by blk_ext [idx t], by blk_ext [idx t]⟩

theorem final4 : (dats m 0 c).arrAt 4 (cfgs 0).N = outG (A3 m c) := by
  refine (dats m 0 c).arrAt_eq_of_covers 4 _ (by decide +kernel) fun t hf y => ?_
  blk_simp
  obtain ⟨r, q, rfl⟩ : ∃ (r : Fin 112) (q : Fin 1024), y = ix2 r q := ⟨y 0, y 1, by idx_vars y⟩
  have hn := bounds t r
  refine (congrFun (after0_4 m c t) (ix2 r q)).trans ((at4 (b0 m c t) (b1 m c t) (b2 m c t) (b3 m c t) r q).trans ?_)
  rw [(emb t r q hn).1]
  exact sum_eq m c t r _ rfl q

theorem final5 : (dats m 0 c).arrAt 5 (cfgs 0).N = outD (A0 m c) (A1 m c) (A2 m c) (A3 m c) := by
  refine (dats m 0 c).arrAt_eq_of_covers 5 _ (by decide +kernel) fun t hf y => ?_
  blk_simp
  obtain ⟨r, q, rfl⟩ : ∃ (r : Fin 112) (q : Fin 1024), y = ix2 r q := ⟨y 0, y 1, by idx_vars y⟩
  have hn := bounds t r
  refine (congrFun (after0_5 m c t) (ix2 r q)).trans ((at5 (b0 m c t) (b1 m c t) (b2 m c t) (b3 m c t) r q).trans ?_)
  rw [(emb t r q hn).2.1]
  rw [in0 m c t r ⟨_, hn⟩ rfl, in1 m c t r ⟨_, hn⟩ rfl, in2 m c t r ⟨_, hn⟩ rfl, sum_eq m c t r ⟨_, hn⟩ rfl]
  rfl

theorem final6 : (dats m 0 c).arrAt 6 (cfgs 0).N = outM (A1 m c) (A3 m c) := by
  refine (dats m 0 c).arrAt_eq_of_covers 6 _ (by decide +kernel) fun t hf y => ?_
  blk_simp
  obtain ⟨r, q, rfl⟩ : ∃ (r : Fin 112) (q : Fin 1024), y = ix2 r q := ⟨y 0, y 1, by idx_vars y⟩
  have hn := bounds t r
  refine (congrFun (after0_6 m c t) (ix2 r q)).trans ((at6 (b0 m c t) (b1 m c t) (b2 m c t) (b3 m c t) r q).trans ?_)
  rw [(emb t r q hn).2.2.1]
  rw [in1 m c t r ⟨_, hn⟩ rfl, sum_eq m c t r ⟨_, hn⟩ rfl]
  rfl

theorem final7 : (dats m 0 c).arrAt 7 (cfgs 0).N = outV (A2 m c) (A3 m c) := by
  refine (dats m 0 c).arrAt_eq_of_covers 7 _ (by decide +kernel) fun t hf y => ?_
  blk_simp
  obtain ⟨r, q, rfl⟩ : ∃ (r : Fin 112) (q : Fin 1024), y = ix2 r q := ⟨y 0, y 1, by idx_vars y⟩
  have hn := bounds t r
  refine (congrFun (after0_7 m c t) (ix2 r q)).trans ((at7 (b0 m c t) (b1 m c t) (b2 m c t) (b3 m c t) r q).trans ?_)
  rw [(emb t r q hn).2.2.2]
  rw [in2 m c t r ⟨_, hn⟩ rfl, sum_eq m c t r ⟨_, hn⟩ rfl]
  rfl

section reference
open Cert.Reference18Ideal.Read
variable (w a b : FVec Ideal S560x1024 .f32) (p : FVec Ideal S8x560x1024 .f32)
theorem refG : val_main_v0 (F := Ideal) p = outG p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  rfl
theorem refM : val_main_v5 (F := Ideal) a p = outM a p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  rfl
theorem refV : val_main_v11 (F := Ideal) b p = outV b p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  rfl
theorem refD : val_main_v24 (F := Ideal) w a b p = outD w a b p := by
  funext i
  idx_vars i
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_cst, val_main_cst_0, val_main_cst_1, val_main_cst_2, val_main_cst_3, val_main_cst_4, val_main_cst_5, val_main_cst_6, val_main_cst_7, val_main_cst_8]
  exact step_eq _ _ _
end reference

theorem frame_reference : Cert.quiescent_Reference18Ideal (hReference18Ideal := Cert.Reference18Ideal.Gen.facts) := fun m g _ =>
  (θ_run Cert.Reference18Ideal.defs _ _).mono (fun _ h => ⟨fun c => (h c).2.2.2.2, sem_eq_zero_of_no_sems (by decide) _⟩)
    (Cert.Reference18Ideal.Value.run (F := Ideal) m g)

/-- The two named values are the ones the constants stand for. -/
theorem preserves : Cert.preserves_Kernel18_Kernel18Ideal :=
  ⟨IdealRules.named_const.statement κ "unbias1" .f32 0x3FC48605#32 unbias1 rfl, IdealRules.named_const.statement κ "unbias2" .f32 0x42C8E6D3#32 unbias2 rfl⟩

set_option maxHeartbeats 2000000 in
/-- The call and the reference leave the same arrays. -/
theorem same : Cert.algebraic_Kernel18Ideal_Reference18Ideal (hKernel18Ideal := Cert.Kernel18Ideal.Gen.facts) (hReference18Ideal := Cert.Reference18Ideal.Gen.facts) := by
  intro m g m' g' hpre hagree
  refine ⟨fun c => outG (A3 m c), fun c => outD (A0 m c) (A1 m c) (A2 m c) (A3 m c), fun c => outM (A1 m c) (A3 m c), fun c => outV (A2 m c) (A3 m c),
    (θ_run Cert.Kernel18Ideal.defs _ _).mono (fun _ h c => ?_) (Cert.Kernel18Ideal.Value.run_blocks m g),
    (θ_run Cert.Reference18Ideal.defs _ _).mono (fun _ h c => ?_) (Cert.Reference18Ideal.Value.run m' g')⟩
  · obtain ⟨e4, e5, e6, e7, -, e⟩ := h c
    exact ⟨e4.trans (final4 m c), e5.trans (final5 m c), e6.trans (final6 m c), e7.trans (final7 m c), e⟩
  · obtain ⟨e4, e5, e6, e7, e⟩ := h c
    obtain ⟨a0, a1, a2, a3⟩ := hagree c
    refine ⟨e4.trans ((Cert.Reference18Ideal.Read.val_main_v0_eq _).trans ((refG _).trans ?_)),
      e5.trans ((Cert.Reference18Ideal.Read.val_main_v24_eq _ _ _ _).trans ((refD _ _ _ _).trans ?_)),
      e6.trans ((Cert.Reference18Ideal.Read.val_main_v5_eq _ _).trans ((refM _ _).trans ?_)),
      e7.trans ((Cert.Reference18Ideal.Read.val_main_v11_eq _ _).trans ((refV _ _).trans ?_)), e⟩
    · exact congrArg outG a3
    · exact (congrArg (fun x => outD x _ _ _) a0).trans ((congrArg (fun x => outD _ x _ _) a1).trans ((congrArg (fun x => outD _ _ x _) a2).trans (congrArg (outD _ _ _) a3)))
    · exact congrArg₂ outM a1 a3
    · exact congrArg₂ outV a2 a3

end Cert.AdSm

end
-- ==== Proof.ORef.lean ====
/- The odd mixer's forward call: its reference's values row by row. -/
module

public import proofs.«01_k».proof.Proof.RNorm
public import proofs.«01_k».proof.Proof.Gen.Reference32Ideal.Read

@[expose] public section
set_option maxRecDepth 16384
noncomputable section
open Idealize.ShloMosaic Idealize.ShloMosaic.TcCoe Idealize.SL.Sem
open Cert.Odd.Ref
namespace Cert.OFwd
open Cert.Odd (Row part pp glu cp late past past_lt late_zero sigm ln mean xc va rs xh width eps)
section
open Cert.Reference32Ideal Cert.Reference32Ideal.Read
variable (x0 : FVec Ideal S4096x5120 .f32) (x1 : FVec Ideal S3x1024 .f32) (x2 : FVec Ideal S31x1024 .f32) (x3 x4 x5 : FVec Ideal S1024 .f32)

/-- The long filter's output. -/
def outD : FVec Ideal S4096x1024 .f32 := fun i => DR x0 x2 x3 (i 0) (i 1)
/-- The activation of a normalised row. -/
def act (d g b : Row) : Row := fun l => ln d g b l * sigm (ln d g b l)
/-- The two branches side by side. -/
def outY : FVec Ideal S4096x2048 .bf16 := fun i =>
  if h : (i 1).val < 1024 then part (XR x0) 0 (i 0) ⟨(i 1).val, h⟩ * cp (XR x0) (F3 x1) (i 0) ⟨(i 1).val, h⟩
  else act (DR x0 x2 x3 (i 0)) (VR x4) (VR x5) ⟨(i 1).val - 1024, by have : (i 1).val < 2048 := (i 1).isLt; omega⟩

theorem same27 : val_main_v27 (F := Ideal) x0 x1 = Cert.ReferenceIdeal.Read.val_main_v19 (F := Ideal) x0 x1 := rfl
theorem same109 : val_main_v109 (F := Ideal) x0 x2 x3 = Cert.ReferenceIdeal.Read.val_main_v105 (F := Ideal) x0 x2 x3 := rfl
theorem same208 : val_main_v208 (F := Ideal) x0 x2 x3 = Cert.ReferenceIdeal.Read.val_main_v105 (F := Ideal) x0 x2 x3 := rfl
theorem same131 : val_main_v131 (F := Ideal) x0 x2 x3 x4 x5 = Cert.ReferenceIdeal.Read.val_main_v130 (F := Ideal) x0 x2 x3 x4 x5 := rfl

theorem refD : val_main_v208 (F := Ideal) x0 x2 x3 = outD x0 x2 x3 := by
  funext i
  obtain ⟨n, l, rfl⟩ : ∃ (n : Fin 4096) (l : Fin 1024), i = ix2 n l := ⟨i 0, i 1, by idx_vars i⟩
  rw [same208]
  exact v105_at x0 x2 x3 n l

theorem v27_at (n : Fin 4096) (l : Fin 1024) : val_main_v27 (F := Ideal) x0 x1 (ix2 n l) = cp (XR x0) (F3 x1) n l := by
  rw [same27]; exact v19_at x0 x1 n l
theorem v131_at (n : Fin 4096) (l : Fin 1024) : val_main_v131 (F := Ideal) x0 x2 x3 x4 x5 (ix2 n l) = ln (DR x0 x2 x3 n) (VR x4) (VR x5) l := by
  rw [same131]; exact v130_at x0 x2 x3 x4 x5 n l

theorem refY : val_main_v134 (F := Ideal) x0 x1 x2 x3 x4 x5 = outY x0 x1 x2 x3 x4 x5 := by
  funext i
  obtain ⟨n, q, rfl⟩ : ∃ (n : Fin 4096) (q : Fin 2048), i = ix2 n q := ⟨i 0, i 1, by idx_vars i⟩
  pointwise [val_main_v134, val_main_v133, val_main_v132, val_main_call0_v5, val_main_call0_v4, val_main_call0_v3, val_main_call0_v2, val_main_call0_v1,
    val_main_call0_v0, val_main_call0_cst, val_main_call0_cst_0, val_main_v28, val_main_v9, v27_at, v131_at, outY, act, sigm, part, XR]
end
end Cert.OFwd
end
-- ==== Proof.OPay.lean ====
/- The odd mixer's forward call: one row of each filter and of the norm. -/
module

public import proofs.«01_k».proof.Proof.ORef
public import proofs.«01_k».proof.Proof.Gen.Kernel32Ideal.Skeleton
public import Idealize.ShloMosaic.Lib.Pointwise

@[expose] public section
set_option maxRecDepth 16384
noncomputable section
open Idealize.ShloMosaic Idealize.ShloMosaic.TcCoe Idealize.SL.Sem
open Cert.Odd.Ref
namespace Cert.OFwd
open Cert.Odd (Row part pp glu cp late past past_lt late_zero sigm ln mean xc va rs xh width eps)
section
open Cert.Kernel32Ideal Cert.Kernel32Ideal.Gen
open Idealize.ShloMosaic.Pipeline (Dat)

/-- A delayed row read through the 32 rows in front of a block. -/
theorem late_read (f : Fin 4096 → Row) {n T s : ℕ} (e : n + s = T + 32) (hs : s ≤ 32) (l : Fin 1024) : late f n 32 l = late f T s l := by
  unfold late
  by_cases h : s ≤ T
  · rw [if_pos (by omega), if_pos h, show n - 32 = T - s by omega]
  · rw [if_neg (by omega), if_neg h]

/-- The filter's sum in the order the call adds it. -/
theorem taps (w x : Fin 31 → EReal) (b : EReal) : (∑ k, w k * x k) + b = b + w 30 * x 30 + w 29 * x 29 + w 28 * x 28 + w 27 * x 27 + w 26 * x 26 + w 25 * x 25 + w 24 * x 24 + w 23 * x 23 + w 22 * x 22 + w 21 * x 21 + w 20 * x 20 + w 19 * x 19 + w 18 * x 18 + w 17 * x 17 + w 16 * x 16 + w 15 * x 15 + w 14 * x 14 + w 13 * x 13 + w 12 * x 12 + w 11 * x 11 + w 10 * x 10 + w 9 * x 9 + w 8 * x 8 + w 7 * x 7 + w 6 * x 6 + w 5 * x 5 + w 4 * x 4 + w 3 * x 3 + w 2 * x 2 + w 1 * x 1 + w 0 * x 0 := by
  rw [add_comm, ← Equiv.sum_comp Fin.revPerm (fun k => w k * x k)]
  simp only [Fin.sum_univ_castSucc, Fin.sum_univ_zero, zero_add, ← add_assoc]
  rfl

section
variable (G : FVec Ideal S256x1024 .f32) (P : FVec Ideal S32x1024 .f32) (b : FVec Ideal S1x1024 .f32) (w : Fin 31 → FVec Ideal S1x1024 .f32)
  (f : Fin 4096 → Row) (t : ℕ)
set_option maxHeartbeats 4000000 in
/-- One row of the long filter. -/
theorem long_at (hG : ∀ (r : Fin 256) (l : Fin 1024), G (ix2 r l) = late f (256 * t + r.val) 0 l)
    (hE : ∀ (n : Fin 288) (l : Fin 1024), k0_pay8 G P (ix2 n l) = late f (256 * t + n.val) 32 l) (r : Fin 256) (l : Fin 1024) :
    k0_pay23 (F := Ideal) (k0_pay11 G P) (k0_pay12 G P) (k0_pay13 G P) (k0_pay14 G P) (k0_pay22 (k0_pay8 G P) (k0_pay9 G P) (k0_pay10 G P) (k0_pay11 G P) (k0_pay12 G P) (k0_pay13 G P) (k0_pay14 G P) (k0_pay15 G P) (k0_pay19 (k0_pay8 G P) (k0_pay9 G P) (k0_pay10 G P) (k0_pay11 G P) (k0_pay12 G P) (k0_pay13 G P) (k0_pay14 G P) (k0_pay15 G P)
      (k0_pay18 (k0_pay8 G P) (k0_pay9 G P) (k0_pay10 G P) (k0_pay11 G P) (k0_pay12 G P) (k0_pay13 G P) (k0_pay14 G P) (k0_pay15 G P) (k0_pay16 G b (w 30)) (w 29) (k0_pay17 G P) (w 28) (w 27) (w 26) (w 25) (w 24) (w 23) (w 22) (w 21)) (w 20) (w 19) (w 18) (w 17) (w 16) (w 15) (w 14) (w 13))
      (k0_pay20 (k0_pay10 G P)) (k0_pay21 (w 12)) (w 11) (w 10) (w 9) (w 8) (w 7) (w 6) (w 5) (w 4)) (w 3) (w 2) (w 1) (w 0) (ix2 r l)
    = (∑ k : Fin 31, w k (ix2 0 l) * late f (256 * t + r.val) (30 - k.val) l) + b (ix2 0 l) := by
  rw [taps (fun k => w k (ix2 0 l))]
  pointwise [k0_pay23, k0_pay22, k0_pay21, k0_pay20, k0_pay19, k0_pay18, k0_pay17, k0_pay16, k0_pay15, k0_pay14, k0_pay13, k0_pay12, k0_pay11, k0_pay10, k0_pay9, hG, hE]
  repeat' (first | exact congrArg (_ * ·) (late_read f (by omega) (by omega) l) | refine congrArg₂ (· + ·) ?_ ?_)
  all_goals rfl

/-- One row of the short filter's branch. -/
theorem short_at (S : FVec Ideal S256x1024 .f32) (a2 a1 a0 : FVec Ideal S1x1024 .f32) (hG : ∀ (r : Fin 256) (l : Fin 1024), G (ix2 r l) = late f (256 * t + r.val) 0 l)
    (hE : ∀ (n : Fin 288) (l : Fin 1024), k0_pay8 G P (ix2 n l) = late f (256 * t + n.val) 32 l) (r : Fin 256) (l : Fin 1024) :
    k0_pay7 (F := Ideal) S G P a2 a1 a0 (ix2 r l) = S (ix2 r l) * (a2 (ix2 0 l) * late f (256 * t + r.val) 0 l + a1 (ix2 0 l) * late f (256 * t + r.val) 1 l + a0 (ix2 0 l) * late f (256 * t + r.val) 2 l) := by
  have e : k0_pay7 (F := Ideal) S G P a2 a1 a0 = truncf .bf16 (mulf S (addf (addf (mulf (broadcastTo S256x1024 a2 broadcasts_S1x1024_S256x1024) G)
      (mulf (broadcastTo S256x1024 a1 broadcasts_S1x1024_S256x1024) (k0_pay17 G P)))
      (mulf (broadcastTo S256x1024 a0 broadcasts_S1x1024_S256x1024) (extractStridedSlice S256x1024 ![32, 0] (k0_pay10 G P) slices_S288x1024_o32_0_S256x1024)))) bitsLt_bf16_f32 := rfl
  rw [e]
  pointwise [k0_pay17, k0_pay10, k0_pay9, hG, hE]
  rw [late_read f (T := 256 * t + r.val) (s := 1) (by omega) (by omega) l, late_read f (T := 256 * t + r.val) (s := 2) (by omega) (by omega) l]

/-- One row of the normalised branch. -/
theorem norm_at (p q s u : FVec Ideal S288x1024 .f32) (z : FVec Ideal S256x1024 .f32) (a3 a2 a1 a0 g o : FVec Ideal S1x1024 .f32) (D : Row) (r : Fin 256)
    (hD : ∀ l, k0_pay23 (F := Ideal) p q s u z a3 a2 a1 a0 (ix2 r l) = D l) (l : Fin 1024) :
    k0_pay1 (F := Ideal) (k0_pay24 p q s u z a3 a2 a1 a0 g) o (ix2 r l) = act D (fun k => g (ix2 0 k)) (fun k => o (ix2 0 k)) l := by
  pointwise [k0_pay1, k0_pay24, hD, act, ln, xh, rs, va, mean, xc, sigm, width, eps]
  rw [zero_sub]
end

end
end Cert.OFwd
end
-- ==== Proof.OFwd.lean ====
/- The odd mixer's forward call: its blocks, and the arrays it leaves. -/
module

public import proofs.«01_k».proof.Proof.OPay
public import proofs.«01_k».proof.Proof.Gen.Kernel32Ideal.Value
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Cert.Odd.Ref
namespace Cert.OFwd
open Cert.Odd (Row part pp glu cp late past past_lt late_zero sigm ln mean xc va rs xh width eps)
section
open Cert.Kernel32Ideal Cert.Kernel32Ideal.Gen
open Idealize.ShloMosaic.Pipeline (Dat)
/-! The blocks a point reads. -/
section
variable (m : (ℓ : Loc nD τ sig) → Buf (Elt Ideal) ℓ) (c : Dev nD) (t : Fin cfg0.N)
abbrev b0 : FVec Ideal S256x5120 .f32 := iblk m c 0 t
abbrev b1 : FVec Ideal S32x5120 .f32 := iblk m c 1 t
abbrev b2 : FVec Ideal S3x1024 .f32 := iblk m c 2 t
abbrev b3 : FVec Ideal S31x1024 .f32 := iblk m c 3 t
abbrev b4 : FVec Ideal S1x1024 .f32 := iblk m c 4 t
abbrev b5 : FVec Ideal S1x1024 .f32 := iblk m c 5 t
abbrev b6 : FVec Ideal S1x1024 .f32 := iblk m c 6 t
/-- The arguments. -/
abbrev A0 : FVec Ideal S4096x5120 .f32 := m ((c : Thread nD τ).loc main_arg0)
abbrev A1 : FVec Ideal S3x1024 .f32 := m ((c : Thread nD τ).loc main_arg1)
abbrev A2 : FVec Ideal S31x1024 .f32 := m ((c : Thread nD τ).loc main_arg2)
abbrev A3 : FVec Ideal S1024 .f32 := m ((c : Thread nD τ).loc main_arg3)
abbrev A4 : FVec Ideal S1024 .f32 := m ((c : Thread nD τ).loc main_arg4)
abbrev A5 : FVec Ideal S1024 .f32 := m ((c : Thread nD τ).loc main_arg5)

theorem idx : ∀ t : Fin cfg0.N, win0_0.index t = ![t.val, 0] ∧ win0_1.index t = ![8 * t.val - 1, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)
theorem lt16 : t.val < 16 := t.isLt
theorem in0 (r : Fin 256) (j : Fin 5120) (h : 256 * t.val + r.val < 4096) : b0 m c t (ix2 r j) = A0 m c (ix2 ⟨256 * t.val + r.val, h⟩ j) := by
  blk_point [b0, iblk, idx t]
theorem in1 (r : Fin 32) (j : Fin 5120) (h : 32 * (8 * t.val - 1) + r.val < 4096) : b1 m c t (ix2 r j) = A0 m c (ix2 ⟨32 * (8 * t.val - 1) + r.val, h⟩ j) := by
  blk_point [b1, iblk, idx t]
theorem in2 (k : Fin 3) (l : Fin 1024) : b2 m c t (ix2 k l) = A1 m c (ix2 k l) := by blk_point [b2, iblk, idx t]
theorem in3 (k : Fin 31) (l : Fin 1024) : b3 m c t (ix2 k l) = A2 m c (ix2 k l) := by blk_point [b3, iblk, idx t]
theorem in4 (l : Fin 1024) : b4 m c t (ix2 0 l) = VR (A3 m c) l := by
  have h : (V m c main_v0 : FVec Ideal S1x1024 .f32) = shapeCast S1x1024 (A3 m c) shapeCasts_S1024_S1x1024 := by
    entry_read
    rfl
  have e : b4 m c t (ix2 0 l) = (V m c main_v0 : FVec Ideal S1x1024 .f32) (ix2 0 l) := by blk_point [b4, iblk, idx t]
  rw [e, h]
  pointwise [VR]
theorem in5 (l : Fin 1024) : b5 m c t (ix2 0 l) = VR (A4 m c) l := by
  have h : (V m c main_v1 : FVec Ideal S1x1024 .f32) = shapeCast S1x1024 (A4 m c) shapeCasts_S1024_S1x1024 := by
    entry_read
    rfl
  have e : b5 m c t (ix2 0 l) = (V m c main_v1 : FVec Ideal S1x1024 .f32) (ix2 0 l) := by blk_point [b5, iblk, idx t]
  rw [e, h]
  pointwise [VR]
theorem in6 (l : Fin 1024) : b6 m c t (ix2 0 l) = VR (A5 m c) l := by
  have h : (V m c main_v2 : FVec Ideal S1x1024 .f32) = shapeCast S1x1024 (A5 m c) shapeCasts_S1024_S1x1024 := by
    entry_read
    rfl
  have e : b6 m c t (ix2 0 l) = (V m c main_v2 : FVec Ideal S1x1024 .f32) (ix2 0 l) := by blk_point [b6, iblk, idx t]
  rw [e, h]
  pointwise [VR]

omit m c in
theorem keep : k0_pay2 (F := Ideal) (grid0.coords t) = if 0 < t.val then 1 else 0 := by
  have e : (grid0.coords t 0).val = t.val := (by decide +kernel : ∀ t : Fin grid0.N, (grid0.coords t 0).val = t.val) t
  have h := (by decide +kernel : ∀ t : Fin grid0.N,
    (Scalar.extui (Scalar.cmpi .sgt (BitVec.ofNat 32 t.val) 0#32) : BitVec 32) = if 0 < t.val then 1#32 else 0#32) t
  unfold k0_pay2
  rw [e]
  show Scalar.sitofp .f32 (Scalar.extui (Scalar.cmpi .sgt (BitVec.ofNat 32 t.val) 0#32) : BitVec 32) = _
  rw [h]
  split
  · show (((1#32 : BitVec 32).toInt : ℝ) : EReal) = 1
    rw [show (1#32 : BitVec 32).toInt = 1 from rfl]; simp
  · show (((0#32 : BitVec 32).toInt : ℝ) : EReal) = 0
    rw [show (0#32 : BitVec 32).toInt = 0 from rfl]; simp

/-- A block behind the 32 rows in front of it. -/
theorem behind (f : Fin 4096 → Row) (G : FVec Ideal S256x1024 .f32) (P : FVec Ideal S32x1024 .f32)
    (hG : ∀ (r : Fin 256) (l : Fin 1024) (h : 256 * t.val + r.val < 4096), G (ix2 r l) = f ⟨256 * t.val + r.val, h⟩ l)
    (hP : ∀ (r : Fin 32) (l : Fin 1024) (h : 32 * (8 * t.val - 1) + r.val < 4096), P (ix2 r l) = f ⟨32 * (8 * t.val - 1) + r.val, h⟩ l * (if 0 < t.val then 1 else 0))
    (n : Fin 288) (l : Fin 1024) : k0_pay8 (F := Ideal) G P (ix2 n l) = late f (256 * t.val + n.val) 32 l := by
  have ht := lt16 t
  pointwise [k0_pay8]
  unfold late
  by_cases h : n.val < 32
  · rw [dif_pos h]
    refine (hP ⟨n.val, h⟩ l (by dsimp only; omega)).trans ?_
    by_cases h0 : 0 < t.val
    · rw [if_pos h0, if_pos (by omega), mul_one, past_lt f (by omega)]
      congr 2; dsimp only; omega
    · rw [if_neg h0, if_neg (by omega), mul_zero]
  · rw [dif_neg h]
    refine (hG ⟨n.val - 32, by omega⟩ l (by dsimp only; omega)).trans ?_
    rw [if_pos (by omega), past_lt f (by omega)]
    congr 2; dsimp only; omega

/-- The token a row of a block holds. -/
abbrev tok (r : Fin 256) : Fin 4096 := ⟨256 * t.val + r.val, by have := lt16 t; omega⟩
/-- The gated unit of a block and of the rows in front of it. -/
abbrev gB : FVec Ideal S256x1024 .f32 := k0_pay4 (View.ld (b0 m c t) r0_3) (View.ld (b0 m c t) r0_4)
abbrev gP : FVec Ideal S32x1024 .f32 := k0_pay6 (grid0.coords t) (View.ld (b1 m c t) r0_7) (View.ld (b1 m c t) r0_8)
/-- The short filter's input of a block and of the rows in front of it. -/
abbrev pB : FVec Ideal S256x1024 .f32 := k0_pay3 (View.ld (b0 m c t) r0_1) (View.ld (b0 m c t) r0_2)
abbrev pP : FVec Ideal S32x1024 .f32 := k0_pay5 (grid0.coords t) (View.ld (b1 m c t) r0_5) (View.ld (b1 m c t) r0_6)
theorem gB_at (r : Fin 256) (l : Fin 1024) (h : 256 * t.val + r.val < 4096) : gB m c t (ix2 r l) = glu (XR (A0 m c)) ⟨256 * t.val + r.val, h⟩ l := by
  unfold gB r0_3 r0_4
  simp (disch := decide) only [View.ld_unit_lit']
  pointwise [k0_pay4, in0 m c t _ _ h, glu, part, XR, sigm, zero_sub]
theorem gP_at (r : Fin 32) (l : Fin 1024) (h : 32 * (8 * t.val - 1) + r.val < 4096) : gP m c t (ix2 r l) = glu (XR (A0 m c)) ⟨32 * (8 * t.val - 1) + r.val, h⟩ l * (if 0 < t.val then 1 else 0) := by
  unfold gP r0_7 r0_8
  simp (disch := decide) only [View.ld_unit_lit']
  pointwise [k0_pay6, keep, in1 m c t _ _ h, glu, part, XR, sigm, zero_sub]
theorem pB_at (r : Fin 256) (l : Fin 1024) (h : 256 * t.val + r.val < 4096) : pB m c t (ix2 r l) = pp (XR (A0 m c)) ⟨256 * t.val + r.val, h⟩ l := by
  unfold pB r0_1 r0_2
  simp (disch := decide) only [View.ld_unit_lit']
  pointwise [k0_pay3, in0 m c t _ _ h, pp, part, XR]
theorem pP_at (r : Fin 32) (l : Fin 1024) (h : 32 * (8 * t.val - 1) + r.val < 4096) : pP m c t (ix2 r l) = pp (XR (A0 m c)) ⟨32 * (8 * t.val - 1) + r.val, h⟩ l * (if 0 < t.val then 1 else 0) := by
  unfold pP r0_5 r0_6
  simp (disch := decide) only [View.ld_unit_lit']
  pointwise [k0_pay5, keep, in1 m c t _ _ h, pp, part, XR]
end
end
end Cert.OFwd
end
-- ==== Proof.OMid.lean ====
/- The odd mixer's forward call: the long filter's array. -/
module

public import proofs.«01_k».proof.Proof.OFwd

@[expose] public section
set_option maxRecDepth 16384
noncomputable section
open Idealize.ShloMosaic Idealize.ShloMosaic.TcCoe Idealize.SL.Sem
open Cert.Odd.Ref
namespace Cert.OFwd
open Cert.Odd (Row part pp glu cp late past past_lt late_zero)
section
open Cert.Kernel32Ideal Cert.Kernel32Ideal.Gen
open Idealize.ShloMosaic.Pipeline (Dat)
section
variable (m : (ℓ : Loc nD τ sig) → Buf (Elt Ideal) ℓ) (c : Dev nD) (t : Fin cfg0.N)

omit m c t in
theorem whole (X : FVec Ideal S1x1024 .f32) : View.ld (Val := Elt Ideal) (e' := .f32) X r0_13 = X := funext fun i => by
  show X _ = X i
  congr 1
  funext a
  match a with
  | 0 => apply Fin.ext; show 0 + 1 * (i 0).val = (i 0).val; omega
  | 1 => apply Fin.ext; show 0 + 1 * (i 1).val = (i 1).val; omega
theorem inb (k : Fin 31) : ∀ a, (![k.val, 0] : Fin 2 → Nat) a + S1x1024.size a ≤ S31x1024.size a := fun a => by
  have := k.isLt
  match a with
  | 0 => show k.val + 1 ≤ 31; omega
  | 1 => show 0 + 1024 ≤ 1024; omega
/-- A row of the long filter, as the call loads it. -/
def wk (k : Fin 31) : FVec Ideal S1x1024 .f32 :=
  View.ld (Val := Elt Ideal) (e' := .f32) (b3 m c t) (Rect.unit (s := S31x1024) ![k.val, 0] S1x1024.size (inb k))
theorem wk_at (k : Fin 31) (l : Fin 1024) : wk m c t k (ix2 0 l) = F31 (A2 m c) k l := by
  refine Eq.trans ?_ (in3 m c t k l)
  show b3 m c t _ = _
  congr 1
  funext a
  match a with
  | 0 => apply Fin.ext; show k.val + 1 * 0 = k.val; omega
  | 1 => apply Fin.ext; show 0 + 1 * l.val = l.val; omega

set_option maxHeartbeats 1000000 in
theorem d_at (r : Fin 256) (l : Fin 1024) :
    k0_pay23 (F := Ideal) (k0_pay30 (grid0.coords t) (b0 m c t) (b1 m c t) (b2 m c t) (b3 m c t) (b4 m c t) (b5 m c t) (b6 m c t)) (k0_pay31 (grid0.coords t) (b0 m c t) (b1 m c t) (b2 m c t) (b3 m c t) (b4 m c t) (b5 m c t) (b6 m c t)) (k0_pay32 (grid0.coords t) (b0 m c t) (b1 m c t) (b2 m c t) (b3 m c t) (b4 m c t) (b5 m c t) (b6 m c t)) (k0_pay33 (grid0.coords t) (b0 m c t) (b1 m c t) (b2 m c t) (b3 m c t) (b4 m c t) (b5 m c t) (b6 m c t)) (k0_pay35 (grid0.coords t) (b0 m c t) (b1 m c t) (b2 m c t) (b3 m c t) (b4 m c t) (b5 m c t) (b6 m c t)) (View.ld (b3 m c t) r0_41) (View.ld (b3 m c t) r0_42) (View.ld (b3 m c t) r0_43) (View.ld (b3 m c t) r0_44) (ix2 r l)
      = DR (A0 m c) (A2 m c) (A3 m c) (tok t r) l := by
  unfold k0_pay35 k0_pay34 k0_pay33 k0_pay32 k0_pay31 k0_pay30 k0_pay29 k0_pay28 k0_pay27 k0_pay26 k0_pay25
  refine (long_at (gB m c t) (gP m c t) (View.ld (Val := Elt Ideal) (e' := .f32) (b4 m c t) r0_13) (wk m c t) (glu (XR (A0 m c))) t.val
    (fun r l => (gB_at m c t r l (tok t r).isLt).trans (late_zero _ (tok t r) l).symm)
    (behind t _ _ _ (gB_at m c t) (gP_at m c t)) r l).trans ?_
  refine congrArg₂ (· + ·) (Finset.sum_congr rfl fun k _ => congrArg (· * _) (wk_at m c t k l)) ?_
  exact (congrFun (whole (b4 m c t)) _).trans (in4 m c t l)

theorem out8 (r : Fin 256) (l : Fin 1024) : (dats m 0 c).after 8 t (ix2 r l) = outD (A0 m c) (A2 m c) (A3 m c) (ix2 (tok t r) l) := by
  rw [after0_8]
  unfold out0_8 r0_45
  simp (disch := decide) only [View.canon_cons_unit_lit']
  exact d_at m c t r l

theorem final8 : (dats m 0 c).arrAt 8 (cfgs 0).N = outD (A0 m c) (A2 m c) (A3 m c) := by
  refine (dats m 0 c).arrAt_eq_of_covers 8 _ (by decide +kernel) fun t hf y => ?_
  blk_simp
  obtain ⟨r, q, rfl⟩ : ∃ (r : Fin 256) (q : Fin 1024), y = ix2 r q := ⟨y 0, y 1, by idx_vars y⟩
  have e : (win0_8.blk t).view.emb (ix2 r q) = (ix2 (tok t r) q : S4096x1024.Idx) := by blk_ext [idx t]
  rw [e]
  exact out8 m c t r q

end
end
end Cert.OFwd
end
-- ==== Proof.OEnd.lean ====
/- The odd mixer's forward call leaves the reference's two arrays. -/
module

public import proofs.«01_k».proof.Proof.OMid
public import proofs.«01_k».proof.Defs
public import proofs.«01_k».proof.Proof.ORef
public import proofs.«01_k».proof.Proof.Gen.Reference32Ideal.Run
public import proofs.«01_k».proof.Proof.Gen.Reference32Ideal.Read

@[expose] public section
set_option maxRecDepth 16384
noncomputable section
open Idealize.ShloMosaic Idealize.ShloMosaic.TcCoe Idealize.SL.Sem
open Cert.Odd.Ref
namespace Cert.OFwd
open Cert.Odd (Row part pp glu cp late past past_lt late_zero)
section
open Cert.Kernel32Ideal Cert.Kernel32Ideal.Gen
open Idealize.ShloMosaic.Pipeline (Dat)
section
variable (m : (ℓ : Loc nD τ sig) → Buf (Elt Ideal) ℓ) (c : Dev nD) (t : Fin cfg0.N)

set_option maxHeartbeats 2000000 in
theorem out7 (r : Fin 256) (q : Fin 2048) : (dats m 0 c).after 7 t (ix2 r q) = outY (A0 m c) (A1 m c) (A2 m c) (A3 m c) (A4 m c) (A5 m c) (ix2 (tok t r) q) := by
  rw [after0_7]
  unfold out0_7
  by_cases h : q.val < 1024
  · rw [View.canon_cons_of_not_mem _ _ (by
      intro hm
      have := ((Rect.mem_set_unit (inb := inb_S256x2048_S256x1024_0_1024)).mp hm 1).1
      have h' : 1024 ≤ q.val := this
      omega)]
    have e : (ix2 r q : S256x2048.Idx) = r0_12.emb (ix2 r (⟨q.val, h⟩ : Fin 1024) : S256x1024.Idx) := by
      funext a
      match a with
      | 0 => apply Fin.ext; show r.val = 0 + 1 * r.val; omega
      | 1 => apply Fin.ext; show q.val = 0 + 1 * q.val; omega
    rw [e, View.canon_cons_emb]
    refine (short_at (pB m c t) (pP m c t) (pp (XR (A0 m c))) t.val _ _ _ _
      (fun r l => (pB_at m c t r l (tok t r).isLt).trans (late_zero _ (tok t r) l).symm)
      (behind t _ _ _ (pB_at m c t) (pP_at m c t)) r ⟨q.val, h⟩).trans ?_
    rw [show outY (A0 m c) (A1 m c) (A2 m c) (A3 m c) (A4 m c) (A5 m c) (ix2 (tok t r) q) = part (XR (A0 m c)) 0 (tok t r) ⟨q.val, h⟩ * cp (XR (A0 m c)) (F3 (A1 m c)) (tok t r) ⟨q.val, h⟩ from dif_pos h]
    unfold r0_0 r0_9 r0_10 r0_11
    pointwise [in0 m c t r _ (tok t r).isLt, in2, part, XR, cp, F3]
  · have e : (ix2 r q : S256x2048.Idx) = r0_46.emb (ix2 r (⟨q.val - 1024, by omega⟩ : Fin 1024) : S256x1024.Idx) := by
      funext a
      match a with
      | 0 => apply Fin.ext; show r.val = 0 + 1 * r.val; omega
      | 1 => apply Fin.ext; show q.val = 1024 + 1 * (q.val - 1024); omega
    rw [e, View.canon_cons_emb]
    rw [show outY (A0 m c) (A1 m c) (A2 m c) (A3 m c) (A4 m c) (A5 m c) (ix2 (tok t r) q) = act (DR (A0 m c) (A2 m c) (A3 m c) (tok t r)) (VR (A4 m c)) (VR (A5 m c)) ⟨q.val - 1024, by omega⟩ from dif_neg h]
    refine (norm_at _ _ _ _ _ _ _ _ _ _ _ _ r (d_at m c t r) _).trans ?_
    rw [whole (b5 m c t), whole (b6 m c t)]
    simp only [in5 m c t, in6 m c t]

theorem final7 : (dats m 0 c).arrAt 7 (cfgs 0).N = outY (A0 m c) (A1 m c) (A2 m c) (A3 m c) (A4 m c) (A5 m c) := by
  refine (dats m 0 c).arrAt_eq_of_covers 7 _ (by decide +kernel) fun t hf y => ?_
  blk_simp
  obtain ⟨r, q, rfl⟩ : ∃ (r : Fin 256) (q : Fin 2048), y = ix2 r q := ⟨y 0, y 1, by idx_vars y⟩
  have e : (win0_7.blk t).view.emb (ix2 r q) = (ix2 (tok t r) q : S4096x2048.Idx) := by blk_ext [idx t]
  rw [e]
  exact out7 m c t r q
end
end
theorem outD_congr {x0 y0 x2 y2 x3 y3} (h0 : x0 = y0) (h2 : x2 = y2) (h3 : x3 = y3) : outD x0 x2 x3 = outD y0 y2 y3 := by rw [h0, h2, h3]
theorem outY_congr {x0 y0 x1 y1 x2 y2 x3 y3 x4 y4 x5 y5} (h0 : x0 = y0) (h1 : x1 = y1) (h2 : x2 = y2) (h3 : x3 = y3) (h4 : x4 = y4) (h5 : x5 = y5) :
    outY x0 x1 x2 x3 x4 x5 = outY y0 y1 y2 y3 y4 y5 := by rw [h0, h1, h2, h3, h4, h5]
theorem frame_reference : Cert.quiescent_Reference32Ideal (hReference32Ideal := Cert.Reference32Ideal.Gen.facts) := fun m g _ =>
  (θ_run Cert.Reference32Ideal.defs _ _).mono (fun _ h => ⟨fun c => (h c).2.2, sem_eq_zero_of_no_sems (by decide) _⟩)
    (Cert.Reference32Ideal.Value.run (F := Ideal) m g)

set_option maxHeartbeats 2000000 in
/-- The call and the reference leave the same two arrays. -/
theorem same : Cert.algebraic_Kernel32Ideal_Reference32Ideal (hKernel32Ideal := Cert.Kernel32Ideal.Gen.facts) (hReference32Ideal := Cert.Reference32Ideal.Gen.facts) := by
  intro m g m' g' hpre hagree
  refine ⟨fun c => outY (A0 m c) (A1 m c) (A2 m c) (A3 m c) (A4 m c) (A5 m c), fun c => outD (A0 m c) (A2 m c) (A3 m c),
    (θ_run Cert.Kernel32Ideal.defs _ _).mono (fun _ h c => ⟨(h c).1.trans (final7 m c), (h c).2.1.trans (final8 m c), (h c).2.2⟩) (Cert.Kernel32Ideal.Value.run_blocks m g),
    (θ_run Cert.Reference32Ideal.defs _ _).mono (fun _ h c => ⟨(h c).1.trans ((Cert.Reference32Ideal.Read.val_main_v134_eq _).trans ((refY _ _ _ _ _ _).trans ?_)),
      (h c).2.1.trans ((Cert.Reference32Ideal.Read.val_main_v208_eq _).trans ((refD _ _ _).trans ?_)), (h c).2.2⟩)
      (Cert.Reference32Ideal.Value.run m' g')⟩
  all_goals obtain ⟨h0, h1, h2, h3, h4, h5⟩ := hagree c
  · exact outY_congr h0 h1 h2 h3 h4 h5
  · exact outD_congr h0 h2 h3
end Cert.OFwd
end
-- ==== Proof.Tiles.lean ====
/- A sum over the columns of a matrix kept as one block of columns for each device. -/
module

public import Idealize.ShloMosaic.Lib.Pipeline.ValueKit
public import Idealize.ShloMosaic.Lib.Pointwise

@[expose] public section
noncomputable section
open Idealize.ShloMosaic
namespace Cert.Tiles

/-- Position `x` of the whole is position `x % w` of block `x / w`. -/
theorem sum_blocks {w N : ℕ} (hw : 0 < w) (hN : 8 * w = N) (f : Fin 8 → Fin w → EReal) (h1 : ∀ x : Fin N, x.val / w < 8) (h2 : ∀ x : Fin N, x.val % w < w) :
    ∑ x : Fin N, f ⟨x.val / w, h1 x⟩ ⟨x.val % w, h2 x⟩ = ∑ s : Fin 8, ∑ k : Fin w, f s k := by
  rw [Fin.sum_univ_tiles 8 w hN]
  refine Finset.sum_congr rfl fun s _ => Finset.sum_congr rfl fun k _ => congrArg₂ f (Fin.ext ?_) (Fin.ext ?_)
  · show (s.val * w + k.val) / w = s.val
    rw [Nat.mul_comm, Nat.mul_add_div hw, Nat.div_eq_of_lt k.isLt, Nat.add_zero]
  · show (s.val * w + k.val) % w = k.val
    rw [Nat.mul_comm, Nat.mul_add_mod, Nat.mod_eq_of_lt k.isLt]

end Cert.Tiles
end
-- ==== Proof.FLast.lean ====
/- The last feed-forward layer's output added to the stream: what the call that accumulates over the blocks leaves. -/
module

public import proofs.«01_k».proof.Proof.Gen.Kernel17Ideal.Value
public import proofs.«01_k».proof.Proof.Gen.Reference17Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel17Ideal Cert.Kernel17Ideal.Gen
namespace Cert.FLast
open Cert.Reference17Ideal.Read
variable (m : (ℓ : Loc nD τ sig) → Buf (Elt Ideal) ℓ) (c : Dev nD)

/-- The gated product, a block of columns for each device. -/
abbrev H : FVec Ideal S8x4096x704 .bf16 := m ((c : Thread nD τ).loc main_arg0)
/-- The weight, a block of rows for each device. -/
abbrev W : FVec Ideal S8x704x2048 .bf16 := m ((c : Thread nD τ).loc main_arg1)
/-- The stream. -/
abbrev X : FVec Ideal S4096x2048 .f32 := m ((c : Thread nD τ).loc main_arg2)
theorem idx : ∀ t : Fin cfg0.N, win0_0.index t = ![t.val % 8, t.val / 8, 0] ∧ win0_1.index t = ![t.val % 8, 0, 0] ∧ win0_2.index t = ![t.val / 8, 0]
    ∧ win0_3.index t = ![t.val / 8, 0] :=
  (by decide +kernel : ∀ t : Fin grid0.N, _)

/-- The blocks a point reads. -/
abbrev b0 (t : Fin cfg0.N) : FVec Ideal S1x512x704 .bf16 := iblk m c 0 t
abbrev b1 (t : Fin cfg0.N) : FVec Ideal S1x704x2048 .bf16 := iblk m c 1 t
abbrev b2 (t : Fin cfg0.N) : FVec Ideal S512x2048 .f32 := iblk m c 2 t

theorem in0 (t : Fin cfg0.N) (s : Fin 8) (hs : s.val = t.val % 8) (r : Fin 512) (n : Fin 4096) (h : n.val = 512 * (t.val / 8) + r.val) (k : Fin 704) :
    b0 m c t (ix3 0 r k) = H m c (ix3 s n k) := by blk_point [b0, iblk, idx t]
theorem in1 (t : Fin cfg0.N) (s : Fin 8) (hs : s.val = t.val % 8) (k : Fin 704) (q : Fin 2048) : b1 m c t (ix3 0 k q) = W m c (ix3 s k q) := by blk_point [b1, iblk, idx t]
theorem in2 (t : Fin cfg0.N) (r : Fin 512) (n : Fin 4096) (h : n.val = 512 * (t.val / 8) + r.val) (q : Fin 2048) : b2 m c t (ix2 r q) = X m c (ix2 n q) := by blk_point [b2, iblk, idx t]
/-- What the blocks of one device add to the stream. -/
def part (h : FVec Ideal S8x4096x704 .bf16) (w : FVec Ideal S8x704x2048 .bf16) (s : Fin 8) (n : Fin 4096) (q : Fin 2048) : EReal :=
  ∑ k : Fin 704, h (ix3 s n k) * w (ix3 s k q)
/-- One entry of the new stream. -/
def entry (h : FVec Ideal S8x4096x704 .bf16) (w : FVec Ideal S8x704x2048 .bf16) (x : FVec Ideal S4096x2048 .f32) (n : Fin 4096) (q : Fin 2048) : EReal :=
  x (ix2 n q) + ∑ s : Fin 8, part h w s n q
/-- The new stream. -/
def total (h : FVec Ideal S8x4096x704 .bf16) (w : FVec Ideal S8x704x2048 .bf16) (x : FVec Ideal S4096x2048 .f32) : FVec Ideal S4096x2048 .f32 :=
  fun i => entry h w x (i 0) (i 1)
/-- What one point adds: the first of a run starts from the stream. -/
def term (r : Fin 512) (q : Fin 2048) (t : Fin cfg0.N) : EReal :=
  (if t.val % 8 = 0 then b2 m c t (ix2 r q) else 0) + ∑ k : Fin 704, b0 m c t (ix3 0 r k) * b1 m c t (ix3 0 k q)

theorem acc_A (t : Fin cfg0.N) (h : t.val % 8 = 0) (r : Fin 512) (q : Fin 2048) : outsAt0 m c t.val t.isLt (ix2 r q) = term m c r q t := by
  rw [outsAt0_A m c t h (by omega), term, if_pos h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]

theorem acc_B (t : Fin cfg0.N) (h : ¬ t.val % 8 = 0) (r : Fin 512) (q : Fin 2048) :
    outsAt0 m c t.val t.isLt (ix2 r q) = outsAt0 m c (t.val - 1) (Nat.lt_of_le_of_lt (Nat.sub_le _ _) t.isLt) (ix2 r q) + term m c r q t := by
  rw [term, if_neg h, zero_add]
  rw [outsAt0_B m c t h (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3]

theorem out (t : Fin cfg0.N) (h : t.val % 8 = 7) (r : Fin 512) (n : Fin 4096) (hn : n.val = 512 * (t.val / 8) + r.val) (q : Fin 2048) :
    outsAt0 m c t.val t.isLt (ix2 r q) = entry (H m c) (W m c) (X m c) n q := by
  have hN : cfg0.N = 64 := rfl
  have := t.isLt
  refine (Pipeline.eq_sum_fin_of_reset_step_of_flush (M := EReal) (fun n h => outsAt0 m c n h (ix2 r q)) 8 0 (term m c r q)
    (fun t h => (acc_A m c t h r q).trans (zero_add _).symm) (fun t h => acc_B m c t h r q) t h).trans ((zero_add _).trans ?_)
  have e : ∀ s : Fin 8, term m c r q ⟨8 * (t.val / 8) + s.val, by omega⟩ = (if s = 0 then X m c (ix2 n q) else 0) + part (H m c) (W m c) s n q := fun s => by
    refine congrArg₂ (fun a b => a + b) ?_ (Finset.sum_congr rfl fun k _ => congrArg₂ (fun a b => a * b)
      (in0 m c _ s (by show s.val = (8 * (t.val / 8) + s.val) % 8; omega) r n (by show n.val = 512 * ((8 * (t.val / 8) + s.val) / 8) + r.val; omega) k)
      (in1 m c _ s (by show s.val = (8 * (t.val / 8) + s.val) % 8; omega) k q))
    rw [in2 m c _ r n (by show n.val = 512 * ((8 * (t.val / 8) + s.val) / 8) + r.val; omega) q]
    exact if_congr (by rw [Fin.ext_iff]; show (8 * (t.val / 8) + s.val) % 8 = 0 ↔ s.val = 0; omega) rfl rfl
  rw [Finset.sum_congr rfl fun s _ => e s, Finset.sum_add_distrib, Finset.sum_ite_eq' Finset.univ (0 : Fin 8), if_pos (Finset.mem_univ _)]
  rfl

theorem emb (t : Fin cfg0.N) (r : Fin 512) (q : Fin 2048) (hn : 512 * (t.val / 8) + r.val < 4096) :
    (win0_3.blk t).view.emb (ix2 r q) = (ix2 ⟨512 * (t.val / 8) + r.val, hn⟩ q : S4096x2048.Idx) := by
  blk_ext [idx t]
theorem bounds (t : Fin cfg0.N) (r : Fin 512) : 512 * (t.val / 8) + r.val < 4096 := by
  have hN : cfg0.N = 64 := rfl
  have := t.isLt
  omega

theorem final : (dats m 0 c).arrAt 3 (cfgs 0).N = total (H m c) (W m c) (X m c) := by
  refine (dats m 0 c).arrAt_eq_of_covers 3 _ (by decide +kernel) fun t hf y => ?_
  have ht := (flush0_3 t).mp hf
  blk_simp
  rw [after0_3]
  obtain ⟨r, q, rfl⟩ : ∃ (r : Fin 512) (q : Fin 2048), y = ix2 r q := ⟨y 0, y 1, by idx_vars y⟩
  rw [emb t r q (bounds t r)]
  exact out m c t ht r _ rfl q
theorem ref6 (h : FVec Ideal S8x4096x704 .bf16) (w : FVec Ideal S8x704x2048 .bf16) (x : FVec Ideal S4096x2048 .f32) (n : Fin 4096) (q : Fin 2048) :
    val_main_v6 (F := Ideal) h w x (ix2 n q) = entry h w x n q := by
  pointwise [val_main_v6, val_main_v5, val_main_v4, val_main_v3, val_main_v2, val_main_v1, val_main_v0]
  exact congrArg (fun y => x (ix2 n q) + y) (Tiles.sum_blocks (by decide) rfl (fun s k => h (ix3 s n k) * w (ix3 s k q)) _ _)
theorem ref6' (h : FVec Ideal S8x4096x704 .bf16) (w : FVec Ideal S8x704x2048 .bf16) (x : FVec Ideal S4096x2048 .f32) :
    val_main_v6 (F := Ideal) h w x = total h w x := by
  funext i
  obtain ⟨n, q, rfl⟩ : ∃ (n : Fin 4096) (q : Fin 2048), i = ix2 n q := ⟨i 0, i 1, by idx_vars i⟩
  exact ref6 h w x n q
theorem frame_reference : Cert.quiescent_Reference17Ideal (hReference17Ideal := Cert.Reference17Ideal.Gen.facts) := fun m g _ =>
  (θ_run Cert.Reference17Ideal.defs _ _).mono (fun _ h => ⟨fun c => (h c).2, sem_eq_zero_of_no_sems (by decide) _⟩)
    (Cert.Reference17Ideal.Value.run (F := Ideal) m g)

set_option maxHeartbeats 2000000 in
/-- The call and the reference leave the same arrays. -/
theorem same : Cert.algebraic_Kernel17Ideal_Reference17Ideal (hKernel17Ideal := Cert.Kernel17Ideal.Gen.facts) (hReference17Ideal := Cert.Reference17Ideal.Gen.facts) := by
  intro m g m' g' hpre hagree
  refine ⟨fun c => total (H m c) (W m c) (X m c),
    (θ_run Cert.Kernel17Ideal.defs _ _).mono (fun _ h c => ⟨(h c).1.trans (final m c), (h c).2⟩) (Cert.Kernel17Ideal.Value.run_blocks m g),
    (θ_run Cert.Reference17Ideal.defs _ _).mono (fun _ h c => ⟨(h c).1.trans ((val_main_v6_eq _ _ _).trans ((ref6' _ _ _).trans ?_)), (h c).2⟩)
      (Cert.Reference17Ideal.Value.run m' g')⟩
  exact congr (congrArg₂ total (hagree c).1 (hagree c).2.1) (hagree c).2.2

end Cert.FLast
end
-- ==== Proof.POut.lean ====
/- A mixer's output product added to the stream, and its normalisation: what the call that takes 512 tokens at a time leaves. -/
module

public import proofs.«01_k».proof.Proof.Gen.Kernel15Ideal.Value
public import proofs.«01_k».proof.Proof.Gen.Reference15Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel15Ideal Cert.Kernel15Ideal.Gen
namespace Cert.POut
open Cert.Reference15Ideal.Read
variable (m : (ℓ : Loc nD τ sig) → Buf (Elt Ideal) ℓ) (c : Dev nD)

/-- The mixer's output. -/
abbrev Y : FVec Ideal S4096x2048 .bf16 := m ((c : Thread nD τ).loc main_arg0)
/-- The weight, a block of rows for each device. -/
abbrev W : FVec Ideal S8x256x2048 .bf16 := m ((c : Thread nD τ).loc main_arg1)
/-- The stream. -/
abbrev X : FVec Ideal S4096x2048 .f32 := m ((c : Thread nD τ).loc main_arg2)
/-- The normalisation's gain. -/
abbrev G : FVec Ideal S2048 .f32 := m ((c : Thread nD τ).loc main_arg3)

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

/-- The blocks a point reads. -/
abbrev b0 (t : Fin cfg0.N) : FVec Ideal S512x2048 .bf16 := iblk m c 0 t
abbrev b1 (t : Fin cfg0.N) : FVec Ideal S2048x2048 .bf16 := iblk m c 1 t
abbrev b2 (t : Fin cfg0.N) : FVec Ideal S512x2048 .f32 := iblk m c 2 t
abbrev b3 (t : Fin cfg0.N) : FVec Ideal S1x2048 .f32 := iblk m c 3 t

theorem in0 (t : Fin cfg0.N) (r : Fin 512) (n : Fin 4096) (h : n.val = 512 * t.val + r.val) (k : Fin 2048) :
    b0 m c t (ix2 r k) = Y m c (ix2 n k) := by blk_point [b0, iblk, idx t]
theorem in1 (t : Fin cfg0.N) (k : Fin 2048) (q : Fin 2048) : b1 m c t (ix2 k q) = W m c (ix3 ⟨k.val / 256, by omega⟩ ⟨k.val % 256, by omega⟩ q) := by
  have h : (V m c main_v1 : FVec Ideal S2048x2048 .bf16) = shapeCast S2048x2048 (W m c) shapeCasts_S8x256x2048_S2048x2048 := by
    entry_read
    rfl
  have e : b1 m c t (ix2 k q) = (V m c main_v1 : FVec Ideal S2048x2048 .bf16) (ix2 k q) := by blk_point [b1, iblk, idx t]
  rw [e, h]
  pointwise []
theorem in2 (t : Fin cfg0.N) (r : Fin 512) (n : Fin 4096) (h : n.val = 512 * t.val + r.val) (q : Fin 2048) : b2 m c t (ix2 r q) = X m c (ix2 n q) := by blk_point [b2, iblk, idx t]
theorem in3 (t : Fin cfg0.N) (q : Fin 2048) : b3 m c t (ix2 0 q) = G m c (ix1 q) := by
  have h : (V m c main_v0 : FVec Ideal S1x2048 .f32) = shapeCast S1x2048 (G m c) shapeCasts_S2048_S1x2048 := by
    entry_read
    rfl
  have e : b3 m c t (ix2 0 q) = (V m c main_v0 : FVec Ideal S1x2048 .f32) (ix2 0 q) := by blk_point [b3, iblk, idx t]
  rw [e, h]
  pointwise []

/-- One entry of the new stream. -/
def entry (y : FVec Ideal S4096x2048 .bf16) (w : FVec Ideal S8x256x2048 .bf16) (x : FVec Ideal S4096x2048 .f32) (n : Fin 4096) (q : Fin 2048) : EReal :=
  x (ix2 n q) + ∑ k : Fin 2048, y (ix2 n k) * w (ix3 ⟨k.val / 256, by omega⟩ ⟨k.val % 256, by omega⟩ q)
/-- The new stream. -/
def total (y : FVec Ideal S4096x2048 .bf16) (w : FVec Ideal S8x256x2048 .bf16) (x : FVec Ideal S4096x2048 .f32) : FVec Ideal S4096x2048 .f32 :=
  fun i => entry y w x (i 0) (i 1)
/-- One entry of a normalised row. -/
def normed (row : Fin 2048 → EReal) (g : EReal) (q : Fin 2048) : EReal :=
  row q * Ideal.rsqrt (Ideal.div (∑ k : Fin 2048, row k * row k) (Ideal.ofBits .f32 0x45000000#32) + Ideal.ofBits .f32 0x358637BD#32) * g
/-- The normalised stream. -/
def norm (y : FVec Ideal S4096x2048 .bf16) (w : FVec Ideal S8x256x2048 .bf16) (x : FVec Ideal S4096x2048 .f32) (g : FVec Ideal S2048 .f32) : FVec Ideal S4096x2048 .bf16 :=
  fun i => normed (fun k => entry y w x (i 0) k) (g (ix1 (i 1))) (i 1)

/-- What a point computes of the stream, from its blocks. -/
def row (t : Fin cfg0.N) (r : Fin 512) (q : Fin 2048) : EReal := b2 m c t (ix2 r q) + ∑ k : Fin 2048, b0 m c t (ix2 r k) * b1 m c t (ix2 k q)
theorem row_eq (t : Fin cfg0.N) (r : Fin 512) (n : Fin 4096) (h : n.val = 512 * t.val + r.val) (q : Fin 2048) :
    row m c t r q = entry (Y m c) (W m c) (X m c) n q :=
  congrArg₂ (fun a b => a + b) (in2 m c t r n h q) (Finset.sum_congr rfl fun k _ => congrArg₂ (fun a b => a * b) (in0 m c t r n h k) (in1 m c t k q))

theorem out4 (t : Fin cfg0.N) (r : Fin 512) (q : Fin 2048) : (dats m 0 c).after 4 t (ix2 r q) = row m c t r q := by
  rw [after0_4]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]
  rfl
theorem out5 (t : Fin cfg0.N) (r : Fin 512) (q : Fin 2048) :
    (dats m 0 c).after 5 t (ix2 r q) = normed (fun k => row m c t r k) (b3 m c t (ix2 0 q)) q := by
  rw [after0_5]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  rfl

theorem bounds (t : Fin cfg0.N) (r : Fin 512) : 512 * t.val + r.val < 4096 := by
  have hN : cfg0.N = 8 := rfl
  have := t.isLt
  omega
theorem emb (t : Fin cfg0.N) (r : Fin 512) (q : Fin 2048) (hn : 512 * t.val + r.val < 4096) :
    (win0_4.blk t).view.emb (ix2 r q) = (ix2 ⟨512 * t.val + r.val, hn⟩ q : S4096x2048.Idx)
    ∧ (win0_5.blk t).view.emb (ix2 r q) = (ix2 ⟨512 * t.val + r.val, hn⟩ q : S4096x2048.Idx) :=
  ⟨by blk_ext [idx t], by blk_ext [idx t]⟩

theorem final4 : (dats m 0 c).arrAt 4 (cfgs 0).N = total (Y m c) (W m c) (X m c) := by
  refine (dats m 0 c).arrAt_eq_of_covers 4 _ (by decide +kernel) fun t hf y => ?_
  blk_simp
  obtain ⟨r, q, rfl⟩ : ∃ (r : Fin 512) (q : Fin 2048), y = ix2 r q := ⟨y 0, y 1, by idx_vars y⟩
  rw [(emb t r q (bounds t r)).1]
  exact (out4 m c t r q).trans (row_eq m c t r _ rfl q)
theorem final5 : (dats m 0 c).arrAt 5 (cfgs 0).N = norm (Y m c) (W m c) (X m c) (G m c) := by
  refine (dats m 0 c).arrAt_eq_of_covers 5 _ (by decide +kernel) fun t hf y => ?_
  blk_simp
  obtain ⟨r, q, rfl⟩ : ∃ (r : Fin 512) (q : Fin 2048), y = ix2 r q := ⟨y 0, y 1, by idx_vars y⟩
  rw [(emb t r q (bounds t r)).2]
  exact (out5 m c t r q).trans (congrArg₂ (fun f g => normed f g q) (funext fun k => row_eq m c t r _ rfl k) (in3 m c t q))

theorem ref4 (y : FVec Ideal S4096x2048 .bf16) (w : FVec Ideal S8x256x2048 .bf16) (x : FVec Ideal S4096x2048 .f32) (n : Fin 4096) (q : Fin 2048) :
    val_main_v4 (F := Ideal) y w x (ix2 n q) = entry y w x n q := by
  pointwise [val_main_v4, val_main_v3, val_main_v2, val_main_v1, val_main_v0]
  rfl
theorem ref4' (y : FVec Ideal S4096x2048 .bf16) (w : FVec Ideal S8x256x2048 .bf16) (x : FVec Ideal S4096x2048 .f32) :
    val_main_v4 (F := Ideal) y w x = total y w x := by
  funext i
  obtain ⟨n, q, rfl⟩ : ∃ (n : Fin 4096) (q : Fin 2048), i = ix2 n q := ⟨i 0, i 1, by idx_vars i⟩
  exact ref4 y w x n q
theorem ref18 (y : FVec Ideal S4096x2048 .bf16) (w : FVec Ideal S8x256x2048 .bf16) (x : FVec Ideal S4096x2048 .f32) (g : FVec Ideal S2048 .f32) :
    val_main_v18 (F := Ideal) y w x g = norm y w x g := by
  funext i
  obtain ⟨n, q, rfl⟩ : ∃ (n : Fin 4096) (q : Fin 2048), i = ix2 n q := ⟨i 0, i 1, by idx_vars i⟩
  pointwise [val_main_v18, val_main_v17, val_main_v16, val_main_v15, val_main_v14, val_main_v13, val_main_v12, val_main_v11, val_main_v10, val_main_cst_1, val_main_v9, val_main_v8, val_main_cst_0, val_main_v7, val_main_v6, val_main_cst, val_main_v5]
  simp only [ref4]
  rfl

theorem frame_reference : Cert.quiescent_Reference15Ideal (hReference15Ideal := Cert.Reference15Ideal.Gen.facts) := fun m g _ =>
  (θ_run Cert.Reference15Ideal.defs _ _).mono (fun _ h => ⟨fun c => (h c).2.2, sem_eq_zero_of_no_sems (by decide) _⟩)
    (Cert.Reference15Ideal.Value.run (F := Ideal) m g)

set_option maxHeartbeats 2000000 in
/-- The call and the reference leave the same arrays. -/
theorem same : Cert.algebraic_Kernel15Ideal_Reference15Ideal (hKernel15Ideal := Cert.Kernel15Ideal.Gen.facts) (hReference15Ideal := Cert.Reference15Ideal.Gen.facts) := by
  intro m g m' g' hpre hagree
  refine ⟨fun c => total (Y m c) (W m c) (X m c), fun c => norm (Y m c) (W m c) (X m c) (G m c),
    (θ_run Cert.Kernel15Ideal.defs _ _).mono (fun _ h c => ⟨(h c).1.trans (final4 m c), (h c).2.1.trans (final5 m c), (h c).2.2⟩)
      (Cert.Kernel15Ideal.Value.run_blocks m g),
    (θ_run Cert.Reference15Ideal.defs _ _).mono (fun _ h c => ⟨(h c).1.trans ((val_main_v4_eq _ _ _).trans ((ref4' _ _ _).trans ?_)),
      (h c).2.1.trans ((val_main_v18_eq _ _ _ _).trans ((ref18 _ _ _ _).trans ?_)), (h c).2.2⟩)
      (Cert.Reference15Ideal.Value.run m' g')⟩
  · exact congr (congrArg₂ total (hagree c).1 (hagree c).2.1) (hagree c).2.2.1
  · exact congr (congr (congrArg₂ norm (hagree c).1 (hagree c).2.1) (hagree c).2.2.1) (hagree c).2.2.2

end Cert.POut
end
-- ==== Proof.PInO.lean ====
/- An odd layer's input projection: what the call that does one block at a time leaves. -/
module

public import proofs.«01_k».proof.Proof.Gen.Kernel14Ideal.Value
public import proofs.«01_k».proof.Proof.Gen.Reference14Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel14Ideal Cert.Kernel14Ideal.Gen
namespace Cert.PInO
open Cert.Reference14Ideal.Read
variable (m : (ℓ : Loc nD τ sig) → Buf (Elt Ideal) ℓ) (c : Dev nD)

/-- The normalised stream. -/
abbrev H : FVec Ideal S4096x2048 .bf16 := m ((c : Thread nD τ).loc main_arg0)
/-- The weight, a block of columns for each device. -/
abbrev W : FVec Ideal S8x2048x640 .bf16 := m ((c : Thread nD τ).loc main_arg1)
/-- The bias. -/
abbrev B : FVec Ideal S5120 .f32 := m ((c : Thread nD τ).loc main_arg2)

theorem idx : ∀ t : Fin cfg0.N, win0_0.index t = ![t.val % 4, 0] ∧ win0_1.index t = ![t.val / 4, 0, 0] ∧ win0_2.index t = ![0, t.val / 4] ∧ win0_3.index t = ![t.val % 4, t.val / 4] :=
  (by decide +kernel : ∀ t : Fin grid0.N, _)

/-- The blocks a point reads. -/
abbrev b0 (t : Fin cfg0.N) : FVec Ideal S1024x2048 .bf16 := iblk m c 0 t
abbrev b1 (t : Fin cfg0.N) : FVec Ideal S1x2048x640 .bf16 := iblk m c 1 t
abbrev b2 (t : Fin cfg0.N) : FVec Ideal S1x640 .f32 := iblk m c 2 t

theorem in0 (t : Fin cfg0.N) (r : Fin 1024) (k : Fin 2048) (n : Fin 4096) (h : n.val = 1024 * (t.val % 4) + r.val) :
    b0 m c t (ix2 r k) = H m c (ix2 n k) := by blk_point [b0, iblk, idx t]
theorem in1 (t : Fin cfg0.N) (s : Fin 8) (hs : s.val = t.val / 4) (k : Fin 2048) (q : Fin 640) :
    b1 m c t (ix3 0 k q) = W m c (ix3 s k q) := by blk_point [b1, iblk, idx t]
theorem in2 (t : Fin cfg0.N) (q : Fin 640) (x : Fin 5120) (hx : x.val = 640 * (t.val / 4) + q.val) : b2 m c t (ix2 0 q) = B m c (ix1 x) := by
  have h : (V m c main_v0 : FVec Ideal S1x5120 .f32) = shapeCast S1x5120 (B m c) shapeCasts_S5120_S1x5120 := by
    entry_read
    rfl
  have e : b2 m c t (ix2 0 q) = (V m c main_v0 : FVec Ideal S1x5120 .f32) (ix2 0 x) := by blk_point [b2, iblk, idx t]
  rw [e, h]
  pointwise []

/-- The projection. -/
def total (h : FVec Ideal S4096x2048 .bf16) (w : FVec Ideal S8x2048x640 .bf16) (b : FVec Ideal S5120 .f32) : FVec Ideal S4096x5120 .f32 :=
  fun i => (∑ k : Fin 2048, h (ix2 (i 0) k) * w (ix3 ⟨(i 1).val / 640, by have : (i 1).val < 5120 := (i 1).isLt; omega⟩ k ⟨(i 1).val % 640, by omega⟩)) + b (ix1 (i 1))

theorem out (t : Fin cfg0.N) (r : Fin 1024) (q : Fin 640) :
    (dats m 0 c).after 3 t (ix2 r q) = (∑ k : Fin 2048, b0 m c t (ix2 r k) * b1 m c t (ix3 0 k q)) + b2 m c t (ix2 0 q) := by
  rw [after0_3]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]

theorem out_eq (t : Fin cfg0.N) (r : Fin 1024) (q : Fin 640) (n : Fin 4096) (h : n.val = 1024 * (t.val % 4) + r.val) (x : Fin 5120) (hx : x.val = 640 * (t.val / 4) + q.val) :
    (dats m 0 c).after 3 t (ix2 r q) = total (H m c) (W m c) (B m c) (ix2 n x) := by
  have e : (∑ k : Fin 2048, b0 m c t (ix2 r k) * b1 m c t (ix3 0 k q)) + b2 m c t (ix2 0 q) = total (H m c) (W m c) (B m c) (ix2 n x) := by
    refine congrArg₂ (fun a b => a + b) (Finset.sum_congr rfl fun k _ => congrArg₂ (fun a b => a * b) (in0 m c t r k n h)
      ((in1 m c t ⟨x.val / 640, by omega⟩ (by show x.val / 640 = t.val / 4; omega) k q).trans (congrArg (fun q => W m c (ix3 _ k q)) (Fin.ext ?_)))) (in2 m c t q x hx)
    show q.val = x.val % 640
    omega
  exact (out m c t r q).trans e

theorem bounds (t : Fin cfg0.N) (r : Fin 1024) (q : Fin 640) : 1024 * (t.val % 4) + r.val < 4096 ∧ 640 * (t.val / 4) + q.val < 5120 := by
  have hN : cfg0.N = 32 := rfl
  have := t.isLt
  omega

theorem final : (dats m 0 c).arrAt 3 (cfgs 0).N = total (H m c) (W m c) (B m c) := by
  refine (dats m 0 c).arrAt_eq_of_covers 3 _ (by decide +kernel) fun t hf y => ?_
  blk_simp
  obtain ⟨r, q, rfl⟩ : ∃ (r : Fin 1024) (q : Fin 640), y = ix2 r q := ⟨y 0, y 1, by idx_vars y⟩
  have e : (win0_3.blk t).view.emb (ix2 r q) = (ix2 ⟨1024 * (t.val % 4) + r.val, (bounds t r q).1⟩ ⟨640 * (t.val / 4) + q.val, (bounds t r q).2⟩ : S4096x5120.Idx) := by
    blk_ext [idx t]
  rw [e]
  exact out_eq m c t r q _ rfl _ rfl

/-- The product of the whole matrices, and the bias, are the same. -/
theorem ref (h : FVec Ideal S4096x2048 .bf16) (w : FVec Ideal S8x2048x640 .bf16) (b : FVec Ideal S5120 .f32) :
    val_main_v7 (F := Ideal) h w b = total h w b := by
  funext i
  obtain ⟨n, q, rfl⟩ : ∃ (n : Fin 4096) (q : Fin 5120), i = ix2 n q := ⟨i 0, i 1, by idx_vars i⟩
  pointwise [val_main_v7, val_main_v6, val_main_v5, val_main_v4, val_main_v3, val_main_v2, val_main_v1, val_main_v0]
  rfl

theorem frame_reference : Cert.quiescent_Reference14Ideal (hReference14Ideal := Cert.Reference14Ideal.Gen.facts) := fun m g _ =>
  (θ_run Cert.Reference14Ideal.defs _ _).mono (fun _ h => ⟨fun c => (h c).2, sem_eq_zero_of_no_sems (by decide) _⟩)
    (Cert.Reference14Ideal.Value.run (F := Ideal) m g)

set_option maxHeartbeats 2000000 in
/-- The call and the reference leave the same array. -/
theorem same : Cert.algebraic_Kernel14Ideal_Reference14Ideal (hKernel14Ideal := Cert.Kernel14Ideal.Gen.facts) (hReference14Ideal := Cert.Reference14Ideal.Gen.facts) := by
  intro m g m' g' hpre hagree
  refine ⟨fun c => total (H m c) (W m c) (B m c),
    (θ_run Cert.Kernel14Ideal.defs _ _).mono (fun _ h c => ⟨(h c).1.trans (final m c), (h c).2⟩) (Cert.Kernel14Ideal.Value.run_blocks m g),
    (θ_run Cert.Reference14Ideal.defs _ _).mono (fun _ h c => ⟨(h c).1.trans ((val_main_v7_eq _ _ _).trans ((ref _ _ _).trans ?_)), (h c).2⟩)
      (Cert.Reference14Ideal.Value.run m' g')⟩
  exact congr (congrArg₂ total (hagree c).1 (hagree c).2.1) (hagree c).2.2

end Cert.PInO
end
-- ==== Proof.PInE.lean ====
/- An even layer's input projection: what the call that does one block at a time leaves. -/
module

public import proofs.«01_k».proof.Proof.Gen.Kernel13Ideal.Value
public import proofs.«01_k».proof.Proof.Gen.Reference13Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel13Ideal Cert.Kernel13Ideal.Gen
namespace Cert.PInE
open Cert.Reference13Ideal.Read
variable (m : (ℓ : Loc nD τ sig) → Buf (Elt Ideal) ℓ) (c : Dev nD)

/-- The normalised stream. -/
abbrev H : FVec Ideal S4096x2048 .bf16 := m ((c : Thread nD τ).loc main_arg0)
/-- The weight, a block of columns for each device. -/
abbrev W : FVec Ideal S8x2048x768 .bf16 := m ((c : Thread nD τ).loc main_arg1)
/-- The bias. -/
abbrev B : FVec Ideal S6144 .f32 := m ((c : Thread nD τ).loc main_arg2)

theorem idx : ∀ t : Fin cfg0.N, win0_0.index t = ![t.val % 4, 0] ∧ win0_1.index t = ![t.val / 4, 0, 0] ∧ win0_2.index t = ![0, t.val / 4] ∧ win0_3.index t = ![t.val % 4, t.val / 4] :=
  (by decide +kernel : ∀ t : Fin grid0.N, _)

/-- The blocks a point reads. -/
abbrev b0 (t : Fin cfg0.N) : FVec Ideal S1024x2048 .bf16 := iblk m c 0 t
abbrev b1 (t : Fin cfg0.N) : FVec Ideal S1x2048x768 .bf16 := iblk m c 1 t
abbrev b2 (t : Fin cfg0.N) : FVec Ideal S1x768 .f32 := iblk m c 2 t

theorem in0 (t : Fin cfg0.N) (r : Fin 1024) (k : Fin 2048) (n : Fin 4096) (h : n.val = 1024 * (t.val % 4) + r.val) :
    b0 m c t (ix2 r k) = H m c (ix2 n k) := by blk_point [b0, iblk, idx t]
theorem in1 (t : Fin cfg0.N) (s : Fin 8) (hs : s.val = t.val / 4) (k : Fin 2048) (q : Fin 768) :
    b1 m c t (ix3 0 k q) = W m c (ix3 s k q) := by blk_point [b1, iblk, idx t]
theorem in2 (t : Fin cfg0.N) (q : Fin 768) (x : Fin 6144) (hx : x.val = 768 * (t.val / 4) + q.val) : b2 m c t (ix2 0 q) = B m c (ix1 x) := by
  have h : (V m c main_v0 : FVec Ideal S1x6144 .f32) = shapeCast S1x6144 (B m c) shapeCasts_S6144_S1x6144 := by
    entry_read
    rfl
  have e : b2 m c t (ix2 0 q) = (V m c main_v0 : FVec Ideal S1x6144 .f32) (ix2 0 x) := by blk_point [b2, iblk, idx t]
  rw [e, h]
  pointwise []

/-- The projection. -/
def total (h : FVec Ideal S4096x2048 .bf16) (w : FVec Ideal S8x2048x768 .bf16) (b : FVec Ideal S6144 .f32) : FVec Ideal S4096x6144 .f32 :=
  fun i => (∑ k : Fin 2048, h (ix2 (i 0) k) * w (ix3 ⟨(i 1).val / 768, by have : (i 1).val < 6144 := (i 1).isLt; omega⟩ k ⟨(i 1).val % 768, by omega⟩)) + b (ix1 (i 1))

theorem out (t : Fin cfg0.N) (r : Fin 1024) (q : Fin 768) :
    (dats m 0 c).after 3 t (ix2 r q) = (∑ k : Fin 2048, b0 m c t (ix2 r k) * b1 m c t (ix3 0 k q)) + b2 m c t (ix2 0 q) := by
  rw [after0_3]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]

theorem out_eq (t : Fin cfg0.N) (r : Fin 1024) (q : Fin 768) (n : Fin 4096) (h : n.val = 1024 * (t.val % 4) + r.val) (x : Fin 6144) (hx : x.val = 768 * (t.val / 4) + q.val) :
    (dats m 0 c).after 3 t (ix2 r q) = total (H m c) (W m c) (B m c) (ix2 n x) := by
  have e : (∑ k : Fin 2048, b0 m c t (ix2 r k) * b1 m c t (ix3 0 k q)) + b2 m c t (ix2 0 q) = total (H m c) (W m c) (B m c) (ix2 n x) := by
    refine congrArg₂ (fun a b => a + b) (Finset.sum_congr rfl fun k _ => congrArg₂ (fun a b => a * b) (in0 m c t r k n h)
      ((in1 m c t ⟨x.val / 768, by omega⟩ (by show x.val / 768 = t.val / 4; omega) k q).trans (congrArg (fun q => W m c (ix3 _ k q)) (Fin.ext ?_)))) (in2 m c t q x hx)
    show q.val = x.val % 768
    omega
  exact (out m c t r q).trans e

theorem bounds (t : Fin cfg0.N) (r : Fin 1024) (q : Fin 768) : 1024 * (t.val % 4) + r.val < 4096 ∧ 768 * (t.val / 4) + q.val < 6144 := by
  have hN : cfg0.N = 32 := rfl
  have := t.isLt
  omega

theorem final : (dats m 0 c).arrAt 3 (cfgs 0).N = total (H m c) (W m c) (B m c) := by
  refine (dats m 0 c).arrAt_eq_of_covers 3 _ (by decide +kernel) fun t hf y => ?_
  blk_simp
  obtain ⟨r, q, rfl⟩ : ∃ (r : Fin 1024) (q : Fin 768), y = ix2 r q := ⟨y 0, y 1, by idx_vars y⟩
  have e : (win0_3.blk t).view.emb (ix2 r q) = (ix2 ⟨1024 * (t.val % 4) + r.val, (bounds t r q).1⟩ ⟨768 * (t.val / 4) + q.val, (bounds t r q).2⟩ : S4096x6144.Idx) := by
    blk_ext [idx t]
  rw [e]
  exact out_eq m c t r q _ rfl _ rfl

/-- The product of the whole matrices, and the bias, are the same. -/
theorem ref (h : FVec Ideal S4096x2048 .bf16) (w : FVec Ideal S8x2048x768 .bf16) (b : FVec Ideal S6144 .f32) :
    val_main_v7 (F := Ideal) h w b = total h w b := by
  funext i
  obtain ⟨n, q, rfl⟩ : ∃ (n : Fin 4096) (q : Fin 6144), i = ix2 n q := ⟨i 0, i 1, by idx_vars i⟩
  pointwise [val_main_v7, val_main_v6, val_main_v5, val_main_v4, val_main_v3, val_main_v2, val_main_v1, val_main_v0]
  rfl

theorem frame_reference : Cert.quiescent_Reference13Ideal (hReference13Ideal := Cert.Reference13Ideal.Gen.facts) := fun m g _ =>
  (θ_run Cert.Reference13Ideal.defs _ _).mono (fun _ h => ⟨fun c => (h c).2, sem_eq_zero_of_no_sems (by decide) _⟩)
    (Cert.Reference13Ideal.Value.run (F := Ideal) m g)

set_option maxHeartbeats 2000000 in
/-- The call and the reference leave the same array. -/
theorem same : Cert.algebraic_Kernel13Ideal_Reference13Ideal (hKernel13Ideal := Cert.Kernel13Ideal.Gen.facts) (hReference13Ideal := Cert.Reference13Ideal.Gen.facts) := by
  intro m g m' g' hpre hagree
  refine ⟨fun c => total (H m c) (W m c) (B m c),
    (θ_run Cert.Kernel13Ideal.defs _ _).mono (fun _ h c => ⟨(h c).1.trans (final m c), (h c).2⟩) (Cert.Kernel13Ideal.Value.run_blocks m g),
    (θ_run Cert.Reference13Ideal.defs _ _).mono (fun _ h c => ⟨(h c).1.trans ((val_main_v7_eq _ _ _).trans ((ref _ _ _).trans ?_)), (h c).2⟩)
      (Cert.Reference13Ideal.Value.run m' g')⟩
  exact congr (congrArg₂ total (hagree c).1 (hagree c).2.1) (hagree c).2.2

end Cert.PInE
end
-- ==== Proof.FOut.lean ====
/- The feed-forward layer's output added to the stream, and its normalisation: what the call that accumulates over the blocks leaves. -/
module

public import proofs.«01_k».proof.Proof.Gen.Kernel12Ideal.Value
public import proofs.«01_k».proof.Proof.Gen.Reference12Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel12Ideal Cert.Kernel12Ideal.Gen
namespace Cert.FOut
open Cert.Reference12Ideal.Read
variable (m : (ℓ : Loc nD τ sig) → Buf (Elt Ideal) ℓ) (c : Dev nD)

/-- The gated product, a block of columns for each device. -/
abbrev H : FVec Ideal S8x4096x704 .bf16 := m ((c : Thread nD τ).loc main_arg0)
/-- The weight, a block of rows for each device. -/
abbrev W : FVec Ideal S8x704x2048 .bf16 := m ((c : Thread nD τ).loc main_arg1)
/-- The stream. -/
abbrev X : FVec Ideal S4096x2048 .f32 := m ((c : Thread nD τ).loc main_arg2)
/-- The normalisation's gain. -/
abbrev G : FVec Ideal S2048 .f32 := m ((c : Thread nD τ).loc main_arg3)

theorem idx : ∀ t : Fin cfg0.N, win0_0.index t = ![t.val % 8, t.val / 8, 0] ∧ win0_1.index t = ![t.val % 8, 0, 0] ∧ win0_2.index t = ![t.val / 8, 0]
    ∧ win0_3.index t = ![0, 0] ∧ win0_4.index t = ![t.val / 8, 0] ∧ win0_5.index t = ![t.val / 8, 0] :=
  (by decide +kernel : ∀ t : Fin grid0.N, _)

/-- The blocks a point reads. -/
abbrev b0 (t : Fin cfg0.N) : FVec Ideal S1x512x704 .bf16 := iblk m c 0 t
abbrev b1 (t : Fin cfg0.N) : FVec Ideal S1x704x2048 .bf16 := iblk m c 1 t
abbrev b2 (t : Fin cfg0.N) : FVec Ideal S512x2048 .f32 := iblk m c 2 t
abbrev b3 (t : Fin cfg0.N) : FVec Ideal S1x2048 .f32 := iblk m c 3 t

theorem in0 (t : Fin cfg0.N) (s : Fin 8) (hs : s.val = t.val % 8) (r : Fin 512) (n : Fin 4096) (h : n.val = 512 * (t.val / 8) + r.val) (k : Fin 704) :
    b0 m c t (ix3 0 r k) = H m c (ix3 s n k) := by blk_point [b0, iblk, idx t]
theorem in1 (t : Fin cfg0.N) (s : Fin 8) (hs : s.val = t.val % 8) (k : Fin 704) (q : Fin 2048) : b1 m c t (ix3 0 k q) = W m c (ix3 s k q) := by blk_point [b1, iblk, idx t]
theorem in2 (t : Fin cfg0.N) (r : Fin 512) (n : Fin 4096) (h : n.val = 512 * (t.val / 8) + r.val) (q : Fin 2048) : b2 m c t (ix2 r q) = X m c (ix2 n q) := by blk_point [b2, iblk, idx t]
theorem in3 (t : Fin cfg0.N) (q : Fin 2048) : b3 m c t (ix2 0 q) = G m c (ix1 q) := by
  have h : (V m c main_v0 : FVec Ideal S1x2048 .f32) = shapeCast S1x2048 (G m c) shapeCasts_S2048_S1x2048 := by
    entry_read
    rfl
  have e : b3 m c t (ix2 0 q) = (V m c main_v0 : FVec Ideal S1x2048 .f32) (ix2 0 q) := by blk_point [b3, iblk, idx t]
  rw [e, h]
  pointwise []

/-- What the blocks of one device add to the stream. -/
def part (h : FVec Ideal S8x4096x704 .bf16) (w : FVec Ideal S8x704x2048 .bf16) (s : Fin 8) (n : Fin 4096) (q : Fin 2048) : EReal :=
  ∑ k : Fin 704, h (ix3 s n k) * w (ix3 s k q)
/-- One entry of the new stream. -/
def entry (h : FVec Ideal S8x4096x704 .bf16) (w : FVec Ideal S8x704x2048 .bf16) (x : FVec Ideal S4096x2048 .f32) (n : Fin 4096) (q : Fin 2048) : EReal :=
  x (ix2 n q) + ∑ s : Fin 8, part h w s n q
/-- The new stream. -/
def total (h : FVec Ideal S8x4096x704 .bf16) (w : FVec Ideal S8x704x2048 .bf16) (x : FVec Ideal S4096x2048 .f32) : FVec Ideal S4096x2048 .f32 :=
  fun i => entry h w x (i 0) (i 1)
/-- One entry of a normalised row. -/
def normed (row : Fin 2048 → EReal) (g : EReal) (q : Fin 2048) : EReal :=
  row q * Ideal.rsqrt (Ideal.div (∑ k : Fin 2048, row k * row k) (Ideal.ofBits .f32 0x45000000#32) + Ideal.ofBits .f32 0x358637BD#32) * g
/-- The normalised stream. -/
def norm (h : FVec Ideal S8x4096x704 .bf16) (w : FVec Ideal S8x704x2048 .bf16) (x : FVec Ideal S4096x2048 .f32) (g : FVec Ideal S2048 .f32) : FVec Ideal S4096x2048 .bf16 :=
  fun i => normed (fun k => entry h w x (i 0) k) (g (ix1 (i 1))) (i 1)

/-- What one point adds: the first of a run starts from the stream. -/
def term (r : Fin 512) (q : Fin 2048) (t : Fin cfg0.N) : EReal :=
  (if t.val % 8 = 0 then b2 m c t (ix2 r q) else 0) + ∑ k : Fin 704, b0 m c t (ix3 0 r k) * b1 m c t (ix3 0 k q)

theorem acc_A (t : Fin cfg0.N) (h : t.val % 8 = 0) (r : Fin 512) (q : Fin 2048) : (outsAt0 m c t.val t.isLt).1 (ix2 r q) = term m c r q t := by
  rw [outsAt0_A m c t h (by omega) (by omega), term, if_pos h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]

theorem acc_B (t : Fin cfg0.N) (h : ¬ t.val % 8 = 0) (r : Fin 512) (q : Fin 2048) :
    (outsAt0 m c t.val t.isLt).1 (ix2 r q) = (outsAt0 m c (t.val - 1) (Nat.lt_of_le_of_lt (Nat.sub_le _ _) t.isLt)).1 (ix2 r q) + term m c r q t := by
  rw [term, if_neg h, zero_add]
  by_cases h7 : t.val % 8 = 7
  · rw [outsAt0_C m c t h (by omega) h7]
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay3]
  · rw [outsAt0_B m c t h (by omega) h7]
    frame_open
    simp (disch := decide) only [↓View.readCov_skip, ↓View.readCov_fill, View.read_writes_junk_eq_canon, View.canon_cons_unit_lit', View.ld_unit_lit',
      View.readCov_unit_lit', View.readCov_cons_unit_lit', View.readAt_eq_ld, Memref.IsWhole.read_unread]
    pointwise [k0_pay1, k0_pay3]

theorem out4 (t : Fin cfg0.N) (h : t.val % 8 = 7) (r : Fin 512) (n : Fin 4096) (hn : n.val = 512 * (t.val / 8) + r.val) (q : Fin 2048) :
    (outsAt0 m c t.val t.isLt).1 (ix2 r q) = entry (H m c) (W m c) (X m c) n q := by
  have hN : cfg0.N = 64 := rfl
  have := t.isLt
  refine (Pipeline.eq_sum_fin_of_reset_step_of_flush (M := EReal) (fun n h => (outsAt0 m c n h).1 (ix2 r q)) 8 0 (term m c r q)
    (fun t h => (acc_A m c t h r q).trans (zero_add _).symm) (fun t h => acc_B m c t h r q) t h).trans ((zero_add _).trans ?_)
  have e : ∀ s : Fin 8, term m c r q ⟨8 * (t.val / 8) + s.val, by omega⟩ = (if s = 0 then X m c (ix2 n q) else 0) + part (H m c) (W m c) s n q := fun s => by
    refine congrArg₂ (fun a b => a + b) ?_ (Finset.sum_congr rfl fun k _ => congrArg₂ (fun a b => a * b)
      (in0 m c _ s (by show s.val = (8 * (t.val / 8) + s.val) % 8; omega) r n (by show n.val = 512 * ((8 * (t.val / 8) + s.val) / 8) + r.val; omega) k)
      (in1 m c _ s (by show s.val = (8 * (t.val / 8) + s.val) % 8; omega) k q))
    rw [in2 m c _ r n (by show n.val = 512 * ((8 * (t.val / 8) + s.val) / 8) + r.val; omega) q]
    exact if_congr (by rw [Fin.ext_iff]; show (8 * (t.val / 8) + s.val) % 8 = 0 ↔ s.val = 0; omega) rfl rfl
  rw [Finset.sum_congr rfl fun s _ => e s, Finset.sum_add_distrib, Finset.sum_ite_eq' Finset.univ (0 : Fin 8), if_pos (Finset.mem_univ _)]
  rfl

theorem out5 (t : Fin cfg0.N) (h : t.val % 8 = 7) (r : Fin 512) (q : Fin 2048) :
    (outsAt0 m c t.val t.isLt).2 (ix2 r q) = normed (fun k => (outsAt0 m c t.val t.isLt).1 (ix2 r k)) (b3 m c t (ix2 0 q)) q := by
  rw [outsAt0_C m c t (by omega) (by omega) h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay4, k0_pay1, k0_pay3]
  rfl

theorem emb (t : Fin cfg0.N) (r : Fin 512) (q : Fin 2048) (hn : 512 * (t.val / 8) + r.val < 4096) :
    (win0_4.blk t).view.emb (ix2 r q) = (ix2 ⟨512 * (t.val / 8) + r.val, hn⟩ q : S4096x2048.Idx)
    ∧ (win0_5.blk t).view.emb (ix2 r q) = (ix2 ⟨512 * (t.val / 8) + r.val, hn⟩ q : S4096x2048.Idx) :=
  ⟨by blk_ext [idx t], by blk_ext [idx t]⟩
theorem bounds (t : Fin cfg0.N) (r : Fin 512) : 512 * (t.val / 8) + r.val < 4096 := by
  have hN : cfg0.N = 64 := rfl
  have := t.isLt
  omega

theorem final4 : (dats m 0 c).arrAt 4 (cfgs 0).N = total (H m c) (W m c) (X m c) := by
  refine (dats m 0 c).arrAt_eq_of_covers 4 _ (by decide +kernel) fun t hf y => ?_
  have ht := (flush0_4 t).mp hf
  blk_simp
  rw [after0_4]
  obtain ⟨r, q, rfl⟩ : ∃ (r : Fin 512) (q : Fin 2048), y = ix2 r q := ⟨y 0, y 1, by idx_vars y⟩
  rw [(emb t r q (bounds t r)).1]
  exact out4 m c t ht r _ rfl q
theorem final5 : (dats m 0 c).arrAt 5 (cfgs 0).N = norm (H m c) (W m c) (X m c) (G m c) := by
  refine (dats m 0 c).arrAt_eq_of_covers 5 _ (by decide +kernel) fun t hf y => ?_
  have ht := (flush0_5 t).mp hf
  blk_simp
  rw [after0_5]
  obtain ⟨r, q, rfl⟩ : ∃ (r : Fin 512) (q : Fin 2048), y = ix2 r q := ⟨y 0, y 1, by idx_vars y⟩
  rw [(emb t r q (bounds t r)).2]
  exact (out5 m c t ht r q).trans (congrArg₂ (fun f g => normed f g q) (funext fun k => out4 m c t ht r _ rfl k) (in3 m c t q))

theorem ref6 (h : FVec Ideal S8x4096x704 .bf16) (w : FVec Ideal S8x704x2048 .bf16) (x : FVec Ideal S4096x2048 .f32) (n : Fin 4096) (q : Fin 2048) :
    val_main_v6 (F := Ideal) h w x (ix2 n q) = entry h w x n q := by
  pointwise [val_main_v6, val_main_v5, val_main_v4, val_main_v3, val_main_v2, val_main_v1, val_main_v0]
  exact congrArg (fun y => x (ix2 n q) + y) (Tiles.sum_blocks (by decide) rfl (fun s k => h (ix3 s n k) * w (ix3 s k q)) _ _)
theorem ref6' (h : FVec Ideal S8x4096x704 .bf16) (w : FVec Ideal S8x704x2048 .bf16) (x : FVec Ideal S4096x2048 .f32) :
    val_main_v6 (F := Ideal) h w x = total h w x := by
  funext i
  obtain ⟨n, q, rfl⟩ : ∃ (n : Fin 4096) (q : Fin 2048), i = ix2 n q := ⟨i 0, i 1, by idx_vars i⟩
  exact ref6 h w x n q
theorem ref20 (h : FVec Ideal S8x4096x704 .bf16) (w : FVec Ideal S8x704x2048 .bf16) (x : FVec Ideal S4096x2048 .f32) (g : FVec Ideal S2048 .f32) :
    val_main_v20 (F := Ideal) h w x g = norm h w x g := by
  funext i
  obtain ⟨n, q, rfl⟩ : ∃ (n : Fin 4096) (q : Fin 2048), i = ix2 n q := ⟨i 0, i 1, by idx_vars i⟩
  pointwise [val_main_v20, val_main_v19, val_main_v18, val_main_v17, val_main_v16, val_main_v15, val_main_v14, val_main_v13, val_main_v12, val_main_cst_1, val_main_v11, val_main_v10, val_main_cst_0, val_main_v9, val_main_v8, val_main_cst, val_main_v7]
  simp only [ref6]
  rfl

theorem frame_reference : Cert.quiescent_Reference12Ideal (hReference12Ideal := Cert.Reference12Ideal.Gen.facts) := fun m g _ =>
  (θ_run Cert.Reference12Ideal.defs _ _).mono (fun _ h => ⟨fun c => (h c).2.2, sem_eq_zero_of_no_sems (by decide) _⟩)
    (Cert.Reference12Ideal.Value.run (F := Ideal) m g)

set_option maxHeartbeats 2000000 in
/-- The call and the reference leave the same arrays. -/
theorem same : Cert.algebraic_Kernel12Ideal_Reference12Ideal (hKernel12Ideal := Cert.Kernel12Ideal.Gen.facts) (hReference12Ideal := Cert.Reference12Ideal.Gen.facts) := by
  intro m g m' g' hpre hagree
  refine ⟨fun c => total (H m c) (W m c) (X m c), fun c => norm (H m c) (W m c) (X m c) (G m c),
    (θ_run Cert.Kernel12Ideal.defs _ _).mono (fun _ h c => ⟨(h c).1.trans (final4 m c), (h c).2.1.trans (final5 m c), (h c).2.2⟩)
      (Cert.Kernel12Ideal.Value.run_blocks m g),
    (θ_run Cert.Reference12Ideal.defs _ _).mono (fun _ h c => ⟨(h c).1.trans ((val_main_v6_eq _ _ _).trans ((ref6' _ _ _).trans ?_)),
      (h c).2.1.trans ((val_main_v20_eq _ _ _ _).trans ((ref20 _ _ _ _).trans ?_)), (h c).2.2⟩)
      (Cert.Reference12Ideal.Value.run m' g')⟩
  · exact congr (congrArg₂ total (hagree c).1 (hagree c).2.1) (hagree c).2.2.1
  · exact congr (congr (congrArg₂ norm (hagree c).1 (hagree c).2.1) (hagree c).2.2.1) (hagree c).2.2.2

end Cert.FOut
end
-- ==== Proof.FIn.lean ====
/- The feed-forward layer's two projections and their gated product: what the call that does one block at a time leaves. -/
module

public import proofs.«01_k».proof.Proof.Gen.Kernel11Ideal.Value
public import proofs.«01_k».proof.Proof.Gen.Reference11Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel11Ideal Cert.Kernel11Ideal.Gen
namespace Cert.FIn
open Cert.Reference11Ideal.Read
variable (m : (ℓ : Loc nD τ sig) → Buf (Elt Ideal) ℓ) (c : Dev nD)

/-- The layer's input. -/
abbrev H : FVec Ideal S4096x2048 .bf16 := m ((c : Thread nD τ).loc main_arg0)
/-- The weights, a block of columns for each device. -/
abbrev WG : FVec Ideal S8x2048x704 .bf16 := m ((c : Thread nD τ).loc main_arg1)
abbrev WU : FVec Ideal S8x2048x704 .bf16 := m ((c : Thread nD τ).loc main_arg2)

theorem idx : ∀ t : Fin cfg0.N, win0_0.index t = ![t.val % 4, 0] ∧ win0_1.index t = ![t.val / 4, 0, 0] ∧ win0_2.index t = ![t.val / 4, 0, 0]
    ∧ win0_3.index t = ![t.val / 4, t.val % 4, 0] ∧ win0_4.index t = ![t.val / 4, t.val % 4, 0] ∧ win0_5.index t = ![t.val / 4, t.val % 4, 0] :=
  (by decide +kernel : ∀ t : Fin grid0.N, _)

/-- The blocks a point reads. -/
abbrev b0 (t : Fin cfg0.N) : FVec Ideal S1024x2048 .bf16 := iblk m c 0 t
abbrev b1 (t : Fin cfg0.N) : FVec Ideal S1x2048x704 .bf16 := iblk m c 1 t
abbrev b2 (t : Fin cfg0.N) : FVec Ideal S1x2048x704 .bf16 := iblk m c 2 t

theorem in0 (t : Fin cfg0.N) (r : Fin 1024) (k : Fin 2048) (n : Fin 4096) (h : n.val = 1024 * (t.val % 4) + r.val) :
    b0 m c t (ix2 r k) = H m c (ix2 n k) := by blk_point [b0, iblk, idx t]
theorem in1 (t : Fin cfg0.N) (s : Fin 8) (hs : s.val = t.val / 4) (k : Fin 2048) (q : Fin 704) :
    b1 m c t (ix3 0 k q) = WG m c (ix3 s k q) := by blk_point [b1, iblk, idx t]
theorem in2 (t : Fin cfg0.N) (s : Fin 8) (hs : s.val = t.val / 4) (k : Fin 2048) (q : Fin 704) :
    b2 m c t (ix3 0 k q) = WU m c (ix3 s k q) := by blk_point [b2, iblk, idx t]

/-- One entry of a projection. -/
def entry (h : FVec Ideal S4096x2048 .bf16) (w : FVec Ideal S8x2048x704 .bf16) (s : Fin 8) (n : Fin 4096) (q : Fin 704) : EReal :=
  ∑ k : Fin 2048, h (ix2 n k) * w (ix3 s k q)
/-- The projection. -/
def proj (h : FVec Ideal S4096x2048 .bf16) (w : FVec Ideal S8x2048x704 .bf16) : FVec Ideal S8x4096x704 .f32 := fun i => entry h w (i 0) (i 1) (i 2)
/-- One entry of the gated product. -/
def gated (g u : EReal) : EReal := g * Ideal.div 1 (1 + Ideal.exp (0 - g)) * u
/-- The gated product. -/
def hid (h : FVec Ideal S4096x2048 .bf16) (wg wu : FVec Ideal S8x2048x704 .bf16) : FVec Ideal S8x4096x704 .bf16 := fun i => gated (proj h wg i) (proj h wu i)

theorem gate_eq (t : Fin cfg0.N) (r : Fin 1024) (q : Fin 704) (s : Fin 8) (hs : s.val = t.val / 4) (n : Fin 4096) (h : n.val = 1024 * (t.val % 4) + r.val) :
    ∑ k : Fin 2048, b0 m c t (ix2 r k) * b1 m c t (ix3 0 k q) = entry (H m c) (WG m c) s n q :=
  Finset.sum_congr rfl fun k _ => congrArg₂ (fun a b => a * b) (in0 m c t r k n h) (in1 m c t s hs k q)
theorem up_eq (t : Fin cfg0.N) (r : Fin 1024) (q : Fin 704) (s : Fin 8) (hs : s.val = t.val / 4) (n : Fin 4096) (h : n.val = 1024 * (t.val % 4) + r.val) :
    ∑ k : Fin 2048, b0 m c t (ix2 r k) * b2 m c t (ix3 0 k q) = entry (H m c) (WU m c) s n q :=
  Finset.sum_congr rfl fun k _ => congrArg₂ (fun a b => a * b) (in0 m c t r k n h) (in2 m c t s hs k q)

theorem out3 (t : Fin cfg0.N) (r : Fin 1024) (q : Fin 704) (s : Fin 8) (hs : s.val = t.val / 4) (n : Fin 4096) (h : n.val = 1024 * (t.val % 4) + r.val) :
    (dats m 0 c).after 3 t (ix3 0 r q) = entry (H m c) (WG m c) s n q := by
  rw [after0_3, ← gate_eq m c t r q s hs n h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay3, k0_pay1]
theorem out4 (t : Fin cfg0.N) (r : Fin 1024) (q : Fin 704) (s : Fin 8) (hs : s.val = t.val / 4) (n : Fin 4096) (h : n.val = 1024 * (t.val % 4) + r.val) :
    (dats m 0 c).after 4 t (ix3 0 r q) = entry (H m c) (WU m c) s n q := by
  rw [after0_4, ← up_eq m c t r q s hs n h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay4, k0_pay2]
theorem out5 (t : Fin cfg0.N) (r : Fin 1024) (q : Fin 704) (s : Fin 8) (hs : s.val = t.val / 4) (n : Fin 4096) (h : n.val = 1024 * (t.val % 4) + r.val) :
    (dats m 0 c).after 5 t (ix3 0 r q) = gated (entry (H m c) (WG m c) s n q) (entry (H m c) (WU m c) s n q) := by
  rw [after0_5, ← gate_eq m c t r q s hs n h, ← up_eq m c t r q s hs n h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay5, k0_pay1, k0_pay2]
  rfl

theorem emb (t : Fin cfg0.N) (r : Fin 1024) (q : Fin 704) (hs : t.val / 4 < 8) (hn : 1024 * (t.val % 4) + r.val < 4096) :
    (win0_3.blk t).view.emb (ix3 0 r q) = (ix3 ⟨t.val / 4, hs⟩ ⟨1024 * (t.val % 4) + r.val, hn⟩ q : S8x4096x704.Idx)
    ∧ (win0_4.blk t).view.emb (ix3 0 r q) = (ix3 ⟨t.val / 4, hs⟩ ⟨1024 * (t.val % 4) + r.val, hn⟩ q : S8x4096x704.Idx)
    ∧ (win0_5.blk t).view.emb (ix3 0 r q) = (ix3 ⟨t.val / 4, hs⟩ ⟨1024 * (t.val % 4) + r.val, hn⟩ q : S8x4096x704.Idx) :=
  ⟨by blk_ext [idx t], by blk_ext [idx t], by blk_ext [idx t]⟩

theorem bounds (t : Fin cfg0.N) (r : Fin 1024) : t.val / 4 < 8 ∧ 1024 * (t.val % 4) + r.val < 4096 := by
  have hN : cfg0.N = 32 := rfl
  have := t.isLt
  omega
theorem vars (y : S1x1024x704.Idx) : ∃ (r : Fin 1024) (q : Fin 704), y = ix3 0 r q := by
  obtain ⟨z, r, q, rfl⟩ : ∃ (z : Fin 1) (r : Fin 1024) (q : Fin 704), y = ix3 z r q := ⟨y 0, y 1, y 2, by idx_vars y⟩
  exact ⟨r, q, by rw [Subsingleton.elim z 0]⟩

theorem final3 : (dats m 0 c).arrAt 3 (cfgs 0).N = proj (H m c) (WG m c) := by
  refine (dats m 0 c).arrAt_eq_of_covers 3 _ (by decide +kernel) fun t hf y => ?_
  blk_simp
  obtain ⟨r, q, rfl⟩ := vars y
  rw [(emb t r q (bounds t r).1 (bounds t r).2).1]
  exact out3 m c t r q _ rfl _ rfl
theorem final4 : (dats m 0 c).arrAt 4 (cfgs 0).N = proj (H m c) (WU m c) := by
  refine (dats m 0 c).arrAt_eq_of_covers 4 _ (by decide +kernel) fun t hf y => ?_
  blk_simp
  obtain ⟨r, q, rfl⟩ := vars y
  rw [(emb t r q (bounds t r).1 (bounds t r).2).2.1]
  exact out4 m c t r q _ rfl _ rfl
theorem final5 : (dats m 0 c).arrAt 5 (cfgs 0).N = hid (H m c) (WG m c) (WU m c) := by
  refine (dats m 0 c).arrAt_eq_of_covers 5 _ (by decide +kernel) fun t hf y => ?_
  blk_simp
  obtain ⟨r, q, rfl⟩ := vars y
  rw [(emb t r q (bounds t r).1 (bounds t r).2).2.2]
  exact out5 m c t r q _ rfl _ rfl

theorem ref10 (h : FVec Ideal S4096x2048 .bf16) (w : FVec Ideal S8x2048x704 .bf16) : val_main_v10 (F := Ideal) h w = proj h w := by
  funext i
  obtain ⟨s, n, q, rfl⟩ : ∃ (s : Fin 8) (n : Fin 4096) (q : Fin 704), i = ix3 s n q := ⟨i 0, i 1, i 2, by idx_vars i⟩
  pointwise [val_main_v10, val_main_v9, val_main_v4, val_main_v3, val_main_v2, val_main_v1, val_main_v0]
  rfl
theorem ref12 (h : FVec Ideal S4096x2048 .bf16) (w : FVec Ideal S8x2048x704 .bf16) : val_main_v12 (F := Ideal) h w = proj h w := by
  funext i
  obtain ⟨s, n, q, rfl⟩ : ∃ (s : Fin 8) (n : Fin 4096) (q : Fin 704), i = ix3 s n q := ⟨i 0, i 1, i 2, by idx_vars i⟩
  pointwise [val_main_v12, val_main_v11, val_main_v8, val_main_v7, val_main_v6, val_main_v5, val_main_v0]
  rfl
theorem ref17 (h : FVec Ideal S4096x2048 .bf16) (wg wu : FVec Ideal S8x2048x704 .bf16) : val_main_v17 (F := Ideal) h wg wu = hid h wg wu := by
  funext i
  obtain ⟨s, n, q, rfl⟩ : ∃ (s : Fin 8) (n : Fin 4096) (q : Fin 704), i = ix3 s n q := ⟨i 0, i 1, i 2, by idx_vars i⟩
  pointwise [val_main_v13, val_main_call0_v5, val_main_call0_v4,
    val_main_call0_cst_0, val_main_call0_v3, val_main_call0_v2,
    val_main_call0_cst, val_main_call0_v1, val_main_call0_v0,
    val_main_v17, val_main_v16, val_main_v15, val_main_v14, val_main_v8, val_main_v7, val_main_v6, val_main_v5, val_main_v4, val_main_v3, val_main_v2, val_main_v1, val_main_v0]
  show _ = gated _ _
  unfold gated
  rw [zero_sub]
  rfl

theorem frame_reference : Cert.quiescent_Reference11Ideal (hReference11Ideal := Cert.Reference11Ideal.Gen.facts) := fun m g _ =>
  (θ_run Cert.Reference11Ideal.defs _ _).mono (fun _ h => ⟨fun c => (h c).2.2.2, sem_eq_zero_of_no_sems (by decide) _⟩)
    (Cert.Reference11Ideal.Value.run (F := Ideal) m g)

set_option maxHeartbeats 2000000 in
/-- The call and the reference leave the same arrays. -/
theorem same : Cert.algebraic_Kernel11Ideal_Reference11Ideal (hKernel11Ideal := Cert.Kernel11Ideal.Gen.facts) (hReference11Ideal := Cert.Reference11Ideal.Gen.facts) := by
  intro m g m' g' hpre hagree
  refine ⟨fun c => proj (H m c) (WG m c), fun c => proj (H m c) (WU m c), fun c => hid (H m c) (WG m c) (WU m c),
    (θ_run Cert.Kernel11Ideal.defs _ _).mono (fun _ h c => ⟨(h c).1.trans (final3 m c), (h c).2.1.trans (final4 m c), (h c).2.2.1.trans (final5 m c), (h c).2.2.2⟩)
      (Cert.Kernel11Ideal.Value.run_blocks m g),
    (θ_run Cert.Reference11Ideal.defs _ _).mono (fun _ h c => ⟨(h c).1.trans ((val_main_v10_eq _ _).trans ((ref10 _ _).trans ?_)),
      (h c).2.1.trans ((val_main_v12_eq _ _).trans ((ref12 _ _).trans ?_)),
      (h c).2.2.1.trans ((val_main_v17_eq _ _ _).trans ((ref17 _ _ _).trans ?_)), (h c).2.2.2⟩)
      (Cert.Reference11Ideal.Value.run m' g')⟩
  · exact congrArg₂ proj (hagree c).1 (hagree c).2.1
  · exact congrArg₂ proj (hagree c).1 (hagree c).2.2
  · exact congr (congrArg₂ hid (hagree c).1 (hagree c).2.1) (hagree c).2.2

end Cert.FIn
end
-- ==== Proof.BOut.lean ====
/- The gradient a mixer's output projection hands back: what the call that does one block at a time leaves. -/
module

public import proofs.«01_k».proof.Proof.Gen.Kernel10Ideal.Value
public import proofs.«01_k».proof.Proof.Gen.Reference10Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel10Ideal Cert.Kernel10Ideal.Gen
namespace Cert.BOut
open Cert.Reference10Ideal.Read
variable (m : (ℓ : Loc nD τ sig) → Buf (Elt Ideal) ℓ) (c : Dev nD)

/-- The gradient of the output. -/
abbrev D : FVec Ideal S4096x2048 .bf16 := m ((c : Thread nD τ).loc main_arg0)
/-- The weight, a block of rows for each device. -/
abbrev W : FVec Ideal S8x256x2048 .bf16 := m ((c : Thread nD τ).loc main_arg1)

theorem idx : ∀ t : Fin cfg0.N, win0_0.index t = ![t.val % 4, 0] ∧ win0_1.index t = ![t.val / 4, 0, 0] ∧ win0_2.index t = ![t.val % 4, t.val / 4] :=
  (by decide +kernel : ∀ t : Fin grid0.N, _)

/-- The blocks a point reads. -/
abbrev b0 (t : Fin cfg0.N) : FVec Ideal S1024x2048 .bf16 := iblk m c 0 t
abbrev b1 (t : Fin cfg0.N) : FVec Ideal S1x256x2048 .bf16 := iblk m c 1 t

theorem in0 (t : Fin cfg0.N) (r : Fin 1024) (k : Fin 2048) (n : Fin 4096) (h : n.val = 1024 * (t.val % 4) + r.val) :
    b0 m c t (ix2 r k) = D m c (ix2 n k) := by blk_point [b0, iblk, idx t]
theorem in1 (t : Fin cfg0.N) (s : Fin 8) (hs : s.val = t.val / 4) (q : Fin 256) (k : Fin 2048) :
    b1 m c t (ix3 0 q k) = W m c (ix3 s q k) := by blk_point [b1, iblk, idx t]

/-- The gradient. -/
def total (d : FVec Ideal S4096x2048 .bf16) (w : FVec Ideal S8x256x2048 .bf16) : FVec Ideal S4096x2048 .f32 :=
  fun i => ∑ k : Fin 2048, d (ix2 (i 0) k) * w (ix3 ⟨(i 1).val / 256, by have : (i 1).val < 2048 := (i 1).isLt; omega⟩ ⟨(i 1).val % 256, by omega⟩ k)

theorem out (t : Fin cfg0.N) (r : Fin 1024) (q : Fin 256) :
    (dats m 0 c).after 2 t (ix2 r q) = ∑ k : Fin 2048, b0 m c t (ix2 r k) * b1 m c t (ix3 0 q k) := by
  rw [after0_2]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]

theorem out_eq (t : Fin cfg0.N) (r : Fin 1024) (q : Fin 256) (n : Fin 4096) (h : n.val = 1024 * (t.val % 4) + r.val) (x : Fin 2048) (hx : x.val = 256 * (t.val / 4) + q.val) :
    (dats m 0 c).after 2 t (ix2 r q) = total (D m c) (W m c) (ix2 n x) := by
  have e : ∑ k : Fin 2048, b0 m c t (ix2 r k) * b1 m c t (ix3 0 q k) = total (D m c) (W m c) (ix2 n x) := by
    refine Finset.sum_congr rfl fun k _ => congrArg₂ (fun a b => a * b) (in0 m c t r k n h)
      ((in1 m c t ⟨x.val / 256, by omega⟩ (by show x.val / 256 = t.val / 4; omega) q k).trans (congrArg (fun q => W m c (ix3 _ q k)) (Fin.ext ?_)))
    show q.val = x.val % 256
    omega
  exact (out m c t r q).trans e

theorem bounds (t : Fin cfg0.N) (r : Fin 1024) (q : Fin 256) : 1024 * (t.val % 4) + r.val < 4096 ∧ 256 * (t.val / 4) + q.val < 2048 := by
  have hN : cfg0.N = 32 := rfl
  have := t.isLt
  omega

theorem final : (dats m 0 c).arrAt 2 (cfgs 0).N = total (D m c) (W m c) := by
  refine (dats m 0 c).arrAt_eq_of_covers 2 _ (by decide +kernel) fun t hf y => ?_
  blk_simp
  obtain ⟨r, q, rfl⟩ : ∃ (r : Fin 1024) (q : Fin 256), y = ix2 r q := ⟨y 0, y 1, by idx_vars y⟩
  have e : (win0_2.blk t).view.emb (ix2 r q) = (ix2 ⟨1024 * (t.val % 4) + r.val, (bounds t r q).1⟩ ⟨256 * (t.val / 4) + q.val, (bounds t r q).2⟩ : S4096x2048.Idx) := by
    blk_ext [idx t]
  rw [e]
  exact out_eq m c t r q _ rfl _ rfl

/-- The derivative of the product in its left factor is the same sum. -/
theorem ref (d : FVec Ideal S4096x2048 .bf16) (w : FVec Ideal S8x256x2048 .bf16) :
    val_main_v5 (F := Ideal) d w = total d w := by
  funext i
  obtain ⟨n, q, rfl⟩ : ∃ (n : Fin 4096) (q : Fin 2048), i = ix2 n q := ⟨i 0, i 1, by idx_vars i⟩
  pointwise [val_main_v5, val_main_v2, val_main_v1, val_main_v0]
  rfl

theorem frame_reference : Cert.quiescent_Reference10Ideal (hReference10Ideal := Cert.Reference10Ideal.Gen.facts) := fun m g _ =>
  (θ_run Cert.Reference10Ideal.defs _ _).mono (fun _ h => ⟨fun c => (h c).2, sem_eq_zero_of_no_sems (by decide) _⟩)
    (Cert.Reference10Ideal.Value.run (F := Ideal) m g)

set_option maxHeartbeats 2000000 in
/-- The call and the reference leave the same array. -/
theorem same : Cert.algebraic_Kernel10Ideal_Reference10Ideal (hKernel10Ideal := Cert.Kernel10Ideal.Gen.facts) (hReference10Ideal := Cert.Reference10Ideal.Gen.facts) := by
  intro m g m' g' hpre hagree
  refine ⟨fun c => total (D m c) (W m c),
    (θ_run Cert.Kernel10Ideal.defs _ _).mono (fun _ h c => ⟨(h c).1.trans (final m c), (h c).2⟩) (Cert.Kernel10Ideal.Value.run_blocks m g),
    (θ_run Cert.Reference10Ideal.defs _ _).mono (fun _ h c => ⟨(h c).1.trans ((val_main_v5_eq _ _).trans ((ref _ _).trans ?_)), (h c).2⟩)
      (Cert.Reference10Ideal.Value.run m' g')⟩
  exact congrArg₂ total (hagree c).1 (hagree c).2

end Cert.BOut
end
-- ==== Proof.BMixO.lean ====
/- The gradient an odd layer's mixer hands to its input: what the call that accumulates it over the blocks leaves. -/
module

public import proofs.«01_k».proof.Proof.Gen.Kernel9Ideal.Value
public import proofs.«01_k».proof.Proof.Gen.Reference9Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel9Ideal Cert.Kernel9Ideal.Gen
namespace Cert.BMixO
open Cert.Reference9Ideal.Read
variable (m : (ℓ : Loc nD τ sig) → Buf (Elt Ideal) ℓ) (c : Dev nD)

/-- The gradient of the projection. -/
abbrev D : FVec Ideal S4096x5120 .bf16 := m ((c : Thread nD τ).loc main_arg0)
/-- The weight, a block of columns for each device. -/
abbrev W : FVec Ideal S8x2048x640 .bf16 := m ((c : Thread nD τ).loc main_arg1)

theorem idx : ∀ t : Fin cfg0.N, win0_0.index t = ![t.val / 8, t.val % 8] ∧ win0_1.index t = ![t.val % 8, 0, 0] ∧ win0_2.index t = ![t.val / 8, 0] :=
  (by decide +kernel : ∀ t : Fin grid0.N, _)

/-- The blocks a point reads. -/
abbrev b0 (t : Fin cfg0.N) : FVec Ideal S1024x640 .bf16 := iblk m c 0 t
abbrev b1 (t : Fin cfg0.N) : FVec Ideal S1x2048x640 .bf16 := iblk m c 1 t

theorem in0 (t : Fin cfg0.N) (r : Fin 1024) (k : Fin 640) (n : Fin 4096) (x : Fin 5120) (h : n.val = 1024 * (t.val / 8) + r.val) (hx : x.val = 640 * (t.val % 8) + k.val) :
    b0 m c t (ix2 r k) = D m c (ix2 n x) := by blk_point [b0, iblk, idx t]
theorem in1 (t : Fin cfg0.N) (s : Fin 8) (hs : s.val = t.val % 8) (q : Fin 2048) (k : Fin 640) :
    b1 m c t (ix3 0 q k) = W m c (ix3 s q k) := by blk_point [b1, iblk, idx t]

/-- What the blocks of one device add to the gradient. -/
def part (d : FVec Ideal S4096x5120 .bf16) (w : FVec Ideal S8x2048x640 .bf16) (s : Fin 8) (n : Fin 4096) (q : Fin 2048) : EReal :=
  ∑ k : Fin 640, d (ix2 n ⟨640 * s.val + k.val, by omega⟩) * w (ix3 s q k)
/-- The gradient. -/
def total (d : FVec Ideal S4096x5120 .bf16) (w : FVec Ideal S8x2048x640 .bf16) : FVec Ideal S4096x2048 .f32 := fun i => ∑ s : Fin 8, part d w s (i 0) (i 1)

/-- What one point adds. -/
def term (r : Fin 1024) (q : Fin 2048) (t : Fin cfg0.N) : EReal :=
  part (D m c) (W m c) ⟨t.val % 8, by omega⟩ ⟨1024 * (t.val / 8) + r.val, by have := t.isLt; have : cfg0.N = 32 := rfl; omega⟩ q

theorem term_eq (r : Fin 1024) (q : Fin 2048) (t : Fin cfg0.N) : ∑ k : Fin 640, b0 m c t (ix2 r k) * b1 m c t (ix3 0 q k) = term m c r q t := by
  unfold term part
  exact Finset.sum_congr rfl fun k _ => congrArg₂ (fun a b => a * b) (in0 m c t r k _ _ (by rfl) (by rfl)) (in1 m c t _ (by rfl) q k)

theorem acc_A (t : Fin cfg0.N) (h : t.val % 8 = 0) (r : Fin 1024) (q : Fin 2048) : outsAt0 m c t.val t.isLt (ix2 r q) = term m c r q t := by
  rw [outsAt0_A m c t h (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]
  exact term_eq m c r q t

theorem acc_B (t : Fin cfg0.N) (h : ¬ t.val % 8 = 0) (r : Fin 1024) (q : Fin 2048) :
    outsAt0 m c t.val t.isLt (ix2 r q) = outsAt0 m c (t.val - 1) (Nat.lt_of_le_of_lt (Nat.sub_le _ _) t.isLt) (ix2 r q) + term m c r q t := by
  rw [outsAt0_B m c t h (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  exact congrArg _ (term_eq m c r q t)

theorem final : (dats m 0 c).arrAt 2 (cfgs 0).N = total (D m c) (W m c) := by
  refine (dats m 0 c).arrAt_eq_of_covers 2 _ (by decide +kernel) fun t hf y => ?_
  have ht := (flush0_2 t).mp hf
  have hN : cfg0.N = 32 := rfl
  have := t.isLt
  blk_simp
  rw [after0_2]
  obtain ⟨r, q, rfl⟩ : ∃ (r : Fin 1024) (q : Fin 2048), y = ix2 r q := ⟨y 0, y 1, by idx_vars y⟩
  have e : (win0_2.blk t).view.emb (ix2 r q) = (ix2 ⟨1024 * (t.val / 8) + r.val, by omega⟩ q : S4096x2048.Idx) := by
    blk_ext [idx t]
  rw [e]
  refine (Pipeline.eq_sum_fin_of_reset_step_of_flush (M := EReal) (fun n h => outsAt0 m c n h (ix2 r q)) 8 0 (term m c r q)
    (fun t h => (acc_A m c t h r q).trans (zero_add _).symm) (fun t h => acc_B m c t h r q) t ht).trans ((zero_add _).trans (Finset.sum_congr rfl fun s _ => ?_))
  exact congrArg₂ (fun s n => part (D m c) (W m c) s n q) (Fin.ext (by show (8 * (t.val / 8) + s.val) % 8 = s.val; omega))
    (Fin.ext (by show 1024 * ((8 * (t.val / 8) + s.val) / 8) + r.val = 1024 * (t.val / 8) + r.val; omega))

/-- The derivative of the product in its left factor is the same sum. -/
theorem ref (d : FVec Ideal S4096x5120 .bf16) (w : FVec Ideal S8x2048x640 .bf16) :
    val_main_v6 (F := Ideal) d w = total d w := by
  funext i
  obtain ⟨n, q, rfl⟩ : ∃ (n : Fin 4096) (q : Fin 2048), i = ix2 n q := ⟨i 0, i 1, by idx_vars i⟩
  pointwise [val_main_v6, val_main_v3, val_main_v2, val_main_v1, val_main_v0]
  refine (Finset.sum_congr rfl fun x _ => congrArg₂ (fun a b => a * b) (congrArg (fun y => d (ix2 n y)) (Fin.ext (Nat.div_add_mod x.val 640).symm)) rfl).trans
    (Tiles.sum_blocks (by decide) rfl (fun s k => d (ix2 n ⟨640 * s.val + k.val, by omega⟩) * w (ix3 s q k)) _ _)

theorem frame_reference : Cert.quiescent_Reference9Ideal (hReference9Ideal := Cert.Reference9Ideal.Gen.facts) := fun m g _ =>
  (θ_run Cert.Reference9Ideal.defs _ _).mono (fun _ h => ⟨fun c => (h c).2, sem_eq_zero_of_no_sems (by decide) _⟩)
    (Cert.Reference9Ideal.Value.run (F := Ideal) m g)

set_option maxHeartbeats 2000000 in
/-- The call and the reference leave the same array. -/
theorem same : Cert.algebraic_Kernel9Ideal_Reference9Ideal (hKernel9Ideal := Cert.Kernel9Ideal.Gen.facts) (hReference9Ideal := Cert.Reference9Ideal.Gen.facts) := by
  intro m g m' g' hpre hagree
  refine ⟨fun c => total (D m c) (W m c),
    (θ_run Cert.Kernel9Ideal.defs _ _).mono (fun _ h c => ⟨(h c).1.trans (final m c), (h c).2⟩) (Cert.Kernel9Ideal.Value.run_blocks m g),
    (θ_run Cert.Reference9Ideal.defs _ _).mono (fun _ h c => ⟨(h c).1.trans ((val_main_v6_eq _ _).trans ((ref _ _).trans ?_)), (h c).2⟩)
      (Cert.Reference9Ideal.Value.run m' g')⟩
  exact congrArg₂ total (hagree c).1 (hagree c).2

end Cert.BMixO
end
-- ==== Proof.BMixE.lean ====
/- The gradient an even layer's mixer hands to its input: what the call that accumulates it over the blocks leaves. -/
module

public import proofs.«01_k».proof.Proof.Gen.Kernel8Ideal.Value
public import proofs.«01_k».proof.Proof.Gen.Reference8Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel8Ideal Cert.Kernel8Ideal.Gen
namespace Cert.BMixE
open Cert.Reference8Ideal.Read
variable (m : (ℓ : Loc nD τ sig) → Buf (Elt Ideal) ℓ) (c : Dev nD)

/-- The gradient of the projection. -/
abbrev D : FVec Ideal S4096x6144 .bf16 := m ((c : Thread nD τ).loc main_arg0)
/-- The weight, a block of columns for each device. -/
abbrev W : FVec Ideal S8x2048x768 .bf16 := m ((c : Thread nD τ).loc main_arg1)

theorem idx : ∀ t : Fin cfg0.N, win0_0.index t = ![t.val / 8, t.val % 8] ∧ win0_1.index t = ![t.val % 8, 0, 0] ∧ win0_2.index t = ![t.val / 8, 0] :=
  (by decide +kernel : ∀ t : Fin grid0.N, _)

/-- The blocks a point reads. -/
abbrev b0 (t : Fin cfg0.N) : FVec Ideal S1024x768 .bf16 := iblk m c 0 t
abbrev b1 (t : Fin cfg0.N) : FVec Ideal S1x2048x768 .bf16 := iblk m c 1 t

theorem in0 (t : Fin cfg0.N) (r : Fin 1024) (k : Fin 768) (n : Fin 4096) (x : Fin 6144) (h : n.val = 1024 * (t.val / 8) + r.val) (hx : x.val = 768 * (t.val % 8) + k.val) :
    b0 m c t (ix2 r k) = D m c (ix2 n x) := by blk_point [b0, iblk, idx t]
theorem in1 (t : Fin cfg0.N) (s : Fin 8) (hs : s.val = t.val % 8) (q : Fin 2048) (k : Fin 768) :
    b1 m c t (ix3 0 q k) = W m c (ix3 s q k) := by blk_point [b1, iblk, idx t]

/-- What the blocks of one device add to the gradient. -/
def part (d : FVec Ideal S4096x6144 .bf16) (w : FVec Ideal S8x2048x768 .bf16) (s : Fin 8) (n : Fin 4096) (q : Fin 2048) : EReal :=
  ∑ k : Fin 768, d (ix2 n ⟨768 * s.val + k.val, by omega⟩) * w (ix3 s q k)
/-- The gradient. -/
def total (d : FVec Ideal S4096x6144 .bf16) (w : FVec Ideal S8x2048x768 .bf16) : FVec Ideal S4096x2048 .f32 := fun i => ∑ s : Fin 8, part d w s (i 0) (i 1)

/-- What one point adds. -/
def term (r : Fin 1024) (q : Fin 2048) (t : Fin cfg0.N) : EReal :=
  part (D m c) (W m c) ⟨t.val % 8, by omega⟩ ⟨1024 * (t.val / 8) + r.val, by have := t.isLt; have : cfg0.N = 32 := rfl; omega⟩ q

theorem term_eq (r : Fin 1024) (q : Fin 2048) (t : Fin cfg0.N) : ∑ k : Fin 768, b0 m c t (ix2 r k) * b1 m c t (ix3 0 q k) = term m c r q t := by
  unfold term part
  exact Finset.sum_congr rfl fun k _ => congrArg₂ (fun a b => a * b) (in0 m c t r k _ _ (by rfl) (by rfl)) (in1 m c t _ (by rfl) q k)

theorem acc_A (t : Fin cfg0.N) (h : t.val % 8 = 0) (r : Fin 1024) (q : Fin 2048) : outsAt0 m c t.val t.isLt (ix2 r q) = term m c r q t := by
  rw [outsAt0_A m c t h (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]
  exact term_eq m c r q t

theorem acc_B (t : Fin cfg0.N) (h : ¬ t.val % 8 = 0) (r : Fin 1024) (q : Fin 2048) :
    outsAt0 m c t.val t.isLt (ix2 r q) = outsAt0 m c (t.val - 1) (Nat.lt_of_le_of_lt (Nat.sub_le _ _) t.isLt) (ix2 r q) + term m c r q t := by
  rw [outsAt0_B m c t h (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  exact congrArg _ (term_eq m c r q t)

theorem final : (dats m 0 c).arrAt 2 (cfgs 0).N = total (D m c) (W m c) := by
  refine (dats m 0 c).arrAt_eq_of_covers 2 _ (by decide +kernel) fun t hf y => ?_
  have ht := (flush0_2 t).mp hf
  have hN : cfg0.N = 32 := rfl
  have := t.isLt
  blk_simp
  rw [after0_2]
  obtain ⟨r, q, rfl⟩ : ∃ (r : Fin 1024) (q : Fin 2048), y = ix2 r q := ⟨y 0, y 1, by idx_vars y⟩
  have e : (win0_2.blk t).view.emb (ix2 r q) = (ix2 ⟨1024 * (t.val / 8) + r.val, by omega⟩ q : S4096x2048.Idx) := by
    blk_ext [idx t]
  rw [e]
  refine (Pipeline.eq_sum_fin_of_reset_step_of_flush (M := EReal) (fun n h => outsAt0 m c n h (ix2 r q)) 8 0 (term m c r q)
    (fun t h => (acc_A m c t h r q).trans (zero_add _).symm) (fun t h => acc_B m c t h r q) t ht).trans ((zero_add _).trans (Finset.sum_congr rfl fun s _ => ?_))
  exact congrArg₂ (fun s n => part (D m c) (W m c) s n q) (Fin.ext (by show (8 * (t.val / 8) + s.val) % 8 = s.val; omega))
    (Fin.ext (by show 1024 * ((8 * (t.val / 8) + s.val) / 8) + r.val = 1024 * (t.val / 8) + r.val; omega))

/-- The derivative of the product in its left factor is the same sum. -/
theorem ref (d : FVec Ideal S4096x6144 .bf16) (w : FVec Ideal S8x2048x768 .bf16) :
    val_main_v6 (F := Ideal) d w = total d w := by
  funext i
  obtain ⟨n, q, rfl⟩ : ∃ (n : Fin 4096) (q : Fin 2048), i = ix2 n q := ⟨i 0, i 1, by idx_vars i⟩
  pointwise [val_main_v6, val_main_v3, val_main_v2, val_main_v1, val_main_v0]
  refine (Finset.sum_congr rfl fun x _ => congrArg₂ (fun a b => a * b) (congrArg (fun y => d (ix2 n y)) (Fin.ext (Nat.div_add_mod x.val 768).symm)) rfl).trans
    (Tiles.sum_blocks (by decide) rfl (fun s k => d (ix2 n ⟨768 * s.val + k.val, by omega⟩) * w (ix3 s q k)) _ _)

theorem frame_reference : Cert.quiescent_Reference8Ideal (hReference8Ideal := Cert.Reference8Ideal.Gen.facts) := fun m g _ =>
  (θ_run Cert.Reference8Ideal.defs _ _).mono (fun _ h => ⟨fun c => (h c).2, sem_eq_zero_of_no_sems (by decide) _⟩)
    (Cert.Reference8Ideal.Value.run (F := Ideal) m g)

set_option maxHeartbeats 2000000 in
/-- The call and the reference leave the same array. -/
theorem same : Cert.algebraic_Kernel8Ideal_Reference8Ideal (hKernel8Ideal := Cert.Kernel8Ideal.Gen.facts) (hReference8Ideal := Cert.Reference8Ideal.Gen.facts) := by
  intro m g m' g' hpre hagree
  refine ⟨fun c => total (D m c) (W m c),
    (θ_run Cert.Kernel8Ideal.defs _ _).mono (fun _ h c => ⟨(h c).1.trans (final m c), (h c).2⟩) (Cert.Kernel8Ideal.Value.run_blocks m g),
    (θ_run Cert.Reference8Ideal.defs _ _).mono (fun _ h c => ⟨(h c).1.trans ((val_main_v6_eq _ _).trans ((ref _ _).trans ?_)), (h c).2⟩)
      (Cert.Reference8Ideal.Value.run m' g')⟩
  exact congrArg₂ total (hagree c).1 (hagree c).2

end Cert.BMixE
end
-- ==== Proof.WOut.lean ====
/- The gradient of a mixer's output weight: what the blocked product holds. -/
module

public import proofs.«01_k».proof.Proof.Gen.Kernel7Ideal.Value
public import proofs.«01_k».proof.Proof.Gen.Reference7Ideal.Read
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel7Ideal Cert.Kernel7Ideal.Gen
namespace Cert.WOut
open Cert.Reference7Ideal.Read
variable (m : (ℓ : Loc nD τ sig) → Buf (Elt Ideal) ℓ) (c : Dev nD)

/-- The left factor. -/
abbrev A : FVec Ideal S4096x2048 .bf16 := m ((c : Thread nD τ).loc main_arg0)
/-- The right factor. -/
abbrev C : FVec Ideal S4096x2048 .bf16 := m ((c : Thread nD τ).loc main_arg1)

theorem idx : ∀ t : Fin cfg0.N, win0_0.index t = ![t.val % 2, t.val / 2] ∧ win0_1.index t = ![t.val % 2, 0] ∧ win0_2.index t = ![t.val / 2, 0, 0] :=
  (by decide +kernel : ∀ t : Fin grid0.N, _)

theorem in0 (t : Fin cfg0.N) (s : Fin 8) (k : Fin 2048) (n : Fin 4096) (r : Fin 256) (x : Fin 2048) (hs : s.val = t.val / 2) (h : n.val = 2048 * (t.val % 2) + k.val)
    (hx : x.val = 256 * s.val + r.val) : (iblk m c 0 t : FVec Ideal S2048x256 .bf16) (ix2 k r) = A m c (ix2 n x) := by
  blk_point [iblk, idx t]
theorem in1 (t : Fin cfg0.N) (k : Fin 2048) (n : Fin 4096) (q : Fin 2048) (h : n.val = 2048 * (t.val % 2) + k.val) :
    (iblk m c 1 t : FVec Ideal S2048x2048 .bf16) (ix2 k q) = C m c (ix2 n q) := by
  blk_point [iblk, idx t]

/-- One tile's part of the product. -/
def part (s : Fin 8) (b : Fin 2) (r : Fin 256) (q : Fin 2048) : EReal :=
  ∑ k : Fin 2048, A m c (ix2 ⟨b.val * 2048 + k.val, by omega⟩ ⟨256 * s.val + r.val, by omega⟩) * C m c (ix2 ⟨b.val * 2048 + k.val, by omega⟩ q)

theorem acc_A (t : Fin cfg0.N) (h : t.val % 2 = 0) (s : Fin 8) (hs : s.val = t.val / 2) (b : Fin 2) (hb : b.val = t.val % 2) (r : Fin 256) (q : Fin 2048) :
    (outsAt0 m c t.val t.isLt).2 (ix2 r q) = part m c s b r q := by
  rw [outsAt0_A m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  exact Finset.sum_congr rfl fun k _ => congrArg₂ (· * ·) (in0 m c t s k _ r _ hs (by simp only [hb]; omega) rfl) (in1 m c t k _ q (by simp only [hb]; omega))

theorem acc_B (t : Fin cfg0.N) (h : ¬ t.val % 2 = 0) (s : Fin 8) (hs : s.val = t.val / 2) (b : Fin 2) (hb : b.val = t.val % 2) (r : Fin 256) (q : Fin 2048) :
    (outsAt0 m c t.val t.isLt).2 (ix2 r q) = (outsAt0 m c (t.val - 1) (by omega)).2 (ix2 r q) + part m c s b r q := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3]
  exact congrArg₂ (· + ·) (congrFun (Memref.IsWhole.read_unread (Memref.isWhole_whole cc0_scratch0) _) _)
    (Finset.sum_congr rfl fun k _ => congrArg₂ (· * ·) (in0 m c t s k _ r _ hs (by simp only [hb]; omega) rfl) (in1 m c t k _ q (by simp only [hb]; omega)))

theorem out_B (t : Fin cfg0.N) (h : ¬ t.val % 2 = 0) (r : Fin 256) (q : Fin 2048) :
    (outsAt0 m c t.val t.isLt).1 (ix3 0 r q) = (outsAt0 m c t.val t.isLt).2 (ix2 r q) := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3, k0_pay4]

/-- The product of the left factor, transposed, with the right one. -/
def prod (a : FVec Ideal S4096x2048 .bf16) (b : FVec Ideal S4096x2048 .bf16) : FVec Ideal S8x256x2048 .bf16 :=
  fun i => ∑ n : Fin 4096, a (ix2 n ⟨256 * (i 0).val + (i 1).val, by have h0 : (i 0).val < 8 := (i 0).isLt; have h1 : (i 1).val < 256 := (i 1).isLt; omega⟩) * b (ix2 n (i 2))

theorem final : (dats m 0 c).arrAt 2 (cfgs 0).N = prod (A m c) (C m c) := by
  refine (dats m 0 c).arrAt_eq_of_covers 2 _ (by decide +kernel) fun t hf y => ?_
  have ht := (flush0_2 t).mp hf
  blk_simp
  rw [after0_2]
  obtain ⟨z, r, q, rfl⟩ : ∃ (z : Fin 1) (r : Fin 256) (q : Fin 2048), y = ix3 z r q := ⟨y 0, y 1, y 2, by idx_vars y⟩
  obtain rfl : z = 0 := Subsingleton.elim _ _
  have e : (win0_2.blk t).view.emb (ix3 0 r q) = (ix3 ⟨t.val / 2, by have := t.isLt; have : cfg0.N = 16 := rfl; omega⟩ r q : S8x256x2048.Idx) := by
    blk_ext [idx t]
  rw [e, out_B m c t (by omega), acc_B m c t (by omega) ⟨t.val / 2, by have := t.isLt; have : cfg0.N = 16 := rfl; omega⟩ rfl 1 ht.symm,
    acc_A m c ⟨t.val - 1, by omega⟩ (show (t.val - 1) % 2 = 0 by omega) ⟨t.val / 2, by have := t.isLt; have : cfg0.N = 16 := rfl; omega⟩
      (show t.val / 2 = (t.val - 1) / 2 by omega) 0 (show 0 = (t.val - 1) % 2 by omega)]
  show part m c _ 0 r q + part m c _ 1 r q = ∑ n : Fin 4096, _
  rw [Fin.sum_univ_tiles 2 2048 rfl, Fin.sum_univ_two]
  rfl

/-- The derivative of a product in its right factor is the same sum. -/
theorem ref (a : FVec Ideal S4096x2048 .bf16) (b : FVec Ideal S4096x2048 .bf16) :
    val_main_v7 (F := Ideal) a b = prod a b := by
  funext i
  obtain ⟨s, r, q, rfl⟩ : ∃ (s : Fin 8) (r : Fin 256) (q : Fin 2048), i = ix3 s r q := ⟨i 0, i 1, i 2, by idx_vars i⟩
  pointwise [val_main_v7, val_main_v6, val_main_v5, val_main_v4, val_main_v1, val_main_v0]
  exact Finset.sum_congr rfl fun k _ => (mul_comm _ _).trans (congrArg (fun x => a (ix2 k x) * b (ix2 k q)) (Fin.ext (by show s.val * 256 + r.val = 256 * s.val + r.val; omega)))

theorem frame_reference : Cert.quiescent_Reference7Ideal (hReference7Ideal := Cert.Reference7Ideal.Gen.facts) := fun m g _ =>
  (θ_run Cert.Reference7Ideal.defs _ _).mono (fun _ h => ⟨fun c => (h c).2, sem_eq_zero_of_no_sems (by decide) _⟩)
    (Cert.Reference7Ideal.Value.run (F := Ideal) m g)

set_option maxHeartbeats 2000000 in
/-- The call and the reference leave the same array. -/
theorem same : Cert.algebraic_Kernel7Ideal_Reference7Ideal (hKernel7Ideal := Cert.Kernel7Ideal.Gen.facts) (hReference7Ideal := Cert.Reference7Ideal.Gen.facts) := by
  intro m g m' g' hpre hagree
  refine ⟨fun c => prod (A m c) (C m c), (θ_run Cert.Kernel7Ideal.defs _ _).mono (fun _ h c => ⟨(h c).1.trans (final m c), (h c).2⟩) (Cert.Kernel7Ideal.Value.run_blocks m g),
    (θ_run Cert.Reference7Ideal.defs _ _).mono (fun _ h c => ⟨(h c).1.trans ((val_main_v7_eq _ _).trans ((ref _ _).trans ?_)), (h c).2⟩)
      (Cert.Reference7Ideal.Value.run m' g')⟩
  exact congrArg₂ prod (hagree c).1 (hagree c).2

end Cert.WOut
end
-- ==== Proof.WInO.lean ====
/- The gradient of an odd layer's mixer input weight: what the blocked product holds. -/
module

public import proofs.«01_k».proof.Proof.Gen.Kernel6Ideal.Value
public import proofs.«01_k».proof.Proof.Gen.Reference6Ideal.Read
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel6Ideal Cert.Kernel6Ideal.Gen
namespace Cert.WInO
open Cert.Reference6Ideal.Read
variable (m : (ℓ : Loc nD τ sig) → Buf (Elt Ideal) ℓ) (c : Dev nD)

/-- The left factor. -/
abbrev A : FVec Ideal S4096x2048 .bf16 := m ((c : Thread nD τ).loc main_arg0)
/-- The right factor. -/
abbrev C : FVec Ideal S4096x5120 .bf16 := m ((c : Thread nD τ).loc main_arg1)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

theorem in0 (t : Fin cfg0.N) (k : Fin 2048) (n : Fin 4096) (r : Fin 2048) (h : n.val = 2048 * (t.val % 2) + k.val) :
    (iblk m c 0 t : FVec Ideal S2048x2048 .bf16) (ix2 k r) = A m c (ix2 n r) := by
  blk_point [iblk, idx t]
theorem in1 (t : Fin cfg0.N) (s : Fin 8) (k : Fin 2048) (n : Fin 4096) (q : Fin 640) (x : Fin 5120) (hs : s.val = t.val / 2) (h : n.val = 2048 * (t.val % 2) + k.val)
    (hx : x.val = 640 * s.val + q.val) : (iblk m c 1 t : FVec Ideal S2048x640 .bf16) (ix2 k q) = C m c (ix2 n x) := by
  blk_point [iblk, idx t]

/-- One tile's part of the product. -/
def part (s : Fin 8) (b : Fin 2) (r : Fin 2048) (q : Fin 640) : EReal :=
  ∑ k : Fin 2048, A m c (ix2 ⟨b.val * 2048 + k.val, by omega⟩ r) * C m c (ix2 ⟨b.val * 2048 + k.val, by omega⟩ ⟨640 * s.val + q.val, by omega⟩)

theorem acc_A (t : Fin cfg0.N) (h : t.val % 2 = 0) (s : Fin 8) (hs : s.val = t.val / 2) (b : Fin 2) (hb : b.val = t.val % 2) (r : Fin 2048) (q : Fin 640) :
    (outsAt0 m c t.val t.isLt).2 (ix2 r q) = part m c s b r q := by
  rw [outsAt0_A m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  exact Finset.sum_congr rfl fun k _ => congrArg₂ (· * ·) (in0 m c t k _ r (by simp only [hb]; omega)) (in1 m c t s k _ q _ hs (by simp only [hb]; omega) rfl)

theorem acc_B (t : Fin cfg0.N) (h : ¬ t.val % 2 = 0) (s : Fin 8) (hs : s.val = t.val / 2) (b : Fin 2) (hb : b.val = t.val % 2) (r : Fin 2048) (q : Fin 640) :
    (outsAt0 m c t.val t.isLt).2 (ix2 r q) = (outsAt0 m c (t.val - 1) (by omega)).2 (ix2 r q) + part m c s b r q := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3]
  exact congrArg₂ (· + ·) (congrFun (Memref.IsWhole.read_unread (Memref.isWhole_whole cc0_scratch0) _) _)
    (Finset.sum_congr rfl fun k _ => congrArg₂ (· * ·) (in0 m c t k _ r (by simp only [hb]; omega)) (in1 m c t s k _ q _ hs (by simp only [hb]; omega) rfl))

theorem out_B (t : Fin cfg0.N) (h : ¬ t.val % 2 = 0) (r : Fin 2048) (q : Fin 640) :
    (outsAt0 m c t.val t.isLt).1 (ix3 0 r q) = (outsAt0 m c t.val t.isLt).2 (ix2 r q) := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3, k0_pay4]

/-- The product of the left factor, transposed, with the right one. -/
def prod (a : FVec Ideal S4096x2048 .bf16) (b : FVec Ideal S4096x5120 .bf16) : FVec Ideal S8x2048x640 .bf16 :=
  fun i => ∑ n : Fin 4096, a (ix2 n (i 1)) * b (ix2 n ⟨640 * (i 0).val + (i 2).val, by have h0 : (i 0).val < 8 := (i 0).isLt; have h2 : (i 2).val < 640 := (i 2).isLt; omega⟩)

theorem final : (dats m 0 c).arrAt 2 (cfgs 0).N = prod (A m c) (C m c) := by
  refine (dats m 0 c).arrAt_eq_of_covers 2 _ (by decide +kernel) fun t hf y => ?_
  have ht := (flush0_2 t).mp hf
  blk_simp
  rw [after0_2]
  obtain ⟨z, r, q, rfl⟩ : ∃ (z : Fin 1) (r : Fin 2048) (q : Fin 640), y = ix3 z r q := ⟨y 0, y 1, y 2, by idx_vars y⟩
  obtain rfl : z = 0 := Subsingleton.elim _ _
  have e : (win0_2.blk t).view.emb (ix3 0 r q) = (ix3 ⟨t.val / 2, by have := t.isLt; have : cfg0.N = 16 := rfl; omega⟩ r q : S8x2048x640.Idx) := by
    blk_ext [idx t]
  rw [e, out_B m c t (by omega), acc_B m c t (by omega) ⟨t.val / 2, by have := t.isLt; have : cfg0.N = 16 := rfl; omega⟩ rfl 1 ht.symm,
    acc_A m c ⟨t.val - 1, by omega⟩ (show (t.val - 1) % 2 = 0 by omega) ⟨t.val / 2, by have := t.isLt; have : cfg0.N = 16 := rfl; omega⟩
      (show t.val / 2 = (t.val - 1) / 2 by omega) 0 (show 0 = (t.val - 1) % 2 by omega)]
  show part m c _ 0 r q + part m c _ 1 r q = ∑ n : Fin 4096, _
  rw [Fin.sum_univ_tiles 2 2048 rfl, Fin.sum_univ_two]
  rfl

/-- The derivative of a product in its right factor is the same sum. -/
theorem ref (a : FVec Ideal S4096x2048 .bf16) (b : FVec Ideal S4096x5120 .bf16) :
    val_main_v8 (F := Ideal) a b = prod a b := by
  funext i
  obtain ⟨s, r, q, rfl⟩ : ∃ (s : Fin 8) (r : Fin 2048) (q : Fin 640), i = ix3 s r q := ⟨i 0, i 1, i 2, by idx_vars i⟩
  pointwise [val_main_v8, val_main_v7, val_main_v6, val_main_v5, val_main_v4, val_main_v1, val_main_v0]
  exact Finset.sum_congr rfl fun k _ => (mul_comm _ _).trans (congrArg (fun x => a (ix2 k r) * b (ix2 k x)) (Fin.ext (by show s.val * 640 + q.val = 640 * s.val + q.val; omega)))

theorem frame_reference : Cert.quiescent_Reference6Ideal (hReference6Ideal := Cert.Reference6Ideal.Gen.facts) := fun m g _ =>
  (θ_run Cert.Reference6Ideal.defs _ _).mono (fun _ h => ⟨fun c => (h c).2, sem_eq_zero_of_no_sems (by decide) _⟩)
    (Cert.Reference6Ideal.Value.run (F := Ideal) m g)

set_option maxHeartbeats 2000000 in
/-- The call and the reference leave the same array. -/
theorem same : Cert.algebraic_Kernel6Ideal_Reference6Ideal (hKernel6Ideal := Cert.Kernel6Ideal.Gen.facts) (hReference6Ideal := Cert.Reference6Ideal.Gen.facts) := by
  intro m g m' g' hpre hagree
  refine ⟨fun c => prod (A m c) (C m c), (θ_run Cert.Kernel6Ideal.defs _ _).mono (fun _ h c => ⟨(h c).1.trans (final m c), (h c).2⟩) (Cert.Kernel6Ideal.Value.run_blocks m g),
    (θ_run Cert.Reference6Ideal.defs _ _).mono (fun _ h c => ⟨(h c).1.trans ((val_main_v8_eq _ _).trans ((ref _ _).trans ?_)), (h c).2⟩)
      (Cert.Reference6Ideal.Value.run m' g')⟩
  exact congrArg₂ prod (hagree c).1 (hagree c).2

end Cert.WInO
end
-- ==== Proof.WInE.lean ====
/- The gradient of an even layer's mixer input weight: what the blocked product holds. -/
module

public import proofs.«01_k».proof.Proof.Gen.Kernel5Ideal.Value
public import proofs.«01_k».proof.Proof.Gen.Reference5Ideal.Read
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel5Ideal Cert.Kernel5Ideal.Gen
namespace Cert.WInE
open Cert.Reference5Ideal.Read
variable (m : (ℓ : Loc nD τ sig) → Buf (Elt Ideal) ℓ) (c : Dev nD)

/-- The left factor. -/
abbrev A : FVec Ideal S4096x2048 .bf16 := m ((c : Thread nD τ).loc main_arg0)
/-- The right factor. -/
abbrev C : FVec Ideal S4096x6144 .bf16 := m ((c : Thread nD τ).loc main_arg1)

theorem idx : ∀ t : Fin cfg0.N, win0_0.index t = ![t.val % 2, 0] ∧ win0_1.index t = ![t.val % 2, t.val / 2] ∧ win0_2.index t = ![t.val / 2, 0, 0] :=
  (by decide +kernel : ∀ t : Fin grid0.N, _)

theorem in0 (t : Fin cfg0.N) (k : Fin 2048) (n : Fin 4096) (r : Fin 2048) (h : n.val = 2048 * (t.val % 2) + k.val) :
    (iblk m c 0 t : FVec Ideal S2048x2048 .bf16) (ix2 k r) = A m c (ix2 n r) := by
  blk_point [iblk, idx t]
theorem in1 (t : Fin cfg0.N) (s : Fin 8) (k : Fin 2048) (n : Fin 4096) (q : Fin 768) (x : Fin 6144) (hs : s.val = t.val / 2) (h : n.val = 2048 * (t.val % 2) + k.val)
    (hx : x.val = 768 * s.val + q.val) : (iblk m c 1 t : FVec Ideal S2048x768 .bf16) (ix2 k q) = C m c (ix2 n x) := by
  blk_point [iblk, idx t]

/-- One tile's part of the product. -/
def part (s : Fin 8) (b : Fin 2) (r : Fin 2048) (q : Fin 768) : EReal :=
  ∑ k : Fin 2048, A m c (ix2 ⟨b.val * 2048 + k.val, by omega⟩ r) * C m c (ix2 ⟨b.val * 2048 + k.val, by omega⟩ ⟨768 * s.val + q.val, by omega⟩)

theorem acc_A (t : Fin cfg0.N) (h : t.val % 2 = 0) (s : Fin 8) (hs : s.val = t.val / 2) (b : Fin 2) (hb : b.val = t.val % 2) (r : Fin 2048) (q : Fin 768) :
    (outsAt0 m c t.val t.isLt).2 (ix2 r q) = part m c s b r q := by
  rw [outsAt0_A m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  exact Finset.sum_congr rfl fun k _ => congrArg₂ (· * ·) (in0 m c t k _ r (by simp only [hb]; omega)) (in1 m c t s k _ q _ hs (by simp only [hb]; omega) rfl)

theorem acc_B (t : Fin cfg0.N) (h : ¬ t.val % 2 = 0) (s : Fin 8) (hs : s.val = t.val / 2) (b : Fin 2) (hb : b.val = t.val % 2) (r : Fin 2048) (q : Fin 768) :
    (outsAt0 m c t.val t.isLt).2 (ix2 r q) = (outsAt0 m c (t.val - 1) (by omega)).2 (ix2 r q) + part m c s b r q := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3]
  exact congrArg₂ (· + ·) (congrFun (Memref.IsWhole.read_unread (Memref.isWhole_whole cc0_scratch0) _) _)
    (Finset.sum_congr rfl fun k _ => congrArg₂ (· * ·) (in0 m c t k _ r (by simp only [hb]; omega)) (in1 m c t s k _ q _ hs (by simp only [hb]; omega) rfl))

theorem out_B (t : Fin cfg0.N) (h : ¬ t.val % 2 = 0) (r : Fin 2048) (q : Fin 768) :
    (outsAt0 m c t.val t.isLt).1 (ix3 0 r q) = (outsAt0 m c t.val t.isLt).2 (ix2 r q) := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3, k0_pay4]

/-- The product of the left factor, transposed, with the right one. -/
def prod (a : FVec Ideal S4096x2048 .bf16) (b : FVec Ideal S4096x6144 .bf16) : FVec Ideal S8x2048x768 .bf16 :=
  fun i => ∑ n : Fin 4096, a (ix2 n (i 1)) * b (ix2 n ⟨768 * (i 0).val + (i 2).val, by have h0 : (i 0).val < 8 := (i 0).isLt; have h2 : (i 2).val < 768 := (i 2).isLt; omega⟩)

theorem final : (dats m 0 c).arrAt 2 (cfgs 0).N = prod (A m c) (C m c) := by
  refine (dats m 0 c).arrAt_eq_of_covers 2 _ (by decide +kernel) fun t hf y => ?_
  have ht := (flush0_2 t).mp hf
  blk_simp
  rw [after0_2]
  obtain ⟨z, r, q, rfl⟩ : ∃ (z : Fin 1) (r : Fin 2048) (q : Fin 768), y = ix3 z r q := ⟨y 0, y 1, y 2, by idx_vars y⟩
  obtain rfl : z = 0 := Subsingleton.elim _ _
  have e : (win0_2.blk t).view.emb (ix3 0 r q) = (ix3 ⟨t.val / 2, by have := t.isLt; have : cfg0.N = 16 := rfl; omega⟩ r q : S8x2048x768.Idx) := by
    blk_ext [idx t]
  rw [e, out_B m c t (by omega), acc_B m c t (by omega) ⟨t.val / 2, by have := t.isLt; have : cfg0.N = 16 := rfl; omega⟩ rfl 1 ht.symm,
    acc_A m c ⟨t.val - 1, by omega⟩ (show (t.val - 1) % 2 = 0 by omega) ⟨t.val / 2, by have := t.isLt; have : cfg0.N = 16 := rfl; omega⟩
      (show t.val / 2 = (t.val - 1) / 2 by omega) 0 (show 0 = (t.val - 1) % 2 by omega)]
  show part m c _ 0 r q + part m c _ 1 r q = ∑ n : Fin 4096, _
  rw [Fin.sum_univ_tiles 2 2048 rfl, Fin.sum_univ_two]
  rfl

/-- The derivative of a product in its right factor is the same sum. -/
theorem ref (a : FVec Ideal S4096x2048 .bf16) (b : FVec Ideal S4096x6144 .bf16) :
    val_main_v8 (F := Ideal) a b = prod a b := by
  funext i
  obtain ⟨s, r, q, rfl⟩ : ∃ (s : Fin 8) (r : Fin 2048) (q : Fin 768), i = ix3 s r q := ⟨i 0, i 1, i 2, by idx_vars i⟩
  pointwise [val_main_v8, val_main_v7, val_main_v6, val_main_v5, val_main_v4, val_main_v1, val_main_v0]
  exact Finset.sum_congr rfl fun k _ => (mul_comm _ _).trans (congrArg (fun x => a (ix2 k r) * b (ix2 k x)) (Fin.ext (by show s.val * 768 + q.val = 768 * s.val + q.val; omega)))

theorem frame_reference : Cert.quiescent_Reference5Ideal (hReference5Ideal := Cert.Reference5Ideal.Gen.facts) := fun m g _ =>
  (θ_run Cert.Reference5Ideal.defs _ _).mono (fun _ h => ⟨fun c => (h c).2, sem_eq_zero_of_no_sems (by decide) _⟩)
    (Cert.Reference5Ideal.Value.run (F := Ideal) m g)

set_option maxHeartbeats 2000000 in
/-- The call and the reference leave the same array. -/
theorem same : Cert.algebraic_Kernel5Ideal_Reference5Ideal (hKernel5Ideal := Cert.Kernel5Ideal.Gen.facts) (hReference5Ideal := Cert.Reference5Ideal.Gen.facts) := by
  intro m g m' g' hpre hagree
  refine ⟨fun c => prod (A m c) (C m c), (θ_run Cert.Kernel5Ideal.defs _ _).mono (fun _ h c => ⟨(h c).1.trans (final m c), (h c).2⟩) (Cert.Kernel5Ideal.Value.run_blocks m g),
    (θ_run Cert.Reference5Ideal.defs _ _).mono (fun _ h c => ⟨(h c).1.trans ((val_main_v8_eq _ _).trans ((ref _ _).trans ?_)), (h c).2⟩)
      (Cert.Reference5Ideal.Value.run m' g')⟩
  exact congrArg₂ prod (hagree c).1 (hagree c).2

end Cert.WInE
end
-- ==== Proof.BHid.lean ====
/- The gradients of the gate and of the up projection: what the call that does one block at a time leaves. -/
module

public import proofs.«01_k».proof.Proof.Gen.Kernel4Ideal.Value
public import proofs.«01_k».proof.Proof.Gen.Reference4Ideal.Read
public import proofs.«01_k».proof.Proof.Reals
public import proofs.«01_k».proof.Defs
public import proofs.«01_k».proof.Pre_finite4
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel4Ideal Cert.Kernel4Ideal.Gen
namespace Cert.BHid
open Cert.Reference4Ideal.Read
open Cert.Odd (Re sigm)
variable (m : (ℓ : Loc nD τ sig) → Buf (Elt Ideal) ℓ) (c : Dev nD)

/-- The gradient of the layer's output. -/
abbrev D : FVec Ideal S4096x2048 .bf16 := m ((c : Thread nD τ).loc main_arg0)
/-- The down projection's weight, a block of rows for each device. -/
abbrev W : FVec Ideal S8x704x2048 .bf16 := m ((c : Thread nD τ).loc main_arg1)
/-- The gate and the up projection of the forward pass. -/
abbrev G : FVec Ideal S8x4096x704 .f32 := m ((c : Thread nD τ).loc main_arg2)
abbrev U : FVec Ideal S8x4096x704 .f32 := m ((c : Thread nD τ).loc main_arg3)

theorem idx : ∀ t : Fin cfg0.N, win0_0.index t = ![t.val % 4, 0] ∧ win0_1.index t = ![t.val / 4, 0, 0] ∧ win0_2.index t = ![t.val / 4, t.val % 4, 0]
    ∧ win0_3.index t = ![t.val / 4, t.val % 4, 0] ∧ win0_4.index t = ![t.val / 4, t.val % 4, 0] ∧ win0_5.index t = ![t.val / 4, t.val % 4, 0] :=
  (by decide +kernel : ∀ t : Fin grid0.N, _)

/-- The blocks a point reads. -/
abbrev b0 (t : Fin cfg0.N) : FVec Ideal S1024x2048 .bf16 := iblk m c 0 t
abbrev b1 (t : Fin cfg0.N) : FVec Ideal S1x704x2048 .bf16 := iblk m c 1 t
abbrev b2 (t : Fin cfg0.N) : FVec Ideal S1x1024x704 .f32 := iblk m c 2 t
abbrev b3 (t : Fin cfg0.N) : FVec Ideal S1x1024x704 .f32 := iblk m c 3 t

section blocks
variable (t : Fin cfg0.N) (r : Fin 1024) (q : Fin 704) (s : Fin 8) (hs : s.val = t.val / 4) (n : Fin 4096) (h : n.val = 1024 * (t.val % 4) + r.val)
include h in
theorem in0 (k : Fin 2048) : b0 m c t (ix2 r k) = D m c (ix2 n k) := by blk_point [b0, iblk, idx t]
include hs
theorem in1 (k : Fin 2048) : b1 m c t (ix3 0 q k) = W m c (ix3 s q k) := by blk_point [b1, iblk, idx t]
include h
theorem in2 : b2 m c t (ix3 0 r q) = G m c (ix3 s n q) := by blk_point [b2, iblk, idx t]
theorem in3 : b3 m c t (ix3 0 r q) = U m c (ix3 s n q) := by blk_point [b3, iblk, idx t]
end blocks

/-- The gradient of the gated product. -/
def back (d : FVec Ideal S4096x2048 .bf16) (w : FVec Ideal S8x704x2048 .bf16) (s : Fin 8) (n : Fin 4096) (q : Fin 704) : EReal :=
  ∑ k : Fin 2048, d (ix2 n k) * w (ix3 s q k)
/-- The derivative in the gate, in the factored form. -/
def dgate (t g : EReal) : EReal := t * (sigm g * (1 + g * (1 - sigm g)))
/-- The gate's gradient. -/
def outG (d : FVec Ideal S4096x2048 .bf16) (w : FVec Ideal S8x704x2048 .bf16) (g u : FVec Ideal S8x4096x704 .f32) : FVec Ideal S8x4096x704 .bf16 :=
  fun i => dgate (back d w (i 0) (i 1) (i 2) * u i) (g i)
/-- The up projection's gradient. -/
def outU (d : FVec Ideal S4096x2048 .bf16) (w : FVec Ideal S8x704x2048 .bf16) (g : FVec Ideal S8x4096x704 .f32) : FVec Ideal S8x4096x704 .bf16 :=
  fun i => back d w (i 0) (i 1) (i 2) * (g i * sigm (g i))

/-- The sum of the two parts of the derivative is the factored form. -/
theorem dgate_eq (t g : EReal) (ht : Re t) : t * sigm g + g * t * (sigm g * (1 - sigm g)) = dgate t g := by
  obtain ⟨t, rfl⟩ := ht
  unfold dgate
  induction g with
  | bot =>
    have e : sigm ⊥ = 0 := by
      unfold sigm
      rw [EReal.neg_bot, show Ideal.exp ⊤ = ⊤ from rfl, show (1 : EReal) + ⊤ = ⊤ from rfl]
      simp [Ideal.div]
    rw [e]; simp
  | coe g =>
    rw [Cert.Odd.sigm_coe]
    simp only [← EReal.coe_one, ← EReal.coe_add, ← EReal.coe_mul, ← EReal.coe_sub]
    congr 1; ring
  | top =>
    have e : sigm ⊤ = 1 := by
      unfold sigm
      rw [EReal.neg_top, show Ideal.exp ⊥ = 0 from rfl, add_zero]
      simp [Ideal.div]
    rw [e]
    have z : (1 : EReal) - 1 = 0 := by rw [← EReal.coe_one, ← EReal.coe_sub, sub_self]; rfl
    rw [z]; simp

theorem back_eq (t : Fin cfg0.N) (r : Fin 1024) (q : Fin 704) (s : Fin 8) (hs : s.val = t.val / 4) (n : Fin 4096) (h : n.val = 1024 * (t.val % 4) + r.val) :
    ∑ k : Fin 2048, b0 m c t (ix2 r k) * b1 m c t (ix3 0 q k) = back (D m c) (W m c) s n q :=
  Finset.sum_congr rfl fun k _ => congrArg₂ (fun a b => a * b) (in0 m c t r n h k) (in1 m c t q s hs k)

theorem out4 (t : Fin cfg0.N) (r : Fin 1024) (q : Fin 704) (s : Fin 8) (hs : s.val = t.val / 4) (n : Fin 4096) (h : n.val = 1024 * (t.val % 4) + r.val) :
    (dats m 0 c).after 4 t (ix3 0 r q) = dgate (back (D m c) (W m c) s n q * U m c (ix3 s n q)) (G m c (ix3 s n q)) := by
  rw [after0_4, ← back_eq m c t r q s hs n h, ← in2 m c t r q s hs n h, ← in3 m c t r q s hs n h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay4, k0_pay3, k0_pay2]
  rw [zero_sub]
  rfl
theorem out5 (t : Fin cfg0.N) (r : Fin 1024) (q : Fin 704) (s : Fin 8) (hs : s.val = t.val / 4) (n : Fin 4096) (h : n.val = 1024 * (t.val % 4) + r.val) :
    (dats m 0 c).after 5 t (ix3 0 r q) = back (D m c) (W m c) s n q * (G m c (ix3 s n q) * sigm (G m c (ix3 s n q))) := by
  rw [after0_5, ← back_eq m c t r q s hs n h, ← in2 m c t r q s hs n h]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay5, k0_pay3, k0_pay2]
  rw [zero_sub]
  rfl

theorem emb (t : Fin cfg0.N) (r : Fin 1024) (q : Fin 704) (hs : t.val / 4 < 8) (hn : 1024 * (t.val % 4) + r.val < 4096) :
    (win0_4.blk t).view.emb (ix3 0 r q) = (ix3 ⟨t.val / 4, hs⟩ ⟨1024 * (t.val % 4) + r.val, hn⟩ q : S8x4096x704.Idx)
    ∧ (win0_5.blk t).view.emb (ix3 0 r q) = (ix3 ⟨t.val / 4, hs⟩ ⟨1024 * (t.val % 4) + r.val, hn⟩ q : S8x4096x704.Idx) :=
  ⟨by blk_ext [idx t], by blk_ext [idx t]⟩

theorem bounds (t : Fin cfg0.N) (r : Fin 1024) : t.val / 4 < 8 ∧ 1024 * (t.val % 4) + r.val < 4096 := by
  have hN : cfg0.N = 32 := rfl
  have := t.isLt
  omega
theorem vars (y : S1x1024x704.Idx) : ∃ (r : Fin 1024) (q : Fin 704), y = ix3 0 r q := by
  obtain ⟨z, r, q, rfl⟩ : ∃ (z : Fin 1) (r : Fin 1024) (q : Fin 704), y = ix3 z r q := ⟨y 0, y 1, y 2, by idx_vars y⟩
  exact ⟨r, q, by rw [Subsingleton.elim z 0]⟩

theorem final4 : (dats m 0 c).arrAt 4 (cfgs 0).N = outG (D m c) (W m c) (G m c) (U m c) := by
  refine (dats m 0 c).arrAt_eq_of_covers 4 _ (by decide +kernel) fun t hf y => ?_
  blk_simp
  obtain ⟨r, q, rfl⟩ := vars y
  rw [(emb t r q (bounds t r).1 (bounds t r).2).1]
  exact out4 m c t r q _ rfl _ rfl
theorem final5 : (dats m 0 c).arrAt 5 (cfgs 0).N = outU (D m c) (W m c) (G m c) := by
  refine (dats m 0 c).arrAt_eq_of_covers 5 _ (by decide +kernel) fun t hf y => ?_
  blk_simp
  obtain ⟨r, q, rfl⟩ := vars y
  rw [(emb t r q (bounds t r).1 (bounds t r).2).2]
  exact out5 m c t r q _ rfl _ rfl

theorem ref16 (d : FVec Ideal S4096x2048 .bf16) (w : FVec Ideal S8x704x2048 .bf16) (g u : FVec Ideal S8x4096x704 .f32)
    (hd : ∀ i, Re (d i)) (hw : ∀ i, Re (w i)) (hu : ∀ i, Re (u i)) : val_main_v16 (F := Ideal) d w g u = outG d w g u := by
  funext i
  obtain ⟨s, n, q, rfl⟩ : ∃ (s : Fin 8) (n : Fin 4096) (q : Fin 704), i = ix3 s n q := ⟨i 0, i 1, i 2, by idx_vars i⟩
  refine Eq.trans ?_ (dgate_eq _ _ (Re.mul (Re.sum fun k => Re.mul (hd _) (hw _)) (hu _)))
  pointwise [val_main_v13, val_main_call1_v2, val_main_call1_v1, val_main_call1_v0,
    val_main_call0_v0, val_main_call0_v1, val_main_call0_cst, val_main_call0_v2, val_main_call0_v3, val_main_call0_cst_0, val_main_call0_v4, val_main_call0_cst_1, val_main_call0_v6, val_main_call0_v7, val_main_v6_1, val_main_v6_2, val_main_v16, val_main_v15, val_main_v14, val_main_v12, val_main_v10, val_main_v9, val_main_v5, val_main_v4, val_main_v3, val_main_v2, val_main_v1, val_main_v0]
  rfl
theorem ref19 (d : FVec Ideal S4096x2048 .bf16) (w : FVec Ideal S8x704x2048 .bf16) (g : FVec Ideal S8x4096x704 .f32) :
    val_main_v19 (F := Ideal) d w g = outU d w g := by
  funext i
  obtain ⟨s, n, q, rfl⟩ : ∃ (s : Fin 8) (n : Fin 4096) (q : Fin 704), i = ix3 s n q := ⟨i 0, i 1, i 2, by idx_vars i⟩
  pointwise [val_main_call0_v0, val_main_call0_v1, val_main_call0_cst, val_main_call0_v2, val_main_call0_v3, val_main_call0_cst_0, val_main_call0_v4, val_main_call0_cst_1, val_main_call0_v6, val_main_call0_v7, val_main_v6_0, val_main_v6_2, val_main_v19, val_main_v18, val_main_v17, val_main_v11, val_main_v10, val_main_v9, val_main_v3, val_main_v2, val_main_v1, val_main_v0]
  exact mul_comm (_ : EReal) _

/-- What the precondition gives: real numbers. -/
theorem pre_reals [hP : Cert.Pre_finite4.Facts] (d : FVec Ideal S4096x2048 .bf16) (w : FVec Ideal S8x704x2048 .bf16) (g u : FVec Ideal S8x4096x704 .f32)
    (h : (Cert.Pre_finite4.fn (F := Ideal) d w g u).1 = (fun _ => 1#1) ∧ (Cert.Pre_finite4.fn (F := Ideal) d w g u).2.1 = (fun _ => 1#1)
      ∧ (Cert.Pre_finite4.fn (F := Ideal) d w g u).2.2 = (fun _ => 1#1)) : (∀ i, Re (d i)) ∧ (∀ i, Re (w i)) ∧ ∀ i, Re (u i) := by
  have key : ∀ y : EReal, Ideal.cmp .olt (max y (-y) : EReal) (Ideal.ofBits .f32 0x7F800000#32 : EReal) = 1#1 → Re y :=
    fun y hy => Cert.Odd.real_of_lt y (by rw [Cert.Odd.inf_top] at hy; exact hy)
  exact ⟨fun i => key _ (congrFun h.1 i), fun i => key _ (congrFun h.2.1 i), fun i => key _ (congrFun h.2.2 i)⟩

theorem facts_finite : Cert.Pre_finite4.Facts := by constructor <;> decide

theorem frame_reference : Cert.quiescent_Reference4Ideal (hReference4Ideal := Cert.Reference4Ideal.Gen.facts) := fun m g _ =>
  (θ_run Cert.Reference4Ideal.defs _ _).mono (fun _ h => ⟨fun c => (h c).2.2, sem_eq_zero_of_no_sems (by decide) _⟩)
    (Cert.Reference4Ideal.Value.run (F := Ideal) m g)

set_option maxHeartbeats 2000000 in
/-- The call and the reference leave the same arrays. -/
theorem same : Cert.algebraic_Kernel4Ideal_Reference4Ideal_pre_finite4 (hKernel4Ideal := Cert.Kernel4Ideal.Gen.facts) (hReference4Ideal := Cert.Reference4Ideal.Gen.facts)
    (hPre_finite4 := facts_finite) := by
  intro m g m' g' hpre hagree
  refine ⟨fun c => outG (D m c) (W m c) (G m c) (U m c), fun c => outU (D m c) (W m c) (G m c),
    (θ_run Cert.Kernel4Ideal.defs _ _).mono (fun _ h c => ⟨(h c).1.trans (final4 m c), (h c).2.1.trans (final5 m c), (h c).2.2⟩)
      (Cert.Kernel4Ideal.Value.run_blocks m g),
    (θ_run Cert.Reference4Ideal.defs _ _).mono (fun _ h c => ⟨(h c).1.trans ((val_main_v16_eq _ _ _ _).trans ?_),
      (h c).2.1.trans ((val_main_v19_eq _ _ _).trans ((ref19 _ _ _).trans ?_)), (h c).2.2⟩)
      (Cert.Reference4Ideal.Value.run m' g')⟩
  · obtain ⟨a0, a1, a2, a3⟩ := hagree c
    obtain ⟨r0, r1, r3⟩ := @pre_reals facts_finite (D m c) (W m c) (G m c) (U m c) (hpre c)
    exact (congr (congr (congrArg₂ (val_main_v16 (F := Ideal)) a0 a1) a2) a3).trans (ref16 _ _ _ _ r0 r1 r3)
  · exact congr (congrArg₂ outU (hagree c).1 (hagree c).2.1) (hagree c).2.2.1

end Cert.BHid
end
-- ==== Proof.BFfn.lean ====
/- The gradient the feed-forward layer hands to its input: what the call that accumulates it over the blocks leaves. -/
module

public import proofs.«01_k».proof.Proof.Gen.Kernel3Ideal.Value
public import proofs.«01_k».proof.Proof.Gen.Reference3Ideal.Read
public import proofs.«01_k».proof.Proof.Tiles
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel3Ideal Cert.Kernel3Ideal.Gen
namespace Cert.BFfn
open Cert.Reference3Ideal.Read
variable (m : (ℓ : Loc nD τ sig) → Buf (Elt Ideal) ℓ) (c : Dev nD)

/-- The gradients of the gate and of the up projection, a block of columns for each device. -/
abbrev DG : FVec Ideal S8x4096x704 .bf16 := m ((c : Thread nD τ).loc main_arg0)
abbrev DU : FVec Ideal S8x4096x704 .bf16 := m ((c : Thread nD τ).loc main_arg1)
/-- Their weights. -/
abbrev WG : FVec Ideal S8x2048x704 .bf16 := m ((c : Thread nD τ).loc main_arg2)
abbrev WU : FVec Ideal S8x2048x704 .bf16 := m ((c : Thread nD τ).loc main_arg3)

theorem idx : ∀ t : Fin cfg0.N, win0_0.index t = ![t.val % 8, t.val / 8, 0] ∧ win0_1.index t = ![t.val % 8, t.val / 8, 0] ∧ win0_2.index t = ![t.val % 8, 0, 0]
    ∧ win0_3.index t = ![t.val % 8, 0, 0] ∧ win0_4.index t = ![t.val / 8, 0] :=
  (by decide +kernel : ∀ t : Fin grid0.N, _)

section blocks
variable (t : Fin cfg0.N) (s : Fin 8) (hs : s.val = t.val % 8) (r : Fin 1024) (n : Fin 4096) (h : n.val = 1024 * (t.val / 8) + r.val) (q : Fin 2048) (k : Fin 704)
include hs
theorem in2 : (iblk m c 2 t : FVec Ideal S1x2048x704 .bf16) (ix3 0 q k) = WG m c (ix3 s q k) := by blk_point [iblk, idx t]
theorem in3 : (iblk m c 3 t : FVec Ideal S1x2048x704 .bf16) (ix3 0 q k) = WU m c (ix3 s q k) := by blk_point [iblk, idx t]
include h
theorem in0 : (iblk m c 0 t : FVec Ideal S1x1024x704 .bf16) (ix3 0 r k) = DG m c (ix3 s n k) := by blk_point [iblk, idx t]
theorem in1 : (iblk m c 1 t : FVec Ideal S1x1024x704 .bf16) (ix3 0 r k) = DU m c (ix3 s n k) := by blk_point [iblk, idx t]
end blocks

/-- What the blocks of one device add to the gradient. -/
def part (dg du : FVec Ideal S8x4096x704 .bf16) (wg wu : FVec Ideal S8x2048x704 .bf16) (s : Fin 8) (n : Fin 4096) (q : Fin 2048) : EReal :=
  ∑ k : Fin 704, dg (ix3 s n k) * wg (ix3 s q k) + ∑ k : Fin 704, du (ix3 s n k) * wu (ix3 s q k)
/-- The gradient. -/
def total (dg du : FVec Ideal S8x4096x704 .bf16) (wg wu : FVec Ideal S8x2048x704 .bf16) : FVec Ideal S4096x2048 .f32 :=
  fun i => ∑ s : Fin 8, part dg du wg wu s (i 0) (i 1)

/-- What one point adds. -/
def term (r : Fin 1024) (q : Fin 2048) (t : Fin cfg0.N) : EReal :=
  part (DG m c) (DU m c) (WG m c) (WU m c) ⟨t.val % 8, by omega⟩ ⟨1024 * (t.val / 8) + r.val, by have := t.isLt; have : cfg0.N = 32 := rfl; omega⟩ q

/-- The blocks a point reads. -/
abbrev b0 (t : Fin cfg0.N) : FVec Ideal S1x1024x704 .bf16 := iblk m c 0 t
abbrev b1 (t : Fin cfg0.N) : FVec Ideal S1x1024x704 .bf16 := iblk m c 1 t
abbrev b2 (t : Fin cfg0.N) : FVec Ideal S1x2048x704 .bf16 := iblk m c 2 t
abbrev b3 (t : Fin cfg0.N) : FVec Ideal S1x2048x704 .bf16 := iblk m c 3 t

theorem term_eq (r : Fin 1024) (q : Fin 2048) (t : Fin cfg0.N) :
    ∑ k : Fin 704, b0 m c t (ix3 0 r k) * b2 m c t (ix3 0 q k) + ∑ k : Fin 704, b1 m c t (ix3 0 r k) * b3 m c t (ix3 0 q k) = term m c r q t :=
  congrArg₂ (· + ·) (Finset.sum_congr rfl fun k _ => congrArg₂ (· * ·) (in0 m c t _ rfl r _ rfl k) (in2 m c t _ rfl q k))
    (Finset.sum_congr rfl fun k _ => congrArg₂ (· * ·) (in1 m c t _ rfl r _ rfl k) (in3 m c t _ rfl q k))

theorem acc_A (t : Fin cfg0.N) (h : t.val % 8 = 0) (r : Fin 1024) (q : Fin 2048) : outsAt0 m c t.val t.isLt (ix2 r q) = term m c r q t := by
  rw [outsAt0_A m c t h (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1]
  exact term_eq m c r q t

theorem acc_B (t : Fin cfg0.N) (h : ¬ t.val % 8 = 0) (r : Fin 1024) (q : Fin 2048) :
    outsAt0 m c t.val t.isLt (ix2 r q) = outsAt0 m c (t.val - 1) (Nat.lt_of_le_of_lt (Nat.sub_le _ _) t.isLt) (ix2 r q) + term m c r q t := by
  rw [outsAt0_B m c t h (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  exact congrArg _ (term_eq m c r q t)

theorem final : (dats m 0 c).arrAt 4 (cfgs 0).N = total (DG m c) (DU m c) (WG m c) (WU m c) := by
  refine (dats m 0 c).arrAt_eq_of_covers 4 _ (by decide +kernel) fun t hf y => ?_
  have ht := (flush0_4 t).mp hf
  have hN : cfg0.N = 32 := rfl
  have := t.isLt
  blk_simp
  rw [after0_4]
  obtain ⟨r, q, rfl⟩ : ∃ (r : Fin 1024) (q : Fin 2048), y = ix2 r q := ⟨y 0, y 1, by idx_vars y⟩
  have e : (win0_4.blk t).view.emb (ix2 r q) = (ix2 ⟨1024 * (t.val / 8) + r.val, by omega⟩ q : S4096x2048.Idx) := by
    blk_ext [idx t]
  rw [e]
  refine (Pipeline.eq_sum_fin_of_reset_step_of_flush (M := EReal) (fun n h => outsAt0 m c n h (ix2 r q)) 8 0 (term m c r q)
    (fun t h => (acc_A m c t h r q).trans (zero_add _).symm) (fun t h => acc_B m c t h r q) t ht).trans ((zero_add _).trans (Finset.sum_congr rfl fun s _ => ?_))
  exact congrArg₂ (fun s n => part (DG m c) (DU m c) (WG m c) (WU m c) s n q) (Fin.ext (by show (8 * (t.val / 8) + s.val) % 8 = s.val; omega))
    (Fin.ext (by show 1024 * ((8 * (t.val / 8) + s.val) / 8) + r.val = 1024 * (t.val / 8) + r.val; omega))

/-- The derivative of the two products in their shared left factor is the same sum. -/
theorem ref (dg du : FVec Ideal S8x4096x704 .bf16) (wg wu : FVec Ideal S8x2048x704 .bf16) :
    val_main_v17 (F := Ideal) dg du wg wu = total dg du wg wu := by
  funext i
  obtain ⟨n, q, rfl⟩ : ∃ (n : Fin 4096) (q : Fin 2048), i = ix2 n q := ⟨i 0, i 1, by idx_vars i⟩
  pointwise [val_main_v17, val_main_v16, val_main_v15, val_main_v14,
    val_main_v13, val_main_v12, val_main_v11, val_main_v10,
    val_main_v9, val_main_v5, val_main_v4, val_main_v3,
    val_main_v2, val_main_v1, val_main_v0]
  rw [add_comm]
  exact (congrArg₂ (· + ·) (Tiles.sum_blocks (by decide) rfl (fun s k => dg (ix3 s n k) * wg (ix3 s q k)) _ _)
    (Tiles.sum_blocks (by decide) rfl (fun s k => du (ix3 s n k) * wu (ix3 s q k)) _ _)).trans Finset.sum_add_distrib.symm

theorem frame_reference : Cert.quiescent_Reference3Ideal (hReference3Ideal := Cert.Reference3Ideal.Gen.facts) := fun m g _ =>
  (θ_run Cert.Reference3Ideal.defs _ _).mono (fun _ h => ⟨fun c => (h c).2, sem_eq_zero_of_no_sems (by decide) _⟩)
    (Cert.Reference3Ideal.Value.run (F := Ideal) m g)

set_option maxHeartbeats 2000000 in
/-- The call and the reference leave the same array. -/
theorem same : Cert.algebraic_Kernel3Ideal_Reference3Ideal (hKernel3Ideal := Cert.Kernel3Ideal.Gen.facts) (hReference3Ideal := Cert.Reference3Ideal.Gen.facts) := by
  intro m g m' g' hpre hagree
  refine ⟨fun c => total (DG m c) (DU m c) (WG m c) (WU m c),
    (θ_run Cert.Kernel3Ideal.defs _ _).mono (fun _ h c => ⟨(h c).1.trans (final m c), (h c).2⟩) (Cert.Kernel3Ideal.Value.run_blocks m g),
    (θ_run Cert.Reference3Ideal.defs _ _).mono (fun _ h c => ⟨(h c).1.trans ((val_main_v17_eq _ _ _ _).trans ((ref _ _ _ _).trans ?_)), (h c).2⟩)
      (Cert.Reference3Ideal.Value.run m' g')⟩
  obtain ⟨a0, a1, a2, a3⟩ := hagree c
  exact congr (congr (congrArg₂ total a0 a1) a2) a3

end Cert.BFfn
end
-- ==== Proof.WFfn.lean ====
/- The feed-forward layer's weight gradients: what the blocked product holds. -/
module

public import proofs.«01_k».proof.Proof.Gen.Kernel2Ideal.Value
public import proofs.«01_k».proof.Proof.Gen.Reference2Ideal.Read
public import proofs.«01_k».proof.Defs
public import Idealize.ShloMosaic.Lib.Quiescent
public import Idealize.ShloMosaic.Lib.Claim
public import Idealize.ShloMosaic.Lib.Pipeline.ValueKit
public import Idealize.ShloMosaic.Lib.Pipeline.ReadBack
public import Idealize.ShloMosaic.Lib.Pointwise

@[expose] public section
set_option maxRecDepth 16384
noncomputable section
open Idealize.ShloMosaic Idealize.ShloMosaic.TcCoe Idealize.SL.Sem
open Idealize.ShloMosaic.Pipeline (Dat)
open Cert.Kernel2Ideal Cert.Kernel2Ideal.Gen
namespace Cert.WFfn
open Cert.Reference2Ideal.Read
variable (m : (ℓ : Loc nD τ sig) → Buf (Elt Ideal) ℓ) (c : Dev nD)

/-- The left factor, a block of columns for each device. -/
abbrev A : FVec Ideal S8x4096x704 .bf16 := m ((c : Thread nD τ).loc main_arg0)
/-- The right factor. -/
abbrev C : FVec Ideal S4096x2048 .bf16 := m ((c : Thread nD τ).loc main_arg1)

theorem idx : ∀ t : Fin cfg0.N, win0_0.index t = ![t.val / 2, t.val % 2, 0] ∧ win0_1.index t = ![t.val % 2, 0] ∧ win0_2.index t = ![t.val / 2, 0, 0] :=
  (by decide +kernel : ∀ t : Fin grid0.N, _)

theorem in0 (t : Fin cfg0.N) (s : Fin 8) (k : Fin 2048) (n : Fin 4096) (r : Fin 704) (hs : s.val = t.val / 2) (h : n.val = 2048 * (t.val % 2) + k.val) :
    (iblk m c 0 t : FVec Ideal S1x2048x704 .bf16) (ix3 0 k r) = A m c (ix3 s n r) := by
  blk_point [iblk, idx t]
theorem in1 (t : Fin cfg0.N) (k : Fin 2048) (n : Fin 4096) (q : Fin 2048) (h : n.val = 2048 * (t.val % 2) + k.val) :
    (iblk m c 1 t : FVec Ideal S2048x2048 .bf16) (ix2 k q) = C m c (ix2 n q) := by
  blk_point [iblk, idx t]

/-- One tile's part of the product. -/
def part (s : Fin 8) (b : Fin 2) (r : Fin 704) (q : Fin 2048) : EReal :=
  ∑ k : Fin 2048, A m c (ix3 s ⟨b.val * 2048 + k.val, by omega⟩ r) * C m c (ix2 ⟨b.val * 2048 + k.val, by omega⟩ q)

theorem acc_A (t : Fin cfg0.N) (h : t.val % 2 = 0) (s : Fin 8) (hs : s.val = t.val / 2) (b : Fin 2) (hb : b.val = t.val % 2) (r : Fin 704) (q : Fin 2048) :
    (outsAt0 m c t.val t.isLt).2 (ix2 r q) = part m c s b r q := by
  rw [outsAt0_A m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay2]
  exact Finset.sum_congr rfl fun k _ => congrArg₂ (· * ·) (in0 m c t s k _ r hs (by simp only [hb]; omega)) (in1 m c t k _ q (by simp only [hb]; omega))

theorem acc_B (t : Fin cfg0.N) (h : ¬ t.val % 2 = 0) (s : Fin 8) (hs : s.val = t.val / 2) (b : Fin 2) (hb : b.val = t.val % 2) (r : Fin 704) (q : Fin 2048) :
    (outsAt0 m c t.val t.isLt).2 (ix2 r q) = (outsAt0 m c (t.val - 1) (by omega)).2 (ix2 r q) + part m c s b r q := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3]
  exact congrArg₂ (· + ·) (congrFun (Memref.IsWhole.read_unread (Memref.isWhole_whole cc0_scratch0) _) _)
    (Finset.sum_congr rfl fun k _ => congrArg₂ (· * ·) (in0 m c t s k _ r hs (by simp only [hb]; omega)) (in1 m c t k _ q (by simp only [hb]; omega)))

theorem out_B (t : Fin cfg0.N) (h : ¬ t.val % 2 = 0) (r : Fin 704) (q : Fin 2048) :
    (outsAt0 m c t.val t.isLt).1 (ix3 0 r q) = (outsAt0 m c t.val t.isLt).2 (ix2 r q) := by
  rw [outsAt0_B m c t h (by omega) (by omega)]
  frame_open
  simp (disch := decide) only [↓View.readCov_skip, ↓View.readCov_fill, View.read_writes_junk_eq_canon, View.canon_cons_unit_lit', View.ld_unit_lit',
    View.readCov_unit_lit', View.readCov_cons_unit_lit', View.readAt_eq_ld, Memref.IsWhole.read_unread]
  pointwise [k0_pay1, k0_pay3, k0_pay4]

/-- The product of the left factor, transposed, with the right one. -/
def prod (a : FVec Ideal S8x4096x704 .bf16) (b : FVec Ideal S4096x2048 .bf16) : FVec Ideal S8x704x2048 .bf16 :=
  fun i => ∑ n : Fin 4096, a (ix3 (i 0) n (i 1)) * b (ix2 n (i 2))

theorem final : (dats m 0 c).arrAt 2 (cfgs 0).N = prod (A m c) (C m c) := by
  refine (dats m 0 c).arrAt_eq_of_covers 2 _ (by decide +kernel) fun t hf y => ?_
  have ht := (flush0_2 t).mp hf
  blk_simp
  rw [after0_2]
  obtain ⟨z, r, q, rfl⟩ : ∃ (z : Fin 1) (r : Fin 704) (q : Fin 2048), y = ix3 z r q := ⟨y 0, y 1, y 2, by idx_vars y⟩
  obtain rfl : z = 0 := Subsingleton.elim _ _
  have e : (win0_2.blk t).view.emb (ix3 0 r q) = (ix3 ⟨t.val / 2, by have := t.isLt; have : cfg0.N = 16 := rfl; omega⟩ r q : S8x704x2048.Idx) := by
    blk_ext [idx t]
  rw [e, out_B m c t (by omega), acc_B m c t (by omega) ⟨t.val / 2, by have := t.isLt; have : cfg0.N = 16 := rfl; omega⟩ rfl 1 ht.symm,
    acc_A m c ⟨t.val - 1, by omega⟩ (show (t.val - 1) % 2 = 0 by omega) ⟨t.val / 2, by have := t.isLt; have : cfg0.N = 16 := rfl; omega⟩
      (show t.val / 2 = (t.val - 1) / 2 by omega) 0 (show 0 = (t.val - 1) % 2 by omega)]
  show part m c _ 0 r q + part m c _ 1 r q = ∑ n : Fin 4096, _
  rw [Fin.sum_univ_tiles 2 2048 rfl, Fin.sum_univ_two]
  rfl

/-- The derivative of a product in its right factor is the same sum. -/
theorem ref (a : FVec Ideal S8x4096x704 .bf16) (b : FVec Ideal S4096x2048 .bf16) :
    val_main_v9 (F := Ideal) a b = prod a b := by
  funext i
  obtain ⟨s, r, q, rfl⟩ : ∃ (s : Fin 8) (r : Fin 704) (q : Fin 2048), i = ix3 s r q := ⟨i 0, i 1, i 2, by idx_vars i⟩
  pointwise [val_main_v9, val_main_v8, val_main_v7, val_main_v6,
    val_main_v3, val_main_v2, val_main_v1, val_main_v0]
  exact Finset.sum_congr rfl fun k _ => mul_comm _ _

theorem frame_reference : Cert.quiescent_Reference2Ideal (hReference2Ideal := Cert.Reference2Ideal.Gen.facts) := fun m g _ =>
  (θ_run Cert.Reference2Ideal.defs _ _).mono (fun _ h => ⟨fun c => (h c).2, sem_eq_zero_of_no_sems (by decide) _⟩)
    (Cert.Reference2Ideal.Value.run (F := Ideal) m g)

set_option maxHeartbeats 2000000 in
/-- The call and the reference leave the same array. -/
theorem same : Cert.algebraic_Kernel2Ideal_Reference2Ideal (hKernel2Ideal := Cert.Kernel2Ideal.Gen.facts) (hReference2Ideal := Cert.Reference2Ideal.Gen.facts) := by
  intro m g m' g' hpre hagree
  refine ⟨fun c => prod (A m c) (C m c), (θ_run Cert.Kernel2Ideal.defs _ _).mono (fun _ h c => ⟨(h c).1.trans (final m c), (h c).2⟩) (Cert.Kernel2Ideal.Value.run_blocks m g),
    (θ_run Cert.Reference2Ideal.defs _ _).mono (fun _ h c => ⟨(h c).1.trans ((val_main_v9_eq _ _).trans ((ref _ _).trans ?_)), (h c).2⟩)
      (Cert.Reference2Ideal.Value.run m' g')⟩
  exact congrArg₂ prod (hagree c).1 (hagree c).2

end Cert.WFfn
end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Close
public import proofs.«01_k».proof.Proof.Reals
public import proofs.«01_k».proof.Proof.FNorm
public import proofs.«01_k».proof.Proof.Loss
public import proofs.«01_k».proof.Proof.AdFf3
public import proofs.«01_k».proof.Proof.AdFf2
public import proofs.«01_k».proof.Proof.AdFf1
public import proofs.«01_k».proof.Proof.AdFf0
public import proofs.«01_k».proof.Proof.AdOut1
public import proofs.«01_k».proof.Proof.AdOut0
public import proofs.«01_k».proof.Proof.AdOd1
public import proofs.«01_k».proof.Proof.AdOd0
public import proofs.«01_k».proof.Proof.AdIn1
public import proofs.«01_k».proof.Proof.AdIn0
public import proofs.«01_k».proof.Proof.AdSh
public import proofs.«01_k».proof.Proof.AdSm
public import proofs.«01_k».proof.Proof.Gen.Kernel21.Frame
public import proofs.«01_k».proof.Proof.Gen.Kernel21Ideal.Value
public import proofs.«01_k».proof.Proof.Gen.Reference21Ideal.Read
public import proofs.«01_k».proof.Proof.Gen.Kernel22.Frame
public import proofs.«01_k».proof.Proof.Gen.Kernel22Ideal.Value
public import proofs.«01_k».proof.Proof.Gen.Reference22Ideal.Read
public import proofs.«01_k».proof.Proof.Gen.Kernel23.Frame
public import proofs.«01_k».proof.Proof.Gen.Kernel23Ideal.Value
public import proofs.«01_k».proof.Proof.Gen.Reference23Ideal.Read
public import proofs.«01_k».proof.Proof.Gen.Kernel24.Frame
public import proofs.«01_k».proof.Proof.Gen.Kernel24Ideal.Value
public import proofs.«01_k».proof.Proof.Gen.Reference24Ideal.Read
public import proofs.«01_k».proof.Proof.Gen.Kernel25.Frame
public import proofs.«01_k».proof.Proof.Gen.Kernel25Ideal.Value
public import proofs.«01_k».proof.Proof.Gen.Reference25Ideal.Read
public import proofs.«01_k».proof.Proof.Gen.Kernel26.Frame
public import proofs.«01_k».proof.Proof.Gen.Kernel26Ideal.Value
public import proofs.«01_k».proof.Proof.Gen.Reference26Ideal.Read
public import proofs.«01_k».proof.Proof.Gen.Kernel27.Frame
public import proofs.«01_k».proof.Proof.Gen.Kernel27Ideal.Value
public import proofs.«01_k».proof.Proof.Gen.Reference27Ideal.Read
public import proofs.«01_k».proof.Proof.Gen.Kernel28.Frame
public import proofs.«01_k».proof.Proof.Gen.Kernel28Ideal.Value
public import proofs.«01_k».proof.Proof.Gen.Reference28Ideal.Read
public import proofs.«01_k».proof.Proof.Gen.Kernel29.Frame
public import proofs.«01_k».proof.Proof.Gen.Kernel29Ideal.Value
public import proofs.«01_k».proof.Proof.Gen.Reference29Ideal.Read
public import proofs.«01_k».proof.Proof.Gen.Kernel30.Frame
public import proofs.«01_k».proof.Proof.Gen.Kernel30Ideal.Value
public import proofs.«01_k».proof.Proof.Gen.Reference30Ideal.Read
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import proofs.«01_k».proof.Proof.Gen.Kernel18.Frame
public import proofs.«01_k».proof.Proof.Gen.Kernel18Ideal.Value
public import proofs.«01_k».proof.Proof.Gen.Reference18Ideal.Read
public import proofs.«01_k».proof.Proof.Gen.Kernel19.Frame
public import proofs.«01_k».proof.Proof.Gen.Kernel19Ideal.Value
public import proofs.«01_k».proof.Proof.Gen.Reference19Ideal.Read
public import proofs.«01_k».proof.Proof.Gen.Kernel20.Frame
public import proofs.«01_k».proof.Proof.Gen.Kernel20Ideal.Value
public import proofs.«01_k».proof.Proof.Gen.Reference20Ideal.Read
public import proofs.«01_k».proof.Proof.OEnd
public import proofs.«01_k».proof.Proof.FLast
public import proofs.«01_k».proof.Proof.BNorm
public import proofs.«01_k».proof.Proof.POut
public import proofs.«01_k».proof.Proof.PInO
public import proofs.«01_k».proof.Proof.PInE
public import proofs.«01_k».proof.Proof.FOut
public import proofs.«01_k».proof.Proof.FIn
public import proofs.«01_k».proof.Proof.BOut
public import proofs.«01_k».proof.Proof.BMixO
public import proofs.«01_k».proof.Proof.BMixE
public import proofs.«01_k».proof.Proof.WOut
public import proofs.«01_k».proof.Proof.WInO
public import proofs.«01_k».proof.Proof.WInE
public import proofs.«01_k».proof.Proof.BHid
public import proofs.«01_k».proof.Proof.BFfn
public import proofs.«01_k».proof.Proof.WFfn
public import Idealize.ShloMosaic.Lib.Quiescent
public import Idealize.ShloMosaic.Lib.Claim
public import Idealize.ShloMosaic.Lib.Pipeline.ValueKit
public import Idealize.ShloMosaic.Lib.Pointwise

@[expose] public section

set_option maxRecDepth 16384

noncomputable section

namespace Cert.Proof

open Idealize.ShloMosaic Idealize.SL.Sem

theorem facts_finite : Cert.Pre_finite.Facts := by
  constructor <;> decide

open Cert.ReferenceIdeal.Read

theorem frame_reference : Cert.quiescent_ReferenceIdeal (hReferenceIdeal := Cert.ReferenceIdeal.Gen.facts) := fun m g _ =>
  (θ_run Cert.ReferenceIdeal.defs _ _).mono (fun _ h => ⟨fun c => (h c).2.2.2.2.2.2.2, sem_eq_zero_of_no_sems (by decide) _⟩)
    (Cert.ReferenceIdeal.Value.run (F := Ideal) m g)

set_option maxHeartbeats 2000000 in
/-- The call and the reference leave the same seven arrays. -/
theorem same : Cert.algebraic_KernelIdeal_ReferenceIdeal_pre_finite (hKernelIdeal := Cert.KernelIdeal.Gen.facts)
    (hReferenceIdeal := Cert.ReferenceIdeal.Gen.facts) (hPre_finite := facts_finite) := by
  intro m g m' g' hpre hagree
  have hR (c : Dev Cert.KernelIdeal.nD) := Cert.Odd.pre_reals (hP := facts_finite) _ _ _ _ _ _ _ (hpre c)
  have hv0 (c : Dev Cert.KernelIdeal.nD) : val_main_v338 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v338 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
    obtain ⟨a0, a1, a2, a3, a4, a5, a6⟩ := hagree c
    rw [a0, a1, a2, a3, a4, a5, a6]
  have hv1 (c : Dev Cert.KernelIdeal.nD) : val_main_v340 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v340 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
    obtain ⟨a0, a1, a2, a3, a4, a5, a6⟩ := hagree c
    rw [a0, a1, a2, a3, a4, a5, a6]
  have hv2 (c : Dev Cert.KernelIdeal.nD) : val_main_v324 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) = val_main_v324 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) := by
    obtain ⟨a0, a1, a2, a3, a4, a5, a6⟩ := hagree c
    rw [a0, a1]
  have hv3 (c : Dev Cert.KernelIdeal.nD) : val_main_v299 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v299 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
    obtain ⟨a0, a1, a2, a3, a4, a5, a6⟩ := hagree c
    rw [a0, a1, a3, a4, a5, a6]
  have hv4 (c : Dev Cert.KernelIdeal.nD) : val_main_v341 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v341 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
    obtain ⟨a0, a1, a2, a3, a4, a5, a6⟩ := hagree c
    rw [a0, a1, a3, a4, a5, a6]
  have hv5 (c : Dev Cert.KernelIdeal.nD) : val_main_v342 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v342 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
    obtain ⟨a0, a1, a2, a3, a4, a5, a6⟩ := hagree c
    rw [a0, a1, a3, a4, a5, a6]
  have hv6 (c : Dev Cert.KernelIdeal.nD) : val_main_v343 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) = val_main_v343 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) := by
    obtain ⟨a0, a1, a2, a3, a4, a5, a6⟩ := hagree c
    rw [a0, a1, a3, a4, a5, a6]
  exact ⟨fun c => Cert.Odd.R11 m c, fun c => Cert.Odd.R12 m c, fun c => Cert.Odd.R13 m c, fun c => Cert.Odd.R14 m c, fun c => Cert.Odd.R15 m c,
    fun c => Cert.Odd.R16 m c, fun c => Cert.Odd.R17 m c,
    (θ_run Cert.KernelIdeal.defs _ _).mono (fun _ h c => ⟨(h c).1.trans (Cert.Odd.final11 m c), (h c).2.1.trans (Cert.Odd.final12 m c), (h c).2.2.1.trans (Cert.Odd.final13 m c), (h c).2.2.2.1.trans (Cert.Odd.final14 m c), (h c).2.2.2.2.1.trans (Cert.Odd.final15 m c), (h c).2.2.2.2.2.1.trans (Cert.Odd.final16 m c), (h c).2.2.2.2.2.2.1.trans (Cert.Odd.final17 m c), (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Cert.KernelIdeal.Value.run_blocks (F := Ideal) m g),
    (θ_run Cert.ReferenceIdeal.defs _ _).mono (fun _ h c => ⟨(h c).1.trans ((val_main_v338_eq (StableHlo.launchContents m' c)).trans ((hv0 c).trans (Cert.Odd.out11 m c (hR c)))), (h c).2.1.trans ((val_main_v340_eq (StableHlo.launchContents m' c)).trans ((hv1 c).trans (Cert.Odd.out12 m c (hR c)))), (h c).2.2.1.trans ((val_main_v324_eq (StableHlo.launchContents m' c)).trans ((hv2 c).trans (Cert.Odd.out13 m c))), (h c).2.2.2.1.trans ((val_main_v299_eq (StableHlo.launchContents m' c)).trans ((hv3 c).trans (Cert.Odd.out14 m c (hR c)))), (h c).2.2.2.2.1.trans ((val_main_v341_eq (StableHlo.launchContents m' c)).trans ((hv4 c).trans (Cert.Odd.out15 m c (hR c)))), (h c).2.2.2.2.2.1.trans ((val_main_v342_eq (StableHlo.launchContents m' c)).trans ((hv5 c).trans (Cert.Odd.out16 m c (hR c)))), (h c).2.2.2.2.2.2.1.trans ((val_main_v343_eq (StableHlo.launchContents m' c)).trans ((hv6 c).trans (Cert.Odd.out17 m c (hR c)))), (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Cert.ReferenceIdeal.Value.run (F := Ideal) m' g')⟩

theorem claim : Cert.Claim := ⟨
  Kernel.Gen.facts, KernelIdeal.Gen.facts, ReferenceIdeal.Gen.facts,
  Kernel2.Gen.facts, Kernel2Ideal.Gen.facts, Reference2Ideal.Gen.facts,
  Kernel3.Gen.facts, Kernel3Ideal.Gen.facts, Reference3Ideal.Gen.facts,
  Kernel4.Gen.facts, Kernel4Ideal.Gen.facts, Reference4Ideal.Gen.facts,
  Kernel5.Gen.facts, Kernel5Ideal.Gen.facts, Reference5Ideal.Gen.facts,
  Kernel6.Gen.facts, Kernel6Ideal.Gen.facts, Reference6Ideal.Gen.facts,
  Kernel7.Gen.facts, Kernel7Ideal.Gen.facts, Reference7Ideal.Gen.facts,
  Kernel8.Gen.facts, Kernel8Ideal.Gen.facts, Reference8Ideal.Gen.facts,
  Kernel9.Gen.facts, Kernel9Ideal.Gen.facts, Reference9Ideal.Gen.facts,
  Kernel10.Gen.facts, Kernel10Ideal.Gen.facts, Reference10Ideal.Gen.facts,
  Kernel11.Gen.facts, Kernel11Ideal.Gen.facts, Reference11Ideal.Gen.facts,
  Kernel12.Gen.facts, Kernel12Ideal.Gen.facts, Reference12Ideal.Gen.facts,
  Kernel13.Gen.facts, Kernel13Ideal.Gen.facts, Reference13Ideal.Gen.facts,
  Kernel14.Gen.facts, Kernel14Ideal.Gen.facts, Reference14Ideal.Gen.facts,
  Kernel15.Gen.facts, Kernel15Ideal.Gen.facts, Reference15Ideal.Gen.facts,
  Kernel16.Gen.facts, Kernel16Ideal.Gen.facts, Reference16Ideal.Gen.facts,
  Kernel17.Gen.facts, Kernel17Ideal.Gen.facts, Reference17Ideal.Gen.facts,
  Kernel18.Gen.facts, Kernel18Ideal.Gen.facts, Reference18Ideal.Gen.facts,
  Kernel19.Gen.facts, Kernel19Ideal.Gen.facts, Reference19Ideal.Gen.facts,
  Kernel20.Gen.facts, Kernel20Ideal.Gen.facts, Reference20Ideal.Gen.facts,
  Kernel21.Gen.facts, Kernel21Ideal.Gen.facts, Reference21Ideal.Gen.facts,
  Kernel22.Gen.facts, Kernel22Ideal.Gen.facts, Reference22Ideal.Gen.facts,
  Kernel23.Gen.facts, Kernel23Ideal.Gen.facts, Reference23Ideal.Gen.facts,
  Kernel24.Gen.facts, Kernel24Ideal.Gen.facts, Reference24Ideal.Gen.facts,
  Kernel25.Gen.facts, Kernel25Ideal.Gen.facts, Reference25Ideal.Gen.facts,
  Kernel26.Gen.facts, Kernel26Ideal.Gen.facts, Reference26Ideal.Gen.facts,
  Kernel27.Gen.facts, Kernel27Ideal.Gen.facts, Reference27Ideal.Gen.facts,
  Kernel28.Gen.facts, Kernel28Ideal.Gen.facts, Reference28Ideal.Gen.facts,
  Kernel29.Gen.facts, Kernel29Ideal.Gen.facts, Reference29Ideal.Gen.facts,
  Kernel30.Gen.facts, Kernel30Ideal.Gen.facts, Reference30Ideal.Gen.facts,
  Kernel31.Gen.facts, Kernel31Ideal.Gen.facts, Reference31Ideal.Gen.facts,
  Kernel32.Gen.facts, Kernel32Ideal.Gen.facts, Reference32Ideal.Gen.facts,
  facts_finite, BHid.facts_finite, BNorm.facts_finite, Loss.facts_finite,
  fun m ρ _ => Kernel.Gen.frame m ρ, fun m ρ _ => KernelIdeal.Gen.frame m ρ, fun m ρ _ => KernelIdeal.Gen.frame m ρ,
  frame_reference, fun m ρ _ => frame_reference m ρ trivial,
  fun m ρ _ => Kernel2.Gen.frame m ρ, fun m ρ _ => Kernel2Ideal.Gen.frame m ρ, WFfn.frame_reference,
  fun m ρ _ => Kernel3.Gen.frame m ρ, fun m ρ _ => Kernel3Ideal.Gen.frame m ρ, BFfn.frame_reference,
  fun m ρ _ => Kernel4.Gen.frame m ρ, fun m ρ _ => Kernel4Ideal.Gen.frame m ρ, fun m ρ _ => Kernel4Ideal.Gen.frame m ρ, BHid.frame_reference, fun m ρ _ => BHid.frame_reference m ρ trivial,
  fun m ρ _ => Kernel5.Gen.frame m ρ, fun m ρ _ => Kernel5Ideal.Gen.frame m ρ, WInE.frame_reference,
  fun m ρ _ => Kernel6.Gen.frame m ρ, fun m ρ _ => Kernel6Ideal.Gen.frame m ρ, WInO.frame_reference,
  fun m ρ _ => Kernel7.Gen.frame m ρ, fun m ρ _ => Kernel7Ideal.Gen.frame m ρ, WOut.frame_reference,
  fun m ρ _ => Kernel8.Gen.frame m ρ, fun m ρ _ => Kernel8Ideal.Gen.frame m ρ, BMixE.frame_reference,
  fun m ρ _ => Kernel9.Gen.frame m ρ, fun m ρ _ => Kernel9Ideal.Gen.frame m ρ, BMixO.frame_reference,
  fun m ρ _ => Kernel10.Gen.frame m ρ, fun m ρ _ => Kernel10Ideal.Gen.frame m ρ, BOut.frame_reference,
  fun m ρ _ => Kernel11.Gen.frame m ρ, fun m ρ _ => Kernel11Ideal.Gen.frame m ρ, FIn.frame_reference,
  fun m ρ _ => Kernel12.Gen.frame m ρ, fun m ρ _ => Kernel12Ideal.Gen.frame m ρ, FOut.frame_reference,
  fun m ρ _ => Kernel13.Gen.frame m ρ, fun m ρ _ => Kernel13Ideal.Gen.frame m ρ, PInE.frame_reference,
  fun m ρ _ => Kernel14.Gen.frame m ρ, fun m ρ _ => Kernel14Ideal.Gen.frame m ρ, PInO.frame_reference,
  fun m ρ _ => Kernel15.Gen.frame m ρ, fun m ρ _ => Kernel15Ideal.Gen.frame m ρ, POut.frame_reference,
  fun m ρ _ => Kernel16.Gen.frame m ρ, fun m ρ _ => Kernel16Ideal.Gen.frame m ρ, fun m ρ _ => Kernel16Ideal.Gen.frame m ρ, BNorm.frame_reference, fun m ρ _ => BNorm.frame_reference m ρ trivial,
  fun m ρ _ => Kernel17.Gen.frame m ρ, fun m ρ _ => Kernel17Ideal.Gen.frame m ρ, FLast.frame_reference,
  fun m ρ _ => Kernel18.Gen.frame m ρ, fun m ρ _ => Kernel18Ideal.Gen.frame m ρ, AdSm.frame_reference,
  fun m ρ _ => Kernel19.Gen.frame m ρ, fun m ρ _ => Kernel19Ideal.Gen.frame m ρ, AdSh.frame_reference,
  fun m ρ _ => Kernel20.Gen.frame m ρ, fun m ρ _ => Kernel20Ideal.Gen.frame m ρ, AdIn0.frame_reference,
  fun m ρ _ => Kernel21.Gen.frame m ρ, fun m ρ _ => Kernel21Ideal.Gen.frame m ρ, AdIn1.frame_reference,
  fun m ρ _ => Kernel22.Gen.frame m ρ, fun m ρ _ => Kernel22Ideal.Gen.frame m ρ, AdOd0.frame_reference,
  fun m ρ _ => Kernel23.Gen.frame m ρ, fun m ρ _ => Kernel23Ideal.Gen.frame m ρ, AdOd1.frame_reference,
  fun m ρ _ => Kernel24.Gen.frame m ρ, fun m ρ _ => Kernel24Ideal.Gen.frame m ρ, AdOut0.frame_reference,
  fun m ρ _ => Kernel25.Gen.frame m ρ, fun m ρ _ => Kernel25Ideal.Gen.frame m ρ, AdOut1.frame_reference,
  fun m ρ _ => Kernel26.Gen.frame m ρ, fun m ρ _ => Kernel26Ideal.Gen.frame m ρ, AdFf0.frame_reference,
  fun m ρ _ => Kernel27.Gen.frame m ρ, fun m ρ _ => Kernel27Ideal.Gen.frame m ρ, AdFf1.frame_reference,
  fun m ρ _ => Kernel28.Gen.frame m ρ, fun m ρ _ => Kernel28Ideal.Gen.frame m ρ, AdFf2.frame_reference,
  fun m ρ _ => Kernel29.Gen.frame m ρ, fun m ρ _ => Kernel29Ideal.Gen.frame m ρ, AdFf3.frame_reference,
  fun m ρ _ => Kernel30.Gen.frame m ρ, fun m ρ _ => Kernel30Ideal.Gen.frame m ρ, fun m ρ _ => Kernel30Ideal.Gen.frame m ρ, Loss.frame_reference, fun m ρ _ => Loss.frame_reference m ρ trivial,
  fun m ρ _ => Kernel31.Gen.frame m ρ, fun m ρ _ => Kernel31Ideal.Gen.frame m ρ, FNorm.frame_reference,
  fun m ρ _ => Kernel32.Gen.frame m ρ, fun m ρ _ => Kernel32Ideal.Gen.frame m ρ, OFwd.frame_reference,
  trivial, same, trivial, WFfn.same, trivial, BFfn.same, trivial, BHid.same, trivial, WInE.same, trivial, WInO.same, trivial, WOut.same, trivial, BMixE.same, trivial, BMixO.same, trivial, BOut.same, trivial, FIn.same, trivial, FOut.same, trivial, PInE.same, trivial, PInO.same, trivial, POut.same, trivial, BNorm.same, trivial, FLast.same, AdSm.preserves, AdSm.same, AdSh.preserves, AdSh.same, AdIn0.preserves, AdIn0.same, AdIn1.preserves, AdIn1.same, AdOd0.preserves, AdOd0.same, AdOd1.preserves, AdOd1.same, AdOut0.preserves, AdOut0.same, AdOut1.preserves, AdOut1.same, AdFf0.preserves, AdFf0.same, AdFf1.preserves, AdFf1.same, AdFf2.preserves, AdFf2.same, AdFf3.preserves, AdFf3.same, trivial, Loss.same, trivial, FNorm.same, trivial, OFwd.same⟩

end Cert.Proof

end
